-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8))).1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8))).2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8))).2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8))).2.2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8))).2.2.2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8))).2.2.2.2.2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8))).1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8))).2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8))).2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8))).2.2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8))).2.2.2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8))).2.2.2.2.2 = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)) (v2 : (c : Dev Cert.KernelIdeal.nD) → Buf (Elt Ideal) ((c.tc : Thread Cert.KernelIdeal.nD Cert.KernelIdeal.τ).loc Cert.KernelIdeal.main_v18_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_v18_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_v102) = v1 c
          ∧ r.2.mem ((c.tc : Thread Cert.ReferenceIdeal.nD Cert.ReferenceIdeal.τ).loc Cert.ReferenceIdeal.main_v82) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v64) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v24_0)) (v1 : (c : Dev Cert.Kernel3Ideal.nD) → Buf (Elt Ideal) ((c.tc : Thread Cert.Kernel3Ideal.nD Cert.Kernel3Ideal.τ).loc Cert.Kernel3Ideal.main_v24_1)) (v2 : (c : Dev Cert.Kernel3Ideal.nD) → Buf (Elt Ideal) ((c.tc : Thread Cert.Kernel3Ideal.nD Cert.Kernel3Ideal.τ).loc Cert.Kernel3Ideal.main_v24_2)) (v3 : (c : Dev Cert.Kernel3Ideal.nD) → Buf (Elt Ideal) ((c.tc : Thread Cert.Kernel3Ideal.nD Cert.Kernel3Ideal.τ).loc Cert.Kernel3Ideal.main_v24_3)) (v4 : (c : Dev Cert.Kernel3Ideal.nD) → Buf (Elt Ideal) ((c.tc : Thread Cert.Kernel3Ideal.nD Cert.Kernel3Ideal.τ).loc Cert.Kernel3Ideal.main_v24_4)) (v5 : (c : Dev Cert.Kernel3Ideal.nD) → Buf (Elt Ideal) ((c.tc : Thread Cert.Kernel3Ideal.nD Cert.Kernel3Ideal.τ).loc Cert.Kernel3Ideal.main_v24_5)) (v6 : (c : Dev Cert.Kernel3Ideal.nD) → Buf (Elt Ideal) ((c.tc : Thread Cert.Kernel3Ideal.nD Cert.Kernel3Ideal.τ).loc Cert.Kernel3Ideal.main_v24_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v24_0) = v0 c
          ∧ r.2.mem ((c.tc : Thread Cert.Kernel3Ideal.nD Cert.Kernel3Ideal.τ).loc Cert.Kernel3Ideal.main_v24_1) = v1 c
          ∧ r.2.mem ((c.tc : Thread Cert.Kernel3Ideal.nD Cert.Kernel3Ideal.τ).loc Cert.Kernel3Ideal.main_v24_2) = v2 c
          ∧ r.2.mem ((c.tc : Thread Cert.Kernel3Ideal.nD Cert.Kernel3Ideal.τ).loc Cert.Kernel3Ideal.main_v24_3) = v3 c
          ∧ r.2.mem ((c.tc : Thread Cert.Kernel3Ideal.nD Cert.Kernel3Ideal.τ).loc Cert.Kernel3Ideal.main_v24_4) = v4 c
          ∧ r.2.mem ((c.tc : Thread Cert.Kernel3Ideal.nD Cert.Kernel3Ideal.τ).loc Cert.Kernel3Ideal.main_v24_5) = v5 c
          ∧ r.2.mem ((c.tc : Thread Cert.Kernel3Ideal.nD Cert.Kernel3Ideal.τ).loc Cert.Kernel3Ideal.main_v24_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v37) = v0 c
          ∧ r.2.mem ((c.tc : Thread Cert.Reference3Ideal.nD Cert.Reference3Ideal.τ).loc Cert.Reference3Ideal.main_v38) = v1 c
          ∧ r.2.mem ((c.tc : Thread Cert.Reference3Ideal.nD Cert.Reference3Ideal.τ).loc Cert.Reference3Ideal.main_v39) = v2 c
          ∧ r.2.mem ((c.tc : Thread Cert.Reference3Ideal.nD Cert.Reference3Ideal.τ).loc Cert.Reference3Ideal.main_v40) = v3 c
          ∧ r.2.mem ((c.tc : Thread Cert.Reference3Ideal.nD Cert.Reference3Ideal.τ).loc Cert.Reference3Ideal.main_v41) = v4 c
          ∧ r.2.mem ((c.tc : Thread Cert.Reference3Ideal.nD Cert.Reference3Ideal.τ).loc Cert.Reference3Ideal.main_v42) = v5 c
          ∧ r.2.mem ((c.tc : Thread Cert.Reference3Ideal.nD Cert.Reference3Ideal.τ).loc Cert.Reference3Ideal.main_v43) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v24)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v24) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v29) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v24_0)) (v1 : (c : Dev Cert.Kernel5Ideal.nD) → Buf (Elt Ideal) ((c.tc : Thread Cert.Kernel5Ideal.nD Cert.Kernel5Ideal.τ).loc Cert.Kernel5Ideal.main_v24_1)) (v2 : (c : Dev Cert.Kernel5Ideal.nD) → Buf (Elt Ideal) ((c.tc : Thread Cert.Kernel5Ideal.nD Cert.Kernel5Ideal.τ).loc Cert.Kernel5Ideal.main_v24_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v24_0) = v0 c
          ∧ r.2.mem ((c.tc : Thread Cert.Kernel5Ideal.nD Cert.Kernel5Ideal.τ).loc Cert.Kernel5Ideal.main_v24_1) = v1 c
          ∧ r.2.mem ((c.tc : Thread Cert.Kernel5Ideal.nD Cert.Kernel5Ideal.τ).loc Cert.Kernel5Ideal.main_v24_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v30) = v0 c
          ∧ r.2.mem ((c.tc : Thread Cert.Reference5Ideal.nD Cert.Reference5Ideal.τ).loc Cert.Reference5Ideal.main_v33) = v1 c
          ∧ r.2.mem ((c.tc : Thread Cert.Reference5Ideal.nD Cert.Reference5Ideal.τ).loc Cert.Reference5Ideal.main_v35) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v12)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v12) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v62) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v27_0)) (v1 : (c : Dev Cert.Kernel7Ideal.nD) → Buf (Elt Ideal) ((c.tc : Thread Cert.Kernel7Ideal.nD Cert.Kernel7Ideal.τ).loc Cert.Kernel7Ideal.main_v27_1)) (v2 : (c : Dev Cert.Kernel7Ideal.nD) → Buf (Elt Ideal) ((c.tc : Thread Cert.Kernel7Ideal.nD Cert.Kernel7Ideal.τ).loc Cert.Kernel7Ideal.main_v27_2)) (v3 : (c : Dev Cert.Kernel7Ideal.nD) → Buf (Elt Ideal) ((c.tc : Thread Cert.Kernel7Ideal.nD Cert.Kernel7Ideal.τ).loc Cert.Kernel7Ideal.main_v27_3)) (v4 : (c : Dev Cert.Kernel7Ideal.nD) → Buf (Elt Ideal) ((c.tc : Thread Cert.Kernel7Ideal.nD Cert.Kernel7Ideal.τ).loc Cert.Kernel7Ideal.main_v27_4)) (v5 : (c : Dev Cert.Kernel7Ideal.nD) → Buf (Elt Ideal) ((c.tc : Thread Cert.Kernel7Ideal.nD Cert.Kernel7Ideal.τ).loc Cert.Kernel7Ideal.main_v27_5)) (v6 : (c : Dev Cert.Kernel7Ideal.nD) → Buf (Elt Ideal) ((c.tc : Thread Cert.Kernel7Ideal.nD Cert.Kernel7Ideal.τ).loc Cert.Kernel7Ideal.main_v27_6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v27_0) = v0 c
          ∧ r.2.mem ((c.tc : Thread Cert.Kernel7Ideal.nD Cert.Kernel7Ideal.τ).loc Cert.Kernel7Ideal.main_v27_1) = v1 c
          ∧ r.2.mem ((c.tc : Thread Cert.Kernel7Ideal.nD Cert.Kernel7Ideal.τ).loc Cert.Kernel7Ideal.main_v27_2) = v2 c
          ∧ r.2.mem ((c.tc : Thread Cert.Kernel7Ideal.nD Cert.Kernel7Ideal.τ).loc Cert.Kernel7Ideal.main_v27_3) = v3 c
          ∧ r.2.mem ((c.tc : Thread Cert.Kernel7Ideal.nD Cert.Kernel7Ideal.τ).loc Cert.Kernel7Ideal.main_v27_4) = v4 c
          ∧ r.2.mem ((c.tc : Thread Cert.Kernel7Ideal.nD Cert.Kernel7Ideal.τ).loc Cert.Kernel7Ideal.main_v27_5) = v5 c
          ∧ r.2.mem ((c.tc : Thread Cert.Kernel7Ideal.nD Cert.Kernel7Ideal.τ).loc Cert.Kernel7Ideal.main_v27_6) = v6 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v36) = v0 c
          ∧ r.2.mem ((c.tc : Thread Cert.Reference7Ideal.nD Cert.Reference7Ideal.τ).loc Cert.Reference7Ideal.main_v37) = v1 c
          ∧ r.2.mem ((c.tc : Thread Cert.Reference7Ideal.nD Cert.Reference7Ideal.τ).loc Cert.Reference7Ideal.main_v38) = v2 c
          ∧ r.2.mem ((c.tc : Thread Cert.Reference7Ideal.nD Cert.Reference7Ideal.τ).loc Cert.Reference7Ideal.main_v39) = v3 c
          ∧ r.2.mem ((c.tc : Thread Cert.Reference7Ideal.nD Cert.Reference7Ideal.τ).loc Cert.Reference7Ideal.main_v40) = v4 c
          ∧ r.2.mem ((c.tc : Thread Cert.Reference7Ideal.nD Cert.Reference7Ideal.τ).loc Cert.Reference7Ideal.main_v41) = v5 c
          ∧ r.2.mem ((c.tc : Thread Cert.Reference7Ideal.nD Cert.Reference7Ideal.τ).loc Cert.Reference7Ideal.main_v42) = v6 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  IdealRules.named_const.Statement Cert.Kernel9Ideal.κ "mask" .f32 0xF149F2CA#32 ⊥

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)) →
    ∃ (v0 : (c : Dev Cert.Kernel9Ideal.nD) → Buf (Elt Ideal) ((c.tc : Thread Cert.Kernel9Ideal.nD Cert.Kernel9Ideal.τ).loc Cert.Kernel9Ideal.main_v15_0)) (v1 : (c : Dev Cert.Kernel9Ideal.nD) → Buf (Elt Ideal) ((c.tc : Thread Cert.Kernel9Ideal.nD Cert.Kernel9Ideal.τ).loc Cert.Kernel9Ideal.main_v15_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v15_0) = v0 c
          ∧ r.2.mem ((c.tc : Thread Cert.Kernel9Ideal.nD Cert.Kernel9Ideal.τ).loc Cert.Kernel9Ideal.main_v15_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v98) = v0 c
          ∧ r.2.mem ((c.tc : Thread Cert.Reference9Ideal.nD Cert.Reference9Ideal.τ).loc Cert.Reference9Ideal.main_v79_6) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v27)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v27) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v28) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v27_0)) (v1 : (c : Dev Cert.Kernel11Ideal.nD) → Buf (Elt Ideal) ((c.tc : Thread Cert.Kernel11Ideal.nD Cert.Kernel11Ideal.τ).loc Cert.Kernel11Ideal.main_v27_1)) (v2 : (c : Dev Cert.Kernel11Ideal.nD) → Buf (Elt Ideal) ((c.tc : Thread Cert.Kernel11Ideal.nD Cert.Kernel11Ideal.τ).loc Cert.Kernel11Ideal.main_v27_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v27_0) = v0 c
          ∧ r.2.mem ((c.tc : Thread Cert.Kernel11Ideal.nD Cert.Kernel11Ideal.τ).loc Cert.Kernel11Ideal.main_v27_1) = v1 c
          ∧ r.2.mem ((c.tc : Thread Cert.Kernel11Ideal.nD Cert.Kernel11Ideal.τ).loc Cert.Kernel11Ideal.main_v27_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v29) = v0 c
          ∧ r.2.mem ((c.tc : Thread Cert.Reference11Ideal.nD Cert.Reference11Ideal.τ).loc Cert.Reference11Ideal.main_v32) = v1 c
          ∧ r.2.mem ((c.tc : Thread Cert.Reference11Ideal.nD Cert.Reference11Ideal.τ).loc Cert.Reference11Ideal.main_v34) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite9 : Cert.Pre_finite9.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite9.lean ====
abbrev S4x4096x3072 : Shape := ⟨3, ![4, 4096, 3072]⟩
abbrev S4x4096x1024 : Shape := ⟨3, ![4, 4096, 1024]⟩
abbrev S4x4096x48 : Shape := ⟨3, ![4, 4096, 48]⟩
abbrev S4x4096x8 : Shape := ⟨3, ![4, 4096, 8]⟩
abbrev S1x4x3072 : Shape := ⟨3, ![1, 4, 3072]⟩
abbrev S1x8 : Shape := ⟨2, ![1, 8]⟩
abbrev S1x128 : Shape := ⟨2, ![1, 128]⟩
abbrev S_ : Shape := ⟨0, ![]⟩

class Facts : Prop where
  bcast_S_S4x4096x3072 : S_.BroadcastsInDim S4x4096x3072 (![] : Fin 0 → Fin S4x4096x3072.rank)
  bcast_S_S4x4096x8 : S_.BroadcastsInDim S4x4096x8 (![] : Fin 0 → Fin S4x4096x8.rank)
  bcast_S_S1x4x3072 : S_.BroadcastsInDim S1x4x3072 (![] : Fin 0 → Fin S1x4x3072.rank)
  bcast_S_S1x8 : S_.BroadcastsInDim S1x8 (![] : Fin 0 → Fin S1x8.rank)

variable [Facts]

def fn {F : FTy → Type} [FloatOps F] (main_arg0 : FVec F S4x4096x3072 .f32) (main_arg1 : FVec F S4x4096x1024 .f32) (main_arg2 : FVec F S4x4096x48 .f32) (main_arg3 : FVec F S4x4096x8 .f32) (main_arg4 : FVec F S4x4096x8 .f32) (main_arg5 : FVec F S1x4x3072 .f32) (main_arg6 : FVec F S1x8 .f32) (main_arg7 : FVec F S1x8 .f32) (main_arg8 : FVec F S1x128 .f32) : IVec S4x4096x3072 1 × IVec S4x4096x8 1 × IVec S4x4096x8 1 × IVec S1x4x3072 1 × IVec S1x8 1 × IVec S1x8 1 :=
  let main_v0 : FVec F S4x4096x3072 .f32 := Host.absf main_arg0
  let main_cst : FVec F S_ .f32 := constant S_ .f32 0x7F800000#32
  let main_v1 : FVec F S4x4096x3072 .f32 := broadcastInDim S4x4096x3072 ![] bcast_S_S4x4096x3072 main_cst
  let main_v2 : IVec S4x4096x3072 1 := cmpf .olt main_v0 main_v1
  let main_v3 : FVec F S4x4096x8 .f32 := Host.absf main_arg3
  let main_cst_0 : FVec F S_ .f32 := constant S_ .f32 0x7F800000#32
  let main_v4 : FVec F S4x4096x8 .f32 := broadcastInDim S4x4096x8 ![] bcast_S_S4x4096x8 main_cst_0
  let main_v5 : IVec S4x4096x8 1 := cmpf .olt main_v3 main_v4
  let main_v6 : FVec F S4x4096x8 .f32 := Host.absf main_arg4
  let main_cst_1 : FVec F S_ .f32 := constant S_ .f32 0x7F800000#32
  let main_v7 : FVec F S4x4096x8 .f32 := broadcastInDim S4x4096x8 ![] bcast_S_S4x4096x8 main_cst_1
  let main_v8 : IVec S4x4096x8 1 := cmpf .olt main_v6 main_v7
  let main_v9 : FVec F S1x4x3072 .f32 := Host.absf main_arg5
  let main_cst_2 : FVec F S_ .f32 := constant S_ .f32 0x7F800000#32
  let main_v10 : FVec F S1x4x3072 .f32 := broadcastInDim S1x4x3072 ![] bcast_S_S1x4x3072 main_cst_2
  let main_v11 : IVec S1x4x3072 1 := cmpf .olt main_v9 main_v10
  let main_v12 : FVec F S1x8 .f32 := Host.absf main_arg6
  let main_cst_3 : FVec F S_ .f32 := constant S_ .f32 0x7F800000#32
  let main_v13 : FVec F S1x8 .f32 := broadcastInDim S1x8 ![] bcast_S_S1x8 main_cst_3
  let main_v14 : IVec S1x8 1 := cmpf .olt main_v12 main_v13
  let main_v15 : FVec F S1x8 .f32 := Host.absf main_arg7
  let main_cst_4 : FVec F S_ .f32 := constant S_ .f32 0x7F800000#32
  let main_v16 : FVec F S1x8 .f32 := broadcastInDim S1x8 ![] bcast_S_S1x8 main_cst_4
  let main_v17 : IVec S1x8 1 := cmpf .olt main_v15 main_v16
  (main_v2, main_v5, main_v8, main_v11, main_v14, main_v17)
-- ==== Kernel.lean ====
abbrev S128x3072 : Shape := ⟨2, ![128, 3072]⟩
abbrev S1x128x3x3072 : Shape := ⟨4, ![1, 128, 3, 3072]⟩
abbrev S128x1024 : Shape := ⟨2, ![128, 1024]⟩
abbrev S128x48 : Shape := ⟨2, ![128, 48]⟩
abbrev S128x8 : Shape := ⟨2, ![128, 8]⟩
abbrev S1x128x8x128x128 : Shape := ⟨5, ![1, 128, 8, 128, 128]⟩
abbrev S1x4x3072 : Shape := ⟨3, ![1, 4, 3072]⟩
abbrev S1x8 : Shape := ⟨2, ![1, 8]⟩
abbrev S1x128 : Shape := ⟨2, ![1, 128]⟩
abbrev S_ : Shape := ⟨0, ![]⟩
abbrev S128x64 : Shape := ⟨2, ![128, 64]⟩
abbrev S128x128 : Shape := ⟨2, ![128, 128]⟩
abbrev S8 : Shape := ⟨1, ![8]⟩
abbrev S1 : Shape := ⟨1, ![1]⟩
abbrev S2 : Shape := ⟨1, ![2]⟩
abbrev S4x3072 : Shape := ⟨2, ![4, 3072]⟩
abbrev S128x3x3072 : Shape := ⟨3, ![128, 3, 3072]⟩
abbrev S3x128x3072 : Shape := ⟨3, ![3, 128, 3072]⟩
abbrev S128x8x128x128 : Shape := ⟨4, ![128, 8, 128, 128]⟩
abbrev S8x3072 : Shape := ⟨2, ![8, 3072]⟩
abbrev S3x8x3072 : Shape := ⟨3, ![3, 8, 3072]⟩
abbrev S8x1024 : Shape := ⟨2, ![8, 1024]⟩
abbrev S8x128 : Shape := ⟨2, ![8, 128]⟩
abbrev S8x8x128x128 : Shape := ⟨4, ![8, 8, 128, 128]⟩
abbrev S1x3072 : Shape := ⟨2, ![1, 3072]⟩
abbrev S1x8x3072 : Shape := ⟨3, ![1, 8, 3072]⟩
abbrev S8x1 : Shape := ⟨2, ![8, 1]⟩
abbrev S1x1x128x128 : Shape := ⟨4, ![1, 1, 128, 128]⟩
abbrev S6x128 : Shape := ⟨2, ![6, 128]⟩
abbrev S1x1 : Shape := ⟨2, ![1, 1]⟩
abbrev S128 : Shape := ⟨1, ![128]⟩
abbrev S128x1 : Shape := ⟨2, ![128, 1]⟩

abbrev nBuf : Space → Nat
  | .hbm => 39
  | .vmem => 20
  | .smem => 0
  | _ => 0

abbrev bufTy : (tb : Table) → Fin (tcTables nBuf tb) → BufTy
  | .hbm, ⟨0, _⟩ => ⟨S128x3072, .f32⟩
  | .hbm, ⟨1, _⟩ => ⟨S1x128x3x3072, .f32⟩
  | .hbm, ⟨2, _⟩ => ⟨S128x1024, .f32⟩
  | .hbm, ⟨3, _⟩ => ⟨S128x48, .f32⟩
  | .hbm, ⟨4, _⟩ => ⟨S128x8, .f32⟩
  | .hbm, ⟨5, _⟩ => ⟨S128x8, .f32⟩
  | .hbm, ⟨6, _⟩ => ⟨S1x128x8x128x128, .f32⟩
  | .hbm, ⟨7, _⟩ => ⟨S1x4x3072, .f32⟩
  | .hbm, ⟨8, _⟩ => ⟨S1x8, .f32⟩
  | .hbm, ⟨9, _⟩ => ⟨S1x8, .f32⟩
  | .hbm, ⟨10, _⟩ => ⟨S1x128, .f32⟩
  | .hbm, ⟨11, _⟩ => ⟨S_, .f32⟩
  | .hbm, ⟨12, _⟩ => ⟨S128x64, .f32⟩
  | .hbm, ⟨13, _⟩ => ⟨S128x128, .f32⟩
  | .hbm, ⟨14, _⟩ => ⟨S_, .f32⟩
  | .hbm, ⟨15, _⟩ => ⟨S1x128, .f32⟩
  | .hbm, ⟨16, _⟩ => ⟨S8, .f32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S2, .i32⟩
  | .hbm, ⟨22, _⟩ => ⟨S1x128, .f32⟩
  | .hbm, ⟨23, _⟩ => ⟨S_, .f32⟩
  | .hbm, ⟨24, _⟩ => ⟨S1x128, .f32⟩
  | .hbm, ⟨25, _⟩ => ⟨S8, .f32⟩
  | .hbm, ⟨26, _⟩ => ⟨S_, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S2, .i32⟩
  | .hbm, ⟨31, _⟩ => ⟨S1x128, .f32⟩
  | .hbm, ⟨32, _⟩ => ⟨S4x3072, .f32⟩
  | .hbm, ⟨33, _⟩ => ⟨S128x3x3072, .f32⟩
  | .hbm, ⟨34, _⟩ => ⟨S3x128x3072, .f32⟩
  | .hbm, ⟨35, _⟩ => ⟨S128x8x128x128, .f32⟩
  | .hbm, ⟨36, _⟩ => ⟨S128x1024, .f32⟩
  | .hbm, ⟨37, _⟩ => ⟨S3x128x3072, .f32⟩
  | .hbm, ⟨38, _⟩ => ⟨S128x8x128x128, .f32⟩
  | .local _ .vmem, ⟨0, _⟩ => ⟨S8x3072, .f32⟩
  | .local _ .vmem, ⟨1, _⟩ => ⟨S8x3072, .f32⟩
  | .local _ .vmem, ⟨2, _⟩ => ⟨S3x8x3072, .f32⟩
  | .local _ .vmem, ⟨3, _⟩ => ⟨S3x8x3072, .f32⟩
  | .local _ .vmem, ⟨4, _⟩ => ⟨S8x1024, .f32⟩
  | .local _ .vmem, ⟨5, _⟩ => ⟨S8x1024, .f32⟩
  | .local _ .vmem, ⟨6, _⟩ => ⟨S8x128, .f32⟩
  | .local _ .vmem, ⟨7, _⟩ => ⟨S8x128, .f32⟩
  | .local _ .vmem, ⟨8, _⟩ => ⟨S8x8x128x128, .f32⟩
  | .local _ .vmem, ⟨9, _⟩ => ⟨S8x8x128x128, .f32⟩
  | .local _ .vmem, ⟨10, _⟩ => ⟨S4x3072, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S8x1024, .f32⟩
  | .local _ .vmem, ⟨15, _⟩ => ⟨S8x1024, .f32⟩
  | .local _ .vmem, ⟨16, _⟩ => ⟨S3x8x3072, .f32⟩
  | .local _ .vmem, ⟨17, _⟩ => ⟨S3x8x3072, .f32⟩
  | .local _ .vmem, ⟨18, _⟩ => ⟨S8x8x128x128, .f32⟩
  | .local _ .vmem, ⟨19, _⟩ => ⟨S8x8x128x128, .f32⟩
  | _, _ => ⟨S128x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_c_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_c_3 : Ref sig .tc := ⟨.hbm, 26, rfl⟩
abbrev main_v10 : Ref sig .tc := ⟨.hbm, 27, rfl⟩
abbrev main_c_4 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18_0 : Ref sig .tc := ⟨.hbm, 36, rfl⟩
abbrev main_v18_1 : Ref sig .tc := ⟨.hbm, 37, rfl⟩
abbrev main_v18_2 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x8x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x8x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S3x8x3072 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x8x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S128x3072 : Shape := ⟨2, ![128, 3072]⟩
abbrev S1x128x3x3072 : Shape := ⟨4, ![1, 128, 3, 3072]⟩
abbrev S128x1024 : Shape := ⟨2, ![128, 1024]⟩
abbrev S128x48 : Shape := ⟨2, ![128, 48]⟩
abbrev S128x8 : Shape := ⟨2, ![128, 8]⟩
abbrev S1x128x8x128x128 : Shape := ⟨5, ![1, 128, 8, 128, 128]⟩
abbrev S1x4x3072 : Shape := ⟨3, ![1, 4, 3072]⟩
abbrev S1x8 : Shape := ⟨2, ![1, 8]⟩
abbrev S1x128 : Shape := ⟨2, ![1, 128]⟩
abbrev S128x3x3072 : Shape := ⟨3, ![128, 3, 3072]⟩
abbrev S128x1x3072 : Shape := ⟨3, ![128, 1, 3072]⟩
abbrev S128x4x3072 : Shape := ⟨3, ![128, 4, 3072]⟩
abbrev S4x3072 : Shape := ⟨2, ![4, 3072]⟩
abbrev S_ : Shape := ⟨0, ![]⟩
abbrev S128x8x128 : Shape := ⟨3, ![128, 8, 128]⟩
abbrev S128x8x1 : Shape := ⟨3, ![128, 8, 1]⟩
abbrev S8 : Shape := ⟨1, ![8]⟩
abbrev S128x8x128x128 : Shape := ⟨4, ![128, 8, 128, 128]⟩
abbrev S128x8x1x1 : Shape := ⟨4, ![128, 8, 1, 1]⟩
abbrev S128x8x128x1 : Shape := ⟨4, ![128, 8, 128, 1]⟩
abbrev S128x8x1x128 : Shape := ⟨4, ![128, 8, 1, 128]⟩
abbrev S128 : Shape := ⟨1, ![128]⟩
abbrev S1x1x128 : Shape := ⟨3, ![1, 1, 128]⟩
abbrev S3x128x3072 : Shape := ⟨3, ![3, 128, 3072]⟩

abbrev nBuf : Space → Nat
  | .hbm => 154
  | .vmem => 0
  | .smem => 0
  | _ => 0

abbrev hbmTy0_0 (i : Nat) : BufTy := match i % 128 with
  | 0 => ⟨S128x3072, .f32⟩
  | 1 => ⟨S1x128x3x3072, .f32⟩
  | 2 => ⟨S128x1024, .f32⟩
  | 3 => ⟨S128x48, .f32⟩
  | 4 => ⟨S128x8, .f32⟩
  | 5 => ⟨S128x8, .f32⟩
  | 6 => ⟨S1x128x8x128x128, .f32⟩
  | 7 => ⟨S1x4x3072, .f32⟩
  | 8 => ⟨S1x8, .f32⟩
  | 9 => ⟨S1x8, .f32⟩
  | 10 => ⟨S1x128, .f32⟩
  | 11 => ⟨S128x3x3072, .f32⟩
  | 12 => ⟨S128x1x3072, .f32⟩
  | 13 => ⟨S128x4x3072, .f32⟩
  | 14 => ⟨S4x3072, .f32⟩
  | 15 => ⟨S1x4x3072, .f32⟩
  | 16 => ⟨S128x4x3072, .f32⟩
  | 17 => ⟨S128x4x3072, .f32⟩
  | 18 => ⟨S_, .f32⟩
  | 19 => ⟨S128x3072, .f32⟩
  | 20 => ⟨S128x3072, .f32⟩
  | 21 => ⟨S128x3072, .f32⟩
  | 22 => ⟨S_, .f32⟩
  | 23 => ⟨S128x3072, .f32⟩
  | 24 => ⟨S128x3072, .f32⟩
  | 25 => ⟨S_, .f32⟩
  | 26 => ⟨S128x3072, .f32⟩
  | 27 => ⟨S128x3072, .f32⟩
  | 28 => ⟨S128x3072, .f32⟩
  | 29 => ⟨S128x1024, .f32⟩
  | 30 => ⟨S128x1024, .f32⟩
  | 31 => ⟨S128x1024, .f32⟩
  | 32 => ⟨S128x8x128, .f32⟩
  | 33 => ⟨S128x8x128, .f32⟩
  | 34 => ⟨S_, .f32⟩
  | 35 => ⟨S128x8, .f32⟩
  | 36 => ⟨S128x8x1, .f32⟩
  | 37 => ⟨S_, .f32⟩
  | 38 => ⟨S128x8x1, .f32⟩
  | 39 => ⟨S128x8x1, .f32⟩
  | 40 => ⟨S128x8x1, .f32⟩
  | 41 => ⟨S128x8x128, .f32⟩
  | 42 => ⟨S128x8x128, .f32⟩
  | 43 => ⟨S_, .f32⟩
  | 44 => ⟨S128x8x128, .f32⟩
  | 45 => ⟨S128x8x128, .f32⟩
  | 46 => ⟨S128x8x128, .f32⟩
  | 47 => ⟨S128x8x128, .f32⟩
  | 48 => ⟨S_, .f32⟩
  | 49 => ⟨S128x8, .f32⟩
  | 50 => ⟨S128x8x1, .f32⟩
  | 51 => ⟨S_, .f32⟩
  | 52 => ⟨S128x8x1, .f32⟩
  | 53 => ⟨S128x8x1, .f32⟩
  | 54 => ⟨S128x8x1, .f32⟩
  | 55 => ⟨S128x8x128, .f32⟩
  | 56 => ⟨S128x8x128, .f32⟩
  | 57 => ⟨S128x8x128, .f32⟩
  | 58 => ⟨S8, .f32⟩
  | 59 => ⟨S8, .f32⟩
  | 60 => ⟨S8, .f32⟩
  | 61 => ⟨S8, .f32⟩
  | 62 => ⟨S1x8, .f32⟩
  | 63 => ⟨S128x8, .f32⟩
  | 64 => ⟨S128x8, .f32⟩
  | 65 => ⟨S_, .f32⟩
  | 66 => ⟨S128x8, .f32⟩
  | 67 => ⟨S128x8, .f32⟩
  | 68 => ⟨S128x8, .f32⟩
  | 69 => ⟨S128x8, .f32⟩
  | 70 => ⟨S128x8, .i1⟩
  | 71 => ⟨S128x8, .f32⟩
  | 72 => ⟨S128x8, .f32⟩
  | 73 => ⟨S128x8, .f32⟩
  | 74 => ⟨S128x8, .f32⟩
  | 75 => ⟨S128x8, .f32⟩
  | 76 => ⟨S128x8, .f32⟩
  | 77 => ⟨S128x8, .f32⟩
  | 78 => ⟨S128x8, .f32⟩
  | 79 => ⟨S1x8, .f32⟩
  | 80 => ⟨S128x8, .f32⟩
  | 81 => ⟨S128x8, .f32⟩
  | 82 => ⟨S128x8, .f32⟩
  | 83 => ⟨S128x8, .f32⟩
  | 84 => ⟨S_, .f32⟩
  | 85 => ⟨S128x8, .f32⟩
  | 86 => ⟨S128x8, .f32⟩
  | 87 => ⟨S_, .f32⟩
  | 88 => ⟨S128x8, .f32⟩
  | 89 => ⟨S128x8, .f32⟩
  | 90 => ⟨S128x8x128x128, .f32⟩
  | 91 => ⟨S128x8x1, .f32⟩
  | 92 => ⟨S128x8x128, .f32⟩
  | 93 => ⟨S128x8x128, .f32⟩
  | 94 => ⟨S128x8x1, .f32⟩
  | 95 => ⟨S128x8x128, .f32⟩
  | 96 => ⟨S128x8x128, .f32⟩
  | 97 => ⟨S128x8, .f32⟩
  | 98 => ⟨S128x8x1, .f32⟩
  | 99 => ⟨S128x8x128, .f32⟩
  | 100 => ⟨S128x8x128, .f32⟩
  | 101 => ⟨S128x8, .f32⟩
  | 102 => ⟨S128x8, .f32⟩
  | 103 => ⟨S128x8x1, .f32⟩
  | 104 => ⟨S128x8x128, .f32⟩
  | 105 => ⟨S128x8x128, .f32⟩
  | 106 => ⟨S128x8x128, .f32⟩
  | 107 => ⟨S128x8x128, .f32⟩
  | 108 => ⟨S128x8x128, .f32⟩
  | 109 => ⟨S128x8x1, .f32⟩
  | 110 => ⟨S128x8x128, .f32⟩
  | 111 => ⟨S128x8x128, .f32⟩
  | 112 => ⟨S128x8x128, .f32⟩
  | 113 => ⟨S128x8, .f32⟩
  | 114 => ⟨S128x8x1x1, .f32⟩
  | 115 => ⟨S128x8x128x128, .f32⟩
  | 116 => ⟨S128x8x128x128, .f32⟩
  | 117 => ⟨S128x8x128x1, .f32⟩
  | 118 => ⟨S128x8x1x128, .f32⟩
  | 119 => ⟨S128x8x128x128, .f32⟩
  | 120 => ⟨S128x8x128x128, .f32⟩
  | 121 => ⟨S128x8x128x128, .f32⟩
  | 122 => ⟨S128x8x128x128, .f32⟩
  | 123 => ⟨S128x8x128, .f32⟩
  | 124 => ⟨S_, .f32⟩
  | 125 => ⟨S128x8, .f32⟩
  | 126 => ⟨S128x8x1, .f32⟩
  | 127 => ⟨S_, .f32⟩
  | _ => ⟨S128x3072, .f32⟩

abbrev hbmTy0_1 (i : Nat) : BufTy := match i % 128 with
  | 0 => ⟨S128x8x1, .f32⟩
  | 1 => ⟨S128x8x1, .f32⟩
  | 2 => ⟨S_, .f32⟩
  | 3 => ⟨S128x8x1, .f32⟩
  | 4 => ⟨S128x8x1, .f32⟩
  | 5 => ⟨S128x8x1, .f32⟩
  | 6 => ⟨S128x8x128, .f32⟩
  | 7 => ⟨S128x8x128, .f32⟩
  | 8 => ⟨S128, .f32⟩
  | 9 => ⟨S1x1x128, .f32⟩
  | 10 => ⟨S128x8x128, .f32⟩
  | 11 => ⟨S128x8x128, .f32⟩
  | 12 => ⟨S128x8x128, .f32⟩
  | 13 => ⟨S128x8x128, .f32⟩
  | 14 => ⟨S128x8x128, .f32⟩
  | 15 => ⟨S_, .f32⟩
  | 16 => ⟨S128x8x128, .f32⟩
  | 17 => ⟨S128x8x128, .f32⟩
  | 18 => ⟨S_, .f32⟩
  | 19 => ⟨S128x8x128, .f32⟩
  | 20 => ⟨S128x8x128, .f32⟩
  | 21 => ⟨S128x8x128, .f32⟩
  | 22 => ⟨S128x8x128, .f32⟩
  | 23 => ⟨S128x1024, .f32⟩
  | 24 => ⟨S128x3x3072, .f32⟩
  | 25 => ⟨S3x128x3072, .f32⟩
  | _ => ⟨S128x3072, .f32⟩

abbrev hbmTy (i : Nat) : BufTy := match i / 128 with
  | 0 => hbmTy0_0 i
  | 1 => hbmTy0_1 i
  | _ => ⟨S128x3072, .f32⟩

abbrev bufTy : (tb : Table) → Fin (tcTables nBuf tb) → BufTy
  | .hbm, ⟨i, _⟩ => hbmTy i
  | _, _ => ⟨S128x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_0 : Ref sig .tc := ⟨.hbm, 34, rfl⟩
abbrev main_v14 : Ref sig .tc := ⟨.hbm, 35, rfl⟩
abbrev main_v15 : Ref sig .tc := ⟨.hbm, 36, rfl⟩
abbrev main_cst_1 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_2 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_3 : Ref sig .tc := ⟨.hbm, 48, rfl⟩
abbrev main_v25 : Ref sig .tc := ⟨.hbm, 49, rfl⟩
abbrev main_v26 : Ref sig .tc := ⟨.hbm, 50, rfl⟩
abbrev main_cst_4 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_call1_cst : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_v6 : Ref sig .tc := ⟨.hbm, 72, rfl⟩
abbrev main_call1_v7 : Ref sig .tc := ⟨.hbm, 73, rfl⟩
abbrev main_call1_v8 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_cst_5 : Ref sig .tc := ⟨.hbm, 84, rfl⟩
abbrev main_v46 : Ref sig .tc := ⟨.hbm, 85, rfl⟩
abbrev main_v47 : Ref sig .tc := ⟨.hbm, 86, rfl⟩
abbrev main_cst_6 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_7 : Ref sig .tc := ⟨.hbm, 124, rfl⟩
abbrev main_v84 : Ref sig .tc := ⟨.hbm, 125, rfl⟩
abbrev main_v85 : Ref sig .tc := ⟨.hbm, 126, rfl⟩
abbrev main_cst_8 : Ref sig .tc := ⟨.hbm, 127, rfl⟩
abbrev main_v86 : Ref sig .tc := ⟨.hbm, 128, rfl⟩
abbrev main_v87 : Ref sig .tc := ⟨.hbm, 129, rfl⟩
abbrev main_cst_9 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_call2_v0 : Ref sig .tc := ⟨.hbm, 141, rfl⟩
abbrev main_call2_v1 : Ref sig .tc := ⟨.hbm, 142, rfl⟩
abbrev main_call2_cst : Ref sig .tc := ⟨.hbm, 143, rfl⟩
abbrev main_call2_v2 : Ref sig .tc := ⟨.hbm, 144, rfl⟩
abbrev main_call2_v3 : Ref sig .tc := ⟨.hbm, 145, rfl⟩
abbrev main_call2_cst_0 : Ref sig .tc := ⟨.hbm, 146, rfl⟩
abbrev main_call2_v4 : Ref sig .tc := ⟨.hbm, 147, rfl⟩
abbrev main_call2_v5 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩

abbrev nD : Nat := 1
abbrev τ : Topo := Topo.v7x

variable {F : FTy → Type} [FloatOps F]
-- ==== Kernel2.lean ====
abbrev S4x4096x1024 : Shape := ⟨3, ![4, 4096, 1024]⟩
abbrev S4x4096x2048 : Shape := ⟨3, ![4, 4096, 2048]⟩
abbrev S4x6144 : Shape := ⟨2, ![4, 6144]⟩
abbrev S1x1024 : Shape := ⟨2, ![1, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024 : Shape := ⟨1, ![1024]⟩
abbrev S4x6x1x1024 : Shape := ⟨4, ![4, 6, 1, 1024]⟩
abbrev S1024x1024 : Shape := ⟨2, ![1024, 1024]⟩
abbrev S1024x4096 : Shape := ⟨2, ![1024, 4096]⟩
abbrev S4096x1024 : Shape := ⟨2, ![4096, 1024]⟩
abbrev S1x512x1024 : Shape := ⟨3, ![1, 512, 1024]⟩
abbrev S1x512x2048 : Shape := ⟨3, ![1, 512, 2048]⟩
abbrev S1x6x1x1024 : Shape := ⟨4, ![1, 6, 1, 1024]⟩
abbrev S1024x2048 : Shape := ⟨2, ![1024, 2048]⟩
abbrev S2048x1024 : Shape := ⟨2, ![2048, 1024]⟩
abbrev S512x1024 : Shape := ⟨2, ![512, 1024]⟩
abbrev S1x1x1x1024 : Shape := ⟨4, ![1, 1, 1, 1024]⟩
abbrev S512 : Shape := ⟨1, ![512]⟩
abbrev S512x1 : Shape := ⟨2, ![512, 1]⟩
abbrev S512x2048 : Shape := ⟨2, ![512, 2048]⟩

abbrev nBuf : Space → Nat
  | .hbm => 19
  | .vmem => 22
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x2048, .f32⟩
  | .hbm, ⟨4, _⟩ => ⟨S4x6144, .f32⟩
  | .hbm, ⟨5, _⟩ => ⟨S1x1024, .f32⟩
  | .hbm, ⟨6, _⟩ => ⟨S1x1024x1024, .f32⟩
  | .hbm, ⟨7, _⟩ => ⟨S1x1024x4096, .f32⟩
  | .hbm, ⟨8, _⟩ => ⟨S1x4096x1024, .f32⟩
  | .hbm, ⟨9, _⟩ => ⟨S1024, .f32⟩
  | .hbm, ⟨10, _⟩ => ⟨S4x6x1x1024, .f32⟩
  | .hbm, ⟨11, _⟩ => ⟨S1x1024, .f32⟩
  | .hbm, ⟨12, _⟩ => ⟨S1024x1024, .f32⟩
  | .hbm, ⟨13, _⟩ => ⟨S1024x1024, .bf16⟩
  | .hbm, ⟨14, _⟩ => ⟨S1024x4096, .f32⟩
  | .hbm, ⟨15, _⟩ => ⟨S1024x4096, .bf16⟩
  | .hbm, ⟨16, _⟩ => ⟨S4096x1024, .f32⟩
  | .hbm, ⟨17, _⟩ => ⟨S4096x1024, .bf16⟩
  | .hbm, ⟨18, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x2048, .f32⟩
  | .local _ .vmem, ⟨7, _⟩ => ⟨S1x512x2048, .f32⟩
  | .local _ .vmem, ⟨8, _⟩ => ⟨S1x6x1x1024, .f32⟩
  | .local _ .vmem, ⟨9, _⟩ => ⟨S1x6x1x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .bf16⟩
  | .local _ .vmem, ⟨13, _⟩ => ⟨S1024x2048, .bf16⟩
  | .local _ .vmem, ⟨14, _⟩ => ⟨S1024x2048, .bf16⟩
  | .local _ .vmem, ⟨15, _⟩ => ⟨S2048x1024, .bf16⟩
  | .local _ .vmem, ⟨16, _⟩ => ⟨S2048x1024, .bf16⟩
  | .local _ .vmem, ⟨17, _⟩ => ⟨S1x512x1024, .f32⟩
  | .local _ .vmem, ⟨18, _⟩ => ⟨S1x512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨3, ![4, 8, 2], ![false, false, false]⟩

def k0_cond2 (i : grid0.Coords) : BitVec 1 :=
  let arg2 : BitVec 32 := BitVec.ofNat 32 (i 2).val
  let c1_i32 : BitVec 32 := 1#32
  let v19 : BitVec 1 := Scalar.cmpi .eq arg2 c1_i32
  let v20 : BitVec 32 := Scalar.extui v19
  let c0_i32_12 : BitVec 32 := 0#32
  let v21 : BitVec 1 := Scalar.cmpi .ne v20 c0_i32_12
  v21

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x6x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1024x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S2048x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, false, true]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== Reference2Ideal.lean ====
abbrev S4x4096x1024 : Shape := ⟨3, ![4, 4096, 1024]⟩
abbrev S4x4096x2048 : Shape := ⟨3, ![4, 4096, 2048]⟩
abbrev S4x6144 : Shape := ⟨2, ![4, 6144]⟩
abbrev S1x1024 : Shape := ⟨2, ![1, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024 : Shape := ⟨1, ![1024]⟩
abbrev S4x1x6144 : Shape := ⟨3, ![4, 1, 6144]⟩
abbrev S4x1x1024 : Shape := ⟨3, ![4, 1, 1024]⟩
abbrev S_ : Shape := ⟨0, ![]⟩
abbrev S1024x1024 : Shape := ⟨2, ![1024, 1024]⟩
abbrev S4x4096 : Shape := ⟨2, ![4, 4096]⟩
abbrev S4x4096x1 : Shape := ⟨3, ![4, 4096, 1]⟩
abbrev S1x1x1024 : Shape := ⟨3, ![1, 1, 1024]⟩
abbrev S1024x4096 : Shape := ⟨2, ![1024, 4096]⟩
abbrev S4x4096x4096 : Shape := ⟨3, ![4, 4096, 4096]⟩
abbrev S4096x1024 : Shape := ⟨2, ![4096, 1024]⟩

abbrev nBuf : Space → Nat
  | .hbm => 86
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x2048, .f32⟩
  | .hbm, ⟨4, _⟩ => ⟨S4x6144, .f32⟩
  | .hbm, ⟨5, _⟩ => ⟨S1x1024, .f32⟩
  | .hbm, ⟨6, _⟩ => ⟨S1x1024x1024, .f32⟩
  | .hbm, ⟨7, _⟩ => ⟨S1x1024x4096, .f32⟩
  | .hbm, ⟨8, _⟩ => ⟨S1x4096x1024, .f32⟩
  | .hbm, ⟨9, _⟩ => ⟨S1024, .f32⟩
  | .hbm, ⟨10, _⟩ => ⟨S4x1x6144, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S4x1x1024, .f32⟩
  | .hbm, ⟨16, _⟩ => ⟨S4x1x1024, .f32⟩
  | .hbm, ⟨17, _⟩ => ⟨S4x4096x2048, .f32⟩
  | .hbm, ⟨18, _⟩ => ⟨S4x4096x2048, .f32⟩
  | .hbm, ⟨19, _⟩ => ⟨S_, .f32⟩
  | .hbm, ⟨20, _⟩ => ⟨S4x4096x2048, .f32⟩
  | .hbm, ⟨21, _⟩ => ⟨S4x4096x2048, .f32⟩
  | .hbm, ⟨22, _⟩ => ⟨S_, .f32⟩
  | .hbm, ⟨23, _⟩ => ⟨S4x4096x2048, .f32⟩
  | .hbm, ⟨24, _⟩ => ⟨S4x4096x2048, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S4x4096x1024, .f32⟩
  | .hbm, ⟨29, _⟩ => ⟨S4x4096x1024, .f32⟩
  | .hbm, ⟨30, _⟩ => ⟨S1024x1024, .f32⟩
  | .hbm, ⟨31, _⟩ => ⟨S4x4096x1024, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S1024, .f32⟩
  | .hbm, ⟨36, _⟩ => ⟨S4x4096x1024, .f32⟩
  | .hbm, ⟨37, _⟩ => ⟨S_, .f32⟩
  | .hbm, ⟨38, _⟩ => ⟨S4x4096, .f32⟩
  | .hbm, ⟨39, _⟩ => ⟨S4x4096x1, .f32⟩
  | .hbm, ⟨40, _⟩ => ⟨S_, .f32⟩
  | .hbm, ⟨41, _⟩ => ⟨S4x4096x1, .f32⟩
  | .hbm, ⟨42, _⟩ => ⟨S4x4096x1, .f32⟩
  | .hbm, ⟨43, _⟩ => ⟨S_, .f32⟩
  | .hbm, ⟨44, _⟩ => ⟨S4x4096x1, .f32⟩
  | .hbm, ⟨45, _⟩ => ⟨S4x4096x1, .f32⟩
  | .hbm, ⟨46, _⟩ => ⟨S4x4096x1, .f32⟩
  | .hbm, ⟨47, _⟩ => ⟨S4x4096x1024, .f32⟩
  | .hbm, ⟨48, _⟩ => ⟨S4x4096x1024, .f32⟩
  | .hbm, ⟨49, _⟩ => ⟨S1x1x1024, .f32⟩
  | .hbm, ⟨50, _⟩ => ⟨S4x4096x1024, .f32⟩
  | .hbm, ⟨51, _⟩ => ⟨S4x4096x1024, .f32⟩
  | .hbm, ⟨52, _⟩ => ⟨S_, .f32⟩
  | .hbm, ⟨53, _⟩ => ⟨S4x1x1024, .f32⟩
  | .hbm, ⟨54, _⟩ => ⟨S4x1x1024, .f32⟩
  | .hbm, ⟨55, _⟩ => ⟨S4x4096x1024, .f32⟩
  | .hbm, ⟨56, _⟩ => ⟨S4x4096x1024, .f32⟩
  | .hbm, ⟨57, _⟩ => ⟨S4x4096x1024, .f32⟩
  | .hbm, ⟨58, _⟩ => ⟨S4x4096x1024, .f32⟩
  | .hbm, ⟨59, _⟩ => ⟨S1024x4096, .f32⟩
  | .hbm, ⟨60, _⟩ => ⟨S4x4096x4096, .f32⟩
  | .hbm, ⟨61, _⟩ => ⟨S_, .f32⟩
  | .hbm, ⟨62, _⟩ => ⟨S4x4096x4096, .f32⟩
  | .hbm, ⟨63, _⟩ => ⟨S4x4096x4096, .f32⟩
  | .hbm, ⟨64, _⟩ => ⟨S4x4096x4096, .f32⟩
  | .hbm, ⟨65, _⟩ => ⟨S4096x1024, .f32⟩
  | .hbm, ⟨66, _⟩ => ⟨S4x4096x1024, .f32⟩
  | .hbm, ⟨67, _⟩ => ⟨S4x4096x1024, .f32⟩
  | .hbm, ⟨68, _⟩ => ⟨S4x4096x1024, .f32⟩
  | .hbm, ⟨69, _⟩ => ⟨S4x4096x1024, .f32⟩
  | .hbm, ⟨70, _⟩ => ⟨S4x4096x1024, .f32⟩
  | .hbm, ⟨71, _⟩ => ⟨S_, .f32⟩
  | .hbm, ⟨72, _⟩ => ⟨S4x4096, .f32⟩
  | .hbm, ⟨73, _⟩ => ⟨S4x4096x1, .f32⟩
  | .hbm, ⟨74, _⟩ => ⟨S_, .f32⟩
  | .hbm, ⟨75, _⟩ => ⟨S4x4096x1, .f32⟩
  | .hbm, ⟨76, _⟩ => ⟨S4x4096x1, .f32⟩
  | .hbm, ⟨77, _⟩ => ⟨S_, .f32⟩
  | .hbm, ⟨78, _⟩ => ⟨S4x4096x1, .f32⟩
  | .hbm, ⟨79, _⟩ => ⟨S4x4096x1, .f32⟩
  | .hbm, ⟨80, _⟩ => ⟨S4x4096x1, .f32⟩
  | .hbm, ⟨81, _⟩ => ⟨S4x4096x1024, .f32⟩
  | .hbm, ⟨82, _⟩ => ⟨S4x4096x1024, .f32⟩
  | .hbm, ⟨83, _⟩ => ⟨S1x1x1024, .f32⟩
  | .hbm, ⟨84, _⟩ => ⟨S4x4096x1024, .f32⟩
  | .hbm, ⟨85, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_1 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_call0_cst : Ref sig .tc := ⟨.hbm, 61, rfl⟩
abbrev main_call0_v0 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_5 : Ref sig .tc := ⟨.hbm, 71, rfl⟩
abbrev main_v53 : Ref sig .tc := ⟨.hbm, 72, rfl⟩
abbrev main_v54 : Ref sig .tc := ⟨.hbm, 73, rfl⟩
abbrev main_cst_6 : Ref sig .tc := ⟨.hbm, 74, rfl⟩
abbrev main_v55 : Ref sig .tc := ⟨.hbm, 75, rfl⟩
abbrev main_v56 : Ref sig .tc := ⟨.hbm, 76, rfl⟩
abbrev main_cst_7 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x6144 : Shape := ⟨2, ![4, 6144]⟩
abbrev S1x1024 : Shape := ⟨2, ![1, 1024]⟩
abbrev S1x1024x8768 : Shape := ⟨3, ![1, 1024, 8768]⟩
abbrev S1024x8768 : Shape := ⟨2, ![1024, 8768]⟩
abbrev S1024x1024 : Shape := ⟨2, ![1024, 1024]⟩
abbrev S1024x256 : Shape := ⟨2, ![1024, 256]⟩
abbrev S256x1024 : Shape := ⟨2, ![256, 1024]⟩
abbrev S1024x48 : Shape := ⟨2, ![1024, 48]⟩
abbrev S1024x3072 : Shape := ⟨2, ![1024, 3072]⟩
abbrev S1024x8 : Shape := ⟨2, ![1024, 8]⟩
abbrev S1024x2048 : Shape := ⟨2, ![1024, 2048]⟩
abbrev S_ : Shape := ⟨0, ![]⟩
abbrev S1024x64 : Shape := ⟨2, ![1024, 64]⟩
abbrev S1024x128 : Shape := ⟨2, ![1024, 128]⟩
abbrev S4x6x1x1024 : Shape := ⟨4, ![4, 6, 1, 1024]⟩
abbrev S4x256x4096 : Shape := ⟨3, ![4, 256, 4096]⟩
abbrev S1x512x1024 : Shape := ⟨3, ![1, 512, 1024]⟩
abbrev S1x6x1x1024 : Shape := ⟨4, ![1, 6, 1, 1024]⟩
abbrev S1x256x512 : Shape := ⟨3, ![1, 256, 512]⟩
abbrev S512x1024 : Shape := ⟨2, ![512, 1024]⟩
abbrev S1x1x1x1024 : Shape := ⟨4, ![1, 1, 1, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1x512x512 : Shape := ⟨3, ![1, 512, 512]⟩
abbrev S256x512 : Shape := ⟨2, ![256, 512]⟩

abbrev nBuf : Space → Nat
  | .hbm => 36
  | .vmem => 26
  | .smem => 0
  | _ => 0

abbrev bufTy : (tb : Table) → Fin (tcTables nBuf tb) → BufTy
  | .hbm, ⟨0, _⟩ => ⟨S4x4096x1024, .f32⟩
  | .hbm, ⟨1, _⟩ => ⟨S4x6144, .f32⟩
  | .hbm, ⟨2, _⟩ => ⟨S1x1024, .f32⟩
  | .hbm, ⟨3, _⟩ => ⟨S1x1024x8768, .f32⟩
  | .hbm, ⟨4, _⟩ => ⟨S1024x8768, .f32⟩
  | .hbm, ⟨5, _⟩ => ⟨S1024x8768, .bf16⟩
  | .hbm, ⟨6, _⟩ => ⟨S1024x1024, .bf16⟩
  | .hbm, ⟨7, _⟩ => ⟨S1024x256, .bf16⟩
  | .hbm, ⟨8, _⟩ => ⟨S256x1024, .bf16⟩
  | .hbm, ⟨9, _⟩ => ⟨S1024x256, .bf16⟩
  | .hbm, ⟨10, _⟩ => ⟨S256x1024, .bf16⟩
  | .hbm, ⟨11, _⟩ => ⟨S1024x256, .bf16⟩
  | .hbm, ⟨12, _⟩ => ⟨S256x1024, .bf16⟩
  | .hbm, ⟨13, _⟩ => ⟨S1024x256, .bf16⟩
  | .hbm, ⟨14, _⟩ => ⟨S256x1024, .bf16⟩
  | .hbm, ⟨15, _⟩ => ⟨S1024x256, .bf16⟩
  | .hbm, ⟨16, _⟩ => ⟨S256x1024, .bf16⟩
  | .hbm, ⟨17, _⟩ => ⟨S1024x256, .bf16⟩
  | .hbm, ⟨18, _⟩ => ⟨S256x1024, .bf16⟩
  | .hbm, ⟨19, _⟩ => ⟨S1024x48, .bf16⟩
  | .hbm, ⟨20, _⟩ => ⟨S1024x3072, .bf16⟩
  | .hbm, ⟨21, _⟩ => ⟨S1024x1024, .bf16⟩
  | .hbm, ⟨22, _⟩ => ⟨S1024x8, .bf16⟩
  | .hbm, ⟨23, _⟩ => ⟨S1024x8, .bf16⟩
  | .hbm, ⟨24, _⟩ => ⟨S1024x2048, .bf16⟩
  | .hbm, ⟨25, _⟩ => ⟨S_, .bf16⟩
  | .hbm, ⟨26, _⟩ => ⟨S1024x64, .bf16⟩
  | .hbm, ⟨27, _⟩ => ⟨S1024x128, .bf16⟩
  | .hbm, ⟨28, _⟩ => ⟨S4x6x1x1024, .f32⟩
  | .hbm, ⟨29, _⟩ => ⟨S4x4096x1024, .bf16⟩
  | .hbm, ⟨30, _⟩ => ⟨S4x256x4096, .f32⟩
  | .hbm, ⟨31, _⟩ => ⟨S4x256x4096, .f32⟩
  | .hbm, ⟨32, _⟩ => ⟨S4x256x4096, .f32⟩
  | .hbm, ⟨33, _⟩ => ⟨S4x256x4096, .f32⟩
  | .hbm, ⟨34, _⟩ => ⟨S4x256x4096, .f32⟩
  | .hbm, ⟨35, _⟩ => ⟨S4x256x4096, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1x1024, .f32⟩
  | .local _ .vmem, ⟨3, _⟩ => ⟨S1x6x1x1024, .f32⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .vmem, ⟨18, _⟩ => ⟨S1x256x512, .f32⟩
  | .local _ .vmem, ⟨19, _⟩ => ⟨S1x256x512, .f32⟩
  | .local _ .vmem, ⟨20, _⟩ => ⟨S1x256x512, .f32⟩
  | .local _ .vmem, ⟨21, _⟩ => ⟨S1x256x512, .f32⟩
  | .local _ .vmem, ⟨22, _⟩ => ⟨S1x256x512, .f32⟩
  | .local _ .vmem, ⟨23, _⟩ => ⟨S1x256x512, .f32⟩
  | .local _ .vmem, ⟨24, _⟩ => ⟨S1x256x512, .f32⟩
  | .local _ .vmem, ⟨25, _⟩ => ⟨S1x256x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24_0 : Ref sig .tc := ⟨.hbm, 29, rfl⟩
abbrev main_v24_1 : Ref sig .tc := ⟨.hbm, 30, rfl⟩
abbrev main_v24_2 : Ref sig .tc := ⟨.hbm, 31, rfl⟩
abbrev main_v24_3 : Ref sig .tc := ⟨.hbm, 32, rfl⟩
abbrev main_v24_4 : Ref sig .tc := ⟨.hbm, 33, rfl⟩
abbrev main_v24_5 : Ref sig .tc := ⟨.hbm, 34, rfl⟩
abbrev main_v24_6 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference3Ideal.lean ====
abbrev S4x4096x1024 : Shape := ⟨3, ![4, 4096, 1024]⟩
abbrev S4x6144 : Shape := ⟨2, ![4, 6144]⟩
abbrev S1x1024 : Shape := ⟨2, ![1, 1024]⟩
abbrev S1x1024x8768 : Shape := ⟨3, ![1, 1024, 8768]⟩
abbrev S4x1x6144 : Shape := ⟨3, ![4, 1, 6144]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1024 : Shape := ⟨1, ![1024]⟩
abbrev S1x1x1024 : Shape := ⟨3, ![1, 1, 1024]⟩
abbrev S1024x8768 : Shape := ⟨2, ![1024, 8768]⟩
abbrev S4x4096x8768 : Shape := ⟨3, ![4, 4096, 8768]⟩
abbrev S4x4096x1536 : Shape := ⟨3, ![4, 4096, 1536]⟩
abbrev S4x4096x256 : Shape := ⟨3, ![4, 4096, 256]⟩
abbrev S4x256x4096 : Shape := ⟨3, ![4, 256, 4096]⟩

abbrev nBuf : Space → Nat
  | .hbm => 52
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x6144, .f32⟩
  | .hbm, ⟨2, _⟩ => ⟨S1x1024, .f32⟩
  | .hbm, ⟨3, _⟩ => ⟨S1x1024x8768, .f32⟩
  | .hbm, ⟨4, _⟩ => ⟨S4x1x6144, .f32⟩
  | .hbm, ⟨5, _⟩ => ⟨S4x1x1024, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x4096x1024, .f32⟩
  | .hbm, ⟨12, _⟩ => ⟨S_, .f32⟩
  | .hbm, ⟨13, _⟩ => ⟨S4x4096, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S4x4096x1, .f32⟩
  | .hbm, ⟨22, _⟩ => ⟨S4x4096x1024, .f32⟩
  | .hbm, ⟨23, _⟩ => ⟨S4x4096x1024, .f32⟩
  | .hbm, ⟨24, _⟩ => ⟨S1024, .f32⟩
  | .hbm, ⟨25, _⟩ => ⟨S1x1x1024, .f32⟩
  | .hbm, ⟨26, _⟩ => ⟨S4x4096x1024, .f32⟩
  | .hbm, ⟨27, _⟩ => ⟨S4x4096x1024, .f32⟩
  | .hbm, ⟨28, _⟩ => ⟨S_, .f32⟩
  | .hbm, ⟨29, _⟩ => ⟨S4x1x1024, .f32⟩
  | .hbm, ⟨30, _⟩ => ⟨S4x1x1024, .f32⟩
  | .hbm, ⟨31, _⟩ => ⟨S4x4096x1024, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S1024x8768, .f32⟩
  | .hbm, ⟨36, _⟩ => ⟨S4x4096x8768, .f32⟩
  | .hbm, ⟨37, _⟩ => ⟨S4x4096x1024, .f32⟩
  | .hbm, ⟨38, _⟩ => ⟨S4x4096x1536, .f32⟩
  | .hbm, ⟨39, _⟩ => ⟨S4x4096x256, .f32⟩
  | .hbm, ⟨40, _⟩ => ⟨S4x4096x256, .f32⟩
  | .hbm, ⟨41, _⟩ => ⟨S4x4096x256, .f32⟩
  | .hbm, ⟨42, _⟩ => ⟨S4x4096x256, .f32⟩
  | .hbm, ⟨43, _⟩ => ⟨S4x4096x256, .f32⟩
  | .hbm, ⟨44, _⟩ => ⟨S4x4096x256, .f32⟩
  | .hbm, ⟨45, _⟩ => ⟨S4x4096x1024, .bf16⟩
  | .hbm, ⟨46, _⟩ => ⟨S4x256x4096, .f32⟩
  | .hbm, ⟨47, _⟩ => ⟨S4x256x4096, .f32⟩
  | .hbm, ⟨48, _⟩ => ⟨S4x256x4096, .f32⟩
  | .hbm, ⟨49, _⟩ => ⟨S4x256x4096, .f32⟩
  | .hbm, ⟨50, _⟩ => ⟨S4x256x4096, .f32⟩
  | .hbm, ⟨51, _⟩ => ⟨S4x256x4096, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩

abbrev nD : Nat := 1
abbrev τ : Topo := Topo.v7x

variable {F : FTy → Type} [FloatOps F]
-- ==== Kernel4.lean ====
abbrev S4x4096x1024 : Shape := ⟨3, ![4, 4096, 1024]⟩
abbrev S4x6144 : Shape := ⟨2, ![4, 6144]⟩
abbrev S1x1024 : Shape := ⟨2, ![1, 1024]⟩
abbrev S1x1024x8768 : Shape := ⟨3, ![1, 1024, 8768]⟩
abbrev S1024x8768 : Shape := ⟨2, ![1024, 8768]⟩
abbrev S1024x1024 : Shape := ⟨2, ![1024, 1024]⟩
abbrev S1024x256 : Shape := ⟨2, ![1024, 256]⟩
abbrev S256x1024 : Shape := ⟨2, ![256, 1024]⟩
abbrev S1024x48 : Shape := ⟨2, ![1024, 48]⟩
abbrev S1024x3072 : Shape := ⟨2, ![1024, 3072]⟩
abbrev S1024x8 : Shape := ⟨2, ![1024, 8]⟩
abbrev S1024x2048 : Shape := ⟨2, ![1024, 2048]⟩
abbrev S_ : Shape := ⟨0, ![]⟩
abbrev S1024x64 : Shape := ⟨2, ![1024, 64]⟩
abbrev S1024x128 : Shape := ⟨2, ![1024, 128]⟩
abbrev S4x6x1x1024 : Shape := ⟨4, ![4, 6, 1, 1024]⟩
abbrev S4x4096x3072 : Shape := ⟨3, ![4, 4096, 3072]⟩
abbrev S1x512x1024 : Shape := ⟨3, ![1, 512, 1024]⟩
abbrev S1x6x1x1024 : Shape := ⟨4, ![1, 6, 1, 1024]⟩
abbrev S1x512x3072 : Shape := ⟨3, ![1, 512, 3072]⟩
abbrev S512x1024 : Shape := ⟨2, ![512, 1024]⟩
abbrev S1x1x1x1024 : Shape := ⟨4, ![1, 1, 1, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1x512x512 : Shape := ⟨3, ![1, 512, 512]⟩

abbrev nBuf : Space → Nat
  | .hbm => 30
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S4x6144, .f32⟩
  | .hbm, ⟨2, _⟩ => ⟨S1x1024, .f32⟩
  | .hbm, ⟨3, _⟩ => ⟨S1x1024x8768, .f32⟩
  | .hbm, ⟨4, _⟩ => ⟨S1024x8768, .f32⟩
  | .hbm, ⟨5, _⟩ => ⟨S1024x8768, .bf16⟩
  | .hbm, ⟨6, _⟩ => ⟨S1024x1024, .bf16⟩
  | .hbm, ⟨7, _⟩ => ⟨S1024x256, .bf16⟩
  | .hbm, ⟨8, _⟩ => ⟨S256x1024, .bf16⟩
  | .hbm, ⟨9, _⟩ => ⟨S1024x256, .bf16⟩
  | .hbm, ⟨10, _⟩ => ⟨S256x1024, .bf16⟩
  | .hbm, ⟨11, _⟩ => ⟨S1024x256, .bf16⟩
  | .hbm, ⟨12, _⟩ => ⟨S256x1024, .bf16⟩
  | .hbm, ⟨13, _⟩ => ⟨S1024x256, .bf16⟩
  | .hbm, ⟨14, _⟩ => ⟨S256x1024, .bf16⟩
  | .hbm, ⟨15, _⟩ => ⟨S1024x256, .bf16⟩
  | .hbm, ⟨16, _⟩ => ⟨S256x1024, .bf16⟩
  | .hbm, ⟨17, _⟩ => ⟨S1024x256, .bf16⟩
  | .hbm, ⟨18, _⟩ => ⟨S256x1024, .bf16⟩
  | .hbm, ⟨19, _⟩ => ⟨S1024x48, .bf16⟩
  | .hbm, ⟨20, _⟩ => ⟨S1024x3072, .bf16⟩
  | .hbm, ⟨21, _⟩ => ⟨S1024x1024, .bf16⟩
  | .hbm, ⟨22, _⟩ => ⟨S1024x8, .bf16⟩
  | .hbm, ⟨23, _⟩ => ⟨S1024x8, .bf16⟩
  | .hbm, ⟨24, _⟩ => ⟨S1024x2048, .bf16⟩
  | .hbm, ⟨25, _⟩ => ⟨S_, .bf16⟩
  | .hbm, ⟨26, _⟩ => ⟨S1024x64, .bf16⟩
  | .hbm, ⟨27, _⟩ => ⟨S1024x128, .bf16⟩
  | .hbm, ⟨28, _⟩ => ⟨S4x6x1x1024, .f32⟩
  | .hbm, ⟨29, _⟩ => ⟨S4x4096x3072, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1x1024, .f32⟩
  | .local _ .vmem, ⟨3, _⟩ => ⟨S1x6x1x1024, .f32⟩
  | .local _ .vmem, ⟨4, _⟩ => ⟨S1x1024, .f32⟩
  | .local _ .vmem, ⟨5, _⟩ => ⟨S1024x3072, .bf16⟩
  | .local _ .vmem, ⟨6, _⟩ => ⟨S1x512x3072, .f32⟩
  | .local _ .vmem, ⟨7, _⟩ => ⟨S1x512x3072, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S4x4096x1024 : Shape := ⟨3, ![4, 4096, 1024]⟩
abbrev S4x6144 : Shape := ⟨2, ![4, 6144]⟩
abbrev S1x1024 : Shape := ⟨2, ![1, 1024]⟩
abbrev S1x1024x8768 : Shape := ⟨3, ![1, 1024, 8768]⟩
abbrev S4x1x6144 : Shape := ⟨3, ![4, 1, 6144]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1024 : Shape := ⟨1, ![1024]⟩
abbrev S1x1x1024 : Shape := ⟨3, ![1, 1, 1024]⟩
abbrev S1024x8768 : Shape := ⟨2, ![1024, 8768]⟩
abbrev S4x4096x8768 : Shape := ⟨3, ![4, 4096, 8768]⟩
abbrev S4x4096x3072 : Shape := ⟨3, ![4, 4096, 3072]⟩

abbrev nBuf : Space → Nat
  | .hbm => 38
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x6144, .f32⟩
  | .hbm, ⟨2, _⟩ => ⟨S1x1024, .f32⟩
  | .hbm, ⟨3, _⟩ => ⟨S1x1024x8768, .f32⟩
  | .hbm, ⟨4, _⟩ => ⟨S4x1x6144, .f32⟩
  | .hbm, ⟨5, _⟩ => ⟨S4x1x1024, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x4096x1024, .f32⟩
  | .hbm, ⟨12, _⟩ => ⟨S_, .f32⟩
  | .hbm, ⟨13, _⟩ => ⟨S4x4096, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S4x4096x1, .f32⟩
  | .hbm, ⟨22, _⟩ => ⟨S4x4096x1024, .f32⟩
  | .hbm, ⟨23, _⟩ => ⟨S4x4096x1024, .f32⟩
  | .hbm, ⟨24, _⟩ => ⟨S1024, .f32⟩
  | .hbm, ⟨25, _⟩ => ⟨S1x1x1024, .f32⟩
  | .hbm, ⟨26, _⟩ => ⟨S4x4096x1024, .f32⟩
  | .hbm, ⟨27, _⟩ => ⟨S4x4096x1024, .f32⟩
  | .hbm, ⟨28, _⟩ => ⟨S_, .f32⟩
  | .hbm, ⟨29, _⟩ => ⟨S4x1x1024, .f32⟩
  | .hbm, ⟨30, _⟩ => ⟨S4x1x1024, .f32⟩
  | .hbm, ⟨31, _⟩ => ⟨S4x4096x1024, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S1024x8768, .f32⟩
  | .hbm, ⟨36, _⟩ => ⟨S4x4096x8768, .f32⟩
  | .hbm, ⟨37, _⟩ => ⟨S4x4096x3072, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Kernel5.lean ====
abbrev S4x4096x1024 : Shape := ⟨3, ![4, 4096, 1024]⟩
abbrev S4x6144 : Shape := ⟨2, ![4, 6144]⟩
abbrev S1x1024 : Shape := ⟨2, ![1, 1024]⟩
abbrev S1x1024x8768 : Shape := ⟨3, ![1, 1024, 8768]⟩
abbrev S1024x8768 : Shape := ⟨2, ![1024, 8768]⟩
abbrev S1024x1024 : Shape := ⟨2, ![1024, 1024]⟩
abbrev S1024x256 : Shape := ⟨2, ![1024, 256]⟩
abbrev S256x1024 : Shape := ⟨2, ![256, 1024]⟩
abbrev S1024x48 : Shape := ⟨2, ![1024, 48]⟩
abbrev S1024x3072 : Shape := ⟨2, ![1024, 3072]⟩
abbrev S1024x8 : Shape := ⟨2, ![1024, 8]⟩
abbrev S1024x2048 : Shape := ⟨2, ![1024, 2048]⟩
abbrev S_ : Shape := ⟨0, ![]⟩
abbrev S1024x64 : Shape := ⟨2, ![1024, 64]⟩
abbrev S1024x128 : Shape := ⟨2, ![1024, 128]⟩
abbrev S4x6x1x1024 : Shape := ⟨4, ![4, 6, 1, 1024]⟩
abbrev S4x4096x2048 : Shape := ⟨3, ![4, 4096, 2048]⟩
abbrev S4x4096x128 : Shape := ⟨3, ![4, 4096, 128]⟩
abbrev S1x512x1024 : Shape := ⟨3, ![1, 512, 1024]⟩
abbrev S1x6x1x1024 : Shape := ⟨4, ![1, 6, 1, 1024]⟩
abbrev S1x512x2048 : Shape := ⟨3, ![1, 512, 2048]⟩
abbrev S1x512x128 : Shape := ⟨3, ![1, 512, 128]⟩
abbrev S512x1024 : Shape := ⟨2, ![512, 1024]⟩
abbrev S1x1x1x1024 : Shape := ⟨4, ![1, 1, 1, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1x512x512 : Shape := ⟨3, ![1, 512, 512]⟩
abbrev S512x128 : Shape := ⟨2, ![512, 128]⟩

abbrev nBuf : Space → Nat
  | .hbm => 32
  | .vmem => 14
  | .smem => 0
  | _ => 0

abbrev bufTy : (tb : Table) → Fin (tcTables nBuf tb) → BufTy
  | .hbm, ⟨0, _⟩ => ⟨S4x4096x1024, .f32⟩
  | .hbm, ⟨1, _⟩ => ⟨S4x6144, .f32⟩
  | .hbm, ⟨2, _⟩ => ⟨S1x1024, .f32⟩
  | .hbm, ⟨3, _⟩ => ⟨S1x1024x8768, .f32⟩
  | .hbm, ⟨4, _⟩ => ⟨S1024x8768, .f32⟩
  | .hbm, ⟨5, _⟩ => ⟨S1024x8768, .bf16⟩
  | .hbm, ⟨6, _⟩ => ⟨S1024x1024, .bf16⟩
  | .hbm, ⟨7, _⟩ => ⟨S1024x256, .bf16⟩
  | .hbm, ⟨8, _⟩ => ⟨S256x1024, .bf16⟩
  | .hbm, ⟨9, _⟩ => ⟨S1024x256, .bf16⟩
  | .hbm, ⟨10, _⟩ => ⟨S256x1024, .bf16⟩
  | .hbm, ⟨11, _⟩ => ⟨S1024x256, .bf16⟩
  | .hbm, ⟨12, _⟩ => ⟨S256x1024, .bf16⟩
  | .hbm, ⟨13, _⟩ => ⟨S1024x256, .bf16⟩
  | .hbm, ⟨14, _⟩ => ⟨S256x1024, .bf16⟩
  | .hbm, ⟨15, _⟩ => ⟨S1024x256, .bf16⟩
  | .hbm, ⟨16, _⟩ => ⟨S256x1024, .bf16⟩
  | .hbm, ⟨17, _⟩ => ⟨S1024x256, .bf16⟩
  | .hbm, ⟨18, _⟩ => ⟨S256x1024, .bf16⟩
  | .hbm, ⟨19, _⟩ => ⟨S1024x48, .bf16⟩
  | .hbm, ⟨20, _⟩ => ⟨S1024x3072, .bf16⟩
  | .hbm, ⟨21, _⟩ => ⟨S1024x1024, .bf16⟩
  | .hbm, ⟨22, _⟩ => ⟨S1024x8, .bf16⟩
  | .hbm, ⟨23, _⟩ => ⟨S1024x8, .bf16⟩
  | .hbm, ⟨24, _⟩ => ⟨S1024x2048, .bf16⟩
  | .hbm, ⟨25, _⟩ => ⟨S_, .bf16⟩
  | .hbm, ⟨26, _⟩ => ⟨S1024x64, .bf16⟩
  | .hbm, ⟨27, _⟩ => ⟨S1024x128, .bf16⟩
  | .hbm, ⟨28, _⟩ => ⟨S4x6x1x1024, .f32⟩
  | .hbm, ⟨29, _⟩ => ⟨S4x4096x1024, .f32⟩
  | .hbm, ⟨30, _⟩ => ⟨S4x4096x2048, .f32⟩
  | .hbm, ⟨31, _⟩ => ⟨S4x4096x128, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1x1024, .f32⟩
  | .local _ .vmem, ⟨3, _⟩ => ⟨S1x6x1x1024, .f32⟩
  | .local _ .vmem, ⟨4, _⟩ => ⟨S1x1024, .f32⟩
  | .local _ .vmem, ⟨5, _⟩ => ⟨S1024x1024, .bf16⟩
  | .local _ .vmem, ⟨6, _⟩ => ⟨S1024x2048, .bf16⟩
  | .local _ .vmem, ⟨7, _⟩ => ⟨S1024x128, .bf16⟩
  | .local _ .vmem, ⟨8, _⟩ => ⟨S1x512x1024, .f32⟩
  | .local _ .vmem, ⟨9, _⟩ => ⟨S1x512x1024, .f32⟩
  | .local _ .vmem, ⟨10, _⟩ => ⟨S1x512x2048, .f32⟩
  | .local _ .vmem, ⟨11, _⟩ => ⟨S1x512x2048, .f32⟩
  | .local _ .vmem, ⟨12, _⟩ => ⟨S1x512x128, .f32⟩
  | .local _ .vmem, ⟨13, _⟩ => ⟨S1x512x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24_0 : Ref sig .tc := ⟨.hbm, 29, rfl⟩
abbrev main_v24_1 : Ref sig .tc := ⟨.hbm, 30, rfl⟩
abbrev main_v24_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference5Ideal.lean ====
abbrev S4x4096x1024 : Shape := ⟨3, ![4, 4096, 1024]⟩
abbrev S4x6144 : Shape := ⟨2, ![4, 6144]⟩
abbrev S1x1024 : Shape := ⟨2, ![1, 1024]⟩
abbrev S1x1024x8768 : Shape := ⟨3, ![1, 1024, 8768]⟩
abbrev S4x1x6144 : Shape := ⟨3, ![4, 1, 6144]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1024 : Shape := ⟨1, ![1024]⟩
abbrev S1x1x1024 : Shape := ⟨3, ![1, 1, 1024]⟩
abbrev S1024x8768 : Shape := ⟨2, ![1024, 8768]⟩
abbrev S4x4096x8768 : Shape := ⟨3, ![4, 4096, 8768]⟩
abbrev S4x4096x48 : Shape := ⟨3, ![4, 4096, 48]⟩
abbrev S4x4096x8 : Shape := ⟨3, ![4, 4096, 8]⟩
abbrev S4x4096x2048 : Shape := ⟨3, ![4, 4096, 2048]⟩
abbrev S4x4096x64 : Shape := ⟨3, ![4, 4096, 64]⟩
abbrev S4x4096x128 : Shape := ⟨3, ![4, 4096, 128]⟩

abbrev nBuf : Space → Nat
  | .hbm => 45
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x6144, .f32⟩
  | .hbm, ⟨2, _⟩ => ⟨S1x1024, .f32⟩
  | .hbm, ⟨3, _⟩ => ⟨S1x1024x8768, .f32⟩
  | .hbm, ⟨4, _⟩ => ⟨S4x1x6144, .f32⟩
  | .hbm, ⟨5, _⟩ => ⟨S4x1x1024, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x4096x1024, .f32⟩
  | .hbm, ⟨12, _⟩ => ⟨S_, .f32⟩
  | .hbm, ⟨13, _⟩ => ⟨S4x4096, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S4x4096x1, .f32⟩
  | .hbm, ⟨22, _⟩ => ⟨S4x4096x1024, .f32⟩
  | .hbm, ⟨23, _⟩ => ⟨S4x4096x1024, .f32⟩
  | .hbm, ⟨24, _⟩ => ⟨S1024, .f32⟩
  | .hbm, ⟨25, _⟩ => ⟨S1x1x1024, .f32⟩
  | .hbm, ⟨26, _⟩ => ⟨S4x4096x1024, .f32⟩
  | .hbm, ⟨27, _⟩ => ⟨S4x4096x1024, .f32⟩
  | .hbm, ⟨28, _⟩ => ⟨S_, .f32⟩
  | .hbm, ⟨29, _⟩ => ⟨S4x1x1024, .f32⟩
  | .hbm, ⟨30, _⟩ => ⟨S4x1x1024, .f32⟩
  | .hbm, ⟨31, _⟩ => ⟨S4x4096x1024, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S1024x8768, .f32⟩
  | .hbm, ⟨36, _⟩ => ⟨S4x4096x8768, .f32⟩
  | .hbm, ⟨37, _⟩ => ⟨S4x4096x48, .f32⟩
  | .hbm, ⟨38, _⟩ => ⟨S4x4096x1024, .f32⟩
  | .hbm, ⟨39, _⟩ => ⟨S4x4096x8, .f32⟩
  | .hbm, ⟨40, _⟩ => ⟨S4x4096x8, .f32⟩
  | .hbm, ⟨41, _⟩ => ⟨S4x4096x2048, .f32⟩
  | .hbm, ⟨42, _⟩ => ⟨S_, .f32⟩
  | .hbm, ⟨43, _⟩ => ⟨S4x4096x64, .f32⟩
  | .hbm, ⟨44, _⟩ => ⟨S4x4096x128, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]
-- ==== Kernel6.lean ====
abbrev S128x1x1024 : Shape := ⟨3, ![128, 1, 1024]⟩
abbrev S1x128x1024 : Shape := ⟨3, ![1, 128, 1024]⟩
abbrev S128x1024 : Shape := ⟨2, ![128, 1024]⟩
abbrev S1x128x2048 : Shape := ⟨3, ![1, 128, 2048]⟩
abbrev S128x6144 : Shape := ⟨2, ![128, 6144]⟩
abbrev S1x1024 : Shape := ⟨2, ![1, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024 : Shape := ⟨1, ![1024]⟩
abbrev S128x6x1024 : Shape := ⟨3, ![128, 6, 1024]⟩
abbrev S6x128x1024 : Shape := ⟨3, ![6, 128, 1024]⟩
abbrev S1x6x128x1024 : Shape := ⟨4, ![1, 6, 128, 1024]⟩
abbrev S1024x1024 : Shape := ⟨2, ![1024, 1024]⟩
abbrev S1024x4096 : Shape := ⟨2, ![1024, 4096]⟩
abbrev S4096x1024 : Shape := ⟨2, ![4096, 1024]⟩
abbrev S1024x2048 : Shape := ⟨2, ![1024, 2048]⟩
abbrev S2048x1024 : Shape := ⟨2, ![2048, 1024]⟩
abbrev S1x1x128x1024 : Shape := ⟨4, ![1, 1, 128, 1024]⟩
abbrev S128 : Shape := ⟨1, ![128]⟩
abbrev S128x1 : Shape := ⟨2, ![128, 1]⟩
abbrev S128x2048 : Shape := ⟨2, ![128, 2048]⟩

abbrev nBuf : Space → Nat
  | .hbm => 23
  | .vmem => 16
  | .smem => 0
  | _ => 0

abbrev bufTy : (tb : Table) → Fin (tcTables nBuf tb) → BufTy
  | .hbm, ⟨0, _⟩ => ⟨S128x1x1024, .f32⟩
  | .hbm, ⟨1, _⟩ => ⟨S1x128x1024, .f32⟩
  | .hbm, ⟨2, _⟩ => ⟨S128x1024, .f32⟩
  | .hbm, ⟨3, _⟩ => ⟨S1x128x2048, .f32⟩
  | .hbm, ⟨4, _⟩ => ⟨S128x6144, .f32⟩
  | .hbm, ⟨5, _⟩ => ⟨S1x1024, .f32⟩
  | .hbm, ⟨6, _⟩ => ⟨S1x1024x1024, .f32⟩
  | .hbm, ⟨7, _⟩ => ⟨S1x1024x4096, .f32⟩
  | .hbm, ⟨8, _⟩ => ⟨S1x4096x1024, .f32⟩
  | .hbm, ⟨9, _⟩ => ⟨S1024, .f32⟩
  | .hbm, ⟨10, _⟩ => ⟨S128x6x1024, .f32⟩
  | .hbm, ⟨11, _⟩ => ⟨S6x128x1024, .f32⟩
  | .hbm, ⟨12, _⟩ => ⟨S1x6x128x1024, .f32⟩
  | .hbm, ⟨13, _⟩ => ⟨S1x1024, .f32⟩
  | .hbm, ⟨14, _⟩ => ⟨S1024x1024, .f32⟩
  | .hbm, ⟨15, _⟩ => ⟨S1024x1024, .bf16⟩
  | .hbm, ⟨16, _⟩ => ⟨S1024x4096, .f32⟩
  | .hbm, ⟨17, _⟩ => ⟨S1024x4096, .bf16⟩
  | .hbm, ⟨18, _⟩ => ⟨S4096x1024, .f32⟩
  | .hbm, ⟨19, _⟩ => ⟨S4096x1024, .bf16⟩
  | .hbm, ⟨20, _⟩ => ⟨S1x128x1024, .f32⟩
  | .hbm, ⟨21, _⟩ => ⟨S1x128x1024, .f32⟩
  | .hbm, ⟨22, _⟩ => ⟨S1x128x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x2048, .f32⟩
  | .local _ .vmem, ⟨4, _⟩ => ⟨S1x6x128x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .bf16⟩
  | .local _ .vmem, ⟨8, _⟩ => ⟨S1024x2048, .bf16⟩
  | .local _ .vmem, ⟨9, _⟩ => ⟨S1024x2048, .bf16⟩
  | .local _ .vmem, ⟨10, _⟩ => ⟨S2048x1024, .bf16⟩
  | .local _ .vmem, ⟨11, _⟩ => ⟨S2048x1024, .bf16⟩
  | .local _ .vmem, ⟨12, _⟩ => ⟨S1x128x1024, .f32⟩
  | .local _ .vmem, ⟨13, _⟩ => ⟨S128x1024, .f32⟩
  | .local _ .vmem, ⟨14, _⟩ => ⟨S128x1024, .bf16⟩
  | .local _ .vmem, ⟨15, _⟩ => ⟨S128x1024, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem8_1 : DmaSem sig := 9
abbrev cc0_sem9_0 : DmaSem sig := 10
abbrev cc0_sem9_1 : DmaSem sig := 11
abbrev cc0_sem10_0 : DmaSem sig := 12

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v19 : BitVec 1 := Scalar.cmpi .eq arg2 c1_i32
  let v20 : BitVec 32 := Scalar.extui v19
  let c0_i32_12 : BitVec 32 := 0#32
  let v21 : BitVec 1 := Scalar.cmpi .ne v20 c0_i32_12
  v21

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1x128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]

abbrev stage0_4 : Fin 1 → Memref sig .tc .vmem S1x6x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1024x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S2048x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, false, true]

abbrev stage0_10 : Fin 1 → Memref sig .tc .vmem S1x128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true, false]
-- ==== Reference6Ideal.lean ====
abbrev S128x1x1024 : Shape := ⟨3, ![128, 1, 1024]⟩
abbrev S1x128x1024 : Shape := ⟨3, ![1, 128, 1024]⟩
abbrev S128x1024 : Shape := ⟨2, ![128, 1024]⟩
abbrev S1x128x2048 : Shape := ⟨3, ![1, 128, 2048]⟩
abbrev S128x6144 : Shape := ⟨2, ![128, 6144]⟩
abbrev S1x1024 : Shape := ⟨2, ![1, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024 : Shape := ⟨1, ![1024]⟩
abbrev S1x128x6144 : Shape := ⟨3, ![1, 128, 6144]⟩
abbrev S_ : Shape := ⟨0, ![]⟩
abbrev S1024x1024 : Shape := ⟨2, ![1024, 1024]⟩
abbrev S1x128 : Shape := ⟨2, ![1, 128]⟩
abbrev S1x128x1 : Shape := ⟨3, ![1, 128, 1]⟩
abbrev S1x1x1024 : Shape := ⟨3, ![1, 1, 1024]⟩
abbrev S1024x4096 : Shape := ⟨2, ![1024, 4096]⟩
abbrev S1x128x4096 : Shape := ⟨3, ![1, 128, 4096]⟩
abbrev S4096x1024 : Shape := ⟨2, ![4096, 1024]⟩

abbrev nBuf : Space → Nat
  | .hbm => 84
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1x128x1024, .f32⟩
  | .hbm, ⟨2, _⟩ => ⟨S128x1024, .f32⟩
  | .hbm, ⟨3, _⟩ => ⟨S1x128x2048, .f32⟩
  | .hbm, ⟨4, _⟩ => ⟨S128x6144, .f32⟩
  | .hbm, ⟨5, _⟩ => ⟨S1x1024, .f32⟩
  | .hbm, ⟨6, _⟩ => ⟨S1x1024x1024, .f32⟩
  | .hbm, ⟨7, _⟩ => ⟨S1x1024x4096, .f32⟩
  | .hbm, ⟨8, _⟩ => ⟨S1x4096x1024, .f32⟩
  | .hbm, ⟨9, _⟩ => ⟨S1024, .f32⟩
  | .hbm, ⟨10, _⟩ => ⟨S1x128x6144, .f32⟩
  | .hbm, ⟨11, _⟩ => ⟨S1x128x1024, .f32⟩
  | .hbm, ⟨12, _⟩ => ⟨S1x128x1024, .f32⟩
  | .hbm, ⟨13, _⟩ => ⟨S1x128x1024, .f32⟩
  | .hbm, ⟨14, _⟩ => ⟨S1x128x1024, .f32⟩
  | .hbm, ⟨15, _⟩ => ⟨S1x128x1024, .f32⟩
  | .hbm, ⟨16, _⟩ => ⟨S1x128x1024, .f32⟩
  | .hbm, ⟨17, _⟩ => ⟨S1x128x2048, .f32⟩
  | .hbm, ⟨18, _⟩ => ⟨S1x128x2048, .f32⟩
  | .hbm, ⟨19, _⟩ => ⟨S_, .f32⟩
  | .hbm, ⟨20, _⟩ => ⟨S1x128x2048, .f32⟩
  | .hbm, ⟨21, _⟩ => ⟨S1x128x2048, .f32⟩
  | .hbm, ⟨22, _⟩ => ⟨S_, .f32⟩
  | .hbm, ⟨23, _⟩ => ⟨S1x128x2048, .f32⟩
  | .hbm, ⟨24, _⟩ => ⟨S1x128x2048, .f32⟩
  | .hbm, ⟨25, _⟩ => ⟨S1x128x1024, .f32⟩
  | .hbm, ⟨26, _⟩ => ⟨S1x128x1024, .f32⟩
  | .hbm, ⟨27, _⟩ => ⟨S1x128x1024, .f32⟩
  | .hbm, ⟨28, _⟩ => ⟨S1x128x1024, .f32⟩
  | .hbm, ⟨29, _⟩ => ⟨S1x128x1024, .f32⟩
  | .hbm, ⟨30, _⟩ => ⟨S1x128x1024, .f32⟩
  | .hbm, ⟨31, _⟩ => ⟨S1x128x1024, .f32⟩
  | .hbm, ⟨32, _⟩ => ⟨S1024x1024, .f32⟩
  | .hbm, ⟨33, _⟩ => ⟨S1x128x1024, .f32⟩
  | .hbm, ⟨34, _⟩ => ⟨S1x128x1024, .f32⟩
  | .hbm, ⟨35, _⟩ => ⟨S1x128x1024, .f32⟩
  | .hbm, ⟨36, _⟩ => ⟨S1024, .f32⟩
  | .hbm, ⟨37, _⟩ => ⟨S1x128x1024, .f32⟩
  | .hbm, ⟨38, _⟩ => ⟨S_, .f32⟩
  | .hbm, ⟨39, _⟩ => ⟨S1x128, .f32⟩
  | .hbm, ⟨40, _⟩ => ⟨S1x128x1, .f32⟩
  | .hbm, ⟨41, _⟩ => ⟨S_, .f32⟩
  | .hbm, ⟨42, _⟩ => ⟨S1x128x1, .f32⟩
  | .hbm, ⟨43, _⟩ => ⟨S1x128x1, .f32⟩
  | .hbm, ⟨44, _⟩ => ⟨S_, .f32⟩
  | .hbm, ⟨45, _⟩ => ⟨S1x128x1, .f32⟩
  | .hbm, ⟨46, _⟩ => ⟨S1x128x1, .f32⟩
  | .hbm, ⟨47, _⟩ => ⟨S1x128x1, .f32⟩
  | .hbm, ⟨48, _⟩ => ⟨S1x128x1024, .f32⟩
  | .hbm, ⟨49, _⟩ => ⟨S1x128x1024, .f32⟩
  | .hbm, ⟨50, _⟩ => ⟨S1x1x1024, .f32⟩
  | .hbm, ⟨51, _⟩ => ⟨S1x128x1024, .f32⟩
  | .hbm, ⟨52, _⟩ => ⟨S1x128x1024, .f32⟩
  | .hbm, ⟨53, _⟩ => ⟨S_, .f32⟩
  | .hbm, ⟨54, _⟩ => ⟨S1x128x1024, .f32⟩
  | .hbm, ⟨55, _⟩ => ⟨S1x128x1024, .f32⟩
  | .hbm, ⟨56, _⟩ => ⟨S1x128x1024, .f32⟩
  | .hbm, ⟨57, _⟩ => ⟨S1x128x1024, .f32⟩
  | .hbm, ⟨58, _⟩ => ⟨S1024x4096, .f32⟩
  | .hbm, ⟨59, _⟩ => ⟨S1x128x4096, .f32⟩
  | .hbm, ⟨60, _⟩ => ⟨S_, .f32⟩
  | .hbm, ⟨61, _⟩ => ⟨S1x128x4096, .f32⟩
  | .hbm, ⟨62, _⟩ => ⟨S1x128x4096, .f32⟩
  | .hbm, ⟨63, _⟩ => ⟨S1x128x4096, .f32⟩
  | .hbm, ⟨64, _⟩ => ⟨S4096x1024, .f32⟩
  | .hbm, ⟨65, _⟩ => ⟨S1x128x1024, .f32⟩
  | .hbm, ⟨66, _⟩ => ⟨S1x128x1024, .f32⟩
  | .hbm, ⟨67, _⟩ => ⟨S1x128x1024, .f32⟩
  | .hbm, ⟨68, _⟩ => ⟨S1x128x1024, .f32⟩
  | .hbm, ⟨69, _⟩ => ⟨S_, .f32⟩
  | .hbm, ⟨70, _⟩ => ⟨S1x128, .f32⟩
  | .hbm, ⟨71, _⟩ => ⟨S1x128x1, .f32⟩
  | .hbm, ⟨72, _⟩ => ⟨S_, .f32⟩
  | .hbm, ⟨73, _⟩ => ⟨S1x128x1, .f32⟩
  | .hbm, ⟨74, _⟩ => ⟨S1x128x1, .f32⟩
  | .hbm, ⟨75, _⟩ => ⟨S_, .f32⟩
  | .hbm, ⟨76, _⟩ => ⟨S1x128x1, .f32⟩
  | .hbm, ⟨77, _⟩ => ⟨S1x128x1, .f32⟩
  | .hbm, ⟨78, _⟩ => ⟨S1x128x1, .f32⟩
  | .hbm, ⟨79, _⟩ => ⟨S1x128x1024, .f32⟩
  | .hbm, ⟨80, _⟩ => ⟨S1x128x1024, .f32⟩
  | .hbm, ⟨81, _⟩ => ⟨S1x1x1024, .f32⟩
  | .hbm, ⟨82, _⟩ => ⟨S1x128x1024, .f32⟩
  | .hbm, ⟨83, _⟩ => ⟨S1x128x1024, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_call0_cst : Ref sig .tc := ⟨.hbm, 60, rfl⟩
abbrev main_call0_v0 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_5 : Ref sig .tc := ⟨.hbm, 69, rfl⟩
abbrev main_v51 : Ref sig .tc := ⟨.hbm, 70, rfl⟩
abbrev main_v52 : Ref sig .tc := ⟨.hbm, 71, rfl⟩
abbrev main_cst_6 : Ref sig .tc := ⟨.hbm, 72, rfl⟩
abbrev main_v53 : Ref sig .tc := ⟨.hbm, 73, rfl⟩
abbrev main_v54 : Ref sig .tc := ⟨.hbm, 74, rfl⟩
abbrev main_cst_7 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]
-- ==== Kernel7.lean ====
abbrev S128x1x1024 : Shape := ⟨3, ![128, 1, 1024]⟩
abbrev S128x6144 : Shape := ⟨2, ![128, 6144]⟩
abbrev S1x1024 : Shape := ⟨2, ![1, 1024]⟩
abbrev S1x1024x8768 : Shape := ⟨3, ![1, 1024, 8768]⟩
abbrev S1024x8768 : Shape := ⟨2, ![1024, 8768]⟩
abbrev S1024x1024 : Shape := ⟨2, ![1024, 1024]⟩
abbrev S1024x256 : Shape := ⟨2, ![1024, 256]⟩
abbrev S256x1024 : Shape := ⟨2, ![256, 1024]⟩
abbrev S1024x48 : Shape := ⟨2, ![1024, 48]⟩
abbrev S1024x3072 : Shape := ⟨2, ![1024, 3072]⟩
abbrev S1024x8 : Shape := ⟨2, ![1024, 8]⟩
abbrev S1024x2048 : Shape := ⟨2, ![1024, 2048]⟩
abbrev S_ : Shape := ⟨0, ![]⟩
abbrev S1024x64 : Shape := ⟨2, ![1024, 64]⟩
abbrev S1024x128 : Shape := ⟨2, ![1024, 128]⟩
abbrev S128x6x1024 : Shape := ⟨3, ![128, 6, 1024]⟩
abbrev S6x128x1024 : Shape := ⟨3, ![6, 128, 1024]⟩
abbrev S1x6x128x1024 : Shape := ⟨4, ![1, 6, 128, 1024]⟩
abbrev S1x128x1024 : Shape := ⟨3, ![1, 128, 1024]⟩
abbrev S1x256x128 : Shape := ⟨3, ![1, 256, 128]⟩
abbrev S128x1024 : Shape := ⟨2, ![128, 1024]⟩
abbrev S1x1x128x1024 : Shape := ⟨4, ![1, 1, 128, 1024]⟩
abbrev S128 : Shape := ⟨1, ![128]⟩
abbrev S128x1 : Shape := ⟨2, ![128, 1]⟩
abbrev S1024x512 : Shape := ⟨2, ![1024, 512]⟩
abbrev S128x512 : Shape := ⟨2, ![128, 512]⟩
abbrev S1x128x512 : Shape := ⟨3, ![1, 128, 512]⟩
abbrev S256x128 : Shape := ⟨2, ![256, 128]⟩

abbrev nBuf : Space → Nat
  | .hbm => 39
  | .vmem => 17
  | .smem => 0
  | _ => 0

abbrev bufTy : (tb : Table) → Fin (tcTables nBuf tb) → BufTy
  | .hbm, ⟨0, _⟩ => ⟨S128x1x1024, .f32⟩
  | .hbm, ⟨1, _⟩ => ⟨S128x6144, .f32⟩
  | .hbm, ⟨2, _⟩ => ⟨S1x1024, .f32⟩
  | .hbm, ⟨3, _⟩ => ⟨S1x1024x8768, .f32⟩
  | .hbm, ⟨4, _⟩ => ⟨S1024x8768, .f32⟩
  | .hbm, ⟨5, _⟩ => ⟨S1024x8768, .bf16⟩
  | .hbm, ⟨6, _⟩ => ⟨S1024x1024, .bf16⟩
  | .hbm, ⟨7, _⟩ => ⟨S1024x256, .bf16⟩
  | .hbm, ⟨8, _⟩ => ⟨S256x1024, .bf16⟩
  | .hbm, ⟨9, _⟩ => ⟨S1024x256, .bf16⟩
  | .hbm, ⟨10, _⟩ => ⟨S256x1024, .bf16⟩
  | .hbm, ⟨11, _⟩ => ⟨S1024x256, .bf16⟩
  | .hbm, ⟨12, _⟩ => ⟨S256x1024, .bf16⟩
  | .hbm, ⟨13, _⟩ => ⟨S1024x256, .bf16⟩
  | .hbm, ⟨14, _⟩ => ⟨S256x1024, .bf16⟩
  | .hbm, ⟨15, _⟩ => ⟨S1024x256, .bf16⟩
  | .hbm, ⟨16, _⟩ => ⟨S256x1024, .bf16⟩
  | .hbm, ⟨17, _⟩ => ⟨S1024x256, .bf16⟩
  | .hbm, ⟨18, _⟩ => ⟨S256x1024, .bf16⟩
  | .hbm, ⟨19, _⟩ => ⟨S1024x48, .bf16⟩
  | .hbm, ⟨20, _⟩ => ⟨S1024x3072, .bf16⟩
  | .hbm, ⟨21, _⟩ => ⟨S1024x1024, .bf16⟩
  | .hbm, ⟨22, _⟩ => ⟨S1024x8, .bf16⟩
  | .hbm, ⟨23, _⟩ => ⟨S1024x8, .bf16⟩
  | .hbm, ⟨24, _⟩ => ⟨S1024x2048, .bf16⟩
  | .hbm, ⟨25, _⟩ => ⟨S_, .bf16⟩
  | .hbm, ⟨26, _⟩ => ⟨S1024x64, .bf16⟩
  | .hbm, ⟨27, _⟩ => ⟨S1024x128, .bf16⟩
  | .hbm, ⟨28, _⟩ => ⟨S128x6x1024, .f32⟩
  | .hbm, ⟨29, _⟩ => ⟨S6x128x1024, .f32⟩
  | .hbm, ⟨30, _⟩ => ⟨S1x6x128x1024, .f32⟩
  | .hbm, ⟨31, _⟩ => ⟨S1x128x1024, .f32⟩
  | .hbm, ⟨32, _⟩ => ⟨S1x128x1024, .bf16⟩
  | .hbm, ⟨33, _⟩ => ⟨S1x256x128, .f32⟩
  | .hbm, ⟨34, _⟩ => ⟨S1x256x128, .f32⟩
  | .hbm, ⟨35, _⟩ => ⟨S1x256x128, .f32⟩
  | .hbm, ⟨36, _⟩ => ⟨S1x256x128, .f32⟩
  | .hbm, ⟨37, _⟩ => ⟨S1x256x128, .f32⟩
  | .hbm, ⟨38, _⟩ => ⟨S1x256x128, .f32⟩
  | .local _ .vmem, ⟨0, _⟩ => ⟨S1x128x1024, .f32⟩
  | .local _ .vmem, ⟨1, _⟩ => ⟨S1x6x128x1024, .f32⟩
  | .local _ .vmem, ⟨2, _⟩ => ⟨S1x1024, .f32⟩
  | .local _ .vmem, ⟨3, _⟩ => ⟨S1024x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S1x128x1024, .bf16⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | .local _ .vmem, ⟨16, _⟩ => ⟨S1x256x128, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27_0 : Ref sig .tc := ⟨.hbm, 32, rfl⟩
abbrev main_v27_1 : Ref sig .tc := ⟨.hbm, 33, rfl⟩
abbrev main_v27_2 : Ref sig .tc := ⟨.hbm, 34, rfl⟩
abbrev main_v27_3 : Ref sig .tc := ⟨.hbm, 35, rfl⟩
abbrev main_v27_4 : Ref sig .tc := ⟨.hbm, 36, rfl⟩
abbrev main_v27_5 : Ref sig .tc := ⟨.hbm, 37, rfl⟩
abbrev main_v27_6 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x6x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]

abbrev stage0_11 : Fin 1 → Memref sig .tc .vmem S1x256x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]

abbrev stage0_12 : Fin 1 → Memref sig .tc .vmem S1x256x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true]

abbrev stage0_13 : Fin 1 → Memref sig .tc .vmem S1x256x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, true]

abbrev stage0_14 : Fin 1 → Memref sig .tc .vmem S1x256x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, true]

abbrev stage0_15 : Fin 1 → Memref sig .tc .vmem S1x256x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, true]

abbrev stage0_16 : Fin 1 → Memref sig .tc .vmem S1x256x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true, true]
-- ==== Reference7Ideal.lean ====
abbrev S128x1x1024 : Shape := ⟨3, ![128, 1, 1024]⟩
abbrev S128x6144 : Shape := ⟨2, ![128, 6144]⟩
abbrev S1x1024 : Shape := ⟨2, ![1, 1024]⟩
abbrev S1x1024x8768 : Shape := ⟨3, ![1, 1024, 8768]⟩
abbrev S1x128x6144 : Shape := ⟨3, ![1, 128, 6144]⟩
abbrev S1x128x1024 : Shape := ⟨3, ![1, 128, 1024]⟩
abbrev S_ : Shape := ⟨0, ![]⟩
abbrev S1x128 : Shape := ⟨2, ![1, 128]⟩
abbrev S1x128x1 : Shape := ⟨3, ![1, 128, 1]⟩
abbrev S1024 : Shape := ⟨1, ![1024]⟩
abbrev S1x1x1024 : Shape := ⟨3, ![1, 1, 1024]⟩
abbrev S1024x8768 : Shape := ⟨2, ![1024, 8768]⟩
abbrev S1x128x8768 : Shape := ⟨3, ![1, 128, 8768]⟩
abbrev S1x128x1536 : Shape := ⟨3, ![1, 128, 1536]⟩
abbrev S1x128x256 : Shape := ⟨3, ![1, 128, 256]⟩
abbrev S1x256x128 : Shape := ⟨3, ![1, 256, 128]⟩

abbrev nBuf : Space → Nat
  | .hbm => 51
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S128x6144, .f32⟩
  | .hbm, ⟨2, _⟩ => ⟨S1x1024, .f32⟩
  | .hbm, ⟨3, _⟩ => ⟨S1x1024x8768, .f32⟩
  | .hbm, ⟨4, _⟩ => ⟨S1x128x6144, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .hbm, ⟨8, _⟩ => ⟨S1x128x1024, .f32⟩
  | .hbm, ⟨9, _⟩ => ⟨S1x128x1024, .f32⟩
  | .hbm, ⟨10, _⟩ => ⟨S1x128x1024, .f32⟩
  | .hbm, ⟨11, _⟩ => ⟨S1x128x1024, .f32⟩
  | .hbm, ⟨12, _⟩ => ⟨S1x128x1024, .f32⟩
  | .hbm, ⟨13, _⟩ => ⟨S_, .f32⟩
  | .hbm, ⟨14, _⟩ => ⟨S1x128, .f32⟩
  | .hbm, ⟨15, _⟩ => ⟨S1x128x1, .f32⟩
  | .hbm, ⟨16, _⟩ => ⟨S_, .f32⟩
  | .hbm, ⟨17, _⟩ => ⟨S1x128x1, .f32⟩
  | .hbm, ⟨18, _⟩ => ⟨S1x128x1, .f32⟩
  | .hbm, ⟨19, _⟩ => ⟨S_, .f32⟩
  | .hbm, ⟨20, _⟩ => ⟨S1x128x1, .f32⟩
  | .hbm, ⟨21, _⟩ => ⟨S1x128x1, .f32⟩
  | .hbm, ⟨22, _⟩ => ⟨S1x128x1, .f32⟩
  | .hbm, ⟨23, _⟩ => ⟨S1x128x1024, .f32⟩
  | .hbm, ⟨24, _⟩ => ⟨S1x128x1024, .f32⟩
  | .hbm, ⟨25, _⟩ => ⟨S1024, .f32⟩
  | .hbm, ⟨26, _⟩ => ⟨S1x1x1024, .f32⟩
  | .hbm, ⟨27, _⟩ => ⟨S1x128x1024, .f32⟩
  | .hbm, ⟨28, _⟩ => ⟨S1x128x1024, .f32⟩
  | .hbm, ⟨29, _⟩ => ⟨S_, .f32⟩
  | .hbm, ⟨30, _⟩ => ⟨S1x128x1024, .f32⟩
  | .hbm, ⟨31, _⟩ => ⟨S1x128x1024, .f32⟩
  | .hbm, ⟨32, _⟩ => ⟨S1x128x1024, .f32⟩
  | .hbm, ⟨33, _⟩ => ⟨S1x128x1024, .f32⟩
  | .hbm, ⟨34, _⟩ => ⟨S1024x8768, .f32⟩
  | .hbm, ⟨35, _⟩ => ⟨S1x128x8768, .f32⟩
  | .hbm, ⟨36, _⟩ => ⟨S1x128x1024, .f32⟩
  | .hbm, ⟨37, _⟩ => ⟨S1x128x1536, .f32⟩
  | .hbm, ⟨38, _⟩ => ⟨S1x128x256, .f32⟩
  | .hbm, ⟨39, _⟩ => ⟨S1x128x256, .f32⟩
  | .hbm, ⟨40, _⟩ => ⟨S1x128x256, .f32⟩
  | .hbm, ⟨41, _⟩ => ⟨S1x128x256, .f32⟩
  | .hbm, ⟨42, _⟩ => ⟨S1x128x256, .f32⟩
  | .hbm, ⟨43, _⟩ => ⟨S1x128x256, .f32⟩
  | .hbm, ⟨44, _⟩ => ⟨S1x128x1024, .bf16⟩
  | .hbm, ⟨45, _⟩ => ⟨S1x256x128, .f32⟩
  | .hbm, ⟨46, _⟩ => ⟨S1x256x128, .f32⟩
  | .hbm, ⟨47, _⟩ => ⟨S1x256x128, .f32⟩
  | .hbm, ⟨48, _⟩ => ⟨S1x256x128, .f32⟩
  | .hbm, ⟨49, _⟩ => ⟨S1x256x128, .f32⟩
  | .hbm, ⟨50, _⟩ => ⟨S1x256x128, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩

abbrev nD : Nat := 1
abbrev τ : Topo := Topo.v7x

variable {F : FTy → Type} [FloatOps F]
-- ==== Kernel8.lean ====
abbrev S4x1024 : Shape := ⟨2, ![4, 1024]⟩
abbrev S128x1024 : Shape := ⟨2, ![128, 1024]⟩
abbrev S1x1024x6144 : Shape := ⟨3, ![1, 1024, 6144]⟩
abbrev S1x6144 : Shape := ⟨2, ![1, 6144]⟩
abbrev S_ : Shape := ⟨0, ![]⟩
abbrev S136x1024 : Shape := ⟨2, ![136, 1024]⟩
abbrev S1024x6144 : Shape := ⟨2, ![1024, 6144]⟩
abbrev S136x6144 : Shape := ⟨2, ![136, 6144]⟩
abbrev S1024x1024 : Shape := ⟨2, ![1024, 1024]⟩
abbrev S1x1024 : Shape := ⟨2, ![1, 1024]⟩

abbrev nBuf : Space → Nat
  | .hbm => 9
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S128x1024, .f32⟩
  | .hbm, ⟨2, _⟩ => ⟨S1x1024x6144, .f32⟩
  | .hbm, ⟨3, _⟩ => ⟨S1x6144, .f32⟩
  | .hbm, ⟨4, _⟩ => ⟨S_, .f32⟩
  | .hbm, ⟨5, _⟩ => ⟨S4x1024, .f32⟩
  | .hbm, ⟨6, _⟩ => ⟨S136x1024, .f32⟩
  | .hbm, ⟨7, _⟩ => ⟨S1024x6144, .f32⟩
  | .hbm, ⟨8, _⟩ => ⟨S136x6144, .f32⟩
  | .local _ .vmem, ⟨0, _⟩ => ⟨S136x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S136x1024, .f32⟩
  | .local _ .vmem, ⟨6, _⟩ => ⟨S136x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S136x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S136x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S4x1024 : Shape := ⟨2, ![4, 1024]⟩
abbrev S128x1024 : Shape := ⟨2, ![128, 1024]⟩
abbrev S1x1024x6144 : Shape := ⟨3, ![1, 1024, 6144]⟩
abbrev S1x6144 : Shape := ⟨2, ![1, 6144]⟩
abbrev S_ : Shape := ⟨0, ![]⟩
abbrev S136x1024 : Shape := ⟨2, ![136, 1024]⟩
abbrev S1024x6144 : Shape := ⟨2, ![1024, 6144]⟩
abbrev S136x6144 : Shape := ⟨2, ![136, 6144]⟩
abbrev S6144 : Shape := ⟨1, ![6144]⟩

abbrev nBuf : Space → Nat
  | .hbm => 13
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S128x1024, .f32⟩
  | .hbm, ⟨2, _⟩ => ⟨S1x1024x6144, .f32⟩
  | .hbm, ⟨3, _⟩ => ⟨S1x6144, .f32⟩
  | .hbm, ⟨4, _⟩ => ⟨S_, .f32⟩
  | .hbm, ⟨5, _⟩ => ⟨S4x1024, .f32⟩
  | .hbm, ⟨6, _⟩ => ⟨S136x1024, .f32⟩
  | .hbm, ⟨7, _⟩ => ⟨S1024x6144, .f32⟩
  | .hbm, ⟨8, _⟩ => ⟨S136x6144, .f32⟩
  | .hbm, ⟨9, _⟩ => ⟨S6144, .f32⟩
  | .hbm, ⟨10, _⟩ => ⟨S1x6144, .f32⟩
  | .hbm, ⟨11, _⟩ => ⟨S136x6144, .f32⟩
  | .hbm, ⟨12, _⟩ => ⟨S136x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel9.lean ====
abbrev S4x4096x3072 : Shape := ⟨3, ![4, 4096, 3072]⟩
abbrev S4x4096x1024 : Shape := ⟨3, ![4, 4096, 1024]⟩
abbrev S4x4096x48 : Shape := ⟨3, ![4, 4096, 48]⟩
abbrev S4x4096x8 : Shape := ⟨3, ![4, 4096, 8]⟩
abbrev S1x4x3072 : Shape := ⟨3, ![1, 4, 3072]⟩
abbrev S1x8 : Shape := ⟨2, ![1, 8]⟩
abbrev S1x128 : Shape := ⟨2, ![1, 128]⟩
abbrev S_ : Shape := ⟨0, ![]⟩
abbrev S4x4096x64 : Shape := ⟨3, ![4, 4096, 64]⟩
abbrev S4x4096x128 : Shape := ⟨3, ![4, 4096, 128]⟩
abbrev S8 : Shape := ⟨1, ![8]⟩
abbrev S1 : Shape := ⟨1, ![1]⟩
abbrev S2 : Shape := ⟨1, ![2]⟩
abbrev S4x3072 : Shape := ⟨2, ![4, 3072]⟩
abbrev S4x8x128x128 : Shape := ⟨4, ![4, 8, 128, 128]⟩
abbrev S1x128x3072 : Shape := ⟨3, ![1, 128, 3072]⟩
abbrev S1x128x1024 : Shape := ⟨3, ![1, 128, 1024]⟩
abbrev S1x128x128 : Shape := ⟨3, ![1, 128, 128]⟩
abbrev S1x8x128x128 : Shape := ⟨4, ![1, 8, 128, 128]⟩
abbrev S136x3072 : Shape := ⟨2, ![136, 3072]⟩
abbrev S8x128x128 : Shape := ⟨3, ![8, 128, 128]⟩
abbrev S8x3072 : Shape := ⟨2, ![8, 3072]⟩
abbrev S128x3072 : Shape := ⟨2, ![128, 3072]⟩
abbrev S1x3072 : Shape := ⟨2, ![1, 3072]⟩
abbrev S128x128 : Shape := ⟨2, ![128, 128]⟩
abbrev S128 : Shape := ⟨1, ![128]⟩
abbrev S128x1 : Shape := ⟨2, ![128, 1]⟩
abbrev S256x128 : Shape := ⟨2, ![256, 128]⟩
abbrev S128x256 : Shape := ⟨2, ![128, 256]⟩
abbrev S1x1 : Shape := ⟨2, ![1, 1]⟩

abbrev nBuf : Space → Nat
  | .hbm => 33
  | .vmem => 16
  | .smem => 0
  | _ => 0

abbrev bufTy : (tb : Table) → Fin (tcTables nBuf tb) → BufTy
  | .hbm, ⟨0, _⟩ => ⟨S4x4096x3072, .f32⟩
  | .hbm, ⟨1, _⟩ => ⟨S4x4096x1024, .f32⟩
  | .hbm, ⟨2, _⟩ => ⟨S4x4096x48, .f32⟩
  | .hbm, ⟨3, _⟩ => ⟨S4x4096x8, .f32⟩
  | .hbm, ⟨4, _⟩ => ⟨S4x4096x8, .f32⟩
  | .hbm, ⟨5, _⟩ => ⟨S1x4x3072, .f32⟩
  | .hbm, ⟨6, _⟩ => ⟨S1x8, .f32⟩
  | .hbm, ⟨7, _⟩ => ⟨S1x8, .f32⟩
  | .hbm, ⟨8, _⟩ => ⟨S1x128, .f32⟩
  | .hbm, ⟨9, _⟩ => ⟨S_, .f32⟩
  | .hbm, ⟨10, _⟩ => ⟨S4x4096x64, .f32⟩
  | .hbm, ⟨11, _⟩ => ⟨S4x4096x128, .f32⟩
  | .hbm, ⟨12, _⟩ => ⟨S_, .f32⟩
  | .hbm, ⟨13, _⟩ => ⟨S1x128, .f32⟩
  | .hbm, ⟨14, _⟩ => ⟨S8, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S1x128, .f32⟩
  | .hbm, ⟨21, _⟩ => ⟨S_, .f32⟩
  | .hbm, ⟨22, _⟩ => ⟨S1x128, .f32⟩
  | .hbm, ⟨23, _⟩ => ⟨S8, .f32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S2, .i32⟩
  | .hbm, ⟨29, _⟩ => ⟨S1x128, .f32⟩
  | .hbm, ⟨30, _⟩ => ⟨S4x3072, .f32⟩
  | .hbm, ⟨31, _⟩ => ⟨S4x4096x1024, .f32⟩
  | .hbm, ⟨32, _⟩ => ⟨S4x8x128x128, .f32⟩
  | .local _ .vmem, ⟨0, _⟩ => ⟨S1x128x3072, .f32⟩
  | .local _ .vmem, ⟨1, _⟩ => ⟨S1x128x3072, .f32⟩
  | .local _ .vmem, ⟨2, _⟩ => ⟨S1x128x1024, .f32⟩
  | .local _ .vmem, ⟨3, _⟩ => ⟨S1x128x1024, .f32⟩
  | .local _ .vmem, ⟨4, _⟩ => ⟨S1x128x128, .f32⟩
  | .local _ .vmem, ⟨5, _⟩ => ⟨S1x128x128, .f32⟩
  | .local _ .vmem, ⟨6, _⟩ => ⟨S4x3072, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128x1024, .f32⟩
  | .local _ .vmem, ⟨11, _⟩ => ⟨S1x128x1024, .f32⟩
  | .local _ .vmem, ⟨12, _⟩ => ⟨S1x8x128x128, .f32⟩
  | .local _ .vmem, ⟨13, _⟩ => ⟨S1x8x128x128, .f32⟩
  | .local _ .vmem, ⟨14, _⟩ => ⟨S136x3072, .f32⟩
  | .local _ .vmem, ⟨15, _⟩ => ⟨S8x128x128, .f32⟩
  | _, _ => ⟨S4x4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_c_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_c_3 : Ref sig .tc := ⟨.hbm, 24, rfl⟩
abbrev main_v10 : Ref sig .tc := ⟨.hbm, 25, rfl⟩
abbrev main_c_4 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15_0 : Ref sig .tc := ⟨.hbm, 31, rfl⟩
abbrev main_v15_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v1778 : BitVec 1 := Scalar.cmpi .eq arg1 c31_i32
  let v1779 : BitVec 32 := Scalar.extui v1778
  let c0_i32_501 : BitVec 32 := 0#32
  let v1780 : BitVec 1 := Scalar.cmpi .ne v1779 c0_i32_501
  v1780

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Kernel9Ideal.lean ====
variable {F : FTy → Type} [FloatOps F] [Named F]
def κ : String → Option EReal := fun
  | "mask" => some ⊥
  | _ => none
-- ==== Reference9Ideal.lean ====
abbrev S4x4096x3072 : Shape := ⟨3, ![4, 4096, 3072]⟩
abbrev S4x4096x1024 : Shape := ⟨3, ![4, 4096, 1024]⟩
abbrev S4x4096x48 : Shape := ⟨3, ![4, 4096, 48]⟩
abbrev S4x4096x8 : Shape := ⟨3, ![4, 4096, 8]⟩
abbrev S1x4x3072 : Shape := ⟨3, ![1, 4, 3072]⟩
abbrev S1x8 : Shape := ⟨2, ![1, 8]⟩
abbrev S1x128 : Shape := ⟨2, ![1, 128]⟩
abbrev S_ : Shape := ⟨0, ![]⟩
abbrev S4x3x3072 : Shape := ⟨3, ![4, 3, 3072]⟩
abbrev S4x4099x3072 : Shape := ⟨3, ![4, 4099, 3072]⟩
abbrev S4x3072 : Shape := ⟨2, ![4, 3072]⟩
abbrev S1x3072 : Shape := ⟨2, ![1, 3072]⟩
abbrev S3072 : Shape := ⟨1, ![3072]⟩
abbrev S1x1x3072 : Shape := ⟨3, ![1, 1, 3072]⟩
abbrev S4x4096x8x128 : Shape := ⟨4, ![4, 4096, 8, 128]⟩
abbrev S4x4096x8x1 : Shape := ⟨4, ![4, 4096, 8, 1]⟩
abbrev S8 : Shape := ⟨1, ![8]⟩
abbrev S1x1x8 : Shape := ⟨3, ![1, 1, 8]⟩
abbrev S4x8x128x128 : Shape := ⟨4, ![4, 8, 128, 128]⟩
abbrev S4096x4x8x128 : Shape := ⟨4, ![4096, 4, 8, 128]⟩
abbrev S4096x4x8 : Shape := ⟨3, ![4096, 4, 8]⟩
abbrev S1x4x8x128 : Shape := ⟨4, ![1, 4, 8, 128]⟩
abbrev S4x8x128 : Shape := ⟨3, ![4, 8, 128]⟩
abbrev S1x4x8 : Shape := ⟨3, ![1, 4, 8]⟩
abbrev S4x8 : Shape := ⟨2, ![4, 8]⟩
abbrev S4x8x1x1 : Shape := ⟨4, ![4, 8, 1, 1]⟩
abbrev S4x8x1 : Shape := ⟨3, ![4, 8, 1]⟩
abbrev S4x8x128x1 : Shape := ⟨4, ![4, 8, 128, 1]⟩
abbrev S4x8x1x128 : Shape := ⟨4, ![4, 8, 1, 128]⟩
abbrev S128 : Shape := ⟨1, ![128]⟩
abbrev S1x1x1x128 : Shape := ⟨4, ![1, 1, 1, 128]⟩

abbrev nBuf : Space → Nat
  | .hbm => 206
  | .vmem => 0
  | .smem => 0
  | _ => 0

abbrev hbmTy0_0 (i : Nat) : BufTy := match i % 128 with
  | 0 => ⟨S4x4096x3072, .f32⟩
  | 1 => ⟨S4x4096x1024, .f32⟩
  | 2 => ⟨S4x4096x48, .f32⟩
  | 3 => ⟨S4x4096x8, .f32⟩
  | 4 => ⟨S4x4096x8, .f32⟩
  | 5 => ⟨S1x4x3072, .f32⟩
  | 6 => ⟨S1x8, .f32⟩
  | 7 => ⟨S1x8, .f32⟩
  | 8 => ⟨S1x128, .f32⟩
  | 9 => ⟨S_, .f32⟩
  | 10 => ⟨S4x3x3072, .f32⟩
  | 11 => ⟨S4x4099x3072, .f32⟩
  | 12 => ⟨S4x3072, .f32⟩
  | 13 => ⟨S1x3072, .f32⟩
  | 14 => ⟨S3072, .f32⟩
  | 15 => ⟨S4x4096x3072, .f32⟩
  | 16 => ⟨S1x1x3072, .f32⟩
  | 17 => ⟨S4x4096x3072, .f32⟩
  | 18 => ⟨S4x4096x3072, .f32⟩
  | 19 => ⟨S1x3072, .f32⟩
  | 20 => ⟨S3072, .f32⟩
  | 21 => ⟨S4x4096x3072, .f32⟩
  | 22 => ⟨S1x1x3072, .f32⟩
  | 23 => ⟨S4x4096x3072, .f32⟩
  | 24 => ⟨S4x4096x3072, .f32⟩
  | 25 => ⟨S4x4096x3072, .f32⟩
  | 26 => ⟨S1x3072, .f32⟩
  | 27 => ⟨S3072, .f32⟩
  | 28 => ⟨S4x4096x3072, .f32⟩
  | 29 => ⟨S1x1x3072, .f32⟩
  | 30 => ⟨S4x4096x3072, .f32⟩
  | 31 => ⟨S4x4096x3072, .f32⟩
  | 32 => ⟨S4x4096x3072, .f32⟩
  | 33 => ⟨S1x3072, .f32⟩
  | 34 => ⟨S3072, .f32⟩
  | 35 => ⟨S4x4096x3072, .f32⟩
  | 36 => ⟨S1x1x3072, .f32⟩
  | 37 => ⟨S4x4096x3072, .f32⟩
  | 38 => ⟨S4x4096x3072, .f32⟩
  | 39 => ⟨S4x4096x3072, .f32⟩
  | 40 => ⟨S4x4096x3072, .f32⟩
  | 41 => ⟨S4x4096x3072, .f32⟩
  | 42 => ⟨S_, .f32⟩
  | 43 => ⟨S4x4096x3072, .f32⟩
  | 44 => ⟨S4x4096x3072, .f32⟩
  | 45 => ⟨S_, .f32⟩
  | 46 => ⟨S4x4096x3072, .f32⟩
  | 47 => ⟨S4x4096x3072, .f32⟩
  | 48 => ⟨S4x4096x3072, .f32⟩
  | 49 => ⟨S4x4096x1024, .f32⟩
  | 50 => ⟨S4x4096x1024, .f32⟩
  | 51 => ⟨S4x4096x1024, .f32⟩
  | 52 => ⟨S4x4096x8x128, .f32⟩
  | 53 => ⟨S4x4096x8x128, .f32⟩
  | 54 => ⟨S_, .f32⟩
  | 55 => ⟨S4x4096x8, .f32⟩
  | 56 => ⟨S4x4096x8x1, .f32⟩
  | 57 => ⟨S_, .f32⟩
  | 58 => ⟨S4x4096x8x1, .f32⟩
  | 59 => ⟨S4x4096x8x1, .f32⟩
  | 60 => ⟨S4x4096x8x1, .f32⟩
  | 61 => ⟨S4x4096x8x128, .f32⟩
  | 62 => ⟨S4x4096x8x128, .f32⟩
  | 63 => ⟨S_, .f32⟩
  | 64 => ⟨S4x4096x8x128, .f32⟩
  | 65 => ⟨S4x4096x8x128, .f32⟩
  | 66 => ⟨S4x4096x8x128, .f32⟩
  | 67 => ⟨S4x4096x8x128, .f32⟩
  | 68 => ⟨S_, .f32⟩
  | 69 => ⟨S4x4096x8, .f32⟩
  | 70 => ⟨S4x4096x8x1, .f32⟩
  | 71 => ⟨S_, .f32⟩
  | 72 => ⟨S4x4096x8x1, .f32⟩
  | 73 => ⟨S4x4096x8x1, .f32⟩
  | 74 => ⟨S4x4096x8x1, .f32⟩
  | 75 => ⟨S4x4096x8x128, .f32⟩
  | 76 => ⟨S4x4096x8x128, .f32⟩
  | 77 => ⟨S4x4096x8x128, .f32⟩
  | 78 => ⟨S8, .f32⟩
  | 79 => ⟨S8, .f32⟩
  | 80 => ⟨S8, .f32⟩
  | 81 => ⟨S8, .f32⟩
  | 82 => ⟨S1x1x8, .f32⟩
  | 83 => ⟨S4x4096x8, .f32⟩
  | 84 => ⟨S4x4096x8, .f32⟩
  | 85 => ⟨S_, .f32⟩
  | 86 => ⟨S4x4096x8, .f32⟩
  | 87 => ⟨S4x4096x8, .f32⟩
  | 88 => ⟨S4x4096x8, .f32⟩
  | 89 => ⟨S4x4096x8, .f32⟩
  | 90 => ⟨S4x4096x8, .i1⟩
  | 91 => ⟨S4x4096x8, .f32⟩
  | 92 => ⟨S4x4096x8, .f32⟩
  | 93 => ⟨S4x4096x8, .f32⟩
  | 94 => ⟨S4x4096x8, .f32⟩
  | 95 => ⟨S4x4096x8, .f32⟩
  | 96 => ⟨S4x4096x8, .f32⟩
  | 97 => ⟨S4x4096x8, .f32⟩
  | 98 => ⟨S4x4096x8, .f32⟩
  | 99 => ⟨S1x1x8, .f32⟩
  | 100 => ⟨S4x4096x8, .f32⟩
  | 101 => ⟨S4x4096x8, .f32⟩
  | 102 => ⟨S4x4096x8, .f32⟩
  | 103 => ⟨S4x4096x8, .f32⟩
  | 104 => ⟨S_, .f32⟩
  | 105 => ⟨S4x4096x8, .f32⟩
  | 106 => ⟨S4x4096x8, .f32⟩
  | 107 => ⟨S_, .f32⟩
  | 108 => ⟨S4x4096x8, .f32⟩
  | 109 => ⟨S4x4096x8, .f32⟩
  | 110 => ⟨S_, .f32⟩
  | 111 => ⟨S4x8x128x128, .f32⟩
  | 112 => ⟨S4096x4x8x128, .f32⟩
  | 113 => ⟨S4096x4x8x128, .f32⟩
  | 114 => ⟨S4096x4x8x128, .f32⟩
  | 115 => ⟨S4096x4x8, .f32⟩
  | 116 => ⟨S4096x4x8, .f32⟩
  | 117 => ⟨S_, .f32⟩
  | 118 => ⟨S4096x4x8x128, .f32⟩
  | 119 => ⟨S_, .i32⟩
  | 120 => ⟨S4096x4x8x128, .f32⟩
  | 121 => ⟨S4096x4x8x128, .f32⟩
  | 122 => ⟨S4096x4x8x128, .f32⟩
  | 123 => ⟨S4096x4x8, .f32⟩
  | 124 => ⟨S4096x4x8, .f32⟩
  | 125 => ⟨S_, .i32⟩
  | 126 => ⟨S4x8x128x128, .f32⟩
  | 127 => ⟨S4096x4x8x128, .f32⟩
  | _ => ⟨S4x4096x3072, .f32⟩

abbrev hbmTy0_1 (i : Nat) : BufTy := match i % 128 with
  | 0 => ⟨S_, .i32⟩
  | 1 => ⟨S_, .i1⟩
  | 2 => ⟨S_, .i32⟩
  | 3 => ⟨S_, .i32⟩
  | 4 => ⟨S_, .i32⟩
  | 5 => ⟨S1x4x8x128, .f32⟩
  | 6 => ⟨S4x8x128, .f32⟩
  | 7 => ⟨S_, .i32⟩
  | 8 => ⟨S_, .i32⟩
  | 9 => ⟨S_, .i32⟩
  | 10 => ⟨S1x4x8x128, .f32⟩
  | 11 => ⟨S4x8x128, .f32⟩
  | 12 => ⟨S_, .i32⟩
  | 13 => ⟨S_, .i32⟩
  | 14 => ⟨S_, .i32⟩
  | 15 => ⟨S1x4x8x128, .f32⟩
  | 16 => ⟨S4x8x128, .f32⟩
  | 17 => ⟨S_, .i32⟩
  | 18 => ⟨S_, .i32⟩
  | 19 => ⟨S1x4x8, .f32⟩
  | 20 => ⟨S4x8, .f32⟩
  | 21 => ⟨S_, .i32⟩
  | 22 => ⟨S_, .i32⟩
  | 23 => ⟨S1x4x8, .f32⟩
  | 24 => ⟨S4x8, .f32⟩
  | 25 => ⟨S4x8, .f32⟩
  | 26 => ⟨S4x8x1x1, .f32⟩
  | 27 => ⟨S4x8x128x128, .f32⟩
  | 28 => ⟨S4x8x128x128, .f32⟩
  | 29 => ⟨S4x8x1, .f32⟩
  | 30 => ⟨S4x8x128, .f32⟩
  | 31 => ⟨S4x8x128, .f32⟩
  | 32 => ⟨S4x8x128, .f32⟩
  | 33 => ⟨S4x8x128, .f32⟩
  | 34 => ⟨S4x8x128x1, .f32⟩
  | 35 => ⟨S4x8x1x128, .f32⟩
  | 36 => ⟨S4x8x128x128, .f32⟩
  | 37 => ⟨S4x8x128x128, .f32⟩
  | 38 => ⟨S4x8x128x128, .f32⟩
  | 39 => ⟨S4x8x128x128, .f32⟩
  | 40 => ⟨S4x8x128, .f32⟩
  | 41 => ⟨S1x4x8x128, .f32⟩
  | 42 => ⟨S_, .i32⟩
  | 43 => ⟨S_, .i32⟩
  | 44 => ⟨S_, .i32⟩
  | 45 => ⟨S4096x4x8x128, .f32⟩
  | 46 => ⟨S_, .i32⟩
  | 47 => ⟨S_, .i32⟩
  | 48 => ⟨S4x4096x8x128, .f32⟩
  | 49 => ⟨S4x4096x8x128, .f32⟩
  | 50 => ⟨S_, .f32⟩
  | 51 => ⟨S4x4096x8, .f32⟩
  | 52 => ⟨S4x4096x8x1, .f32⟩
  | 53 => ⟨S_, .f32⟩
  | 54 => ⟨S4x4096x8x1, .f32⟩
  | 55 => ⟨S4x4096x8x1, .f32⟩
  | 56 => ⟨S_, .f32⟩
  | 57 => ⟨S4x4096x8x1, .f32⟩
  | 58 => ⟨S4x4096x8x1, .f32⟩
  | 59 => ⟨S4x4096x8x1, .f32⟩
  | 60 => ⟨S4x4096x8x128, .f32⟩
  | 61 => ⟨S4x4096x8x128, .f32⟩
  | 62 => ⟨S128, .f32⟩
  | 63 => ⟨S1x1x1x128, .f32⟩
  | 64 => ⟨S4x4096x8x128, .f32⟩
  | 65 => ⟨S4x4096x8x128, .f32⟩
  | 66 => ⟨S4x4096x8x128, .f32⟩
  | 67 => ⟨S4x4096x8x128, .f32⟩
  | 68 => ⟨S4x4096x8x128, .f32⟩
  | 69 => ⟨S_, .f32⟩
  | 70 => ⟨S4x4096x8x128, .f32⟩
  | 71 => ⟨S4x4096x8x128, .f32⟩
  | 72 => ⟨S_, .f32⟩
  | 73 => ⟨S4x4096x8x128, .f32⟩
  | 74 => ⟨S4x4096x8x128, .f32⟩
  | 75 => ⟨S4x4096x8x128, .f32⟩
  | 76 => ⟨S4x4096x8x128, .f32⟩
  | 77 => ⟨S4x4096x1024, .f32⟩
  | _ => ⟨S4x4096x3072, .f32⟩

abbrev hbmTy (i : Nat) : BufTy := match i / 128 with
  | 0 => hbmTy0_0 i
  | 1 => hbmTy0_1 i
  | _ => ⟨S4x4096x3072, .f32⟩

abbrev bufTy : (tb : Table) → Fin (tcTables nBuf tb) → BufTy
  | .hbm, ⟨i, _⟩ => hbmTy i
  | _, _ => ⟨S4x4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_0 : Ref sig .tc := ⟨.hbm, 54, rfl⟩
abbrev main_v36 : Ref sig .tc := ⟨.hbm, 55, rfl⟩
abbrev main_v37 : Ref sig .tc := ⟨.hbm, 56, rfl⟩
abbrev main_cst_1 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_2 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_3 : Ref sig .tc := ⟨.hbm, 68, rfl⟩
abbrev main_v47 : Ref sig .tc := ⟨.hbm, 69, rfl⟩
abbrev main_v48 : Ref sig .tc := ⟨.hbm, 70, rfl⟩
abbrev main_cst_4 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_call1_cst : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_call1_v5 : Ref sig .tc := ⟨.hbm, 91, rfl⟩
abbrev main_call1_v6 : Ref sig .tc := ⟨.hbm, 92, rfl⟩
abbrev main_call1_v7 : Ref sig .tc := ⟨.hbm, 93, rfl⟩
abbrev main_call1_v8 : Ref sig .tc := ⟨.hbm, 94, rfl⟩
abbrev main_call1_v9 : Ref sig .tc := ⟨.hbm, 95, rfl⟩
abbrev main_call1_v10 : Ref sig .tc := ⟨.hbm, 96, rfl⟩
abbrev main_call1_v11 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_5 : Ref sig .tc := ⟨.hbm, 104, rfl⟩
abbrev main_v68 : Ref sig .tc := ⟨.hbm, 105, rfl⟩
abbrev main_v69 : Ref sig .tc := ⟨.hbm, 106, rfl⟩
abbrev main_cst_6 : Ref sig .tc := ⟨.hbm, 107, rfl⟩
abbrev main_v70 : Ref sig .tc := ⟨.hbm, 108, rfl⟩
abbrev main_v71 : Ref sig .tc := ⟨.hbm, 109, rfl⟩
abbrev main_cst_7 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_cst_8 : Ref sig .tc := ⟨.hbm, 117, rfl⟩
abbrev main_v78 : Ref sig .tc := ⟨.hbm, 118, rfl⟩
abbrev main_c : Ref sig .tc := ⟨.hbm, 119, rfl⟩
abbrev main_v79_0 : Ref sig .tc := ⟨.hbm, 120, rfl⟩
abbrev main_v79_1 : Ref sig .tc := ⟨.hbm, 121, rfl⟩
abbrev main_v79_2 : Ref sig .tc := ⟨.hbm, 122, rfl⟩
abbrev main_v79_3 : Ref sig .tc := ⟨.hbm, 123, rfl⟩
abbrev main_v79_4 : Ref sig .tc := ⟨.hbm, 124, rfl⟩
abbrev main_v79_5 : Ref sig .tc := ⟨.hbm, 125, rfl⟩
abbrev main_v79_6 : Ref sig .tc := ⟨.hbm, 126, rfl⟩
abbrev main_v79_7 : Ref sig .tc := ⟨.hbm, 127, rfl⟩
abbrev main_while0c_c_19 : Ref sig .tc := ⟨.hbm, 128, rfl⟩
abbrev main_while0c_v99 : Ref sig .tc := ⟨.hbm, 129, rfl⟩
abbrev main_while0b_call2_c : Ref sig .tc := ⟨.hbm, 130, rfl⟩
abbrev main_while0b_call2_c_0 : Ref sig .tc := ⟨.hbm, 131, rfl⟩
abbrev main_while0b_call2_c_1 : Ref sig .tc := ⟨.hbm, 132, rfl⟩
abbrev main_while0b_call2_v0 : Ref sig .tc := ⟨.hbm, 133, rfl⟩
abbrev main_while0b_v99 : Ref sig .tc := ⟨.hbm, 134, rfl⟩
abbrev main_while0b_call3_c : Ref sig .tc := ⟨.hbm, 135, rfl⟩
abbrev main_while0b_call3_c_0 : Ref sig .tc := ⟨.hbm, 136, rfl⟩
abbrev main_while0b_call3_c_1 : Ref sig .tc := ⟨.hbm, 137, rfl⟩
abbrev main_while0b_call3_v0 : Ref sig .tc := ⟨.hbm, 138, rfl⟩
abbrev main_while0b_v100 : Ref sig .tc := ⟨.hbm, 139, rfl⟩
abbrev main_while0b_call4_c : Ref sig .tc := ⟨.hbm, 140, rfl⟩
abbrev main_while0b_call4_c_0 : Ref sig .tc := ⟨.hbm, 141, rfl⟩
abbrev main_while0b_call4_c_1 : Ref sig .tc := ⟨.hbm, 142, rfl⟩
abbrev main_while0b_call4_v0 : Ref sig .tc := ⟨.hbm, 143, rfl⟩
abbrev main_while0b_v101 : Ref sig .tc := ⟨.hbm, 144, rfl⟩
abbrev main_while0b_call5_c : Ref sig .tc := ⟨.hbm, 145, rfl⟩
abbrev main_while0b_call5_c_0 : Ref sig .tc := ⟨.hbm, 146, rfl⟩
abbrev main_while0b_call5_v0 : Ref sig .tc := ⟨.hbm, 147, rfl⟩
abbrev main_while0b_v102 : Ref sig .tc := ⟨.hbm, 148, rfl⟩
abbrev main_while0b_call6_c : Ref sig .tc := ⟨.hbm, 149, rfl⟩
abbrev main_while0b_call6_c_0 : Ref sig .tc := ⟨.hbm, 150, rfl⟩
abbrev main_while0b_call6_v0 : Ref sig .tc := ⟨.hbm, 151, rfl⟩
abbrev main_while0b_v103 : Ref sig .tc := ⟨.hbm, 152, rfl⟩
abbrev main_while0b_v104 : Ref sig .tc := ⟨.hbm, 153, rfl⟩
abbrev main_while0b_v105 : Ref sig .tc := ⟨.hbm, 154, rfl⟩
abbrev main_while0b_v106 : Ref sig .tc := ⟨.hbm, 155, rfl⟩
abbrev main_while0b_v107 : Ref sig .tc := ⟨.hbm, 156, rfl⟩
abbrev main_while0b_v108 : Ref sig .tc := ⟨.hbm, 157, rfl⟩
abbrev main_while0b_v109 : Ref sig .tc := ⟨.hbm, 158, rfl⟩
abbrev main_while0b_v110 : Ref sig .tc := ⟨.hbm, 159, rfl⟩
abbrev main_while0b_v111 : Ref sig .tc := ⟨.hbm, 160, rfl⟩
abbrev main_while0b_v112 : Ref sig .tc := ⟨.hbm, 161, rfl⟩
abbrev main_while0b_v113 : Ref sig .tc := ⟨.hbm, 162, rfl⟩
abbrev main_while0b_v114 : Ref sig .tc := ⟨.hbm, 163, rfl⟩
abbrev main_while0b_v115 : Ref sig .tc := ⟨.hbm, 164, rfl⟩
abbrev main_while0b_v116 : Ref sig .tc := ⟨.hbm, 165, rfl⟩
abbrev main_while0b_v117 : Ref sig .tc := ⟨.hbm, 166, rfl⟩
abbrev main_while0b_v118 : Ref sig .tc := ⟨.hbm, 167, rfl⟩
abbrev main_while0b_v119 : Ref sig .tc := ⟨.hbm, 168, rfl⟩
abbrev main_while0b_call7_v0 : Ref sig .tc := ⟨.hbm, 169, rfl⟩
abbrev main_while0b_call7_c : Ref sig .tc := ⟨.hbm, 170, rfl⟩
abbrev main_while0b_call7_c_0 : Ref sig .tc := ⟨.hbm, 171, rfl⟩
abbrev main_while0b_call7_c_1 : Ref sig .tc := ⟨.hbm, 172, rfl⟩
abbrev main_while0b_v120 : Ref sig .tc := ⟨.hbm, 173, rfl⟩
abbrev main_while0b_c_19 : Ref sig .tc := ⟨.hbm, 174, rfl⟩
abbrev main_while0b_v121 : Ref sig .tc := ⟨.hbm, 175, rfl⟩
abbrev main_v80 : Ref sig .tc := ⟨.hbm, 176, rfl⟩
abbrev main_v81 : Ref sig .tc := ⟨.hbm, 177, rfl⟩
abbrev main_cst_9 : Ref sig .tc := ⟨.hbm, 178, rfl⟩
abbrev main_v82 : Ref sig .tc := ⟨.hbm, 179, rfl⟩
abbrev main_v83 : Ref sig .tc := ⟨.hbm, 180, rfl⟩
abbrev main_cst_10 : Ref sig .tc := ⟨.hbm, 181, rfl⟩
abbrev main_v84 : Ref sig .tc := ⟨.hbm, 182, rfl⟩
abbrev main_v85 : Ref sig .tc := ⟨.hbm, 183, rfl⟩
abbrev main_cst_11 : Ref sig .tc := ⟨.hbm, 184, rfl⟩
abbrev main_v86 : Ref sig .tc := ⟨.hbm, 185, rfl⟩
abbrev main_v87 : Ref sig .tc := ⟨.hbm, 186, rfl⟩
abbrev main_v88 : Ref sig .tc := ⟨.hbm, 187, rfl⟩
abbrev main_v89 : Ref sig .tc := ⟨.hbm, 188, rfl⟩
abbrev main_v90 : Ref sig .tc := ⟨.hbm, 189, rfl⟩
abbrev main_v91 : Ref sig .tc := ⟨.hbm, 190, rfl⟩
abbrev main_v92 : Ref sig .tc := ⟨.hbm, 191, rfl⟩
abbrev main_v93 : Ref sig .tc := ⟨.hbm, 192, rfl⟩
abbrev main_v94 : Ref sig .tc := ⟨.hbm, 193, rfl⟩
abbrev main_v95 : Ref sig .tc := ⟨.hbm, 194, rfl⟩
abbrev main_call8_v0 : Ref sig .tc := ⟨.hbm, 195, rfl⟩
abbrev main_call8_v1 : Ref sig .tc := ⟨.hbm, 196, rfl⟩
abbrev main_call8_cst : Ref sig .tc := ⟨.hbm, 197, rfl⟩
abbrev main_call8_v2 : Ref sig .tc := ⟨.hbm, 198, rfl⟩
abbrev main_call8_v3 : Ref sig .tc := ⟨.hbm, 199, rfl⟩
abbrev main_call8_cst_0 : Ref sig .tc := ⟨.hbm, 200, rfl⟩
abbrev main_call8_v4 : Ref sig .tc := ⟨.hbm, 201, rfl⟩
abbrev main_call8_v5 : Ref sig .tc := ⟨.hbm, 202, rfl⟩
abbrev main_v96 : Ref sig .tc := ⟨.hbm, 203, rfl⟩
abbrev main_v97 : Ref sig .tc := ⟨.hbm, 204, rfl⟩
abbrev main_v98 : Ref sig .tc := ⟨.hbm, 205, rfl⟩

abbrev nD : Nat := 1
abbrev τ : Topo := Topo.v7x

variable {F : FTy → Type} [FloatOps F]

abbrev main_while0_count : Scf.Loop 32 := ⟨0#32, 4096#32, 1#32⟩
-- ==== Kernel10.lean ====
abbrev S128x1x1024 : Shape := ⟨3, ![128, 1, 1024]⟩
abbrev S128x6144 : Shape := ⟨2, ![128, 6144]⟩
abbrev S1x1024 : Shape := ⟨2, ![1, 1024]⟩
abbrev S1x1024x8768 : Shape := ⟨3, ![1, 1024, 8768]⟩
abbrev S1024x8768 : Shape := ⟨2, ![1024, 8768]⟩
abbrev S1024x1024 : Shape := ⟨2, ![1024, 1024]⟩
abbrev S1024x256 : Shape := ⟨2, ![1024, 256]⟩
abbrev S256x1024 : Shape := ⟨2, ![256, 1024]⟩
abbrev S1024x48 : Shape := ⟨2, ![1024, 48]⟩
abbrev S1024x3072 : Shape := ⟨2, ![1024, 3072]⟩
abbrev S1024x8 : Shape := ⟨2, ![1024, 8]⟩
abbrev S1024x2048 : Shape := ⟨2, ![1024, 2048]⟩
abbrev S_ : Shape := ⟨0, ![]⟩
abbrev S1024x64 : Shape := ⟨2, ![1024, 64]⟩
abbrev S1024x128 : Shape := ⟨2, ![1024, 128]⟩
abbrev S128x6x1024 : Shape := ⟨3, ![128, 6, 1024]⟩
abbrev S6x128x1024 : Shape := ⟨3, ![6, 128, 1024]⟩
abbrev S1x6x128x1024 : Shape := ⟨4, ![1, 6, 128, 1024]⟩
abbrev S1x128x1024 : Shape := ⟨3, ![1, 128, 1024]⟩
abbrev S1x128x3072 : Shape := ⟨3, ![1, 128, 3072]⟩
abbrev S128x1024 : Shape := ⟨2, ![128, 1024]⟩
abbrev S1x1x128x1024 : Shape := ⟨4, ![1, 1, 128, 1024]⟩
abbrev S128 : Shape := ⟨1, ![128]⟩
abbrev S128x1 : Shape := ⟨2, ![128, 1]⟩
abbrev S1024x512 : Shape := ⟨2, ![1024, 512]⟩
abbrev S128x512 : Shape := ⟨2, ![128, 512]⟩
abbrev S1x128x512 : Shape := ⟨3, ![1, 128, 512]⟩

abbrev nBuf : Space → Nat
  | .hbm => 33
  | .vmem => 5
  | .smem => 0
  | _ => 0

abbrev bufTy : (tb : Table) → Fin (tcTables nBuf tb) → BufTy
  | .hbm, ⟨0, _⟩ => ⟨S128x1x1024, .f32⟩
  | .hbm, ⟨1, _⟩ => ⟨S128x6144, .f32⟩
  | .hbm, ⟨2, _⟩ => ⟨S1x1024, .f32⟩
  | .hbm, ⟨3, _⟩ => ⟨S1x1024x8768, .f32⟩
  | .hbm, ⟨4, _⟩ => ⟨S1024x8768, .f32⟩
  | .hbm, ⟨5, _⟩ => ⟨S1024x8768, .bf16⟩
  | .hbm, ⟨6, _⟩ => ⟨S1024x1024, .bf16⟩
  | .hbm, ⟨7, _⟩ => ⟨S1024x256, .bf16⟩
  | .hbm, ⟨8, _⟩ => ⟨S256x1024, .bf16⟩
  | .hbm, ⟨9, _⟩ => ⟨S1024x256, .bf16⟩
  | .hbm, ⟨10, _⟩ => ⟨S256x1024, .bf16⟩
  | .hbm, ⟨11, _⟩ => ⟨S1024x256, .bf16⟩
  | .hbm, ⟨12, _⟩ => ⟨S256x1024, .bf16⟩
  | .hbm, ⟨13, _⟩ => ⟨S1024x256, .bf16⟩
  | .hbm, ⟨14, _⟩ => ⟨S256x1024, .bf16⟩
  | .hbm, ⟨15, _⟩ => ⟨S1024x256, .bf16⟩
  | .hbm, ⟨16, _⟩ => ⟨S256x1024, .bf16⟩
  | .hbm, ⟨17, _⟩ => ⟨S1024x256, .bf16⟩
  | .hbm, ⟨18, _⟩ => ⟨S256x1024, .bf16⟩
  | .hbm, ⟨19, _⟩ => ⟨S1024x48, .bf16⟩
  | .hbm, ⟨20, _⟩ => ⟨S1024x3072, .bf16⟩
  | .hbm, ⟨21, _⟩ => ⟨S1024x1024, .bf16⟩
  | .hbm, ⟨22, _⟩ => ⟨S1024x8, .bf16⟩
  | .hbm, ⟨23, _⟩ => ⟨S1024x8, .bf16⟩
  | .hbm, ⟨24, _⟩ => ⟨S1024x2048, .bf16⟩
  | .hbm, ⟨25, _⟩ => ⟨S_, .bf16⟩
  | .hbm, ⟨26, _⟩ => ⟨S1024x64, .bf16⟩
  | .hbm, ⟨27, _⟩ => ⟨S1024x128, .bf16⟩
  | .hbm, ⟨28, _⟩ => ⟨S128x6x1024, .f32⟩
  | .hbm, ⟨29, _⟩ => ⟨S6x128x1024, .f32⟩
  | .hbm, ⟨30, _⟩ => ⟨S1x6x128x1024, .f32⟩
  | .hbm, ⟨31, _⟩ => ⟨S1x128x1024, .f32⟩
  | .hbm, ⟨32, _⟩ => ⟨S1x128x3072, .f32⟩
  | .local _ .vmem, ⟨0, _⟩ => ⟨S1x128x1024, .f32⟩
  | .local _ .vmem, ⟨1, _⟩ => ⟨S1x6x128x1024, .f32⟩
  | .local _ .vmem, ⟨2, _⟩ => ⟨S1x1024, .f32⟩
  | .local _ .vmem, ⟨3, _⟩ => ⟨S1024x3072, .bf16⟩
  | .local _ .vmem, ⟨4, _⟩ => ⟨S1x128x3072, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x6x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]
-- ==== Reference10Ideal.lean ====
abbrev S128x1x1024 : Shape := ⟨3, ![128, 1, 1024]⟩
abbrev S128x6144 : Shape := ⟨2, ![128, 6144]⟩
abbrev S1x1024 : Shape := ⟨2, ![1, 1024]⟩
abbrev S1x1024x8768 : Shape := ⟨3, ![1, 1024, 8768]⟩
abbrev S1x128x6144 : Shape := ⟨3, ![1, 128, 6144]⟩
abbrev S1x128x1024 : Shape := ⟨3, ![1, 128, 1024]⟩
abbrev S_ : Shape := ⟨0, ![]⟩
abbrev S1x128 : Shape := ⟨2, ![1, 128]⟩
abbrev S1x128x1 : Shape := ⟨3, ![1, 128, 1]⟩
abbrev S1024 : Shape := ⟨1, ![1024]⟩
abbrev S1x1x1024 : Shape := ⟨3, ![1, 1, 1024]⟩
abbrev S1024x8768 : Shape := ⟨2, ![1024, 8768]⟩
abbrev S1x128x8768 : Shape := ⟨3, ![1, 128, 8768]⟩
abbrev S1x128x3072 : Shape := ⟨3, ![1, 128, 3072]⟩

abbrev nBuf : Space → Nat
  | .hbm => 37
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S128x6144, .f32⟩
  | .hbm, ⟨2, _⟩ => ⟨S1x1024, .f32⟩
  | .hbm, ⟨3, _⟩ => ⟨S1x1024x8768, .f32⟩
  | .hbm, ⟨4, _⟩ => ⟨S1x128x6144, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .hbm, ⟨8, _⟩ => ⟨S1x128x1024, .f32⟩
  | .hbm, ⟨9, _⟩ => ⟨S1x128x1024, .f32⟩
  | .hbm, ⟨10, _⟩ => ⟨S1x128x1024, .f32⟩
  | .hbm, ⟨11, _⟩ => ⟨S1x128x1024, .f32⟩
  | .hbm, ⟨12, _⟩ => ⟨S1x128x1024, .f32⟩
  | .hbm, ⟨13, _⟩ => ⟨S_, .f32⟩
  | .hbm, ⟨14, _⟩ => ⟨S1x128, .f32⟩
  | .hbm, ⟨15, _⟩ => ⟨S1x128x1, .f32⟩
  | .hbm, ⟨16, _⟩ => ⟨S_, .f32⟩
  | .hbm, ⟨17, _⟩ => ⟨S1x128x1, .f32⟩
  | .hbm, ⟨18, _⟩ => ⟨S1x128x1, .f32⟩
  | .hbm, ⟨19, _⟩ => ⟨S_, .f32⟩
  | .hbm, ⟨20, _⟩ => ⟨S1x128x1, .f32⟩
  | .hbm, ⟨21, _⟩ => ⟨S1x128x1, .f32⟩
  | .hbm, ⟨22, _⟩ => ⟨S1x128x1, .f32⟩
  | .hbm, ⟨23, _⟩ => ⟨S1x128x1024, .f32⟩
  | .hbm, ⟨24, _⟩ => ⟨S1x128x1024, .f32⟩
  | .hbm, ⟨25, _⟩ => ⟨S1024, .f32⟩
  | .hbm, ⟨26, _⟩ => ⟨S1x1x1024, .f32⟩
  | .hbm, ⟨27, _⟩ => ⟨S1x128x1024, .f32⟩
  | .hbm, ⟨28, _⟩ => ⟨S1x128x1024, .f32⟩
  | .hbm, ⟨29, _⟩ => ⟨S_, .f32⟩
  | .hbm, ⟨30, _⟩ => ⟨S1x128x1024, .f32⟩
  | .hbm, ⟨31, _⟩ => ⟨S1x128x1024, .f32⟩
  | .hbm, ⟨32, _⟩ => ⟨S1x128x1024, .f32⟩
  | .hbm, ⟨33, _⟩ => ⟨S1x128x1024, .f32⟩
  | .hbm, ⟨34, _⟩ => ⟨S1024x8768, .f32⟩
  | .hbm, ⟨35, _⟩ => ⟨S1x128x8768, .f32⟩
  | .hbm, ⟨36, _⟩ => ⟨S1x128x3072, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Kernel11.lean ====
abbrev S128x1x1024 : Shape := ⟨3, ![128, 1, 1024]⟩
abbrev S128x6144 : Shape := ⟨2, ![128, 6144]⟩
abbrev S1x1024 : Shape := ⟨2, ![1, 1024]⟩
abbrev S1x1024x8768 : Shape := ⟨3, ![1, 1024, 8768]⟩
abbrev S1024x8768 : Shape := ⟨2, ![1024, 8768]⟩
abbrev S1024x1024 : Shape := ⟨2, ![1024, 1024]⟩
abbrev S1024x256 : Shape := ⟨2, ![1024, 256]⟩
abbrev S256x1024 : Shape := ⟨2, ![256, 1024]⟩
abbrev S1024x48 : Shape := ⟨2, ![1024, 48]⟩
abbrev S1024x3072 : Shape := ⟨2, ![1024, 3072]⟩
abbrev S1024x8 : Shape := ⟨2, ![1024, 8]⟩
abbrev S1024x2048 : Shape := ⟨2, ![1024, 2048]⟩
abbrev S_ : Shape := ⟨0, ![]⟩
abbrev S1024x64 : Shape := ⟨2, ![1024, 64]⟩
abbrev S1024x128 : Shape := ⟨2, ![1024, 128]⟩
abbrev S128x6x1024 : Shape := ⟨3, ![128, 6, 1024]⟩
abbrev S6x128x1024 : Shape := ⟨3, ![6, 128, 1024]⟩
abbrev S1x6x128x1024 : Shape := ⟨4, ![1, 6, 128, 1024]⟩
abbrev S1x128x1024 : Shape := ⟨3, ![1, 128, 1024]⟩
abbrev S1x128x2048 : Shape := ⟨3, ![1, 128, 2048]⟩
abbrev S1x128x128 : Shape := ⟨3, ![1, 128, 128]⟩
abbrev S128x1024 : Shape := ⟨2, ![128, 1024]⟩
abbrev S1x1x128x1024 : Shape := ⟨4, ![1, 1, 128, 1024]⟩
abbrev S128 : Shape := ⟨1, ![128]⟩
abbrev S128x1 : Shape := ⟨2, ![128, 1]⟩
abbrev S1024x512 : Shape := ⟨2, ![1024, 512]⟩
abbrev S128x512 : Shape := ⟨2, ![128, 512]⟩
abbrev S1x128x512 : Shape := ⟨3, ![1, 128, 512]⟩
abbrev S128x128 : Shape := ⟨2, ![128, 128]⟩

abbrev nBuf : Space → Nat
  | .hbm => 35
  | .vmem => 9
  | .smem => 0
  | _ => 0

abbrev bufTy : (tb : Table) → Fin (tcTables nBuf tb) → BufTy
  | .hbm, ⟨0, _⟩ => ⟨S128x1x1024, .f32⟩
  | .hbm, ⟨1, _⟩ => ⟨S128x6144, .f32⟩
  | .hbm, ⟨2, _⟩ => ⟨S1x1024, .f32⟩
  | .hbm, ⟨3, _⟩ => ⟨S1x1024x8768, .f32⟩
  | .hbm, ⟨4, _⟩ => ⟨S1024x8768, .f32⟩
  | .hbm, ⟨5, _⟩ => ⟨S1024x8768, .bf16⟩
  | .hbm, ⟨6, _⟩ => ⟨S1024x1024, .bf16⟩
  | .hbm, ⟨7, _⟩ => ⟨S1024x256, .bf16⟩
  | .hbm, ⟨8, _⟩ => ⟨S256x1024, .bf16⟩
  | .hbm, ⟨9, _⟩ => ⟨S1024x256, .bf16⟩
  | .hbm, ⟨10, _⟩ => ⟨S256x1024, .bf16⟩
  | .hbm, ⟨11, _⟩ => ⟨S1024x256, .bf16⟩
  | .hbm, ⟨12, _⟩ => ⟨S256x1024, .bf16⟩
  | .hbm, ⟨13, _⟩ => ⟨S1024x256, .bf16⟩
  | .hbm, ⟨14, _⟩ => ⟨S256x1024, .bf16⟩
  | .hbm, ⟨15, _⟩ => ⟨S1024x256, .bf16⟩
  | .hbm, ⟨16, _⟩ => ⟨S256x1024, .bf16⟩
  | .hbm, ⟨17, _⟩ => ⟨S1024x256, .bf16⟩
  | .hbm, ⟨18, _⟩ => ⟨S256x1024, .bf16⟩
  | .hbm, ⟨19, _⟩ => ⟨S1024x48, .bf16⟩
  | .hbm, ⟨20, _⟩ => ⟨S1024x3072, .bf16⟩
  | .hbm, ⟨21, _⟩ => ⟨S1024x1024, .bf16⟩
  | .hbm, ⟨22, _⟩ => ⟨S1024x8, .bf16⟩
  | .hbm, ⟨23, _⟩ => ⟨S1024x8, .bf16⟩
  | .hbm, ⟨24, _⟩ => ⟨S1024x2048, .bf16⟩
  | .hbm, ⟨25, _⟩ => ⟨S_, .bf16⟩
  | .hbm, ⟨26, _⟩ => ⟨S1024x64, .bf16⟩
  | .hbm, ⟨27, _⟩ => ⟨S1024x128, .bf16⟩
  | .hbm, ⟨28, _⟩ => ⟨S128x6x1024, .f32⟩
  | .hbm, ⟨29, _⟩ => ⟨S6x128x1024, .f32⟩
  | .hbm, ⟨30, _⟩ => ⟨S1x6x128x1024, .f32⟩
  | .hbm, ⟨31, _⟩ => ⟨S1x128x1024, .f32⟩
  | .hbm, ⟨32, _⟩ => ⟨S1x128x1024, .f32⟩
  | .hbm, ⟨33, _⟩ => ⟨S1x128x2048, .f32⟩
  | .hbm, ⟨34, _⟩ => ⟨S1x128x128, .f32⟩
  | .local _ .vmem, ⟨0, _⟩ => ⟨S1x128x1024, .f32⟩
  | .local _ .vmem, ⟨1, _⟩ => ⟨S1x6x128x1024, .f32⟩
  | .local _ .vmem, ⟨2, _⟩ => ⟨S1x1024, .f32⟩
  | .local _ .vmem, ⟨3, _⟩ => ⟨S1024x1024, .bf16⟩
  | .local _ .vmem, ⟨4, _⟩ => ⟨S1024x2048, .bf16⟩
  | .local _ .vmem, ⟨5, _⟩ => ⟨S1024x128, .bf16⟩
  | .local _ .vmem, ⟨6, _⟩ => ⟨S1x128x1024, .f32⟩
  | .local _ .vmem, ⟨7, _⟩ => ⟨S1x128x2048, .f32⟩
  | .local _ .vmem, ⟨8, _⟩ => ⟨S1x128x128, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27_0 : Ref sig .tc := ⟨.hbm, 32, rfl⟩
abbrev main_v27_1 : Ref sig .tc := ⟨.hbm, 33, rfl⟩
abbrev main_v27_2 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x6x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]
-- ==== Reference11Ideal.lean ====
abbrev S128x1x1024 : Shape := ⟨3, ![128, 1, 1024]⟩
abbrev S128x6144 : Shape := ⟨2, ![128, 6144]⟩
abbrev S1x1024 : Shape := ⟨2, ![1, 1024]⟩
abbrev S1x1024x8768 : Shape := ⟨3, ![1, 1024, 8768]⟩
abbrev S1x128x6144 : Shape := ⟨3, ![1, 128, 6144]⟩
abbrev S1x128x1024 : Shape := ⟨3, ![1, 128, 1024]⟩
abbrev S_ : Shape := ⟨0, ![]⟩
abbrev S1x128 : Shape := ⟨2, ![1, 128]⟩
abbrev S1x128x1 : Shape := ⟨3, ![1, 128, 1]⟩
abbrev S1024 : Shape := ⟨1, ![1024]⟩
abbrev S1x1x1024 : Shape := ⟨3, ![1, 1, 1024]⟩
abbrev S1024x8768 : Shape := ⟨2, ![1024, 8768]⟩
abbrev S1x128x8768 : Shape := ⟨3, ![1, 128, 8768]⟩
abbrev S1x128x48 : Shape := ⟨3, ![1, 128, 48]⟩
abbrev S1x128x8 : Shape := ⟨3, ![1, 128, 8]⟩
abbrev S1x128x2048 : Shape := ⟨3, ![1, 128, 2048]⟩
abbrev S1x128x64 : Shape := ⟨3, ![1, 128, 64]⟩
abbrev S1x128x128 : Shape := ⟨3, ![1, 128, 128]⟩

abbrev nBuf : Space → Nat
  | .hbm => 44
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S128x6144, .f32⟩
  | .hbm, ⟨2, _⟩ => ⟨S1x1024, .f32⟩
  | .hbm, ⟨3, _⟩ => ⟨S1x1024x8768, .f32⟩
  | .hbm, ⟨4, _⟩ => ⟨S1x128x6144, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .hbm, ⟨8, _⟩ => ⟨S1x128x1024, .f32⟩
  | .hbm, ⟨9, _⟩ => ⟨S1x128x1024, .f32⟩
  | .hbm, ⟨10, _⟩ => ⟨S1x128x1024, .f32⟩
  | .hbm, ⟨11, _⟩ => ⟨S1x128x1024, .f32⟩
  | .hbm, ⟨12, _⟩ => ⟨S1x128x1024, .f32⟩
  | .hbm, ⟨13, _⟩ => ⟨S_, .f32⟩
  | .hbm, ⟨14, _⟩ => ⟨S1x128, .f32⟩
  | .hbm, ⟨15, _⟩ => ⟨S1x128x1, .f32⟩
  | .hbm, ⟨16, _⟩ => ⟨S_, .f32⟩
  | .hbm, ⟨17, _⟩ => ⟨S1x128x1, .f32⟩
  | .hbm, ⟨18, _⟩ => ⟨S1x128x1, .f32⟩
  | .hbm, ⟨19, _⟩ => ⟨S_, .f32⟩
  | .hbm, ⟨20, _⟩ => ⟨S1x128x1, .f32⟩
  | .hbm, ⟨21, _⟩ => ⟨S1x128x1, .f32⟩
  | .hbm, ⟨22, _⟩ => ⟨S1x128x1, .f32⟩
  | .hbm, ⟨23, _⟩ => ⟨S1x128x1024, .f32⟩
  | .hbm, ⟨24, _⟩ => ⟨S1x128x1024, .f32⟩
  | .hbm, ⟨25, _⟩ => ⟨S1024, .f32⟩
  | .hbm, ⟨26, _⟩ => ⟨S1x1x1024, .f32⟩
  | .hbm, ⟨27, _⟩ => ⟨S1x128x1024, .f32⟩
  | .hbm, ⟨28, _⟩ => ⟨S1x128x1024, .f32⟩
  | .hbm, ⟨29, _⟩ => ⟨S_, .f32⟩
  | .hbm, ⟨30, _⟩ => ⟨S1x128x1024, .f32⟩
  | .hbm, ⟨31, _⟩ => ⟨S1x128x1024, .f32⟩
  | .hbm, ⟨32, _⟩ => ⟨S1x128x1024, .f32⟩
  | .hbm, ⟨33, _⟩ => ⟨S1x128x1024, .f32⟩
  | .hbm, ⟨34, _⟩ => ⟨S1024x8768, .f32⟩
  | .hbm, ⟨35, _⟩ => ⟨S1x128x8768, .f32⟩
  | .hbm, ⟨36, _⟩ => ⟨S1x128x48, .f32⟩
  | .hbm, ⟨37, _⟩ => ⟨S1x128x1024, .f32⟩
  | .hbm, ⟨38, _⟩ => ⟨S1x128x8, .f32⟩
  | .hbm, ⟨39, _⟩ => ⟨S1x128x8, .f32⟩
  | .hbm, ⟨40, _⟩ => ⟨S1x128x2048, .f32⟩
  | .hbm, ⟨41, _⟩ => ⟨S_, .f32⟩
  | .hbm, ⟨42, _⟩ => ⟨S1x128x64, .f32⟩
  | .hbm, ⟨43, _⟩ => ⟨S1x128x128, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]
-- ==== Proof.Rows.lean ====
module

public import Idealize.ShloMosaic.Lib.Pointwise

@[expose] public section

noncomputable section

/-! The second half of the layer for one token, as functions of rows: the merge of the two mixers and its residual, the modulated
    norm, the squared rectified hidden layer and the final norm. -/

namespace Cert.Proof

open Idealize.ShloMosaic
open scoped BigOperators

/-- A merge gate: the logistic function. -/
def sg (v : EReal) : EReal := Ideal.div 1 (1 + Ideal.exp (-v))

/-- The root mean square factor of a row. -/
def rms (x : Fin 1024 → EReal) : EReal :=
  Ideal.rsqrt (Ideal.div (∑ l : Fin 1024, x l * x l) (Ideal.ofBits .f32 1149239296#32) + Ideal.ofBits .f32 897988541#32)

/-- The row after the mixers: the two mixers' outputs `n`, `d`, gated by `a`, `b`, projected by `w`, scaled by `g`, added to `x`. -/
def mixed (x a b n d g : Fin 1024 → EReal) (w : Fin 1024 → Fin 1024 → EReal) (j : Fin 1024) : EReal :=
  x j + g j * ∑ k : Fin 1024, (sg (a k) * n k + sg (b k) * d k) * w k j

/-- The modulated norm before the hidden layer. -/
def hid (x g sc sh : Fin 1024 → EReal) (k : Fin 1024) : EReal :=
  x k * rms x * g k * (1 + sc k) + sh k

/-- One unit of the hidden layer: its input, rectified and squared. -/
def act (h u : Fin 1024 → EReal) : EReal :=
  max (∑ k : Fin 1024, h k * u k) 0 * max (∑ k : Fin 1024, h k * u k) 0

/-- The layer's output row from the row after the mixers and the hidden layer's output `f`. -/
def fin (x g f gf : Fin 1024 → EReal) (j : Fin 1024) : EReal :=
  (x j + g j * f j) * rms (fun k => x k + g k * f k) * gf j

end Cert.Proof

end
-- ==== Proof.Mlp.lean ====
module

public import proofs.«01_k».proof.Proof.Gen.Kernel2Ideal.Value
public import proofs.«01_k».proof.Proof.Gen.Reference2Ideal.Run
public import proofs.«01_k».proof.Proof.Rows
public import Idealize.ShloMosaic.Lib.Pipeline.ValueKit
public import Idealize.ShloMosaic.Lib.Pointwise
public import Idealize.ShloMosaic.Lib.Pipeline.ReadBack
public import Idealize.ShloMosaic.Lib.Tactic.CleanTypes

/-! The second half of the layer on the prompt rows. Two grid points work on each block of rows: the first forms the row after the
    mixers, its norm and the first 2048 hidden units' share, the second adds the other 2048 and writes the normed output. -/

@[expose] public section

set_option maxRecDepth 16384

noncomputable section

namespace Cert.Reference2Ideal.Value
open Cert.Reference2Ideal Cert.Reference2Ideal.Gen Idealize.ShloMosaic Idealize.ShloMosaic.TcCoe Idealize.SL.Sem
open Cert.Proof
open scoped BigOperators

/-- The plain mathematics' output of the layer. -/
def R0 (m : (ℓ : Loc nD τ sig) → Buf (Elt Ideal) ℓ) (c : Dev nD) : FVec Ideal S4x4096x1024 .f32 := res_out0 m c

/-- The layer's row of token `(b, s)` from the arguments: the residual after the mixers. -/
def mrow (x n d : FVec Ideal S4x4096x1024 .f32) (g : FVec Ideal S4x4096x2048 .f32) (md : FVec Ideal S4x6144 .f32) (w : FVec Ideal S1x1024x1024 .f32)
    (b : Fin 4) (s : Fin 4096) : Fin 1024 → EReal :=
  mixed (fun k => x (ix3 b s k)) (fun k => g (ix3 b s ⟨(k : ℕ), by omega⟩)) (fun k => g (ix3 b s ⟨1024 + (k : ℕ), by omega⟩))
    (fun k => n (ix3 b s k)) (fun k => d (ix3 b s k)) (fun k => md (ix2 b ⟨2048 + (k : ℕ), by omega⟩)) (fun k j => w (ix3 0 k j))

/-- The normed row of token `(b, s)` before the hidden layer. -/
def hrow (x : Fin 1024 → EReal) (md : FVec Ideal S4x6144 .f32) (g2 : FVec Ideal S1x1024 .f32) (b : Fin 4) : Fin 1024 → EReal :=
  hid x (fun k => g2 (ix2 0 k)) (fun k => md (ix2 b ⟨4096 + (k : ℕ), by omega⟩)) (fun k => md (ix2 b ⟨3072 + (k : ℕ), by omega⟩))

/-- One summand of the hidden layer's output. -/
def fterm (h : Fin 1024 → EReal) (wu : FVec Ideal S1x1024x4096 .f32) (wd : FVec Ideal S1x4096x1024 .f32) (j : Fin 1024) (l : Fin 4096) : EReal :=
  act h (fun k => wu (ix3 0 k l)) * wd (ix3 0 l j)

/-- The layer's output row. -/
def orow (x : Fin 1024 → EReal) (md : FVec Ideal S4x6144 .f32) (f : Fin 1024 → EReal) (gf : FVec Ideal S1024 .f32) (b : Fin 4) : Fin 1024 → EReal :=
  fin x (fun k => md (ix2 b ⟨5120 + (k : ℕ), by omega⟩)) f (fun k => gf (ix1 k))

/-- An entry of the plain output, as a function of the arguments' rows. -/
theorem R0_at (m : (ℓ : Loc nD τ sig) → Buf (Elt Ideal) ℓ) (c : Dev nD) (b : Fin 4) (s : Fin 4096) (j : Fin 1024) :
    R0 m c (ix3 b s j) =
      orow (mrow (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg6)) b s)
        (m ((c.tc : Thread nD τ).loc main_arg4))
        (fun d => ∑ l : Fin 4096, fterm (hrow (mrow (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg6)) b s)
            (m ((c.tc : Thread nD τ).loc main_arg4)) (m ((c.tc : Thread nD τ).loc main_arg5)) b)
          (m ((c.tc : Thread nD τ).loc main_arg7)) (m ((c.tc : Thread nD τ).loc main_arg8)) d l)
        (m ((c.tc : Thread nD τ).loc main_arg9)) b j := by
  unfold R0 res_out0 res_main_v64
  clean_types
  pointwise
  rfl
end Cert.Reference2Ideal.Value

namespace Cert.Kernel2Ideal.Value

open Cert.Kernel2Ideal Cert.Kernel2Ideal.Gen Idealize.ShloMosaic Idealize.ShloMosaic.TcCoe Idealize.SL.Sem
open Idealize.ShloMosaic.Pipeline (Dat)
open Cert.Proof
open scoped BigOperators
variable (m : (ℓ : Loc nD τ sig) → Buf (Elt Ideal) ℓ)

/-- Which block of each window grid point `t` works on. -/
theorem idx : ∀ t : Fin cfg0.N, win0_0.index t = ![t.val / 16, t.val / 2 % 8, 0] ∧ win0_1.index t = ![t.val / 16, t.val / 2 % 8, 0]
    ∧ win0_2.index t = ![t.val / 16, t.val / 2 % 8, 0] ∧ win0_3.index t = ![t.val / 16, t.val / 2 % 8, 0]
    ∧ win0_4.index t = ![t.val / 16, 0, 0, 0] ∧ win0_5.index t = ![0, 0] ∧ win0_6.index t = ![0, 0]
    ∧ win0_7.index t = ![0, 0] ∧ win0_8.index t = ![0, t.val % 2] ∧ win0_9.index t = ![t.val % 2, 0]
    ∧ win0_10.index t = ![t.val / 16, t.val / 2 % 8, 0] ∧ t.val < 64 :=
  (by decide +kernel : ∀ t : Fin grid0.N, _)

/-- The block of the layer's input. -/
theorem rd0 (c : Dev nD) (t : Fin cfg0.N) (z : Fin 1) (r : Fin 512) (k : Fin 1024) (b : Fin 4) (s : Fin 4096) (hb : (b : ℕ) = t.val / 16)
    (hs : (s : ℕ) = t.val / 2 % 8 * 512 + r) : iblk m c 0 t (ix3 z r k) = m ((c : Thread nD τ).loc main_arg0) (ix3 b s k) := by
  blk_ext [iblk, V, idx t]
/-- The block of the attention's output. -/
theorem rd1 (c : Dev nD) (t : Fin cfg0.N) (z : Fin 1) (r : Fin 512) (k : Fin 1024) (b : Fin 4) (s : Fin 4096) (hb : (b : ℕ) = t.val / 16)
    (hs : (s : ℕ) = t.val / 2 % 8 * 512 + r) : iblk m c 1 t (ix3 z r k) = m ((c : Thread nD τ).loc main_arg1) (ix3 b s k) := by
  blk_ext [iblk, V, idx t]
/-- The block of the delta rule's output. -/
theorem rd2 (c : Dev nD) (t : Fin cfg0.N) (z : Fin 1) (r : Fin 512) (k : Fin 1024) (b : Fin 4) (s : Fin 4096) (hb : (b : ℕ) = t.val / 16)
    (hs : (s : ℕ) = t.val / 2 % 8 * 512 + r) : iblk m c 2 t (ix3 z r k) = m ((c : Thread nD τ).loc main_arg2) (ix3 b s k) := by
  blk_ext [iblk, V, idx t]
/-- The block of merge gates. -/
theorem rd3 (c : Dev nD) (t : Fin cfg0.N) (z : Fin 1) (r : Fin 512) (k : Fin 2048) (b : Fin 4) (s : Fin 4096) (hb : (b : ℕ) = t.val / 16)
    (hs : (s : ℕ) = t.val / 2 % 8 * 512 + r) : iblk m c 3 t (ix3 z r k) = m ((c : Thread nD τ).loc main_arg3) (ix3 b s k) := by
  blk_ext [iblk, V, idx t]
/-- The block of modulation vectors. -/
theorem rd4 (c : Dev nD) (t : Fin cfg0.N) (z z' : Fin 1) (i : Fin 6) (k : Fin 1024) (b : Fin 4) (l : Fin 6144) (hb : (b : ℕ) = t.val / 16)
    (hl : (l : ℕ) = i * 1024 + k) : iblk m c 4 t (ix4 z i z' k) = m ((c : Thread nD τ).loc main_arg4) (ix2 b l) := by
  blk_ext! [iblk, V, idx t]
/-- The weights of the norm before the hidden layer. -/
theorem rd5 (c : Dev nD) (t : Fin cfg0.N) (z z' : Fin 1) (k : Fin 1024) :
    iblk m c 5 t (ix2 z k) = m ((c : Thread nD τ).loc main_arg5) (ix2 z' k) := by
  blk_ext [iblk, V, idx t]
/-- The weights of the final norm. -/
theorem rd6 (c : Dev nD) (t : Fin cfg0.N) (z : Fin 1) (k : Fin 1024) :
    iblk m c 6 t (ix2 z k) = m ((c : Thread nD τ).loc main_arg9) (ix1 k) := by
  blk_ext! [iblk, V, idx t]
/-- The projection of the mixers. -/
theorem rd7 (c : Dev nD) (t : Fin cfg0.N) (z : Fin 1) (k j : Fin 1024) :
    iblk m c 7 t (ix2 k j) = m ((c : Thread nD τ).loc main_arg6) (ix3 z k j) := by
  blk_ext! [iblk, V, idx t]
/-- The block of weights into the hidden layer. -/
theorem rd8 (c : Dev nD) (t : Fin cfg0.N) (z : Fin 1) (k : Fin 1024) (j : Fin 2048) (l : Fin 4096) (hl : (l : ℕ) = t.val % 2 * 2048 + j) :
    iblk m c 8 t (ix2 k j) = m ((c : Thread nD τ).loc main_arg7) (ix3 z k l) := by
  blk_ext! [iblk, V, idx t]
/-- The block of weights out of the hidden layer. -/
theorem rd9 (c : Dev nD) (t : Fin cfg0.N) (z : Fin 1) (k : Fin 1024) (j : Fin 2048) (l : Fin 4096) (hl : (l : ℕ) = t.val % 2 * 2048 + j) :
    iblk m c 9 t (ix2 j k) = m ((c : Thread nD τ).loc main_arg8) (ix3 z l k) := by
  blk_ext! [iblk, V, idx t]

/-- The stored residual, from the loaded blocks. -/
theorem pay9_at (A : Vec Ideal S1x512x1024 .f32) (B : Vec Ideal S1x1x1x1024 .f32) (W : Vec Ideal S1024x1024 .bf16)
    (Ma Mb : Vec Ideal S1x512x1024 .f32) (N D : Vec Ideal S1x512x1024 .f32) (r : Fin 512) (j : Fin 1024) :
    k0_pay9 (F := Ideal) (k0_pay4 A) (k0_pay5 B) (k0_pay6 W) (k0_pay7 Ma Mb N D) (constant S512x1024 .f32 0#32) (ix2 r j)
      = mixed (fun k => A (ix3 0 r k)) (fun k => Ma (ix3 0 r k)) (fun k => Mb (ix3 0 r k)) (fun k => N (ix3 0 r k)) (fun k => D (ix3 0 r k))
          (fun k => B (ix4 0 0 0 k)) (fun k j => W (ix2 k j)) j := by
  pointwise [k0_pay9, k0_pay8, k0_pay4, k0_pay5, k0_pay6, k0_pay7]
  unfold mixed sg
  simp only [zero_sub]

/-- The stored normed row, from the stored residual. -/
theorem pay10_at (a1 : FVec Ideal S512x1024 .f32) (a2 : FVec Ideal S1x1024 .f32) (a3 : FVec Ideal S1024x1024 .bf16) (a4 : FVec Ideal S512x1024 .bf16)
    (a5 : FVec Ideal S512x1024 .f32) (G : Vec Ideal S1x1024 .f32) (P Q : Vec Ideal S1x1x1x1024 .f32) (r : Fin 512) (j : Fin 1024) :
    k0_pay10 (F := Ideal) a1 a2 a3 a4 a5 G P Q (ix2 r j)
      = hid (fun k => k0_pay9 (F := Ideal) a1 a2 a3 a4 a5 (ix2 r k)) (fun k => G (ix2 0 k)) (fun k => P (ix4 0 0 0 k)) (fun k => Q (ix4 0 0 0 k)) j := by
  have e : ∀ i, k0_pay8 (F := Ideal) a1 a2 a3 a4 a5 i = k0_pay9 (F := Ideal) a1 a2 a3 a4 a5 i := fun i => by
    pointwise [k0_pay9]
  pointwise [k0_pay10]
  simp only [e]
  rfl

/-- The accumulator after a block of hidden units. -/
theorem pay2_at (h : Vec Ideal S512x1024 .bf16) (u : Vec Ideal S1024x2048 .bf16) (a : Vec Ideal S512x1024 .f32) (d : Vec Ideal S2048x1024 .bf16)
    (r : Fin 512) (j : Fin 1024) :
    k0_pay2 (F := Ideal) h u a d (ix2 r j)
      = a (ix2 r j) + ∑ l : Fin 2048, act (fun k => h (ix2 r k)) (fun k => u (ix2 k l)) * d (ix2 l j) := by
  pointwise [k0_pay2]
  rfl

/-- The output block, from the three stored blocks. -/
theorem pay3_at (x : Vec Ideal S512x1024 .f32) (g : Vec Ideal S1x1x1x1024 .f32) (a : Vec Ideal S512x1024 .f32) (gf : Vec Ideal S1x1024 .f32)
    (z : Fin 1) (r : Fin 512) (j : Fin 1024) :
    k0_pay3 (F := Ideal) x g a gf (ix3 z r j)
      = fin (fun k => x (ix2 r k)) (fun k => g (ix4 0 0 0 k)) (fun k => a (ix2 r k)) (fun k => gf (ix2 0 k)) j := by
  pointwise [k0_pay3]
  rfl

/-- The row after the mixers, from the arguments. -/
abbrev X (c : Dev nD) (b : Fin 4) (s : Fin 4096) : Fin 1024 → EReal :=
  Cert.Reference2Ideal.Value.mrow (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg6)) b s

/-- The normed row, from the arguments. -/
abbrev H (c : Dev nD) (b : Fin 4) (s : Fin 4096) : Fin 1024 → EReal :=
  Cert.Reference2Ideal.Value.hrow (X m c b s) (m ((c : Thread nD τ).loc main_arg4)) (m ((c : Thread nD τ).loc main_arg5)) b

/-- One summand of the hidden layer's output, from the arguments. -/
abbrev T (c : Dev nD) (b : Fin 4) (s : Fin 4096) (j : Fin 1024) : Fin 4096 → EReal :=
  Cert.Reference2Ideal.Value.fterm (H m c b s) (m ((c : Thread nD τ).loc main_arg7)) (m ((c : Thread nD τ).loc main_arg8)) j

/-- The first point of a block stores the row after the mixers. -/
theorem x_even (c : Dev nD) (t : Fin cfg0.N) (h : t.val % 2 = 0) (r : Fin 512) (j : Fin 1024) (b : Fin 4) (s : Fin 4096) (hb : (b : ℕ) = t.val / 16)
    (hs : (s : ℕ) = t.val / 2 % 8 * 512 + r) : (outsAt0 m c t.val t.isLt).2.1 (ix2 r j) = X m c b s j := by
  rw [outsAt0_A m c t h (by omega)]
  frame_out
  rw [pay9_at]
  pointwise
  have e0 := fun k => rd0 m c t 0 r k b s hb hs
  have e1 := fun k => rd1 m c t 0 r k b s hb hs
  have e2 := fun k => rd2 m c t 0 r k b s hb hs
  have e3 := fun k => rd3 m c t 0 r k b s hb hs
  have e4 := fun k : Fin 1024 => rd4 m c t 0 0 2 k b ⟨2048 + (k : ℕ), by omega⟩ hb rfl
  have e7 := fun k j => rd7 m c t 0 k j
  simp only [e0, e1, e2, e3, e4, e7]
  rfl

/-- The first point of a block stores the normed row. -/
theorem h_even (c : Dev nD) (t : Fin cfg0.N) (h : t.val % 2 = 0) (r : Fin 512) (j : Fin 1024) (b : Fin 4) (s : Fin 4096) (hb : (b : ℕ) = t.val / 16)
    (hs : (s : ℕ) = t.val / 2 % 8 * 512 + r) : (outsAt0 m c t.val t.isLt).2.2.1 (ix2 r j) = H m c b s j := by
  have e := fun k => x_even m c t h r k b s hb hs
  rw [outsAt0_A m c t h (by omega)] at e ⊢
  frame_out at e
  frame_out
  rw [pay10_at]
  simp only [e]
  pointwise
  have e3 := fun k : Fin 1024 => rd4 m c t 0 0 3 k b ⟨3072 + (k : ℕ), by omega⟩ hb rfl
  have e4 := fun k : Fin 1024 => rd4 m c t 0 0 4 k b ⟨4096 + (k : ℕ), by omega⟩ hb rfl
  have e5 := fun k => rd5 m c t 0 0 k
  simp only [e3, e4, e5]
  rfl

/-- One grid point's share of the hidden layer's output. -/
theorem half (c : Dev nD) (t : Fin cfg0.N) (r : Fin 512) (j : Fin 1024) (b : Fin 4) (s : Fin 4096) (v : Vec Ideal S512x1024 .bf16)
    (a : Vec Ideal S512x1024 .f32) (hv : ∀ k, v (ix2 r k) = H m c b s k) (q : ℕ) (hq : q = t.val % 2 * 2048) (hq' : q ≤ 2048) :
    k0_pay2 (F := Ideal) v (iblk m c 8 t) a (iblk m c 9 t) (ix2 r j)
      = a (ix2 r j) + ∑ l : Fin 2048, T m c b s j ⟨q + (l : ℕ), by omega⟩ := by
  rw [pay2_at]
  have e8 := fun k (l : Fin 2048) => rd8 m c t 0 k l ⟨q + (l : ℕ), by omega⟩ (by simp only [hq])
  have e9 := fun k (l : Fin 2048) => rd9 m c t 0 k l ⟨q + (l : ℕ), by omega⟩ (by simp only [hq])
  simp only [hv, e8, e9]
  rfl

/-- The first point of a block accumulates the first half of the hidden units. -/
theorem a_even (c : Dev nD) (t : Fin cfg0.N) (h : t.val % 2 = 0) (r : Fin 512) (j : Fin 1024) (b : Fin 4) (s : Fin 4096) (hb : (b : ℕ) = t.val / 16)
    (hs : (s : ℕ) = t.val / 2 % 8 * 512 + r) :
    (outsAt0 m c t.val t.isLt).2.2.2 (ix2 r j) = ∑ l : Fin 2048, T m c b s j ⟨(l : ℕ), by omega⟩ := by
  have e := fun k => h_even m c t h r k b s hb hs
  rw [outsAt0_A m c t h (by omega)] at e ⊢
  frame_out at e
  frame_out
  rw [half m c t r j b s _ _ e 0 (by omega) (by omega)]
  pointwise [k0_pay1, k0_pay11]

/-- What the second point of a block writes: the output rows. -/
theorem point (c : Dev nD) (t : Fin cfg0.N) (h : t.val % 2 = 1) (z : Fin 1) (r : Fin 512) (j : Fin 1024) (b : Fin 4) (s : Fin 4096)
    (hb : (b : ℕ) = t.val / 16) (hs : (s : ℕ) = t.val / 2 % 8 * 512 + r) :
    (outsAt0 m c t.val t.isLt).1 (ix3 z r j)
      = Cert.Reference2Ideal.Value.orow (X m c b s) (m ((c : Thread nD τ).loc main_arg4)) (fun d => ∑ l : Fin 4096, T m c b s d l)
          (m ((c : Thread nD τ).loc main_arg9)) b j := by
  have hp : t.val - 1 < cfg0.N := by have := t.isLt; omega
  have ex := fun k => x_even m c ⟨t.val - 1, hp⟩ (by simp only []; omega) r k b s (by simp only []; omega) (by simp only []; omega)
  have eh := fun k => h_even m c ⟨t.val - 1, hp⟩ (by simp only []; omega) r k b s (by simp only []; omega) (by simp only []; omega)
  have ea := fun k => a_even m c ⟨t.val - 1, hp⟩ (by simp only []; omega) r k b s (by simp only []; omega) (by simp only []; omega)
  rw [outsAt0_B m c t (by omega) h]
  frame_out
  simp only [Idealize.ShloMosaic.read_unread_whole]
  rw [pay3_at]
  simp only [half m c t r _ b s _ _ eh 2048 (by omega) (by omega), ex, ea]
  pointwise
  have e5 := fun k : Fin 1024 => rd4 m c t 0 0 5 k b ⟨5120 + (k : ℕ), by omega⟩ hb rfl
  have e6 := fun k => rd6 m c t 0 k
  simp only [e5, e6]
  have es : ∀ d, ∑ l : Fin 4096, T m c b s d l = _ := fun d => Fin.sum_univ_two_halves 2048 2048 rfl (T m c b s d)
  simp only [es]
  rfl

/-- The kernel's output is the plain one, for a memory of the reference that holds the same arguments. -/
theorem final (c : Dev nD) (m' : (ℓ : Loc Cert.Reference2Ideal.nD Cert.Reference2Ideal.τ Cert.Reference2Ideal.sig) → Buf (Elt Ideal) ℓ)
    (e0 : m' ((c.tc : Thread nD τ).loc Cert.Reference2Ideal.main_arg0) = m ((c : Thread nD τ).loc main_arg0))
    (e1 : m' ((c.tc : Thread nD τ).loc Cert.Reference2Ideal.main_arg1) = m ((c : Thread nD τ).loc main_arg1))
    (e2 : m' ((c.tc : Thread nD τ).loc Cert.Reference2Ideal.main_arg2) = m ((c : Thread nD τ).loc main_arg2))
    (e3 : m' ((c.tc : Thread nD τ).loc Cert.Reference2Ideal.main_arg3) = m ((c : Thread nD τ).loc main_arg3))
    (e4 : m' ((c.tc : Thread nD τ).loc Cert.Reference2Ideal.main_arg4) = m ((c : Thread nD τ).loc main_arg4))
    (e5 : m' ((c.tc : Thread nD τ).loc Cert.Reference2Ideal.main_arg5) = m ((c : Thread nD τ).loc main_arg5))
    (e6 : m' ((c.tc : Thread nD τ).loc Cert.Reference2Ideal.main_arg6) = m ((c : Thread nD τ).loc main_arg6))
    (e7 : m' ((c.tc : Thread nD τ).loc Cert.Reference2Ideal.main_arg7) = m ((c : Thread nD τ).loc main_arg7))
    (e8 : m' ((c.tc : Thread nD τ).loc Cert.Reference2Ideal.main_arg8) = m ((c : Thread nD τ).loc main_arg8))
    (e9 : m' ((c.tc : Thread nD τ).loc Cert.Reference2Ideal.main_arg9) = m ((c : Thread nD τ).loc main_arg9)) :
    (dats m 0 c).arrAt 10 (cfgs 0).N = Cert.Reference2Ideal.Value.R0 m' c := by
  refine (dats m 0 c).arrAt_eq_of_covers 10 _ (by decide +kernel) fun t hf y => ?_
  have h := (flush0_10 t).mp hf
  blk_simp
  rw [after0_10]
  generalize hi : ((cfg0.win 10).blk t).view.emb y = i
  have h0 : (i 0 : ℕ) = t.val / 16 := by rw [← hi]; blk_simp [idx t]
  have h1 : (i 1 : ℕ) = t.val / 2 % 8 * 512 + y 1 := by rw [← hi]; blk_simp [idx t]
  have h2 : (i 2 : ℕ) = y 2 := by rw [← hi]; blk_simp [idx t]
  clear hi
  obtain ⟨b, s, j, rfl⟩ : ∃ (b : Fin 4) (s : Fin 4096) (j : Fin 1024), i = ix3 b s j := ⟨i 0, i 1, i 2, eq_ix3 i⟩
  obtain ⟨z, r, j', rfl⟩ : ∃ (z : Fin 1) (r : Fin 512) (j' : Fin 1024), y = ix3 z r j' := ⟨y 0, y 1, y 2, eq_ix3 y⟩
  obtain rfl : j = j' := Fin.ext h2
  rw [Cert.Reference2Ideal.Value.R0_at, e0, e1, e2, e3, e4, e5, e6, e7, e8, e9]
  exact point m c t h z r j b s h0 h1

end Cert.Kernel2Ideal.Value
end
-- ==== Proof.PairMlp.lean ====
module

public import proofs.«01_k».proof.Defs
public import proofs.«01_k».proof.Proof.Mlp
public import Idealize.ShloMosaic.Lib.Claim

/-! The second half of the layer: from the kernel's array to the claim about its program. -/

@[expose] public section

noncomputable section

namespace Cert.Proof

open Idealize.ShloMosaic Idealize.SL.Sem

/-- The kernel of the second half of the layer and the plain program end with the same output. -/
theorem pair_mlp : Cert.algebraic_Kernel2Ideal_Reference2Ideal := by
  pair_intro
  · run_from Cert.Kernel2Ideal.Gen.run_main m g
  · have e := hagree
    run_from Cert.Reference2Ideal.Value.run m' g'
    obtain ⟨e0, e1, e2, e3, e4, e5, e6, e7, e8, e9⟩ := e c
    exact (Cert.Kernel2Ideal.Value.final m c m' e0 e1 e2 e3 e4 e5 e6 e7 e8 e9).symm

end Cert.Proof

end
-- ==== Proof.Normed.lean ====
module

public import Idealize.ShloMosaic.Lib.Pointwise

@[expose] public section

noncomputable section

/-! The modulated root mean square norm of the layer's input, one entry at a time: the rows that every projection multiplies. -/

namespace Cert.Proof

open Idealize.ShloMosaic
open scoped BigOperators

/-- Entry `k` of token `(b, s)` after the norm, the gain `g`, the scale `1 + mod[b, 1024 + k]` and the shift `mod[b, k]`. -/
def nrm (x : FVec Ideal ⟨3, ![4, 4096, 1024]⟩ .f32) (mod : FVec Ideal ⟨2, ![4, 6144]⟩ .f32) (g : FVec Ideal ⟨2, ![1, 1024]⟩ .f32)
    (b : Fin 4) (s : Fin 4096) (k : Fin 1024) : EReal :=
  x (ix3 b s k) * Ideal.rsqrt (Ideal.div (∑ l : Fin 1024, x (ix3 b s l) * x (ix3 b s l)) (Ideal.ofBits .f32 1149239296#32)
        + Ideal.ofBits .f32 897988541#32) * g (ix2 0 k) * (1 + mod (ix2 b ⟨1024 + (k : ℕ), by omega⟩)) + mod (ix2 b ⟨(k : ℕ), by omega⟩)

/-- The projection of token `(b, s)` onto column `o + j` of the weights. -/
def prj (x : FVec Ideal ⟨3, ![4, 4096, 1024]⟩ .f32) (mod : FVec Ideal ⟨2, ![4, 6144]⟩ .f32) (g : FVec Ideal ⟨2, ![1, 1024]⟩ .f32)
    (w : FVec Ideal ⟨3, ![1, 1024, 8768]⟩ .f32) (b : Fin 4) (s : Fin 4096) (j : Fin 8768) : EReal :=
  ∑ k : Fin 1024, nrm x mod g b s k * w (ix3 0 k j)

/-- Entry `k` of sample row `s` after the norm, the gain `g`, the scale `1 + mod[s, 1024 + k]` and the shift `mod[s, k]`. -/
def nrmS (x : FVec Ideal ⟨3, ![128, 1, 1024]⟩ .f32) (mod : FVec Ideal ⟨2, ![128, 6144]⟩ .f32) (g : FVec Ideal ⟨2, ![1, 1024]⟩ .f32)
    (b : Fin 1) (s : Fin 128) (k : Fin 1024) : EReal :=
  x (ix3 s b k) * Ideal.rsqrt (Ideal.div (∑ l : Fin 1024, x (ix3 s b l) * x (ix3 s b l)) (Ideal.ofBits .f32 1149239296#32)
        + Ideal.ofBits .f32 897988541#32) * g (ix2 0 k) * (1 + mod (ix2 s ⟨1024 + (k : ℕ), by omega⟩)) + mod (ix2 s ⟨(k : ℕ), by omega⟩)

/-- The projection of sample row `s` onto column `j` of the weights. -/
def prjS (x : FVec Ideal ⟨3, ![128, 1, 1024]⟩ .f32) (mod : FVec Ideal ⟨2, ![128, 6144]⟩ .f32) (g : FVec Ideal ⟨2, ![1, 1024]⟩ .f32)
    (w : FVec Ideal ⟨3, ![1, 1024, 8768]⟩ .f32) (b : Fin 1) (s : Fin 128) (j : Fin 8768) : EReal :=
  ∑ k : Fin 1024, nrmS x mod g b s k * w (ix3 0 k j)

end Cert.Proof

end
-- ==== Proof.ProjA.lean ====
module

public import proofs.«01_k».proof.Proof.Gen.Kernel3Ideal.Value
public import proofs.«01_k».proof.Proof.Gen.Reference3Ideal.Run
public import proofs.«01_k».proof.Proof.Normed
public import Idealize.ShloMosaic.Lib.Pipeline.ValueKit
public import Idealize.ShloMosaic.Lib.Pointwise

/-! The first projection of the prompt rows: the queries of the attention, and its six key and value arrays, which the kernel writes
    channels first. Each stored block is read back to the arguments and compared with the plain projection. -/

@[expose] public section

set_option maxRecDepth 16384

noncomputable section

namespace Cert.Reference3Ideal.Value

open Cert.Reference3Ideal Cert.Reference3Ideal.Gen Idealize.ShloMosaic Idealize.ShloMosaic.TcCoe Idealize.SL.Sem
open scoped BigOperators

/-- The plain projection of the normed rows onto all of the weight's columns. -/
def P (a0 : FVec Ideal S4x4096x1024 .f32) (a1 : FVec Ideal S4x6144 .f32) (a2 : FVec Ideal S1x1024 .f32)
    (a3 : FVec Ideal S1x1024x8768 .f32) : FVec Ideal S4x4096x8768 .f32 :=
  Host.dotGeneral dot_S4x4096x1024_S1024x8768_S4x4096x8768_2_0_01_1_n_n none (addf
    (mulf (mulf (mulf a0 (broadcastInDim S4x4096x1024 ![0, 1, 2] bcast_S4x4096x1_S4x4096x1024_0_1_2 (Host.rsqrt
    (addf (Host.divf (broadcastInDim S4x4096x1 ![0, 1] bcast_S4x4096_S4x4096x1_0_1 (Host.reduceAdd (mulf a0 a0)
    (constant S_ .f32 0x00000000#32) reducesTo_S4x4096x1024_S4x4096_d2 h_S_)) (broadcastInDim S4x4096x1 ![]
    bcast_S_S4x4096x1 (constant S_ .f32 0x44800000#32))) (broadcastInDim S4x4096x1 ![] bcast_S_S4x4096x1
    (constant S_ .f32 0x358637BD#32)))))) (broadcastInDim S4x4096x1024 ![0, 1, 2]
    bcast_S1x1x1024_S4x4096x1024_0_1_2 (broadcastInDim S1x1x1024 ![2] bcast_S1024_S1x1x1024_2 (shapeCast _ a2
    shapeCasts_S1x1024_S1024)))) (broadcastInDim S4x4096x1024 ![0, 1, 2] bcast_S4x1x1024_S4x4096x1024_0_1_2
    (addf (broadcastInDim S4x1x1024 ![] bcast_S_S4x1x1024 (constant S_ .f32 0x3F800000#32))
    (extractStridedSlice S4x1x1024 ![0, 0, 1024] (broadcastInDim S4x1x6144 ![0, 2] bcast_S4x6144_S4x1x6144_0_2
    a1) slices_S4x1x6144_S4x1x1024_0_0_1024)))) (broadcastInDim S4x4096x1024 ![0, 1, 2]
    bcast_S4x1x1024_S4x4096x1024_0_1_2 (extractStridedSlice S4x1x1024 ![0, 0, 0] (broadcastInDim S4x1x6144 ![0,
    2] bcast_S4x6144_S4x1x6144_0_2 a1) slices_S4x1x6144_S4x1x1024_0_0_0))) (shapeCast _ a3
    shapeCasts_S1x1024x8768_S1024x8768)

/-- The queries of the plain mathematics. -/
def R0 (a0 : FVec Ideal S4x4096x1024 .f32) (a1 : FVec Ideal S4x6144 .f32) (a2 : FVec Ideal S1x1024 .f32)
    (a3 : FVec Ideal S1x1024x8768 .f32) : FVec Ideal S4x4096x1024 .bf16 :=
  truncf .bf16 (extractStridedSlice S4x4096x1024 ![0, 0, 0] (P a0 a1 a2 a3) slices_S4x4096x8768_S4x4096x1024_0_0_0) bitsLt_bf16_f32

/-- The six key and value arrays of the plain mathematics, side by side. -/
def KV (a0 : FVec Ideal S4x4096x1024 .f32) (a1 : FVec Ideal S4x6144 .f32) (a2 : FVec Ideal S1x1024 .f32)
    (a3 : FVec Ideal S1x1024x8768 .f32) : FVec Ideal S4x4096x1536 .f32 :=
  extractStridedSlice S4x4096x1536 ![0, 0, 1024] (P a0 a1 a2 a3) slices_S4x4096x8768_S4x4096x1536_0_0_1024

/-- The compressed keys of the plain mathematics, channels before rows. -/
def R1 (a0 : FVec Ideal S4x4096x1024 .f32) (a1 : FVec Ideal S4x6144 .f32) (a2 : FVec Ideal S1x1024 .f32)
    (a3 : FVec Ideal S1x1024x8768 .f32) : FVec Ideal S4x256x4096 .f32 :=
  transpose S4x256x4096 [0, 2, 1] (extractStridedSlice S4x4096x256 ![0, 0, 0] (KV a0 a1 a2 a3) slices_S4x4096x1536_S4x4096x256_0_0_0)
    transposes_S4x4096x256_S4x256x4096_0_2_1

/-- The compressed values of the plain mathematics, channels before rows. -/
def R2 (a0 : FVec Ideal S4x4096x1024 .f32) (a1 : FVec Ideal S4x6144 .f32) (a2 : FVec Ideal S1x1024 .f32)
    (a3 : FVec Ideal S1x1024x8768 .f32) : FVec Ideal S4x256x4096 .f32 :=
  transpose S4x256x4096 [0, 2, 1] (extractStridedSlice S4x4096x256 ![0, 0, 256] (KV a0 a1 a2 a3) slices_S4x4096x1536_S4x4096x256_0_0_256)
    transposes_S4x4096x256_S4x256x4096_0_2_1

/-- The selected keys of the plain mathematics, channels before rows. -/
def R3 (a0 : FVec Ideal S4x4096x1024 .f32) (a1 : FVec Ideal S4x6144 .f32) (a2 : FVec Ideal S1x1024 .f32)
    (a3 : FVec Ideal S1x1024x8768 .f32) : FVec Ideal S4x256x4096 .f32 :=
  transpose S4x256x4096 [0, 2, 1] (extractStridedSlice S4x4096x256 ![0, 0, 512] (KV a0 a1 a2 a3) slices_S4x4096x1536_S4x4096x256_0_0_512)
    transposes_S4x4096x256_S4x256x4096_0_2_1

/-- The selected values of the plain mathematics, channels before rows. -/
def R4 (a0 : FVec Ideal S4x4096x1024 .f32) (a1 : FVec Ideal S4x6144 .f32) (a2 : FVec Ideal S1x1024 .f32)
    (a3 : FVec Ideal S1x1024x8768 .f32) : FVec Ideal S4x256x4096 .f32 :=
  transpose S4x256x4096 [0, 2, 1] (extractStridedSlice S4x4096x256 ![0, 0, 768] (KV a0 a1 a2 a3) slices_S4x4096x1536_S4x4096x256_0_0_768)
    transposes_S4x4096x256_S4x256x4096_0_2_1

/-- The window keys of the plain mathematics, channels before rows. -/
def R5 (a0 : FVec Ideal S4x4096x1024 .f32) (a1 : FVec Ideal S4x6144 .f32) (a2 : FVec Ideal S1x1024 .f32)
    (a3 : FVec Ideal S1x1024x8768 .f32) : FVec Ideal S4x256x4096 .f32 :=
  transpose S4x256x4096 [0, 2, 1] (extractStridedSlice S4x4096x256 ![0, 0, 1024] (KV a0 a1 a2 a3) slices_S4x4096x1536_S4x4096x256_0_0_1024)
    transposes_S4x4096x256_S4x256x4096_0_2_1

/-- The window values of the plain mathematics, channels before rows. -/
def R6 (a0 : FVec Ideal S4x4096x1024 .f32) (a1 : FVec Ideal S4x6144 .f32) (a2 : FVec Ideal S1x1024 .f32)
    (a3 : FVec Ideal S1x1024x8768 .f32) : FVec Ideal S4x256x4096 .f32 :=
  transpose S4x256x4096 [0, 2, 1] (extractStridedSlice S4x4096x256 ![0, 0, 1280] (KV a0 a1 a2 a3) slices_S4x4096x1536_S4x4096x256_0_0_1280)
    transposes_S4x4096x256_S4x256x4096_0_2_1

/-- An entry of the plain projection. -/
theorem P_at (a0 : FVec Ideal S4x4096x1024 .f32) (a1 : FVec Ideal S4x6144 .f32) (a2 : FVec Ideal S1x1024 .f32)
    (a3 : FVec Ideal S1x1024x8768 .f32) (b : Fin 4) (s : Fin 4096) (l : Fin 8768) :
    P a0 a1 a2 a3 (ix3 b s l) = Cert.Proof.prj a0 a1 a2 a3 b s l := by
  pointwise [P]
  rfl

theorem R0_at (a0 : FVec Ideal S4x4096x1024 .f32) (a1 : FVec Ideal S4x6144 .f32) (a2 : FVec Ideal S1x1024 .f32)
    (a3 : FVec Ideal S1x1024x8768 .f32) (b : Fin 4) (s : Fin 4096) (j : Fin 1024) :
    R0 a0 a1 a2 a3 (ix3 b s j) = Cert.Proof.prj a0 a1 a2 a3 b s ⟨j, by omega⟩ :=
  (show _ = P a0 a1 a2 a3 (ix3 b s ⟨j, by omega⟩) by pointwise [R0]).trans (P_at a0 a1 a2 a3 b s _)

theorem KV_at (a0 : FVec Ideal S4x4096x1024 .f32) (a1 : FVec Ideal S4x6144 .f32) (a2 : FVec Ideal S1x1024 .f32)
    (a3 : FVec Ideal S1x1024x8768 .f32) (b : Fin 4) (s : Fin 4096) (l : Fin 1536) :
    KV a0 a1 a2 a3 (ix3 b s l) = Cert.Proof.prj a0 a1 a2 a3 b s ⟨1024 + (l : ℕ), by omega⟩ :=
  (show _ = P a0 a1 a2 a3 (ix3 b s ⟨1024 + (l : ℕ), by omega⟩) by pointwise [KV]).trans (P_at a0 a1 a2 a3 b s _)

theorem R1_at (a0 : FVec Ideal S4x4096x1024 .f32) (a1 : FVec Ideal S4x6144 .f32) (a2 : FVec Ideal S1x1024 .f32)
    (a3 : FVec Ideal S1x1024x8768 .f32) (b : Fin 4) (s : Fin 4096) (j : Fin 256) :
    R1 a0 a1 a2 a3 (ix3 b j s) = Cert.Proof.prj a0 a1 a2 a3 b s ⟨1024 + (j : ℕ), by omega⟩ := by
  refine (show _ = KV a0 a1 a2 a3 (ix3 b s ⟨0 + (j : ℕ), by omega⟩) by pointwise [R1]).trans ((KV_at a0 a1 a2 a3 b s _).trans ?_)
  exact congrArg (Cert.Proof.prj a0 a1 a2 a3 b s) (Fin.ext (by simp only []; omega))

theorem R2_at (a0 : FVec Ideal S4x4096x1024 .f32) (a1 : FVec Ideal S4x6144 .f32) (a2 : FVec Ideal S1x1024 .f32)
    (a3 : FVec Ideal S1x1024x8768 .f32) (b : Fin 4) (s : Fin 4096) (j : Fin 256) :
    R2 a0 a1 a2 a3 (ix3 b j s) = Cert.Proof.prj a0 a1 a2 a3 b s ⟨1280 + (j : ℕ), by omega⟩ := by
  refine (show _ = KV a0 a1 a2 a3 (ix3 b s ⟨256 + (j : ℕ), by omega⟩) by pointwise [R2]).trans ((KV_at a0 a1 a2 a3 b s _).trans ?_)
  exact congrArg (Cert.Proof.prj a0 a1 a2 a3 b s) (Fin.ext (by simp only []; omega))

theorem R3_at (a0 : FVec Ideal S4x4096x1024 .f32) (a1 : FVec Ideal S4x6144 .f32) (a2 : FVec Ideal S1x1024 .f32)
    (a3 : FVec Ideal S1x1024x8768 .f32) (b : Fin 4) (s : Fin 4096) (j : Fin 256) :
    R3 a0 a1 a2 a3 (ix3 b j s) = Cert.Proof.prj a0 a1 a2 a3 b s ⟨1536 + (j : ℕ), by omega⟩ := by
  refine (show _ = KV a0 a1 a2 a3 (ix3 b s ⟨512 + (j : ℕ), by omega⟩) by pointwise [R3]).trans ((KV_at a0 a1 a2 a3 b s _).trans ?_)
  exact congrArg (Cert.Proof.prj a0 a1 a2 a3 b s) (Fin.ext (by simp only []; omega))

theorem R4_at (a0 : FVec Ideal S4x4096x1024 .f32) (a1 : FVec Ideal S4x6144 .f32) (a2 : FVec Ideal S1x1024 .f32)
    (a3 : FVec Ideal S1x1024x8768 .f32) (b : Fin 4) (s : Fin 4096) (j : Fin 256) :
    R4 a0 a1 a2 a3 (ix3 b j s) = Cert.Proof.prj a0 a1 a2 a3 b s ⟨1792 + (j : ℕ), by omega⟩ := by
  refine (show _ = KV a0 a1 a2 a3 (ix3 b s ⟨768 + (j : ℕ), by omega⟩) by pointwise [R4]).trans ((KV_at a0 a1 a2 a3 b s _).trans ?_)
  exact congrArg (Cert.Proof.prj a0 a1 a2 a3 b s) (Fin.ext (by simp only []; omega))

theorem R5_at (a0 : FVec Ideal S4x4096x1024 .f32) (a1 : FVec Ideal S4x6144 .f32) (a2 : FVec Ideal S1x1024 .f32)
    (a3 : FVec Ideal S1x1024x8768 .f32) (b : Fin 4) (s : Fin 4096) (j : Fin 256) :
    R5 a0 a1 a2 a3 (ix3 b j s) = Cert.Proof.prj a0 a1 a2 a3 b s ⟨2048 + (j : ℕ), by omega⟩ := by
  refine (show _ = KV a0 a1 a2 a3 (ix3 b s ⟨1024 + (j : ℕ), by omega⟩) by pointwise [R5]).trans ((KV_at a0 a1 a2 a3 b s _).trans ?_)
  exact congrArg (Cert.Proof.prj a0 a1 a2 a3 b s) (Fin.ext (by simp only []; omega))

theorem R6_at (a0 : FVec Ideal S4x4096x1024 .f32) (a1 : FVec Ideal S4x6144 .f32) (a2 : FVec Ideal S1x1024 .f32)
    (a3 : FVec Ideal S1x1024x8768 .f32) (b : Fin 4) (s : Fin 4096) (j : Fin 256) :
    R6 a0 a1 a2 a3 (ix3 b j s) = Cert.Proof.prj a0 a1 a2 a3 b s ⟨2304 + (j : ℕ), by omega⟩ := by
  refine (show _ = KV a0 a1 a2 a3 (ix3 b s ⟨1280 + (j : ℕ), by omega⟩) by pointwise [R6]).trans ((KV_at a0 a1 a2 a3 b s _).trans ?_)
  exact congrArg (Cert.Proof.prj a0 a1 a2 a3 b s) (Fin.ext (by simp only []; omega))

end Cert.Reference3Ideal.Value

namespace Cert.Kernel3Ideal.Value

open Cert.Kernel3Ideal Cert.Kernel3Ideal.Gen Idealize.ShloMosaic Idealize.ShloMosaic.TcCoe Idealize.SL.Sem
open Idealize.ShloMosaic.Pipeline (Dat)
open scoped BigOperators
variable (m : (ℓ : Loc nD τ sig) → Buf (Elt Ideal) ℓ)

/-- Which block of each window grid point `t` works on. -/
theorem idx : ∀ t : Fin cfg0.N, win0_0.index t = ![t.val / 8, t.val % 8, 0] ∧ win0_1.index t = ![t.val / 8, 0, 0, 0] ∧ win0_2.index t = ![0, 0] ∧ win0_3.index t = ![0, 0] ∧
    win0_4.index t = ![0, 0] ∧ win0_5.index t = ![0, 0] ∧ win0_6.index t = ![0, 0] ∧ win0_7.index t = ![0, 0] ∧
    win0_8.index t = ![0, 0] ∧ win0_9.index t = ![0, 0] ∧ win0_10.index t = ![t.val / 8, t.val % 8, 0] ∧ win0_11.index t = ![t.val / 8, 0, t.val % 8] ∧
    win0_12.index t = ![t.val / 8, 0, t.val % 8] ∧ win0_13.index t = ![t.val / 8, 0, t.val % 8] ∧ win0_14.index t = ![t.val / 8, 0, t.val % 8] ∧ win0_15.index t = ![t.val / 8, 0, t.val % 8] ∧
    win0_16.index t = ![t.val / 8, 0, t.val % 8] ∧ t.val < 32 :=
  (by decide +kernel : ∀ t : Fin grid0.N, _)

/-- The block of activations, read from the whole array. -/
theorem rd0 (c : Dev nD) (t : Fin cfg0.N) (z : Fin 1) (r : Fin 512) (k : Fin 1024) (b : Fin 4) (s : Fin 4096) (hb : (b : ℕ) = t.val / 8)
    (hs : (s : ℕ) = t.val % 8 * 512 + r) : iblk m c 0 t (ix3 z r k) = m ((c : Thread nD τ).loc main_arg0) (ix3 b s k) := by
  blk_ext [iblk, V, idx t]

/-- The block of modulation vectors. -/
theorem rd1 (c : Dev nD) (t : Fin cfg0.N) (z z' : Fin 1) (i : Fin 6) (k : Fin 1024) (b : Fin 4) (l : Fin 6144) (hb : (b : ℕ) = t.val / 8)
    (hl : (l : ℕ) = i * 1024 + k) : iblk m c 1 t (ix4 z i z' k) = m ((c : Thread nD τ).loc main_arg1) (ix2 b l) := by
  blk_ext! [iblk, V, idx t]

/-- The norm's weights. -/
theorem rd2 (c : Dev nD) (t : Fin cfg0.N) (z z' : Fin 1) (k : Fin 1024) :
    iblk m c 2 t (ix2 z k) = m ((c : Thread nD τ).loc main_arg2) (ix2 z' k) := by
  blk_ext [iblk, V, idx t]

/-- The weight columns of the queries. -/
theorem rd3 (c : Dev nD) (t : Fin cfg0.N) (z : Fin 1) (k : Fin 1024) (j : Fin 1024) (l : Fin 8768) (hl : (l : ℕ) = j) :
    iblk m c 3 t (ix2 k j) = m ((c : Thread nD τ).loc main_arg3) (ix3 z k l) := by
  blk_ext! [iblk, V, idx t]

/-- The weight columns of the compressed keys, transposed on the host. -/
theorem rd4 (c : Dev nD) (t : Fin cfg0.N) (z : Fin 1) (k : Fin 1024) (j : Fin 256) (l : Fin 8768) (hl : (l : ℕ) = 1024 + j) :
    iblk m c 4 t (ix2 j k) = m ((c : Thread nD τ).loc main_arg3) (ix3 z k l) := by
  blk_ext! [iblk, V, idx t]

/-- The weight columns of the compressed values, transposed on the host. -/
theorem rd5 (c : Dev nD) (t : Fin cfg0.N) (z : Fin 1) (k : Fin 1024) (j : Fin 256) (l : Fin 8768) (hl : (l : ℕ) = 1280 + j) :
    iblk m c 5 t (ix2 j k) = m ((c : Thread nD τ).loc main_arg3) (ix3 z k l) := by
  blk_ext! [iblk, V, idx t]

/-- The weight columns of the selected keys, transposed on the host. -/
theorem rd6 (c : Dev nD) (t : Fin cfg0.N) (z : Fin 1) (k : Fin 1024) (j : Fin 256) (l : Fin 8768) (hl : (l : ℕ) = 1536 + j) :
    iblk m c 6 t (ix2 j k) = m ((c : Thread nD τ).loc main_arg3) (ix3 z k l) := by
  blk_ext! [iblk, V, idx t]

/-- The weight columns of the selected values, transposed on the host. -/
theorem rd7 (c : Dev nD) (t : Fin cfg0.N) (z : Fin 1) (k : Fin 1024) (j : Fin 256) (l : Fin 8768) (hl : (l : ℕ) = 1792 + j) :
    iblk m c 7 t (ix2 j k) = m ((c : Thread nD τ).loc main_arg3) (ix3 z k l) := by
  blk_ext! [iblk, V, idx t]

/-- The weight columns of the window keys, transposed on the host. -/
theorem rd8 (c : Dev nD) (t : Fin cfg0.N) (z : Fin 1) (k : Fin 1024) (j : Fin 256) (l : Fin 8768) (hl : (l : ℕ) = 2048 + j) :
    iblk m c 8 t (ix2 j k) = m ((c : Thread nD τ).loc main_arg3) (ix3 z k l) := by
  blk_ext! [iblk, V, idx t]

/-- The weight columns of the window values, transposed on the host. -/
theorem rd9 (c : Dev nD) (t : Fin cfg0.N) (z : Fin 1) (k : Fin 1024) (j : Fin 256) (l : Fin 8768) (hl : (l : ℕ) = 2304 + j) :
    iblk m c 9 t (ix2 j k) = m ((c : Thread nD τ).loc main_arg3) (ix3 z k l) := by
  blk_ext! [iblk, V, idx t]

/-- The normed row the kernel works from. -/
theorem row (c : Dev nD) (t : Fin cfg0.N) (r : Fin 512) (k : Fin 1024) (b : Fin 4) (s : Fin 4096) (hb : (b : ℕ) = t.val / 8)
    (hs : (s : ℕ) = t.val % 8 * 512 + r) :
    k0_pay11 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r k)
      = Cert.Proof.nrm (m ((c : Thread nD τ).loc main_arg0)) (m ((c : Thread nD τ).loc main_arg1))
          (m ((c : Thread nD τ).loc main_arg2)) b s k := by
  unfold k0_pay11
  pointwise [k0_pay4]
  unfold Cert.Proof.nrm
  have e0 := fun k => rd0 m c t 0 r k b s hb hs
  simp only [e0]
  rw [rd1 m c t 0 0 1 k b ⟨1024 + k, by omega⟩ hb rfl, rd1 m c t 0 0 0 k b ⟨k, by omega⟩ hb (by simp), rd2 m c t 0 0 k]

/-- A tile of 512 query columns: the row times the tile's weight columns. -/
theorem mm (h : FVec Ideal S512x1024 .bf16) (w : Vec Ideal S1024x512 .bf16) (x : S1x512x512.Idx) :
    k0_pay6 (F := Ideal) h w x = ∑ k : Fin 1024, h (ix2 (x 1) k) * w (ix2 k (x 2)) := by
  pointwise [k0_pay6]

/-- A channels-first tile: the weight's channel times the row. -/
theorem mt (h : FVec Ideal S512x1024 .bf16) (w : Vec Ideal S256x1024 .bf16) (x : S1x256x512.Idx) :
    k0_pay7 (F := Ideal) h w x = ∑ k : Fin 1024, w (ix2 (x 1) k) * h (ix2 (x 2) k) := by
  pointwise [k0_pay7]

/-- A tile of queries is the plain projection's. -/
theorem q (c : Dev nD) (t : Fin cfg0.N) (x : S1x512x512.Idx) (w : Vec Ideal S1024x512 .bf16) (b : Fin 4) (s : Fin 4096) (l : Fin 8768)
    (hb : (b : ℕ) = t.val / 8) (hs : (s : ℕ) = t.val % 8 * 512 + x 1)
    (hw : ∀ k : Fin 1024, w (ix2 k (x 2)) = m ((c : Thread nD τ).loc main_arg3) (ix3 0 k l)) :
    k0_pay6 (F := Ideal) (k0_pay11 (F := Ideal) (iblk m c 0 t) (iblk m c 1 t) (iblk m c 2 t) (iblk m c 3 t) (iblk m c 4 t) (iblk m c 5 t) (iblk m c 6 t) (iblk m c 7 t) (iblk m c 8 t) (iblk m c 9 t)) w x
      = Cert.Proof.prj (m ((c : Thread nD τ).loc main_arg0)) (m ((c : Thread nD τ).loc main_arg1))
          (m ((c : Thread nD τ).loc main_arg2)) (m ((c : Thread nD τ).loc main_arg3)) b s l :=
  (mm _ w x).trans (Finset.sum_congr rfl fun k _ => congrArg₂ (· * ·) (row m c t (x 1) k b s hb hs) (hw k))

/-- A channels-first tile is the plain projection's. -/
theorem kv (c : Dev nD) (t : Fin cfg0.N) (x : S1x256x512.Idx) (w : Vec Ideal S256x1024 .bf16) (b : Fin 4) (s : Fin 4096) (l : Fin 8768)
    (hb : (b : ℕ) = t.val / 8) (hs : (s : ℕ) = t.val % 8 * 512 + x 2)
    (hw : ∀ k : Fin 1024, w (ix2 (x 1) k) = m ((c : Thread nD τ).loc main_arg3) (ix3 0 k l)) :
    k0_pay7 (F := Ideal) (k0_pay11 (F := Ideal) (iblk m c 0 t) (iblk m c 1 t) (iblk m c 2 t) (iblk m c 3 t) (iblk m c 4 t) (iblk m c 5 t) (iblk m c 6 t) (iblk m c 7 t) (iblk m c 8 t) (iblk m c 9 t)) w x
      = Cert.Proof.prj (m ((c : Thread nD τ).loc main_arg0)) (m ((c : Thread nD τ).loc main_arg1))
          (m ((c : Thread nD τ).loc main_arg2)) (m ((c : Thread nD τ).loc main_arg3)) b s l :=
  (mt _ w x).trans (Finset.sum_congr rfl fun k _ =>
    (congrArg₂ (· * ·) (hw k) (row m c t (x 2) k b s hb hs)).trans (mul_comm _ _))

/-- The kernel's queries are the plain ones. -/
theorem final10 (c : Dev nD) : (dats m 0 c).arrAt 10 (cfgs 0).N
    = Cert.Reference3Ideal.Value.R0 (m ((c : Thread nD τ).loc main_arg0)) (m ((c : Thread nD τ).loc main_arg1))
          (m ((c : Thread nD τ).loc main_arg2)) (m ((c : Thread nD τ).loc main_arg3)) := by
  refine (dats m 0 c).arrAt_eq_of_covers 10 _ (by decide +kernel) fun t _ y => ?_
  blk_simp
  rw [after0_10]
  generalize hi : ((cfg0.win 10).blk t).view.emb y = i
  have h0 : (i 0 : ℕ) = t.val / 8 := by rw [← hi]; blk_simp [idx t]
  have h1 : (i 1 : ℕ) = t.val % 8 * 512 + y 1 := by rw [← hi]; blk_simp [idx t]
  have h2 : (i 2 : ℕ) = y 2 := by rw [← hi]; blk_simp [idx t]
  clear hi
  obtain ⟨b, s, j, rfl⟩ : ∃ (b : Fin 4) (s : Fin 4096) (j : Fin 1024), i = ix3 b s j := ⟨i 0, i 1, i 2, eq_ix3 i⟩
  rw [Cert.Reference3Ideal.Value.R0_at]
  have hl : (j : ℕ) = y 2 := h2
  unfold out0_10
  canon_tiles x hx
  all_goals
    refine q m c t x _ b s ⟨j, by omega⟩ h0 (h1.trans (by rw [hx1])) fun k => ?_
    pointwise
    exact rd3 m c t 0 k _ _ (by simp only [hl, hx2])

/-- The kernel's array of compressed keys is the plain one. -/
theorem final11 (c : Dev nD) : (dats m 0 c).arrAt 11 (cfgs 0).N
    = Cert.Reference3Ideal.Value.R1 (m ((c : Thread nD τ).loc main_arg0)) (m ((c : Thread nD τ).loc main_arg1))
          (m ((c : Thread nD τ).loc main_arg2)) (m ((c : Thread nD τ).loc main_arg3)) := by
  refine (dats m 0 c).arrAt_eq_of_covers 11 _ (by decide +kernel) fun t _ y => ?_
  blk_simp
  rw [after0_11]
  generalize hi : ((cfg0.win 11).blk t).view.emb y = i
  have h0 : (i 0 : ℕ) = t.val / 8 := by rw [← hi]; blk_simp [idx t]
  have h1 : (i 1 : ℕ) = y 1 := by rw [← hi]; blk_simp [idx t]
  have h2 : (i 2 : ℕ) = t.val % 8 * 512 + y 2 := by rw [← hi]; blk_simp [idx t]
  clear hi
  obtain ⟨b, j, s, rfl⟩ : ∃ (b : Fin 4) (j : Fin 256) (s : Fin 4096), i = ix3 b j s := ⟨i 0, i 1, i 2, eq_ix3 i⟩
  rw [Cert.Reference3Ideal.Value.R1_at]
  have hl : (1024 + (j : ℕ)) = 1024 + y 1 := congrArg (1024 + ·) h1
  unfold out0_11
  canon_tiles x hx
  refine kv m c t x _ b s ⟨1024 + (j : ℕ), by omega⟩ h0 (h2.trans (by rw [hx2])) fun k => ?_
  pointwise
  exact rd4 m c t 0 k _ _ (by simp only [hl, hx1])

/-- The kernel's array of compressed values is the plain one. -/
theorem final12 (c : Dev nD) : (dats m 0 c).arrAt 12 (cfgs 0).N
    = Cert.Reference3Ideal.Value.R2 (m ((c : Thread nD τ).loc main_arg0)) (m ((c : Thread nD τ).loc main_arg1))
          (m ((c : Thread nD τ).loc main_arg2)) (m ((c : Thread nD τ).loc main_arg3)) := by
  refine (dats m 0 c).arrAt_eq_of_covers 12 _ (by decide +kernel) fun t _ y => ?_
  blk_simp
  rw [after0_12]
  generalize hi : ((cfg0.win 12).blk t).view.emb y = i
  have h0 : (i 0 : ℕ) = t.val / 8 := by rw [← hi]; blk_simp [idx t]
  have h1 : (i 1 : ℕ) = y 1 := by rw [← hi]; blk_simp [idx t]
  have h2 : (i 2 : ℕ) = t.val % 8 * 512 + y 2 := by rw [← hi]; blk_simp [idx t]
  clear hi
  obtain ⟨b, j, s, rfl⟩ : ∃ (b : Fin 4) (j : Fin 256) (s : Fin 4096), i = ix3 b j s := ⟨i 0, i 1, i 2, eq_ix3 i⟩
  rw [Cert.Reference3Ideal.Value.R2_at]
  have hl : (1280 + (j : ℕ)) = 1280 + y 1 := congrArg (1280 + ·) h1
  unfold out0_12
  canon_tiles x hx
  refine kv m c t x _ b s ⟨1280 + (j : ℕ), by omega⟩ h0 (h2.trans (by rw [hx2])) fun k => ?_
  pointwise
  exact rd5 m c t 0 k _ _ (by simp only [hl, hx1])

/-- The kernel's array of selected keys is the plain one. -/
theorem final13 (c : Dev nD) : (dats m 0 c).arrAt 13 (cfgs 0).N
    = Cert.Reference3Ideal.Value.R3 (m ((c : Thread nD τ).loc main_arg0)) (m ((c : Thread nD τ).loc main_arg1))
          (m ((c : Thread nD τ).loc main_arg2)) (m ((c : Thread nD τ).loc main_arg3)) := by
  refine (dats m 0 c).arrAt_eq_of_covers 13 _ (by decide +kernel) fun t _ y => ?_
  blk_simp
  rw [after0_13]
  generalize hi : ((cfg0.win 13).blk t).view.emb y = i
  have h0 : (i 0 : ℕ) = t.val / 8 := by rw [← hi]; blk_simp [idx t]
  have h1 : (i 1 : ℕ) = y 1 := by rw [← hi]; blk_simp [idx t]
  have h2 : (i 2 : ℕ) = t.val % 8 * 512 + y 2 := by rw [← hi]; blk_simp [idx t]
  clear hi
  obtain ⟨b, j, s, rfl⟩ : ∃ (b : Fin 4) (j : Fin 256) (s : Fin 4096), i = ix3 b j s := ⟨i 0, i 1, i 2, eq_ix3 i⟩
  rw [Cert.Reference3Ideal.Value.R3_at]
  have hl : (1536 + (j : ℕ)) = 1536 + y 1 := congrArg (1536 + ·) h1
  unfold out0_13
  canon_tiles x hx
  refine kv m c t x _ b s ⟨1536 + (j : ℕ), by omega⟩ h0 (h2.trans (by rw [hx2])) fun k => ?_
  pointwise
  exact rd6 m c t 0 k _ _ (by simp only [hl, hx1])

/-- The kernel's array of selected values is the plain one. -/
theorem final14 (c : Dev nD) : (dats m 0 c).arrAt 14 (cfgs 0).N
    = Cert.Reference3Ideal.Value.R4 (m ((c : Thread nD τ).loc main_arg0)) (m ((c : Thread nD τ).loc main_arg1))
          (m ((c : Thread nD τ).loc main_arg2)) (m ((c : Thread nD τ).loc main_arg3)) := by
  refine (dats m 0 c).arrAt_eq_of_covers 14 _ (by decide +kernel) fun t _ y => ?_
  blk_simp
  rw [after0_14]
  generalize hi : ((cfg0.win 14).blk t).view.emb y = i
  have h0 : (i 0 : ℕ) = t.val / 8 := by rw [← hi]; blk_simp [idx t]
  have h1 : (i 1 : ℕ) = y 1 := by rw [← hi]; blk_simp [idx t]
  have h2 : (i 2 : ℕ) = t.val % 8 * 512 + y 2 := by rw [← hi]; blk_simp [idx t]
  clear hi
  obtain ⟨b, j, s, rfl⟩ : ∃ (b : Fin 4) (j : Fin 256) (s : Fin 4096), i = ix3 b j s := ⟨i 0, i 1, i 2, eq_ix3 i⟩
  rw [Cert.Reference3Ideal.Value.R4_at]
  have hl : (1792 + (j : ℕ)) = 1792 + y 1 := congrArg (1792 + ·) h1
  unfold out0_14
  canon_tiles x hx
  refine kv m c t x _ b s ⟨1792 + (j : ℕ), by omega⟩ h0 (h2.trans (by rw [hx2])) fun k => ?_
  pointwise
  exact rd7 m c t 0 k _ _ (by simp only [hl, hx1])

/-- The kernel's array of window keys is the plain one. -/
theorem final15 (c : Dev nD) : (dats m 0 c).arrAt 15 (cfgs 0).N
    = Cert.Reference3Ideal.Value.R5 (m ((c : Thread nD τ).loc main_arg0)) (m ((c : Thread nD τ).loc main_arg1))
          (m ((c : Thread nD τ).loc main_arg2)) (m ((c : Thread nD τ).loc main_arg3)) := by
  refine (dats m 0 c).arrAt_eq_of_covers 15 _ (by decide +kernel) fun t _ y => ?_
  blk_simp
  rw [after0_15]
  generalize hi : ((cfg0.win 15).blk t).view.emb y = i
  have h0 : (i 0 : ℕ) = t.val / 8 := by rw [← hi]; blk_simp [idx t]
  have h1 : (i 1 : ℕ) = y 1 := by rw [← hi]; blk_simp [idx t]
  have h2 : (i 2 : ℕ) = t.val % 8 * 512 + y 2 := by rw [← hi]; blk_simp [idx t]
  clear hi
  obtain ⟨b, j, s, rfl⟩ : ∃ (b : Fin 4) (j : Fin 256) (s : Fin 4096), i = ix3 b j s := ⟨i 0, i 1, i 2, eq_ix3 i⟩
  rw [Cert.Reference3Ideal.Value.R5_at]
  have hl : (2048 + (j : ℕ)) = 2048 + y 1 := congrArg (2048 + ·) h1
  unfold out0_15
  canon_tiles x hx
  refine kv m c t x _ b s ⟨2048 + (j : ℕ), by omega⟩ h0 (h2.trans (by rw [hx2])) fun k => ?_
  pointwise
  exact rd8 m c t 0 k _ _ (by simp only [hl, hx1])

/-- The kernel's array of window values is the plain one. -/
theorem final16 (c : Dev nD) : (dats m 0 c).arrAt 16 (cfgs 0).N
    = Cert.Reference3Ideal.Value.R6 (m ((c : Thread nD τ).loc main_arg0)) (m ((c : Thread nD τ).loc main_arg1))
          (m ((c : Thread nD τ).loc main_arg2)) (m ((c : Thread nD τ).loc main_arg3)) := by
  refine (dats m 0 c).arrAt_eq_of_covers 16 _ (by decide +kernel) fun t _ y => ?_
  blk_simp
  rw [after0_16]
  generalize hi : ((cfg0.win 16).blk t).view.emb y = i
  have h0 : (i 0 : ℕ) = t.val / 8 := by rw [← hi]; blk_simp [idx t]
  have h1 : (i 1 : ℕ) = y 1 := by rw [← hi]; blk_simp [idx t]
  have h2 : (i 2 : ℕ) = t.val % 8 * 512 + y 2 := by rw [← hi]; blk_simp [idx t]
  clear hi
  obtain ⟨b, j, s, rfl⟩ : ∃ (b : Fin 4) (j : Fin 256) (s : Fin 4096), i = ix3 b j s := ⟨i 0, i 1, i 2, eq_ix3 i⟩
  rw [Cert.Reference3Ideal.Value.R6_at]
  have hl : (2304 + (j : ℕ)) = 2304 + y 1 := congrArg (2304 + ·) h1
  unfold out0_16
  canon_tiles x hx
  refine kv m c t x _ b s ⟨2304 + (j : ℕ), by omega⟩ h0 (h2.trans (by rw [hx2])) fun k => ?_
  pointwise
  exact rd9 m c t 0 k _ _ (by simp only [hl, hx1])

end Cert.Kernel3Ideal.Value

end
-- ==== Proof.ProjB.lean ====
module

public import proofs.«01_k».proof.Proof.Gen.Kernel4Ideal.Value
public import proofs.«01_k».proof.Proof.Gen.Reference4Ideal.Run
public import proofs.«01_k».proof.Proof.Normed
public import Idealize.ShloMosaic.Lib.Pipeline.ValueKit
public import Idealize.ShloMosaic.Lib.Pointwise

/-! The second projection of the prompt rows: the delta rule's q, k and v, read from the kernel's blocks and compared with the plain
    projection. -/

@[expose] public section

set_option maxRecDepth 16384

noncomputable section

namespace Cert.Reference4Ideal.Value

open Cert.Reference4Ideal Cert.Reference4Ideal.Gen Idealize.ShloMosaic Idealize.ShloMosaic.TcCoe Idealize.SL.Sem
open scoped BigOperators

/-- The plain mathematics' q, k and v of the delta rule, as their composed term. -/
def R0 (a0 : FVec Ideal S4x4096x1024 .f32) (a1 : FVec Ideal S4x6144 .f32) (a2 : FVec Ideal S1x1024 .f32) (a3 :
    FVec Ideal S1x1024x8768 .f32) :
    FVec Ideal S4x4096x3072 .f32 :=
  extractStridedSlice S4x4096x3072 ![0,
    0, 2608] (Host.dotGeneral dot_S4x4096x1024_S1024x8768_S4x4096x8768_2_0_01_1_n_n none (addf (mulf (mulf
    (mulf a0 (broadcastInDim S4x4096x1024 ![0, 1, 2] bcast_S4x4096x1_S4x4096x1024_0_1_2 (Host.rsqrt (addf
    (Host.divf (broadcastInDim S4x4096x1 ![0, 1] bcast_S4x4096_S4x4096x1_0_1 (Host.reduceAdd (mulf a0 a0)
    (constant S_ .f32 0x00000000#32) reducesTo_S4x4096x1024_S4x4096_d2 h_S_)) (broadcastInDim S4x4096x1 ![]
    bcast_S_S4x4096x1 (constant S_ .f32 0x44800000#32))) (broadcastInDim S4x4096x1 ![] bcast_S_S4x4096x1
    (constant S_ .f32 0x358637BD#32)))))) (broadcastInDim S4x4096x1024 ![0, 1, 2]
    bcast_S1x1x1024_S4x4096x1024_0_1_2 (broadcastInDim S1x1x1024 ![2] bcast_S1024_S1x1x1024_2 (shapeCast _ a2
    shapeCasts_S1x1024_S1024)))) (broadcastInDim S4x4096x1024 ![0, 1, 2] bcast_S4x1x1024_S4x4096x1024_0_1_2
    (addf (broadcastInDim S4x1x1024 ![] bcast_S_S4x1x1024 (constant S_ .f32 0x3F800000#32))
    (extractStridedSlice S4x1x1024 ![0, 0, 1024] (broadcastInDim S4x1x6144 ![0, 2] bcast_S4x6144_S4x1x6144_0_2
    a1) slices_S4x1x6144_S4x1x1024_0_0_1024)))) (broadcastInDim S4x4096x1024 ![0, 1, 2]
    bcast_S4x1x1024_S4x4096x1024_0_1_2 (extractStridedSlice S4x1x1024 ![0, 0, 0] (broadcastInDim S4x1x6144 ![0,
    2] bcast_S4x6144_S4x1x6144_0_2 a1) slices_S4x1x6144_S4x1x1024_0_0_0))) (shapeCast _ a3
    shapeCasts_S1x1024x8768_S1024x8768)) slices_S4x4096x8768_S4x4096x3072_0_0_2608

/-- An entry of them: one entry of the projected normed row. -/
theorem R0_at (a0 : FVec Ideal S4x4096x1024 .f32) (a1 : FVec Ideal S4x6144 .f32) (a2 : FVec Ideal S1x1024 .f32)
    (a3 : FVec Ideal S1x1024x8768 .f32) (b : Fin 4) (s : Fin 4096) (j : Fin 3072) :
    R0 a0 a1 a2 a3 (ix3 b s j) = Cert.Proof.prj a0 a1 a2 a3 b s ⟨2608 + (j : ℕ), by omega⟩ := by
  pointwise [R0]
  rfl

end Cert.Reference4Ideal.Value

namespace Cert.Kernel4Ideal.Value

open Cert.Kernel4Ideal Cert.Kernel4Ideal.Gen Idealize.ShloMosaic Idealize.ShloMosaic.TcCoe Idealize.SL.Sem
open Idealize.ShloMosaic.Pipeline (Dat)
open scoped BigOperators
variable (m : (ℓ : Loc nD τ sig) → Buf (Elt Ideal) ℓ)

/-- Which block of each window grid point `t` works on. -/
theorem idx : ∀ t : Fin cfg0.N, win0_0.index t = ![t.val / 8, t.val % 8, 0] ∧ win0_1.index t = ![t.val / 8, 0, 0, 0] ∧ win0_2.index t = ![0, 0] ∧ win0_3.index t = ![0, 0] ∧ win0_4.index t = ![t.val / 8, t.val % 8, 0] ∧ t.val < 32 :=
  (by decide +kernel : ∀ t : Fin grid0.N, _)

/-- The block of activations, read from the whole array. -/
theorem rd0 (c : Dev nD) (t : Fin cfg0.N) (z : Fin 1) (r : Fin 512) (k : Fin 1024) (b : Fin 4) (s : Fin 4096) (hb : (b : ℕ) = t.val / 8)
    (hs : (s : ℕ) = t.val % 8 * 512 + r) : iblk m c 0 t (ix3 z r k) = m ((c : Thread nD τ).loc main_arg0) (ix3 b s k) := by
  blk_ext [iblk, V, idx t]

/-- The block of modulation vectors. -/
theorem rd1 (c : Dev nD) (t : Fin cfg0.N) (z z' : Fin 1) (i : Fin 6) (k : Fin 1024) (b : Fin 4) (l : Fin 6144) (hb : (b : ℕ) = t.val / 8)
    (hl : (l : ℕ) = i * 1024 + k) : iblk m c 1 t (ix4 z i z' k) = m ((c : Thread nD τ).loc main_arg1) (ix2 b l) := by
  blk_ext! [iblk, V, idx t]

/-- The norm's weights. -/
theorem rd2 (c : Dev nD) (t : Fin cfg0.N) (z z' : Fin 1) (k : Fin 1024) :
    iblk m c 2 t (ix2 z k) = m ((c : Thread nD τ).loc main_arg2) (ix2 z' k) := by
  blk_ext [iblk, V, idx t]

/-- The weight columns. -/
theorem rd3 (c : Dev nD) (t : Fin cfg0.N) (z : Fin 1) (k : Fin 1024) (j : Fin 3072) (l : Fin 8768) (hl : (l : ℕ) = 2608 + j) :
    iblk m c 3 t (ix2 k j) = m ((c : Thread nD τ).loc main_arg3) (ix3 z k l) := by
  blk_ext! [iblk, V, idx t]

/-- The normed row the kernel works from. -/
theorem row (c : Dev nD) (t : Fin cfg0.N) (r : Fin 512) (k : Fin 1024) (b : Fin 4) (s : Fin 4096) (hb : (b : ℕ) = t.val / 8)
    (hs : (s : ℕ) = t.val % 8 * 512 + r) :
    k0_pay9 (F := Ideal) (iblk m c 0 t) (iblk m c 1 t) (iblk m c 2 t) (iblk m c 3 t) (ix2 r k)
      = Cert.Proof.nrm (m ((c : Thread nD τ).loc main_arg0)) (m ((c : Thread nD τ).loc main_arg1))
          (m ((c : Thread nD τ).loc main_arg2)) b s k := by
  unfold k0_pay9
  pointwise [k0_pay2]
  unfold Cert.Proof.nrm
  have e0 := fun k => rd0 m c t 0 r k b s hb hs
  simp only [e0]
  rw [rd1 m c t 0 0 1 k b ⟨1024 + k, by omega⟩ hb rfl, rd1 m c t 0 0 0 k b ⟨k, by omega⟩ hb (by simp), rd2 m c t 0 0 k]

/-- A tile of 512 output columns: the row times the tile's weight columns. -/
theorem mm (h : FVec Ideal S512x1024 .bf16) (w : Vec Ideal S1024x512 .bf16) (x : S1x512x512.Idx) :
    k0_pay4 (F := Ideal) h w x = ∑ k : Fin 1024, h (ix2 (x 1) k) * w (ix2 k (x 2)) := by
  pointwise [k0_pay4]

/-- An entry of a tile is an entry of the projection. -/
theorem piece (c : Dev nD) (t : Fin cfg0.N) (x : S1x512x512.Idx) (w : Vec Ideal S1024x512 .bf16) (b : Fin 4) (s : Fin 4096) (l : Fin 8768)
    (hb : (b : ℕ) = t.val / 8) (hs : (s : ℕ) = t.val % 8 * 512 + x 1)
    (hw : ∀ k : Fin 1024, w (ix2 k (x 2)) = m ((c : Thread nD τ).loc main_arg3) (ix3 0 k l)) :
    k0_pay4 (F := Ideal) (k0_pay9 (F := Ideal) (iblk m c 0 t) (iblk m c 1 t) (iblk m c 2 t) (iblk m c 3 t)) w x
      = Cert.Proof.prj (m ((c : Thread nD τ).loc main_arg0)) (m ((c : Thread nD τ).loc main_arg1))
          (m ((c : Thread nD τ).loc main_arg2)) (m ((c : Thread nD τ).loc main_arg3)) b s l := by
  rw [mm]
  refine Finset.sum_congr rfl fun k _ => ?_
  exact congrArg₂ (· * ·) (row m c t (x 1) k b s hb hs) (hw k)

/-- The stored block, entry by entry. -/
theorem point (c : Dev nD) (t : Fin cfg0.N) (y : S1x512x3072.Idx) (b : Fin 4) (s : Fin 4096) (l : Fin 8768)
    (hb : (b : ℕ) = t.val / 8) (hs : (s : ℕ) = t.val % 8 * 512 + y 1) (hl : (l : ℕ) = 2608 + y 2) :
    out0_4 (F := Ideal) (iblk m c 0 t) (iblk m c 1 t) (iblk m c 2 t) (iblk m c 3 t) y
      = Cert.Proof.prj (m ((c : Thread nD τ).loc main_arg0)) (m ((c : Thread nD τ).loc main_arg1))
          (m ((c : Thread nD τ).loc main_arg2)) (m ((c : Thread nD τ).loc main_arg3)) b s l := by
  unfold out0_4
  canon_tiles x h
  all_goals
    refine piece m c t x _ b s l hb (by omega) fun k => ?_
    pointwise
    exact rd3 m c t 0 k _ l (by simp only [hl, h2])

/-- The kernel's array is the plain one. -/
theorem final (c : Dev nD) : (dats m 0 c).arrAt 4 (cfgs 0).N
    = Cert.Reference4Ideal.Value.R0 (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t _ y => ?_
  blk_simp
  rw [after0_4]
  generalize hi : ((cfg0.win 4).blk t).view.emb y = i
  have h0 : (i 0 : ℕ) = t.val / 8 := by rw [← hi]; blk_simp [idx t]
  have h1 : (i 1 : ℕ) = t.val % 8 * 512 + y 1 := by rw [← hi]; blk_simp [idx t]
  have h2 : (i 2 : ℕ) = y 2 := by rw [← hi]; blk_simp [idx t]
  clear hi
  obtain ⟨b, s, j, rfl⟩ : ∃ (b : Fin 4) (s : Fin 4096) (j : Fin 3072), i = ix3 b s j := ⟨i 0, i 1, i 2, eq_ix3 i⟩
  rw [Cert.Reference4Ideal.Value.R0_at]
  exact point m c t y b s ⟨2608 + (j : ℕ), by omega⟩ h0 h1 (congrArg (2608 + ·) h2)

end Cert.Kernel4Ideal.Value

end
-- ==== Proof.ProjC.lean ====
module

public import proofs.«01_k».proof.Proof.Gen.Kernel5Ideal.Value
public import proofs.«01_k».proof.Proof.Gen.Reference5Ideal.Run
public import proofs.«01_k».proof.Proof.Normed
public import Idealize.ShloMosaic.Lib.Pipeline.ValueKit
public import Idealize.ShloMosaic.Lib.Pointwise
public import Idealize.ShloMosaic.Lib.Tactic.CleanTypes

/-! The third projection of the prompt rows: the gate z, the two merge gates and the narrow columns (attention gates, decay and
    write strength of the delta rule, zero padding), each read from the kernel's blocks and compared with the plain projection. -/

@[expose] public section

set_option maxRecDepth 16384

noncomputable section

namespace Cert.Reference5Ideal.Value

open Cert.Reference5Ideal Cert.Reference5Ideal.Gen Idealize.ShloMosaic Idealize.ShloMosaic.TcCoe Idealize.SL.Sem
open scoped BigOperators

/-- The plain mathematics' gate z, as its composed term. -/
def R0 (a0 : FVec Ideal S4x4096x1024 .f32) (a1 : FVec Ideal S4x6144 .f32) (a2 : FVec Ideal S1x1024 .f32) (a3 :
    FVec Ideal S1x1024x8768 .f32) :
    FVec Ideal S4x4096x1024 .f32 :=
  extractStridedSlice S4x4096x1024 ![0,
    0, 5680] (Host.dotGeneral dot_S4x4096x1024_S1024x8768_S4x4096x8768_2_0_01_1_n_n none (addf (mulf (mulf
    (mulf a0 (broadcastInDim S4x4096x1024 ![0, 1, 2] bcast_S4x4096x1_S4x4096x1024_0_1_2 (Host.rsqrt (addf
    (Host.divf (broadcastInDim S4x4096x1 ![0, 1] bcast_S4x4096_S4x4096x1_0_1 (Host.reduceAdd (mulf a0 a0)
    (constant S_ .f32 0x00000000#32) reducesTo_S4x4096x1024_S4x4096_d2 h_S_)) (broadcastInDim S4x4096x1 ![]
    bcast_S_S4x4096x1 (constant S_ .f32 0x44800000#32))) (broadcastInDim S4x4096x1 ![] bcast_S_S4x4096x1
    (constant S_ .f32 0x358637BD#32)))))) (broadcastInDim S4x4096x1024 ![0, 1, 2]
    bcast_S1x1x1024_S4x4096x1024_0_1_2 (broadcastInDim S1x1x1024 ![2] bcast_S1024_S1x1x1024_2 (shapeCast _ a2
    shapeCasts_S1x1024_S1024)))) (broadcastInDim S4x4096x1024 ![0, 1, 2] bcast_S4x1x1024_S4x4096x1024_0_1_2
    (addf (broadcastInDim S4x1x1024 ![] bcast_S_S4x1x1024 (constant S_ .f32 0x3F800000#32))
    (extractStridedSlice S4x1x1024 ![0, 0, 1024] (broadcastInDim S4x1x6144 ![0, 2] bcast_S4x6144_S4x1x6144_0_2
    a1) slices_S4x1x6144_S4x1x1024_0_0_1024)))) (broadcastInDim S4x4096x1024 ![0, 1, 2]
    bcast_S4x1x1024_S4x4096x1024_0_1_2 (extractStridedSlice S4x1x1024 ![0, 0, 0] (broadcastInDim S4x1x6144 ![0,
    2] bcast_S4x6144_S4x1x6144_0_2 a1) slices_S4x1x6144_S4x1x1024_0_0_0))) (shapeCast _ a3
    shapeCasts_S1x1024x8768_S1024x8768)) slices_S4x4096x8768_S4x4096x1024_0_0_5680

/-- The plain mathematics' merge gates, as their composed term. -/
def R1 (a0 : FVec Ideal S4x4096x1024 .f32) (a1 : FVec Ideal S4x6144 .f32) (a2 : FVec Ideal S1x1024 .f32) (a3 :
    FVec Ideal S1x1024x8768 .f32) :
    FVec Ideal S4x4096x2048 .f32 :=
  extractStridedSlice S4x4096x2048 ![0,
    0, 6720] (Host.dotGeneral dot_S4x4096x1024_S1024x8768_S4x4096x8768_2_0_01_1_n_n none (addf (mulf (mulf
    (mulf a0 (broadcastInDim S4x4096x1024 ![0, 1, 2] bcast_S4x4096x1_S4x4096x1024_0_1_2 (Host.rsqrt (addf
    (Host.divf (broadcastInDim S4x4096x1 ![0, 1] bcast_S4x4096_S4x4096x1_0_1 (Host.reduceAdd (mulf a0 a0)
    (constant S_ .f32 0x00000000#32) reducesTo_S4x4096x1024_S4x4096_d2 h_S_)) (broadcastInDim S4x4096x1 ![]
    bcast_S_S4x4096x1 (constant S_ .f32 0x44800000#32))) (broadcastInDim S4x4096x1 ![] bcast_S_S4x4096x1
    (constant S_ .f32 0x358637BD#32)))))) (broadcastInDim S4x4096x1024 ![0, 1, 2]
    bcast_S1x1x1024_S4x4096x1024_0_1_2 (broadcastInDim S1x1x1024 ![2] bcast_S1024_S1x1x1024_2 (shapeCast _ a2
    shapeCasts_S1x1024_S1024)))) (broadcastInDim S4x4096x1024 ![0, 1, 2] bcast_S4x1x1024_S4x4096x1024_0_1_2
    (addf (broadcastInDim S4x1x1024 ![] bcast_S_S4x1x1024 (constant S_ .f32 0x3F800000#32))
    (extractStridedSlice S4x1x1024 ![0, 0, 1024] (broadcastInDim S4x1x6144 ![0, 2] bcast_S4x6144_S4x1x6144_0_2
    a1) slices_S4x1x6144_S4x1x1024_0_0_1024)))) (broadcastInDim S4x4096x1024 ![0, 1, 2]
    bcast_S4x1x1024_S4x4096x1024_0_1_2 (extractStridedSlice S4x1x1024 ![0, 0, 0] (broadcastInDim S4x1x6144 ![0,
    2] bcast_S4x6144_S4x1x6144_0_2 a1) slices_S4x1x6144_S4x1x1024_0_0_0))) (shapeCast _ a3
    shapeCasts_S1x1024x8768_S1024x8768)) slices_S4x4096x8768_S4x4096x2048_0_0_6720

/-- An entry of the gate z: one entry of the projected normed row. -/
theorem R0_at (a0 : FVec Ideal S4x4096x1024 .f32) (a1 : FVec Ideal S4x6144 .f32) (a2 : FVec Ideal S1x1024 .f32)
    (a3 : FVec Ideal S1x1024x8768 .f32) (b : Fin 4) (s : Fin 4096) (j : Fin 1024) :
    R0 a0 a1 a2 a3 (ix3 b s j) = Cert.Proof.prj a0 a1 a2 a3 b s ⟨5680 + (j : ℕ), by omega⟩ := by
  pointwise [R0]
  rfl

/-- An entry of the merge gates: one entry of the projected normed row. -/
theorem R1_at (a0 : FVec Ideal S4x4096x1024 .f32) (a1 : FVec Ideal S4x6144 .f32) (a2 : FVec Ideal S1x1024 .f32)
    (a3 : FVec Ideal S1x1024x8768 .f32) (b : Fin 4) (s : Fin 4096) (j : Fin 2048) :
    R1 a0 a1 a2 a3 (ix3 b s j) = Cert.Proof.prj a0 a1 a2 a3 b s ⟨6720 + (j : ℕ), by omega⟩ := by
  pointwise [R1]
  rfl

/-- The narrow columns: the attention gates, the decay and the write strength of the delta rule, then zeros. -/
def R2 (m : (ℓ : Loc nD τ sig) → Buf (Elt Ideal) ℓ) (c : Dev nD) : FVec Ideal S4x4096x128 .f32 := res_out2 m c

/-- Which of the weight's columns narrow column `j` below 64 is. -/
def ncol (j : ℕ) (h : j < 64) : Fin 8768 := if hj : j < 48 then ⟨2560 + j, by omega⟩ else ⟨6656 + j, by omega⟩

theorem R2_lo (m : (ℓ : Loc nD τ sig) → Buf (Elt Ideal) ℓ) (c : Dev nD) (b : Fin 4) (s : Fin 4096) (j : Fin 128) (h : j.val < 64) :
    R2 m c (ix3 b s j) = Cert.Proof.prj (m ((c.tc : Thread nD τ).loc main_arg0)) (m ((c.tc : Thread nD τ).loc main_arg1))
      (m ((c.tc : Thread nD τ).loc main_arg2)) (m ((c.tc : Thread nD τ).loc main_arg3)) b s (ncol j h) := by
  unfold R2 res_out2 res_main_v35
  clean_types
  by_cases h1 : j.val < 48
  · pointwise [h1]
    unfold ncol
    simp only [h1, ↓reduceDIte]
    rfl
  have e : ncol j h = ⟨6656 + (j : ℕ), by omega⟩ := by
    unfold ncol
    simp only [h1, ↓reduceDIte]
  rw [e]
  by_cases h2 : j.val - 48 < 8
  · pointwise [h1, h2]
    have e2 : (⟨6656 + (j : ℕ), by omega⟩ : Fin 8768) = ⟨6704 + (j - 48), by omega⟩ := Fin.ext (by simp only []; omega)
    rw [e2]
    rfl
  have h3 : j.val - 48 - 8 < 8 := by omega
  pointwise [h1, h2, h3]
  have e2 : (⟨6656 + (j : ℕ), by omega⟩ : Fin 8768) = ⟨6712 + (j - 48 - 8), by omega⟩ := Fin.ext (by simp only []; omega)
  rw [e2]
  rfl

/-- The padding columns are zero. -/
theorem R2_hi (m : (ℓ : Loc nD τ sig) → Buf (Elt Ideal) ℓ) (c : Dev nD) (b : Fin 4) (s : Fin 4096) (j : Fin 128) (h : 64 ≤ j.val) :
    R2 m c (ix3 b s j) = 0 := by
  unfold R2 res_out2 res_main_v35
  clean_types
  have h1 : ¬ j.val < 48 := by omega
  have h2 : ¬ j.val - 48 < 8 := by omega
  have h3 : ¬ j.val - 48 - 8 < 8 := by omega
  pointwise [h1, h2, h3]

end Cert.Reference5Ideal.Value

namespace Cert.Kernel5Ideal.Value

open Cert.Kernel5Ideal Cert.Kernel5Ideal.Gen Idealize.ShloMosaic Idealize.ShloMosaic.TcCoe Idealize.SL.Sem
open Idealize.ShloMosaic.Pipeline (Dat)
open Cert.Reference5Ideal.Value (ncol)
open scoped BigOperators
variable (m : (ℓ : Loc nD τ sig) → Buf (Elt Ideal) ℓ)

/-- Which block of each window grid point `t` works on. -/
theorem idx : ∀ t : Fin cfg0.N, win0_0.index t = ![t.val / 8, t.val % 8, 0] ∧ win0_1.index t = ![t.val / 8, 0, 0, 0] ∧ win0_2.index t = ![0, 0]
    ∧ win0_3.index t = ![0, 0] ∧ win0_4.index t = ![0, 0] ∧ win0_5.index t = ![0, 0] ∧ win0_6.index t = ![t.val / 8, t.val % 8, 0]
    ∧ win0_7.index t = ![t.val / 8, t.val % 8, 0] ∧ win0_8.index t = ![t.val / 8, t.val % 8, 0] ∧ t.val < 32 :=
  (by decide +kernel : ∀ t : Fin grid0.N, _)

/-- The block of activations, read from the whole array. -/
theorem rd0 (c : Dev nD) (t : Fin cfg0.N) (z : Fin 1) (r : Fin 512) (k : Fin 1024) (b : Fin 4) (s : Fin 4096) (hb : (b : ℕ) = t.val / 8)
    (hs : (s : ℕ) = t.val % 8 * 512 + r) : iblk m c 0 t (ix3 z r k) = m ((c : Thread nD τ).loc main_arg0) (ix3 b s k) := by
  blk_ext [iblk, V, idx t]

/-- The block of modulation vectors. -/
theorem rd1 (c : Dev nD) (t : Fin cfg0.N) (z z' : Fin 1) (i : Fin 6) (k : Fin 1024) (b : Fin 4) (l : Fin 6144) (hb : (b : ℕ) = t.val / 8)
    (hl : (l : ℕ) = i * 1024 + k) : iblk m c 1 t (ix4 z i z' k) = m ((c : Thread nD τ).loc main_arg1) (ix2 b l) := by
  blk_ext! [iblk, V, idx t]

/-- The norm's weights. -/
theorem rd2 (c : Dev nD) (t : Fin cfg0.N) (z z' : Fin 1) (k : Fin 1024) :
    iblk m c 2 t (ix2 z k) = m ((c : Thread nD τ).loc main_arg2) (ix2 z' k) := by
  blk_ext [iblk, V, idx t]

/-- The weight columns of the gate z. -/
theorem rd3 (c : Dev nD) (t : Fin cfg0.N) (z : Fin 1) (k : Fin 1024) (j : Fin 1024) (l : Fin 8768) (hl : (l : ℕ) = 5680 + j) :
    iblk m c 3 t (ix2 k j) = m ((c : Thread nD τ).loc main_arg3) (ix3 z k l) := by
  blk_ext! [iblk, V, idx t]

/-- The weight columns of the merge gates. -/
theorem rd4 (c : Dev nD) (t : Fin cfg0.N) (z : Fin 1) (k : Fin 1024) (j : Fin 2048) (l : Fin 8768) (hl : (l : ℕ) = 6720 + j) :
    iblk m c 4 t (ix2 k j) = m ((c : Thread nD τ).loc main_arg3) (ix3 z k l) := by
  blk_ext! [iblk, V, idx t]

/-- The block of narrow weight columns is the host's array of them. -/
theorem rd5 (c : Dev nD) (t : Fin cfg0.N) (k : Fin 1024) (j : Fin 128) :
    iblk m c 5 t (ix2 k j) = V m c main_v22 (ix2 k j) := by
  blk_ext [iblk, idx t]

/-- The host's array of narrow weight columns, from the weight. -/
def nw (a3 : FVec Ideal S1x1024x8768 .f32) : FVec Ideal S1024x128 .bf16 :=
  concatenate S1024x128 1
    [⟨S1024x48, extractStridedSlice S1024x48 ![0, 2560] (truncf .bf16 (shapeCast S1024x8768 a3 shapeCasts_S1x1024x8768_S1024x8768) bitsLt_bf16_f32) slices_S1024x8768_S1024x48_0_2560⟩,
     ⟨S1024x8, extractStridedSlice S1024x8 ![0, 6704] (truncf .bf16 (shapeCast S1024x8768 a3 shapeCasts_S1x1024x8768_S1024x8768) bitsLt_bf16_f32) slices_S1024x8768_S1024x8_0_6704⟩,
     ⟨S1024x8, extractStridedSlice S1024x8 ![0, 6712] (truncf .bf16 (shapeCast S1024x8768 a3 shapeCasts_S1x1024x8768_S1024x8768) bitsLt_bf16_f32) slices_S1024x8768_S1024x8_0_6712⟩,
     ⟨S1024x64, broadcastInDim S1024x64 ![] bcast_S_S1024x64 (constant S_ .bf16 0#16)⟩]
    concatenates_S1024x48_S1024x8_S1024x8_S1024x64_S1024x128_d1

theorem v22 (c : Dev nD) : V m c main_v22 = nw (m ((c : Thread nD τ).loc main_arg3)) := by
  unfold V hostOps0
  after_results_simp <;> (try dsimp only [Matrix.cons_val]) <;> (try after_results_simp) <;> rfl

/-- The narrow weight columns, an entry at a time. -/
theorem nw_lo (a3 : FVec Ideal S1x1024x8768 .f32) (z : Fin 1) (k : Fin 1024) (j : Fin 128) (h : j.val < 64) :
    nw a3 (ix2 k j) = a3 (ix3 z k (ncol j h)) := by
  obtain rfl : z = 0 := Subsingleton.elim _ _
  by_cases h1 : j.val < 48
  · pointwise [nw, h1]
    unfold ncol
    simp only [h1, ↓reduceDIte]
  have e : ncol j h = ⟨6656 + (j : ℕ), by omega⟩ := by
    unfold ncol
    simp only [h1, ↓reduceDIte]
  rw [e]
  by_cases h2 : j.val - 48 < 8
  · pointwise [nw, h1, h2]
    have e2 : (⟨6656 + (j : ℕ), by omega⟩ : Fin 8768) = ⟨6704 + (j - 48), by omega⟩ := Fin.ext (by simp only []; omega)
    rw [e2]
  have h3 : j.val - 48 - 8 < 8 := by omega
  pointwise [nw, h1, h2, h3]
  have e2 : (⟨6656 + (j : ℕ), by omega⟩ : Fin 8768) = ⟨6712 + (j - 48 - 8), by omega⟩ := Fin.ext (by simp only []; omega)
  rw [e2]

/-- The padding columns of the weight are zero. -/
theorem nw_hi (a3 : FVec Ideal S1x1024x8768 .f32) (k : Fin 1024) (j : Fin 128) (h : 64 ≤ j.val) : nw a3 (ix2 k j) = 0 := by
  have h1 : ¬ j.val < 48 := by omega
  have h2 : ¬ j.val - 48 < 8 := by omega
  have h3 : ¬ j.val - 48 - 8 < 8 := by omega
  pointwise [nw, h1, h2, h3]

/-- The normed row the kernel works from. -/
theorem row (c : Dev nD) (t : Fin cfg0.N) (r : Fin 512) (k : Fin 1024) (b : Fin 4) (s : Fin 4096) (hb : (b : ℕ) = t.val / 8)
    (hs : (s : ℕ) = t.val % 8 * 512 + r) :
    k0_pay10 (F := Ideal) (iblk m c 0 t) (iblk m c 1 t) (iblk m c 2 t) (iblk m c 3 t) (iblk m c 4 t) (iblk m c 5 t) (ix2 r k)
      = Cert.Proof.nrm (m ((c : Thread nD τ).loc main_arg0)) (m ((c : Thread nD τ).loc main_arg1))
          (m ((c : Thread nD τ).loc main_arg2)) b s k := by
  unfold k0_pay10
  pointwise [k0_pay3]
  unfold Cert.Proof.nrm
  have e0 := fun k => rd0 m c t 0 r k b s hb hs
  simp only [e0]
  rw [rd1 m c t 0 0 1 k b ⟨1024 + k, by omega⟩ hb rfl, rd1 m c t 0 0 0 k b ⟨k, by omega⟩ hb (by simp), rd2 m c t 0 0 k]

/-- A tile of 512 output columns: the row times the tile's weight columns. -/
theorem mm (h : FVec Ideal S512x1024 .bf16) (w : Vec Ideal S1024x512 .bf16) (x : S1x512x512.Idx) :
    k0_pay5 (F := Ideal) h w x = ∑ k : Fin 1024, h (ix2 (x 1) k) * w (ix2 k (x 2)) := by
  pointwise [k0_pay5]

/-- The narrow tile: the row times its 128 columns. -/
theorem mn (h : FVec Ideal S512x1024 .bf16) (w : Vec Ideal S1024x128 .bf16) (x : S1x512x128.Idx) :
    k0_pay2 (F := Ideal) h w x = ∑ k : Fin 1024, h (ix2 (x 1) k) * w (ix2 k (x 2)) := by
  pointwise [k0_pay2]

/-- The row's product with a column of the weight is an entry of the projection. -/
theorem col (c : Dev nD) (t : Fin cfg0.N) (r : Fin 512) (f : Fin 1024 → EReal) (b : Fin 4) (s : Fin 4096) (l : Fin 8768)
    (hb : (b : ℕ) = t.val / 8) (hs : (s : ℕ) = t.val % 8 * 512 + r)
    (hw : ∀ k : Fin 1024, f k = m ((c : Thread nD τ).loc main_arg3) (ix3 0 k l)) :
    ∑ k : Fin 1024, k0_pay10 (F := Ideal) (iblk m c 0 t) (iblk m c 1 t) (iblk m c 2 t) (iblk m c 3 t) (iblk m c 4 t) (iblk m c 5 t) (ix2 r k) * f k
      = Cert.Proof.prj (m ((c : Thread nD τ).loc main_arg0)) (m ((c : Thread nD τ).loc main_arg1))
          (m ((c : Thread nD τ).loc main_arg2)) (m ((c : Thread nD τ).loc main_arg3)) b s l :=
  Finset.sum_congr rfl fun k _ => congrArg₂ (· * ·) (row m c t r k b s hb hs) (hw k)

/-- The stored block of z, entry by entry. -/
theorem point6 (c : Dev nD) (t : Fin cfg0.N) (y : S1x512x1024.Idx) (b : Fin 4) (s : Fin 4096) (l : Fin 8768)
    (hb : (b : ℕ) = t.val / 8) (hs : (s : ℕ) = t.val % 8 * 512 + y 1) (hl : (l : ℕ) = 5680 + y 2) :
    out0_6 (F := Ideal) (iblk m c 0 t) (iblk m c 1 t) (iblk m c 2 t) (iblk m c 3 t) (iblk m c 4 t) (iblk m c 5 t) y
      = Cert.Proof.prj (m ((c : Thread nD τ).loc main_arg0)) (m ((c : Thread nD τ).loc main_arg1))
          (m ((c : Thread nD τ).loc main_arg2)) (m ((c : Thread nD τ).loc main_arg3)) b s l := by
  unfold out0_6
  canon_tiles x h
  all_goals
    refine (mm _ _ x).trans (col m c t (x 1) _ b s l hb (by omega) fun k => ?_)
    pointwise
    exact rd3 m c t 0 k _ l (by simp only [hl, h2])

/-- The stored block of merge gates, entry by entry. -/
theorem point7 (c : Dev nD) (t : Fin cfg0.N) (y : S1x512x2048.Idx) (b : Fin 4) (s : Fin 4096) (l : Fin 8768)
    (hb : (b : ℕ) = t.val / 8) (hs : (s : ℕ) = t.val % 8 * 512 + y 1) (hl : (l : ℕ) = 6720 + y 2) :
    out0_7 (F := Ideal) (iblk m c 0 t) (iblk m c 1 t) (iblk m c 2 t) (iblk m c 3 t) (iblk m c 4 t) (iblk m c 5 t) y
      = Cert.Proof.prj (m ((c : Thread nD τ).loc main_arg0)) (m ((c : Thread nD τ).loc main_arg1))
          (m ((c : Thread nD τ).loc main_arg2)) (m ((c : Thread nD τ).loc main_arg3)) b s l := by
  unfold out0_7
  canon_tiles x h
  all_goals
    refine (mm _ _ x).trans (col m c t (x 1) _ b s l hb (by omega) fun k => ?_)
    pointwise
    exact rd4 m c t 0 k _ l (by simp only [hl, h2])

/-- The stored block of narrow columns, below the padding. -/
theorem point8 (c : Dev nD) (t : Fin cfg0.N) (y : S1x512x128.Idx) (b : Fin 4) (s : Fin 4096)
    (hb : (b : ℕ) = t.val / 8) (hs : (s : ℕ) = t.val % 8 * 512 + y 1) (h : (y 2 : ℕ) < 64) :
    out0_8 (F := Ideal) (iblk m c 0 t) (iblk m c 1 t) (iblk m c 2 t) (iblk m c 3 t) (iblk m c 4 t) (iblk m c 5 t) y
      = Cert.Proof.prj (m ((c : Thread nD τ).loc main_arg0)) (m ((c : Thread nD τ).loc main_arg1))
          (m ((c : Thread nD τ).loc main_arg2)) (m ((c : Thread nD τ).loc main_arg3)) b s (ncol (y 2) h) := by
  unfold out0_8
  canon_tiles x hx
  refine (mn _ _ x).trans (col m c t (x 1) _ b s _ hb (by omega) fun k => ?_)
  pointwise
  have e : ncol (y 2) h = ncol (x 2) (hx2 ▸ h) := by simp only [hx2]
  rw [e]
  exact (rd5 m c t k (x 2)).trans ((congrFun (v22 m c) _).trans (nw_lo _ 0 k (x 2) _))

/-- The padding of the stored block of narrow columns. -/
theorem point8z (c : Dev nD) (t : Fin cfg0.N) (y : S1x512x128.Idx) (h : 64 ≤ (y 2 : ℕ)) :
    out0_8 (F := Ideal) (iblk m c 0 t) (iblk m c 1 t) (iblk m c 2 t) (iblk m c 3 t) (iblk m c 4 t) (iblk m c 5 t) y = 0 := by
  unfold out0_8
  canon_tiles x hx
  refine (mn _ _ x).trans (Finset.sum_eq_zero fun k _ => ?_)
  pointwise
  have e : iblk m c 5 t (ix2 k (x 2)) = (0 : EReal) :=
    (rd5 m c t k (x 2)).trans ((congrFun (v22 m c) _).trans (nw_hi _ k (x 2) (hx2 ▸ h)))
  exact (congrArg (_ * ·) e).trans (mul_zero _)

/-- The kernel's array of gates z is the plain one. -/
theorem final6 (c : Dev nD) : (dats m 0 c).arrAt 6 (cfgs 0).N
    = Cert.Reference5Ideal.Value.R0 (m ((c : Thread nD τ).loc main_arg0)) (m ((c : Thread nD τ).loc main_arg1))
          (m ((c : Thread nD τ).loc main_arg2)) (m ((c : Thread nD τ).loc main_arg3)) := by
  refine (dats m 0 c).arrAt_eq_of_covers 6 _ (by decide +kernel) fun t _ y => ?_
  blk_simp
  rw [after0_6]
  generalize hi : ((cfg0.win 6).blk t).view.emb y = i
  have h0 : (i 0 : ℕ) = t.val / 8 := by rw [← hi]; blk_simp [idx t]
  have h1 : (i 1 : ℕ) = t.val % 8 * 512 + y 1 := by rw [← hi]; blk_simp [idx t]
  have h2 : (i 2 : ℕ) = y 2 := by rw [← hi]; blk_simp [idx t]
  clear hi
  obtain ⟨b, s, j, rfl⟩ : ∃ (b : Fin 4) (s : Fin 4096) (j : Fin 1024), i = ix3 b s j := ⟨i 0, i 1, i 2, eq_ix3 i⟩
  rw [Cert.Reference5Ideal.Value.R0_at]
  exact point6 m c t y b s ⟨5680 + (j : ℕ), by omega⟩ h0 h1 (congrArg (5680 + ·) h2)

/-- The kernel's array of merge gates is the plain one. -/
theorem final7 (c : Dev nD) : (dats m 0 c).arrAt 7 (cfgs 0).N
    = Cert.Reference5Ideal.Value.R1 (m ((c : Thread nD τ).loc main_arg0)) (m ((c : Thread nD τ).loc main_arg1))
          (m ((c : Thread nD τ).loc main_arg2)) (m ((c : Thread nD τ).loc main_arg3)) := by
  refine (dats m 0 c).arrAt_eq_of_covers 7 _ (by decide +kernel) fun t _ y => ?_
  blk_simp
  rw [after0_7]
  generalize hi : ((cfg0.win 7).blk t).view.emb y = i
  have h0 : (i 0 : ℕ) = t.val / 8 := by rw [← hi]; blk_simp [idx t]
  have h1 : (i 1 : ℕ) = t.val % 8 * 512 + y 1 := by rw [← hi]; blk_simp [idx t]
  have h2 : (i 2 : ℕ) = y 2 := by rw [← hi]; blk_simp [idx t]
  clear hi
  obtain ⟨b, s, j, rfl⟩ : ∃ (b : Fin 4) (s : Fin 4096) (j : Fin 2048), i = ix3 b s j := ⟨i 0, i 1, i 2, eq_ix3 i⟩
  rw [Cert.Reference5Ideal.Value.R1_at]
  exact point7 m c t y b s ⟨6720 + (j : ℕ), by omega⟩ h0 h1 (congrArg (6720 + ·) h2)

/-- The kernel's array of narrow columns is the plain one, for a memory of the reference that holds the same arguments. -/
theorem final8 (c : Dev nD) (m' : (ℓ : Loc Cert.Reference5Ideal.nD Cert.Reference5Ideal.τ Cert.Reference5Ideal.sig) → Buf (Elt Ideal) ℓ)
    (e0 : m' ((c.tc : Thread nD τ).loc Cert.Reference5Ideal.main_arg0) = m ((c : Thread nD τ).loc main_arg0))
    (e1 : m' ((c.tc : Thread nD τ).loc Cert.Reference5Ideal.main_arg1) = m ((c : Thread nD τ).loc main_arg1))
    (e2 : m' ((c.tc : Thread nD τ).loc Cert.Reference5Ideal.main_arg2) = m ((c : Thread nD τ).loc main_arg2))
    (e3 : m' ((c.tc : Thread nD τ).loc Cert.Reference5Ideal.main_arg3) = m ((c : Thread nD τ).loc main_arg3)) :
    (dats m 0 c).arrAt 8 (cfgs 0).N = Cert.Reference5Ideal.Value.R2 m' c := by
  refine (dats m 0 c).arrAt_eq_of_covers 8 _ (by decide +kernel) fun t _ y => ?_
  blk_simp
  rw [after0_8]
  generalize hi : ((cfg0.win 8).blk t).view.emb y = i
  have h0 : (i 0 : ℕ) = t.val / 8 := by rw [← hi]; blk_simp [idx t]
  have h1 : (i 1 : ℕ) = t.val % 8 * 512 + y 1 := by rw [← hi]; blk_simp [idx t]
  have h2 : (i 2 : ℕ) = y 2 := by rw [← hi]; blk_simp [idx t]
  clear hi
  obtain ⟨b, s, j, rfl⟩ : ∃ (b : Fin 4) (s : Fin 4096) (j : Fin 128), i = ix3 b s j := ⟨i 0, i 1, i 2, eq_ix3 i⟩
  by_cases h : j.val < 64
  · rw [Cert.Reference5Ideal.Value.R2_lo m' c b s j h, e0, e1, e2, e3]
    have e : ncol j h = ncol (y 2) (h2 ▸ h) := by simp only [← h2]; rfl
    rw [e]
    exact point8 m c t y b s h0 h1 _
  · rw [Cert.Reference5Ideal.Value.R2_hi m' c b s j (Nat.le_of_not_lt h)]
    exact point8z m c t y (h2 ▸ Nat.le_of_not_lt h)

end Cert.Kernel5Ideal.Value

end
-- ==== Proof.PairProj.lean ====
module

public import proofs.«01_k».proof.Defs
public import proofs.«01_k».proof.Proof.ProjA
public import proofs.«01_k».proof.Proof.ProjB
public import proofs.«01_k».proof.Proof.ProjC
public import Idealize.ShloMosaic.Lib.Claim

/-! The three projections: from the kernels' arrays to the claims about their programs. -/

@[expose] public section

noncomputable section

namespace Cert.Proof

open Idealize.ShloMosaic Idealize.SL.Sem

/-- The first projection's kernel and the plain program end with the same queries, keys and values. -/
theorem pair_a : Cert.algebraic_Kernel3Ideal_Reference3Ideal := by
  pair_intro
  · run_from Cert.Kernel3Ideal.Value.run_blocks m g
  · run_from Cert.Reference3Ideal.Value.run m' g'
    · exact (Cert.Kernel3Ideal.Value.final10 m c).symm
    · exact (Cert.Kernel3Ideal.Value.final11 m c).symm
    · exact (Cert.Kernel3Ideal.Value.final12 m c).symm
    · exact (Cert.Kernel3Ideal.Value.final13 m c).symm
    · exact (Cert.Kernel3Ideal.Value.final14 m c).symm
    · exact (Cert.Kernel3Ideal.Value.final15 m c).symm
    · exact (Cert.Kernel3Ideal.Value.final16 m c).symm

/-- The second projection's kernel and the plain program end with the same array. -/
theorem pair_b : Cert.algebraic_Kernel4Ideal_Reference4Ideal := by
  pair_intro
  · run_from Cert.Kernel4Ideal.Value.run_blocks m g
  · run_from Cert.Reference4Ideal.Value.run m' g'
    exact (Cert.Kernel4Ideal.Value.final m c).symm

/-- The third projection's kernel and the plain program end with the same gates. -/
theorem pair_c : Cert.algebraic_Kernel5Ideal_Reference5Ideal := by
  pair_intro
  · run_from Cert.Kernel5Ideal.Value.run_blocks m g
  · have e := hagree
    run_from Cert.Reference5Ideal.Value.run m' g'
    · exact (Cert.Kernel5Ideal.Value.final6 m c).symm
    · exact (Cert.Kernel5Ideal.Value.final7 m c).symm
    · obtain ⟨e0, e1, e2, e3⟩ := e c
      exact (Cert.Kernel5Ideal.Value.final8 m c m' e0 e1 e2 e3).symm

end Cert.Proof

end
-- ==== Proof.DeltaRow.lean ====
module

public import Idealize.ShloMosaic.Lib.Pointwise
public import proofs.«01_k».proof.Proof.Rows

@[expose] public section

noncomputable section

/-! One step of the gated delta rule for one token and one head, as functions of rows. -/

namespace Cert.Proof

open Idealize.ShloMosaic
open scoped BigOperators

/-- The convolution of width four at the new position: the three positions kept and the new one, and the four taps. -/
def conv (p q r x a b c d : EReal) : EReal := a * p + b * q + c * r + d * x

/-- The logistic unit after the convolution. -/
def unit (v : EReal) : EReal := v * sg v

/-- A row divided by its length. -/
def l2 (v : Fin 128 → EReal) (d : Fin 128) : EReal :=
  v d * Ideal.rsqrt ((∑ e : Fin 128, v e * v e) + Ideal.ofBits .f32 0x358637BD#32)

/-- The query row: divided by its length and by the root of the width. -/
def qrow (v : Fin 128 → EReal) (d : Fin 128) : EReal := l2 v d * Ideal.ofBits .f32 0x3DB504F3#32

/-- The logarithm of the decay, from the head's rate and the token's step. -/
def gate (al v : EReal) : EReal := -Ideal.exp al * (max v 0 + Ideal.log (1 + Ideal.exp (-max v (-v))))

/-- What the state is corrected by: the written value less what the decayed state already returns for the key. -/
def vnew (k v : Fin 128 → EReal) (eg be : EReal) (S : Fin 128 → Fin 128 → EReal) (e : Fin 128) : EReal :=
  v e * be - ∑ d : Fin 128, k d * be * eg * S d e

/-- The output row before its norm. -/
def orow (q k v : Fin 128 → EReal) (eg be : EReal) (S : Fin 128 → Fin 128 → EReal) (e : Fin 128) : EReal :=
  (∑ d : Fin 128, q d * eg * S d e) + (∑ d : Fin 128, q d * k d) * vnew k v eg be S e

/-- The new state. -/
def snew (k v : Fin 128 → EReal) (eg be : EReal) (S : Fin 128 → Fin 128 → EReal) (d e : Fin 128) : EReal :=
  S d e * eg + k d * vnew k v eg be S e

/-- The output row after its norm, gated by `z`. -/
def gated (o ng z : Fin 128 → EReal) (e : Fin 128) : EReal :=
  o e * Ideal.rsqrt (Ideal.div (∑ l : Fin 128, o l * o l) (Ideal.ofBits .f32 0x43000000#32) + Ideal.ofBits .f32 0x358637BD#32) * ng e
    * unit (z e)

end Cert.Proof

end
-- ==== Proof.DnHead.lean ====
module

public import proofs.«01_k».proof.Proof.DeltaRow
public import proofs.«01_k».proof.Proof.Gen.KernelIdeal.Value
public import Idealize.ShloMosaic.Lib.Pointwise

/-! The recurrent step's kernel, up to the heads' rows: the convolved and gated rows of a block of eight samples, and each head's
    key, decay, written value, decayed key and query, as functions of those rows. -/

@[expose] public section

set_option maxRecDepth 16384

noncomputable section

namespace Cert.KernelIdeal.Value

open Cert.KernelIdeal Cert.KernelIdeal.Gen Idealize.ShloMosaic Idealize.ShloMosaic.TcCoe Idealize.SL.Sem
open scoped BigOperators

variable (x0 : Vec Ideal S8x3072 .f32) (x1 : Vec Ideal S3x8x3072 .f32) (x2 : Vec Ideal S8x1024 .f32) (x3 : Vec Ideal S8x128 .f32)
  (x4 : Vec Ideal S8x8x128x128 .f32) (x5 : Vec Ideal S4x3072 .f32) (x6 : Vec Ideal S1x128 .f32) (x7 : Vec Ideal S1x128 .f32)
  (x8 : Vec Ideal S1x128 .f32)

open Cert.Proof

/-- The convolved rows. -/
abbrev Yv : FVec Ideal S8x3072 .f32 := k0_pay572 (F := Ideal) x0 x1 x2 x3 x4 x5 x6 x7 x8

/-- The logarithms of the decays. -/
abbrev Gv : FVec Ideal S8x128 .f32 := k0_pay9 (F := Ideal) (k0_pay574 x0 x1 x2 x3 x4 x5 x6 x7 x8) (k0_pay575 x0 x1 x2 x3 x4 x5 x6 x7 x8)

/-- The write strengths. -/
abbrev Bv : FVec Ideal S8x128 .f32 := k0_pay10 (F := Ideal) (k0_pay573 x0 x1 x2 x3 x4 x5 x6 x7 x8)

/-- A row of 128 columns from a column on. -/
def yrow (Y : FVec Ideal S8x3072 .f32) (r : Fin 8) (o : ℕ) (ho : o + 128 ≤ 3072) (j : Fin 128) : EReal :=
  Y (ix2 r ⟨o + (j : ℕ), by omega⟩)

/-- A row summed against the column of the unit matrix is the row's entry: the kernel transposes a row to a column this way. -/
theorem key_column (f : Fin 128 → EReal) (d : Fin 128) :
    (∑ x : Fin 128, Scalar.select (IntOp.cmpi .eq (BitVec.ofNat 32 (d : ℕ)) (BitVec.ofNat 32 (x : ℕ))) (f x) 0) = f d := by
  refine (Finset.sum_eq_single d (fun x _ hx => ?_) (fun h => absurd (Finset.mem_univ d) h)).trans ?_
  · have : ¬ BitVec.ofNat 32 (d : ℕ) = BitVec.ofNat 32 (x : ℕ) := by
      intro h
      have h' := congrArg BitVec.toNat h
      simp only [BitVec.toNat_ofNat] at h'
      exact hx (Fin.ext (by omega))
    simp [Scalar.select, IntOp.cmpi, beq_eq_false_iff_ne.mpr this]
  · simp [Scalar.select, IntOp.cmpi]

/-- An entry of the convolved rows. -/
theorem y_at (r : Fin 8) (j : Fin 3072) : Yv x0 x1 x2 x3 x4 x5 x6 x7 x8 (ix2 r j)
    = unit (conv (x1 (ix3 0 r j)) (x1 (ix3 1 r j)) (x1 (ix3 2 r j)) (x0 (ix2 r j))
        (x5 (ix2 0 j)) (x5 (ix2 1 j)) (x5 (ix2 2 j)) (x5 (ix2 3 j))) := by
  pointwise [k0_pay572, k0_pay5, k0_pay1]
  simp only [zero_sub]
  rfl

/-- The logarithm of a decay. -/
theorem g_at (r : Fin 8) (j : Fin 128) : Gv x0 x1 x2 x3 x4 x5 x6 x7 x8 (ix2 r j)
    = gate (x6 (ix2 0 j)) (x3 (ix2 r j) + x7 (ix2 0 j)) := by
  pointwise [k0_pay574, k0_pay575, k0_pay9, k0_pay8, k0_pay7, k0_pay6]
  simp only [zero_sub]
  rfl

/-- A write strength. -/
theorem b_at (r : Fin 8) (j : Fin 128) : Bv x0 x1 x2 x3 x4 x5 x6 x7 x8 (ix2 r j) = sg (x3 (ix2 r j)) := by
  pointwise [k0_pay573, k0_pay10, k0_pay6]
  simp only [zero_sub]
  rfl

/-- Head 0's key. -/
theorem k0 (r : Fin 8) (d : Fin 128) : k0_pay579 (F := Ideal) x0 x1 x2 x3 x4 x5 x6 x7 x8 (ix2 r d)
    = l2 (yrow (Yv x0 x1 x2 x3 x4 x5 x6 x7 x8) r 1024 (by omega)) d := by
  pointwise [k0_pay13, k0_pay579]
  rfl

/-- Head 0's decay. -/
theorem eg0 (r : Fin 8) : k0_pay580 (F := Ideal) x0 x1 x2 x3 x4 x5 x6 x7 x8 (ix2 r 0)
    = Ideal.exp (Gv x0 x1 x2 x3 x4 x5 x6 x7 x8 (ix2 r 48)) := by
  pointwise [k0_pay15, k0_pay580]

/-- Head 0's written value. -/
theorem u0 (r : Fin 8) (d : Fin 128) : k0_pay581 (F := Ideal) x0 x1 x2 x3 x4 x5 x6 x7 x8 (ix2 r d)
    = yrow (Yv x0 x1 x2 x3 x4 x5 x6 x7 x8) r 2048 (by omega) d * Bv x0 x1 x2 x3 x4 x5 x6 x7 x8 (ix2 r 56) := by
  pointwise [k0_pay14, k0_pay16, k0_pay581]
  rfl

/-- Head 0's decayed key. -/
theorem w0 (r : Fin 8) (d : Fin 128) : k0_pay582 (F := Ideal) x0 x1 x2 x3 x4 x5 x6 x7 x8 (ix2 r d)
    = l2 (yrow (Yv x0 x1 x2 x3 x4 x5 x6 x7 x8) r 1024 (by omega)) d * Bv x0 x1 x2 x3 x4 x5 x6 x7 x8 (ix2 r 56) * Ideal.exp (Gv x0 x1 x2 x3 x4 x5 x6 x7 x8 (ix2 r 48)) := by
  pointwise [k0_pay13, k0_pay14, k0_pay15, k0_pay17, k0_pay582]
  rfl

/-- Head 0's product of query and key. -/
theorem ai0 (r : Fin 8) : k0_pay583 (F := Ideal) x0 x1 x2 x3 x4 x5 x6 x7 x8 (ix2 r 0)
    = ∑ d : Fin 128, qrow (yrow (Yv x0 x1 x2 x3 x4 x5 x6 x7 x8) r 0 (by omega)) d * l2 (yrow (Yv x0 x1 x2 x3 x4 x5 x6 x7 x8) r 1024 (by omega)) d := by
  pointwise [k0_pay12, k0_pay13, k0_pay18, k0_pay583]
  simp only [qrow, l2, yrow, Nat.zero_add]

/-- Head 0's decayed query. -/
theorem qd0 (r : Fin 8) (d : Fin 128) : k0_pay584 (F := Ideal) x0 x1 x2 x3 x4 x5 x6 x7 x8 (ix2 r d)
    = qrow (yrow (Yv x0 x1 x2 x3 x4 x5 x6 x7 x8) r 0 (by omega)) d * Ideal.exp (Gv x0 x1 x2 x3 x4 x5 x6 x7 x8 (ix2 r 48)) := by
  pointwise [k0_pay12, k0_pay15, k0_pay19, k0_pay584]
  simp only [qrow, l2, yrow, Nat.zero_add]

/-- Head 1's key. -/
theorem k1 (r : Fin 8) (d : Fin 128) : k0_pay589 (F := Ideal) x0 x1 x2 x3 x4 x5 x6 x7 x8 (ix2 r d)
    = l2 (yrow (Yv x0 x1 x2 x3 x4 x5 x6 x7 x8) r 1152 (by omega)) d := by
  pointwise [k0_pay82, k0_pay589]
  rfl

/-- Head 1's decay. -/
theorem eg1 (r : Fin 8) : k0_pay590 (F := Ideal) x0 x1 x2 x3 x4 x5 x6 x7 x8 (ix2 r 0)
    = Ideal.exp (Gv x0 x1 x2 x3 x4 x5 x6 x7 x8 (ix2 r 49)) := by
  pointwise [k0_pay84, k0_pay576, k0_pay590]

/-- Head 1's written value. -/
theorem u1 (r : Fin 8) (d : Fin 128) : k0_pay591 (F := Ideal) x0 x1 x2 x3 x4 x5 x6 x7 x8 (ix2 r d)
    = yrow (Yv x0 x1 x2 x3 x4 x5 x6 x7 x8) r 2176 (by omega) d * Bv x0 x1 x2 x3 x4 x5 x6 x7 x8 (ix2 r 57) := by
  pointwise [k0_pay83, k0_pay85, k0_pay577, k0_pay591]
  rfl

/-- Head 1's decayed key. -/
theorem w1 (r : Fin 8) (d : Fin 128) : k0_pay592 (F := Ideal) x0 x1 x2 x3 x4 x5 x6 x7 x8 (ix2 r d)
    = l2 (yrow (Yv x0 x1 x2 x3 x4 x5 x6 x7 x8) r 1152 (by omega)) d * Bv x0 x1 x2 x3 x4 x5 x6 x7 x8 (ix2 r 57) * Ideal.exp (Gv x0 x1 x2 x3 x4 x5 x6 x7 x8 (ix2 r 49)) := by
  pointwise [k0_pay82, k0_pay83, k0_pay84, k0_pay86, k0_pay576, k0_pay577, k0_pay592]
  rfl

/-- Head 1's product of query and key. -/
theorem ai1 (r : Fin 8) : k0_pay593 (F := Ideal) x0 x1 x2 x3 x4 x5 x6 x7 x8 (ix2 r 0)
    = ∑ d : Fin 128, qrow (yrow (Yv x0 x1 x2 x3 x4 x5 x6 x7 x8) r 128 (by omega)) d * l2 (yrow (Yv x0 x1 x2 x3 x4 x5 x6 x7 x8) r 1152 (by omega)) d := by
  pointwise [k0_pay81, k0_pay82, k0_pay87, k0_pay588, k0_pay593]
  rfl

/-- Head 1's decayed query. -/
theorem qd1 (r : Fin 8) (d : Fin 128) : k0_pay594 (F := Ideal) x0 x1 x2 x3 x4 x5 x6 x7 x8 (ix2 r d)
    = qrow (yrow (Yv x0 x1 x2 x3 x4 x5 x6 x7 x8) r 128 (by omega)) d * Ideal.exp (Gv x0 x1 x2 x3 x4 x5 x6 x7 x8 (ix2 r 49)) := by
  pointwise [k0_pay81, k0_pay84, k0_pay88, k0_pay576, k0_pay588, k0_pay594]
  rfl

/-- Head 2's key. -/
theorem k2 (r : Fin 8) (d : Fin 128) : k0_pay599 (F := Ideal) x0 x1 x2 x3 x4 x5 x6 x7 x8 (ix2 r d)
    = l2 (yrow (Yv x0 x1 x2 x3 x4 x5 x6 x7 x8) r 1280 (by omega)) d := by
  pointwise [k0_pay150, k0_pay599]
  rfl

/-- Head 2's decay. -/
theorem eg2 (r : Fin 8) : k0_pay600 (F := Ideal) x0 x1 x2 x3 x4 x5 x6 x7 x8 (ix2 r 0)
    = Ideal.exp (Gv x0 x1 x2 x3 x4 x5 x6 x7 x8 (ix2 r 50)) := by
  pointwise [k0_pay152, k0_pay576, k0_pay600]

/-- Head 2's written value. -/
theorem u2 (r : Fin 8) (d : Fin 128) : k0_pay601 (F := Ideal) x0 x1 x2 x3 x4 x5 x6 x7 x8 (ix2 r d)
    = yrow (Yv x0 x1 x2 x3 x4 x5 x6 x7 x8) r 2304 (by omega) d * Bv x0 x1 x2 x3 x4 x5 x6 x7 x8 (ix2 r 58) := by
  pointwise [k0_pay151, k0_pay153, k0_pay577, k0_pay601]
  rfl

/-- Head 2's decayed key. -/
theorem w2 (r : Fin 8) (d : Fin 128) : k0_pay602 (F := Ideal) x0 x1 x2 x3 x4 x5 x6 x7 x8 (ix2 r d)
    = l2 (yrow (Yv x0 x1 x2 x3 x4 x5 x6 x7 x8) r 1280 (by omega)) d * Bv x0 x1 x2 x3 x4 x5 x6 x7 x8 (ix2 r 58) * Ideal.exp (Gv x0 x1 x2 x3 x4 x5 x6 x7 x8 (ix2 r 50)) := by
  pointwise [k0_pay150, k0_pay151, k0_pay152, k0_pay154, k0_pay576, k0_pay577, k0_pay602]
  rfl

/-- Head 2's product of query and key. -/
theorem ai2 (r : Fin 8) : k0_pay603 (F := Ideal) x0 x1 x2 x3 x4 x5 x6 x7 x8 (ix2 r 0)
    = ∑ d : Fin 128, qrow (yrow (Yv x0 x1 x2 x3 x4 x5 x6 x7 x8) r 256 (by omega)) d * l2 (yrow (Yv x0 x1 x2 x3 x4 x5 x6 x7 x8) r 1280 (by omega)) d := by
  pointwise [k0_pay149, k0_pay150, k0_pay155, k0_pay603]
  rfl

/-- Head 2's decayed query. -/
theorem qd2 (r : Fin 8) (d : Fin 128) : k0_pay604 (F := Ideal) x0 x1 x2 x3 x4 x5 x6 x7 x8 (ix2 r d)
    = qrow (yrow (Yv x0 x1 x2 x3 x4 x5 x6 x7 x8) r 256 (by omega)) d * Ideal.exp (Gv x0 x1 x2 x3 x4 x5 x6 x7 x8 (ix2 r 50)) := by
  pointwise [k0_pay149, k0_pay152, k0_pay156, k0_pay576, k0_pay604]
  rfl

/-- Head 3's key. -/
theorem k3 (r : Fin 8) (d : Fin 128) : k0_pay611 (F := Ideal) x0 x1 x2 x3 x4 x5 x6 x7 x8 (ix2 r d)
    = l2 (yrow (Yv x0 x1 x2 x3 x4 x5 x6 x7 x8) r 1408 (by omega)) d := by
  pointwise [k0_pay226, k0_pay611]
  rfl

/-- Head 3's decay. -/
theorem eg3 (r : Fin 8) : k0_pay612 (F := Ideal) x0 x1 x2 x3 x4 x5 x6 x7 x8 (ix2 r 0)
    = Ideal.exp (Gv x0 x1 x2 x3 x4 x5 x6 x7 x8 (ix2 r 51)) := by
  pointwise [k0_pay228, k0_pay576, k0_pay612]

/-- Head 3's written value. -/
theorem u3 (r : Fin 8) (d : Fin 128) : k0_pay613 (F := Ideal) x0 x1 x2 x3 x4 x5 x6 x7 x8 (ix2 r d)
    = yrow (Yv x0 x1 x2 x3 x4 x5 x6 x7 x8) r 2432 (by omega) d * Bv x0 x1 x2 x3 x4 x5 x6 x7 x8 (ix2 r 59) := by
  pointwise [k0_pay227, k0_pay229, k0_pay577, k0_pay613]
  rfl

/-- Head 3's decayed key. -/
theorem w3 (r : Fin 8) (d : Fin 128) : k0_pay614 (F := Ideal) x0 x1 x2 x3 x4 x5 x6 x7 x8 (ix2 r d)
    = l2 (yrow (Yv x0 x1 x2 x3 x4 x5 x6 x7 x8) r 1408 (by omega)) d * Bv x0 x1 x2 x3 x4 x5 x6 x7 x8 (ix2 r 59) * Ideal.exp (Gv x0 x1 x2 x3 x4 x5 x6 x7 x8 (ix2 r 51)) := by
  pointwise [k0_pay226, k0_pay227, k0_pay228, k0_pay230, k0_pay576, k0_pay577, k0_pay614]
  rfl

/-- Head 3's product of query and key. -/
theorem ai3 (r : Fin 8) : k0_pay615 (F := Ideal) x0 x1 x2 x3 x4 x5 x6 x7 x8 (ix2 r 0)
    = ∑ d : Fin 128, qrow (yrow (Yv x0 x1 x2 x3 x4 x5 x6 x7 x8) r 384 (by omega)) d * l2 (yrow (Yv x0 x1 x2 x3 x4 x5 x6 x7 x8) r 1408 (by omega)) d := by
  pointwise [k0_pay223, k0_pay224, k0_pay225, k0_pay226, k0_pay231, k0_pay609, k0_pay610, k0_pay615]
  rfl

/-- Head 3's decayed query. -/
theorem qd3 (r : Fin 8) (d : Fin 128) : k0_pay616 (F := Ideal) x0 x1 x2 x3 x4 x5 x6 x7 x8 (ix2 r d)
    = qrow (yrow (Yv x0 x1 x2 x3 x4 x5 x6 x7 x8) r 384 (by omega)) d * Ideal.exp (Gv x0 x1 x2 x3 x4 x5 x6 x7 x8 (ix2 r 51)) := by
  pointwise [k0_pay223, k0_pay224, k0_pay225, k0_pay228, k0_pay232, k0_pay576, k0_pay609, k0_pay610, k0_pay616]
  rfl

/-- Head 4's key. -/
theorem k4 (r : Fin 8) (d : Fin 128) : k0_pay619 (F := Ideal) x0 x1 x2 x3 x4 x5 x6 x7 x8 (ix2 r d)
    = l2 (yrow (Yv x0 x1 x2 x3 x4 x5 x6 x7 x8) r 1536 (by omega)) d := by
  pointwise [k0_pay291, k0_pay619]
  rfl

/-- Head 4's decay. -/
theorem eg4 (r : Fin 8) : k0_pay620 (F := Ideal) x0 x1 x2 x3 x4 x5 x6 x7 x8 (ix2 r 0)
    = Ideal.exp (Gv x0 x1 x2 x3 x4 x5 x6 x7 x8 (ix2 r 52)) := by
  pointwise [k0_pay293, k0_pay576, k0_pay620]

/-- Head 4's written value. -/
theorem u4 (r : Fin 8) (d : Fin 128) : k0_pay621 (F := Ideal) x0 x1 x2 x3 x4 x5 x6 x7 x8 (ix2 r d)
    = yrow (Yv x0 x1 x2 x3 x4 x5 x6 x7 x8) r 2560 (by omega) d * Bv x0 x1 x2 x3 x4 x5 x6 x7 x8 (ix2 r 60) := by
  pointwise [k0_pay292, k0_pay294, k0_pay577, k0_pay621]
  rfl

/-- Head 4's decayed key. -/
theorem w4 (r : Fin 8) (d : Fin 128) : k0_pay622 (F := Ideal) x0 x1 x2 x3 x4 x5 x6 x7 x8 (ix2 r d)
    = l2 (yrow (Yv x0 x1 x2 x3 x4 x5 x6 x7 x8) r 1536 (by omega)) d * Bv x0 x1 x2 x3 x4 x5 x6 x7 x8 (ix2 r 60) * Ideal.exp (Gv x0 x1 x2 x3 x4 x5 x6 x7 x8 (ix2 r 52)) := by
  pointwise [k0_pay291, k0_pay292, k0_pay293, k0_pay295, k0_pay576, k0_pay577, k0_pay622]
  rfl

/-- Head 4's product of query and key. -/
theorem ai4 (r : Fin 8) : k0_pay624 (F := Ideal) x0 x1 x2 x3 x4 x5 x6 x7 x8 (ix2 r 0)
    = ∑ d : Fin 128, qrow (yrow (Yv x0 x1 x2 x3 x4 x5 x6 x7 x8) r 512 (by omega)) d * l2 (yrow (Yv x0 x1 x2 x3 x4 x5 x6 x7 x8) r 1536 (by omega)) d := by
  pointwise [k0_pay290, k0_pay291, k0_pay296, k0_pay297, k0_pay623, k0_pay624]
  rfl

/-- Head 4's decayed query. -/
theorem qd4 (r : Fin 8) (d : Fin 128) : k0_pay625 (F := Ideal) x0 x1 x2 x3 x4 x5 x6 x7 x8 (ix2 r d)
    = qrow (yrow (Yv x0 x1 x2 x3 x4 x5 x6 x7 x8) r 512 (by omega)) d * Ideal.exp (Gv x0 x1 x2 x3 x4 x5 x6 x7 x8 (ix2 r 52)) := by
  pointwise [k0_pay290, k0_pay293, k0_pay298, k0_pay576, k0_pay618, k0_pay620, k0_pay625]
  rfl

/-- Head 5's key. -/
theorem k5 (r : Fin 8) (d : Fin 128) : k0_pay633 (F := Ideal) x0 x1 x2 x3 x4 x5 x6 x7 x8 (ix2 r d)
    = l2 (yrow (Yv x0 x1 x2 x3 x4 x5 x6 x7 x8) r 1664 (by omega)) d := by
  pointwise [k0_pay365, k0_pay633]
  rfl

/-- Head 5's decay. -/
theorem eg5 (r : Fin 8) : k0_pay634 (F := Ideal) x0 x1 x2 x3 x4 x5 x6 x7 x8 (ix2 r 0)
    = Ideal.exp (Gv x0 x1 x2 x3 x4 x5 x6 x7 x8 (ix2 r 53)) := by
  pointwise [k0_pay367, k0_pay576, k0_pay634]

/-- Head 5's written value. -/
theorem u5 (r : Fin 8) (d : Fin 128) : k0_pay635 (F := Ideal) x0 x1 x2 x3 x4 x5 x6 x7 x8 (ix2 r d)
    = yrow (Yv x0 x1 x2 x3 x4 x5 x6 x7 x8) r 2688 (by omega) d * Bv x0 x1 x2 x3 x4 x5 x6 x7 x8 (ix2 r 61) := by
  pointwise [k0_pay366, k0_pay368, k0_pay577, k0_pay635]
  rfl

/-- Head 5's decayed key. -/
theorem w5 (r : Fin 8) (d : Fin 128) : k0_pay636 (F := Ideal) x0 x1 x2 x3 x4 x5 x6 x7 x8 (ix2 r d)
    = l2 (yrow (Yv x0 x1 x2 x3 x4 x5 x6 x7 x8) r 1664 (by omega)) d * Bv x0 x1 x2 x3 x4 x5 x6 x7 x8 (ix2 r 61) * Ideal.exp (Gv x0 x1 x2 x3 x4 x5 x6 x7 x8 (ix2 r 53)) := by
  pointwise [k0_pay365, k0_pay366, k0_pay367, k0_pay369, k0_pay576, k0_pay577, k0_pay636]
  rfl

/-- Head 5's product of query and key. -/
theorem ai5 (r : Fin 8) : k0_pay637 (F := Ideal) x0 x1 x2 x3 x4 x5 x6 x7 x8 (ix2 r 0)
    = ∑ d : Fin 128, qrow (yrow (Yv x0 x1 x2 x3 x4 x5 x6 x7 x8) r 640 (by omega)) d * l2 (yrow (Yv x0 x1 x2 x3 x4 x5 x6 x7 x8) r 1664 (by omega)) d := by
  pointwise [k0_pay362, k0_pay363, k0_pay364, k0_pay365, k0_pay370, k0_pay631, k0_pay632, k0_pay637]
  rfl

/-- Head 5's decayed query. -/
theorem qd5 (r : Fin 8) (d : Fin 128) : k0_pay638 (F := Ideal) x0 x1 x2 x3 x4 x5 x6 x7 x8 (ix2 r d)
    = qrow (yrow (Yv x0 x1 x2 x3 x4 x5 x6 x7 x8) r 640 (by omega)) d * Ideal.exp (Gv x0 x1 x2 x3 x4 x5 x6 x7 x8 (ix2 r 53)) := by
  pointwise [k0_pay362, k0_pay363, k0_pay364, k0_pay367, k0_pay371, k0_pay576, k0_pay631, k0_pay632, k0_pay638]
  rfl

/-- Head 6's key. -/
theorem k6 (r : Fin 8) (d : Fin 128) : k0_pay643 (F := Ideal) x0 x1 x2 x3 x4 x5 x6 x7 x8 (ix2 r d)
    = l2 (yrow (Yv x0 x1 x2 x3 x4 x5 x6 x7 x8) r 1792 (by omega)) d := by
  pointwise [k0_pay434, k0_pay643]
  rfl

/-- Head 6's decay. -/
theorem eg6 (r : Fin 8) : k0_pay644 (F := Ideal) x0 x1 x2 x3 x4 x5 x6 x7 x8 (ix2 r 0)
    = Ideal.exp (Gv x0 x1 x2 x3 x4 x5 x6 x7 x8 (ix2 r 54)) := by
  pointwise [k0_pay436, k0_pay576, k0_pay644]

/-- Head 6's written value. -/
theorem u6 (r : Fin 8) (d : Fin 128) : k0_pay645 (F := Ideal) x0 x1 x2 x3 x4 x5 x6 x7 x8 (ix2 r d)
    = yrow (Yv x0 x1 x2 x3 x4 x5 x6 x7 x8) r 2816 (by omega) d * Bv x0 x1 x2 x3 x4 x5 x6 x7 x8 (ix2 r 62) := by
  pointwise [k0_pay435, k0_pay437, k0_pay577, k0_pay645]
  rfl

/-- Head 6's decayed key. -/
theorem w6 (r : Fin 8) (d : Fin 128) : k0_pay648 (F := Ideal) x0 x1 x2 x3 x4 x5 x6 x7 x8 (ix2 r d)
    = l2 (yrow (Yv x0 x1 x2 x3 x4 x5 x6 x7 x8) r 1792 (by omega)) d * Bv x0 x1 x2 x3 x4 x5 x6 x7 x8 (ix2 r 62) * Ideal.exp (Gv x0 x1 x2 x3 x4 x5 x6 x7 x8 (ix2 r 54)) := by
  pointwise [k0_pay434, k0_pay435, k0_pay436, k0_pay438, k0_pay439, k0_pay440, k0_pay576, k0_pay577, k0_pay646, k0_pay647, k0_pay648]
  rfl

/-- Head 6's product of query and key. -/
theorem ai6 (r : Fin 8) : k0_pay649 (F := Ideal) x0 x1 x2 x3 x4 x5 x6 x7 x8 (ix2 r 0)
    = ∑ d : Fin 128, qrow (yrow (Yv x0 x1 x2 x3 x4 x5 x6 x7 x8) r 768 (by omega)) d * l2 (yrow (Yv x0 x1 x2 x3 x4 x5 x6 x7 x8) r 1792 (by omega)) d := by
  pointwise [k0_pay433, k0_pay434, k0_pay441, k0_pay642, k0_pay643, k0_pay649]
  rfl

/-- Head 6's decayed query. -/
theorem qd6 (r : Fin 8) (d : Fin 128) : k0_pay650 (F := Ideal) x0 x1 x2 x3 x4 x5 x6 x7 x8 (ix2 r d)
    = qrow (yrow (Yv x0 x1 x2 x3 x4 x5 x6 x7 x8) r 768 (by omega)) d * Ideal.exp (Gv x0 x1 x2 x3 x4 x5 x6 x7 x8 (ix2 r 54)) := by
  pointwise [k0_pay433, k0_pay436, k0_pay442, k0_pay576, k0_pay642, k0_pay644, k0_pay650]
  rfl

/-- Head 7's key. -/
theorem k7 (r : Fin 8) (d : Fin 128) : k0_pay656 (F := Ideal) x0 x1 x2 x3 x4 x5 x6 x7 x8 (ix2 r d)
    = l2 (yrow (Yv x0 x1 x2 x3 x4 x5 x6 x7 x8) r 1920 (by omega)) d := by
  pointwise [k0_pay503, k0_pay656]
  rfl

/-- Head 7's decay. -/
theorem eg7 (r : Fin 8) : k0_pay657 (F := Ideal) x0 x1 x2 x3 x4 x5 x6 x7 x8 (ix2 r 0)
    = Ideal.exp (Gv x0 x1 x2 x3 x4 x5 x6 x7 x8 (ix2 r 55)) := by
  pointwise [k0_pay505, k0_pay576, k0_pay657]

/-- Head 7's written value. -/
theorem u7 (r : Fin 8) (d : Fin 128) : k0_pay658 (F := Ideal) x0 x1 x2 x3 x4 x5 x6 x7 x8 (ix2 r d)
    = yrow (Yv x0 x1 x2 x3 x4 x5 x6 x7 x8) r 2944 (by omega) d * Bv x0 x1 x2 x3 x4 x5 x6 x7 x8 (ix2 r 63) := by
  pointwise [k0_pay504, k0_pay506, k0_pay577, k0_pay658]
  rfl

/-- Head 7's decayed key. -/
theorem w7 (r : Fin 8) (d : Fin 128) : k0_pay659 (F := Ideal) x0 x1 x2 x3 x4 x5 x6 x7 x8 (ix2 r d)
    = l2 (yrow (Yv x0 x1 x2 x3 x4 x5 x6 x7 x8) r 1920 (by omega)) d * Bv x0 x1 x2 x3 x4 x5 x6 x7 x8 (ix2 r 63) * Ideal.exp (Gv x0 x1 x2 x3 x4 x5 x6 x7 x8 (ix2 r 55)) := by
  pointwise [k0_pay503, k0_pay504, k0_pay505, k0_pay507, k0_pay576, k0_pay577, k0_pay659]
  rfl

/-- Head 7's product of query and key. -/
theorem ai7 (r : Fin 8) : k0_pay660 (F := Ideal) x0 x1 x2 x3 x4 x5 x6 x7 x8 (ix2 r 0)
    = ∑ d : Fin 128, qrow (yrow (Yv x0 x1 x2 x3 x4 x5 x6 x7 x8) r 896 (by omega)) d * l2 (yrow (Yv x0 x1 x2 x3 x4 x5 x6 x7 x8) r 1920 (by omega)) d := by
  pointwise [k0_pay500, k0_pay501, k0_pay502, k0_pay503, k0_pay508, k0_pay654, k0_pay655, k0_pay660]
  rfl

/-- Head 7's decayed query. -/
theorem qd7 (r : Fin 8) (d : Fin 128) : k0_pay661 (F := Ideal) x0 x1 x2 x3 x4 x5 x6 x7 x8 (ix2 r d)
    = qrow (yrow (Yv x0 x1 x2 x3 x4 x5 x6 x7 x8) r 896 (by omega)) d * Ideal.exp (Gv x0 x1 x2 x3 x4 x5 x6 x7 x8 (ix2 r 55)) := by
  pointwise [k0_pay500, k0_pay501, k0_pay502, k0_pay505, k0_pay509, k0_pay576, k0_pay654, k0_pay655, k0_pay661]
  rfl

end Cert.KernelIdeal.Value

end
-- ==== Proof.DnStateA.lean ====
module

public import proofs.«01_k».proof.Proof.DnHead

/-! The recurrent step's kernel: the new state of each sample and each of the heads 0 to 3, tile by tile. -/

@[expose] public section

set_option maxRecDepth 16384

noncomputable section

namespace Cert.KernelIdeal.Value

open Cert.KernelIdeal Cert.KernelIdeal.Gen Idealize.ShloMosaic Idealize.ShloMosaic.TcCoe Idealize.SL.Sem
open scoped BigOperators

variable (x0 : Vec Ideal S8x3072 .f32) (x1 : Vec Ideal S3x8x3072 .f32) (x2 : Vec Ideal S8x1024 .f32) (x3 : Vec Ideal S8x128 .f32)
  (x4 : Vec Ideal S8x8x128x128 .f32) (x5 : Vec Ideal S4x3072 .f32) (x6 : Vec Ideal S1x128 .f32) (x7 : Vec Ideal S1x128 .f32)
  (x8 : Vec Ideal S1x128 .f32)

open Cert.Proof

theorem st0_0 (d e : Fin 128) : (k0_pay24 (k0_pay578 x0 x1 x2 x3 x4 x5 x6 x7 x8) (k0_pay579 x0 x1 x2 x3 x4 x5 x6 x7 x8) (k0_pay580 x0 x1 x2 x3 x4 x5 x6 x7 x8) (k0_pay581 x0 x1 x2 x3 x4 x5 x6 x7 x8) (k0_pay582 x0 x1 x2 x3 x4 x5 x6 x7 x8) (k0_pay584 x0 x1 x2 x3 x4 x5 x6 x7 x8) (View.ld x4 r0_11) : FVec Ideal S1x1x128x128 .f32) (ix4 0 0 d e)
    = snew (l2 (yrow (Yv x0 x1 x2 x3 x4 x5 x6 x7 x8) 0 1024 (by omega))) (yrow (Yv x0 x1 x2 x3 x4 x5 x6 x7 x8) 0 2048 (by omega)) (Ideal.exp (Gv x0 x1 x2 x3 x4 x5 x6 x7 x8 (ix2 0 48))) (Bv x0 x1 x2 x3 x4 x5 x6 x7 x8 (ix2 0 56)) (fun d e => x4 (ix4 0 0 d e)) d e := by
  pointwise [k0_pay11, k0_pay20, k0_pay21, k0_pay22, k0_pay24, k0_pay578]
  simp only [k0, eg0, u0, w0, qd0, key_column]
  rfl

theorem st0_1 (d e : Fin 128) : (k0_pay33 (k0_pay32 (k0_pay578 x0 x1 x2 x3 x4 x5 x6 x7 x8) (k0_pay579 x0 x1 x2 x3 x4 x5 x6 x7 x8) (k0_pay580 x0 x1 x2 x3 x4 x5 x6 x7 x8) (k0_pay581 x0 x1 x2 x3 x4 x5 x6 x7 x8) (k0_pay582 x0 x1 x2 x3 x4 x5 x6 x7 x8) (k0_pay584 x0 x1 x2 x3 x4 x5 x6 x7 x8) (View.ld x4 r0_13)) : FVec Ideal S1x1x128x128 .f32) (ix4 0 0 d e)
    = snew (l2 (yrow (Yv x0 x1 x2 x3 x4 x5 x6 x7 x8) 1 1024 (by omega))) (yrow (Yv x0 x1 x2 x3 x4 x5 x6 x7 x8) 1 2048 (by omega)) (Ideal.exp (Gv x0 x1 x2 x3 x4 x5 x6 x7 x8 (ix2 1 48))) (Bv x0 x1 x2 x3 x4 x5 x6 x7 x8 (ix2 1 56)) (fun d e => x4 (ix4 1 0 d e)) d e := by
  pointwise [k0_pay11, k0_pay28, k0_pay29, k0_pay30, k0_pay32, k0_pay33, k0_pay578]
  simp only [k0, eg0, u0, w0, qd0, key_column]
  rfl

theorem st0_2 (d e : Fin 128) : (k0_pay40 (k0_pay578 x0 x1 x2 x3 x4 x5 x6 x7 x8) (k0_pay579 x0 x1 x2 x3 x4 x5 x6 x7 x8) (k0_pay580 x0 x1 x2 x3 x4 x5 x6 x7 x8) (k0_pay35 (View.ld x4 r0_15)) (k0_pay585 x0 x1 x2 x3 x4 x5 x6 x7 x8) : FVec Ideal S1x1x128x128 .f32) (ix4 0 0 d e)
    = snew (l2 (yrow (Yv x0 x1 x2 x3 x4 x5 x6 x7 x8) 2 1024 (by omega))) (yrow (Yv x0 x1 x2 x3 x4 x5 x6 x7 x8) 2 2048 (by omega)) (Ideal.exp (Gv x0 x1 x2 x3 x4 x5 x6 x7 x8 (ix2 2 48))) (Bv x0 x1 x2 x3 x4 x5 x6 x7 x8 (ix2 2 56)) (fun d e => x4 (ix4 2 0 d e)) d e := by
  pointwise [k0_pay11, k0_pay35, k0_pay36, k0_pay37, k0_pay40, k0_pay578, k0_pay585]
  simp only [k0, eg0, u0, w0, qd0, key_column]
  rfl

theorem st0_3 (d e : Fin 128) : (k0_pay46 (k0_pay578 x0 x1 x2 x3 x4 x5 x6 x7 x8) (k0_pay579 x0 x1 x2 x3 x4 x5 x6 x7 x8) (k0_pay580 x0 x1 x2 x3 x4 x5 x6 x7 x8) (k0_pay581 x0 x1 x2 x3 x4 x5 x6 x7 x8) (k0_pay582 x0 x1 x2 x3 x4 x5 x6 x7 x8) (k0_pay584 x0 x1 x2 x3 x4 x5 x6 x7 x8) (View.ld x4 r0_17) : FVec Ideal S1x1x128x128 .f32) (ix4 0 0 d e)
    = snew (l2 (yrow (Yv x0 x1 x2 x3 x4 x5 x6 x7 x8) 3 1024 (by omega))) (yrow (Yv x0 x1 x2 x3 x4 x5 x6 x7 x8) 3 2048 (by omega)) (Ideal.exp (Gv x0 x1 x2 x3 x4 x5 x6 x7 x8 (ix2 3 48))) (Bv x0 x1 x2 x3 x4 x5 x6 x7 x8 (ix2 3 56)) (fun d e => x4 (ix4 3 0 d e)) d e := by
  pointwise [k0_pay11, k0_pay42, k0_pay43, k0_pay44, k0_pay46, k0_pay578]
  simp only [k0, eg0, u0, w0, qd0, key_column]
  rfl

theorem st0_4 (d e : Fin 128) : (k0_pay56 (k0_pay54 (k0_pay580 x0 x1 x2 x3 x4 x5 x6 x7 x8) (View.ld x4 r0_19)) (k0_pay55 (k0_pay578 x0 x1 x2 x3 x4 x5 x6 x7 x8) (k0_pay579 x0 x1 x2 x3 x4 x5 x6 x7 x8) (k0_pay581 x0 x1 x2 x3 x4 x5 x6 x7 x8) (k0_pay582 x0 x1 x2 x3 x4 x5 x6 x7 x8) (k0_pay584 x0 x1 x2 x3 x4 x5 x6 x7 x8) (View.ld x4 r0_19)) : FVec Ideal S1x1x128x128 .f32) (ix4 0 0 d e)
    = snew (l2 (yrow (Yv x0 x1 x2 x3 x4 x5 x6 x7 x8) 4 1024 (by omega))) (yrow (Yv x0 x1 x2 x3 x4 x5 x6 x7 x8) 4 2048 (by omega)) (Ideal.exp (Gv x0 x1 x2 x3 x4 x5 x6 x7 x8 (ix2 4 48))) (Bv x0 x1 x2 x3 x4 x5 x6 x7 x8 (ix2 4 56)) (fun d e => x4 (ix4 4 0 d e)) d e := by
  pointwise [k0_pay11, k0_pay50, k0_pay51, k0_pay52, k0_pay54, k0_pay55, k0_pay56, k0_pay578]
  simp only [k0, eg0, u0, w0, qd0, key_column]
  rfl

theorem st0_5 (d e : Fin 128) : (k0_pay63 (k0_pay578 x0 x1 x2 x3 x4 x5 x6 x7 x8) (k0_pay579 x0 x1 x2 x3 x4 x5 x6 x7 x8) (k0_pay580 x0 x1 x2 x3 x4 x5 x6 x7 x8) (k0_pay58 (View.ld x4 r0_21)) (k0_pay586 x0 x1 x2 x3 x4 x5 x6 x7 x8) (k0_pay587 x0 x1 x2 x3 x4 x5 x6 x7 x8) : FVec Ideal S1x1x128x128 .f32) (ix4 0 0 d e)
    = snew (l2 (yrow (Yv x0 x1 x2 x3 x4 x5 x6 x7 x8) 5 1024 (by omega))) (yrow (Yv x0 x1 x2 x3 x4 x5 x6 x7 x8) 5 2048 (by omega)) (Ideal.exp (Gv x0 x1 x2 x3 x4 x5 x6 x7 x8 (ix2 5 48))) (Bv x0 x1 x2 x3 x4 x5 x6 x7 x8 (ix2 5 56)) (fun d e => x4 (ix4 5 0 d e)) d e := by
  pointwise [k0_pay11, k0_pay58, k0_pay59, k0_pay60, k0_pay61, k0_pay62, k0_pay63, k0_pay578, k0_pay586, k0_pay587]
  simp only [k0, eg0, u0, w0, qd0, key_column]
  rfl

theorem st0_6 (d e : Fin 128) : (k0_pay69 (k0_pay578 x0 x1 x2 x3 x4 x5 x6 x7 x8) (k0_pay579 x0 x1 x2 x3 x4 x5 x6 x7 x8) (k0_pay580 x0 x1 x2 x3 x4 x5 x6 x7 x8) (k0_pay581 x0 x1 x2 x3 x4 x5 x6 x7 x8) (k0_pay582 x0 x1 x2 x3 x4 x5 x6 x7 x8) (k0_pay584 x0 x1 x2 x3 x4 x5 x6 x7 x8) (View.ld x4 r0_23) : FVec Ideal S1x1x128x128 .f32) (ix4 0 0 d e)
    = snew (l2 (yrow (Yv x0 x1 x2 x3 x4 x5 x6 x7 x8) 6 1024 (by omega))) (yrow (Yv x0 x1 x2 x3 x4 x5 x6 x7 x8) 6 2048 (by omega)) (Ideal.exp (Gv x0 x1 x2 x3 x4 x5 x6 x7 x8 (ix2 6 48))) (Bv x0 x1 x2 x3 x4 x5 x6 x7 x8 (ix2 6 56)) (fun d e => x4 (ix4 6 0 d e)) d e := by
  pointwise [k0_pay11, k0_pay65, k0_pay66, k0_pay67, k0_pay69, k0_pay578]
  simp only [k0, eg0, u0, w0, qd0, key_column]
  rfl

theorem st0_7 (d e : Fin 128) : (k0_pay79 (k0_pay75 (k0_pay581 x0 x1 x2 x3 x4 x5 x6 x7 x8) (k0_pay582 x0 x1 x2 x3 x4 x5 x6 x7 x8) (k0_pay584 x0 x1 x2 x3 x4 x5 x6 x7 x8) (View.ld x4 r0_25)) (k0_pay77 (k0_pay578 x0 x1 x2 x3 x4 x5 x6 x7 x8) (k0_pay579 x0 x1 x2 x3 x4 x5 x6 x7 x8)) (k0_pay78 (k0_pay580 x0 x1 x2 x3 x4 x5 x6 x7 x8) (View.ld x4 r0_25)) : FVec Ideal S1x1x128x128 .f32) (ix4 0 0 d e)
    = snew (l2 (yrow (Yv x0 x1 x2 x3 x4 x5 x6 x7 x8) 7 1024 (by omega))) (yrow (Yv x0 x1 x2 x3 x4 x5 x6 x7 x8) 7 2048 (by omega)) (Ideal.exp (Gv x0 x1 x2 x3 x4 x5 x6 x7 x8 (ix2 7 48))) (Bv x0 x1 x2 x3 x4 x5 x6 x7 x8 (ix2 7 56)) (fun d e => x4 (ix4 7 0 d e)) d e := by
  pointwise [k0_pay11, k0_pay73, k0_pay74, k0_pay75, k0_pay77, k0_pay78, k0_pay79, k0_pay578]
  simp only [k0, eg0, u0, w0, qd0, key_column]
  rfl

theorem st1_0 (d e : Fin 128) : (k0_pay94 (k0_pay590 x0 x1 x2 x3 x4 x5 x6 x7 x8) (k0_pay89 (View.ld x4 r0_28)) (k0_pay91 (k0_pay572 x0 x1 x2 x3 x4 x5 x6 x7 x8) (k0_pay576 x0 x1 x2 x3 x4 x5 x6 x7 x8) (k0_pay577 x0 x1 x2 x3 x4 x5 x6 x7 x8) (k0_pay588 x0 x1 x2 x3 x4 x5 x6 x7 x8) (View.ld x4 r0_28)) (k0_pay93 (k0_pay572 x0 x1 x2 x3 x4 x5 x6 x7 x8) (k0_pay578 x0 x1 x2 x3 x4 x5 x6 x7 x8)) : FVec Ideal S1x1x128x128 .f32) (ix4 0 0 d e)
    = snew (l2 (yrow (Yv x0 x1 x2 x3 x4 x5 x6 x7 x8) 0 1152 (by omega))) (yrow (Yv x0 x1 x2 x3 x4 x5 x6 x7 x8) 0 2176 (by omega)) (Ideal.exp (Gv x0 x1 x2 x3 x4 x5 x6 x7 x8 (ix2 0 49))) (Bv x0 x1 x2 x3 x4 x5 x6 x7 x8 (ix2 0 57)) (fun d e => x4 (ix4 0 1 d e)) d e := by
  pointwise [k0_pay11, k0_pay81, k0_pay82, k0_pay83, k0_pay84, k0_pay85, k0_pay86, k0_pay88, k0_pay89, k0_pay90, k0_pay91, k0_pay93, k0_pay94, k0_pay576, k0_pay577, k0_pay578, k0_pay588]
  simp only [eg1, key_column]
  rfl

theorem st1_1 (d e : Fin 128) : (k0_pay101 (k0_pay578 x0 x1 x2 x3 x4 x5 x6 x7 x8) (k0_pay589 x0 x1 x2 x3 x4 x5 x6 x7 x8) (k0_pay590 x0 x1 x2 x3 x4 x5 x6 x7 x8) (k0_pay591 x0 x1 x2 x3 x4 x5 x6 x7 x8) (k0_pay595 x0 x1 x2 x3 x4 x5 x6 x7 x8) (k0_pay596 x0 x1 x2 x3 x4 x5 x6 x7 x8) (k0_pay597 x0 x1 x2 x3 x4 x5 x6 x7 x8) (Scalar.ofBits .f32 0x00000000#32) : FVec Ideal S1x1x128x128 .f32) (ix4 0 0 d e)
    = snew (l2 (yrow (Yv x0 x1 x2 x3 x4 x5 x6 x7 x8) 1 1152 (by omega))) (yrow (Yv x0 x1 x2 x3 x4 x5 x6 x7 x8) 1 2176 (by omega)) (Ideal.exp (Gv x0 x1 x2 x3 x4 x5 x6 x7 x8 (ix2 1 49))) (Bv x0 x1 x2 x3 x4 x5 x6 x7 x8 (ix2 1 57)) (fun d e => x4 (ix4 1 1 d e)) d e := by
  pointwise [k0_pay11, k0_pay96, k0_pay97, k0_pay98, k0_pay99, k0_pay100, k0_pay101, k0_pay578, k0_pay595, k0_pay596, k0_pay597]
  simp only [k1, eg1, u1, w1, qd1, key_column]
  rfl

theorem st1_2 (d e : Fin 128) : (k0_pay110 (k0_pay578 x0 x1 x2 x3 x4 x5 x6 x7 x8) (k0_pay589 x0 x1 x2 x3 x4 x5 x6 x7 x8) (k0_pay590 x0 x1 x2 x3 x4 x5 x6 x7 x8) (k0_pay591 x0 x1 x2 x3 x4 x5 x6 x7 x8) (k0_pay592 x0 x1 x2 x3 x4 x5 x6 x7 x8) (k0_pay594 x0 x1 x2 x3 x4 x5 x6 x7 x8) (View.ld x4 r0_32) : FVec Ideal S1x1x128x128 .f32) (ix4 0 0 d e)
    = snew (l2 (yrow (Yv x0 x1 x2 x3 x4 x5 x6 x7 x8) 2 1152 (by omega))) (yrow (Yv x0 x1 x2 x3 x4 x5 x6 x7 x8) 2 2176 (by omega)) (Ideal.exp (Gv x0 x1 x2 x3 x4 x5 x6 x7 x8 (ix2 2 49))) (Bv x0 x1 x2 x3 x4 x5 x6 x7 x8 (ix2 2 57)) (fun d e => x4 (ix4 2 1 d e)) d e := by
  pointwise [k0_pay11, k0_pay106, k0_pay107, k0_pay108, k0_pay110, k0_pay578]
  simp only [k1, eg1, u1, w1, qd1, key_column]
  rfl

theorem st1_3 (d e : Fin 128) : (k0_pay118 (k0_pay578 x0 x1 x2 x3 x4 x5 x6 x7 x8) (k0_pay590 x0 x1 x2 x3 x4 x5 x6 x7 x8) (k0_pay113 (View.ld x4 r0_34)) (k0_pay115 (k0_pay591 x0 x1 x2 x3 x4 x5 x6 x7 x8) (k0_pay592 x0 x1 x2 x3 x4 x5 x6 x7 x8) (k0_pay594 x0 x1 x2 x3 x4 x5 x6 x7 x8) (View.ld x4 r0_34)) (Scalar.ofBits .f32 0x00000000#32) (k0_pay117 (k0_pay589 x0 x1 x2 x3 x4 x5 x6 x7 x8)) : FVec Ideal S1x1x128x128 .f32) (ix4 0 0 d e)
    = snew (l2 (yrow (Yv x0 x1 x2 x3 x4 x5 x6 x7 x8) 3 1152 (by omega))) (yrow (Yv x0 x1 x2 x3 x4 x5 x6 x7 x8) 3 2176 (by omega)) (Ideal.exp (Gv x0 x1 x2 x3 x4 x5 x6 x7 x8 (ix2 3 49))) (Bv x0 x1 x2 x3 x4 x5 x6 x7 x8 (ix2 3 57)) (fun d e => x4 (ix4 3 1 d e)) d e := by
  pointwise [k0_pay11, k0_pay113, k0_pay114, k0_pay115, k0_pay117, k0_pay118, k0_pay578]
  simp only [k1, eg1, u1, w1, qd1, key_column]
  rfl

theorem st1_4 (d e : Fin 128) : (k0_pay123 (k0_pay578 x0 x1 x2 x3 x4 x5 x6 x7 x8) (k0_pay589 x0 x1 x2 x3 x4 x5 x6 x7 x8) (k0_pay590 x0 x1 x2 x3 x4 x5 x6 x7 x8) (k0_pay591 x0 x1 x2 x3 x4 x5 x6 x7 x8) (k0_pay592 x0 x1 x2 x3 x4 x5 x6 x7 x8) (k0_pay594 x0 x1 x2 x3 x4 x5 x6 x7 x8) (k0_pay598 x0 x1 x2 x3 x4 x5 x6 x7 x8) : FVec Ideal S1x1x128x128 .f32) (ix4 0 0 d e)
    = snew (l2 (yrow (Yv x0 x1 x2 x3 x4 x5 x6 x7 x8) 4 1152 (by omega))) (yrow (Yv x0 x1 x2 x3 x4 x5 x6 x7 x8) 4 2176 (by omega)) (Ideal.exp (Gv x0 x1 x2 x3 x4 x5 x6 x7 x8 (ix2 4 49))) (Bv x0 x1 x2 x3 x4 x5 x6 x7 x8 (ix2 4 57)) (fun d e => x4 (ix4 4 1 d e)) d e := by
  pointwise [k0_pay11, k0_pay120, k0_pay121, k0_pay122, k0_pay123, k0_pay578, k0_pay598]
  simp only [k1, eg1, u1, w1, qd1, key_column]
  rfl

theorem st1_5 (d e : Fin 128) : (k0_pay132 (k0_pay131 (k0_pay578 x0 x1 x2 x3 x4 x5 x6 x7 x8) (k0_pay589 x0 x1 x2 x3 x4 x5 x6 x7 x8) (k0_pay590 x0 x1 x2 x3 x4 x5 x6 x7 x8) (k0_pay591 x0 x1 x2 x3 x4 x5 x6 x7 x8) (k0_pay592 x0 x1 x2 x3 x4 x5 x6 x7 x8) (k0_pay594 x0 x1 x2 x3 x4 x5 x6 x7 x8) (View.ld x4 r0_38)) : FVec Ideal S1x1x128x128 .f32) (ix4 0 0 d e)
    = snew (l2 (yrow (Yv x0 x1 x2 x3 x4 x5 x6 x7 x8) 5 1152 (by omega))) (yrow (Yv x0 x1 x2 x3 x4 x5 x6 x7 x8) 5 2176 (by omega)) (Ideal.exp (Gv x0 x1 x2 x3 x4 x5 x6 x7 x8 (ix2 5 49))) (Bv x0 x1 x2 x3 x4 x5 x6 x7 x8 (ix2 5 57)) (fun d e => x4 (ix4 5 1 d e)) d e := by
  pointwise [k0_pay11, k0_pay127, k0_pay128, k0_pay129, k0_pay131, k0_pay132, k0_pay578]
  simp only [k1, eg1, u1, w1, qd1, key_column]
  rfl

theorem st1_6 (d e : Fin 128) : (k0_pay139 (k0_pay578 x0 x1 x2 x3 x4 x5 x6 x7 x8) (k0_pay590 x0 x1 x2 x3 x4 x5 x6 x7 x8) (k0_pay134 (View.ld x4 r0_40)) (k0_pay136 (k0_pay591 x0 x1 x2 x3 x4 x5 x6 x7 x8) (k0_pay592 x0 x1 x2 x3 x4 x5 x6 x7 x8) (k0_pay594 x0 x1 x2 x3 x4 x5 x6 x7 x8) (View.ld x4 r0_40)) (k0_pay138 (k0_pay589 x0 x1 x2 x3 x4 x5 x6 x7 x8)) : FVec Ideal S1x1x128x128 .f32) (ix4 0 0 d e)
    = snew (l2 (yrow (Yv x0 x1 x2 x3 x4 x5 x6 x7 x8) 6 1152 (by omega))) (yrow (Yv x0 x1 x2 x3 x4 x5 x6 x7 x8) 6 2176 (by omega)) (Ideal.exp (Gv x0 x1 x2 x3 x4 x5 x6 x7 x8 (ix2 6 49))) (Bv x0 x1 x2 x3 x4 x5 x6 x7 x8 (ix2 6 57)) (fun d e => x4 (ix4 6 1 d e)) d e := by
  pointwise [k0_pay11, k0_pay134, k0_pay135, k0_pay136, k0_pay138, k0_pay139, k0_pay578]
  simp only [k1, eg1, u1, w1, qd1, key_column]
  rfl

theorem st1_7 (d e : Fin 128) : (k0_pay145 (k0_pay578 x0 x1 x2 x3 x4 x5 x6 x7 x8) (k0_pay589 x0 x1 x2 x3 x4 x5 x6 x7 x8) (k0_pay590 x0 x1 x2 x3 x4 x5 x6 x7 x8) (k0_pay591 x0 x1 x2 x3 x4 x5 x6 x7 x8) (k0_pay592 x0 x1 x2 x3 x4 x5 x6 x7 x8) (k0_pay594 x0 x1 x2 x3 x4 x5 x6 x7 x8) (View.ld x4 r0_42) : FVec Ideal S1x1x128x128 .f32) (ix4 0 0 d e)
    = snew (l2 (yrow (Yv x0 x1 x2 x3 x4 x5 x6 x7 x8) 7 1152 (by omega))) (yrow (Yv x0 x1 x2 x3 x4 x5 x6 x7 x8) 7 2176 (by omega)) (Ideal.exp (Gv x0 x1 x2 x3 x4 x5 x6 x7 x8 (ix2 7 49))) (Bv x0 x1 x2 x3 x4 x5 x6 x7 x8 (ix2 7 57)) (fun d e => x4 (ix4 7 1 d e)) d e := by
  pointwise [k0_pay11, k0_pay141, k0_pay142, k0_pay143, k0_pay145, k0_pay578]
  simp only [k1, eg1, u1, w1, qd1, key_column]
  rfl

theorem st2_0 (d e : Fin 128) : (k0_pay161 (k0_pay578 x0 x1 x2 x3 x4 x5 x6 x7 x8) (k0_pay599 x0 x1 x2 x3 x4 x5 x6 x7 x8) (k0_pay600 x0 x1 x2 x3 x4 x5 x6 x7 x8) (k0_pay601 x0 x1 x2 x3 x4 x5 x6 x7 x8) (k0_pay602 x0 x1 x2 x3 x4 x5 x6 x7 x8) (k0_pay604 x0 x1 x2 x3 x4 x5 x6 x7 x8) (View.ld x4 r0_45) : FVec Ideal S1x1x128x128 .f32) (ix4 0 0 d e)
    = snew (l2 (yrow (Yv x0 x1 x2 x3 x4 x5 x6 x7 x8) 0 1280 (by omega))) (yrow (Yv x0 x1 x2 x3 x4 x5 x6 x7 x8) 0 2304 (by omega)) (Ideal.exp (Gv x0 x1 x2 x3 x4 x5 x6 x7 x8 (ix2 0 50))) (Bv x0 x1 x2 x3 x4 x5 x6 x7 x8 (ix2 0 58)) (fun d e => x4 (ix4 0 2 d e)) d e := by
  pointwise [k0_pay11, k0_pay157, k0_pay158, k0_pay159, k0_pay161, k0_pay578]
  simp only [k2, eg2, u2, w2, qd2, key_column]
  rfl

theorem st2_1 (d e : Fin 128) : (k0_pay172 (k0_pay169 (k0_pay600 x0 x1 x2 x3 x4 x5 x6 x7 x8) (View.ld x4 r0_47)) (k0_pay170 (k0_pay578 x0 x1 x2 x3 x4 x5 x6 x7 x8) (k0_pay599 x0 x1 x2 x3 x4 x5 x6 x7 x8)) (k0_pay171 (k0_pay601 x0 x1 x2 x3 x4 x5 x6 x7 x8) (k0_pay602 x0 x1 x2 x3 x4 x5 x6 x7 x8) (k0_pay604 x0 x1 x2 x3 x4 x5 x6 x7 x8) (View.ld x4 r0_47)) : FVec Ideal S1x1x128x128 .f32) (ix4 0 0 d e)
    = snew (l2 (yrow (Yv x0 x1 x2 x3 x4 x5 x6 x7 x8) 1 1280 (by omega))) (yrow (Yv x0 x1 x2 x3 x4 x5 x6 x7 x8) 1 2304 (by omega)) (Ideal.exp (Gv x0 x1 x2 x3 x4 x5 x6 x7 x8 (ix2 1 50))) (Bv x0 x1 x2 x3 x4 x5 x6 x7 x8 (ix2 1 58)) (fun d e => x4 (ix4 1 2 d e)) d e := by
  pointwise [k0_pay11, k0_pay165, k0_pay166, k0_pay167, k0_pay169, k0_pay170, k0_pay171, k0_pay172, k0_pay578]
  simp only [k2, eg2, u2, w2, qd2, key_column]
  rfl

theorem st2_2 (d e : Fin 128) : (k0_pay178 (k0_pay578 x0 x1 x2 x3 x4 x5 x6 x7 x8) (k0_pay599 x0 x1 x2 x3 x4 x5 x6 x7 x8) (k0_pay600 x0 x1 x2 x3 x4 x5 x6 x7 x8) (k0_pay174 (View.ld x4 r0_49)) (k0_pay605 x0 x1 x2 x3 x4 x5 x6 x7 x8) (k0_pay606 x0 x1 x2 x3 x4 x5 x6 x7 x8) : FVec Ideal S1x1x128x128 .f32) (ix4 0 0 d e)
    = snew (l2 (yrow (Yv x0 x1 x2 x3 x4 x5 x6 x7 x8) 2 1280 (by omega))) (yrow (Yv x0 x1 x2 x3 x4 x5 x6 x7 x8) 2 2304 (by omega)) (Ideal.exp (Gv x0 x1 x2 x3 x4 x5 x6 x7 x8 (ix2 2 50))) (Bv x0 x1 x2 x3 x4 x5 x6 x7 x8 (ix2 2 58)) (fun d e => x4 (ix4 2 2 d e)) d e := by
  pointwise [k0_pay11, k0_pay174, k0_pay175, k0_pay176, k0_pay177, k0_pay178, k0_pay578, k0_pay605, k0_pay606]
  simp only [k2, eg2, u2, w2, qd2, key_column]
  rfl

theorem st2_3 (d e : Fin 128) : (k0_pay186 (k0_pay578 x0 x1 x2 x3 x4 x5 x6 x7 x8) (k0_pay599 x0 x1 x2 x3 x4 x5 x6 x7 x8) (k0_pay600 x0 x1 x2 x3 x4 x5 x6 x7 x8) (k0_pay601 x0 x1 x2 x3 x4 x5 x6 x7 x8) (k0_pay602 x0 x1 x2 x3 x4 x5 x6 x7 x8) (k0_pay604 x0 x1 x2 x3 x4 x5 x6 x7 x8) (View.ld x4 r0_51) : FVec Ideal S1x1x128x128 .f32) (ix4 0 0 d e)
    = snew (l2 (yrow (Yv x0 x1 x2 x3 x4 x5 x6 x7 x8) 3 1280 (by omega))) (yrow (Yv x0 x1 x2 x3 x4 x5 x6 x7 x8) 3 2304 (by omega)) (Ideal.exp (Gv x0 x1 x2 x3 x4 x5 x6 x7 x8 (ix2 3 50))) (Bv x0 x1 x2 x3 x4 x5 x6 x7 x8 (ix2 3 58)) (fun d e => x4 (ix4 3 2 d e)) d e := by
  pointwise [k0_pay11, k0_pay182, k0_pay183, k0_pay184, k0_pay186, k0_pay578]
  simp only [k2, eg2, u2, w2, qd2, key_column]
  rfl

theorem st2_4 (d e : Fin 128) : (k0_pay196 (k0_pay190 (View.ld x4 r0_53)) (k0_pay192 (k0_pay601 x0 x1 x2 x3 x4 x5 x6 x7 x8) (k0_pay602 x0 x1 x2 x3 x4 x5 x6 x7 x8) (k0_pay604 x0 x1 x2 x3 x4 x5 x6 x7 x8) (View.ld x4 r0_53)) (k0_pay194 (k0_pay578 x0 x1 x2 x3 x4 x5 x6 x7 x8) (k0_pay599 x0 x1 x2 x3 x4 x5 x6 x7 x8)) (k0_pay195 (k0_pay600 x0 x1 x2 x3 x4 x5 x6 x7 x8)) : FVec Ideal S1x1x128x128 .f32) (ix4 0 0 d e)
    = snew (l2 (yrow (Yv x0 x1 x2 x3 x4 x5 x6 x7 x8) 4 1280 (by omega))) (yrow (Yv x0 x1 x2 x3 x4 x5 x6 x7 x8) 4 2304 (by omega)) (Ideal.exp (Gv x0 x1 x2 x3 x4 x5 x6 x7 x8 (ix2 4 50))) (Bv x0 x1 x2 x3 x4 x5 x6 x7 x8 (ix2 4 58)) (fun d e => x4 (ix4 4 2 d e)) d e := by
  pointwise [k0_pay11, k0_pay190, k0_pay191, k0_pay192, k0_pay194, k0_pay195, k0_pay196, k0_pay578]
  simp only [k2, eg2, u2, w2, qd2, key_column]
  rfl

theorem st2_5 (d e : Fin 128) : (k0_pay203 (k0_pay578 x0 x1 x2 x3 x4 x5 x6 x7 x8) (k0_pay599 x0 x1 x2 x3 x4 x5 x6 x7 x8) (k0_pay600 x0 x1 x2 x3 x4 x5 x6 x7 x8) (k0_pay601 x0 x1 x2 x3 x4 x5 x6 x7 x8) (k0_pay198 (View.ld x4 r0_55)) (k0_pay607 x0 x1 x2 x3 x4 x5 x6 x7 x8) (k0_pay608 x0 x1 x2 x3 x4 x5 x6 x7 x8) : FVec Ideal S1x1x128x128 .f32) (ix4 0 0 d e)
    = snew (l2 (yrow (Yv x0 x1 x2 x3 x4 x5 x6 x7 x8) 5 1280 (by omega))) (yrow (Yv x0 x1 x2 x3 x4 x5 x6 x7 x8) 5 2304 (by omega)) (Ideal.exp (Gv x0 x1 x2 x3 x4 x5 x6 x7 x8 (ix2 5 50))) (Bv x0 x1 x2 x3 x4 x5 x6 x7 x8 (ix2 5 58)) (fun d e => x4 (ix4 5 2 d e)) d e := by
  pointwise [k0_pay11, k0_pay198, k0_pay199, k0_pay200, k0_pay201, k0_pay202, k0_pay203, k0_pay578, k0_pay607, k0_pay608]
  simp only [k2, eg2, u2, w2, qd2, key_column]
  rfl

theorem st2_6 (d e : Fin 128) : (k0_pay212 (k0_pay578 x0 x1 x2 x3 x4 x5 x6 x7 x8) (k0_pay599 x0 x1 x2 x3 x4 x5 x6 x7 x8) (k0_pay600 x0 x1 x2 x3 x4 x5 x6 x7 x8) (k0_pay601 x0 x1 x2 x3 x4 x5 x6 x7 x8) (k0_pay602 x0 x1 x2 x3 x4 x5 x6 x7 x8) (k0_pay604 x0 x1 x2 x3 x4 x5 x6 x7 x8) (View.ld x4 r0_57) : FVec Ideal S1x1x128x128 .f32) (ix4 0 0 d e)
    = snew (l2 (yrow (Yv x0 x1 x2 x3 x4 x5 x6 x7 x8) 6 1280 (by omega))) (yrow (Yv x0 x1 x2 x3 x4 x5 x6 x7 x8) 6 2304 (by omega)) (Ideal.exp (Gv x0 x1 x2 x3 x4 x5 x6 x7 x8 (ix2 6 50))) (Bv x0 x1 x2 x3 x4 x5 x6 x7 x8 (ix2 6 58)) (fun d e => x4 (ix4 6 2 d e)) d e := by
  pointwise [k0_pay11, k0_pay208, k0_pay209, k0_pay210, k0_pay212, k0_pay578]
  simp only [k2, eg2, u2, w2, qd2, key_column]
  rfl

theorem st2_7 (d e : Fin 128) : (k0_pay221 (k0_pay600 x0 x1 x2 x3 x4 x5 x6 x7 x8) (k0_pay216 (View.ld x4 r0_59)) (k0_pay218 (k0_pay601 x0 x1 x2 x3 x4 x5 x6 x7 x8) (k0_pay602 x0 x1 x2 x3 x4 x5 x6 x7 x8) (k0_pay604 x0 x1 x2 x3 x4 x5 x6 x7 x8) (View.ld x4 r0_59)) (k0_pay220 (k0_pay578 x0 x1 x2 x3 x4 x5 x6 x7 x8) (k0_pay599 x0 x1 x2 x3 x4 x5 x6 x7 x8)) : FVec Ideal S1x1x128x128 .f32) (ix4 0 0 d e)
    = snew (l2 (yrow (Yv x0 x1 x2 x3 x4 x5 x6 x7 x8) 7 1280 (by omega))) (yrow (Yv x0 x1 x2 x3 x4 x5 x6 x7 x8) 7 2304 (by omega)) (Ideal.exp (Gv x0 x1 x2 x3 x4 x5 x6 x7 x8 (ix2 7 50))) (Bv x0 x1 x2 x3 x4 x5 x6 x7 x8 (ix2 7 58)) (fun d e => x4 (ix4 7 2 d e)) d e := by
  pointwise [k0_pay11, k0_pay216, k0_pay217, k0_pay218, k0_pay220, k0_pay221, k0_pay578]
  simp only [k2, eg2, u2, w2, qd2, key_column]
  rfl

theorem st3_0 (d e : Fin 128) : (k0_pay238 (k0_pay578 x0 x1 x2 x3 x4 x5 x6 x7 x8) (k0_pay612 x0 x1 x2 x3 x4 x5 x6 x7 x8) (k0_pay233 (View.ld x4 r0_62)) (k0_pay235 (k0_pay572 x0 x1 x2 x3 x4 x5 x6 x7 x8) (k0_pay576 x0 x1 x2 x3 x4 x5 x6 x7 x8) (k0_pay577 x0 x1 x2 x3 x4 x5 x6 x7 x8) (k0_pay609 x0 x1 x2 x3 x4 x5 x6 x7 x8) (k0_pay610 x0 x1 x2 x3 x4 x5 x6 x7 x8) (View.ld x4 r0_62)) (Scalar.ofBits .f32 0x00000000#32) (k0_pay237 (k0_pay572 x0 x1 x2 x3 x4 x5 x6 x7 x8)) : FVec Ideal S1x1x128x128 .f32) (ix4 0 0 d e)
    = snew (l2 (yrow (Yv x0 x1 x2 x3 x4 x5 x6 x7 x8) 0 1408 (by omega))) (yrow (Yv x0 x1 x2 x3 x4 x5 x6 x7 x8) 0 2432 (by omega)) (Ideal.exp (Gv x0 x1 x2 x3 x4 x5 x6 x7 x8 (ix2 0 51))) (Bv x0 x1 x2 x3 x4 x5 x6 x7 x8 (ix2 0 59)) (fun d e => x4 (ix4 0 3 d e)) d e := by
  pointwise [k0_pay11, k0_pay223, k0_pay224, k0_pay225, k0_pay226, k0_pay227, k0_pay228, k0_pay229, k0_pay230, k0_pay232, k0_pay233, k0_pay234, k0_pay235, k0_pay237, k0_pay238, k0_pay576, k0_pay577, k0_pay578, k0_pay609, k0_pay610]
  simp only [eg3, key_column]
  rfl

theorem st3_1 (d e : Fin 128) : (k0_pay243 (k0_pay578 x0 x1 x2 x3 x4 x5 x6 x7 x8) (k0_pay611 x0 x1 x2 x3 x4 x5 x6 x7 x8) (k0_pay612 x0 x1 x2 x3 x4 x5 x6 x7 x8) (k0_pay613 x0 x1 x2 x3 x4 x5 x6 x7 x8) (k0_pay614 x0 x1 x2 x3 x4 x5 x6 x7 x8) (k0_pay616 x0 x1 x2 x3 x4 x5 x6 x7 x8) (View.ld x4 r0_64) : FVec Ideal S1x1x128x128 .f32) (ix4 0 0 d e)
    = snew (l2 (yrow (Yv x0 x1 x2 x3 x4 x5 x6 x7 x8) 1 1408 (by omega))) (yrow (Yv x0 x1 x2 x3 x4 x5 x6 x7 x8) 1 2432 (by omega)) (Ideal.exp (Gv x0 x1 x2 x3 x4 x5 x6 x7 x8 (ix2 1 51))) (Bv x0 x1 x2 x3 x4 x5 x6 x7 x8 (ix2 1 59)) (fun d e => x4 (ix4 1 3 d e)) d e := by
  pointwise [k0_pay11, k0_pay240, k0_pay241, k0_pay242, k0_pay243, k0_pay578]
  simp only [k3, eg3, u3, w3, qd3, key_column]
  rfl

theorem st3_2 (d e : Fin 128) : (k0_pay252 (k0_pay251 (k0_pay578 x0 x1 x2 x3 x4 x5 x6 x7 x8) (k0_pay611 x0 x1 x2 x3 x4 x5 x6 x7 x8) (k0_pay612 x0 x1 x2 x3 x4 x5 x6 x7 x8) (k0_pay613 x0 x1 x2 x3 x4 x5 x6 x7 x8) (k0_pay614 x0 x1 x2 x3 x4 x5 x6 x7 x8) (k0_pay616 x0 x1 x2 x3 x4 x5 x6 x7 x8) (View.ld x4 r0_66)) : FVec Ideal S1x1x128x128 .f32) (ix4 0 0 d e)
    = snew (l2 (yrow (Yv x0 x1 x2 x3 x4 x5 x6 x7 x8) 2 1408 (by omega))) (yrow (Yv x0 x1 x2 x3 x4 x5 x6 x7 x8) 2 2432 (by omega)) (Ideal.exp (Gv x0 x1 x2 x3 x4 x5 x6 x7 x8 (ix2 2 51))) (Bv x0 x1 x2 x3 x4 x5 x6 x7 x8 (ix2 2 59)) (fun d e => x4 (ix4 2 3 d e)) d e := by
  pointwise [k0_pay11, k0_pay247, k0_pay248, k0_pay249, k0_pay251, k0_pay252, k0_pay578]
  simp only [k3, eg3, u3, w3, qd3, key_column]
  rfl

theorem st3_3 (d e : Fin 128) : (k0_pay258 (k0_pay578 x0 x1 x2 x3 x4 x5 x6 x7 x8) (k0_pay611 x0 x1 x2 x3 x4 x5 x6 x7 x8) (k0_pay612 x0 x1 x2 x3 x4 x5 x6 x7 x8) (k0_pay254 (View.ld x4 r0_68)) (k0_pay256 (k0_pay613 x0 x1 x2 x3 x4 x5 x6 x7 x8) (k0_pay614 x0 x1 x2 x3 x4 x5 x6 x7 x8) (k0_pay616 x0 x1 x2 x3 x4 x5 x6 x7 x8) (View.ld x4 r0_68)) : FVec Ideal S1x1x128x128 .f32) (ix4 0 0 d e)
    = snew (l2 (yrow (Yv x0 x1 x2 x3 x4 x5 x6 x7 x8) 3 1408 (by omega))) (yrow (Yv x0 x1 x2 x3 x4 x5 x6 x7 x8) 3 2432 (by omega)) (Ideal.exp (Gv x0 x1 x2 x3 x4 x5 x6 x7 x8 (ix2 3 51))) (Bv x0 x1 x2 x3 x4 x5 x6 x7 x8 (ix2 3 59)) (fun d e => x4 (ix4 3 3 d e)) d e := by
  pointwise [k0_pay11, k0_pay254, k0_pay255, k0_pay256, k0_pay258, k0_pay578]
  simp only [k3, eg3, u3, w3, qd3, key_column]
  rfl

theorem st3_4 (d e : Fin 128) : (k0_pay264 (k0_pay578 x0 x1 x2 x3 x4 x5 x6 x7 x8) (k0_pay611 x0 x1 x2 x3 x4 x5 x6 x7 x8) (k0_pay612 x0 x1 x2 x3 x4 x5 x6 x7 x8) (k0_pay613 x0 x1 x2 x3 x4 x5 x6 x7 x8) (k0_pay614 x0 x1 x2 x3 x4 x5 x6 x7 x8) (k0_pay616 x0 x1 x2 x3 x4 x5 x6 x7 x8) (View.ld x4 r0_70) : FVec Ideal S1x1x128x128 .f32) (ix4 0 0 d e)
    = snew (l2 (yrow (Yv x0 x1 x2 x3 x4 x5 x6 x7 x8) 4 1408 (by omega))) (yrow (Yv x0 x1 x2 x3 x4 x5 x6 x7 x8) 4 2432 (by omega)) (Ideal.exp (Gv x0 x1 x2 x3 x4 x5 x6 x7 x8 (ix2 4 51))) (Bv x0 x1 x2 x3 x4 x5 x6 x7 x8 (ix2 4 59)) (fun d e => x4 (ix4 4 3 d e)) d e := by
  pointwise [k0_pay11, k0_pay260, k0_pay261, k0_pay262, k0_pay264, k0_pay578]
  simp only [k3, eg3, u3, w3, qd3, key_column]
  rfl

theorem st3_5 (d e : Fin 128) : (k0_pay273 (k0_pay272 (k0_pay578 x0 x1 x2 x3 x4 x5 x6 x7 x8) (k0_pay611 x0 x1 x2 x3 x4 x5 x6 x7 x8) (k0_pay612 x0 x1 x2 x3 x4 x5 x6 x7 x8) (k0_pay613 x0 x1 x2 x3 x4 x5 x6 x7 x8) (k0_pay614 x0 x1 x2 x3 x4 x5 x6 x7 x8) (k0_pay616 x0 x1 x2 x3 x4 x5 x6 x7 x8) (View.ld x4 r0_72)) : FVec Ideal S1x1x128x128 .f32) (ix4 0 0 d e)
    = snew (l2 (yrow (Yv x0 x1 x2 x3 x4 x5 x6 x7 x8) 5 1408 (by omega))) (yrow (Yv x0 x1 x2 x3 x4 x5 x6 x7 x8) 5 2432 (by omega)) (Ideal.exp (Gv x0 x1 x2 x3 x4 x5 x6 x7 x8 (ix2 5 51))) (Bv x0 x1 x2 x3 x4 x5 x6 x7 x8 (ix2 5 59)) (fun d e => x4 (ix4 5 3 d e)) d e := by
  pointwise [k0_pay11, k0_pay268, k0_pay269, k0_pay270, k0_pay272, k0_pay273, k0_pay578]
  simp only [k3, eg3, u3, w3, qd3, key_column]
  rfl

theorem st3_6 (d e : Fin 128) : (k0_pay280 (k0_pay578 x0 x1 x2 x3 x4 x5 x6 x7 x8) (k0_pay611 x0 x1 x2 x3 x4 x5 x6 x7 x8) (k0_pay612 x0 x1 x2 x3 x4 x5 x6 x7 x8) (k0_pay275 (View.ld x4 r0_74)) (k0_pay617 x0 x1 x2 x3 x4 x5 x6 x7 x8) : FVec Ideal S1x1x128x128 .f32) (ix4 0 0 d e)
    = snew (l2 (yrow (Yv x0 x1 x2 x3 x4 x5 x6 x7 x8) 6 1408 (by omega))) (yrow (Yv x0 x1 x2 x3 x4 x5 x6 x7 x8) 6 2432 (by omega)) (Ideal.exp (Gv x0 x1 x2 x3 x4 x5 x6 x7 x8 (ix2 6 51))) (Bv x0 x1 x2 x3 x4 x5 x6 x7 x8 (ix2 6 59)) (fun d e => x4 (ix4 6 3 d e)) d e := by
  pointwise [k0_pay11, k0_pay275, k0_pay276, k0_pay277, k0_pay280, k0_pay578, k0_pay617]
  simp only [k3, eg3, u3, w3, qd3, key_column]
  rfl

theorem st3_7 (d e : Fin 128) : (k0_pay286 (k0_pay578 x0 x1 x2 x3 x4 x5 x6 x7 x8) (k0_pay611 x0 x1 x2 x3 x4 x5 x6 x7 x8) (k0_pay612 x0 x1 x2 x3 x4 x5 x6 x7 x8) (k0_pay613 x0 x1 x2 x3 x4 x5 x6 x7 x8) (k0_pay614 x0 x1 x2 x3 x4 x5 x6 x7 x8) (k0_pay616 x0 x1 x2 x3 x4 x5 x6 x7 x8) (View.ld x4 r0_76) : FVec Ideal S1x1x128x128 .f32) (ix4 0 0 d e)
    = snew (l2 (yrow (Yv x0 x1 x2 x3 x4 x5 x6 x7 x8) 7 1408 (by omega))) (yrow (Yv x0 x1 x2 x3 x4 x5 x6 x7 x8) 7 2432 (by omega)) (Ideal.exp (Gv x0 x1 x2 x3 x4 x5 x6 x7 x8 (ix2 7 51))) (Bv x0 x1 x2 x3 x4 x5 x6 x7 x8 (ix2 7 59)) (fun d e => x4 (ix4 7 3 d e)) d e := by
  pointwise [k0_pay11, k0_pay282, k0_pay283, k0_pay284, k0_pay286, k0_pay578]
  simp only [k3, eg3, u3, w3, qd3, key_column]
  rfl

end Cert.KernelIdeal.Value

end
-- ==== Proof.DnStateB.lean ====
module

public import proofs.«01_k».proof.Proof.DnHead

/-! The recurrent step's kernel: the new state of each sample and each of the heads 4 to 7, tile by tile. -/

@[expose] public section

set_option maxRecDepth 16384

noncomputable section

namespace Cert.KernelIdeal.Value

open Cert.KernelIdeal Cert.KernelIdeal.Gen Idealize.ShloMosaic Idealize.ShloMosaic.TcCoe Idealize.SL.Sem
open scoped BigOperators

variable (x0 : Vec Ideal S8x3072 .f32) (x1 : Vec Ideal S3x8x3072 .f32) (x2 : Vec Ideal S8x1024 .f32) (x3 : Vec Ideal S8x128 .f32)
  (x4 : Vec Ideal S8x8x128x128 .f32) (x5 : Vec Ideal S4x3072 .f32) (x6 : Vec Ideal S1x128 .f32) (x7 : Vec Ideal S1x128 .f32)
  (x8 : Vec Ideal S1x128 .f32)

open Cert.Proof

theorem st4_0 (d e : Fin 128) : (k0_pay303 (k0_pay578 x0 x1 x2 x3 x4 x5 x6 x7 x8) (k0_pay618 x0 x1 x2 x3 x4 x5 x6 x7 x8) (k0_pay619 x0 x1 x2 x3 x4 x5 x6 x7 x8) (k0_pay620 x0 x1 x2 x3 x4 x5 x6 x7 x8) (k0_pay621 x0 x1 x2 x3 x4 x5 x6 x7 x8) (k0_pay622 x0 x1 x2 x3 x4 x5 x6 x7 x8) (View.ld x4 r0_79) : FVec Ideal S1x1x128x128 .f32) (ix4 0 0 d e)
    = snew (l2 (yrow (Yv x0 x1 x2 x3 x4 x5 x6 x7 x8) 0 1536 (by omega))) (yrow (Yv x0 x1 x2 x3 x4 x5 x6 x7 x8) 0 2560 (by omega)) (Ideal.exp (Gv x0 x1 x2 x3 x4 x5 x6 x7 x8 (ix2 0 52))) (Bv x0 x1 x2 x3 x4 x5 x6 x7 x8 (ix2 0 60)) (fun d e => x4 (ix4 0 4 d e)) d e := by
  pointwise [k0_pay11, k0_pay290, k0_pay298, k0_pay299, k0_pay300, k0_pay301, k0_pay303, k0_pay578, k0_pay618]
  simp only [k4, eg4, u4, w4, key_column]
  rfl

theorem st4_1 (d e : Fin 128) : (k0_pay313 (k0_pay307 (View.ld x4 r0_81)) (k0_pay309 (k0_pay621 x0 x1 x2 x3 x4 x5 x6 x7 x8) (k0_pay622 x0 x1 x2 x3 x4 x5 x6 x7 x8) (k0_pay625 x0 x1 x2 x3 x4 x5 x6 x7 x8) (View.ld x4 r0_81)) (k0_pay311 (k0_pay578 x0 x1 x2 x3 x4 x5 x6 x7 x8) (k0_pay619 x0 x1 x2 x3 x4 x5 x6 x7 x8)) (k0_pay312 (k0_pay620 x0 x1 x2 x3 x4 x5 x6 x7 x8)) : FVec Ideal S1x1x128x128 .f32) (ix4 0 0 d e)
    = snew (l2 (yrow (Yv x0 x1 x2 x3 x4 x5 x6 x7 x8) 1 1536 (by omega))) (yrow (Yv x0 x1 x2 x3 x4 x5 x6 x7 x8) 1 2560 (by omega)) (Ideal.exp (Gv x0 x1 x2 x3 x4 x5 x6 x7 x8 (ix2 1 52))) (Bv x0 x1 x2 x3 x4 x5 x6 x7 x8 (ix2 1 60)) (fun d e => x4 (ix4 1 4 d e)) d e := by
  pointwise [k0_pay11, k0_pay307, k0_pay308, k0_pay309, k0_pay311, k0_pay312, k0_pay313, k0_pay578]
  simp only [k4, eg4, u4, w4, qd4, key_column]
  rfl

theorem st4_2 (d e : Fin 128) : (k0_pay319 (k0_pay578 x0 x1 x2 x3 x4 x5 x6 x7 x8) (k0_pay619 x0 x1 x2 x3 x4 x5 x6 x7 x8) (k0_pay620 x0 x1 x2 x3 x4 x5 x6 x7 x8) (k0_pay621 x0 x1 x2 x3 x4 x5 x6 x7 x8) (k0_pay626 x0 x1 x2 x3 x4 x5 x6 x7 x8) (k0_pay627 x0 x1 x2 x3 x4 x5 x6 x7 x8) : FVec Ideal S1x1x128x128 .f32) (ix4 0 0 d e)
    = snew (l2 (yrow (Yv x0 x1 x2 x3 x4 x5 x6 x7 x8) 2 1536 (by omega))) (yrow (Yv x0 x1 x2 x3 x4 x5 x6 x7 x8) 2 2560 (by omega)) (Ideal.exp (Gv x0 x1 x2 x3 x4 x5 x6 x7 x8 (ix2 2 52))) (Bv x0 x1 x2 x3 x4 x5 x6 x7 x8 (ix2 2 60)) (fun d e => x4 (ix4 2 4 d e)) d e := by
  pointwise [k0_pay11, k0_pay315, k0_pay316, k0_pay317, k0_pay318, k0_pay319, k0_pay578, k0_pay626, k0_pay627]
  simp only [k4, eg4, u4, w4, qd4, key_column]
  rfl

theorem st4_3 (d e : Fin 128) : (k0_pay328 (k0_pay578 x0 x1 x2 x3 x4 x5 x6 x7 x8) (k0_pay619 x0 x1 x2 x3 x4 x5 x6 x7 x8) (k0_pay620 x0 x1 x2 x3 x4 x5 x6 x7 x8) (k0_pay621 x0 x1 x2 x3 x4 x5 x6 x7 x8) (k0_pay622 x0 x1 x2 x3 x4 x5 x6 x7 x8) (k0_pay625 x0 x1 x2 x3 x4 x5 x6 x7 x8) (View.ld x4 r0_85) : FVec Ideal S1x1x128x128 .f32) (ix4 0 0 d e)
    = snew (l2 (yrow (Yv x0 x1 x2 x3 x4 x5 x6 x7 x8) 3 1536 (by omega))) (yrow (Yv x0 x1 x2 x3 x4 x5 x6 x7 x8) 3 2560 (by omega)) (Ideal.exp (Gv x0 x1 x2 x3 x4 x5 x6 x7 x8 (ix2 3 52))) (Bv x0 x1 x2 x3 x4 x5 x6 x7 x8 (ix2 3 60)) (fun d e => x4 (ix4 3 4 d e)) d e := by
  pointwise [k0_pay11, k0_pay324, k0_pay325, k0_pay326, k0_pay328, k0_pay578]
  simp only [k4, eg4, u4, w4, qd4, key_column]
  rfl

theorem st4_4 (d e : Fin 128) : (k0_pay336 (k0_pay620 x0 x1 x2 x3 x4 x5 x6 x7 x8) (k0_pay331 (View.ld x4 r0_87)) (k0_pay333 (k0_pay621 x0 x1 x2 x3 x4 x5 x6 x7 x8) (k0_pay622 x0 x1 x2 x3 x4 x5 x6 x7 x8) (k0_pay625 x0 x1 x2 x3 x4 x5 x6 x7 x8) (View.ld x4 r0_87)) (k0_pay335 (k0_pay578 x0 x1 x2 x3 x4 x5 x6 x7 x8) (k0_pay619 x0 x1 x2 x3 x4 x5 x6 x7 x8)) : FVec Ideal S1x1x128x128 .f32) (ix4 0 0 d e)
    = snew (l2 (yrow (Yv x0 x1 x2 x3 x4 x5 x6 x7 x8) 4 1536 (by omega))) (yrow (Yv x0 x1 x2 x3 x4 x5 x6 x7 x8) 4 2560 (by omega)) (Ideal.exp (Gv x0 x1 x2 x3 x4 x5 x6 x7 x8 (ix2 4 52))) (Bv x0 x1 x2 x3 x4 x5 x6 x7 x8 (ix2 4 60)) (fun d e => x4 (ix4 4 4 d e)) d e := by
  pointwise [k0_pay11, k0_pay331, k0_pay332, k0_pay333, k0_pay335, k0_pay336, k0_pay578]
  simp only [k4, eg4, u4, w4, qd4, key_column]
  rfl

theorem st4_5 (d e : Fin 128) : (k0_pay343 (k0_pay578 x0 x1 x2 x3 x4 x5 x6 x7 x8) (k0_pay619 x0 x1 x2 x3 x4 x5 x6 x7 x8) (k0_pay620 x0 x1 x2 x3 x4 x5 x6 x7 x8) (k0_pay621 x0 x1 x2 x3 x4 x5 x6 x7 x8) (k0_pay628 x0 x1 x2 x3 x4 x5 x6 x7 x8) (k0_pay629 x0 x1 x2 x3 x4 x5 x6 x7 x8) (k0_pay630 x0 x1 x2 x3 x4 x5 x6 x7 x8) (Scalar.ofBits .f32 0x00000000#32) : FVec Ideal S1x1x128x128 .f32) (ix4 0 0 d e)
    = snew (l2 (yrow (Yv x0 x1 x2 x3 x4 x5 x6 x7 x8) 5 1536 (by omega))) (yrow (Yv x0 x1 x2 x3 x4 x5 x6 x7 x8) 5 2560 (by omega)) (Ideal.exp (Gv x0 x1 x2 x3 x4 x5 x6 x7 x8 (ix2 5 52))) (Bv x0 x1 x2 x3 x4 x5 x6 x7 x8 (ix2 5 60)) (fun d e => x4 (ix4 5 4 d e)) d e := by
  pointwise [k0_pay11, k0_pay338, k0_pay339, k0_pay340, k0_pay341, k0_pay342, k0_pay343, k0_pay578, k0_pay628, k0_pay629, k0_pay630]
  simp only [k4, eg4, u4, w4, qd4, key_column]
  rfl

theorem st4_6 (d e : Fin 128) : (k0_pay352 (k0_pay578 x0 x1 x2 x3 x4 x5 x6 x7 x8) (k0_pay619 x0 x1 x2 x3 x4 x5 x6 x7 x8) (k0_pay620 x0 x1 x2 x3 x4 x5 x6 x7 x8) (k0_pay621 x0 x1 x2 x3 x4 x5 x6 x7 x8) (k0_pay622 x0 x1 x2 x3 x4 x5 x6 x7 x8) (k0_pay625 x0 x1 x2 x3 x4 x5 x6 x7 x8) (View.ld x4 r0_91) : FVec Ideal S1x1x128x128 .f32) (ix4 0 0 d e)
    = snew (l2 (yrow (Yv x0 x1 x2 x3 x4 x5 x6 x7 x8) 6 1536 (by omega))) (yrow (Yv x0 x1 x2 x3 x4 x5 x6 x7 x8) 6 2560 (by omega)) (Ideal.exp (Gv x0 x1 x2 x3 x4 x5 x6 x7 x8 (ix2 6 52))) (Bv x0 x1 x2 x3 x4 x5 x6 x7 x8 (ix2 6 60)) (fun d e => x4 (ix4 6 4 d e)) d e := by
  pointwise [k0_pay11, k0_pay348, k0_pay349, k0_pay350, k0_pay352, k0_pay578]
  simp only [k4, eg4, u4, w4, qd4, key_column]
  rfl

theorem st4_7 (d e : Fin 128) : (k0_pay360 (k0_pay578 x0 x1 x2 x3 x4 x5 x6 x7 x8) (k0_pay620 x0 x1 x2 x3 x4 x5 x6 x7 x8) (k0_pay355 (View.ld x4 r0_93)) (k0_pay357 (k0_pay621 x0 x1 x2 x3 x4 x5 x6 x7 x8) (k0_pay622 x0 x1 x2 x3 x4 x5 x6 x7 x8) (k0_pay625 x0 x1 x2 x3 x4 x5 x6 x7 x8) (View.ld x4 r0_93)) (Scalar.ofBits .f32 0x00000000#32) (k0_pay359 (k0_pay619 x0 x1 x2 x3 x4 x5 x6 x7 x8)) : FVec Ideal S1x1x128x128 .f32) (ix4 0 0 d e)
    = snew (l2 (yrow (Yv x0 x1 x2 x3 x4 x5 x6 x7 x8) 7 1536 (by omega))) (yrow (Yv x0 x1 x2 x3 x4 x5 x6 x7 x8) 7 2560 (by omega)) (Ideal.exp (Gv x0 x1 x2 x3 x4 x5 x6 x7 x8 (ix2 7 52))) (Bv x0 x1 x2 x3 x4 x5 x6 x7 x8 (ix2 7 60)) (fun d e => x4 (ix4 7 4 d e)) d e := by
  pointwise [k0_pay11, k0_pay355, k0_pay356, k0_pay357, k0_pay359, k0_pay360, k0_pay578]
  simp only [k4, eg4, u4, w4, qd4, key_column]
  rfl

theorem st5_0 (d e : Fin 128) : (k0_pay377 (k0_pay578 x0 x1 x2 x3 x4 x5 x6 x7 x8) (k0_pay633 x0 x1 x2 x3 x4 x5 x6 x7 x8) (k0_pay634 x0 x1 x2 x3 x4 x5 x6 x7 x8) (k0_pay372 (View.ld x4 r0_96)) (k0_pay374 (k0_pay572 x0 x1 x2 x3 x4 x5 x6 x7 x8) (k0_pay576 x0 x1 x2 x3 x4 x5 x6 x7 x8) (k0_pay577 x0 x1 x2 x3 x4 x5 x6 x7 x8) (k0_pay631 x0 x1 x2 x3 x4 x5 x6 x7 x8) (k0_pay632 x0 x1 x2 x3 x4 x5 x6 x7 x8) (Scalar.ofBits .f32 0x358637BD#32) (View.ld x4 r0_96)) : FVec Ideal S1x1x128x128 .f32) (ix4 0 0 d e)
    = snew (l2 (yrow (Yv x0 x1 x2 x3 x4 x5 x6 x7 x8) 0 1664 (by omega))) (yrow (Yv x0 x1 x2 x3 x4 x5 x6 x7 x8) 0 2688 (by omega)) (Ideal.exp (Gv x0 x1 x2 x3 x4 x5 x6 x7 x8 (ix2 0 53))) (Bv x0 x1 x2 x3 x4 x5 x6 x7 x8 (ix2 0 61)) (fun d e => x4 (ix4 0 5 d e)) d e := by
  pointwise [k0_pay11, k0_pay362, k0_pay363, k0_pay364, k0_pay365, k0_pay366, k0_pay367, k0_pay368, k0_pay369, k0_pay371, k0_pay372, k0_pay373, k0_pay374, k0_pay377, k0_pay576, k0_pay577, k0_pay578, k0_pay631, k0_pay632]
  simp only [k5, eg5, key_column]
  rfl

theorem st5_1 (d e : Fin 128) : (k0_pay383 (k0_pay578 x0 x1 x2 x3 x4 x5 x6 x7 x8) (k0_pay633 x0 x1 x2 x3 x4 x5 x6 x7 x8) (k0_pay634 x0 x1 x2 x3 x4 x5 x6 x7 x8) (k0_pay635 x0 x1 x2 x3 x4 x5 x6 x7 x8) (k0_pay636 x0 x1 x2 x3 x4 x5 x6 x7 x8) (k0_pay638 x0 x1 x2 x3 x4 x5 x6 x7 x8) (View.ld x4 r0_98) : FVec Ideal S1x1x128x128 .f32) (ix4 0 0 d e)
    = snew (l2 (yrow (Yv x0 x1 x2 x3 x4 x5 x6 x7 x8) 1 1664 (by omega))) (yrow (Yv x0 x1 x2 x3 x4 x5 x6 x7 x8) 1 2688 (by omega)) (Ideal.exp (Gv x0 x1 x2 x3 x4 x5 x6 x7 x8 (ix2 1 53))) (Bv x0 x1 x2 x3 x4 x5 x6 x7 x8 (ix2 1 61)) (fun d e => x4 (ix4 1 5 d e)) d e := by
  pointwise [k0_pay11, k0_pay379, k0_pay380, k0_pay381, k0_pay383, k0_pay578]
  simp only [k5, eg5, u5, w5, qd5, key_column]
  rfl

theorem st5_2 (d e : Fin 128) : (k0_pay392 (k0_pay391 (k0_pay578 x0 x1 x2 x3 x4 x5 x6 x7 x8) (k0_pay633 x0 x1 x2 x3 x4 x5 x6 x7 x8) (k0_pay634 x0 x1 x2 x3 x4 x5 x6 x7 x8) (k0_pay635 x0 x1 x2 x3 x4 x5 x6 x7 x8) (k0_pay636 x0 x1 x2 x3 x4 x5 x6 x7 x8) (k0_pay638 x0 x1 x2 x3 x4 x5 x6 x7 x8) (View.ld x4 r0_100)) : FVec Ideal S1x1x128x128 .f32) (ix4 0 0 d e)
    = snew (l2 (yrow (Yv x0 x1 x2 x3 x4 x5 x6 x7 x8) 2 1664 (by omega))) (yrow (Yv x0 x1 x2 x3 x4 x5 x6 x7 x8) 2 2688 (by omega)) (Ideal.exp (Gv x0 x1 x2 x3 x4 x5 x6 x7 x8 (ix2 2 53))) (Bv x0 x1 x2 x3 x4 x5 x6 x7 x8 (ix2 2 61)) (fun d e => x4 (ix4 2 5 d e)) d e := by
  pointwise [k0_pay11, k0_pay387, k0_pay388, k0_pay389, k0_pay391, k0_pay392, k0_pay578]
  simp only [k5, eg5, u5, w5, qd5, key_column]
  rfl

theorem st5_3 (d e : Fin 128) : (k0_pay398 (k0_pay578 x0 x1 x2 x3 x4 x5 x6 x7 x8) (k0_pay633 x0 x1 x2 x3 x4 x5 x6 x7 x8) (k0_pay634 x0 x1 x2 x3 x4 x5 x6 x7 x8) (k0_pay394 (View.ld x4 r0_102)) (k0_pay639 x0 x1 x2 x3 x4 x5 x6 x7 x8) : FVec Ideal S1x1x128x128 .f32) (ix4 0 0 d e)
    = snew (l2 (yrow (Yv x0 x1 x2 x3 x4 x5 x6 x7 x8) 3 1664 (by omega))) (yrow (Yv x0 x1 x2 x3 x4 x5 x6 x7 x8) 3 2688 (by omega)) (Ideal.exp (Gv x0 x1 x2 x3 x4 x5 x6 x7 x8 (ix2 3 53))) (Bv x0 x1 x2 x3 x4 x5 x6 x7 x8 (ix2 3 61)) (fun d e => x4 (ix4 3 5 d e)) d e := by
  pointwise [k0_pay11, k0_pay394, k0_pay395, k0_pay396, k0_pay398, k0_pay578, k0_pay639]
  simp only [k5, eg5, u5, w5, qd5, key_column]
  rfl

theorem st5_4 (d e : Fin 128) : (k0_pay404 (k0_pay578 x0 x1 x2 x3 x4 x5 x6 x7 x8) (k0_pay633 x0 x1 x2 x3 x4 x5 x6 x7 x8) (k0_pay634 x0 x1 x2 x3 x4 x5 x6 x7 x8) (k0_pay635 x0 x1 x2 x3 x4 x5 x6 x7 x8) (k0_pay636 x0 x1 x2 x3 x4 x5 x6 x7 x8) (k0_pay638 x0 x1 x2 x3 x4 x5 x6 x7 x8) (View.ld x4 r0_104) : FVec Ideal S1x1x128x128 .f32) (ix4 0 0 d e)
    = snew (l2 (yrow (Yv x0 x1 x2 x3 x4 x5 x6 x7 x8) 4 1664 (by omega))) (yrow (Yv x0 x1 x2 x3 x4 x5 x6 x7 x8) 4 2688 (by omega)) (Ideal.exp (Gv x0 x1 x2 x3 x4 x5 x6 x7 x8 (ix2 4 53))) (Bv x0 x1 x2 x3 x4 x5 x6 x7 x8 (ix2 4 61)) (fun d e => x4 (ix4 4 5 d e)) d e := by
  pointwise [k0_pay11, k0_pay400, k0_pay401, k0_pay402, k0_pay404, k0_pay578]
  simp only [k5, eg5, u5, w5, qd5, key_column]
  rfl

theorem st5_5 (d e : Fin 128) : (k0_pay415 (k0_pay412 (k0_pay634 x0 x1 x2 x3 x4 x5 x6 x7 x8) (View.ld x4 r0_106)) (k0_pay413 (k0_pay578 x0 x1 x2 x3 x4 x5 x6 x7 x8) (k0_pay633 x0 x1 x2 x3 x4 x5 x6 x7 x8)) (k0_pay414 (k0_pay635 x0 x1 x2 x3 x4 x5 x6 x7 x8) (k0_pay636 x0 x1 x2 x3 x4 x5 x6 x7 x8) (k0_pay638 x0 x1 x2 x3 x4 x5 x6 x7 x8) (View.ld x4 r0_106)) : FVec Ideal S1x1x128x128 .f32) (ix4 0 0 d e)
    = snew (l2 (yrow (Yv x0 x1 x2 x3 x4 x5 x6 x7 x8) 5 1664 (by omega))) (yrow (Yv x0 x1 x2 x3 x4 x5 x6 x7 x8) 5 2688 (by omega)) (Ideal.exp (Gv x0 x1 x2 x3 x4 x5 x6 x7 x8 (ix2 5 53))) (Bv x0 x1 x2 x3 x4 x5 x6 x7 x8 (ix2 5 61)) (fun d e => x4 (ix4 5 5 d e)) d e := by
  pointwise [k0_pay11, k0_pay408, k0_pay409, k0_pay410, k0_pay412, k0_pay413, k0_pay414, k0_pay415, k0_pay578]
  simp only [k5, eg5, u5, w5, qd5, key_column]
  rfl

theorem st5_6 (d e : Fin 128) : (k0_pay421 (k0_pay578 x0 x1 x2 x3 x4 x5 x6 x7 x8) (k0_pay633 x0 x1 x2 x3 x4 x5 x6 x7 x8) (k0_pay634 x0 x1 x2 x3 x4 x5 x6 x7 x8) (k0_pay417 (View.ld x4 r0_108)) (k0_pay640 x0 x1 x2 x3 x4 x5 x6 x7 x8) (k0_pay641 x0 x1 x2 x3 x4 x5 x6 x7 x8) : FVec Ideal S1x1x128x128 .f32) (ix4 0 0 d e)
    = snew (l2 (yrow (Yv x0 x1 x2 x3 x4 x5 x6 x7 x8) 6 1664 (by omega))) (yrow (Yv x0 x1 x2 x3 x4 x5 x6 x7 x8) 6 2688 (by omega)) (Ideal.exp (Gv x0 x1 x2 x3 x4 x5 x6 x7 x8 (ix2 6 53))) (Bv x0 x1 x2 x3 x4 x5 x6 x7 x8 (ix2 6 61)) (fun d e => x4 (ix4 6 5 d e)) d e := by
  pointwise [k0_pay11, k0_pay417, k0_pay418, k0_pay419, k0_pay420, k0_pay421, k0_pay578, k0_pay640, k0_pay641]
  simp only [k5, eg5, u5, w5, qd5, key_column]
  rfl

theorem st5_7 (d e : Fin 128) : (k0_pay429 (k0_pay578 x0 x1 x2 x3 x4 x5 x6 x7 x8) (k0_pay633 x0 x1 x2 x3 x4 x5 x6 x7 x8) (k0_pay634 x0 x1 x2 x3 x4 x5 x6 x7 x8) (k0_pay635 x0 x1 x2 x3 x4 x5 x6 x7 x8) (k0_pay636 x0 x1 x2 x3 x4 x5 x6 x7 x8) (k0_pay638 x0 x1 x2 x3 x4 x5 x6 x7 x8) (View.ld x4 r0_110) : FVec Ideal S1x1x128x128 .f32) (ix4 0 0 d e)
    = snew (l2 (yrow (Yv x0 x1 x2 x3 x4 x5 x6 x7 x8) 7 1664 (by omega))) (yrow (Yv x0 x1 x2 x3 x4 x5 x6 x7 x8) 7 2688 (by omega)) (Ideal.exp (Gv x0 x1 x2 x3 x4 x5 x6 x7 x8 (ix2 7 53))) (Bv x0 x1 x2 x3 x4 x5 x6 x7 x8 (ix2 7 61)) (fun d e => x4 (ix4 7 5 d e)) d e := by
  pointwise [k0_pay11, k0_pay425, k0_pay426, k0_pay427, k0_pay429, k0_pay578]
  simp only [k5, eg5, u5, w5, qd5, key_column]
  rfl

theorem st6_0 (d e : Fin 128) : (k0_pay447 (k0_pay578 x0 x1 x2 x3 x4 x5 x6 x7 x8) (k0_pay642 x0 x1 x2 x3 x4 x5 x6 x7 x8) (k0_pay643 x0 x1 x2 x3 x4 x5 x6 x7 x8) (k0_pay644 x0 x1 x2 x3 x4 x5 x6 x7 x8) (k0_pay645 x0 x1 x2 x3 x4 x5 x6 x7 x8) (k0_pay646 x0 x1 x2 x3 x4 x5 x6 x7 x8) (k0_pay647 x0 x1 x2 x3 x4 x5 x6 x7 x8) (View.ld x4 r0_113) : FVec Ideal S1x1x128x128 .f32) (ix4 0 0 d e)
    = snew (l2 (yrow (Yv x0 x1 x2 x3 x4 x5 x6 x7 x8) 0 1792 (by omega))) (yrow (Yv x0 x1 x2 x3 x4 x5 x6 x7 x8) 0 2816 (by omega)) (Ideal.exp (Gv x0 x1 x2 x3 x4 x5 x6 x7 x8 (ix2 0 54))) (Bv x0 x1 x2 x3 x4 x5 x6 x7 x8 (ix2 0 62)) (fun d e => x4 (ix4 0 6 d e)) d e := by
  pointwise [k0_pay11, k0_pay433, k0_pay434, k0_pay435, k0_pay436, k0_pay438, k0_pay439, k0_pay440, k0_pay442, k0_pay443, k0_pay444, k0_pay445, k0_pay447, k0_pay576, k0_pay577, k0_pay578, k0_pay642, k0_pay646, k0_pay647]
  simp only [k6, eg6, u6, key_column]
  rfl

theorem st6_1 (d e : Fin 128) : (k0_pay455 (k0_pay644 x0 x1 x2 x3 x4 x5 x6 x7 x8) (k0_pay450 (View.ld x4 r0_115)) (k0_pay452 (k0_pay645 x0 x1 x2 x3 x4 x5 x6 x7 x8) (k0_pay648 x0 x1 x2 x3 x4 x5 x6 x7 x8) (k0_pay650 x0 x1 x2 x3 x4 x5 x6 x7 x8) (View.ld x4 r0_115)) (k0_pay454 (k0_pay578 x0 x1 x2 x3 x4 x5 x6 x7 x8) (k0_pay643 x0 x1 x2 x3 x4 x5 x6 x7 x8)) : FVec Ideal S1x1x128x128 .f32) (ix4 0 0 d e)
    = snew (l2 (yrow (Yv x0 x1 x2 x3 x4 x5 x6 x7 x8) 1 1792 (by omega))) (yrow (Yv x0 x1 x2 x3 x4 x5 x6 x7 x8) 1 2816 (by omega)) (Ideal.exp (Gv x0 x1 x2 x3 x4 x5 x6 x7 x8 (ix2 1 54))) (Bv x0 x1 x2 x3 x4 x5 x6 x7 x8 (ix2 1 62)) (fun d e => x4 (ix4 1 6 d e)) d e := by
  pointwise [k0_pay11, k0_pay450, k0_pay451, k0_pay452, k0_pay454, k0_pay455, k0_pay578]
  simp only [k6, eg6, u6, w6, qd6, key_column]
  rfl

theorem st6_2 (d e : Fin 128) : (k0_pay462 (k0_pay578 x0 x1 x2 x3 x4 x5 x6 x7 x8) (k0_pay643 x0 x1 x2 x3 x4 x5 x6 x7 x8) (k0_pay644 x0 x1 x2 x3 x4 x5 x6 x7 x8) (k0_pay645 x0 x1 x2 x3 x4 x5 x6 x7 x8) (k0_pay651 x0 x1 x2 x3 x4 x5 x6 x7 x8) (k0_pay652 x0 x1 x2 x3 x4 x5 x6 x7 x8) (k0_pay653 x0 x1 x2 x3 x4 x5 x6 x7 x8) : FVec Ideal S1x1x128x128 .f32) (ix4 0 0 d e)
    = snew (l2 (yrow (Yv x0 x1 x2 x3 x4 x5 x6 x7 x8) 2 1792 (by omega))) (yrow (Yv x0 x1 x2 x3 x4 x5 x6 x7 x8) 2 2816 (by omega)) (Ideal.exp (Gv x0 x1 x2 x3 x4 x5 x6 x7 x8 (ix2 2 54))) (Bv x0 x1 x2 x3 x4 x5 x6 x7 x8 (ix2 2 62)) (fun d e => x4 (ix4 2 6 d e)) d e := by
  pointwise [k0_pay11, k0_pay457, k0_pay458, k0_pay459, k0_pay460, k0_pay461, k0_pay462, k0_pay578, k0_pay651, k0_pay652, k0_pay653]
  simp only [k6, eg6, u6, w6, qd6, key_column]
  rfl

theorem st6_3 (d e : Fin 128) : (k0_pay471 (k0_pay578 x0 x1 x2 x3 x4 x5 x6 x7 x8) (k0_pay643 x0 x1 x2 x3 x4 x5 x6 x7 x8) (k0_pay644 x0 x1 x2 x3 x4 x5 x6 x7 x8) (k0_pay645 x0 x1 x2 x3 x4 x5 x6 x7 x8) (k0_pay648 x0 x1 x2 x3 x4 x5 x6 x7 x8) (k0_pay650 x0 x1 x2 x3 x4 x5 x6 x7 x8) (View.ld x4 r0_119) : FVec Ideal S1x1x128x128 .f32) (ix4 0 0 d e)
    = snew (l2 (yrow (Yv x0 x1 x2 x3 x4 x5 x6 x7 x8) 3 1792 (by omega))) (yrow (Yv x0 x1 x2 x3 x4 x5 x6 x7 x8) 3 2816 (by omega)) (Ideal.exp (Gv x0 x1 x2 x3 x4 x5 x6 x7 x8 (ix2 3 54))) (Bv x0 x1 x2 x3 x4 x5 x6 x7 x8 (ix2 3 62)) (fun d e => x4 (ix4 3 6 d e)) d e := by
  pointwise [k0_pay11, k0_pay467, k0_pay468, k0_pay469, k0_pay471, k0_pay578]
  simp only [k6, eg6, u6, w6, qd6, key_column]
  rfl

theorem st6_4 (d e : Fin 128) : (k0_pay478 (k0_pay578 x0 x1 x2 x3 x4 x5 x6 x7 x8) (k0_pay644 x0 x1 x2 x3 x4 x5 x6 x7 x8) (k0_pay473 (View.ld x4 r0_121)) (k0_pay475 (k0_pay645 x0 x1 x2 x3 x4 x5 x6 x7 x8) (k0_pay648 x0 x1 x2 x3 x4 x5 x6 x7 x8) (k0_pay650 x0 x1 x2 x3 x4 x5 x6 x7 x8) (View.ld x4 r0_121)) (Scalar.ofBits .f32 0x00000000#32) (k0_pay477 (k0_pay643 x0 x1 x2 x3 x4 x5 x6 x7 x8)) : FVec Ideal S1x1x128x128 .f32) (ix4 0 0 d e)
    = snew (l2 (yrow (Yv x0 x1 x2 x3 x4 x5 x6 x7 x8) 4 1792 (by omega))) (yrow (Yv x0 x1 x2 x3 x4 x5 x6 x7 x8) 4 2816 (by omega)) (Ideal.exp (Gv x0 x1 x2 x3 x4 x5 x6 x7 x8 (ix2 4 54))) (Bv x0 x1 x2 x3 x4 x5 x6 x7 x8 (ix2 4 62)) (fun d e => x4 (ix4 4 6 d e)) d e := by
  pointwise [k0_pay11, k0_pay473, k0_pay474, k0_pay475, k0_pay477, k0_pay478, k0_pay578]
  simp only [k6, eg6, u6, w6, qd6, key_column]
  rfl

theorem st6_5 (d e : Fin 128) : (k0_pay483 (k0_pay578 x0 x1 x2 x3 x4 x5 x6 x7 x8) (k0_pay643 x0 x1 x2 x3 x4 x5 x6 x7 x8) (k0_pay644 x0 x1 x2 x3 x4 x5 x6 x7 x8) (k0_pay645 x0 x1 x2 x3 x4 x5 x6 x7 x8) (k0_pay648 x0 x1 x2 x3 x4 x5 x6 x7 x8) (k0_pay650 x0 x1 x2 x3 x4 x5 x6 x7 x8) (View.ld x4 r0_123) : FVec Ideal S1x1x128x128 .f32) (ix4 0 0 d e)
    = snew (l2 (yrow (Yv x0 x1 x2 x3 x4 x5 x6 x7 x8) 5 1792 (by omega))) (yrow (Yv x0 x1 x2 x3 x4 x5 x6 x7 x8) 5 2816 (by omega)) (Ideal.exp (Gv x0 x1 x2 x3 x4 x5 x6 x7 x8 (ix2 5 54))) (Bv x0 x1 x2 x3 x4 x5 x6 x7 x8 (ix2 5 62)) (fun d e => x4 (ix4 5 6 d e)) d e := by
  pointwise [k0_pay11, k0_pay480, k0_pay481, k0_pay482, k0_pay483, k0_pay578]
  simp only [k6, eg6, u6, w6, qd6, key_column]
  rfl

theorem st6_6 (d e : Fin 128) : (k0_pay492 (k0_pay491 (k0_pay578 x0 x1 x2 x3 x4 x5 x6 x7 x8) (k0_pay643 x0 x1 x2 x3 x4 x5 x6 x7 x8) (k0_pay644 x0 x1 x2 x3 x4 x5 x6 x7 x8) (k0_pay645 x0 x1 x2 x3 x4 x5 x6 x7 x8) (k0_pay648 x0 x1 x2 x3 x4 x5 x6 x7 x8) (k0_pay650 x0 x1 x2 x3 x4 x5 x6 x7 x8) (View.ld x4 r0_125)) : FVec Ideal S1x1x128x128 .f32) (ix4 0 0 d e)
    = snew (l2 (yrow (Yv x0 x1 x2 x3 x4 x5 x6 x7 x8) 6 1792 (by omega))) (yrow (Yv x0 x1 x2 x3 x4 x5 x6 x7 x8) 6 2816 (by omega)) (Ideal.exp (Gv x0 x1 x2 x3 x4 x5 x6 x7 x8 (ix2 6 54))) (Bv x0 x1 x2 x3 x4 x5 x6 x7 x8 (ix2 6 62)) (fun d e => x4 (ix4 6 6 d e)) d e := by
  pointwise [k0_pay11, k0_pay487, k0_pay488, k0_pay489, k0_pay491, k0_pay492, k0_pay578]
  simp only [k6, eg6, u6, w6, qd6, key_column]
  rfl

theorem st6_7 (d e : Fin 128) : (k0_pay498 (k0_pay578 x0 x1 x2 x3 x4 x5 x6 x7 x8) (k0_pay643 x0 x1 x2 x3 x4 x5 x6 x7 x8) (k0_pay644 x0 x1 x2 x3 x4 x5 x6 x7 x8) (k0_pay494 (View.ld x4 r0_127)) (k0_pay496 (k0_pay645 x0 x1 x2 x3 x4 x5 x6 x7 x8) (k0_pay648 x0 x1 x2 x3 x4 x5 x6 x7 x8) (k0_pay650 x0 x1 x2 x3 x4 x5 x6 x7 x8) (View.ld x4 r0_127)) : FVec Ideal S1x1x128x128 .f32) (ix4 0 0 d e)
    = snew (l2 (yrow (Yv x0 x1 x2 x3 x4 x5 x6 x7 x8) 7 1792 (by omega))) (yrow (Yv x0 x1 x2 x3 x4 x5 x6 x7 x8) 7 2816 (by omega)) (Ideal.exp (Gv x0 x1 x2 x3 x4 x5 x6 x7 x8 (ix2 7 54))) (Bv x0 x1 x2 x3 x4 x5 x6 x7 x8 (ix2 7 62)) (fun d e => x4 (ix4 7 6 d e)) d e := by
  pointwise [k0_pay11, k0_pay494, k0_pay495, k0_pay496, k0_pay498, k0_pay578]
  simp only [k6, eg6, u6, w6, qd6, key_column]
  rfl

theorem st7_0 (d e : Fin 128) : (k0_pay513 (k0_pay578 x0 x1 x2 x3 x4 x5 x6 x7 x8) (k0_pay656 x0 x1 x2 x3 x4 x5 x6 x7 x8) (k0_pay657 x0 x1 x2 x3 x4 x5 x6 x7 x8) (k0_pay510 (View.ld x4 r0_130)) (k0_pay662 x0 x1 x2 x3 x4 x5 x6 x7 x8) : FVec Ideal S1x1x128x128 .f32) (ix4 0 0 d e)
    = snew (l2 (yrow (Yv x0 x1 x2 x3 x4 x5 x6 x7 x8) 0 1920 (by omega))) (yrow (Yv x0 x1 x2 x3 x4 x5 x6 x7 x8) 0 2944 (by omega)) (Ideal.exp (Gv x0 x1 x2 x3 x4 x5 x6 x7 x8 (ix2 0 55))) (Bv x0 x1 x2 x3 x4 x5 x6 x7 x8 (ix2 0 63)) (fun d e => x4 (ix4 0 7 d e)) d e := by
  pointwise [k0_pay11, k0_pay500, k0_pay501, k0_pay502, k0_pay503, k0_pay504, k0_pay505, k0_pay506, k0_pay507, k0_pay509, k0_pay510, k0_pay511, k0_pay512, k0_pay513, k0_pay576, k0_pay577, k0_pay578, k0_pay654, k0_pay655, k0_pay662]
  simp only [k7, eg7, key_column]
  rfl

theorem st7_1 (d e : Fin 128) : (k0_pay519 (k0_pay578 x0 x1 x2 x3 x4 x5 x6 x7 x8) (k0_pay656 x0 x1 x2 x3 x4 x5 x6 x7 x8) (k0_pay657 x0 x1 x2 x3 x4 x5 x6 x7 x8) (k0_pay658 x0 x1 x2 x3 x4 x5 x6 x7 x8) (k0_pay659 x0 x1 x2 x3 x4 x5 x6 x7 x8) (k0_pay661 x0 x1 x2 x3 x4 x5 x6 x7 x8) (View.ld x4 r0_132) : FVec Ideal S1x1x128x128 .f32) (ix4 0 0 d e)
    = snew (l2 (yrow (Yv x0 x1 x2 x3 x4 x5 x6 x7 x8) 1 1920 (by omega))) (yrow (Yv x0 x1 x2 x3 x4 x5 x6 x7 x8) 1 2944 (by omega)) (Ideal.exp (Gv x0 x1 x2 x3 x4 x5 x6 x7 x8 (ix2 1 55))) (Bv x0 x1 x2 x3 x4 x5 x6 x7 x8 (ix2 1 63)) (fun d e => x4 (ix4 1 7 d e)) d e := by
  pointwise [k0_pay11, k0_pay515, k0_pay516, k0_pay517, k0_pay519, k0_pay578]
  simp only [k7, eg7, u7, w7, qd7, key_column]
  rfl

theorem st7_2 (d e : Fin 128) : (k0_pay530 (k0_pay526 (k0_pay658 x0 x1 x2 x3 x4 x5 x6 x7 x8) (k0_pay659 x0 x1 x2 x3 x4 x5 x6 x7 x8) (k0_pay661 x0 x1 x2 x3 x4 x5 x6 x7 x8) (View.ld x4 r0_134)) (k0_pay528 (k0_pay657 x0 x1 x2 x3 x4 x5 x6 x7 x8) (View.ld x4 r0_134)) (k0_pay529 (k0_pay578 x0 x1 x2 x3 x4 x5 x6 x7 x8) (k0_pay656 x0 x1 x2 x3 x4 x5 x6 x7 x8)) : FVec Ideal S1x1x128x128 .f32) (ix4 0 0 d e)
    = snew (l2 (yrow (Yv x0 x1 x2 x3 x4 x5 x6 x7 x8) 2 1920 (by omega))) (yrow (Yv x0 x1 x2 x3 x4 x5 x6 x7 x8) 2 2944 (by omega)) (Ideal.exp (Gv x0 x1 x2 x3 x4 x5 x6 x7 x8 (ix2 2 55))) (Bv x0 x1 x2 x3 x4 x5 x6 x7 x8 (ix2 2 63)) (fun d e => x4 (ix4 2 7 d e)) d e := by
  pointwise [k0_pay11, k0_pay524, k0_pay525, k0_pay526, k0_pay528, k0_pay529, k0_pay530, k0_pay578]
  simp only [k7, eg7, u7, w7, qd7, key_column]
  rfl

theorem st7_3 (d e : Fin 128) : (k0_pay535 (k0_pay578 x0 x1 x2 x3 x4 x5 x6 x7 x8) (k0_pay656 x0 x1 x2 x3 x4 x5 x6 x7 x8) (k0_pay657 x0 x1 x2 x3 x4 x5 x6 x7 x8) (k0_pay658 x0 x1 x2 x3 x4 x5 x6 x7 x8) (k0_pay532 (View.ld x4 r0_136)) (k0_pay663 x0 x1 x2 x3 x4 x5 x6 x7 x8) : FVec Ideal S1x1x128x128 .f32) (ix4 0 0 d e)
    = snew (l2 (yrow (Yv x0 x1 x2 x3 x4 x5 x6 x7 x8) 3 1920 (by omega))) (yrow (Yv x0 x1 x2 x3 x4 x5 x6 x7 x8) 3 2944 (by omega)) (Ideal.exp (Gv x0 x1 x2 x3 x4 x5 x6 x7 x8 (ix2 3 55))) (Bv x0 x1 x2 x3 x4 x5 x6 x7 x8 (ix2 3 63)) (fun d e => x4 (ix4 3 7 d e)) d e := by
  pointwise [k0_pay11, k0_pay532, k0_pay533, k0_pay534, k0_pay535, k0_pay578, k0_pay663]
  simp only [k7, eg7, u7, w7, qd7, key_column]
  rfl

theorem st7_4 (d e : Fin 128) : (k0_pay544 (k0_pay578 x0 x1 x2 x3 x4 x5 x6 x7 x8) (k0_pay656 x0 x1 x2 x3 x4 x5 x6 x7 x8) (k0_pay657 x0 x1 x2 x3 x4 x5 x6 x7 x8) (k0_pay658 x0 x1 x2 x3 x4 x5 x6 x7 x8) (k0_pay659 x0 x1 x2 x3 x4 x5 x6 x7 x8) (k0_pay661 x0 x1 x2 x3 x4 x5 x6 x7 x8) (View.ld x4 r0_138) : FVec Ideal S1x1x128x128 .f32) (ix4 0 0 d e)
    = snew (l2 (yrow (Yv x0 x1 x2 x3 x4 x5 x6 x7 x8) 4 1920 (by omega))) (yrow (Yv x0 x1 x2 x3 x4 x5 x6 x7 x8) 4 2944 (by omega)) (Ideal.exp (Gv x0 x1 x2 x3 x4 x5 x6 x7 x8 (ix2 4 55))) (Bv x0 x1 x2 x3 x4 x5 x6 x7 x8 (ix2 4 63)) (fun d e => x4 (ix4 4 7 d e)) d e := by
  pointwise [k0_pay11, k0_pay540, k0_pay541, k0_pay542, k0_pay544, k0_pay578]
  simp only [k7, eg7, u7, w7, qd7, key_column]
  rfl

theorem st7_5 (d e : Fin 128) : (k0_pay554 (k0_pay548 (View.ld x4 r0_140)) (k0_pay550 (k0_pay658 x0 x1 x2 x3 x4 x5 x6 x7 x8) (k0_pay659 x0 x1 x2 x3 x4 x5 x6 x7 x8) (k0_pay661 x0 x1 x2 x3 x4 x5 x6 x7 x8) (View.ld x4 r0_140)) (k0_pay552 (k0_pay578 x0 x1 x2 x3 x4 x5 x6 x7 x8) (k0_pay656 x0 x1 x2 x3 x4 x5 x6 x7 x8)) (k0_pay553 (k0_pay657 x0 x1 x2 x3 x4 x5 x6 x7 x8)) : FVec Ideal S1x1x128x128 .f32) (ix4 0 0 d e)
    = snew (l2 (yrow (Yv x0 x1 x2 x3 x4 x5 x6 x7 x8) 5 1920 (by omega))) (yrow (Yv x0 x1 x2 x3 x4 x5 x6 x7 x8) 5 2944 (by omega)) (Ideal.exp (Gv x0 x1 x2 x3 x4 x5 x6 x7 x8 (ix2 5 55))) (Bv x0 x1 x2 x3 x4 x5 x6 x7 x8 (ix2 5 63)) (fun d e => x4 (ix4 5 7 d e)) d e := by
  pointwise [k0_pay11, k0_pay548, k0_pay549, k0_pay550, k0_pay552, k0_pay553, k0_pay554, k0_pay578]
  simp only [k7, eg7, u7, w7, qd7, key_column]
  rfl

theorem st7_6 (d e : Fin 128) : (k0_pay560 (k0_pay578 x0 x1 x2 x3 x4 x5 x6 x7 x8) (k0_pay656 x0 x1 x2 x3 x4 x5 x6 x7 x8) (k0_pay657 x0 x1 x2 x3 x4 x5 x6 x7 x8) (k0_pay658 x0 x1 x2 x3 x4 x5 x6 x7 x8) (k0_pay664 x0 x1 x2 x3 x4 x5 x6 x7 x8) (k0_pay665 x0 x1 x2 x3 x4 x5 x6 x7 x8) : FVec Ideal S1x1x128x128 .f32) (ix4 0 0 d e)
    = snew (l2 (yrow (Yv x0 x1 x2 x3 x4 x5 x6 x7 x8) 6 1920 (by omega))) (yrow (Yv x0 x1 x2 x3 x4 x5 x6 x7 x8) 6 2944 (by omega)) (Ideal.exp (Gv x0 x1 x2 x3 x4 x5 x6 x7 x8 (ix2 6 55))) (Bv x0 x1 x2 x3 x4 x5 x6 x7 x8 (ix2 6 63)) (fun d e => x4 (ix4 6 7 d e)) d e := by
  pointwise [k0_pay11, k0_pay556, k0_pay557, k0_pay558, k0_pay559, k0_pay560, k0_pay578, k0_pay664, k0_pay665]
  simp only [k7, eg7, u7, w7, qd7, key_column]
  rfl

theorem st7_7 (d e : Fin 128) : (k0_pay569 (k0_pay578 x0 x1 x2 x3 x4 x5 x6 x7 x8) (k0_pay656 x0 x1 x2 x3 x4 x5 x6 x7 x8) (k0_pay657 x0 x1 x2 x3 x4 x5 x6 x7 x8) (k0_pay658 x0 x1 x2 x3 x4 x5 x6 x7 x8) (k0_pay659 x0 x1 x2 x3 x4 x5 x6 x7 x8) (k0_pay661 x0 x1 x2 x3 x4 x5 x6 x7 x8) (View.ld x4 r0_144) : FVec Ideal S1x1x128x128 .f32) (ix4 0 0 d e)
    = snew (l2 (yrow (Yv x0 x1 x2 x3 x4 x5 x6 x7 x8) 7 1920 (by omega))) (yrow (Yv x0 x1 x2 x3 x4 x5 x6 x7 x8) 7 2944 (by omega)) (Ideal.exp (Gv x0 x1 x2 x3 x4 x5 x6 x7 x8 (ix2 7 55))) (Bv x0 x1 x2 x3 x4 x5 x6 x7 x8 (ix2 7 63)) (fun d e => x4 (ix4 7 7 d e)) d e := by
  pointwise [k0_pay11, k0_pay565, k0_pay566, k0_pay567, k0_pay569, k0_pay578]
  simp only [k7, eg7, u7, w7, qd7, key_column]
  rfl

end Cert.KernelIdeal.Value

end
-- ==== Proof.DnOutA.lean ====
module

public import proofs.«01_k».proof.Proof.DnHead

/-! The recurrent step's kernel: the gated output row of each sample and each of the heads 0 to 3, tile by tile. -/

@[expose] public section

set_option maxRecDepth 16384

noncomputable section

namespace Cert.KernelIdeal.Value

open Cert.KernelIdeal Cert.KernelIdeal.Gen Idealize.ShloMosaic Idealize.ShloMosaic.TcCoe Idealize.SL.Sem
open scoped BigOperators

variable (x0 : Vec Ideal S8x3072 .f32) (x1 : Vec Ideal S3x8x3072 .f32) (x2 : Vec Ideal S8x1024 .f32) (x3 : Vec Ideal S8x128 .f32)
  (x4 : Vec Ideal S8x8x128x128 .f32) (x5 : Vec Ideal S4x3072 .f32) (x6 : Vec Ideal S1x128 .f32) (x7 : Vec Ideal S1x128 .f32)
  (x8 : Vec Ideal S1x128 .f32)

open Cert.Proof

theorem ot0_0 (e : Fin 128) : (k0_pay27 (k0_pay23 (k0_pay581 x0 x1 x2 x3 x4 x5 x6 x7 x8) (k0_pay582 x0 x1 x2 x3 x4 x5 x6 x7 x8) (k0_pay583 x0 x1 x2 x3 x4 x5 x6 x7 x8) (k0_pay584 x0 x1 x2 x3 x4 x5 x6 x7 x8) (View.ld x4 r0_11)) (k0_pay25 (View.ld x2 r0_10)) (View.ld x8 r0_9) (k0_pay26 (k0_pay581 x0 x1 x2 x3 x4 x5 x6 x7 x8) (k0_pay582 x0 x1 x2 x3 x4 x5 x6 x7 x8) (k0_pay583 x0 x1 x2 x3 x4 x5 x6 x7 x8) (k0_pay584 x0 x1 x2 x3 x4 x5 x6 x7 x8) (View.ld x4 r0_11)) : FVec Ideal S1x128 .f32) (ix2 0 e)
    = gated (orow (qrow (yrow (Yv x0 x1 x2 x3 x4 x5 x6 x7 x8) 0 0 (by omega))) (l2 (yrow (Yv x0 x1 x2 x3 x4 x5 x6 x7 x8) 0 1024 (by omega))) (yrow (Yv x0 x1 x2 x3 x4 x5 x6 x7 x8) 0 2048 (by omega)) (Ideal.exp (Gv x0 x1 x2 x3 x4 x5 x6 x7 x8 (ix2 0 48))) (Bv x0 x1 x2 x3 x4 x5 x6 x7 x8 (ix2 0 56)) (fun d e => x4 (ix4 0 0 d e))) (fun e => x8 (ix2 0 e)) (fun e => x2 (ix2 0 ⟨0 + (e : ℕ), by omega⟩)) e := by
  pointwise [k0_pay20, k0_pay21, k0_pay22, k0_pay23, k0_pay25, k0_pay26, k0_pay27]
  simp only [u0, w0, ai0, qd0, zero_sub]
  rfl

theorem ot0_1 (e : Fin 128) : (k0_pay34 (View.ld x2 r0_10) (k0_pay31 (k0_pay581 x0 x1 x2 x3 x4 x5 x6 x7 x8) (k0_pay582 x0 x1 x2 x3 x4 x5 x6 x7 x8) (k0_pay583 x0 x1 x2 x3 x4 x5 x6 x7 x8) (k0_pay584 x0 x1 x2 x3 x4 x5 x6 x7 x8) (View.ld x4 r0_13)) (View.ld x8 r0_9) : FVec Ideal S1x128 .f32) (ix2 0 e)
    = gated (orow (qrow (yrow (Yv x0 x1 x2 x3 x4 x5 x6 x7 x8) 1 0 (by omega))) (l2 (yrow (Yv x0 x1 x2 x3 x4 x5 x6 x7 x8) 1 1024 (by omega))) (yrow (Yv x0 x1 x2 x3 x4 x5 x6 x7 x8) 1 2048 (by omega)) (Ideal.exp (Gv x0 x1 x2 x3 x4 x5 x6 x7 x8 (ix2 1 48))) (Bv x0 x1 x2 x3 x4 x5 x6 x7 x8 (ix2 1 56)) (fun d e => x4 (ix4 1 0 d e))) (fun e => x8 (ix2 0 e)) (fun e => x2 (ix2 1 ⟨0 + (e : ℕ), by omega⟩)) e := by
  pointwise [k0_pay28, k0_pay29, k0_pay30, k0_pay31, k0_pay34]
  simp only [u0, w0, ai0, qd0, zero_sub]
  rfl

theorem ot0_2 (e : Fin 128) : (k0_pay41 (View.ld x2 r0_10) (k0_pay585 x0 x1 x2 x3 x4 x5 x6 x7 x8) (k0_pay38 (k0_pay582 x0 x1 x2 x3 x4 x5 x6 x7 x8) (k0_pay584 x0 x1 x2 x3 x4 x5 x6 x7 x8) (View.ld x4 r0_15)) (k0_pay39 (k0_pay583 x0 x1 x2 x3 x4 x5 x6 x7 x8)) (View.ld x8 r0_9) : FVec Ideal S1x128 .f32) (ix2 0 e)
    = gated (orow (qrow (yrow (Yv x0 x1 x2 x3 x4 x5 x6 x7 x8) 2 0 (by omega))) (l2 (yrow (Yv x0 x1 x2 x3 x4 x5 x6 x7 x8) 2 1024 (by omega))) (yrow (Yv x0 x1 x2 x3 x4 x5 x6 x7 x8) 2 2048 (by omega)) (Ideal.exp (Gv x0 x1 x2 x3 x4 x5 x6 x7 x8 (ix2 2 48))) (Bv x0 x1 x2 x3 x4 x5 x6 x7 x8 (ix2 2 56)) (fun d e => x4 (ix4 2 0 d e))) (fun e => x8 (ix2 0 e)) (fun e => x2 (ix2 2 ⟨0 + (e : ℕ), by omega⟩)) e := by
  pointwise [k0_pay35, k0_pay36, k0_pay37, k0_pay38, k0_pay39, k0_pay41, k0_pay585]
  simp only [u0, w0, ai0, qd0, zero_sub]
  rfl

theorem ot0_3 (e : Fin 128) : (k0_pay49 (k0_pay45 (k0_pay581 x0 x1 x2 x3 x4 x5 x6 x7 x8) (k0_pay582 x0 x1 x2 x3 x4 x5 x6 x7 x8) (k0_pay583 x0 x1 x2 x3 x4 x5 x6 x7 x8) (k0_pay584 x0 x1 x2 x3 x4 x5 x6 x7 x8) (View.ld x4 r0_17)) (k0_pay47 (View.ld x2 r0_10)) (View.ld x8 r0_9) (k0_pay48 (k0_pay581 x0 x1 x2 x3 x4 x5 x6 x7 x8) (k0_pay582 x0 x1 x2 x3 x4 x5 x6 x7 x8) (k0_pay583 x0 x1 x2 x3 x4 x5 x6 x7 x8) (k0_pay584 x0 x1 x2 x3 x4 x5 x6 x7 x8) (View.ld x4 r0_17)) (Scalar.ofBits .f32 0x358637BD#32) : FVec Ideal S1x128 .f32) (ix2 0 e)
    = gated (orow (qrow (yrow (Yv x0 x1 x2 x3 x4 x5 x6 x7 x8) 3 0 (by omega))) (l2 (yrow (Yv x0 x1 x2 x3 x4 x5 x6 x7 x8) 3 1024 (by omega))) (yrow (Yv x0 x1 x2 x3 x4 x5 x6 x7 x8) 3 2048 (by omega)) (Ideal.exp (Gv x0 x1 x2 x3 x4 x5 x6 x7 x8 (ix2 3 48))) (Bv x0 x1 x2 x3 x4 x5 x6 x7 x8 (ix2 3 56)) (fun d e => x4 (ix4 3 0 d e))) (fun e => x8 (ix2 0 e)) (fun e => x2 (ix2 3 ⟨0 + (e : ℕ), by omega⟩)) e := by
  pointwise [k0_pay42, k0_pay43, k0_pay44, k0_pay45, k0_pay47, k0_pay48, k0_pay49]
  simp only [u0, w0, ai0, qd0, zero_sub]
  rfl

theorem ot0_4 (e : Fin 128) : (k0_pay57 (View.ld x2 r0_10) (k0_pay53 (k0_pay581 x0 x1 x2 x3 x4 x5 x6 x7 x8) (k0_pay582 x0 x1 x2 x3 x4 x5 x6 x7 x8) (k0_pay583 x0 x1 x2 x3 x4 x5 x6 x7 x8) (k0_pay584 x0 x1 x2 x3 x4 x5 x6 x7 x8) (View.ld x4 r0_19)) (View.ld x8 r0_9) : FVec Ideal S1x128 .f32) (ix2 0 e)
    = gated (orow (qrow (yrow (Yv x0 x1 x2 x3 x4 x5 x6 x7 x8) 4 0 (by omega))) (l2 (yrow (Yv x0 x1 x2 x3 x4 x5 x6 x7 x8) 4 1024 (by omega))) (yrow (Yv x0 x1 x2 x3 x4 x5 x6 x7 x8) 4 2048 (by omega)) (Ideal.exp (Gv x0 x1 x2 x3 x4 x5 x6 x7 x8 (ix2 4 48))) (Bv x0 x1 x2 x3 x4 x5 x6 x7 x8 (ix2 4 56)) (fun d e => x4 (ix4 4 0 d e))) (fun e => x8 (ix2 0 e)) (fun e => x2 (ix2 4 ⟨0 + (e : ℕ), by omega⟩)) e := by
  pointwise [k0_pay50, k0_pay51, k0_pay52, k0_pay53, k0_pay57]
  simp only [u0, w0, ai0, qd0, zero_sub]
  rfl

theorem ot0_5 (e : Fin 128) : (k0_pay64 (k0_pay583 x0 x1 x2 x3 x4 x5 x6 x7 x8) (View.ld x2 r0_10) (k0_pay59 (k0_pay582 x0 x1 x2 x3 x4 x5 x6 x7 x8) (k0_pay584 x0 x1 x2 x3 x4 x5 x6 x7 x8) (View.ld x4 r0_21)) (k0_pay586 x0 x1 x2 x3 x4 x5 x6 x7 x8) (k0_pay587 x0 x1 x2 x3 x4 x5 x6 x7 x8) (View.ld x8 r0_9) : FVec Ideal S1x128 .f32) (ix2 0 e)
    = gated (orow (qrow (yrow (Yv x0 x1 x2 x3 x4 x5 x6 x7 x8) 5 0 (by omega))) (l2 (yrow (Yv x0 x1 x2 x3 x4 x5 x6 x7 x8) 5 1024 (by omega))) (yrow (Yv x0 x1 x2 x3 x4 x5 x6 x7 x8) 5 2048 (by omega)) (Ideal.exp (Gv x0 x1 x2 x3 x4 x5 x6 x7 x8 (ix2 5 48))) (Bv x0 x1 x2 x3 x4 x5 x6 x7 x8 (ix2 5 56)) (fun d e => x4 (ix4 5 0 d e))) (fun e => x8 (ix2 0 e)) (fun e => x2 (ix2 5 ⟨0 + (e : ℕ), by omega⟩)) e := by
  pointwise [k0_pay58, k0_pay59, k0_pay60, k0_pay61, k0_pay62, k0_pay64, k0_pay586, k0_pay587]
  simp only [u0, w0, ai0, qd0, zero_sub]
  rfl

theorem ot0_6 (e : Fin 128) : (k0_pay72 (k0_pay68 (k0_pay581 x0 x1 x2 x3 x4 x5 x6 x7 x8) (k0_pay582 x0 x1 x2 x3 x4 x5 x6 x7 x8) (k0_pay583 x0 x1 x2 x3 x4 x5 x6 x7 x8) (k0_pay584 x0 x1 x2 x3 x4 x5 x6 x7 x8) (View.ld x4 r0_23)) (k0_pay70 (View.ld x2 r0_10)) (View.ld x8 r0_9) (k0_pay71 (k0_pay581 x0 x1 x2 x3 x4 x5 x6 x7 x8) (k0_pay582 x0 x1 x2 x3 x4 x5 x6 x7 x8) (k0_pay583 x0 x1 x2 x3 x4 x5 x6 x7 x8) (k0_pay584 x0 x1 x2 x3 x4 x5 x6 x7 x8) (View.ld x4 r0_23)) (Scalar.ofBits .f32 0x43000000#32) : FVec Ideal S1x128 .f32) (ix2 0 e)
    = gated (orow (qrow (yrow (Yv x0 x1 x2 x3 x4 x5 x6 x7 x8) 6 0 (by omega))) (l2 (yrow (Yv x0 x1 x2 x3 x4 x5 x6 x7 x8) 6 1024 (by omega))) (yrow (Yv x0 x1 x2 x3 x4 x5 x6 x7 x8) 6 2048 (by omega)) (Ideal.exp (Gv x0 x1 x2 x3 x4 x5 x6 x7 x8 (ix2 6 48))) (Bv x0 x1 x2 x3 x4 x5 x6 x7 x8 (ix2 6 56)) (fun d e => x4 (ix4 6 0 d e))) (fun e => x8 (ix2 0 e)) (fun e => x2 (ix2 6 ⟨0 + (e : ℕ), by omega⟩)) e := by
  pointwise [k0_pay65, k0_pay66, k0_pay67, k0_pay68, k0_pay70, k0_pay71, k0_pay72]
  simp only [u0, w0, ai0, qd0, zero_sub]
  rfl

theorem ot0_7 (e : Fin 128) : (k0_pay80 (View.ld x2 r0_10) (k0_pay76 (k0_pay581 x0 x1 x2 x3 x4 x5 x6 x7 x8) (k0_pay582 x0 x1 x2 x3 x4 x5 x6 x7 x8) (k0_pay583 x0 x1 x2 x3 x4 x5 x6 x7 x8) (k0_pay584 x0 x1 x2 x3 x4 x5 x6 x7 x8) (View.ld x4 r0_25)) (View.ld x8 r0_9) : FVec Ideal S1x128 .f32) (ix2 0 e)
    = gated (orow (qrow (yrow (Yv x0 x1 x2 x3 x4 x5 x6 x7 x8) 7 0 (by omega))) (l2 (yrow (Yv x0 x1 x2 x3 x4 x5 x6 x7 x8) 7 1024 (by omega))) (yrow (Yv x0 x1 x2 x3 x4 x5 x6 x7 x8) 7 2048 (by omega)) (Ideal.exp (Gv x0 x1 x2 x3 x4 x5 x6 x7 x8 (ix2 7 48))) (Bv x0 x1 x2 x3 x4 x5 x6 x7 x8 (ix2 7 56)) (fun d e => x4 (ix4 7 0 d e))) (fun e => x8 (ix2 0 e)) (fun e => x2 (ix2 7 ⟨0 + (e : ℕ), by omega⟩)) e := by
  pointwise [k0_pay73, k0_pay74, k0_pay75, k0_pay76, k0_pay80]
  simp only [u0, w0, ai0, qd0, zero_sub]
  rfl

theorem ot1_0 (e : Fin 128) : (k0_pay95 (View.ld x2 r0_27) (k0_pay92 (k0_pay572 x0 x1 x2 x3 x4 x5 x6 x7 x8) (k0_pay576 x0 x1 x2 x3 x4 x5 x6 x7 x8) (k0_pay577 x0 x1 x2 x3 x4 x5 x6 x7 x8) (k0_pay588 x0 x1 x2 x3 x4 x5 x6 x7 x8) (View.ld x4 r0_28)) (View.ld x8 r0_9) : FVec Ideal S1x128 .f32) (ix2 0 e)
    = gated (orow (qrow (yrow (Yv x0 x1 x2 x3 x4 x5 x6 x7 x8) 0 128 (by omega))) (l2 (yrow (Yv x0 x1 x2 x3 x4 x5 x6 x7 x8) 0 1152 (by omega))) (yrow (Yv x0 x1 x2 x3 x4 x5 x6 x7 x8) 0 2176 (by omega)) (Ideal.exp (Gv x0 x1 x2 x3 x4 x5 x6 x7 x8 (ix2 0 49))) (Bv x0 x1 x2 x3 x4 x5 x6 x7 x8 (ix2 0 57)) (fun d e => x4 (ix4 0 1 d e))) (fun e => x8 (ix2 0 e)) (fun e => x2 (ix2 0 ⟨128 + (e : ℕ), by omega⟩)) e := by
  pointwise [k0_pay81, k0_pay82, k0_pay83, k0_pay84, k0_pay85, k0_pay86, k0_pay87, k0_pay88, k0_pay89, k0_pay90, k0_pay91, k0_pay92, k0_pay95, k0_pay576, k0_pay577, k0_pay588]
  simp only [zero_sub]
  rfl

theorem ot1_1 (e : Fin 128) : (k0_pay105 (k0_pay102 (View.ld x2 r0_27)) (k0_pay103 (k0_pay591 x0 x1 x2 x3 x4 x5 x6 x7 x8) (k0_pay593 x0 x1 x2 x3 x4 x5 x6 x7 x8) (k0_pay595 x0 x1 x2 x3 x4 x5 x6 x7 x8) (k0_pay596 x0 x1 x2 x3 x4 x5 x6 x7 x8) (k0_pay597 x0 x1 x2 x3 x4 x5 x6 x7 x8) (Scalar.ofBits .f32 0x00000000#32) (View.ld x8 r0_9)) (k0_pay104 (View.ld x2 r0_27)) : FVec Ideal S1x128 .f32) (ix2 0 e)
    = gated (orow (qrow (yrow (Yv x0 x1 x2 x3 x4 x5 x6 x7 x8) 1 128 (by omega))) (l2 (yrow (Yv x0 x1 x2 x3 x4 x5 x6 x7 x8) 1 1152 (by omega))) (yrow (Yv x0 x1 x2 x3 x4 x5 x6 x7 x8) 1 2176 (by omega)) (Ideal.exp (Gv x0 x1 x2 x3 x4 x5 x6 x7 x8 (ix2 1 49))) (Bv x0 x1 x2 x3 x4 x5 x6 x7 x8 (ix2 1 57)) (fun d e => x4 (ix4 1 1 d e))) (fun e => x8 (ix2 0 e)) (fun e => x2 (ix2 1 ⟨128 + (e : ℕ), by omega⟩)) e := by
  pointwise [k0_pay96, k0_pay97, k0_pay98, k0_pay99, k0_pay100, k0_pay102, k0_pay103, k0_pay104, k0_pay105, k0_pay595, k0_pay596, k0_pay597]
  simp only [u1, w1, ai1, qd1, zero_sub]
  rfl

theorem ot1_2 (e : Fin 128) : (k0_pay112 (k0_pay109 (k0_pay591 x0 x1 x2 x3 x4 x5 x6 x7 x8) (k0_pay592 x0 x1 x2 x3 x4 x5 x6 x7 x8) (k0_pay593 x0 x1 x2 x3 x4 x5 x6 x7 x8) (k0_pay594 x0 x1 x2 x3 x4 x5 x6 x7 x8) (View.ld x4 r0_32)) (k0_pay111 (View.ld x2 r0_27)) (View.ld x8 r0_9) : FVec Ideal S1x128 .f32) (ix2 0 e)
    = gated (orow (qrow (yrow (Yv x0 x1 x2 x3 x4 x5 x6 x7 x8) 2 128 (by omega))) (l2 (yrow (Yv x0 x1 x2 x3 x4 x5 x6 x7 x8) 2 1152 (by omega))) (yrow (Yv x0 x1 x2 x3 x4 x5 x6 x7 x8) 2 2176 (by omega)) (Ideal.exp (Gv x0 x1 x2 x3 x4 x5 x6 x7 x8 (ix2 2 49))) (Bv x0 x1 x2 x3 x4 x5 x6 x7 x8 (ix2 2 57)) (fun d e => x4 (ix4 2 1 d e))) (fun e => x8 (ix2 0 e)) (fun e => x2 (ix2 2 ⟨128 + (e : ℕ), by omega⟩)) e := by
  pointwise [k0_pay106, k0_pay107, k0_pay108, k0_pay109, k0_pay111, k0_pay112]
  simp only [u1, w1, ai1, qd1, zero_sub]
  rfl

theorem ot1_3 (e : Fin 128) : (k0_pay119 (View.ld x2 r0_27) (k0_pay116 (k0_pay591 x0 x1 x2 x3 x4 x5 x6 x7 x8) (k0_pay592 x0 x1 x2 x3 x4 x5 x6 x7 x8) (k0_pay593 x0 x1 x2 x3 x4 x5 x6 x7 x8) (k0_pay594 x0 x1 x2 x3 x4 x5 x6 x7 x8) (View.ld x4 r0_34)) (View.ld x8 r0_9) : FVec Ideal S1x128 .f32) (ix2 0 e)
    = gated (orow (qrow (yrow (Yv x0 x1 x2 x3 x4 x5 x6 x7 x8) 3 128 (by omega))) (l2 (yrow (Yv x0 x1 x2 x3 x4 x5 x6 x7 x8) 3 1152 (by omega))) (yrow (Yv x0 x1 x2 x3 x4 x5 x6 x7 x8) 3 2176 (by omega)) (Ideal.exp (Gv x0 x1 x2 x3 x4 x5 x6 x7 x8 (ix2 3 49))) (Bv x0 x1 x2 x3 x4 x5 x6 x7 x8 (ix2 3 57)) (fun d e => x4 (ix4 3 1 d e))) (fun e => x8 (ix2 0 e)) (fun e => x2 (ix2 3 ⟨128 + (e : ℕ), by omega⟩)) e := by
  pointwise [k0_pay113, k0_pay114, k0_pay115, k0_pay116, k0_pay119]
  simp only [u1, w1, ai1, qd1, zero_sub]
  rfl

theorem ot1_4 (e : Fin 128) : (k0_pay126 (k0_pay124 (View.ld x2 r0_27)) (k0_pay125 (k0_pay591 x0 x1 x2 x3 x4 x5 x6 x7 x8) (k0_pay592 x0 x1 x2 x3 x4 x5 x6 x7 x8) (k0_pay593 x0 x1 x2 x3 x4 x5 x6 x7 x8) (k0_pay594 x0 x1 x2 x3 x4 x5 x6 x7 x8) (k0_pay598 x0 x1 x2 x3 x4 x5 x6 x7 x8) (View.ld x8 r0_9)) (Scalar.ofBits .f32 0x00000000#32) : FVec Ideal S1x128 .f32) (ix2 0 e)
    = gated (orow (qrow (yrow (Yv x0 x1 x2 x3 x4 x5 x6 x7 x8) 4 128 (by omega))) (l2 (yrow (Yv x0 x1 x2 x3 x4 x5 x6 x7 x8) 4 1152 (by omega))) (yrow (Yv x0 x1 x2 x3 x4 x5 x6 x7 x8) 4 2176 (by omega)) (Ideal.exp (Gv x0 x1 x2 x3 x4 x5 x6 x7 x8 (ix2 4 49))) (Bv x0 x1 x2 x3 x4 x5 x6 x7 x8 (ix2 4 57)) (fun d e => x4 (ix4 4 1 d e))) (fun e => x8 (ix2 0 e)) (fun e => x2 (ix2 4 ⟨128 + (e : ℕ), by omega⟩)) e := by
  pointwise [k0_pay120, k0_pay121, k0_pay122, k0_pay124, k0_pay125, k0_pay126, k0_pay598]
  simp only [u1, w1, ai1, qd1, zero_sub]
  rfl

theorem ot1_5 (e : Fin 128) : (k0_pay133 (View.ld x2 r0_27) (k0_pay130 (k0_pay591 x0 x1 x2 x3 x4 x5 x6 x7 x8) (k0_pay592 x0 x1 x2 x3 x4 x5 x6 x7 x8) (k0_pay593 x0 x1 x2 x3 x4 x5 x6 x7 x8) (k0_pay594 x0 x1 x2 x3 x4 x5 x6 x7 x8) (View.ld x4 r0_38)) (View.ld x8 r0_9) : FVec Ideal S1x128 .f32) (ix2 0 e)
    = gated (orow (qrow (yrow (Yv x0 x1 x2 x3 x4 x5 x6 x7 x8) 5 128 (by omega))) (l2 (yrow (Yv x0 x1 x2 x3 x4 x5 x6 x7 x8) 5 1152 (by omega))) (yrow (Yv x0 x1 x2 x3 x4 x5 x6 x7 x8) 5 2176 (by omega)) (Ideal.exp (Gv x0 x1 x2 x3 x4 x5 x6 x7 x8 (ix2 5 49))) (Bv x0 x1 x2 x3 x4 x5 x6 x7 x8 (ix2 5 57)) (fun d e => x4 (ix4 5 1 d e))) (fun e => x8 (ix2 0 e)) (fun e => x2 (ix2 5 ⟨128 + (e : ℕ), by omega⟩)) e := by
  pointwise [k0_pay127, k0_pay128, k0_pay129, k0_pay130, k0_pay133]
  simp only [u1, w1, ai1, qd1, zero_sub]
  rfl

theorem ot1_6 (e : Fin 128) : (k0_pay140 (View.ld x2 r0_27) (k0_pay137 (k0_pay591 x0 x1 x2 x3 x4 x5 x6 x7 x8) (k0_pay592 x0 x1 x2 x3 x4 x5 x6 x7 x8) (k0_pay593 x0 x1 x2 x3 x4 x5 x6 x7 x8) (k0_pay594 x0 x1 x2 x3 x4 x5 x6 x7 x8) (View.ld x4 r0_40)) (View.ld x8 r0_9) : FVec Ideal S1x128 .f32) (ix2 0 e)
    = gated (orow (qrow (yrow (Yv x0 x1 x2 x3 x4 x5 x6 x7 x8) 6 128 (by omega))) (l2 (yrow (Yv x0 x1 x2 x3 x4 x5 x6 x7 x8) 6 1152 (by omega))) (yrow (Yv x0 x1 x2 x3 x4 x5 x6 x7 x8) 6 2176 (by omega)) (Ideal.exp (Gv x0 x1 x2 x3 x4 x5 x6 x7 x8 (ix2 6 49))) (Bv x0 x1 x2 x3 x4 x5 x6 x7 x8 (ix2 6 57)) (fun d e => x4 (ix4 6 1 d e))) (fun e => x8 (ix2 0 e)) (fun e => x2 (ix2 6 ⟨128 + (e : ℕ), by omega⟩)) e := by
  pointwise [k0_pay134, k0_pay135, k0_pay136, k0_pay137, k0_pay140]
  simp only [u1, w1, ai1, qd1, zero_sub]
  rfl

theorem ot1_7 (e : Fin 128) : (k0_pay148 (k0_pay144 (k0_pay591 x0 x1 x2 x3 x4 x5 x6 x7 x8) (k0_pay592 x0 x1 x2 x3 x4 x5 x6 x7 x8) (k0_pay593 x0 x1 x2 x3 x4 x5 x6 x7 x8) (k0_pay594 x0 x1 x2 x3 x4 x5 x6 x7 x8) (View.ld x4 r0_42)) (k0_pay146 (View.ld x2 r0_27)) (View.ld x8 r0_9) (k0_pay147 (k0_pay591 x0 x1 x2 x3 x4 x5 x6 x7 x8) (k0_pay592 x0 x1 x2 x3 x4 x5 x6 x7 x8) (k0_pay593 x0 x1 x2 x3 x4 x5 x6 x7 x8) (k0_pay594 x0 x1 x2 x3 x4 x5 x6 x7 x8) (View.ld x4 r0_42)) : FVec Ideal S1x128 .f32) (ix2 0 e)
    = gated (orow (qrow (yrow (Yv x0 x1 x2 x3 x4 x5 x6 x7 x8) 7 128 (by omega))) (l2 (yrow (Yv x0 x1 x2 x3 x4 x5 x6 x7 x8) 7 1152 (by omega))) (yrow (Yv x0 x1 x2 x3 x4 x5 x6 x7 x8) 7 2176 (by omega)) (Ideal.exp (Gv x0 x1 x2 x3 x4 x5 x6 x7 x8 (ix2 7 49))) (Bv x0 x1 x2 x3 x4 x5 x6 x7 x8 (ix2 7 57)) (fun d e => x4 (ix4 7 1 d e))) (fun e => x8 (ix2 0 e)) (fun e => x2 (ix2 7 ⟨128 + (e : ℕ), by omega⟩)) e := by
  pointwise [k0_pay141, k0_pay142, k0_pay143, k0_pay144, k0_pay146, k0_pay147, k0_pay148]
  simp only [u1, w1, ai1, qd1, zero_sub]
  rfl

theorem ot2_0 (e : Fin 128) : (k0_pay164 (k0_pay160 (k0_pay601 x0 x1 x2 x3 x4 x5 x6 x7 x8) (k0_pay602 x0 x1 x2 x3 x4 x5 x6 x7 x8) (k0_pay603 x0 x1 x2 x3 x4 x5 x6 x7 x8) (k0_pay604 x0 x1 x2 x3 x4 x5 x6 x7 x8) (View.ld x4 r0_45)) (k0_pay162 (View.ld x2 r0_44)) (View.ld x8 r0_9) (k0_pay163 (k0_pay601 x0 x1 x2 x3 x4 x5 x6 x7 x8) (k0_pay602 x0 x1 x2 x3 x4 x5 x6 x7 x8) (k0_pay603 x0 x1 x2 x3 x4 x5 x6 x7 x8) (k0_pay604 x0 x1 x2 x3 x4 x5 x6 x7 x8) (View.ld x4 r0_45)) : FVec Ideal S1x128 .f32) (ix2 0 e)
    = gated (orow (qrow (yrow (Yv x0 x1 x2 x3 x4 x5 x6 x7 x8) 0 256 (by omega))) (l2 (yrow (Yv x0 x1 x2 x3 x4 x5 x6 x7 x8) 0 1280 (by omega))) (yrow (Yv x0 x1 x2 x3 x4 x5 x6 x7 x8) 0 2304 (by omega)) (Ideal.exp (Gv x0 x1 x2 x3 x4 x5 x6 x7 x8 (ix2 0 50))) (Bv x0 x1 x2 x3 x4 x5 x6 x7 x8 (ix2 0 58)) (fun d e => x4 (ix4 0 2 d e))) (fun e => x8 (ix2 0 e)) (fun e => x2 (ix2 0 ⟨256 + (e : ℕ), by omega⟩)) e := by
  pointwise [k0_pay157, k0_pay158, k0_pay159, k0_pay160, k0_pay162, k0_pay163, k0_pay164]
  simp only [u2, w2, ai2, qd2, zero_sub]
  rfl

theorem ot2_1 (e : Fin 128) : (k0_pay173 (View.ld x2 r0_44) (k0_pay168 (k0_pay601 x0 x1 x2 x3 x4 x5 x6 x7 x8) (k0_pay602 x0 x1 x2 x3 x4 x5 x6 x7 x8) (k0_pay603 x0 x1 x2 x3 x4 x5 x6 x7 x8) (k0_pay604 x0 x1 x2 x3 x4 x5 x6 x7 x8) (View.ld x4 r0_47)) (View.ld x8 r0_9) : FVec Ideal S1x128 .f32) (ix2 0 e)
    = gated (orow (qrow (yrow (Yv x0 x1 x2 x3 x4 x5 x6 x7 x8) 1 256 (by omega))) (l2 (yrow (Yv x0 x1 x2 x3 x4 x5 x6 x7 x8) 1 1280 (by omega))) (yrow (Yv x0 x1 x2 x3 x4 x5 x6 x7 x8) 1 2304 (by omega)) (Ideal.exp (Gv x0 x1 x2 x3 x4 x5 x6 x7 x8 (ix2 1 50))) (Bv x0 x1 x2 x3 x4 x5 x6 x7 x8 (ix2 1 58)) (fun d e => x4 (ix4 1 2 d e))) (fun e => x8 (ix2 0 e)) (fun e => x2 (ix2 1 ⟨256 + (e : ℕ), by omega⟩)) e := by
  pointwise [k0_pay165, k0_pay166, k0_pay167, k0_pay168, k0_pay173]
  simp only [u2, w2, ai2, qd2, zero_sub]
  rfl

theorem ot2_2 (e : Fin 128) : (k0_pay181 (k0_pay179 (k0_pay603 x0 x1 x2 x3 x4 x5 x6 x7 x8) (k0_pay605 x0 x1 x2 x3 x4 x5 x6 x7 x8) (k0_pay606 x0 x1 x2 x3 x4 x5 x6 x7 x8) (View.ld x8 r0_9)) (k0_pay180 (View.ld x2 r0_44)) : FVec Ideal S1x128 .f32) (ix2 0 e)
    = gated (orow (qrow (yrow (Yv x0 x1 x2 x3 x4 x5 x6 x7 x8) 2 256 (by omega))) (l2 (yrow (Yv x0 x1 x2 x3 x4 x5 x6 x7 x8) 2 1280 (by omega))) (yrow (Yv x0 x1 x2 x3 x4 x5 x6 x7 x8) 2 2304 (by omega)) (Ideal.exp (Gv x0 x1 x2 x3 x4 x5 x6 x7 x8 (ix2 2 50))) (Bv x0 x1 x2 x3 x4 x5 x6 x7 x8 (ix2 2 58)) (fun d e => x4 (ix4 2 2 d e))) (fun e => x8 (ix2 0 e)) (fun e => x2 (ix2 2 ⟨256 + (e : ℕ), by omega⟩)) e := by
  pointwise [k0_pay174, k0_pay175, k0_pay176, k0_pay177, k0_pay179, k0_pay180, k0_pay181, k0_pay605, k0_pay606]
  simp only [u2, w2, ai2, qd2, zero_sub]
  rfl

theorem ot2_3 (e : Fin 128) : (k0_pay189 (k0_pay185 (k0_pay601 x0 x1 x2 x3 x4 x5 x6 x7 x8) (k0_pay602 x0 x1 x2 x3 x4 x5 x6 x7 x8) (k0_pay603 x0 x1 x2 x3 x4 x5 x6 x7 x8) (k0_pay604 x0 x1 x2 x3 x4 x5 x6 x7 x8) (View.ld x4 r0_51)) (k0_pay187 (View.ld x2 r0_44)) (View.ld x8 r0_9) (k0_pay188 (k0_pay601 x0 x1 x2 x3 x4 x5 x6 x7 x8) (k0_pay602 x0 x1 x2 x3 x4 x5 x6 x7 x8) (k0_pay603 x0 x1 x2 x3 x4 x5 x6 x7 x8) (k0_pay604 x0 x1 x2 x3 x4 x5 x6 x7 x8) (View.ld x4 r0_51)) : FVec Ideal S1x128 .f32) (ix2 0 e)
    = gated (orow (qrow (yrow (Yv x0 x1 x2 x3 x4 x5 x6 x7 x8) 3 256 (by omega))) (l2 (yrow (Yv x0 x1 x2 x3 x4 x5 x6 x7 x8) 3 1280 (by omega))) (yrow (Yv x0 x1 x2 x3 x4 x5 x6 x7 x8) 3 2304 (by omega)) (Ideal.exp (Gv x0 x1 x2 x3 x4 x5 x6 x7 x8 (ix2 3 50))) (Bv x0 x1 x2 x3 x4 x5 x6 x7 x8 (ix2 3 58)) (fun d e => x4 (ix4 3 2 d e))) (fun e => x8 (ix2 0 e)) (fun e => x2 (ix2 3 ⟨256 + (e : ℕ), by omega⟩)) e := by
  pointwise [k0_pay182, k0_pay183, k0_pay184, k0_pay185, k0_pay187, k0_pay188, k0_pay189]
  simp only [u2, w2, ai2, qd2, zero_sub]
  rfl

theorem ot2_4 (e : Fin 128) : (k0_pay197 (View.ld x2 r0_44) (k0_pay193 (k0_pay601 x0 x1 x2 x3 x4 x5 x6 x7 x8) (k0_pay602 x0 x1 x2 x3 x4 x5 x6 x7 x8) (k0_pay603 x0 x1 x2 x3 x4 x5 x6 x7 x8) (k0_pay604 x0 x1 x2 x3 x4 x5 x6 x7 x8) (View.ld x4 r0_53)) (View.ld x8 r0_9) : FVec Ideal S1x128 .f32) (ix2 0 e)
    = gated (orow (qrow (yrow (Yv x0 x1 x2 x3 x4 x5 x6 x7 x8) 4 256 (by omega))) (l2 (yrow (Yv x0 x1 x2 x3 x4 x5 x6 x7 x8) 4 1280 (by omega))) (yrow (Yv x0 x1 x2 x3 x4 x5 x6 x7 x8) 4 2304 (by omega)) (Ideal.exp (Gv x0 x1 x2 x3 x4 x5 x6 x7 x8 (ix2 4 50))) (Bv x0 x1 x2 x3 x4 x5 x6 x7 x8 (ix2 4 58)) (fun d e => x4 (ix4 4 2 d e))) (fun e => x8 (ix2 0 e)) (fun e => x2 (ix2 4 ⟨256 + (e : ℕ), by omega⟩)) e := by
  pointwise [k0_pay190, k0_pay191, k0_pay192, k0_pay193, k0_pay197]
  simp only [u2, w2, ai2, qd2, zero_sub]
  rfl

theorem ot2_5 (e : Fin 128) : (k0_pay207 (k0_pay204 (View.ld x2 r0_44)) (k0_pay205 (k0_pay601 x0 x1 x2 x3 x4 x5 x6 x7 x8) (k0_pay603 x0 x1 x2 x3 x4 x5 x6 x7 x8) (k0_pay607 x0 x1 x2 x3 x4 x5 x6 x7 x8) (k0_pay608 x0 x1 x2 x3 x4 x5 x6 x7 x8) (View.ld x8 r0_9)) (k0_pay206 (View.ld x2 r0_44)) (Scalar.ofBits .f32 0x3F800000#32) : FVec Ideal S1x128 .f32) (ix2 0 e)
    = gated (orow (qrow (yrow (Yv x0 x1 x2 x3 x4 x5 x6 x7 x8) 5 256 (by omega))) (l2 (yrow (Yv x0 x1 x2 x3 x4 x5 x6 x7 x8) 5 1280 (by omega))) (yrow (Yv x0 x1 x2 x3 x4 x5 x6 x7 x8) 5 2304 (by omega)) (Ideal.exp (Gv x0 x1 x2 x3 x4 x5 x6 x7 x8 (ix2 5 50))) (Bv x0 x1 x2 x3 x4 x5 x6 x7 x8 (ix2 5 58)) (fun d e => x4 (ix4 5 2 d e))) (fun e => x8 (ix2 0 e)) (fun e => x2 (ix2 5 ⟨256 + (e : ℕ), by omega⟩)) e := by
  pointwise [k0_pay198, k0_pay199, k0_pay200, k0_pay201, k0_pay202, k0_pay204, k0_pay205, k0_pay206, k0_pay207, k0_pay607, k0_pay608]
  simp only [u2, w2, ai2, qd2, zero_sub]
  rfl

theorem ot2_6 (e : Fin 128) : (k0_pay215 (k0_pay211 (k0_pay601 x0 x1 x2 x3 x4 x5 x6 x7 x8) (k0_pay602 x0 x1 x2 x3 x4 x5 x6 x7 x8) (k0_pay603 x0 x1 x2 x3 x4 x5 x6 x7 x8) (k0_pay604 x0 x1 x2 x3 x4 x5 x6 x7 x8) (View.ld x4 r0_57)) (k0_pay213 (View.ld x2 r0_44)) (View.ld x8 r0_9) (k0_pay214 (k0_pay601 x0 x1 x2 x3 x4 x5 x6 x7 x8) (k0_pay602 x0 x1 x2 x3 x4 x5 x6 x7 x8) (k0_pay603 x0 x1 x2 x3 x4 x5 x6 x7 x8) (k0_pay604 x0 x1 x2 x3 x4 x5 x6 x7 x8) (View.ld x4 r0_57)) : FVec Ideal S1x128 .f32) (ix2 0 e)
    = gated (orow (qrow (yrow (Yv x0 x1 x2 x3 x4 x5 x6 x7 x8) 6 256 (by omega))) (l2 (yrow (Yv x0 x1 x2 x3 x4 x5 x6 x7 x8) 6 1280 (by omega))) (yrow (Yv x0 x1 x2 x3 x4 x5 x6 x7 x8) 6 2304 (by omega)) (Ideal.exp (Gv x0 x1 x2 x3 x4 x5 x6 x7 x8 (ix2 6 50))) (Bv x0 x1 x2 x3 x4 x5 x6 x7 x8 (ix2 6 58)) (fun d e => x4 (ix4 6 2 d e))) (fun e => x8 (ix2 0 e)) (fun e => x2 (ix2 6 ⟨256 + (e : ℕ), by omega⟩)) e := by
  pointwise [k0_pay208, k0_pay209, k0_pay210, k0_pay211, k0_pay213, k0_pay214, k0_pay215]
  simp only [u2, w2, ai2, qd2, zero_sub]
  rfl

theorem ot2_7 (e : Fin 128) : (k0_pay222 (View.ld x2 r0_44) (k0_pay219 (k0_pay601 x0 x1 x2 x3 x4 x5 x6 x7 x8) (k0_pay602 x0 x1 x2 x3 x4 x5 x6 x7 x8) (k0_pay603 x0 x1 x2 x3 x4 x5 x6 x7 x8) (k0_pay604 x0 x1 x2 x3 x4 x5 x6 x7 x8) (View.ld x4 r0_59)) (View.ld x8 r0_9) : FVec Ideal S1x128 .f32) (ix2 0 e)
    = gated (orow (qrow (yrow (Yv x0 x1 x2 x3 x4 x5 x6 x7 x8) 7 256 (by omega))) (l2 (yrow (Yv x0 x1 x2 x3 x4 x5 x6 x7 x8) 7 1280 (by omega))) (yrow (Yv x0 x1 x2 x3 x4 x5 x6 x7 x8) 7 2304 (by omega)) (Ideal.exp (Gv x0 x1 x2 x3 x4 x5 x6 x7 x8 (ix2 7 50))) (Bv x0 x1 x2 x3 x4 x5 x6 x7 x8 (ix2 7 58)) (fun d e => x4 (ix4 7 2 d e))) (fun e => x8 (ix2 0 e)) (fun e => x2 (ix2 7 ⟨256 + (e : ℕ), by omega⟩)) e := by
  pointwise [k0_pay216, k0_pay217, k0_pay218, k0_pay219, k0_pay222]
  simp only [u2, w2, ai2, qd2, zero_sub]
  rfl

theorem ot3_0 (e : Fin 128) : (k0_pay239 (View.ld x2 r0_61) (k0_pay236 (k0_pay572 x0 x1 x2 x3 x4 x5 x6 x7 x8) (k0_pay576 x0 x1 x2 x3 x4 x5 x6 x7 x8) (k0_pay577 x0 x1 x2 x3 x4 x5 x6 x7 x8) (k0_pay609 x0 x1 x2 x3 x4 x5 x6 x7 x8) (k0_pay610 x0 x1 x2 x3 x4 x5 x6 x7 x8) (View.ld x4 r0_62)) (View.ld x8 r0_9) : FVec Ideal S1x128 .f32) (ix2 0 e)
    = gated (orow (qrow (yrow (Yv x0 x1 x2 x3 x4 x5 x6 x7 x8) 0 384 (by omega))) (l2 (yrow (Yv x0 x1 x2 x3 x4 x5 x6 x7 x8) 0 1408 (by omega))) (yrow (Yv x0 x1 x2 x3 x4 x5 x6 x7 x8) 0 2432 (by omega)) (Ideal.exp (Gv x0 x1 x2 x3 x4 x5 x6 x7 x8 (ix2 0 51))) (Bv x0 x1 x2 x3 x4 x5 x6 x7 x8 (ix2 0 59)) (fun d e => x4 (ix4 0 3 d e))) (fun e => x8 (ix2 0 e)) (fun e => x2 (ix2 0 ⟨384 + (e : ℕ), by omega⟩)) e := by
  pointwise [k0_pay223, k0_pay224, k0_pay225, k0_pay226, k0_pay227, k0_pay228, k0_pay229, k0_pay230, k0_pay231, k0_pay232, k0_pay233, k0_pay234, k0_pay235, k0_pay236, k0_pay239, k0_pay576, k0_pay577, k0_pay609, k0_pay610]
  simp only [zero_sub]
  rfl

theorem ot3_1 (e : Fin 128) : (k0_pay246 (k0_pay244 (View.ld x2 r0_61)) (k0_pay245 (k0_pay613 x0 x1 x2 x3 x4 x5 x6 x7 x8) (k0_pay614 x0 x1 x2 x3 x4 x5 x6 x7 x8) (k0_pay615 x0 x1 x2 x3 x4 x5 x6 x7 x8) (k0_pay616 x0 x1 x2 x3 x4 x5 x6 x7 x8) (View.ld x4 r0_64) (View.ld x8 r0_9)) : FVec Ideal S1x128 .f32) (ix2 0 e)
    = gated (orow (qrow (yrow (Yv x0 x1 x2 x3 x4 x5 x6 x7 x8) 1 384 (by omega))) (l2 (yrow (Yv x0 x1 x2 x3 x4 x5 x6 x7 x8) 1 1408 (by omega))) (yrow (Yv x0 x1 x2 x3 x4 x5 x6 x7 x8) 1 2432 (by omega)) (Ideal.exp (Gv x0 x1 x2 x3 x4 x5 x6 x7 x8 (ix2 1 51))) (Bv x0 x1 x2 x3 x4 x5 x6 x7 x8 (ix2 1 59)) (fun d e => x4 (ix4 1 3 d e))) (fun e => x8 (ix2 0 e)) (fun e => x2 (ix2 1 ⟨384 + (e : ℕ), by omega⟩)) e := by
  pointwise [k0_pay240, k0_pay241, k0_pay242, k0_pay244, k0_pay245, k0_pay246]
  simp only [u3, w3, ai3, qd3, zero_sub]
  rfl

theorem ot3_2 (e : Fin 128) : (k0_pay253 (View.ld x2 r0_61) (k0_pay250 (k0_pay613 x0 x1 x2 x3 x4 x5 x6 x7 x8) (k0_pay614 x0 x1 x2 x3 x4 x5 x6 x7 x8) (k0_pay615 x0 x1 x2 x3 x4 x5 x6 x7 x8) (k0_pay616 x0 x1 x2 x3 x4 x5 x6 x7 x8) (View.ld x4 r0_66)) (View.ld x8 r0_9) : FVec Ideal S1x128 .f32) (ix2 0 e)
    = gated (orow (qrow (yrow (Yv x0 x1 x2 x3 x4 x5 x6 x7 x8) 2 384 (by omega))) (l2 (yrow (Yv x0 x1 x2 x3 x4 x5 x6 x7 x8) 2 1408 (by omega))) (yrow (Yv x0 x1 x2 x3 x4 x5 x6 x7 x8) 2 2432 (by omega)) (Ideal.exp (Gv x0 x1 x2 x3 x4 x5 x6 x7 x8 (ix2 2 51))) (Bv x0 x1 x2 x3 x4 x5 x6 x7 x8 (ix2 2 59)) (fun d e => x4 (ix4 2 3 d e))) (fun e => x8 (ix2 0 e)) (fun e => x2 (ix2 2 ⟨384 + (e : ℕ), by omega⟩)) e := by
  pointwise [k0_pay247, k0_pay248, k0_pay249, k0_pay250, k0_pay253]
  simp only [u3, w3, ai3, qd3, zero_sub]
  rfl

theorem ot3_3 (e : Fin 128) : (k0_pay259 (View.ld x2 r0_61) (k0_pay257 (k0_pay613 x0 x1 x2 x3 x4 x5 x6 x7 x8) (k0_pay614 x0 x1 x2 x3 x4 x5 x6 x7 x8) (k0_pay615 x0 x1 x2 x3 x4 x5 x6 x7 x8) (k0_pay616 x0 x1 x2 x3 x4 x5 x6 x7 x8) (View.ld x4 r0_68)) (View.ld x8 r0_9) : FVec Ideal S1x128 .f32) (ix2 0 e)
    = gated (orow (qrow (yrow (Yv x0 x1 x2 x3 x4 x5 x6 x7 x8) 3 384 (by omega))) (l2 (yrow (Yv x0 x1 x2 x3 x4 x5 x6 x7 x8) 3 1408 (by omega))) (yrow (Yv x0 x1 x2 x3 x4 x5 x6 x7 x8) 3 2432 (by omega)) (Ideal.exp (Gv x0 x1 x2 x3 x4 x5 x6 x7 x8 (ix2 3 51))) (Bv x0 x1 x2 x3 x4 x5 x6 x7 x8 (ix2 3 59)) (fun d e => x4 (ix4 3 3 d e))) (fun e => x8 (ix2 0 e)) (fun e => x2 (ix2 3 ⟨384 + (e : ℕ), by omega⟩)) e := by
  pointwise [k0_pay254, k0_pay255, k0_pay256, k0_pay257, k0_pay259]
  simp only [u3, w3, ai3, qd3, zero_sub]
  rfl

theorem ot3_4 (e : Fin 128) : (k0_pay267 (k0_pay263 (k0_pay613 x0 x1 x2 x3 x4 x5 x6 x7 x8) (k0_pay614 x0 x1 x2 x3 x4 x5 x6 x7 x8) (k0_pay615 x0 x1 x2 x3 x4 x5 x6 x7 x8) (k0_pay616 x0 x1 x2 x3 x4 x5 x6 x7 x8) (View.ld x4 r0_70)) (k0_pay265 (View.ld x2 r0_61)) (View.ld x8 r0_9) (k0_pay266 (k0_pay613 x0 x1 x2 x3 x4 x5 x6 x7 x8) (k0_pay614 x0 x1 x2 x3 x4 x5 x6 x7 x8) (k0_pay615 x0 x1 x2 x3 x4 x5 x6 x7 x8) (k0_pay616 x0 x1 x2 x3 x4 x5 x6 x7 x8) (View.ld x4 r0_70)) : FVec Ideal S1x128 .f32) (ix2 0 e)
    = gated (orow (qrow (yrow (Yv x0 x1 x2 x3 x4 x5 x6 x7 x8) 4 384 (by omega))) (l2 (yrow (Yv x0 x1 x2 x3 x4 x5 x6 x7 x8) 4 1408 (by omega))) (yrow (Yv x0 x1 x2 x3 x4 x5 x6 x7 x8) 4 2432 (by omega)) (Ideal.exp (Gv x0 x1 x2 x3 x4 x5 x6 x7 x8 (ix2 4 51))) (Bv x0 x1 x2 x3 x4 x5 x6 x7 x8 (ix2 4 59)) (fun d e => x4 (ix4 4 3 d e))) (fun e => x8 (ix2 0 e)) (fun e => x2 (ix2 4 ⟨384 + (e : ℕ), by omega⟩)) e := by
  pointwise [k0_pay260, k0_pay261, k0_pay262, k0_pay263, k0_pay265, k0_pay266, k0_pay267]
  simp only [u3, w3, ai3, qd3, zero_sub]
  rfl

theorem ot3_5 (e : Fin 128) : (k0_pay274 (View.ld x2 r0_61) (k0_pay271 (k0_pay613 x0 x1 x2 x3 x4 x5 x6 x7 x8) (k0_pay614 x0 x1 x2 x3 x4 x5 x6 x7 x8) (k0_pay615 x0 x1 x2 x3 x4 x5 x6 x7 x8) (k0_pay616 x0 x1 x2 x3 x4 x5 x6 x7 x8) (View.ld x4 r0_72)) (View.ld x8 r0_9) : FVec Ideal S1x128 .f32) (ix2 0 e)
    = gated (orow (qrow (yrow (Yv x0 x1 x2 x3 x4 x5 x6 x7 x8) 5 384 (by omega))) (l2 (yrow (Yv x0 x1 x2 x3 x4 x5 x6 x7 x8) 5 1408 (by omega))) (yrow (Yv x0 x1 x2 x3 x4 x5 x6 x7 x8) 5 2432 (by omega)) (Ideal.exp (Gv x0 x1 x2 x3 x4 x5 x6 x7 x8 (ix2 5 51))) (Bv x0 x1 x2 x3 x4 x5 x6 x7 x8 (ix2 5 59)) (fun d e => x4 (ix4 5 3 d e))) (fun e => x8 (ix2 0 e)) (fun e => x2 (ix2 5 ⟨384 + (e : ℕ), by omega⟩)) e := by
  pointwise [k0_pay268, k0_pay269, k0_pay270, k0_pay271, k0_pay274]
  simp only [u3, w3, ai3, qd3, zero_sub]
  rfl

theorem ot3_6 (e : Fin 128) : (k0_pay281 (View.ld x2 r0_61) (k0_pay617 x0 x1 x2 x3 x4 x5 x6 x7 x8) (k0_pay278 (k0_pay614 x0 x1 x2 x3 x4 x5 x6 x7 x8) (k0_pay616 x0 x1 x2 x3 x4 x5 x6 x7 x8) (View.ld x4 r0_74)) (k0_pay279 (k0_pay615 x0 x1 x2 x3 x4 x5 x6 x7 x8)) (View.ld x8 r0_9) : FVec Ideal S1x128 .f32) (ix2 0 e)
    = gated (orow (qrow (yrow (Yv x0 x1 x2 x3 x4 x5 x6 x7 x8) 6 384 (by omega))) (l2 (yrow (Yv x0 x1 x2 x3 x4 x5 x6 x7 x8) 6 1408 (by omega))) (yrow (Yv x0 x1 x2 x3 x4 x5 x6 x7 x8) 6 2432 (by omega)) (Ideal.exp (Gv x0 x1 x2 x3 x4 x5 x6 x7 x8 (ix2 6 51))) (Bv x0 x1 x2 x3 x4 x5 x6 x7 x8 (ix2 6 59)) (fun d e => x4 (ix4 6 3 d e))) (fun e => x8 (ix2 0 e)) (fun e => x2 (ix2 6 ⟨384 + (e : ℕ), by omega⟩)) e := by
  pointwise [k0_pay275, k0_pay276, k0_pay277, k0_pay278, k0_pay279, k0_pay281, k0_pay617]
  simp only [u3, w3, ai3, qd3, zero_sub]
  rfl

theorem ot3_7 (e : Fin 128) : (k0_pay289 (k0_pay285 (k0_pay613 x0 x1 x2 x3 x4 x5 x6 x7 x8) (k0_pay614 x0 x1 x2 x3 x4 x5 x6 x7 x8) (k0_pay615 x0 x1 x2 x3 x4 x5 x6 x7 x8) (k0_pay616 x0 x1 x2 x3 x4 x5 x6 x7 x8) (View.ld x4 r0_76)) (k0_pay287 (View.ld x2 r0_61)) (View.ld x8 r0_9) (k0_pay288 (k0_pay613 x0 x1 x2 x3 x4 x5 x6 x7 x8) (k0_pay614 x0 x1 x2 x3 x4 x5 x6 x7 x8) (k0_pay615 x0 x1 x2 x3 x4 x5 x6 x7 x8) (k0_pay616 x0 x1 x2 x3 x4 x5 x6 x7 x8) (View.ld x4 r0_76)) (Scalar.ofBits .f32 0x358637BD#32) : FVec Ideal S1x128 .f32) (ix2 0 e)
    = gated (orow (qrow (yrow (Yv x0 x1 x2 x3 x4 x5 x6 x7 x8) 7 384 (by omega))) (l2 (yrow (Yv x0 x1 x2 x3 x4 x5 x6 x7 x8) 7 1408 (by omega))) (yrow (Yv x0 x1 x2 x3 x4 x5 x6 x7 x8) 7 2432 (by omega)) (Ideal.exp (Gv x0 x1 x2 x3 x4 x5 x6 x7 x8 (ix2 7 51))) (Bv x0 x1 x2 x3 x4 x5 x6 x7 x8 (ix2 7 59)) (fun d e => x4 (ix4 7 3 d e))) (fun e => x8 (ix2 0 e)) (fun e => x2 (ix2 7 ⟨384 + (e : ℕ), by omega⟩)) e := by
  pointwise [k0_pay282, k0_pay283, k0_pay284, k0_pay285, k0_pay287, k0_pay288, k0_pay289]
  simp only [u3, w3, ai3, qd3, zero_sub]
  rfl

end Cert.KernelIdeal.Value

end
-- ==== Proof.DnOutB.lean ====
module

public import proofs.«01_k».proof.Proof.DnHead

/-! The recurrent step's kernel: the gated output row of each sample and each of the heads 4 to 7, tile by tile. -/

@[expose] public section

set_option maxRecDepth 16384

noncomputable section

namespace Cert.KernelIdeal.Value

open Cert.KernelIdeal Cert.KernelIdeal.Gen Idealize.ShloMosaic Idealize.ShloMosaic.TcCoe Idealize.SL.Sem
open scoped BigOperators

variable (x0 : Vec Ideal S8x3072 .f32) (x1 : Vec Ideal S3x8x3072 .f32) (x2 : Vec Ideal S8x1024 .f32) (x3 : Vec Ideal S8x128 .f32)
  (x4 : Vec Ideal S8x8x128x128 .f32) (x5 : Vec Ideal S4x3072 .f32) (x6 : Vec Ideal S1x128 .f32) (x7 : Vec Ideal S1x128 .f32)
  (x8 : Vec Ideal S1x128 .f32)

open Cert.Proof

theorem ot4_0 (e : Fin 128) : (k0_pay306 (k0_pay302 (k0_pay618 x0 x1 x2 x3 x4 x5 x6 x7 x8) (k0_pay620 x0 x1 x2 x3 x4 x5 x6 x7 x8) (k0_pay621 x0 x1 x2 x3 x4 x5 x6 x7 x8) (k0_pay622 x0 x1 x2 x3 x4 x5 x6 x7 x8) (k0_pay623 x0 x1 x2 x3 x4 x5 x6 x7 x8) (View.ld x4 r0_79)) (k0_pay304 (View.ld x2 r0_78)) (View.ld x8 r0_9) (k0_pay305 (k0_pay618 x0 x1 x2 x3 x4 x5 x6 x7 x8) (k0_pay620 x0 x1 x2 x3 x4 x5 x6 x7 x8) (k0_pay621 x0 x1 x2 x3 x4 x5 x6 x7 x8) (k0_pay622 x0 x1 x2 x3 x4 x5 x6 x7 x8) (k0_pay623 x0 x1 x2 x3 x4 x5 x6 x7 x8) (View.ld x4 r0_79)) : FVec Ideal S1x128 .f32) (ix2 0 e)
    = gated (orow (qrow (yrow (Yv x0 x1 x2 x3 x4 x5 x6 x7 x8) 0 512 (by omega))) (l2 (yrow (Yv x0 x1 x2 x3 x4 x5 x6 x7 x8) 0 1536 (by omega))) (yrow (Yv x0 x1 x2 x3 x4 x5 x6 x7 x8) 0 2560 (by omega)) (Ideal.exp (Gv x0 x1 x2 x3 x4 x5 x6 x7 x8 (ix2 0 52))) (Bv x0 x1 x2 x3 x4 x5 x6 x7 x8 (ix2 0 60)) (fun d e => x4 (ix4 0 4 d e))) (fun e => x8 (ix2 0 e)) (fun e => x2 (ix2 0 ⟨512 + (e : ℕ), by omega⟩)) e := by
  pointwise [k0_pay290, k0_pay291, k0_pay296, k0_pay297, k0_pay298, k0_pay299, k0_pay300, k0_pay301, k0_pay302, k0_pay304, k0_pay305, k0_pay306, k0_pay618, k0_pay623]
  simp only [eg4, u4, w4, zero_sub]
  rfl

theorem ot4_1 (e : Fin 128) : (k0_pay314 (View.ld x2 r0_78) (k0_pay310 (k0_pay621 x0 x1 x2 x3 x4 x5 x6 x7 x8) (k0_pay622 x0 x1 x2 x3 x4 x5 x6 x7 x8) (k0_pay624 x0 x1 x2 x3 x4 x5 x6 x7 x8) (k0_pay625 x0 x1 x2 x3 x4 x5 x6 x7 x8) (View.ld x4 r0_81)) (View.ld x8 r0_9) : FVec Ideal S1x128 .f32) (ix2 0 e)
    = gated (orow (qrow (yrow (Yv x0 x1 x2 x3 x4 x5 x6 x7 x8) 1 512 (by omega))) (l2 (yrow (Yv x0 x1 x2 x3 x4 x5 x6 x7 x8) 1 1536 (by omega))) (yrow (Yv x0 x1 x2 x3 x4 x5 x6 x7 x8) 1 2560 (by omega)) (Ideal.exp (Gv x0 x1 x2 x3 x4 x5 x6 x7 x8 (ix2 1 52))) (Bv x0 x1 x2 x3 x4 x5 x6 x7 x8 (ix2 1 60)) (fun d e => x4 (ix4 1 4 d e))) (fun e => x8 (ix2 0 e)) (fun e => x2 (ix2 1 ⟨512 + (e : ℕ), by omega⟩)) e := by
  pointwise [k0_pay307, k0_pay308, k0_pay309, k0_pay310, k0_pay314]
  simp only [u4, w4, ai4, qd4, zero_sub]
  rfl

theorem ot4_2 (e : Fin 128) : (k0_pay323 (k0_pay320 (View.ld x2 r0_78)) (k0_pay321 (k0_pay621 x0 x1 x2 x3 x4 x5 x6 x7 x8) (k0_pay624 x0 x1 x2 x3 x4 x5 x6 x7 x8) (k0_pay626 x0 x1 x2 x3 x4 x5 x6 x7 x8) (k0_pay627 x0 x1 x2 x3 x4 x5 x6 x7 x8) (View.ld x8 r0_9)) (k0_pay322 (View.ld x2 r0_78)) : FVec Ideal S1x128 .f32) (ix2 0 e)
    = gated (orow (qrow (yrow (Yv x0 x1 x2 x3 x4 x5 x6 x7 x8) 2 512 (by omega))) (l2 (yrow (Yv x0 x1 x2 x3 x4 x5 x6 x7 x8) 2 1536 (by omega))) (yrow (Yv x0 x1 x2 x3 x4 x5 x6 x7 x8) 2 2560 (by omega)) (Ideal.exp (Gv x0 x1 x2 x3 x4 x5 x6 x7 x8 (ix2 2 52))) (Bv x0 x1 x2 x3 x4 x5 x6 x7 x8 (ix2 2 60)) (fun d e => x4 (ix4 2 4 d e))) (fun e => x8 (ix2 0 e)) (fun e => x2 (ix2 2 ⟨512 + (e : ℕ), by omega⟩)) e := by
  pointwise [k0_pay315, k0_pay316, k0_pay317, k0_pay318, k0_pay320, k0_pay321, k0_pay322, k0_pay323, k0_pay626, k0_pay627]
  simp only [u4, w4, ai4, qd4, zero_sub]
  rfl

theorem ot4_3 (e : Fin 128) : (k0_pay330 (k0_pay327 (k0_pay621 x0 x1 x2 x3 x4 x5 x6 x7 x8) (k0_pay622 x0 x1 x2 x3 x4 x5 x6 x7 x8) (k0_pay624 x0 x1 x2 x3 x4 x5 x6 x7 x8) (k0_pay625 x0 x1 x2 x3 x4 x5 x6 x7 x8) (View.ld x4 r0_85)) (k0_pay329 (View.ld x2 r0_78)) (View.ld x8 r0_9) : FVec Ideal S1x128 .f32) (ix2 0 e)
    = gated (orow (qrow (yrow (Yv x0 x1 x2 x3 x4 x5 x6 x7 x8) 3 512 (by omega))) (l2 (yrow (Yv x0 x1 x2 x3 x4 x5 x6 x7 x8) 3 1536 (by omega))) (yrow (Yv x0 x1 x2 x3 x4 x5 x6 x7 x8) 3 2560 (by omega)) (Ideal.exp (Gv x0 x1 x2 x3 x4 x5 x6 x7 x8 (ix2 3 52))) (Bv x0 x1 x2 x3 x4 x5 x6 x7 x8 (ix2 3 60)) (fun d e => x4 (ix4 3 4 d e))) (fun e => x8 (ix2 0 e)) (fun e => x2 (ix2 3 ⟨512 + (e : ℕ), by omega⟩)) e := by
  pointwise [k0_pay324, k0_pay325, k0_pay326, k0_pay327, k0_pay329, k0_pay330]
  simp only [u4, w4, ai4, qd4, zero_sub]
  rfl

theorem ot4_4 (e : Fin 128) : (k0_pay337 (View.ld x2 r0_78) (k0_pay334 (k0_pay621 x0 x1 x2 x3 x4 x5 x6 x7 x8) (k0_pay622 x0 x1 x2 x3 x4 x5 x6 x7 x8) (k0_pay624 x0 x1 x2 x3 x4 x5 x6 x7 x8) (k0_pay625 x0 x1 x2 x3 x4 x5 x6 x7 x8) (View.ld x4 r0_87)) (View.ld x8 r0_9) : FVec Ideal S1x128 .f32) (ix2 0 e)
    = gated (orow (qrow (yrow (Yv x0 x1 x2 x3 x4 x5 x6 x7 x8) 4 512 (by omega))) (l2 (yrow (Yv x0 x1 x2 x3 x4 x5 x6 x7 x8) 4 1536 (by omega))) (yrow (Yv x0 x1 x2 x3 x4 x5 x6 x7 x8) 4 2560 (by omega)) (Ideal.exp (Gv x0 x1 x2 x3 x4 x5 x6 x7 x8 (ix2 4 52))) (Bv x0 x1 x2 x3 x4 x5 x6 x7 x8 (ix2 4 60)) (fun d e => x4 (ix4 4 4 d e))) (fun e => x8 (ix2 0 e)) (fun e => x2 (ix2 4 ⟨512 + (e : ℕ), by omega⟩)) e := by
  pointwise [k0_pay331, k0_pay332, k0_pay333, k0_pay334, k0_pay337]
  simp only [u4, w4, ai4, qd4, zero_sub]
  rfl

theorem ot4_5 (e : Fin 128) : (k0_pay347 (k0_pay344 (View.ld x2 r0_78)) (k0_pay345 (k0_pay621 x0 x1 x2 x3 x4 x5 x6 x7 x8) (k0_pay624 x0 x1 x2 x3 x4 x5 x6 x7 x8) (k0_pay628 x0 x1 x2 x3 x4 x5 x6 x7 x8) (k0_pay629 x0 x1 x2 x3 x4 x5 x6 x7 x8) (k0_pay630 x0 x1 x2 x3 x4 x5 x6 x7 x8) (Scalar.ofBits .f32 0x00000000#32) (View.ld x8 r0_9)) (k0_pay346 (View.ld x2 r0_78)) : FVec Ideal S1x128 .f32) (ix2 0 e)
    = gated (orow (qrow (yrow (Yv x0 x1 x2 x3 x4 x5 x6 x7 x8) 5 512 (by omega))) (l2 (yrow (Yv x0 x1 x2 x3 x4 x5 x6 x7 x8) 5 1536 (by omega))) (yrow (Yv x0 x1 x2 x3 x4 x5 x6 x7 x8) 5 2560 (by omega)) (Ideal.exp (Gv x0 x1 x2 x3 x4 x5 x6 x7 x8 (ix2 5 52))) (Bv x0 x1 x2 x3 x4 x5 x6 x7 x8 (ix2 5 60)) (fun d e => x4 (ix4 5 4 d e))) (fun e => x8 (ix2 0 e)) (fun e => x2 (ix2 5 ⟨512 + (e : ℕ), by omega⟩)) e := by
  pointwise [k0_pay338, k0_pay339, k0_pay340, k0_pay341, k0_pay342, k0_pay344, k0_pay345, k0_pay346, k0_pay347, k0_pay628, k0_pay629, k0_pay630]
  simp only [u4, w4, ai4, qd4, zero_sub]
  rfl

theorem ot4_6 (e : Fin 128) : (k0_pay354 (k0_pay351 (k0_pay621 x0 x1 x2 x3 x4 x5 x6 x7 x8) (k0_pay622 x0 x1 x2 x3 x4 x5 x6 x7 x8) (k0_pay624 x0 x1 x2 x3 x4 x5 x6 x7 x8) (k0_pay625 x0 x1 x2 x3 x4 x5 x6 x7 x8) (View.ld x4 r0_91)) (k0_pay353 (View.ld x2 r0_78)) (View.ld x8 r0_9) : FVec Ideal S1x128 .f32) (ix2 0 e)
    = gated (orow (qrow (yrow (Yv x0 x1 x2 x3 x4 x5 x6 x7 x8) 6 512 (by omega))) (l2 (yrow (Yv x0 x1 x2 x3 x4 x5 x6 x7 x8) 6 1536 (by omega))) (yrow (Yv x0 x1 x2 x3 x4 x5 x6 x7 x8) 6 2560 (by omega)) (Ideal.exp (Gv x0 x1 x2 x3 x4 x5 x6 x7 x8 (ix2 6 52))) (Bv x0 x1 x2 x3 x4 x5 x6 x7 x8 (ix2 6 60)) (fun d e => x4 (ix4 6 4 d e))) (fun e => x8 (ix2 0 e)) (fun e => x2 (ix2 6 ⟨512 + (e : ℕ), by omega⟩)) e := by
  pointwise [k0_pay348, k0_pay349, k0_pay350, k0_pay351, k0_pay353, k0_pay354]
  simp only [u4, w4, ai4, qd4, zero_sub]
  rfl

theorem ot4_7 (e : Fin 128) : (k0_pay361 (View.ld x2 r0_78) (k0_pay358 (k0_pay621 x0 x1 x2 x3 x4 x5 x6 x7 x8) (k0_pay622 x0 x1 x2 x3 x4 x5 x6 x7 x8) (k0_pay624 x0 x1 x2 x3 x4 x5 x6 x7 x8) (k0_pay625 x0 x1 x2 x3 x4 x5 x6 x7 x8) (View.ld x4 r0_93)) (View.ld x8 r0_9) : FVec Ideal S1x128 .f32) (ix2 0 e)
    = gated (orow (qrow (yrow (Yv x0 x1 x2 x3 x4 x5 x6 x7 x8) 7 512 (by omega))) (l2 (yrow (Yv x0 x1 x2 x3 x4 x5 x6 x7 x8) 7 1536 (by omega))) (yrow (Yv x0 x1 x2 x3 x4 x5 x6 x7 x8) 7 2560 (by omega)) (Ideal.exp (Gv x0 x1 x2 x3 x4 x5 x6 x7 x8 (ix2 7 52))) (Bv x0 x1 x2 x3 x4 x5 x6 x7 x8 (ix2 7 60)) (fun d e => x4 (ix4 7 4 d e))) (fun e => x8 (ix2 0 e)) (fun e => x2 (ix2 7 ⟨512 + (e : ℕ), by omega⟩)) e := by
  pointwise [k0_pay355, k0_pay356, k0_pay357, k0_pay358, k0_pay361]
  simp only [u4, w4, ai4, qd4, zero_sub]
  rfl

theorem ot5_0 (e : Fin 128) : (k0_pay378 (View.ld x2 r0_95) (k0_pay375 (k0_pay572 x0 x1 x2 x3 x4 x5 x6 x7 x8) (k0_pay576 x0 x1 x2 x3 x4 x5 x6 x7 x8) (k0_pay577 x0 x1 x2 x3 x4 x5 x6 x7 x8) (k0_pay631 x0 x1 x2 x3 x4 x5 x6 x7 x8) (k0_pay632 x0 x1 x2 x3 x4 x5 x6 x7 x8) (Scalar.ofBits .f32 0x358637BD#32) (View.ld x4 r0_96)) (k0_pay376 (k0_pay572 x0 x1 x2 x3 x4 x5 x6 x7 x8) (k0_pay576 x0 x1 x2 x3 x4 x5 x6 x7 x8) (k0_pay577 x0 x1 x2 x3 x4 x5 x6 x7 x8) (k0_pay631 x0 x1 x2 x3 x4 x5 x6 x7 x8) (k0_pay632 x0 x1 x2 x3 x4 x5 x6 x7 x8) (Scalar.ofBits .f32 0x358637BD#32) (View.ld x4 r0_96)) (View.ld x8 r0_9) : FVec Ideal S1x128 .f32) (ix2 0 e)
    = gated (orow (qrow (yrow (Yv x0 x1 x2 x3 x4 x5 x6 x7 x8) 0 640 (by omega))) (l2 (yrow (Yv x0 x1 x2 x3 x4 x5 x6 x7 x8) 0 1664 (by omega))) (yrow (Yv x0 x1 x2 x3 x4 x5 x6 x7 x8) 0 2688 (by omega)) (Ideal.exp (Gv x0 x1 x2 x3 x4 x5 x6 x7 x8 (ix2 0 53))) (Bv x0 x1 x2 x3 x4 x5 x6 x7 x8 (ix2 0 61)) (fun d e => x4 (ix4 0 5 d e))) (fun e => x8 (ix2 0 e)) (fun e => x2 (ix2 0 ⟨640 + (e : ℕ), by omega⟩)) e := by
  pointwise [k0_pay362, k0_pay363, k0_pay364, k0_pay365, k0_pay366, k0_pay367, k0_pay368, k0_pay369, k0_pay370, k0_pay371, k0_pay372, k0_pay373, k0_pay374, k0_pay375, k0_pay376, k0_pay378, k0_pay576, k0_pay577, k0_pay631, k0_pay632]
  simp only [zero_sub]
  rfl

theorem ot5_1 (e : Fin 128) : (k0_pay386 (k0_pay382 (k0_pay635 x0 x1 x2 x3 x4 x5 x6 x7 x8) (k0_pay636 x0 x1 x2 x3 x4 x5 x6 x7 x8) (k0_pay637 x0 x1 x2 x3 x4 x5 x6 x7 x8) (k0_pay638 x0 x1 x2 x3 x4 x5 x6 x7 x8) (View.ld x4 r0_98)) (k0_pay384 (View.ld x2 r0_95)) (View.ld x8 r0_9) (k0_pay385 (k0_pay635 x0 x1 x2 x3 x4 x5 x6 x7 x8) (k0_pay636 x0 x1 x2 x3 x4 x5 x6 x7 x8) (k0_pay637 x0 x1 x2 x3 x4 x5 x6 x7 x8) (k0_pay638 x0 x1 x2 x3 x4 x5 x6 x7 x8) (View.ld x4 r0_98)) : FVec Ideal S1x128 .f32) (ix2 0 e)
    = gated (orow (qrow (yrow (Yv x0 x1 x2 x3 x4 x5 x6 x7 x8) 1 640 (by omega))) (l2 (yrow (Yv x0 x1 x2 x3 x4 x5 x6 x7 x8) 1 1664 (by omega))) (yrow (Yv x0 x1 x2 x3 x4 x5 x6 x7 x8) 1 2688 (by omega)) (Ideal.exp (Gv x0 x1 x2 x3 x4 x5 x6 x7 x8 (ix2 1 53))) (Bv x0 x1 x2 x3 x4 x5 x6 x7 x8 (ix2 1 61)) (fun d e => x4 (ix4 1 5 d e))) (fun e => x8 (ix2 0 e)) (fun e => x2 (ix2 1 ⟨640 + (e : ℕ), by omega⟩)) e := by
  pointwise [k0_pay379, k0_pay380, k0_pay381, k0_pay382, k0_pay384, k0_pay385, k0_pay386]
  simp only [u5, w5, ai5, qd5, zero_sub]
  rfl

theorem ot5_2 (e : Fin 128) : (k0_pay393 (View.ld x2 r0_95) (k0_pay390 (k0_pay635 x0 x1 x2 x3 x4 x5 x6 x7 x8) (k0_pay636 x0 x1 x2 x3 x4 x5 x6 x7 x8) (k0_pay637 x0 x1 x2 x3 x4 x5 x6 x7 x8) (k0_pay638 x0 x1 x2 x3 x4 x5 x6 x7 x8) (View.ld x4 r0_100)) (View.ld x8 r0_9) : FVec Ideal S1x128 .f32) (ix2 0 e)
    = gated (orow (qrow (yrow (Yv x0 x1 x2 x3 x4 x5 x6 x7 x8) 2 640 (by omega))) (l2 (yrow (Yv x0 x1 x2 x3 x4 x5 x6 x7 x8) 2 1664 (by omega))) (yrow (Yv x0 x1 x2 x3 x4 x5 x6 x7 x8) 2 2688 (by omega)) (Ideal.exp (Gv x0 x1 x2 x3 x4 x5 x6 x7 x8 (ix2 2 53))) (Bv x0 x1 x2 x3 x4 x5 x6 x7 x8 (ix2 2 61)) (fun d e => x4 (ix4 2 5 d e))) (fun e => x8 (ix2 0 e)) (fun e => x2 (ix2 2 ⟨640 + (e : ℕ), by omega⟩)) e := by
  pointwise [k0_pay387, k0_pay388, k0_pay389, k0_pay390, k0_pay393]
  simp only [u5, w5, ai5, qd5, zero_sub]
  rfl

theorem ot5_3 (e : Fin 128) : (k0_pay399 (k0_pay637 x0 x1 x2 x3 x4 x5 x6 x7 x8) (View.ld x2 r0_95) (k0_pay639 x0 x1 x2 x3 x4 x5 x6 x7 x8) (k0_pay397 (k0_pay636 x0 x1 x2 x3 x4 x5 x6 x7 x8) (k0_pay638 x0 x1 x2 x3 x4 x5 x6 x7 x8) (View.ld x4 r0_102)) (View.ld x8 r0_9) : FVec Ideal S1x128 .f32) (ix2 0 e)
    = gated (orow (qrow (yrow (Yv x0 x1 x2 x3 x4 x5 x6 x7 x8) 3 640 (by omega))) (l2 (yrow (Yv x0 x1 x2 x3 x4 x5 x6 x7 x8) 3 1664 (by omega))) (yrow (Yv x0 x1 x2 x3 x4 x5 x6 x7 x8) 3 2688 (by omega)) (Ideal.exp (Gv x0 x1 x2 x3 x4 x5 x6 x7 x8 (ix2 3 53))) (Bv x0 x1 x2 x3 x4 x5 x6 x7 x8 (ix2 3 61)) (fun d e => x4 (ix4 3 5 d e))) (fun e => x8 (ix2 0 e)) (fun e => x2 (ix2 3 ⟨640 + (e : ℕ), by omega⟩)) e := by
  pointwise [k0_pay394, k0_pay395, k0_pay396, k0_pay397, k0_pay399, k0_pay639]
  simp only [u5, w5, ai5, qd5, zero_sub]
  rfl

theorem ot5_4 (e : Fin 128) : (k0_pay407 (k0_pay403 (k0_pay635 x0 x1 x2 x3 x4 x5 x6 x7 x8) (k0_pay636 x0 x1 x2 x3 x4 x5 x6 x7 x8) (k0_pay637 x0 x1 x2 x3 x4 x5 x6 x7 x8) (k0_pay638 x0 x1 x2 x3 x4 x5 x6 x7 x8) (View.ld x4 r0_104)) (k0_pay405 (View.ld x2 r0_95)) (View.ld x8 r0_9) (k0_pay406 (k0_pay635 x0 x1 x2 x3 x4 x5 x6 x7 x8) (k0_pay636 x0 x1 x2 x3 x4 x5 x6 x7 x8) (k0_pay637 x0 x1 x2 x3 x4 x5 x6 x7 x8) (k0_pay638 x0 x1 x2 x3 x4 x5 x6 x7 x8) (View.ld x4 r0_104)) : FVec Ideal S1x128 .f32) (ix2 0 e)
    = gated (orow (qrow (yrow (Yv x0 x1 x2 x3 x4 x5 x6 x7 x8) 4 640 (by omega))) (l2 (yrow (Yv x0 x1 x2 x3 x4 x5 x6 x7 x8) 4 1664 (by omega))) (yrow (Yv x0 x1 x2 x3 x4 x5 x6 x7 x8) 4 2688 (by omega)) (Ideal.exp (Gv x0 x1 x2 x3 x4 x5 x6 x7 x8 (ix2 4 53))) (Bv x0 x1 x2 x3 x4 x5 x6 x7 x8 (ix2 4 61)) (fun d e => x4 (ix4 4 5 d e))) (fun e => x8 (ix2 0 e)) (fun e => x2 (ix2 4 ⟨640 + (e : ℕ), by omega⟩)) e := by
  pointwise [k0_pay400, k0_pay401, k0_pay402, k0_pay403, k0_pay405, k0_pay406, k0_pay407]
  simp only [u5, w5, ai5, qd5, zero_sub]
  rfl

theorem ot5_5 (e : Fin 128) : (k0_pay416 (View.ld x2 r0_95) (k0_pay411 (k0_pay635 x0 x1 x2 x3 x4 x5 x6 x7 x8) (k0_pay636 x0 x1 x2 x3 x4 x5 x6 x7 x8) (k0_pay637 x0 x1 x2 x3 x4 x5 x6 x7 x8) (k0_pay638 x0 x1 x2 x3 x4 x5 x6 x7 x8) (View.ld x4 r0_106)) (View.ld x8 r0_9) : FVec Ideal S1x128 .f32) (ix2 0 e)
    = gated (orow (qrow (yrow (Yv x0 x1 x2 x3 x4 x5 x6 x7 x8) 5 640 (by omega))) (l2 (yrow (Yv x0 x1 x2 x3 x4 x5 x6 x7 x8) 5 1664 (by omega))) (yrow (Yv x0 x1 x2 x3 x4 x5 x6 x7 x8) 5 2688 (by omega)) (Ideal.exp (Gv x0 x1 x2 x3 x4 x5 x6 x7 x8 (ix2 5 53))) (Bv x0 x1 x2 x3 x4 x5 x6 x7 x8 (ix2 5 61)) (fun d e => x4 (ix4 5 5 d e))) (fun e => x8 (ix2 0 e)) (fun e => x2 (ix2 5 ⟨640 + (e : ℕ), by omega⟩)) e := by
  pointwise [k0_pay408, k0_pay409, k0_pay410, k0_pay411, k0_pay416]
  simp only [u5, w5, ai5, qd5, zero_sub]
  rfl

theorem ot5_6 (e : Fin 128) : (k0_pay424 (k0_pay422 (k0_pay637 x0 x1 x2 x3 x4 x5 x6 x7 x8) (k0_pay640 x0 x1 x2 x3 x4 x5 x6 x7 x8) (k0_pay641 x0 x1 x2 x3 x4 x5 x6 x7 x8) (View.ld x8 r0_9)) (k0_pay423 (View.ld x2 r0_95)) : FVec Ideal S1x128 .f32) (ix2 0 e)
    = gated (orow (qrow (yrow (Yv x0 x1 x2 x3 x4 x5 x6 x7 x8) 6 640 (by omega))) (l2 (yrow (Yv x0 x1 x2 x3 x4 x5 x6 x7 x8) 6 1664 (by omega))) (yrow (Yv x0 x1 x2 x3 x4 x5 x6 x7 x8) 6 2688 (by omega)) (Ideal.exp (Gv x0 x1 x2 x3 x4 x5 x6 x7 x8 (ix2 6 53))) (Bv x0 x1 x2 x3 x4 x5 x6 x7 x8 (ix2 6 61)) (fun d e => x4 (ix4 6 5 d e))) (fun e => x8 (ix2 0 e)) (fun e => x2 (ix2 6 ⟨640 + (e : ℕ), by omega⟩)) e := by
  pointwise [k0_pay417, k0_pay418, k0_pay419, k0_pay420, k0_pay422, k0_pay423, k0_pay424, k0_pay640, k0_pay641]
  simp only [u5, w5, ai5, qd5, zero_sub]
  rfl

theorem ot5_7 (e : Fin 128) : (k0_pay432 (k0_pay428 (k0_pay635 x0 x1 x2 x3 x4 x5 x6 x7 x8) (k0_pay636 x0 x1 x2 x3 x4 x5 x6 x7 x8) (k0_pay637 x0 x1 x2 x3 x4 x5 x6 x7 x8) (k0_pay638 x0 x1 x2 x3 x4 x5 x6 x7 x8) (View.ld x4 r0_110)) (k0_pay430 (View.ld x2 r0_95)) (View.ld x8 r0_9) (k0_pay431 (k0_pay635 x0 x1 x2 x3 x4 x5 x6 x7 x8) (k0_pay636 x0 x1 x2 x3 x4 x5 x6 x7 x8) (k0_pay637 x0 x1 x2 x3 x4 x5 x6 x7 x8) (k0_pay638 x0 x1 x2 x3 x4 x5 x6 x7 x8) (View.ld x4 r0_110)) : FVec Ideal S1x128 .f32) (ix2 0 e)
    = gated (orow (qrow (yrow (Yv x0 x1 x2 x3 x4 x5 x6 x7 x8) 7 640 (by omega))) (l2 (yrow (Yv x0 x1 x2 x3 x4 x5 x6 x7 x8) 7 1664 (by omega))) (yrow (Yv x0 x1 x2 x3 x4 x5 x6 x7 x8) 7 2688 (by omega)) (Ideal.exp (Gv x0 x1 x2 x3 x4 x5 x6 x7 x8 (ix2 7 53))) (Bv x0 x1 x2 x3 x4 x5 x6 x7 x8 (ix2 7 61)) (fun d e => x4 (ix4 7 5 d e))) (fun e => x8 (ix2 0 e)) (fun e => x2 (ix2 7 ⟨640 + (e : ℕ), by omega⟩)) e := by
  pointwise [k0_pay425, k0_pay426, k0_pay427, k0_pay428, k0_pay430, k0_pay431, k0_pay432]
  simp only [u5, w5, ai5, qd5, zero_sub]
  rfl

theorem ot6_0 (e : Fin 128) : (k0_pay449 (k0_pay446 (k0_pay642 x0 x1 x2 x3 x4 x5 x6 x7 x8) (k0_pay643 x0 x1 x2 x3 x4 x5 x6 x7 x8) (k0_pay644 x0 x1 x2 x3 x4 x5 x6 x7 x8) (k0_pay645 x0 x1 x2 x3 x4 x5 x6 x7 x8) (k0_pay646 x0 x1 x2 x3 x4 x5 x6 x7 x8) (k0_pay647 x0 x1 x2 x3 x4 x5 x6 x7 x8) (View.ld x4 r0_113)) (k0_pay448 (View.ld x2 r0_112)) (View.ld x8 r0_9) : FVec Ideal S1x128 .f32) (ix2 0 e)
    = gated (orow (qrow (yrow (Yv x0 x1 x2 x3 x4 x5 x6 x7 x8) 0 768 (by omega))) (l2 (yrow (Yv x0 x1 x2 x3 x4 x5 x6 x7 x8) 0 1792 (by omega))) (yrow (Yv x0 x1 x2 x3 x4 x5 x6 x7 x8) 0 2816 (by omega)) (Ideal.exp (Gv x0 x1 x2 x3 x4 x5 x6 x7 x8 (ix2 0 54))) (Bv x0 x1 x2 x3 x4 x5 x6 x7 x8 (ix2 0 62)) (fun d e => x4 (ix4 0 6 d e))) (fun e => x8 (ix2 0 e)) (fun e => x2 (ix2 0 ⟨768 + (e : ℕ), by omega⟩)) e := by
  pointwise [k0_pay433, k0_pay434, k0_pay435, k0_pay436, k0_pay438, k0_pay439, k0_pay440, k0_pay441, k0_pay442, k0_pay443, k0_pay444, k0_pay445, k0_pay446, k0_pay448, k0_pay449, k0_pay576, k0_pay577, k0_pay642, k0_pay646, k0_pay647]
  simp only [k6, eg6, u6, zero_sub]
  rfl

theorem ot6_1 (e : Fin 128) : (k0_pay456 (View.ld x2 r0_112) (k0_pay453 (k0_pay645 x0 x1 x2 x3 x4 x5 x6 x7 x8) (k0_pay648 x0 x1 x2 x3 x4 x5 x6 x7 x8) (k0_pay649 x0 x1 x2 x3 x4 x5 x6 x7 x8) (k0_pay650 x0 x1 x2 x3 x4 x5 x6 x7 x8) (View.ld x4 r0_115)) (View.ld x8 r0_9) : FVec Ideal S1x128 .f32) (ix2 0 e)
    = gated (orow (qrow (yrow (Yv x0 x1 x2 x3 x4 x5 x6 x7 x8) 1 768 (by omega))) (l2 (yrow (Yv x0 x1 x2 x3 x4 x5 x6 x7 x8) 1 1792 (by omega))) (yrow (Yv x0 x1 x2 x3 x4 x5 x6 x7 x8) 1 2816 (by omega)) (Ideal.exp (Gv x0 x1 x2 x3 x4 x5 x6 x7 x8 (ix2 1 54))) (Bv x0 x1 x2 x3 x4 x5 x6 x7 x8 (ix2 1 62)) (fun d e => x4 (ix4 1 6 d e))) (fun e => x8 (ix2 0 e)) (fun e => x2 (ix2 1 ⟨768 + (e : ℕ), by omega⟩)) e := by
  pointwise [k0_pay450, k0_pay451, k0_pay452, k0_pay453, k0_pay456]
  simp only [u6, w6, ai6, qd6, zero_sub]
  rfl

theorem ot6_2 (e : Fin 128) : (k0_pay466 (k0_pay463 (View.ld x2 r0_112)) (k0_pay464 (k0_pay645 x0 x1 x2 x3 x4 x5 x6 x7 x8) (k0_pay649 x0 x1 x2 x3 x4 x5 x6 x7 x8) (k0_pay651 x0 x1 x2 x3 x4 x5 x6 x7 x8) (k0_pay652 x0 x1 x2 x3 x4 x5 x6 x7 x8) (k0_pay653 x0 x1 x2 x3 x4 x5 x6 x7 x8) (View.ld x8 r0_9)) (k0_pay465 (View.ld x2 r0_112)) : FVec Ideal S1x128 .f32) (ix2 0 e)
    = gated (orow (qrow (yrow (Yv x0 x1 x2 x3 x4 x5 x6 x7 x8) 2 768 (by omega))) (l2 (yrow (Yv x0 x1 x2 x3 x4 x5 x6 x7 x8) 2 1792 (by omega))) (yrow (Yv x0 x1 x2 x3 x4 x5 x6 x7 x8) 2 2816 (by omega)) (Ideal.exp (Gv x0 x1 x2 x3 x4 x5 x6 x7 x8 (ix2 2 54))) (Bv x0 x1 x2 x3 x4 x5 x6 x7 x8 (ix2 2 62)) (fun d e => x4 (ix4 2 6 d e))) (fun e => x8 (ix2 0 e)) (fun e => x2 (ix2 2 ⟨768 + (e : ℕ), by omega⟩)) e := by
  pointwise [k0_pay457, k0_pay458, k0_pay459, k0_pay460, k0_pay461, k0_pay463, k0_pay464, k0_pay465, k0_pay466, k0_pay651, k0_pay652, k0_pay653]
  simp only [u6, w6, ai6, qd6, zero_sub]
  rfl

theorem ot6_3 (e : Fin 128) : (k0_pay472 (View.ld x2 r0_112) (k0_pay470 (k0_pay645 x0 x1 x2 x3 x4 x5 x6 x7 x8) (k0_pay648 x0 x1 x2 x3 x4 x5 x6 x7 x8) (k0_pay649 x0 x1 x2 x3 x4 x5 x6 x7 x8) (k0_pay650 x0 x1 x2 x3 x4 x5 x6 x7 x8) (View.ld x4 r0_119)) (View.ld x8 r0_9) : FVec Ideal S1x128 .f32) (ix2 0 e)
    = gated (orow (qrow (yrow (Yv x0 x1 x2 x3 x4 x5 x6 x7 x8) 3 768 (by omega))) (l2 (yrow (Yv x0 x1 x2 x3 x4 x5 x6 x7 x8) 3 1792 (by omega))) (yrow (Yv x0 x1 x2 x3 x4 x5 x6 x7 x8) 3 2816 (by omega)) (Ideal.exp (Gv x0 x1 x2 x3 x4 x5 x6 x7 x8 (ix2 3 54))) (Bv x0 x1 x2 x3 x4 x5 x6 x7 x8 (ix2 3 62)) (fun d e => x4 (ix4 3 6 d e))) (fun e => x8 (ix2 0 e)) (fun e => x2 (ix2 3 ⟨768 + (e : ℕ), by omega⟩)) e := by
  pointwise [k0_pay467, k0_pay468, k0_pay469, k0_pay470, k0_pay472]
  simp only [u6, w6, ai6, qd6, zero_sub]
  rfl

theorem ot6_4 (e : Fin 128) : (k0_pay479 (View.ld x2 r0_112) (k0_pay476 (k0_pay645 x0 x1 x2 x3 x4 x5 x6 x7 x8) (k0_pay648 x0 x1 x2 x3 x4 x5 x6 x7 x8) (k0_pay649 x0 x1 x2 x3 x4 x5 x6 x7 x8) (k0_pay650 x0 x1 x2 x3 x4 x5 x6 x7 x8) (View.ld x4 r0_121)) (View.ld x8 r0_9) : FVec Ideal S1x128 .f32) (ix2 0 e)
    = gated (orow (qrow (yrow (Yv x0 x1 x2 x3 x4 x5 x6 x7 x8) 4 768 (by omega))) (l2 (yrow (Yv x0 x1 x2 x3 x4 x5 x6 x7 x8) 4 1792 (by omega))) (yrow (Yv x0 x1 x2 x3 x4 x5 x6 x7 x8) 4 2816 (by omega)) (Ideal.exp (Gv x0 x1 x2 x3 x4 x5 x6 x7 x8 (ix2 4 54))) (Bv x0 x1 x2 x3 x4 x5 x6 x7 x8 (ix2 4 62)) (fun d e => x4 (ix4 4 6 d e))) (fun e => x8 (ix2 0 e)) (fun e => x2 (ix2 4 ⟨768 + (e : ℕ), by omega⟩)) e := by
  pointwise [k0_pay473, k0_pay474, k0_pay475, k0_pay476, k0_pay479]
  simp only [u6, w6, ai6, qd6, zero_sub]
  rfl

theorem ot6_5 (e : Fin 128) : (k0_pay486 (k0_pay484 (View.ld x2 r0_112)) (k0_pay485 (k0_pay645 x0 x1 x2 x3 x4 x5 x6 x7 x8) (k0_pay648 x0 x1 x2 x3 x4 x5 x6 x7 x8) (k0_pay649 x0 x1 x2 x3 x4 x5 x6 x7 x8) (k0_pay650 x0 x1 x2 x3 x4 x5 x6 x7 x8) (View.ld x4 r0_123) (View.ld x8 r0_9)) : FVec Ideal S1x128 .f32) (ix2 0 e)
    = gated (orow (qrow (yrow (Yv x0 x1 x2 x3 x4 x5 x6 x7 x8) 5 768 (by omega))) (l2 (yrow (Yv x0 x1 x2 x3 x4 x5 x6 x7 x8) 5 1792 (by omega))) (yrow (Yv x0 x1 x2 x3 x4 x5 x6 x7 x8) 5 2816 (by omega)) (Ideal.exp (Gv x0 x1 x2 x3 x4 x5 x6 x7 x8 (ix2 5 54))) (Bv x0 x1 x2 x3 x4 x5 x6 x7 x8 (ix2 5 62)) (fun d e => x4 (ix4 5 6 d e))) (fun e => x8 (ix2 0 e)) (fun e => x2 (ix2 5 ⟨768 + (e : ℕ), by omega⟩)) e := by
  pointwise [k0_pay480, k0_pay481, k0_pay482, k0_pay484, k0_pay485, k0_pay486]
  simp only [u6, w6, ai6, qd6, zero_sub]
  rfl

theorem ot6_6 (e : Fin 128) : (k0_pay493 (View.ld x2 r0_112) (k0_pay490 (k0_pay645 x0 x1 x2 x3 x4 x5 x6 x7 x8) (k0_pay648 x0 x1 x2 x3 x4 x5 x6 x7 x8) (k0_pay649 x0 x1 x2 x3 x4 x5 x6 x7 x8) (k0_pay650 x0 x1 x2 x3 x4 x5 x6 x7 x8) (View.ld x4 r0_125)) (View.ld x8 r0_9) : FVec Ideal S1x128 .f32) (ix2 0 e)
    = gated (orow (qrow (yrow (Yv x0 x1 x2 x3 x4 x5 x6 x7 x8) 6 768 (by omega))) (l2 (yrow (Yv x0 x1 x2 x3 x4 x5 x6 x7 x8) 6 1792 (by omega))) (yrow (Yv x0 x1 x2 x3 x4 x5 x6 x7 x8) 6 2816 (by omega)) (Ideal.exp (Gv x0 x1 x2 x3 x4 x5 x6 x7 x8 (ix2 6 54))) (Bv x0 x1 x2 x3 x4 x5 x6 x7 x8 (ix2 6 62)) (fun d e => x4 (ix4 6 6 d e))) (fun e => x8 (ix2 0 e)) (fun e => x2 (ix2 6 ⟨768 + (e : ℕ), by omega⟩)) e := by
  pointwise [k0_pay487, k0_pay488, k0_pay489, k0_pay490, k0_pay493]
  simp only [u6, w6, ai6, qd6, zero_sub]
  rfl

theorem ot6_7 (e : Fin 128) : (k0_pay499 (View.ld x2 r0_112) (k0_pay497 (k0_pay645 x0 x1 x2 x3 x4 x5 x6 x7 x8) (k0_pay648 x0 x1 x2 x3 x4 x5 x6 x7 x8) (k0_pay649 x0 x1 x2 x3 x4 x5 x6 x7 x8) (k0_pay650 x0 x1 x2 x3 x4 x5 x6 x7 x8) (View.ld x4 r0_127)) (View.ld x8 r0_9) : FVec Ideal S1x128 .f32) (ix2 0 e)
    = gated (orow (qrow (yrow (Yv x0 x1 x2 x3 x4 x5 x6 x7 x8) 7 768 (by omega))) (l2 (yrow (Yv x0 x1 x2 x3 x4 x5 x6 x7 x8) 7 1792 (by omega))) (yrow (Yv x0 x1 x2 x3 x4 x5 x6 x7 x8) 7 2816 (by omega)) (Ideal.exp (Gv x0 x1 x2 x3 x4 x5 x6 x7 x8 (ix2 7 54))) (Bv x0 x1 x2 x3 x4 x5 x6 x7 x8 (ix2 7 62)) (fun d e => x4 (ix4 7 6 d e))) (fun e => x8 (ix2 0 e)) (fun e => x2 (ix2 7 ⟨768 + (e : ℕ), by omega⟩)) e := by
  pointwise [k0_pay494, k0_pay495, k0_pay496, k0_pay497, k0_pay499]
  simp only [u6, w6, ai6, qd6, zero_sub]
  rfl

theorem ot7_0 (e : Fin 128) : (k0_pay514 (k0_pay660 x0 x1 x2 x3 x4 x5 x6 x7 x8) (View.ld x2 r0_129) (k0_pay511 (k0_pay572 x0 x1 x2 x3 x4 x5 x6 x7 x8) (k0_pay576 x0 x1 x2 x3 x4 x5 x6 x7 x8) (k0_pay577 x0 x1 x2 x3 x4 x5 x6 x7 x8) (k0_pay654 x0 x1 x2 x3 x4 x5 x6 x7 x8) (k0_pay655 x0 x1 x2 x3 x4 x5 x6 x7 x8) (View.ld x4 r0_130)) (k0_pay662 x0 x1 x2 x3 x4 x5 x6 x7 x8) (View.ld x8 r0_9) : FVec Ideal S1x128 .f32) (ix2 0 e)
    = gated (orow (qrow (yrow (Yv x0 x1 x2 x3 x4 x5 x6 x7 x8) 0 896 (by omega))) (l2 (yrow (Yv x0 x1 x2 x3 x4 x5 x6 x7 x8) 0 1920 (by omega))) (yrow (Yv x0 x1 x2 x3 x4 x5 x6 x7 x8) 0 2944 (by omega)) (Ideal.exp (Gv x0 x1 x2 x3 x4 x5 x6 x7 x8 (ix2 0 55))) (Bv x0 x1 x2 x3 x4 x5 x6 x7 x8 (ix2 0 63)) (fun d e => x4 (ix4 0 7 d e))) (fun e => x8 (ix2 0 e)) (fun e => x2 (ix2 0 ⟨896 + (e : ℕ), by omega⟩)) e := by
  pointwise [k0_pay500, k0_pay501, k0_pay502, k0_pay503, k0_pay504, k0_pay505, k0_pay506, k0_pay507, k0_pay509, k0_pay510, k0_pay511, k0_pay512, k0_pay514, k0_pay576, k0_pay577, k0_pay654, k0_pay655, k0_pay662]
  simp only [ai7, zero_sub]
  rfl

theorem ot7_1 (e : Fin 128) : (k0_pay523 (k0_pay518 (k0_pay658 x0 x1 x2 x3 x4 x5 x6 x7 x8) (k0_pay659 x0 x1 x2 x3 x4 x5 x6 x7 x8) (k0_pay660 x0 x1 x2 x3 x4 x5 x6 x7 x8) (k0_pay661 x0 x1 x2 x3 x4 x5 x6 x7 x8) (View.ld x4 r0_132)) (k0_pay520 (View.ld x2 r0_129)) (View.ld x8 r0_9) (k0_pay521 (k0_pay658 x0 x1 x2 x3 x4 x5 x6 x7 x8) (k0_pay659 x0 x1 x2 x3 x4 x5 x6 x7 x8) (k0_pay660 x0 x1 x2 x3 x4 x5 x6 x7 x8) (k0_pay661 x0 x1 x2 x3 x4 x5 x6 x7 x8) (View.ld x4 r0_132)) (k0_pay522 (F := Ideal)) : FVec Ideal S1x128 .f32) (ix2 0 e)
    = gated (orow (qrow (yrow (Yv x0 x1 x2 x3 x4 x5 x6 x7 x8) 1 896 (by omega))) (l2 (yrow (Yv x0 x1 x2 x3 x4 x5 x6 x7 x8) 1 1920 (by omega))) (yrow (Yv x0 x1 x2 x3 x4 x5 x6 x7 x8) 1 2944 (by omega)) (Ideal.exp (Gv x0 x1 x2 x3 x4 x5 x6 x7 x8 (ix2 1 55))) (Bv x0 x1 x2 x3 x4 x5 x6 x7 x8 (ix2 1 63)) (fun d e => x4 (ix4 1 7 d e))) (fun e => x8 (ix2 0 e)) (fun e => x2 (ix2 1 ⟨896 + (e : ℕ), by omega⟩)) e := by
  pointwise [k0_pay515, k0_pay516, k0_pay517, k0_pay518, k0_pay520, k0_pay521, k0_pay522, k0_pay523]
  simp only [u7, w7, ai7, qd7, zero_sub]
  rfl

theorem ot7_2 (e : Fin 128) : (k0_pay531 (View.ld x2 r0_129) (k0_pay527 (k0_pay658 x0 x1 x2 x3 x4 x5 x6 x7 x8) (k0_pay659 x0 x1 x2 x3 x4 x5 x6 x7 x8) (k0_pay660 x0 x1 x2 x3 x4 x5 x6 x7 x8) (k0_pay661 x0 x1 x2 x3 x4 x5 x6 x7 x8) (View.ld x4 r0_134)) (View.ld x8 r0_9) : FVec Ideal S1x128 .f32) (ix2 0 e)
    = gated (orow (qrow (yrow (Yv x0 x1 x2 x3 x4 x5 x6 x7 x8) 2 896 (by omega))) (l2 (yrow (Yv x0 x1 x2 x3 x4 x5 x6 x7 x8) 2 1920 (by omega))) (yrow (Yv x0 x1 x2 x3 x4 x5 x6 x7 x8) 2 2944 (by omega)) (Ideal.exp (Gv x0 x1 x2 x3 x4 x5 x6 x7 x8 (ix2 2 55))) (Bv x0 x1 x2 x3 x4 x5 x6 x7 x8 (ix2 2 63)) (fun d e => x4 (ix4 2 7 d e))) (fun e => x8 (ix2 0 e)) (fun e => x2 (ix2 2 ⟨896 + (e : ℕ), by omega⟩)) e := by
  pointwise [k0_pay524, k0_pay525, k0_pay526, k0_pay527, k0_pay531]
  simp only [u7, w7, ai7, qd7, zero_sub]
  rfl

theorem ot7_3 (e : Fin 128) : (k0_pay539 (k0_pay536 (View.ld x2 r0_129)) (k0_pay537 (k0_pay658 x0 x1 x2 x3 x4 x5 x6 x7 x8) (k0_pay660 x0 x1 x2 x3 x4 x5 x6 x7 x8) (k0_pay663 x0 x1 x2 x3 x4 x5 x6 x7 x8) (View.ld x8 r0_9)) (k0_pay538 (View.ld x2 r0_129)) : FVec Ideal S1x128 .f32) (ix2 0 e)
    = gated (orow (qrow (yrow (Yv x0 x1 x2 x3 x4 x5 x6 x7 x8) 3 896 (by omega))) (l2 (yrow (Yv x0 x1 x2 x3 x4 x5 x6 x7 x8) 3 1920 (by omega))) (yrow (Yv x0 x1 x2 x3 x4 x5 x6 x7 x8) 3 2944 (by omega)) (Ideal.exp (Gv x0 x1 x2 x3 x4 x5 x6 x7 x8 (ix2 3 55))) (Bv x0 x1 x2 x3 x4 x5 x6 x7 x8 (ix2 3 63)) (fun d e => x4 (ix4 3 7 d e))) (fun e => x8 (ix2 0 e)) (fun e => x2 (ix2 3 ⟨896 + (e : ℕ), by omega⟩)) e := by
  pointwise [k0_pay532, k0_pay533, k0_pay534, k0_pay536, k0_pay537, k0_pay538, k0_pay539, k0_pay663]
  simp only [u7, w7, ai7, qd7, zero_sub]
  rfl

theorem ot7_4 (e : Fin 128) : (k0_pay547 (k0_pay543 (k0_pay658 x0 x1 x2 x3 x4 x5 x6 x7 x8) (k0_pay659 x0 x1 x2 x3 x4 x5 x6 x7 x8) (k0_pay660 x0 x1 x2 x3 x4 x5 x6 x7 x8) (k0_pay661 x0 x1 x2 x3 x4 x5 x6 x7 x8) (View.ld x4 r0_138)) (k0_pay545 (View.ld x2 r0_129)) (View.ld x8 r0_9) (k0_pay546 (k0_pay658 x0 x1 x2 x3 x4 x5 x6 x7 x8) (k0_pay659 x0 x1 x2 x3 x4 x5 x6 x7 x8) (k0_pay660 x0 x1 x2 x3 x4 x5 x6 x7 x8) (k0_pay661 x0 x1 x2 x3 x4 x5 x6 x7 x8) (View.ld x4 r0_138)) : FVec Ideal S1x128 .f32) (ix2 0 e)
    = gated (orow (qrow (yrow (Yv x0 x1 x2 x3 x4 x5 x6 x7 x8) 4 896 (by omega))) (l2 (yrow (Yv x0 x1 x2 x3 x4 x5 x6 x7 x8) 4 1920 (by omega))) (yrow (Yv x0 x1 x2 x3 x4 x5 x6 x7 x8) 4 2944 (by omega)) (Ideal.exp (Gv x0 x1 x2 x3 x4 x5 x6 x7 x8 (ix2 4 55))) (Bv x0 x1 x2 x3 x4 x5 x6 x7 x8 (ix2 4 63)) (fun d e => x4 (ix4 4 7 d e))) (fun e => x8 (ix2 0 e)) (fun e => x2 (ix2 4 ⟨896 + (e : ℕ), by omega⟩)) e := by
  pointwise [k0_pay540, k0_pay541, k0_pay542, k0_pay543, k0_pay545, k0_pay546, k0_pay547]
  simp only [u7, w7, ai7, qd7, zero_sub]
  rfl

theorem ot7_5 (e : Fin 128) : (k0_pay555 (View.ld x2 r0_129) (k0_pay551 (k0_pay658 x0 x1 x2 x3 x4 x5 x6 x7 x8) (k0_pay659 x0 x1 x2 x3 x4 x5 x6 x7 x8) (k0_pay660 x0 x1 x2 x3 x4 x5 x6 x7 x8) (k0_pay661 x0 x1 x2 x3 x4 x5 x6 x7 x8) (View.ld x4 r0_140)) (View.ld x8 r0_9) : FVec Ideal S1x128 .f32) (ix2 0 e)
    = gated (orow (qrow (yrow (Yv x0 x1 x2 x3 x4 x5 x6 x7 x8) 5 896 (by omega))) (l2 (yrow (Yv x0 x1 x2 x3 x4 x5 x6 x7 x8) 5 1920 (by omega))) (yrow (Yv x0 x1 x2 x3 x4 x5 x6 x7 x8) 5 2944 (by omega)) (Ideal.exp (Gv x0 x1 x2 x3 x4 x5 x6 x7 x8 (ix2 5 55))) (Bv x0 x1 x2 x3 x4 x5 x6 x7 x8 (ix2 5 63)) (fun d e => x4 (ix4 5 7 d e))) (fun e => x8 (ix2 0 e)) (fun e => x2 (ix2 5 ⟨896 + (e : ℕ), by omega⟩)) e := by
  pointwise [k0_pay548, k0_pay549, k0_pay550, k0_pay551, k0_pay555]
  simp only [u7, w7, ai7, qd7, zero_sub]
  rfl

theorem ot7_6 (e : Fin 128) : (k0_pay564 (k0_pay561 (View.ld x2 r0_129)) (k0_pay562 (k0_pay658 x0 x1 x2 x3 x4 x5 x6 x7 x8) (k0_pay660 x0 x1 x2 x3 x4 x5 x6 x7 x8) (k0_pay664 x0 x1 x2 x3 x4 x5 x6 x7 x8) (k0_pay665 x0 x1 x2 x3 x4 x5 x6 x7 x8) (View.ld x8 r0_9)) (k0_pay563 (View.ld x2 r0_129)) : FVec Ideal S1x128 .f32) (ix2 0 e)
    = gated (orow (qrow (yrow (Yv x0 x1 x2 x3 x4 x5 x6 x7 x8) 6 896 (by omega))) (l2 (yrow (Yv x0 x1 x2 x3 x4 x5 x6 x7 x8) 6 1920 (by omega))) (yrow (Yv x0 x1 x2 x3 x4 x5 x6 x7 x8) 6 2944 (by omega)) (Ideal.exp (Gv x0 x1 x2 x3 x4 x5 x6 x7 x8 (ix2 6 55))) (Bv x0 x1 x2 x3 x4 x5 x6 x7 x8 (ix2 6 63)) (fun d e => x4 (ix4 6 7 d e))) (fun e => x8 (ix2 0 e)) (fun e => x2 (ix2 6 ⟨896 + (e : ℕ), by omega⟩)) e := by
  pointwise [k0_pay556, k0_pay557, k0_pay558, k0_pay559, k0_pay561, k0_pay562, k0_pay563, k0_pay564, k0_pay664, k0_pay665]
  simp only [u7, w7, ai7, qd7, zero_sub]
  rfl

theorem ot7_7 (e : Fin 128) : (k0_pay571 (k0_pay568 (k0_pay658 x0 x1 x2 x3 x4 x5 x6 x7 x8) (k0_pay659 x0 x1 x2 x3 x4 x5 x6 x7 x8) (k0_pay660 x0 x1 x2 x3 x4 x5 x6 x7 x8) (k0_pay661 x0 x1 x2 x3 x4 x5 x6 x7 x8) (View.ld x4 r0_144)) (k0_pay570 (View.ld x2 r0_129)) (View.ld x8 r0_9) : FVec Ideal S1x128 .f32) (ix2 0 e)
    = gated (orow (qrow (yrow (Yv x0 x1 x2 x3 x4 x5 x6 x7 x8) 7 896 (by omega))) (l2 (yrow (Yv x0 x1 x2 x3 x4 x5 x6 x7 x8) 7 1920 (by omega))) (yrow (Yv x0 x1 x2 x3 x4 x5 x6 x7 x8) 7 2944 (by omega)) (Ideal.exp (Gv x0 x1 x2 x3 x4 x5 x6 x7 x8 (ix2 7 55))) (Bv x0 x1 x2 x3 x4 x5 x6 x7 x8 (ix2 7 63)) (fun d e => x4 (ix4 7 7 d e))) (fun e => x8 (ix2 0 e)) (fun e => x2 (ix2 7 ⟨896 + (e : ℕ), by omega⟩)) e := by
  pointwise [k0_pay565, k0_pay566, k0_pay567, k0_pay568, k0_pay570, k0_pay571]
  simp only [u7, w7, ai7, qd7, zero_sub]
  rfl

end Cert.KernelIdeal.Value

end
-- ==== Proof.DnTile.lean ====
module

public import proofs.«01_k».proof.Proof.DnStateA
public import proofs.«01_k».proof.Proof.DnStateB
public import proofs.«01_k».proof.Proof.DnOutA
public import proofs.«01_k».proof.Proof.DnOutB
public import proofs.«01_k».proof.Proof.Gen.KernelIdeal.Value
public import Idealize.ShloMosaic.Lib.Pipeline.ValueKit
public import Idealize.ShloMosaic.Lib.Pointwise

/-! What one grid point of the recurrent step's kernel stores, for a sample and a head of the block. -/

@[expose] public section

set_option maxRecDepth 16384

noncomputable section

namespace Cert.KernelIdeal.Value

open Cert.KernelIdeal Cert.KernelIdeal.Gen Idealize.ShloMosaic Idealize.ShloMosaic.TcCoe Idealize.SL.Sem
open scoped BigOperators

variable (x0 : Vec Ideal S8x3072 .f32) (x1 : Vec Ideal S3x8x3072 .f32) (x2 : Vec Ideal S8x1024 .f32) (x3 : Vec Ideal S8x128 .f32)
  (x4 : Vec Ideal S8x8x128x128 .f32) (x5 : Vec Ideal S4x3072 .f32) (x6 : Vec Ideal S1x128 .f32) (x7 : Vec Ideal S1x128 .f32)
  (x8 : Vec Ideal S1x128 .f32)

open Cert.Proof

/-- The new state of a sample and a head of the block. -/
def St (r h : Fin 8) (d e : Fin 128) : EReal :=
  snew (l2 (yrow (Yv x0 x1 x2 x3 x4 x5 x6 x7 x8) r (1024 + 128 * (h : ℕ)) (by omega)))
    (yrow (Yv x0 x1 x2 x3 x4 x5 x6 x7 x8) r (2048 + 128 * (h : ℕ)) (by omega))
    (Ideal.exp (Gv x0 x1 x2 x3 x4 x5 x6 x7 x8 (ix2 r ⟨48 + (h : ℕ), by omega⟩)))
    (Bv x0 x1 x2 x3 x4 x5 x6 x7 x8 (ix2 r ⟨56 + (h : ℕ), by omega⟩)) (fun d e => x4 (ix4 r h d e)) d e

/-- The gated output row of a sample and a head of the block. -/
def Ot (r h : Fin 8) (e : Fin 128) : EReal :=
  gated (orow (qrow (yrow (Yv x0 x1 x2 x3 x4 x5 x6 x7 x8) r (128 * (h : ℕ)) (by omega)))
      (l2 (yrow (Yv x0 x1 x2 x3 x4 x5 x6 x7 x8) r (1024 + 128 * (h : ℕ)) (by omega)))
      (yrow (Yv x0 x1 x2 x3 x4 x5 x6 x7 x8) r (2048 + 128 * (h : ℕ)) (by omega))
      (Ideal.exp (Gv x0 x1 x2 x3 x4 x5 x6 x7 x8 (ix2 r ⟨48 + (h : ℕ), by omega⟩)))
      (Bv x0 x1 x2 x3 x4 x5 x6 x7 x8 (ix2 r ⟨56 + (h : ℕ), by omega⟩)) (fun d e => x4 (ix4 r h d e)))
    (fun e => x8 (ix2 0 e)) (fun e => x2 (ix2 r ⟨128 * (h : ℕ) + (e : ℕ), by omega⟩)) e

/-- An index of a tile of one sample and one head. -/
theorem ix4_tile (x : S1x1x128x128.Idx) : x = ix4 0 0 (x 2) (x 3) := by
  have e := eq_ix4 x
  rwa [show x 0 = (0 : Fin 1) from Subsingleton.elim (α := Fin 1) _ _, show x 1 = (0 : Fin 1) from Subsingleton.elim (α := Fin 1) _ _] at e

/-- An index of a row of one sample. -/
theorem ix2_tile (x : S1x128.Idx) : x = ix2 0 (x 1) := by
  have e := eq_ix2 x
  rwa [show x 0 = (0 : Fin 1) from Subsingleton.elim (α := Fin 1) _ _] at e

/-- Every tile of the stored block of states. -/
theorem tiles11 (y : S8x8x128x128.Idx) (r h : Fin 8) (d e : Fin 128) (h0 : (r : ℕ) = y 0) (h1 : (h : ℕ) = y 1) (h2 : (d : ℕ) = y 2)
    (h3 : (e : ℕ) = y 3) : out0_11 (F := Ideal) x0 x1 x2 x3 x4 x5 x6 x7 x8 y = St x0 x1 x2 x3 x4 x5 x6 x7 x8 r h d e := by
  unfold out0_11
  canon_tiles x hx
  · obtain rfl : r = 7 := Fin.ext (show (r : ℕ) = 7 by omega)
    obtain rfl : h = 7 := Fin.ext (show (h : ℕ) = 7 by omega)
    obtain rfl : d = x 2 := Fin.ext (h2.trans hx2)
    obtain rfl : e = x 3 := Fin.ext (h3.trans hx3)
    exact (congrArg _ (ix4_tile x)).trans (st7_7 x0 x1 x2 x3 x4 x5 x6 x7 x8 (x 2) (x 3))
  · obtain rfl : r = 6 := Fin.ext (show (r : ℕ) = 6 by omega)
    obtain rfl : h = 7 := Fin.ext (show (h : ℕ) = 7 by omega)
    obtain rfl : d = x 2 := Fin.ext (h2.trans hx2)
    obtain rfl : e = x 3 := Fin.ext (h3.trans hx3)
    exact (congrArg _ (ix4_tile x)).trans (st7_6 x0 x1 x2 x3 x4 x5 x6 x7 x8 (x 2) (x 3))
  · obtain rfl : r = 5 := Fin.ext (show (r : ℕ) = 5 by omega)
    obtain rfl : h = 7 := Fin.ext (show (h : ℕ) = 7 by omega)
    obtain rfl : d = x 2 := Fin.ext (h2.trans hx2)
    obtain rfl : e = x 3 := Fin.ext (h3.trans hx3)
    exact (congrArg _ (ix4_tile x)).trans (st7_5 x0 x1 x2 x3 x4 x5 x6 x7 x8 (x 2) (x 3))
  · obtain rfl : r = 4 := Fin.ext (show (r : ℕ) = 4 by omega)
    obtain rfl : h = 7 := Fin.ext (show (h : ℕ) = 7 by omega)
    obtain rfl : d = x 2 := Fin.ext (h2.trans hx2)
    obtain rfl : e = x 3 := Fin.ext (h3.trans hx3)
    exact (congrArg _ (ix4_tile x)).trans (st7_4 x0 x1 x2 x3 x4 x5 x6 x7 x8 (x 2) (x 3))
  · obtain rfl : r = 3 := Fin.ext (show (r : ℕ) = 3 by omega)
    obtain rfl : h = 7 := Fin.ext (show (h : ℕ) = 7 by omega)
    obtain rfl : d = x 2 := Fin.ext (h2.trans hx2)
    obtain rfl : e = x 3 := Fin.ext (h3.trans hx3)
    exact (congrArg _ (ix4_tile x)).trans (st7_3 x0 x1 x2 x3 x4 x5 x6 x7 x8 (x 2) (x 3))
  · obtain rfl : r = 2 := Fin.ext (show (r : ℕ) = 2 by omega)
    obtain rfl : h = 7 := Fin.ext (show (h : ℕ) = 7 by omega)
    obtain rfl : d = x 2 := Fin.ext (h2.trans hx2)
    obtain rfl : e = x 3 := Fin.ext (h3.trans hx3)
    exact (congrArg _ (ix4_tile x)).trans (st7_2 x0 x1 x2 x3 x4 x5 x6 x7 x8 (x 2) (x 3))
  · obtain rfl : r = 1 := Fin.ext (show (r : ℕ) = 1 by omega)
    obtain rfl : h = 7 := Fin.ext (show (h : ℕ) = 7 by omega)
    obtain rfl : d = x 2 := Fin.ext (h2.trans hx2)
    obtain rfl : e = x 3 := Fin.ext (h3.trans hx3)
    exact (congrArg _ (ix4_tile x)).trans (st7_1 x0 x1 x2 x3 x4 x5 x6 x7 x8 (x 2) (x 3))
  · obtain rfl : r = 0 := Fin.ext (show (r : ℕ) = 0 by omega)
    obtain rfl : h = 7 := Fin.ext (show (h : ℕ) = 7 by omega)
    obtain rfl : d = x 2 := Fin.ext (h2.trans hx2)
    obtain rfl : e = x 3 := Fin.ext (h3.trans hx3)
    exact (congrArg _ (ix4_tile x)).trans (st7_0 x0 x1 x2 x3 x4 x5 x6 x7 x8 (x 2) (x 3))
  · obtain rfl : r = 7 := Fin.ext (show (r : ℕ) = 7 by omega)
    obtain rfl : h = 6 := Fin.ext (show (h : ℕ) = 6 by omega)
    obtain rfl : d = x 2 := Fin.ext (h2.trans hx2)
    obtain rfl : e = x 3 := Fin.ext (h3.trans hx3)
    exact (congrArg _ (ix4_tile x)).trans (st6_7 x0 x1 x2 x3 x4 x5 x6 x7 x8 (x 2) (x 3))
  · obtain rfl : r = 6 := Fin.ext (show (r : ℕ) = 6 by omega)
    obtain rfl : h = 6 := Fin.ext (show (h : ℕ) = 6 by omega)
    obtain rfl : d = x 2 := Fin.ext (h2.trans hx2)
    obtain rfl : e = x 3 := Fin.ext (h3.trans hx3)
    exact (congrArg _ (ix4_tile x)).trans (st6_6 x0 x1 x2 x3 x4 x5 x6 x7 x8 (x 2) (x 3))
  · obtain rfl : r = 5 := Fin.ext (show (r : ℕ) = 5 by omega)
    obtain rfl : h = 6 := Fin.ext (show (h : ℕ) = 6 by omega)
    obtain rfl : d = x 2 := Fin.ext (h2.trans hx2)
    obtain rfl : e = x 3 := Fin.ext (h3.trans hx3)
    exact (congrArg _ (ix4_tile x)).trans (st6_5 x0 x1 x2 x3 x4 x5 x6 x7 x8 (x 2) (x 3))
  · obtain rfl : r = 4 := Fin.ext (show (r : ℕ) = 4 by omega)
    obtain rfl : h = 6 := Fin.ext (show (h : ℕ) = 6 by omega)
    obtain rfl : d = x 2 := Fin.ext (h2.trans hx2)
    obtain rfl : e = x 3 := Fin.ext (h3.trans hx3)
    exact (congrArg _ (ix4_tile x)).trans (st6_4 x0 x1 x2 x3 x4 x5 x6 x7 x8 (x 2) (x 3))
  · obtain rfl : r = 3 := Fin.ext (show (r : ℕ) = 3 by omega)
    obtain rfl : h = 6 := Fin.ext (show (h : ℕ) = 6 by omega)
    obtain rfl : d = x 2 := Fin.ext (h2.trans hx2)
    obtain rfl : e = x 3 := Fin.ext (h3.trans hx3)
    exact (congrArg _ (ix4_tile x)).trans (st6_3 x0 x1 x2 x3 x4 x5 x6 x7 x8 (x 2) (x 3))
  · obtain rfl : r = 2 := Fin.ext (show (r : ℕ) = 2 by omega)
    obtain rfl : h = 6 := Fin.ext (show (h : ℕ) = 6 by omega)
    obtain rfl : d = x 2 := Fin.ext (h2.trans hx2)
    obtain rfl : e = x 3 := Fin.ext (h3.trans hx3)
    exact (congrArg _ (ix4_tile x)).trans (st6_2 x0 x1 x2 x3 x4 x5 x6 x7 x8 (x 2) (x 3))
  · obtain rfl : r = 1 := Fin.ext (show (r : ℕ) = 1 by omega)
    obtain rfl : h = 6 := Fin.ext (show (h : ℕ) = 6 by omega)
    obtain rfl : d = x 2 := Fin.ext (h2.trans hx2)
    obtain rfl : e = x 3 := Fin.ext (h3.trans hx3)
    exact (congrArg _ (ix4_tile x)).trans (st6_1 x0 x1 x2 x3 x4 x5 x6 x7 x8 (x 2) (x 3))
  · obtain rfl : r = 0 := Fin.ext (show (r : ℕ) = 0 by omega)
    obtain rfl : h = 6 := Fin.ext (show (h : ℕ) = 6 by omega)
    obtain rfl : d = x 2 := Fin.ext (h2.trans hx2)
    obtain rfl : e = x 3 := Fin.ext (h3.trans hx3)
    exact (congrArg _ (ix4_tile x)).trans (st6_0 x0 x1 x2 x3 x4 x5 x6 x7 x8 (x 2) (x 3))
  · obtain rfl : r = 7 := Fin.ext (show (r : ℕ) = 7 by omega)
    obtain rfl : h = 5 := Fin.ext (show (h : ℕ) = 5 by omega)
    obtain rfl : d = x 2 := Fin.ext (h2.trans hx2)
    obtain rfl : e = x 3 := Fin.ext (h3.trans hx3)
    exact (congrArg _ (ix4_tile x)).trans (st5_7 x0 x1 x2 x3 x4 x5 x6 x7 x8 (x 2) (x 3))
  · obtain rfl : r = 6 := Fin.ext (show (r : ℕ) = 6 by omega)
    obtain rfl : h = 5 := Fin.ext (show (h : ℕ) = 5 by omega)
    obtain rfl : d = x 2 := Fin.ext (h2.trans hx2)
    obtain rfl : e = x 3 := Fin.ext (h3.trans hx3)
    exact (congrArg _ (ix4_tile x)).trans (st5_6 x0 x1 x2 x3 x4 x5 x6 x7 x8 (x 2) (x 3))
  · obtain rfl : r = 5 := Fin.ext (show (r : ℕ) = 5 by omega)
    obtain rfl : h = 5 := Fin.ext (show (h : ℕ) = 5 by omega)
    obtain rfl : d = x 2 := Fin.ext (h2.trans hx2)
    obtain rfl : e = x 3 := Fin.ext (h3.trans hx3)
    exact (congrArg _ (ix4_tile x)).trans (st5_5 x0 x1 x2 x3 x4 x5 x6 x7 x8 (x 2) (x 3))
  · obtain rfl : r = 4 := Fin.ext (show (r : ℕ) = 4 by omega)
    obtain rfl : h = 5 := Fin.ext (show (h : ℕ) = 5 by omega)
    obtain rfl : d = x 2 := Fin.ext (h2.trans hx2)
    obtain rfl : e = x 3 := Fin.ext (h3.trans hx3)
    exact (congrArg _ (ix4_tile x)).trans (st5_4 x0 x1 x2 x3 x4 x5 x6 x7 x8 (x 2) (x 3))
  · obtain rfl : r = 3 := Fin.ext (show (r : ℕ) = 3 by omega)
    obtain rfl : h = 5 := Fin.ext (show (h : ℕ) = 5 by omega)
    obtain rfl : d = x 2 := Fin.ext (h2.trans hx2)
    obtain rfl : e = x 3 := Fin.ext (h3.trans hx3)
    exact (congrArg _ (ix4_tile x)).trans (st5_3 x0 x1 x2 x3 x4 x5 x6 x7 x8 (x 2) (x 3))
  · obtain rfl : r = 2 := Fin.ext (show (r : ℕ) = 2 by omega)
    obtain rfl : h = 5 := Fin.ext (show (h : ℕ) = 5 by omega)
    obtain rfl : d = x 2 := Fin.ext (h2.trans hx2)
    obtain rfl : e = x 3 := Fin.ext (h3.trans hx3)
    exact (congrArg _ (ix4_tile x)).trans (st5_2 x0 x1 x2 x3 x4 x5 x6 x7 x8 (x 2) (x 3))
  · obtain rfl : r = 1 := Fin.ext (show (r : ℕ) = 1 by omega)
    obtain rfl : h = 5 := Fin.ext (show (h : ℕ) = 5 by omega)
    obtain rfl : d = x 2 := Fin.ext (h2.trans hx2)
    obtain rfl : e = x 3 := Fin.ext (h3.trans hx3)
    exact (congrArg _ (ix4_tile x)).trans (st5_1 x0 x1 x2 x3 x4 x5 x6 x7 x8 (x 2) (x 3))
  · obtain rfl : r = 0 := Fin.ext (show (r : ℕ) = 0 by omega)
    obtain rfl : h = 5 := Fin.ext (show (h : ℕ) = 5 by omega)
    obtain rfl : d = x 2 := Fin.ext (h2.trans hx2)
    obtain rfl : e = x 3 := Fin.ext (h3.trans hx3)
    exact (congrArg _ (ix4_tile x)).trans (st5_0 x0 x1 x2 x3 x4 x5 x6 x7 x8 (x 2) (x 3))
  · obtain rfl : r = 7 := Fin.ext (show (r : ℕ) = 7 by omega)
    obtain rfl : h = 4 := Fin.ext (show (h : ℕ) = 4 by omega)
    obtain rfl : d = x 2 := Fin.ext (h2.trans hx2)
    obtain rfl : e = x 3 := Fin.ext (h3.trans hx3)
    exact (congrArg _ (ix4_tile x)).trans (st4_7 x0 x1 x2 x3 x4 x5 x6 x7 x8 (x 2) (x 3))
  · obtain rfl : r = 6 := Fin.ext (show (r : ℕ) = 6 by omega)
    obtain rfl : h = 4 := Fin.ext (show (h : ℕ) = 4 by omega)
    obtain rfl : d = x 2 := Fin.ext (h2.trans hx2)
    obtain rfl : e = x 3 := Fin.ext (h3.trans hx3)
    exact (congrArg _ (ix4_tile x)).trans (st4_6 x0 x1 x2 x3 x4 x5 x6 x7 x8 (x 2) (x 3))
  · obtain rfl : r = 5 := Fin.ext (show (r : ℕ) = 5 by omega)
    obtain rfl : h = 4 := Fin.ext (show (h : ℕ) = 4 by omega)
    obtain rfl : d = x 2 := Fin.ext (h2.trans hx2)
    obtain rfl : e = x 3 := Fin.ext (h3.trans hx3)
    exact (congrArg _ (ix4_tile x)).trans (st4_5 x0 x1 x2 x3 x4 x5 x6 x7 x8 (x 2) (x 3))
  · obtain rfl : r = 4 := Fin.ext (show (r : ℕ) = 4 by omega)
    obtain rfl : h = 4 := Fin.ext (show (h : ℕ) = 4 by omega)
    obtain rfl : d = x 2 := Fin.ext (h2.trans hx2)
    obtain rfl : e = x 3 := Fin.ext (h3.trans hx3)
    exact (congrArg _ (ix4_tile x)).trans (st4_4 x0 x1 x2 x3 x4 x5 x6 x7 x8 (x 2) (x 3))
  · obtain rfl : r = 3 := Fin.ext (show (r : ℕ) = 3 by omega)
    obtain rfl : h = 4 := Fin.ext (show (h : ℕ) = 4 by omega)
    obtain rfl : d = x 2 := Fin.ext (h2.trans hx2)
    obtain rfl : e = x 3 := Fin.ext (h3.trans hx3)
    exact (congrArg _ (ix4_tile x)).trans (st4_3 x0 x1 x2 x3 x4 x5 x6 x7 x8 (x 2) (x 3))
  · obtain rfl : r = 2 := Fin.ext (show (r : ℕ) = 2 by omega)
    obtain rfl : h = 4 := Fin.ext (show (h : ℕ) = 4 by omega)
    obtain rfl : d = x 2 := Fin.ext (h2.trans hx2)
    obtain rfl : e = x 3 := Fin.ext (h3.trans hx3)
    exact (congrArg _ (ix4_tile x)).trans (st4_2 x0 x1 x2 x3 x4 x5 x6 x7 x8 (x 2) (x 3))
  · obtain rfl : r = 1 := Fin.ext (show (r : ℕ) = 1 by omega)
    obtain rfl : h = 4 := Fin.ext (show (h : ℕ) = 4 by omega)
    obtain rfl : d = x 2 := Fin.ext (h2.trans hx2)
    obtain rfl : e = x 3 := Fin.ext (h3.trans hx3)
    exact (congrArg _ (ix4_tile x)).trans (st4_1 x0 x1 x2 x3 x4 x5 x6 x7 x8 (x 2) (x 3))
  · obtain rfl : r = 0 := Fin.ext (show (r : ℕ) = 0 by omega)
    obtain rfl : h = 4 := Fin.ext (show (h : ℕ) = 4 by omega)
    obtain rfl : d = x 2 := Fin.ext (h2.trans hx2)
    obtain rfl : e = x 3 := Fin.ext (h3.trans hx3)
    exact (congrArg _ (ix4_tile x)).trans (st4_0 x0 x1 x2 x3 x4 x5 x6 x7 x8 (x 2) (x 3))
  · obtain rfl : r = 7 := Fin.ext (show (r : ℕ) = 7 by omega)
    obtain rfl : h = 3 := Fin.ext (show (h : ℕ) = 3 by omega)
    obtain rfl : d = x 2 := Fin.ext (h2.trans hx2)
    obtain rfl : e = x 3 := Fin.ext (h3.trans hx3)
    exact (congrArg _ (ix4_tile x)).trans (st3_7 x0 x1 x2 x3 x4 x5 x6 x7 x8 (x 2) (x 3))
  · obtain rfl : r = 6 := Fin.ext (show (r : ℕ) = 6 by omega)
    obtain rfl : h = 3 := Fin.ext (show (h : ℕ) = 3 by omega)
    obtain rfl : d = x 2 := Fin.ext (h2.trans hx2)
    obtain rfl : e = x 3 := Fin.ext (h3.trans hx3)
    exact (congrArg _ (ix4_tile x)).trans (st3_6 x0 x1 x2 x3 x4 x5 x6 x7 x8 (x 2) (x 3))
  · obtain rfl : r = 5 := Fin.ext (show (r : ℕ) = 5 by omega)
    obtain rfl : h = 3 := Fin.ext (show (h : ℕ) = 3 by omega)
    obtain rfl : d = x 2 := Fin.ext (h2.trans hx2)
    obtain rfl : e = x 3 := Fin.ext (h3.trans hx3)
    exact (congrArg _ (ix4_tile x)).trans (st3_5 x0 x1 x2 x3 x4 x5 x6 x7 x8 (x 2) (x 3))
  · obtain rfl : r = 4 := Fin.ext (show (r : ℕ) = 4 by omega)
    obtain rfl : h = 3 := Fin.ext (show (h : ℕ) = 3 by omega)
    obtain rfl : d = x 2 := Fin.ext (h2.trans hx2)
    obtain rfl : e = x 3 := Fin.ext (h3.trans hx3)
    exact (congrArg _ (ix4_tile x)).trans (st3_4 x0 x1 x2 x3 x4 x5 x6 x7 x8 (x 2) (x 3))
  · obtain rfl : r = 3 := Fin.ext (show (r : ℕ) = 3 by omega)
    obtain rfl : h = 3 := Fin.ext (show (h : ℕ) = 3 by omega)
    obtain rfl : d = x 2 := Fin.ext (h2.trans hx2)
    obtain rfl : e = x 3 := Fin.ext (h3.trans hx3)
    exact (congrArg _ (ix4_tile x)).trans (st3_3 x0 x1 x2 x3 x4 x5 x6 x7 x8 (x 2) (x 3))
  · obtain rfl : r = 2 := Fin.ext (show (r : ℕ) = 2 by omega)
    obtain rfl : h = 3 := Fin.ext (show (h : ℕ) = 3 by omega)
    obtain rfl : d = x 2 := Fin.ext (h2.trans hx2)
    obtain rfl : e = x 3 := Fin.ext (h3.trans hx3)
    exact (congrArg _ (ix4_tile x)).trans (st3_2 x0 x1 x2 x3 x4 x5 x6 x7 x8 (x 2) (x 3))
  · obtain rfl : r = 1 := Fin.ext (show (r : ℕ) = 1 by omega)
    obtain rfl : h = 3 := Fin.ext (show (h : ℕ) = 3 by omega)
    obtain rfl : d = x 2 := Fin.ext (h2.trans hx2)
    obtain rfl : e = x 3 := Fin.ext (h3.trans hx3)
    exact (congrArg _ (ix4_tile x)).trans (st3_1 x0 x1 x2 x3 x4 x5 x6 x7 x8 (x 2) (x 3))
  · obtain rfl : r = 0 := Fin.ext (show (r : ℕ) = 0 by omega)
    obtain rfl : h = 3 := Fin.ext (show (h : ℕ) = 3 by omega)
    obtain rfl : d = x 2 := Fin.ext (h2.trans hx2)
    obtain rfl : e = x 3 := Fin.ext (h3.trans hx3)
    exact (congrArg _ (ix4_tile x)).trans (st3_0 x0 x1 x2 x3 x4 x5 x6 x7 x8 (x 2) (x 3))
  · obtain rfl : r = 7 := Fin.ext (show (r : ℕ) = 7 by omega)
    obtain rfl : h = 2 := Fin.ext (show (h : ℕ) = 2 by omega)
    obtain rfl : d = x 2 := Fin.ext (h2.trans hx2)
    obtain rfl : e = x 3 := Fin.ext (h3.trans hx3)
    exact (congrArg _ (ix4_tile x)).trans (st2_7 x0 x1 x2 x3 x4 x5 x6 x7 x8 (x 2) (x 3))
  · obtain rfl : r = 6 := Fin.ext (show (r : ℕ) = 6 by omega)
    obtain rfl : h = 2 := Fin.ext (show (h : ℕ) = 2 by omega)
    obtain rfl : d = x 2 := Fin.ext (h2.trans hx2)
    obtain rfl : e = x 3 := Fin.ext (h3.trans hx3)
    exact (congrArg _ (ix4_tile x)).trans (st2_6 x0 x1 x2 x3 x4 x5 x6 x7 x8 (x 2) (x 3))
  · obtain rfl : r = 5 := Fin.ext (show (r : ℕ) = 5 by omega)
    obtain rfl : h = 2 := Fin.ext (show (h : ℕ) = 2 by omega)
    obtain rfl : d = x 2 := Fin.ext (h2.trans hx2)
    obtain rfl : e = x 3 := Fin.ext (h3.trans hx3)
    exact (congrArg _ (ix4_tile x)).trans (st2_5 x0 x1 x2 x3 x4 x5 x6 x7 x8 (x 2) (x 3))
  · obtain rfl : r = 4 := Fin.ext (show (r : ℕ) = 4 by omega)
    obtain rfl : h = 2 := Fin.ext (show (h : ℕ) = 2 by omega)
    obtain rfl : d = x 2 := Fin.ext (h2.trans hx2)
    obtain rfl : e = x 3 := Fin.ext (h3.trans hx3)
    exact (congrArg _ (ix4_tile x)).trans (st2_4 x0 x1 x2 x3 x4 x5 x6 x7 x8 (x 2) (x 3))
  · obtain rfl : r = 3 := Fin.ext (show (r : ℕ) = 3 by omega)
    obtain rfl : h = 2 := Fin.ext (show (h : ℕ) = 2 by omega)
    obtain rfl : d = x 2 := Fin.ext (h2.trans hx2)
    obtain rfl : e = x 3 := Fin.ext (h3.trans hx3)
    exact (congrArg _ (ix4_tile x)).trans (st2_3 x0 x1 x2 x3 x4 x5 x6 x7 x8 (x 2) (x 3))
  · obtain rfl : r = 2 := Fin.ext (show (r : ℕ) = 2 by omega)
    obtain rfl : h = 2 := Fin.ext (show (h : ℕ) = 2 by omega)
    obtain rfl : d = x 2 := Fin.ext (h2.trans hx2)
    obtain rfl : e = x 3 := Fin.ext (h3.trans hx3)
    exact (congrArg _ (ix4_tile x)).trans (st2_2 x0 x1 x2 x3 x4 x5 x6 x7 x8 (x 2) (x 3))
  · obtain rfl : r = 1 := Fin.ext (show (r : ℕ) = 1 by omega)
    obtain rfl : h = 2 := Fin.ext (show (h : ℕ) = 2 by omega)
    obtain rfl : d = x 2 := Fin.ext (h2.trans hx2)
    obtain rfl : e = x 3 := Fin.ext (h3.trans hx3)
    exact (congrArg _ (ix4_tile x)).trans (st2_1 x0 x1 x2 x3 x4 x5 x6 x7 x8 (x 2) (x 3))
  · obtain rfl : r = 0 := Fin.ext (show (r : ℕ) = 0 by omega)
    obtain rfl : h = 2 := Fin.ext (show (h : ℕ) = 2 by omega)
    obtain rfl : d = x 2 := Fin.ext (h2.trans hx2)
    obtain rfl : e = x 3 := Fin.ext (h3.trans hx3)
    exact (congrArg _ (ix4_tile x)).trans (st2_0 x0 x1 x2 x3 x4 x5 x6 x7 x8 (x 2) (x 3))
  · obtain rfl : r = 7 := Fin.ext (show (r : ℕ) = 7 by omega)
    obtain rfl : h = 1 := Fin.ext (show (h : ℕ) = 1 by omega)
    obtain rfl : d = x 2 := Fin.ext (h2.trans hx2)
    obtain rfl : e = x 3 := Fin.ext (h3.trans hx3)
    exact (congrArg _ (ix4_tile x)).trans (st1_7 x0 x1 x2 x3 x4 x5 x6 x7 x8 (x 2) (x 3))
  · obtain rfl : r = 6 := Fin.ext (show (r : ℕ) = 6 by omega)
    obtain rfl : h = 1 := Fin.ext (show (h : ℕ) = 1 by omega)
    obtain rfl : d = x 2 := Fin.ext (h2.trans hx2)
    obtain rfl : e = x 3 := Fin.ext (h3.trans hx3)
    exact (congrArg _ (ix4_tile x)).trans (st1_6 x0 x1 x2 x3 x4 x5 x6 x7 x8 (x 2) (x 3))
  · obtain rfl : r = 5 := Fin.ext (show (r : ℕ) = 5 by omega)
    obtain rfl : h = 1 := Fin.ext (show (h : ℕ) = 1 by omega)
    obtain rfl : d = x 2 := Fin.ext (h2.trans hx2)
    obtain rfl : e = x 3 := Fin.ext (h3.trans hx3)
    exact (congrArg _ (ix4_tile x)).trans (st1_5 x0 x1 x2 x3 x4 x5 x6 x7 x8 (x 2) (x 3))
  · obtain rfl : r = 4 := Fin.ext (show (r : ℕ) = 4 by omega)
    obtain rfl : h = 1 := Fin.ext (show (h : ℕ) = 1 by omega)
    obtain rfl : d = x 2 := Fin.ext (h2.trans hx2)
    obtain rfl : e = x 3 := Fin.ext (h3.trans hx3)
    exact (congrArg _ (ix4_tile x)).trans (st1_4 x0 x1 x2 x3 x4 x5 x6 x7 x8 (x 2) (x 3))
  · obtain rfl : r = 3 := Fin.ext (show (r : ℕ) = 3 by omega)
    obtain rfl : h = 1 := Fin.ext (show (h : ℕ) = 1 by omega)
    obtain rfl : d = x 2 := Fin.ext (h2.trans hx2)
    obtain rfl : e = x 3 := Fin.ext (h3.trans hx3)
    exact (congrArg _ (ix4_tile x)).trans (st1_3 x0 x1 x2 x3 x4 x5 x6 x7 x8 (x 2) (x 3))
  · obtain rfl : r = 2 := Fin.ext (show (r : ℕ) = 2 by omega)
    obtain rfl : h = 1 := Fin.ext (show (h : ℕ) = 1 by omega)
    obtain rfl : d = x 2 := Fin.ext (h2.trans hx2)
    obtain rfl : e = x 3 := Fin.ext (h3.trans hx3)
    exact (congrArg _ (ix4_tile x)).trans (st1_2 x0 x1 x2 x3 x4 x5 x6 x7 x8 (x 2) (x 3))
  · obtain rfl : r = 1 := Fin.ext (show (r : ℕ) = 1 by omega)
    obtain rfl : h = 1 := Fin.ext (show (h : ℕ) = 1 by omega)
    obtain rfl : d = x 2 := Fin.ext (h2.trans hx2)
    obtain rfl : e = x 3 := Fin.ext (h3.trans hx3)
    exact (congrArg _ (ix4_tile x)).trans (st1_1 x0 x1 x2 x3 x4 x5 x6 x7 x8 (x 2) (x 3))
  · obtain rfl : r = 0 := Fin.ext (show (r : ℕ) = 0 by omega)
    obtain rfl : h = 1 := Fin.ext (show (h : ℕ) = 1 by omega)
    obtain rfl : d = x 2 := Fin.ext (h2.trans hx2)
    obtain rfl : e = x 3 := Fin.ext (h3.trans hx3)
    exact (congrArg _ (ix4_tile x)).trans (st1_0 x0 x1 x2 x3 x4 x5 x6 x7 x8 (x 2) (x 3))
  · obtain rfl : r = 7 := Fin.ext (show (r : ℕ) = 7 by omega)
    obtain rfl : h = 0 := Fin.ext (show (h : ℕ) = 0 by omega)
    obtain rfl : d = x 2 := Fin.ext (h2.trans hx2)
    obtain rfl : e = x 3 := Fin.ext (h3.trans hx3)
    exact (congrArg _ (ix4_tile x)).trans (st0_7 x0 x1 x2 x3 x4 x5 x6 x7 x8 (x 2) (x 3))
  · obtain rfl : r = 6 := Fin.ext (show (r : ℕ) = 6 by omega)
    obtain rfl : h = 0 := Fin.ext (show (h : ℕ) = 0 by omega)
    obtain rfl : d = x 2 := Fin.ext (h2.trans hx2)
    obtain rfl : e = x 3 := Fin.ext (h3.trans hx3)
    exact (congrArg _ (ix4_tile x)).trans (st0_6 x0 x1 x2 x3 x4 x5 x6 x7 x8 (x 2) (x 3))
  · obtain rfl : r = 5 := Fin.ext (show (r : ℕ) = 5 by omega)
    obtain rfl : h = 0 := Fin.ext (show (h : ℕ) = 0 by omega)
    obtain rfl : d = x 2 := Fin.ext (h2.trans hx2)
    obtain rfl : e = x 3 := Fin.ext (h3.trans hx3)
    exact (congrArg _ (ix4_tile x)).trans (st0_5 x0 x1 x2 x3 x4 x5 x6 x7 x8 (x 2) (x 3))
  · obtain rfl : r = 4 := Fin.ext (show (r : ℕ) = 4 by omega)
    obtain rfl : h = 0 := Fin.ext (show (h : ℕ) = 0 by omega)
    obtain rfl : d = x 2 := Fin.ext (h2.trans hx2)
    obtain rfl : e = x 3 := Fin.ext (h3.trans hx3)
    exact (congrArg _ (ix4_tile x)).trans (st0_4 x0 x1 x2 x3 x4 x5 x6 x7 x8 (x 2) (x 3))
  · obtain rfl : r = 3 := Fin.ext (show (r : ℕ) = 3 by omega)
    obtain rfl : h = 0 := Fin.ext (show (h : ℕ) = 0 by omega)
    obtain rfl : d = x 2 := Fin.ext (h2.trans hx2)
    obtain rfl : e = x 3 := Fin.ext (h3.trans hx3)
    exact (congrArg _ (ix4_tile x)).trans (st0_3 x0 x1 x2 x3 x4 x5 x6 x7 x8 (x 2) (x 3))
  · obtain rfl : r = 2 := Fin.ext (show (r : ℕ) = 2 by omega)
    obtain rfl : h = 0 := Fin.ext (show (h : ℕ) = 0 by omega)
    obtain rfl : d = x 2 := Fin.ext (h2.trans hx2)
    obtain rfl : e = x 3 := Fin.ext (h3.trans hx3)
    exact (congrArg _ (ix4_tile x)).trans (st0_2 x0 x1 x2 x3 x4 x5 x6 x7 x8 (x 2) (x 3))
  · obtain rfl : r = 1 := Fin.ext (show (r : ℕ) = 1 by omega)
    obtain rfl : h = 0 := Fin.ext (show (h : ℕ) = 0 by omega)
    obtain rfl : d = x 2 := Fin.ext (h2.trans hx2)
    obtain rfl : e = x 3 := Fin.ext (h3.trans hx3)
    exact (congrArg _ (ix4_tile x)).trans (st0_1 x0 x1 x2 x3 x4 x5 x6 x7 x8 (x 2) (x 3))
  · obtain rfl : r = 0 := Fin.ext (show (r : ℕ) = 0 by omega)
    obtain rfl : h = 0 := Fin.ext (show (h : ℕ) = 0 by omega)
    obtain rfl : d = x 2 := Fin.ext (h2.trans hx2)
    obtain rfl : e = x 3 := Fin.ext (h3.trans hx3)
    exact (congrArg _ (ix4_tile x)).trans (st0_0 x0 x1 x2 x3 x4 x5 x6 x7 x8 (x 2) (x 3))

/-- Every tile of the stored block of output rows. -/
theorem tiles9 (y : S8x1024.Idx) (r h : Fin 8) (e : Fin 128) (h0 : (r : ℕ) = y 0) (h1 : 128 * (h : ℕ) + (e : ℕ) = y 1) :
    out0_9 (F := Ideal) x0 x1 x2 x3 x4 x5 x6 x7 x8 y = Ot x0 x1 x2 x3 x4 x5 x6 x7 x8 r h e := by
  unfold out0_9
  canon_tiles x hx
  · obtain rfl : r = 7 := Fin.ext (show (r : ℕ) = 7 by omega)
    obtain rfl : h = 7 := Fin.ext (show (h : ℕ) = 7 by omega)
    obtain rfl : e = x 1 := Fin.ext (show (e : ℕ) = x 1 by omega)
    exact (congrArg _ (ix2_tile x)).trans (ot7_7 x0 x1 x2 x3 x4 x5 x6 x7 x8 (x 1))
  · obtain rfl : r = 6 := Fin.ext (show (r : ℕ) = 6 by omega)
    obtain rfl : h = 7 := Fin.ext (show (h : ℕ) = 7 by omega)
    obtain rfl : e = x 1 := Fin.ext (show (e : ℕ) = x 1 by omega)
    exact (congrArg _ (ix2_tile x)).trans (ot7_6 x0 x1 x2 x3 x4 x5 x6 x7 x8 (x 1))
  · obtain rfl : r = 5 := Fin.ext (show (r : ℕ) = 5 by omega)
    obtain rfl : h = 7 := Fin.ext (show (h : ℕ) = 7 by omega)
    obtain rfl : e = x 1 := Fin.ext (show (e : ℕ) = x 1 by omega)
    exact (congrArg _ (ix2_tile x)).trans (ot7_5 x0 x1 x2 x3 x4 x5 x6 x7 x8 (x 1))
  · obtain rfl : r = 4 := Fin.ext (show (r : ℕ) = 4 by omega)
    obtain rfl : h = 7 := Fin.ext (show (h : ℕ) = 7 by omega)
    obtain rfl : e = x 1 := Fin.ext (show (e : ℕ) = x 1 by omega)
    exact (congrArg _ (ix2_tile x)).trans (ot7_4 x0 x1 x2 x3 x4 x5 x6 x7 x8 (x 1))
  · obtain rfl : r = 3 := Fin.ext (show (r : ℕ) = 3 by omega)
    obtain rfl : h = 7 := Fin.ext (show (h : ℕ) = 7 by omega)
    obtain rfl : e = x 1 := Fin.ext (show (e : ℕ) = x 1 by omega)
    exact (congrArg _ (ix2_tile x)).trans (ot7_3 x0 x1 x2 x3 x4 x5 x6 x7 x8 (x 1))
  · obtain rfl : r = 2 := Fin.ext (show (r : ℕ) = 2 by omega)
    obtain rfl : h = 7 := Fin.ext (show (h : ℕ) = 7 by omega)
    obtain rfl : e = x 1 := Fin.ext (show (e : ℕ) = x 1 by omega)
    exact (congrArg _ (ix2_tile x)).trans (ot7_2 x0 x1 x2 x3 x4 x5 x6 x7 x8 (x 1))
  · obtain rfl : r = 1 := Fin.ext (show (r : ℕ) = 1 by omega)
    obtain rfl : h = 7 := Fin.ext (show (h : ℕ) = 7 by omega)
    obtain rfl : e = x 1 := Fin.ext (show (e : ℕ) = x 1 by omega)
    exact (congrArg _ (ix2_tile x)).trans (ot7_1 x0 x1 x2 x3 x4 x5 x6 x7 x8 (x 1))
  · obtain rfl : r = 0 := Fin.ext (show (r : ℕ) = 0 by omega)
    obtain rfl : h = 7 := Fin.ext (show (h : ℕ) = 7 by omega)
    obtain rfl : e = x 1 := Fin.ext (show (e : ℕ) = x 1 by omega)
    exact (congrArg _ (ix2_tile x)).trans (ot7_0 x0 x1 x2 x3 x4 x5 x6 x7 x8 (x 1))
  · obtain rfl : r = 7 := Fin.ext (show (r : ℕ) = 7 by omega)
    obtain rfl : h = 6 := Fin.ext (show (h : ℕ) = 6 by omega)
    obtain rfl : e = x 1 := Fin.ext (show (e : ℕ) = x 1 by omega)
    exact (congrArg _ (ix2_tile x)).trans (ot6_7 x0 x1 x2 x3 x4 x5 x6 x7 x8 (x 1))
  · obtain rfl : r = 6 := Fin.ext (show (r : ℕ) = 6 by omega)
    obtain rfl : h = 6 := Fin.ext (show (h : ℕ) = 6 by omega)
    obtain rfl : e = x 1 := Fin.ext (show (e : ℕ) = x 1 by omega)
    exact (congrArg _ (ix2_tile x)).trans (ot6_6 x0 x1 x2 x3 x4 x5 x6 x7 x8 (x 1))
  · obtain rfl : r = 5 := Fin.ext (show (r : ℕ) = 5 by omega)
    obtain rfl : h = 6 := Fin.ext (show (h : ℕ) = 6 by omega)
    obtain rfl : e = x 1 := Fin.ext (show (e : ℕ) = x 1 by omega)
    exact (congrArg _ (ix2_tile x)).trans (ot6_5 x0 x1 x2 x3 x4 x5 x6 x7 x8 (x 1))
  · obtain rfl : r = 4 := Fin.ext (show (r : ℕ) = 4 by omega)
    obtain rfl : h = 6 := Fin.ext (show (h : ℕ) = 6 by omega)
    obtain rfl : e = x 1 := Fin.ext (show (e : ℕ) = x 1 by omega)
    exact (congrArg _ (ix2_tile x)).trans (ot6_4 x0 x1 x2 x3 x4 x5 x6 x7 x8 (x 1))
  · obtain rfl : r = 3 := Fin.ext (show (r : ℕ) = 3 by omega)
    obtain rfl : h = 6 := Fin.ext (show (h : ℕ) = 6 by omega)
    obtain rfl : e = x 1 := Fin.ext (show (e : ℕ) = x 1 by omega)
    exact (congrArg _ (ix2_tile x)).trans (ot6_3 x0 x1 x2 x3 x4 x5 x6 x7 x8 (x 1))
  · obtain rfl : r = 2 := Fin.ext (show (r : ℕ) = 2 by omega)
    obtain rfl : h = 6 := Fin.ext (show (h : ℕ) = 6 by omega)
    obtain rfl : e = x 1 := Fin.ext (show (e : ℕ) = x 1 by omega)
    exact (congrArg _ (ix2_tile x)).trans (ot6_2 x0 x1 x2 x3 x4 x5 x6 x7 x8 (x 1))
  · obtain rfl : r = 1 := Fin.ext (show (r : ℕ) = 1 by omega)
    obtain rfl : h = 6 := Fin.ext (show (h : ℕ) = 6 by omega)
    obtain rfl : e = x 1 := Fin.ext (show (e : ℕ) = x 1 by omega)
    exact (congrArg _ (ix2_tile x)).trans (ot6_1 x0 x1 x2 x3 x4 x5 x6 x7 x8 (x 1))
  · obtain rfl : r = 0 := Fin.ext (show (r : ℕ) = 0 by omega)
    obtain rfl : h = 6 := Fin.ext (show (h : ℕ) = 6 by omega)
    obtain rfl : e = x 1 := Fin.ext (show (e : ℕ) = x 1 by omega)
    exact (congrArg _ (ix2_tile x)).trans (ot6_0 x0 x1 x2 x3 x4 x5 x6 x7 x8 (x 1))
  · obtain rfl : r = 7 := Fin.ext (show (r : ℕ) = 7 by omega)
    obtain rfl : h = 5 := Fin.ext (show (h : ℕ) = 5 by omega)
    obtain rfl : e = x 1 := Fin.ext (show (e : ℕ) = x 1 by omega)
    exact (congrArg _ (ix2_tile x)).trans (ot5_7 x0 x1 x2 x3 x4 x5 x6 x7 x8 (x 1))
  · obtain rfl : r = 6 := Fin.ext (show (r : ℕ) = 6 by omega)
    obtain rfl : h = 5 := Fin.ext (show (h : ℕ) = 5 by omega)
    obtain rfl : e = x 1 := Fin.ext (show (e : ℕ) = x 1 by omega)
    exact (congrArg _ (ix2_tile x)).trans (ot5_6 x0 x1 x2 x3 x4 x5 x6 x7 x8 (x 1))
  · obtain rfl : r = 5 := Fin.ext (show (r : ℕ) = 5 by omega)
    obtain rfl : h = 5 := Fin.ext (show (h : ℕ) = 5 by omega)
    obtain rfl : e = x 1 := Fin.ext (show (e : ℕ) = x 1 by omega)
    exact (congrArg _ (ix2_tile x)).trans (ot5_5 x0 x1 x2 x3 x4 x5 x6 x7 x8 (x 1))
  · obtain rfl : r = 4 := Fin.ext (show (r : ℕ) = 4 by omega)
    obtain rfl : h = 5 := Fin.ext (show (h : ℕ) = 5 by omega)
    obtain rfl : e = x 1 := Fin.ext (show (e : ℕ) = x 1 by omega)
    exact (congrArg _ (ix2_tile x)).trans (ot5_4 x0 x1 x2 x3 x4 x5 x6 x7 x8 (x 1))
  · obtain rfl : r = 3 := Fin.ext (show (r : ℕ) = 3 by omega)
    obtain rfl : h = 5 := Fin.ext (show (h : ℕ) = 5 by omega)
    obtain rfl : e = x 1 := Fin.ext (show (e : ℕ) = x 1 by omega)
    exact (congrArg _ (ix2_tile x)).trans (ot5_3 x0 x1 x2 x3 x4 x5 x6 x7 x8 (x 1))
  · obtain rfl : r = 2 := Fin.ext (show (r : ℕ) = 2 by omega)
    obtain rfl : h = 5 := Fin.ext (show (h : ℕ) = 5 by omega)
    obtain rfl : e = x 1 := Fin.ext (show (e : ℕ) = x 1 by omega)
    exact (congrArg _ (ix2_tile x)).trans (ot5_2 x0 x1 x2 x3 x4 x5 x6 x7 x8 (x 1))
  · obtain rfl : r = 1 := Fin.ext (show (r : ℕ) = 1 by omega)
    obtain rfl : h = 5 := Fin.ext (show (h : ℕ) = 5 by omega)
    obtain rfl : e = x 1 := Fin.ext (show (e : ℕ) = x 1 by omega)
    exact (congrArg _ (ix2_tile x)).trans (ot5_1 x0 x1 x2 x3 x4 x5 x6 x7 x8 (x 1))
  · obtain rfl : r = 0 := Fin.ext (show (r : ℕ) = 0 by omega)
    obtain rfl : h = 5 := Fin.ext (show (h : ℕ) = 5 by omega)
    obtain rfl : e = x 1 := Fin.ext (show (e : ℕ) = x 1 by omega)
    exact (congrArg _ (ix2_tile x)).trans (ot5_0 x0 x1 x2 x3 x4 x5 x6 x7 x8 (x 1))
  · obtain rfl : r = 7 := Fin.ext (show (r : ℕ) = 7 by omega)
    obtain rfl : h = 4 := Fin.ext (show (h : ℕ) = 4 by omega)
    obtain rfl : e = x 1 := Fin.ext (show (e : ℕ) = x 1 by omega)
    exact (congrArg _ (ix2_tile x)).trans (ot4_7 x0 x1 x2 x3 x4 x5 x6 x7 x8 (x 1))
  · obtain rfl : r = 6 := Fin.ext (show (r : ℕ) = 6 by omega)
    obtain rfl : h = 4 := Fin.ext (show (h : ℕ) = 4 by omega)
    obtain rfl : e = x 1 := Fin.ext (show (e : ℕ) = x 1 by omega)
    exact (congrArg _ (ix2_tile x)).trans (ot4_6 x0 x1 x2 x3 x4 x5 x6 x7 x8 (x 1))
  · obtain rfl : r = 5 := Fin.ext (show (r : ℕ) = 5 by omega)
    obtain rfl : h = 4 := Fin.ext (show (h : ℕ) = 4 by omega)
    obtain rfl : e = x 1 := Fin.ext (show (e : ℕ) = x 1 by omega)
    exact (congrArg _ (ix2_tile x)).trans (ot4_5 x0 x1 x2 x3 x4 x5 x6 x7 x8 (x 1))
  · obtain rfl : r = 4 := Fin.ext (show (r : ℕ) = 4 by omega)
    obtain rfl : h = 4 := Fin.ext (show (h : ℕ) = 4 by omega)
    obtain rfl : e = x 1 := Fin.ext (show (e : ℕ) = x 1 by omega)
    exact (congrArg _ (ix2_tile x)).trans (ot4_4 x0 x1 x2 x3 x4 x5 x6 x7 x8 (x 1))
  · obtain rfl : r = 3 := Fin.ext (show (r : ℕ) = 3 by omega)
    obtain rfl : h = 4 := Fin.ext (show (h : ℕ) = 4 by omega)
    obtain rfl : e = x 1 := Fin.ext (show (e : ℕ) = x 1 by omega)
    exact (congrArg _ (ix2_tile x)).trans (ot4_3 x0 x1 x2 x3 x4 x5 x6 x7 x8 (x 1))
  · obtain rfl : r = 2 := Fin.ext (show (r : ℕ) = 2 by omega)
    obtain rfl : h = 4 := Fin.ext (show (h : ℕ) = 4 by omega)
    obtain rfl : e = x 1 := Fin.ext (show (e : ℕ) = x 1 by omega)
    exact (congrArg _ (ix2_tile x)).trans (ot4_2 x0 x1 x2 x3 x4 x5 x6 x7 x8 (x 1))
  · obtain rfl : r = 1 := Fin.ext (show (r : ℕ) = 1 by omega)
    obtain rfl : h = 4 := Fin.ext (show (h : ℕ) = 4 by omega)
    obtain rfl : e = x 1 := Fin.ext (show (e : ℕ) = x 1 by omega)
    exact (congrArg _ (ix2_tile x)).trans (ot4_1 x0 x1 x2 x3 x4 x5 x6 x7 x8 (x 1))
  · obtain rfl : r = 0 := Fin.ext (show (r : ℕ) = 0 by omega)
    obtain rfl : h = 4 := Fin.ext (show (h : ℕ) = 4 by omega)
    obtain rfl : e = x 1 := Fin.ext (show (e : ℕ) = x 1 by omega)
    exact (congrArg _ (ix2_tile x)).trans (ot4_0 x0 x1 x2 x3 x4 x5 x6 x7 x8 (x 1))
  · obtain rfl : r = 7 := Fin.ext (show (r : ℕ) = 7 by omega)
    obtain rfl : h = 3 := Fin.ext (show (h : ℕ) = 3 by omega)
    obtain rfl : e = x 1 := Fin.ext (show (e : ℕ) = x 1 by omega)
    exact (congrArg _ (ix2_tile x)).trans (ot3_7 x0 x1 x2 x3 x4 x5 x6 x7 x8 (x 1))
  · obtain rfl : r = 6 := Fin.ext (show (r : ℕ) = 6 by omega)
    obtain rfl : h = 3 := Fin.ext (show (h : ℕ) = 3 by omega)
    obtain rfl : e = x 1 := Fin.ext (show (e : ℕ) = x 1 by omega)
    exact (congrArg _ (ix2_tile x)).trans (ot3_6 x0 x1 x2 x3 x4 x5 x6 x7 x8 (x 1))
  · obtain rfl : r = 5 := Fin.ext (show (r : ℕ) = 5 by omega)
    obtain rfl : h = 3 := Fin.ext (show (h : ℕ) = 3 by omega)
    obtain rfl : e = x 1 := Fin.ext (show (e : ℕ) = x 1 by omega)
    exact (congrArg _ (ix2_tile x)).trans (ot3_5 x0 x1 x2 x3 x4 x5 x6 x7 x8 (x 1))
  · obtain rfl : r = 4 := Fin.ext (show (r : ℕ) = 4 by omega)
    obtain rfl : h = 3 := Fin.ext (show (h : ℕ) = 3 by omega)
    obtain rfl : e = x 1 := Fin.ext (show (e : ℕ) = x 1 by omega)
    exact (congrArg _ (ix2_tile x)).trans (ot3_4 x0 x1 x2 x3 x4 x5 x6 x7 x8 (x 1))
  · obtain rfl : r = 3 := Fin.ext (show (r : ℕ) = 3 by omega)
    obtain rfl : h = 3 := Fin.ext (show (h : ℕ) = 3 by omega)
    obtain rfl : e = x 1 := Fin.ext (show (e : ℕ) = x 1 by omega)
    exact (congrArg _ (ix2_tile x)).trans (ot3_3 x0 x1 x2 x3 x4 x5 x6 x7 x8 (x 1))
  · obtain rfl : r = 2 := Fin.ext (show (r : ℕ) = 2 by omega)
    obtain rfl : h = 3 := Fin.ext (show (h : ℕ) = 3 by omega)
    obtain rfl : e = x 1 := Fin.ext (show (e : ℕ) = x 1 by omega)
    exact (congrArg _ (ix2_tile x)).trans (ot3_2 x0 x1 x2 x3 x4 x5 x6 x7 x8 (x 1))
  · obtain rfl : r = 1 := Fin.ext (show (r : ℕ) = 1 by omega)
    obtain rfl : h = 3 := Fin.ext (show (h : ℕ) = 3 by omega)
    obtain rfl : e = x 1 := Fin.ext (show (e : ℕ) = x 1 by omega)
    exact (congrArg _ (ix2_tile x)).trans (ot3_1 x0 x1 x2 x3 x4 x5 x6 x7 x8 (x 1))
  · obtain rfl : r = 0 := Fin.ext (show (r : ℕ) = 0 by omega)
    obtain rfl : h = 3 := Fin.ext (show (h : ℕ) = 3 by omega)
    obtain rfl : e = x 1 := Fin.ext (show (e : ℕ) = x 1 by omega)
    exact (congrArg _ (ix2_tile x)).trans (ot3_0 x0 x1 x2 x3 x4 x5 x6 x7 x8 (x 1))
  · obtain rfl : r = 7 := Fin.ext (show (r : ℕ) = 7 by omega)
    obtain rfl : h = 2 := Fin.ext (show (h : ℕ) = 2 by omega)
    obtain rfl : e = x 1 := Fin.ext (show (e : ℕ) = x 1 by omega)
    exact (congrArg _ (ix2_tile x)).trans (ot2_7 x0 x1 x2 x3 x4 x5 x6 x7 x8 (x 1))
  · obtain rfl : r = 6 := Fin.ext (show (r : ℕ) = 6 by omega)
    obtain rfl : h = 2 := Fin.ext (show (h : ℕ) = 2 by omega)
    obtain rfl : e = x 1 := Fin.ext (show (e : ℕ) = x 1 by omega)
    exact (congrArg _ (ix2_tile x)).trans (ot2_6 x0 x1 x2 x3 x4 x5 x6 x7 x8 (x 1))
  · obtain rfl : r = 5 := Fin.ext (show (r : ℕ) = 5 by omega)
    obtain rfl : h = 2 := Fin.ext (show (h : ℕ) = 2 by omega)
    obtain rfl : e = x 1 := Fin.ext (show (e : ℕ) = x 1 by omega)
    exact (congrArg _ (ix2_tile x)).trans (ot2_5 x0 x1 x2 x3 x4 x5 x6 x7 x8 (x 1))
  · obtain rfl : r = 4 := Fin.ext (show (r : ℕ) = 4 by omega)
    obtain rfl : h = 2 := Fin.ext (show (h : ℕ) = 2 by omega)
    obtain rfl : e = x 1 := Fin.ext (show (e : ℕ) = x 1 by omega)
    exact (congrArg _ (ix2_tile x)).trans (ot2_4 x0 x1 x2 x3 x4 x5 x6 x7 x8 (x 1))
  · obtain rfl : r = 3 := Fin.ext (show (r : ℕ) = 3 by omega)
    obtain rfl : h = 2 := Fin.ext (show (h : ℕ) = 2 by omega)
    obtain rfl : e = x 1 := Fin.ext (show (e : ℕ) = x 1 by omega)
    exact (congrArg _ (ix2_tile x)).trans (ot2_3 x0 x1 x2 x3 x4 x5 x6 x7 x8 (x 1))
  · obtain rfl : r = 2 := Fin.ext (show (r : ℕ) = 2 by omega)
    obtain rfl : h = 2 := Fin.ext (show (h : ℕ) = 2 by omega)
    obtain rfl : e = x 1 := Fin.ext (show (e : ℕ) = x 1 by omega)
    exact (congrArg _ (ix2_tile x)).trans (ot2_2 x0 x1 x2 x3 x4 x5 x6 x7 x8 (x 1))
  · obtain rfl : r = 1 := Fin.ext (show (r : ℕ) = 1 by omega)
    obtain rfl : h = 2 := Fin.ext (show (h : ℕ) = 2 by omega)
    obtain rfl : e = x 1 := Fin.ext (show (e : ℕ) = x 1 by omega)
    exact (congrArg _ (ix2_tile x)).trans (ot2_1 x0 x1 x2 x3 x4 x5 x6 x7 x8 (x 1))
  · obtain rfl : r = 0 := Fin.ext (show (r : ℕ) = 0 by omega)
    obtain rfl : h = 2 := Fin.ext (show (h : ℕ) = 2 by omega)
    obtain rfl : e = x 1 := Fin.ext (show (e : ℕ) = x 1 by omega)
    exact (congrArg _ (ix2_tile x)).trans (ot2_0 x0 x1 x2 x3 x4 x5 x6 x7 x8 (x 1))
  · obtain rfl : r = 7 := Fin.ext (show (r : ℕ) = 7 by omega)
    obtain rfl : h = 1 := Fin.ext (show (h : ℕ) = 1 by omega)
    obtain rfl : e = x 1 := Fin.ext (show (e : ℕ) = x 1 by omega)
    exact (congrArg _ (ix2_tile x)).trans (ot1_7 x0 x1 x2 x3 x4 x5 x6 x7 x8 (x 1))
  · obtain rfl : r = 6 := Fin.ext (show (r : ℕ) = 6 by omega)
    obtain rfl : h = 1 := Fin.ext (show (h : ℕ) = 1 by omega)
    obtain rfl : e = x 1 := Fin.ext (show (e : ℕ) = x 1 by omega)
    exact (congrArg _ (ix2_tile x)).trans (ot1_6 x0 x1 x2 x3 x4 x5 x6 x7 x8 (x 1))
  · obtain rfl : r = 5 := Fin.ext (show (r : ℕ) = 5 by omega)
    obtain rfl : h = 1 := Fin.ext (show (h : ℕ) = 1 by omega)
    obtain rfl : e = x 1 := Fin.ext (show (e : ℕ) = x 1 by omega)
    exact (congrArg _ (ix2_tile x)).trans (ot1_5 x0 x1 x2 x3 x4 x5 x6 x7 x8 (x 1))
  · obtain rfl : r = 4 := Fin.ext (show (r : ℕ) = 4 by omega)
    obtain rfl : h = 1 := Fin.ext (show (h : ℕ) = 1 by omega)
    obtain rfl : e = x 1 := Fin.ext (show (e : ℕ) = x 1 by omega)
    exact (congrArg _ (ix2_tile x)).trans (ot1_4 x0 x1 x2 x3 x4 x5 x6 x7 x8 (x 1))
  · obtain rfl : r = 3 := Fin.ext (show (r : ℕ) = 3 by omega)
    obtain rfl : h = 1 := Fin.ext (show (h : ℕ) = 1 by omega)
    obtain rfl : e = x 1 := Fin.ext (show (e : ℕ) = x 1 by omega)
    exact (congrArg _ (ix2_tile x)).trans (ot1_3 x0 x1 x2 x3 x4 x5 x6 x7 x8 (x 1))
  · obtain rfl : r = 2 := Fin.ext (show (r : ℕ) = 2 by omega)
    obtain rfl : h = 1 := Fin.ext (show (h : ℕ) = 1 by omega)
    obtain rfl : e = x 1 := Fin.ext (show (e : ℕ) = x 1 by omega)
    exact (congrArg _ (ix2_tile x)).trans (ot1_2 x0 x1 x2 x3 x4 x5 x6 x7 x8 (x 1))
  · obtain rfl : r = 1 := Fin.ext (show (r : ℕ) = 1 by omega)
    obtain rfl : h = 1 := Fin.ext (show (h : ℕ) = 1 by omega)
    obtain rfl : e = x 1 := Fin.ext (show (e : ℕ) = x 1 by omega)
    exact (congrArg _ (ix2_tile x)).trans (ot1_1 x0 x1 x2 x3 x4 x5 x6 x7 x8 (x 1))
  · obtain rfl : r = 0 := Fin.ext (show (r : ℕ) = 0 by omega)
    obtain rfl : h = 1 := Fin.ext (show (h : ℕ) = 1 by omega)
    obtain rfl : e = x 1 := Fin.ext (show (e : ℕ) = x 1 by omega)
    exact (congrArg _ (ix2_tile x)).trans (ot1_0 x0 x1 x2 x3 x4 x5 x6 x7 x8 (x 1))
  · obtain rfl : r = 7 := Fin.ext (show (r : ℕ) = 7 by omega)
    obtain rfl : h = 0 := Fin.ext (show (h : ℕ) = 0 by omega)
    obtain rfl : e = x 1 := Fin.ext (show (e : ℕ) = x 1 by omega)
    exact (congrArg _ (ix2_tile x)).trans (ot0_7 x0 x1 x2 x3 x4 x5 x6 x7 x8 (x 1))
  · obtain rfl : r = 6 := Fin.ext (show (r : ℕ) = 6 by omega)
    obtain rfl : h = 0 := Fin.ext (show (h : ℕ) = 0 by omega)
    obtain rfl : e = x 1 := Fin.ext (show (e : ℕ) = x 1 by omega)
    exact (congrArg _ (ix2_tile x)).trans (ot0_6 x0 x1 x2 x3 x4 x5 x6 x7 x8 (x 1))
  · obtain rfl : r = 5 := Fin.ext (show (r : ℕ) = 5 by omega)
    obtain rfl : h = 0 := Fin.ext (show (h : ℕ) = 0 by omega)
    obtain rfl : e = x 1 := Fin.ext (show (e : ℕ) = x 1 by omega)
    exact (congrArg _ (ix2_tile x)).trans (ot0_5 x0 x1 x2 x3 x4 x5 x6 x7 x8 (x 1))
  · obtain rfl : r = 4 := Fin.ext (show (r : ℕ) = 4 by omega)
    obtain rfl : h = 0 := Fin.ext (show (h : ℕ) = 0 by omega)
    obtain rfl : e = x 1 := Fin.ext (show (e : ℕ) = x 1 by omega)
    exact (congrArg _ (ix2_tile x)).trans (ot0_4 x0 x1 x2 x3 x4 x5 x6 x7 x8 (x 1))
  · obtain rfl : r = 3 := Fin.ext (show (r : ℕ) = 3 by omega)
    obtain rfl : h = 0 := Fin.ext (show (h : ℕ) = 0 by omega)
    obtain rfl : e = x 1 := Fin.ext (show (e : ℕ) = x 1 by omega)
    exact (congrArg _ (ix2_tile x)).trans (ot0_3 x0 x1 x2 x3 x4 x5 x6 x7 x8 (x 1))
  · obtain rfl : r = 2 := Fin.ext (show (r : ℕ) = 2 by omega)
    obtain rfl : h = 0 := Fin.ext (show (h : ℕ) = 0 by omega)
    obtain rfl : e = x 1 := Fin.ext (show (e : ℕ) = x 1 by omega)
    exact (congrArg _ (ix2_tile x)).trans (ot0_2 x0 x1 x2 x3 x4 x5 x6 x7 x8 (x 1))
  · obtain rfl : r = 1 := Fin.ext (show (r : ℕ) = 1 by omega)
    obtain rfl : h = 0 := Fin.ext (show (h : ℕ) = 0 by omega)
    obtain rfl : e = x 1 := Fin.ext (show (e : ℕ) = x 1 by omega)
    exact (congrArg _ (ix2_tile x)).trans (ot0_1 x0 x1 x2 x3 x4 x5 x6 x7 x8 (x 1))
  · obtain rfl : r = 0 := Fin.ext (show (r : ℕ) = 0 by omega)
    obtain rfl : h = 0 := Fin.ext (show (h : ℕ) = 0 by omega)
    obtain rfl : e = x 1 := Fin.ext (show (e : ℕ) = x 1 by omega)
    exact (congrArg _ (ix2_tile x)).trans (ot0_0 x0 x1 x2 x3 x4 x5 x6 x7 x8 (x 1))

end Cert.KernelIdeal.Value

end
-- ==== Proof.DnSet.lean ====
module

public import proofs.«01_k».proof.Proof.Gen.KernelIdeal.Value
public import Idealize.ShloMosaic.Lib.Routing.OpsSet
public import Idealize.ShloMosaic.Lib.Routing.OpsPair
public import Idealize.ShloMosaic.Lib.Pipeline.ValueKit
public import Idealize.ShloMosaic.Lib.Pointwise

/-! The host's rows of 128 columns that hold the eight heads' values from column 48 on, and the host's array of narrow columns. -/

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open scoped BigOperators

/-- Where the eight values go: row 0, from column 48 on. -/
def at48 : IVec S2 32 :=
  concatenate S2 0 [⟨S1, broadcastInDim S1 ![] bcast_S_S1 (constantI S_ 32 0#32)⟩, ⟨S1, broadcastInDim S1 ![] bcast_S_S1 (constantI S_ 32 48#32)⟩]
    concatenates_S1_S1_S2_d0

/-- A row of zeros with the eight values set from column 48 on. -/
def set48 (a : FVec Ideal S1x8 .f32) : FVec Ideal S1x128 .f32 :=
  Host.scatter scatter_S1x128_S2_S8_0_0_01_0 (fun _ b => b) (broadcastInDim S1x128 ![] bcast_S_S1x128 (constant S_ .f32 0x00000000#32)) at48
    (shapeCast _ a shapeCasts_S1x8_S8)

theorem at48_0 : (at48 (ix1 0)).toInt = 0 := by decide +kernel
theorem at48_1 : (at48 (ix1 1)).toInt = 48 := by decide +kernel

theorem start48 (k : Fin 8) (q : Fin 2) : scatter_S1x128_S2_S8_0_0_01_0.start (ix1 k) at48 q = (at48 (ix1 q)).toInt := by
  have hm : q ∈ scatter_S1x128_S2_S8_0_0_01_0.scatterDimsToOperandDims := by fin_cases q <;> decide
  unfold ScatterDims.start
  rw [dif_pos hm]
  congr 2
  funext b
  fin_cases q <;> fin_cases b <;> rfl

theorem window48_0 (k : Fin 8) : scatter_S1x128_S2_S8_0_0_01_0.window (ix1 k) 0 = 0 := by
  unfold ScatterDims.window
  rw [dif_neg (by decide)]

theorem window48_1 (k : Fin 8) : scatter_S1x128_S2_S8_0_0_01_0.window (ix1 k) 1 = k := by
  unfold ScatterDims.window
  rw [dif_pos (by decide)]
  rfl

/-- The value set at column 48 plus a head's number is the head's. -/
theorem set48_at (a : FVec Ideal S1x8 .f32) (h : Fin 8) (c : Fin 128) (hc : (c : ℕ) = 48 + h) : set48 a (ix2 0 c) = a (ix2 0 h) := by
  have key : ∀ k : Fin 8, scatter_S1x128_S2_S8_0_0_01_0.resultIdx? (ix1 k) at48 = some (ix2 0 c) ↔ k = h := fun k => by
    refine (Idealize.ShloMosaic.Routing.resultIdx?_ix2 (R := 1) (C := 128) scatter_S1x128_S2_S8_0_0_01_0 (ix1 k) at48 0 c).trans ?_
    rw [start48, start48, window48_0, window48_1, at48_0, at48_1]
    constructor
    · rintro ⟨_, e⟩
      exact Fin.ext (by omega)
    · rintro rfl
      exact ⟨rfl, by omega⟩
  unfold set48
  refine Idealize.ShloMosaic.Routing.scatter_set_hit _ _ _ _ _ _ (fun k hk => ?_) (ix1 h) ((key h).2 rfl)
  obtain ⟨k, rfl⟩ : ∃ k' : Fin 8, k = ix1 k' := ⟨k 0, eq_ix1 k⟩
  obtain rfl := (key k).1 hk
  pointwise

/-- The host's array of narrow columns: the gates, the steps, the strengths and zeros. -/
def small (a3 : FVec Ideal S128x48 .f32) (a4 a5 : FVec Ideal S128x8 .f32) : FVec Ideal S128x128 .f32 :=
  concatenate S128x128 1 [⟨S128x48, a3⟩, ⟨S128x8, a4⟩, ⟨S128x8, a5⟩,
    ⟨S128x64, broadcastInDim S128x64 ![] bcast_S_S128x64 (constant S_ .f32 0x00000000#32)⟩]
    concatenates_S128x48_S128x8_S128x8_S128x64_S128x128_d1

theorem small_a (a3 : FVec Ideal S128x48 .f32) (a4 a5 : FVec Ideal S128x8 .f32) (n : Fin 128) (h : Fin 8) (c : Fin 128)
    (hc : (c : ℕ) = 48 + h) : small a3 a4 a5 (ix2 n c) = a4 (ix2 n h) := by
  have h1 : ¬ (c : ℕ) < 48 := by omega
  have h3 : (c : ℕ) - 48 < 8 := by omega
  have e : (⟨(c : ℕ) - 48, h3⟩ : Fin 8) = h := Fin.ext (by simp only []; omega)
  rw [← e]
  pointwise [small, h1, h3]

theorem small_b (a3 : FVec Ideal S128x48 .f32) (a4 a5 : FVec Ideal S128x8 .f32) (n : Fin 128) (h : Fin 8) (c : Fin 128)
    (hc : (c : ℕ) = 56 + h) : small a3 a4 a5 (ix2 n c) = a5 (ix2 n h) := by
  have h1 : ¬ (c : ℕ) < 48 := by omega
  have h2 : ¬ (c : ℕ) - 48 < 8 := by omega
  have h3 : (c : ℕ) - 48 - 8 < 8 := by omega
  have e : (⟨(c : ℕ) - 48 - 8, h3⟩ : Fin 8) = h := Fin.ext (by simp only []; omega)
  rw [← e]
  pointwise [small, h1, h2, h3]

end Cert.KernelIdeal.Value

end
-- ==== Proof.DnRef.lean ====
module

public import proofs.«01_k».proof.Proof.DeltaRow
public import proofs.«01_k».proof.Proof.Gen.ReferenceIdeal.Run
public import Idealize.ShloMosaic.Lib.Pointwise

/-! The plain recurrent step for one token of each sample, in stages, each read an entry at a time. -/

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Cert.Proof
open scoped BigOperators

/-- The three kept positions and the new one. -/
def rXc (a0 : FVec Ideal S128x3072 .f32) (a1 : FVec Ideal S1x128x3x3072 .f32) :
    FVec Ideal S128x4x3072 .f32 :=
  concatenate S128x4x3072 1 [⟨S128x3x3072, (shapeCast _ a1 shapeCasts_S1x128x3x3072_S128x3x3072)⟩, ⟨S128x1x3072, (broadcastInDim
    S128x1x3072 ![0, 2] bcast_S128x3072_S128x1x3072_0_2 a0)⟩] concatenates_S128x3x3072_S128x1x3072_S128x4x3072_d1

/-- The convolution at the new position, through its unit. -/
def rY (xc : FVec Ideal S128x4x3072 .f32) (a7 : FVec Ideal S1x4x3072 .f32) :
    FVec Ideal S128x3072 .f32 :=
  mulf (Host.reduceAdd (mulf xc (broadcastInDim S128x4x3072 ![0, 1, 2] bcast_S1x4x3072_S128x4x3072_0_1_2 (broadcastInDim S1x4x3072 ![1,
    2] bcast_S4x3072_S1x4x3072_1_2 (shapeCast _ a7 shapeCasts_S1x4x3072_S4x3072)))) (constant S_ .f32 0x00000000#32)
    reducesTo_S128x4x3072_S128x3072_d1 h_S_) (Host.divf (broadcastInDim S128x3072 ![] bcast_S_S128x3072 (constant S_ .f32
    0x3F800000#32)) (addf (broadcastInDim S128x3072 ![] bcast_S_S128x3072 (constant S_ .f32 0x3F800000#32)) (Host.exp (Host.negf
    (Host.reduceAdd (mulf xc (broadcastInDim S128x4x3072 ![0, 1, 2] bcast_S1x4x3072_S128x4x3072_0_1_2 (broadcastInDim S1x4x3072 ![1, 2]
    bcast_S4x3072_S1x4x3072_1_2 (shapeCast _ a7 shapeCasts_S1x4x3072_S4x3072)))) (constant S_ .f32 0x00000000#32)
    reducesTo_S128x4x3072_S128x3072_d1 h_S_)))))

/-- The queries. -/
def rQ (y : FVec Ideal S128x3072 .f32) :
    FVec Ideal S128x8x128 .f32 :=
  mulf (mulf (shapeCast _ (extractStridedSlice S128x1024 ![0, 0] y slices_S128x3072_S128x1024_0_0) shapeCasts_S128x1024_S128x8x128)
    (broadcastInDim S128x8x128 ![0, 1, 2] bcast_S128x8x1_S128x8x128_0_1_2 (Host.rsqrt (addf (broadcastInDim S128x8x1 ![0, 1]
    bcast_S128x8_S128x8x1_0_1 (Host.reduceAdd (mulf (shapeCast _ (extractStridedSlice S128x1024 ![0, 0] y
    slices_S128x3072_S128x1024_0_0) shapeCasts_S128x1024_S128x8x128) (shapeCast _ (extractStridedSlice S128x1024 ![0, 0] y
    slices_S128x3072_S128x1024_0_0) shapeCasts_S128x1024_S128x8x128)) (constant S_ .f32 0x00000000#32) reducesTo_S128x8x128_S128x8_d2
    h_S_)) (broadcastInDim S128x8x1 ![] bcast_S_S128x8x1 (constant S_ .f32 0x358637BD#32)))))) (broadcastInDim S128x8x128 ![]
    bcast_S_S128x8x128 (constant S_ .f32 0x3DB504F3#32))

/-- The keys. -/
def rK (y : FVec Ideal S128x3072 .f32) :
    FVec Ideal S128x8x128 .f32 :=
  mulf (shapeCast _ (extractStridedSlice S128x1024 ![0, 1024] y slices_S128x3072_S128x1024_0_1024) shapeCasts_S128x1024_S128x8x128)
    (broadcastInDim S128x8x128 ![0, 1, 2] bcast_S128x8x1_S128x8x128_0_1_2 (Host.rsqrt (addf (broadcastInDim S128x8x1 ![0, 1]
    bcast_S128x8_S128x8x1_0_1 (Host.reduceAdd (mulf (shapeCast _ (extractStridedSlice S128x1024 ![0, 1024] y
    slices_S128x3072_S128x1024_0_1024) shapeCasts_S128x1024_S128x8x128) (shapeCast _ (extractStridedSlice S128x1024 ![0, 1024] y
    slices_S128x3072_S128x1024_0_1024) shapeCasts_S128x1024_S128x8x128)) (constant S_ .f32 0x00000000#32) reducesTo_S128x8x128_S128x8_d2
    h_S_)) (broadcastInDim S128x8x1 ![] bcast_S_S128x8x1 (constant S_ .f32 0x358637BD#32)))))

/-- The logarithms of the decays. -/
def rG (a4 : FVec Ideal S128x8 .f32) (a8 : FVec Ideal S1x8 .f32) (a9 : FVec Ideal S1x8 .f32) :
    FVec Ideal S128x8 .f32 :=
  mulf (broadcastInDim S128x8 ![0, 1] bcast_S1x8_S128x8_0_1 (broadcastInDim S1x8 ![1] bcast_S8_S1x8_1 (Host.negf (Host.exp (shapeCast _
    a8 shapeCasts_S1x8_S8))))) (select (cmpf .une (subf (addf a4 (broadcastInDim S128x8 ![0, 1] bcast_S1x8_S128x8_0_1 (broadcastInDim
    S1x8 ![1] bcast_S8_S1x8_1 (shapeCast _ a9 shapeCasts_S1x8_S8)))) (broadcastInDim S128x8 ![] bcast_S_S128x8 (constant S_ .f32
    0x00000000#32))) (subf (addf a4 (broadcastInDim S128x8 ![0, 1] bcast_S1x8_S128x8_0_1 (broadcastInDim S1x8 ![1] bcast_S8_S1x8_1
    (shapeCast _ a9 shapeCasts_S1x8_S8)))) (broadcastInDim S128x8 ![] bcast_S_S128x8 (constant S_ .f32 0x00000000#32)))) (addf (addf a4
    (broadcastInDim S128x8 ![0, 1] bcast_S1x8_S128x8_0_1 (broadcastInDim S1x8 ![1] bcast_S8_S1x8_1 (shapeCast _ a9
    shapeCasts_S1x8_S8)))) (broadcastInDim S128x8 ![] bcast_S_S128x8 (constant S_ .f32 0x00000000#32))) (addf (maximumf (addf a4
    (broadcastInDim S128x8 ![0, 1] bcast_S1x8_S128x8_0_1 (broadcastInDim S1x8 ![1] bcast_S8_S1x8_1 (shapeCast _ a9
    shapeCasts_S1x8_S8)))) (broadcastInDim S128x8 ![] bcast_S_S128x8 (constant S_ .f32 0x00000000#32))) (Host.log1p (Host.exp (Host.negf
    (Host.absf (subf (addf a4 (broadcastInDim S128x8 ![0, 1] bcast_S1x8_S128x8_0_1 (broadcastInDim S1x8 ![1] bcast_S8_S1x8_1 (shapeCast
    _ a9 shapeCasts_S1x8_S8)))) (broadcastInDim S128x8 ![] bcast_S_S128x8 (constant S_ .f32 0x00000000#32)))))))))

/-- The write strengths. -/
def rB (a5 : FVec Ideal S128x8 .f32) :
    FVec Ideal S128x8 .f32 :=
  Host.divf (broadcastInDim S128x8 ![] bcast_S_S128x8 (constant S_ .f32 0x3F800000#32)) (addf (broadcastInDim S128x8 ![] bcast_S_S128x8
    (constant S_ .f32 0x3F800000#32)) (Host.exp (Host.negf a5)))

/-- What the state is corrected by. -/
def rVn (y : FVec Ideal S128x3072 .f32) (k : FVec Ideal S128x8x128 .f32) (g : FVec Ideal S128x8 .f32) (be : FVec Ideal S128x8 .f32) (a6 : FVec Ideal S1x128x8x128x128 .f32) :
    FVec Ideal S128x8x128 .f32 :=
  subf (mulf (shapeCast _ (extractStridedSlice S128x1024 ![0, 2048] y slices_S128x3072_S128x1024_0_2048)
    shapeCasts_S128x1024_S128x8x128) (broadcastInDim S128x8x128 ![0, 1, 2] bcast_S128x8x1_S128x8x128_0_1_2 (broadcastInDim S128x8x1 ![0,
    1] bcast_S128x8_S128x8x1_0_1 be))) (Host.dotGeneral dot_S128x8x128_S128x8x128x128_S128x8x128_2_2_n_3_01_01 none (mulf (mulf k
    (broadcastInDim S128x8x128 ![0, 1, 2] bcast_S128x8x1_S128x8x128_0_1_2 (broadcastInDim S128x8x1 ![0, 1] bcast_S128x8_S128x8x1_0_1
    be))) (broadcastInDim S128x8x128 ![0, 1, 2] bcast_S128x8x1_S128x8x128_0_1_2 (broadcastInDim S128x8x1 ![0, 1]
    bcast_S128x8_S128x8x1_0_1 (Host.exp g)))) (shapeCast _ a6 shapeCasts_S1x128x8x128x128_S128x8x128x128))

/-- The output rows before their norm. -/
def rO (q : FVec Ideal S128x8x128 .f32) (k : FVec Ideal S128x8x128 .f32) (g : FVec Ideal S128x8 .f32) (vn : FVec Ideal S128x8x128 .f32) (a6 : FVec Ideal S1x128x8x128x128 .f32) :
    FVec Ideal S128x8x128 .f32 :=
  addf (Host.dotGeneral dot_S128x8x128_S128x8x128x128_S128x8x128_2_2_n_3_01_01 none (mulf q (broadcastInDim S128x8x128 ![0, 1, 2]
    bcast_S128x8x1_S128x8x128_0_1_2 (broadcastInDim S128x8x1 ![0, 1] bcast_S128x8_S128x8x1_0_1 (Host.exp g)))) (shapeCast _ a6
    shapeCasts_S1x128x8x128x128_S128x8x128x128)) (mulf (broadcastInDim S128x8x128 ![0, 1, 2] bcast_S128x8x1_S128x8x128_0_1_2
    (broadcastInDim S128x8x1 ![0, 1] bcast_S128x8_S128x8x1_0_1 (Host.dotGeneral dot_S128x8x128_S128x8x128_S128x8_2_2_n_n_01_01 none q
    k))) vn)

/-- The gated output rows. -/
def rOut (o : FVec Ideal S128x8x128 .f32) (a2 : FVec Ideal S128x1024 .f32) (a10 : FVec Ideal S1x128 .f32) :
    FVec Ideal S128x1024 .f32 :=
  shapeCast _ (mulf (mulf (mulf o (broadcastInDim S128x8x128 ![0, 1, 2] bcast_S128x8x1_S128x8x128_0_1_2 (Host.rsqrt (addf (Host.divf
    (broadcastInDim S128x8x1 ![0, 1] bcast_S128x8_S128x8x1_0_1 (Host.reduceAdd (mulf o o) (constant S_ .f32 0x00000000#32)
    reducesTo_S128x8x128_S128x8_d2 h_S_)) (broadcastInDim S128x8x1 ![] bcast_S_S128x8x1 (constant S_ .f32 0x43000000#32)))
    (broadcastInDim S128x8x1 ![] bcast_S_S128x8x1 (constant S_ .f32 0x358637BD#32)))))) (broadcastInDim S128x8x128 ![0, 1, 2]
    bcast_S1x1x128_S128x8x128_0_1_2 (broadcastInDim S1x1x128 ![2] bcast_S128_S1x1x128_2 (shapeCast _ a10 shapeCasts_S1x128_S128))))
    (mulf (shapeCast _ a2 shapeCasts_S128x1024_S128x8x128) (Host.divf (broadcastInDim S128x8x128 ![] bcast_S_S128x8x128 (constant S_
    .f32 0x3F800000#32)) (addf (broadcastInDim S128x8x128 ![] bcast_S_S128x8x128 (constant S_ .f32 0x3F800000#32)) (Host.exp (Host.negf
    (shapeCast _ a2 shapeCasts_S128x1024_S128x8x128))))))) shapeCasts_S128x8x128_S128x1024

/-- The positions kept for the next token. -/
def rConv (xc : FVec Ideal S128x4x3072 .f32) :
    FVec Ideal S3x128x3072 .f32 :=
  transpose S3x128x3072 [1, 0, 2] (extractStridedSlice S128x3x3072 ![0, 1, 0] xc slices_S128x4x3072_S128x3x3072_0_1_0)
    transposes_S128x3x3072_S3x128x3072_1_0_2

/-- The new state. -/
def rS (k : FVec Ideal S128x8x128 .f32) (g : FVec Ideal S128x8 .f32) (vn : FVec Ideal S128x8x128 .f32) (a6 : FVec Ideal S1x128x8x128x128 .f32) :
    FVec Ideal S128x8x128x128 .f32 :=
  addf (mulf (shapeCast _ a6 shapeCasts_S1x128x8x128x128_S128x8x128x128) (broadcastInDim S128x8x128x128 ![0, 1, 2, 3]
    bcast_S128x8x1x1_S128x8x128x128_0_1_2_3 (broadcastInDim S128x8x1x1 ![0, 1] bcast_S128x8_S128x8x1x1_0_1 (Host.exp g)))) (mulf
    (broadcastInDim S128x8x128x128 ![0, 1, 2, 3] bcast_S128x8x128x1_S128x8x128x128_0_1_2_3 (broadcastInDim S128x8x128x1 ![0, 1, 2]
    bcast_S128x8x128_S128x8x128x1_0_1_2 k)) (broadcastInDim S128x8x128x128 ![0, 1, 2, 3] bcast_S128x8x1x128_S128x8x128x128_0_1_2_3
    (broadcastInDim S128x8x1x128 ![0, 1, 3] bcast_S128x8x128_S128x8x1x128_0_1_3 vn)))

/-- The kept and new positions, one of the first three. -/
theorem rXc_old (a0 : FVec Ideal S128x3072 .f32) (a1 : FVec Ideal S1x128x3x3072 .f32) (n : Fin 128) (i : Fin 4) (h : (i : ℕ) < 3) (j : Fin 3072) :
    rXc a0 a1 (ix3 n i j) = a1 (ix4 0 n ⟨i, h⟩ j) := by
  pointwise [rXc, h]

/-- The kept and new positions, the last. -/
theorem rXc_new (a0 : FVec Ideal S128x3072 .f32) (a1 : FVec Ideal S1x128x3x3072 .f32) (n : Fin 128) (i : Fin 4) (h : ¬ (i : ℕ) < 3) (j : Fin 3072) :
    rXc a0 a1 (ix3 n i j) = a0 (ix2 n j) := by
  pointwise [rXc, h]

/-- An entry of the convolution. -/
theorem rY_at (xc : FVec Ideal S128x4x3072 .f32) (a7 : FVec Ideal S1x4x3072 .f32) (n : Fin 128) (j : Fin 3072) :
    rY xc a7 (ix2 n j) = unit (conv (xc (ix3 n 0 j)) (xc (ix3 n 1 j)) (xc (ix3 n 2 j)) (xc (ix3 n 3 j))
      (a7 (ix3 0 0 j)) (a7 (ix3 0 1 j)) (a7 (ix3 0 2 j)) (a7 (ix3 0 3 j))) := by
  pointwise [rY]
  simp only [Fin.sum_univ_four, mul_comm (xc _)]
  rfl

/-- A row of 128 columns from a column on. -/
def row (y : FVec Ideal S128x3072 .f32) (n : Fin 128) (o : ℕ) (ho : o + 128 ≤ 3072) (j : Fin 128) : EReal :=
  y (ix2 n ⟨o + (j : ℕ), by omega⟩)

theorem rK_at (y : FVec Ideal S128x3072 .f32) (n : Fin 128) (h : Fin 8) (d : Fin 128) :
    rK y (ix3 n h d) = l2 (row y n (1024 + 128 * (h : ℕ)) (by omega)) d := by
  pointwise [rK]
  have i : ∀ x : Fin 128, (⟨1024 + ((h : ℕ) * 128 + (x : ℕ)), by omega⟩ : Fin 3072) = ⟨1024 + 128 * (h : ℕ) + (x : ℕ), by omega⟩ := fun x => Fin.ext (by simp only []; omega)
  simp only [i]
  rfl

theorem rQ_at (y : FVec Ideal S128x3072 .f32) (n : Fin 128) (h : Fin 8) (d : Fin 128) :
    rQ y (ix3 n h d) = qrow (row y n (128 * (h : ℕ)) (by omega)) d := by
  pointwise [rQ]
  have i : ∀ x : Fin 128, (⟨(h : ℕ) * 128 + (x : ℕ), by omega⟩ : Fin 3072) = ⟨128 * (h : ℕ) + (x : ℕ), by omega⟩ := fun x => Fin.ext (by simp only []; omega)
  simp only [i]
  rfl

theorem rG_at (a4 : FVec Ideal S128x8 .f32) (a8 a9 : FVec Ideal S1x8 .f32) (n : Fin 128) (h : Fin 8) :
    rG a4 a8 a9 (ix2 n h) = gate (a8 (ix2 0 h)) (a4 (ix2 n h) + a9 (ix2 0 h)) := by
  pointwise [rG]
  simp only [ne_eq, not_true_eq_false, if_false]
  rfl

theorem rB_at (a5 : FVec Ideal S128x8 .f32) (n : Fin 128) (h : Fin 8) :
    rB a5 (ix2 n h) = sg (a5 (ix2 n h)) := by
  pointwise [rB]
  rfl

theorem rVn_at (y : FVec Ideal S128x3072 .f32) (k : FVec Ideal S128x8x128 .f32) (g be : FVec Ideal S128x8 .f32)
    (a6 : FVec Ideal S1x128x8x128x128 .f32) (n : Fin 128) (h : Fin 8) (e : Fin 128) :
    rVn y k g be a6 (ix3 n h e) = vnew (fun d => k (ix3 n h d)) (row y n (2048 + 128 * (h : ℕ)) (by omega))
      (Ideal.exp (g (ix2 n h))) (be (ix2 n h)) (fun d e => a6 (ix5 0 n h d e)) e := by
  pointwise [rVn]
  have i : ∀ x : Fin 128, (⟨2048 + ((h : ℕ) * 128 + (x : ℕ)), by omega⟩ : Fin 3072) = ⟨2048 + 128 * (h : ℕ) + (x : ℕ), by omega⟩ := fun x => Fin.ext (by simp only []; omega)
  simp only [i]
  rfl

theorem rO_at (q k : FVec Ideal S128x8x128 .f32) (g : FVec Ideal S128x8 .f32) (vn : FVec Ideal S128x8x128 .f32)
    (a6 : FVec Ideal S1x128x8x128x128 .f32) (n : Fin 128) (h : Fin 8) (e : Fin 128) :
    rO q k g vn a6 (ix3 n h e) = (∑ d : Fin 128, q (ix3 n h d) * Ideal.exp (g (ix2 n h)) * a6 (ix5 0 n h d e))
      + (∑ d : Fin 128, q (ix3 n h d) * k (ix3 n h d)) * vn (ix3 n h e) := by
  pointwise [rO]

theorem rS_at (k : FVec Ideal S128x8x128 .f32) (g : FVec Ideal S128x8 .f32) (vn : FVec Ideal S128x8x128 .f32)
    (a6 : FVec Ideal S1x128x8x128x128 .f32) (n : Fin 128) (h : Fin 8) (d e : Fin 128) :
    rS k g vn a6 (ix4 n h d e) = a6 (ix5 0 n h d e) * Ideal.exp (g (ix2 n h)) + k (ix3 n h d) * vn (ix3 n h e) := by
  pointwise [rS]

theorem rOut_at (o : FVec Ideal S128x8x128 .f32) (a2 : FVec Ideal S128x1024 .f32) (a10 : FVec Ideal S1x128 .f32)
    (n : Fin 128) (h : Fin 8) (e : Fin 128) :
    rOut o a2 a10 (ix2 n ⟨128 * (h : ℕ) + e, by omega⟩) = gated (fun e => o (ix3 n h e)) (fun e => a10 (ix2 0 e))
      (fun e => a2 (ix2 n ⟨128 * (h : ℕ) + e, by omega⟩)) e := by
  pointwise [rOut]
  have i : (⟨(h : ℕ) * 128 + (e : ℕ), by omega⟩ : Fin 1024) = ⟨128 * (h : ℕ) + (e : ℕ), by omega⟩ := Fin.ext (by simp only []; omega)
  simp only [i]
  rfl

theorem rConv_at (xc : FVec Ideal S128x4x3072 .f32) (i : Fin 3) (n : Fin 128) (j : Fin 3072) :
    rConv xc (ix3 i n j) = xc (ix3 n ⟨1 + (i : ℕ), by omega⟩ j) := by
  pointwise [rConv]

section

variable (a0 : FVec Ideal S128x3072 .f32) (a1 : FVec Ideal S1x128x3x3072 .f32) (a2 : FVec Ideal S128x1024 .f32)
  (a4 a5 : FVec Ideal S128x8 .f32) (a6 : FVec Ideal S1x128x8x128x128 .f32) (a7 : FVec Ideal S1x4x3072 .f32)
  (a8 a9 : FVec Ideal S1x8 .f32) (a10 : FVec Ideal S1x128 .f32)

/-- The convolved rows, from the arguments. -/
def Y : FVec Ideal S128x3072 .f32 := rY (rXc a0 a1) a7

/-- One of them. -/
theorem Y_at (n : Fin 128) (j : Fin 3072) : Y a0 a1 a7 (ix2 n j)
    = unit (conv (a1 (ix4 0 n 0 j)) (a1 (ix4 0 n 1 j)) (a1 (ix4 0 n 2 j)) (a0 (ix2 n j))
      (a7 (ix3 0 0 j)) (a7 (ix3 0 1 j)) (a7 (ix3 0 2 j)) (a7 (ix3 0 3 j))) := by
  unfold Y
  rw [rY_at, rXc_old a0 a1 n 0 (by decide) j, rXc_old a0 a1 n 1 (by decide) j, rXc_old a0 a1 n 2 (by decide) j,
    rXc_new a0 a1 n 3 (by decide) j]
  rfl

/-- The new state, from the arguments. -/
def R2 : FVec Ideal S128x8x128x128 .f32 :=
  rS (rK (Y a0 a1 a7)) (rG a4 a8 a9) (rVn (Y a0 a1 a7) (rK (Y a0 a1 a7)) (rG a4 a8 a9) (rB a5) a6) a6

/-- The gated output rows, from the arguments. -/
def R0 : FVec Ideal S128x1024 .f32 :=
  rOut (rO (rQ (Y a0 a1 a7)) (rK (Y a0 a1 a7)) (rG a4 a8 a9) (rVn (Y a0 a1 a7) (rK (Y a0 a1 a7)) (rG a4 a8 a9) (rB a5) a6) a6) a2 a10

/-- The positions kept for the next token, from the arguments. -/
def R1 : FVec Ideal S3x128x3072 .f32 := rConv (rXc a0 a1)

/-- What the state is corrected by, from the arguments. -/
theorem Vn_at (n : Fin 128) (h : Fin 8) (e : Fin 128) :
    rVn (Y a0 a1 a7) (rK (Y a0 a1 a7)) (rG a4 a8 a9) (rB a5) a6 (ix3 n h e)
      = vnew (l2 (row (Y a0 a1 a7) n (1024 + 128 * (h : ℕ)) (by omega))) (row (Y a0 a1 a7) n (2048 + 128 * (h : ℕ)) (by omega))
          (Ideal.exp (gate (a8 (ix2 0 h)) (a4 (ix2 n h) + a9 (ix2 0 h)))) (sg (a5 (ix2 n h))) (fun d e => a6 (ix5 0 n h d e)) e := by
  rw [rVn_at, rG_at, rB_at]
  have k : (fun d => rK (Y a0 a1 a7) (ix3 n h d)) = l2 (row (Y a0 a1 a7) n (1024 + 128 * (h : ℕ)) (by omega)) :=
    funext fun d => rK_at _ n h d
  rw [k]

/-- The new state, an entry. -/
theorem R2_at (n : Fin 128) (h : Fin 8) (d e : Fin 128) : R2 a0 a1 a4 a5 a6 a7 a8 a9 (ix4 n h d e)
    = snew (l2 (row (Y a0 a1 a7) n (1024 + 128 * (h : ℕ)) (by omega))) (row (Y a0 a1 a7) n (2048 + 128 * (h : ℕ)) (by omega))
        (Ideal.exp (gate (a8 (ix2 0 h)) (a4 (ix2 n h) + a9 (ix2 0 h)))) (sg (a5 (ix2 n h))) (fun d e => a6 (ix5 0 n h d e)) d e := by
  unfold R2
  rw [rS_at, Vn_at, rG_at, rK_at]
  rfl

/-- The gated output rows, an entry. -/
theorem R0_at (n : Fin 128) (h : Fin 8) (e : Fin 128) : R0 a0 a1 a2 a4 a5 a6 a7 a8 a9 a10 (ix2 n ⟨128 * (h : ℕ) + e, by omega⟩)
    = gated (orow (qrow (row (Y a0 a1 a7) n (128 * (h : ℕ)) (by omega))) (l2 (row (Y a0 a1 a7) n (1024 + 128 * (h : ℕ)) (by omega)))
          (row (Y a0 a1 a7) n (2048 + 128 * (h : ℕ)) (by omega)) (Ideal.exp (gate (a8 (ix2 0 h)) (a4 (ix2 n h) + a9 (ix2 0 h))))
          (sg (a5 (ix2 n h))) (fun d e => a6 (ix5 0 n h d e)))
        (fun e => a10 (ix2 0 e)) (fun e => a2 (ix2 n ⟨128 * (h : ℕ) + e, by omega⟩)) e := by
  unfold R0
  rw [rOut_at]
  refine congrArg (fun o => gated o _ _ e) (funext fun e => ?_)
  rw [rO_at, Vn_at, rG_at]
  simp only [rQ_at, rK_at]
  rfl

/-- The positions kept, but for the last, are the old ones moved up. -/
theorem R1_old (i : Fin 3) (h : (i : ℕ) < 2) (n : Fin 128) (j : Fin 3072) :
    R1 a0 a1 (ix3 i n j) = a1 (ix4 0 n ⟨1 + (i : ℕ), by omega⟩ j) := by
  unfold R1
  rw [rConv_at, rXc_old a0 a1 n _ (by simp only []; omega) j]

/-- The last position kept is the new one. -/
theorem R1_new (n : Fin 128) (j : Fin 3072) : R1 a0 a1 (ix3 2 n j) = a0 (ix2 n j) := by
  unfold R1
  rw [rConv_at, rXc_new a0 a1 n _ (by decide) j]

end

variable (m : (ℓ : Loc nD τ sig) → Buf (Elt Ideal) ℓ)

/-- The state the plain program ends with. -/
theorem res2 (c : Dev nD) : res_out2 m c = R2 (m ((c.tc : Thread nD τ).loc main_arg0)) (m ((c.tc : Thread nD τ).loc main_arg1))
    (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9)) := rfl

/-- The output rows the plain program ends with. -/
theorem res0 (c : Dev nD) : res_out0 m c = R0 (m ((c.tc : Thread nD τ).loc main_arg0)) (m ((c.tc : Thread nD τ).loc main_arg1))
    (m ((c.tc : Thread nD τ).loc main_arg2)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) := rfl

end Cert.ReferenceIdeal.Value

end
-- ==== Proof.Dn.lean ====
module

public import proofs.«01_k».proof.Proof.DnTile
public import proofs.«01_k».proof.Proof.DnSet
public import proofs.«01_k».proof.Proof.DnRef
public import Idealize.ShloMosaic.Lib.Pipeline.ValueKit
public import Idealize.ShloMosaic.Lib.Pointwise

/-! The recurrent step of the samples: the kernel's output rows, kept positions and states are the plain ones. -/

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open scoped BigOperators
open Cert.Proof

variable (m : (ℓ : Loc nD τ sig) → Buf (Elt Ideal) ℓ)

/-- Which block of each window grid point `t` works on. -/
theorem idx : ∀ t : Fin cfg0.N, win0_0.index t = ![t.val, 0] ∧ win0_1.index t = ![0, t.val, 0] ∧ win0_2.index t = ![t.val, 0] ∧
    win0_3.index t = ![t.val, 0] ∧ win0_4.index t = ![t.val, 0, 0, 0] ∧ win0_5.index t = ![0, 0] ∧ win0_6.index t = ![0, 0] ∧
    win0_7.index t = ![0, 0] ∧ win0_8.index t = ![0, 0] ∧ win0_9.index t = ![t.val, 0] ∧ win0_10.index t = ![0, t.val, 0] ∧
    win0_11.index t = ![t.val, 0, 0, 0] ∧ t.val < 16 :=
  (by decide +kernel : ∀ t : Fin grid0.N, _)

/-- The new positions of the convolution. -/
theorem rd0 (c : Dev nD) (t : Fin cfg0.N) (r : Fin 8) (j : Fin 3072) (n : Fin 128) (hn : (n : ℕ) = t.val * 8 + r) :
    iblk m c 0 t (ix2 r j) = m ((c : Thread nD τ).loc main_arg0) (ix2 n j) := by
  blk_ext [iblk, V, idx t]

/-- The kept positions of the convolution. -/
theorem rd1 (c : Dev nD) (t : Fin cfg0.N) (i : Fin 3) (r : Fin 8) (j : Fin 3072) (z : Fin 1) (n : Fin 128) (hn : (n : ℕ) = t.val * 8 + r) :
    iblk m c 1 t (ix3 i r j) = m ((c : Thread nD τ).loc main_arg1) (ix4 z n i j) := by
  blk_ext! [iblk, V, idx t]

/-- The output gates. -/
theorem rd2 (c : Dev nD) (t : Fin cfg0.N) (r : Fin 8) (j : Fin 1024) (n : Fin 128) (hn : (n : ℕ) = t.val * 8 + r) :
    iblk m c 2 t (ix2 r j) = m ((c : Thread nD τ).loc main_arg2) (ix2 n j) := by
  blk_ext [iblk, V, idx t]

/-- The narrow columns, from the host's array. -/
theorem rd3 (c : Dev nD) (t : Fin cfg0.N) (r : Fin 8) (j : Fin 128) (n : Fin 128) (hn : (n : ℕ) = t.val * 8 + r) :
    iblk m c 3 t (ix2 r j) = V m c main_v1 (ix2 n j) := by
  blk_ext [iblk, idx t]

/-- The states. -/
theorem rd4 (c : Dev nD) (t : Fin cfg0.N) (r h : Fin 8) (d e : Fin 128) (z : Fin 1) (n : Fin 128) (hn : (n : ℕ) = t.val * 8 + r) :
    iblk m c 4 t (ix4 r h d e) = m ((c : Thread nD τ).loc main_arg6) (ix5 z n h d e) := by
  blk_ext! [iblk, V, idx t]

/-- The taps of the convolution. -/
theorem rd5 (c : Dev nD) (t : Fin cfg0.N) (i : Fin 4) (j : Fin 3072) (z : Fin 1) :
    iblk m c 5 t (ix2 i j) = m ((c : Thread nD τ).loc main_arg7) (ix3 z i j) := by
  blk_ext! [iblk, V, idx t]

/-- The heads' rates, from the host's row. -/
theorem rd6 (c : Dev nD) (t : Fin cfg0.N) (j : Fin 128) : iblk m c 6 t (ix2 0 j) = V m c main_v7 (ix2 0 j) := by
  blk_ext [iblk, idx t]

/-- The heads' step offsets, from the host's row. -/
theorem rd7 (c : Dev nD) (t : Fin cfg0.N) (j : Fin 128) : iblk m c 7 t (ix2 0 j) = V m c main_v13 (ix2 0 j) := by
  blk_ext [iblk, idx t]

/-- The norm's weights. -/
theorem rd8 (c : Dev nD) (t : Fin cfg0.N) (z : Fin 1) (j : Fin 128) :
    iblk m c 8 t (ix2 0 j) = m ((c : Thread nD τ).loc main_arg10) (ix2 z j) := by
  blk_ext [iblk, V, idx t]

/-- The host's array of narrow columns. -/
theorem v1 (c : Dev nD) : V m c main_v1 = small (m ((c : Thread nD τ).loc main_arg3)) (m ((c : Thread nD τ).loc main_arg4))
    (m ((c : Thread nD τ).loc main_arg5)) := by
  unfold V hostOps0
  after_results_simp <;> (try dsimp only [Matrix.cons_val]) <;> (try after_results_simp) <;> rfl

/-- The host's row of rates. -/
theorem v7 (c : Dev nD) : V m c main_v7 = set48 (m ((c : Thread nD τ).loc main_arg8)) := by
  unfold V hostOps0
  after_results_simp <;> (try dsimp only [Matrix.cons_val]) <;> (try after_results_simp) <;> rfl

/-- The host's row of step offsets. -/
theorem v13 (c : Dev nD) : V m c main_v13 = set48 (m ((c : Thread nD τ).loc main_arg9)) := by
  unfold V hostOps0
  after_results_simp <;> (try dsimp only [Matrix.cons_val]) <;> (try after_results_simp) <;> rfl

/-- A block's convolved row is the sample's. -/
theorem yrow_blk (c : Dev nD) (t : Fin cfg0.N) (r : Fin 8) (n : Fin 128) (hn : (n : ℕ) = t.val * 8 + r) (o : ℕ) (ho : o + 128 ≤ 3072) :
    yrow (Yv (iblk m c 0 t) (iblk m c 1 t) (iblk m c 2 t) (iblk m c 3 t) (iblk m c 4 t) (iblk m c 5 t) (iblk m c 6 t) (iblk m c 7 t) (iblk m c 8 t)) r o ho
      = Cert.ReferenceIdeal.Value.row (Cert.ReferenceIdeal.Value.Y (m ((c : Thread nD τ).loc main_arg0)) (m ((c : Thread nD τ).loc main_arg1)) (m ((c : Thread nD τ).loc main_arg7))) n o ho := by
  funext j
  unfold yrow Cert.ReferenceIdeal.Value.row
  rw [y_at, Cert.ReferenceIdeal.Value.Y_at, rd0 m c t r _ n hn, rd1 m c t 0 r _ 0 n hn, rd1 m c t 1 r _ 0 n hn, rd1 m c t 2 r _ 0 n hn,
    rd5 m c t 0 _ 0, rd5 m c t 1 _ 0, rd5 m c t 2 _ 0, rd5 m c t 3 _ 0]

/-- A block's decay is the sample's. -/
theorem g_blk (c : Dev nD) (t : Fin cfg0.N) (r : Fin 8) (n : Fin 128) (hn : (n : ℕ) = t.val * 8 + r) (h : Fin 8)
    (a4 : FVec Ideal S128x8 .f32) (a8 a9 : FVec Ideal S1x8 .f32) (e4 : (m ((c : Thread nD τ).loc main_arg4)) = a4) (e8 : (m ((c : Thread nD τ).loc main_arg8)) = a8) (e9 : (m ((c : Thread nD τ).loc main_arg9)) = a9) :
    Gv (iblk m c 0 t) (iblk m c 1 t) (iblk m c 2 t) (iblk m c 3 t) (iblk m c 4 t) (iblk m c 5 t) (iblk m c 6 t) (iblk m c 7 t) (iblk m c 8 t) (ix2 r ⟨48 + (h : ℕ), by omega⟩)
      = gate (a8 (ix2 0 h)) (a4 (ix2 n h) + a9 (ix2 0 h)) := by
  subst e4 e8 e9
  rw [g_at, rd6, rd7, rd3 m c t r _ n hn, v1, v7, v13, set48_at _ h _ rfl, set48_at _ h _ rfl, small_a _ _ _ n h _ rfl]

/-- A block's write strength is the sample's. -/
theorem b_blk (c : Dev nD) (t : Fin cfg0.N) (r : Fin 8) (n : Fin 128) (hn : (n : ℕ) = t.val * 8 + r) (h : Fin 8) :
    Bv (iblk m c 0 t) (iblk m c 1 t) (iblk m c 2 t) (iblk m c 3 t) (iblk m c 4 t) (iblk m c 5 t) (iblk m c 6 t) (iblk m c 7 t) (iblk m c 8 t) (ix2 r ⟨56 + (h : ℕ), by omega⟩) = sg ((m ((c : Thread nD τ).loc main_arg5)) (ix2 n h)) := by
  rw [b_at, rd3 m c t r _ n hn, v1, small_b _ _ _ n h _ rfl]

/-- The kernel's states are the plain ones. -/
theorem final11 (c : Dev nD) : (dats m 0 c).arrAt 11 (cfgs 0).N
    = Cert.ReferenceIdeal.Value.R2 (m ((c : Thread nD τ).loc main_arg0)) (m ((c : Thread nD τ).loc main_arg1)) (m ((c : Thread nD τ).loc main_arg4))
        (m ((c : Thread nD τ).loc main_arg5)) (m ((c : Thread nD τ).loc main_arg6)) (m ((c : Thread nD τ).loc main_arg7)) (m ((c : Thread nD τ).loc main_arg8))
        (m ((c : Thread nD τ).loc main_arg9)) := by
  refine (dats m 0 c).arrAt_eq_of_covers 11 _ (by decide +kernel) fun t _ y => ?_
  blk_simp
  rw [after0_11]
  generalize hi : ((cfg0.win 11).blk t).view.emb y = i
  have h0 : (i 0 : ℕ) = t.val * 8 + y 0 := by rw [← hi]; blk_simp [idx t]
  have h1 : (i 1 : ℕ) = y 1 := by rw [← hi]; blk_simp [idx t]
  have h2 : (i 2 : ℕ) = y 2 := by rw [← hi]; blk_simp [idx t]
  have h3 : (i 3 : ℕ) = y 3 := by rw [← hi]; blk_simp [idx t]
  clear hi
  obtain ⟨n, h, d, e, rfl⟩ : ∃ (n : Fin 128) (h : Fin 8) (d e : Fin 128), i = ix4 n h d e := ⟨i 0, i 1, i 2, i 3, eq_ix4 i⟩
  rw [Cert.ReferenceIdeal.Value.R2_at]
  refine (tiles11 _ _ _ _ _ _ _ _ _ y (y 0) h d e rfl h1 h2 h3).trans ?_
  have hn : (n : ℕ) = t.val * 8 + y 0 := h0
  unfold St
  rw [yrow_blk m c t (y 0) n hn, yrow_blk m c t (y 0) n hn, g_blk m c t (y 0) n hn h _ _ _ rfl rfl rfl, b_blk m c t (y 0) n hn]
  congr 1
  funext d e
  exact rd4 m c t (y 0) h d e 0 n hn

/-- The kernel's output rows are the plain ones. -/
theorem final9 (c : Dev nD) : (dats m 0 c).arrAt 9 (cfgs 0).N
    = Cert.ReferenceIdeal.Value.R0 (m ((c : Thread nD τ).loc main_arg0)) (m ((c : Thread nD τ).loc main_arg1)) (m ((c : Thread nD τ).loc main_arg2))
        (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) := by
  have hb : ∀ (h : Fin 8) (e : Fin 128), 128 * (h : ℕ) + (e : ℕ) < 1024 := fun h e => by omega
  refine (dats m 0 c).arrAt_eq_of_covers 9 _ (by decide +kernel) fun t _ y => ?_
  blk_simp
  rw [after0_9]
  generalize hi : ((cfg0.win 9).blk t).view.emb y = i
  have h0 : (i 0 : ℕ) = t.val * 8 + y 0 := by rw [← hi]; blk_simp [idx t]
  have h1 : (i 1 : ℕ) = y 1 := by rw [← hi]; blk_simp [idx t]
  clear hi
  obtain ⟨n, j, rfl⟩ : ∃ (n : Fin 128) (j : Fin 1024), i = ix2 n j := ⟨i 0, i 1, eq_ix2 i⟩
  have hj : (j : ℕ) = y 1 := h1
  obtain ⟨h, e, rfl⟩ : ∃ (h : Fin 8) (e : Fin 128), j = ⟨128 * (h : ℕ) + (e : ℕ), hb h e⟩ :=
    ⟨⟨j / 128, by omega⟩, ⟨j % 128, by omega⟩, Fin.ext (by simp only []; omega)⟩
  rw [Cert.ReferenceIdeal.Value.R0_at]
  refine (tiles9 _ _ _ _ _ _ _ _ _ y (y 0) h e rfl hj).trans ?_
  have hn : (n : ℕ) = t.val * 8 + y 0 := h0
  unfold Ot
  rw [yrow_blk m c t (y 0) n hn, yrow_blk m c t (y 0) n hn, yrow_blk m c t (y 0) n hn, g_blk m c t (y 0) n hn h _ _ _ rfl rfl rfl, b_blk m c t (y 0) n hn]
  have e4 : (fun d e => iblk m c 4 t (ix4 (y 0) h d e)) = fun d e => (m ((c : Thread nD τ).loc main_arg6)) (ix5 0 n h d e) :=
    funext fun d => funext fun e => rd4 m c t (y 0) h d e 0 n hn
  have e8 : (fun e => iblk m c 8 t (ix2 0 e)) = fun e => (m ((c : Thread nD τ).loc main_arg10)) (ix2 0 e) :=
    funext fun e => rd8 m c t 0 e
  have e2 : (fun e : Fin 128 => iblk m c 2 t (ix2 (y 0) ⟨128 * (h : ℕ) + (e : ℕ), by omega⟩))
      = fun e : Fin 128 => (m ((c : Thread nD τ).loc main_arg2)) (ix2 n ⟨128 * (h : ℕ) + (e : ℕ), by omega⟩) :=
    funext fun e => rd2 m c t (y 0) _ n hn
  rw [e4, e8, e2]

/-- The kernel's kept positions are the plain ones. -/
theorem final10 (c : Dev nD) : (dats m 0 c).arrAt 10 (cfgs 0).N
    = Cert.ReferenceIdeal.Value.R1 (m ((c : Thread nD τ).loc main_arg0)) (m ((c : Thread nD τ).loc main_arg1)) := by
  refine (dats m 0 c).arrAt_eq_of_covers 10 _ (by decide +kernel) fun t _ y => ?_
  blk_simp
  rw [after0_10]
  generalize hi : ((cfg0.win 10).blk t).view.emb y = i
  have h0 : (i 0 : ℕ) = y 0 := by rw [← hi]; blk_simp [idx t]
  have h1 : (i 1 : ℕ) = t.val * 8 + y 1 := by rw [← hi]; blk_simp [idx t]
  have h2 : (i 2 : ℕ) = y 2 := by rw [← hi]; blk_simp [idx t]
  clear hi
  obtain ⟨k, n, j, rfl⟩ : ∃ (k : Fin 3) (n : Fin 128) (j : Fin 3072), i = ix3 k n j := ⟨i 0, i 1, i 2, eq_ix3 i⟩
  have hk : (k : ℕ) = y 0 := h0
  have hn : (n : ℕ) = t.val * 8 + y 1 := h1
  have hj : (j : ℕ) = y 2 := h2
  unfold out0_10
  canon_tiles x hx
  · obtain rfl : k = 2 := Fin.ext (show (k : ℕ) = 2 by omega)
    have hx : j = x 2 := Fin.ext (hj.trans hx2)
    refine Eq.trans ?_ (Cert.ReferenceIdeal.Value.R1_new _ _ n j).symm
    clear h0 h1 h2 hj
    pointwise [k0_pay4]
    subst hx
    exact rd0 m c t _ _ n (hn.trans (by rw [hx1]))
  · obtain rfl : k = 1 := Fin.ext (show (k : ℕ) = 1 by omega)
    have hx : j = x 2 := Fin.ext (hj.trans hx2)
    refine Eq.trans ?_ (Cert.ReferenceIdeal.Value.R1_old _ _ 1 (by decide) n j).symm
    clear h0 h1 h2 hj
    pointwise [k0_pay3]
    subst hx
    exact rd1 m c t 2 _ _ 0 n (hn.trans (by rw [hx1]))
  · obtain rfl : k = 0 := Fin.ext (show (k : ℕ) = 0 by omega)
    have hx : j = x 2 := Fin.ext (hj.trans hx2)
    refine Eq.trans ?_ (Cert.ReferenceIdeal.Value.R1_old _ _ 0 (by decide) n j).symm
    clear h0 h1 h2 hj
    pointwise [k0_pay2]
    subst hx
    exact rd1 m c t 1 _ _ 0 n (hn.trans (by rw [hx1]))

end Cert.KernelIdeal.Value

end
-- ==== Proof.PairDn.lean ====
module

public import proofs.«01_k».proof.Defs
public import proofs.«01_k».proof.Proof.Dn
public import Idealize.ShloMosaic.Lib.Claim

/-! The recurrent step of the samples: from the kernel's arrays to the claim about its program. -/

@[expose] public section

noncomputable section

namespace Cert.Proof

open Idealize.ShloMosaic Idealize.SL.Sem

/-- The recurrent step's kernel and the plain program end with the same output rows, kept positions and states. -/
theorem pair_dn : Cert.algebraic_KernelIdeal_ReferenceIdeal := by
  pair_intro
  · run_from Cert.KernelIdeal.Value.run_blocks m g
  · run_from Cert.ReferenceIdeal.Value.run m' g'
    · obtain ⟨e0, e1, e2, e3, e4, e5, e6, e7, e8, e9, e10⟩ := hagree c
      refine (Cert.ReferenceIdeal.Value.res0 m' c).trans ?_
      rw [e0, e1, e2, e4, e5, e6, e7, e8, e9, e10]
      exact (Cert.KernelIdeal.Value.final9 m c).symm
    · exact (Cert.KernelIdeal.Value.final10 m c).symm
    · obtain ⟨e0, e1, e2, e3, e4, e5, e6, e7, e8, e9, e10⟩ := hagree c
      refine (Cert.ReferenceIdeal.Value.res2 m' c).trans ?_
      rw [e0, e1, e4, e5, e6, e7, e8, e9]
      exact (Cert.KernelIdeal.Value.final11 m c).symm

end Cert.Proof

end
-- ==== Proof.MlpS.lean ====
module

public import proofs.«01_k».proof.Proof.Gen.Kernel6Ideal.Value
public import proofs.«01_k».proof.Proof.Gen.Reference6Ideal.Run
public import proofs.«01_k».proof.Proof.Rows
public import Idealize.ShloMosaic.Lib.Pipeline.ValueKit
public import Idealize.ShloMosaic.Lib.Pointwise
public import Idealize.ShloMosaic.Lib.Pipeline.ReadBack
public import Idealize.ShloMosaic.Lib.Tactic.CleanTypes

/-! The second half of the layer on the sample rows. Two grid points work on the 128 rows: the first forms the row after the
    mixers, its norm and the first 2048 hidden units' share, the second adds the other 2048 and writes the normed output. -/

@[expose] public section

set_option maxRecDepth 16384

noncomputable section

namespace Cert.Reference6Ideal.Value
open Cert.Reference6Ideal Cert.Reference6Ideal.Gen Idealize.ShloMosaic Idealize.ShloMosaic.TcCoe Idealize.SL.Sem
open Cert.Proof
open scoped BigOperators

/-- The plain mathematics' output of the layer. -/
def R0 (m : (ℓ : Loc nD τ sig) → Buf (Elt Ideal) ℓ) (c : Dev nD) : FVec Ideal S1x128x1024 .f32 := res_out0 m c

/-- The layer's row of token `s` from the arguments: the residual after the mixers. -/
def mrow (x : FVec Ideal S128x1x1024 .f32) (n : FVec Ideal S1x128x1024 .f32) (d : FVec Ideal S128x1024 .f32) (g : FVec Ideal S1x128x2048 .f32)
    (md : FVec Ideal S128x6144 .f32) (w : FVec Ideal S1x1024x1024 .f32) (s : Fin 128) : Fin 1024 → EReal :=
  mixed (fun k => x (ix3 s 0 k)) (fun k => g (ix3 0 s ⟨(k : ℕ), by omega⟩)) (fun k => g (ix3 0 s ⟨1024 + (k : ℕ), by omega⟩))
    (fun k => n (ix3 0 s k)) (fun k => d (ix2 s k)) (fun k => md (ix2 s ⟨2048 + (k : ℕ), by omega⟩)) (fun k j => w (ix3 0 k j))

/-- The normed row of token `s` before the hidden layer. -/
def hrow (x : Fin 1024 → EReal) (md : FVec Ideal S128x6144 .f32) (g2 : FVec Ideal S1x1024 .f32) (b : Fin 128) : Fin 1024 → EReal :=
  hid x (fun k => g2 (ix2 0 k)) (fun k => md (ix2 b ⟨4096 + (k : ℕ), by omega⟩)) (fun k => md (ix2 b ⟨3072 + (k : ℕ), by omega⟩))

/-- One summand of the hidden layer's output. -/
def fterm (h : Fin 1024 → EReal) (wu : FVec Ideal S1x1024x4096 .f32) (wd : FVec Ideal S1x4096x1024 .f32) (j : Fin 1024) (l : Fin 4096) : EReal :=
  act h (fun k => wu (ix3 0 k l)) * wd (ix3 0 l j)

/-- The layer's output row. -/
def orow (x : Fin 1024 → EReal) (md : FVec Ideal S128x6144 .f32) (f : Fin 1024 → EReal) (gf : FVec Ideal S1024 .f32) (b : Fin 128) : Fin 1024 → EReal :=
  fin x (fun k => md (ix2 b ⟨5120 + (k : ℕ), by omega⟩)) f (fun k => gf (ix1 k))

/-- An entry of the plain output, as a function of the arguments' rows. -/
theorem R0_at (m : (ℓ : Loc nD τ sig) → Buf (Elt Ideal) ℓ) (c : Dev nD) (b : Fin 1) (s : Fin 128) (j : Fin 1024) :
    R0 m c (ix3 b s j) =
      orow (mrow (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg6)) s)
        (m ((c.tc : Thread nD τ).loc main_arg4))
        (fun d => ∑ l : Fin 4096, fterm (hrow (mrow (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg6)) s)
            (m ((c.tc : Thread nD τ).loc main_arg4)) (m ((c.tc : Thread nD τ).loc main_arg5)) s)
          (m ((c.tc : Thread nD τ).loc main_arg7)) (m ((c.tc : Thread nD τ).loc main_arg8)) d l)
        (m ((c.tc : Thread nD τ).loc main_arg9)) s j := by
  obtain rfl : b = 0 := Subsingleton.elim _ _
  unfold R0 res_out0 res_main_v62
  clean_types
  pointwise
  rfl
end Cert.Reference6Ideal.Value

namespace Cert.Kernel6Ideal.Value

open Cert.Kernel6Ideal Cert.Kernel6Ideal.Gen Idealize.ShloMosaic Idealize.ShloMosaic.TcCoe Idealize.SL.Sem
open Idealize.ShloMosaic.Pipeline (Dat)
open Cert.Proof
open scoped BigOperators
variable (m : (ℓ : Loc nD τ sig) → Buf (Elt Ideal) ℓ)

/-- Which block of each window grid point `t` works on. -/
theorem idx : ∀ t : Fin cfg0.N, win0_0.index t = ![0, 0, 0] ∧ win0_1.index t = ![0, 0, 0]
    ∧ win0_2.index t = ![0, 0, 0] ∧ win0_3.index t = ![0, 0, 0] ∧ win0_4.index t = ![0, 0, 0, 0] ∧ win0_5.index t = ![0, 0] ∧ win0_6.index t = ![0, 0]
    ∧ win0_7.index t = ![0, 0] ∧ win0_8.index t = ![0, t.val % 2] ∧ win0_9.index t = ![t.val % 2, 0]
    ∧ win0_10.index t = ![0, 0, 0] ∧ t.val < 2 :=
  (by decide +kernel : ∀ t : Fin grid0.N, _)

/-- The block of the layer's input. -/
theorem rd0 (c : Dev nD) (t : Fin cfg0.N) (z z' : Fin 1) (r : Fin 128) (k : Fin 1024) :
    iblk m c 0 t (ix3 z r k) = m ((c : Thread nD τ).loc main_arg0) (ix3 r z' k) := by
  blk_ext! [iblk, V, idx t]
/-- The block of the attention's output. -/
theorem rd1 (c : Dev nD) (t : Fin cfg0.N) (z z' : Fin 1) (r : Fin 128) (k : Fin 1024) :
    iblk m c 1 t (ix3 z r k) = m ((c : Thread nD τ).loc main_arg1) (ix3 z' r k) := by
  blk_ext [iblk, V, idx t]
/-- The block of the delta rule's output. -/
theorem rd2 (c : Dev nD) (t : Fin cfg0.N) (z : Fin 1) (r : Fin 128) (k : Fin 1024) :
    iblk m c 2 t (ix3 z r k) = m ((c : Thread nD τ).loc main_arg2) (ix2 r k) := by
  blk_ext! [iblk, V, idx t]
/-- The block of merge gates. -/
theorem rd3 (c : Dev nD) (t : Fin cfg0.N) (z z' : Fin 1) (r : Fin 128) (k : Fin 2048) :
    iblk m c 3 t (ix3 z r k) = m ((c : Thread nD τ).loc main_arg3) (ix3 z' r k) := by
  blk_ext [iblk, V, idx t]
/-- The block of modulation vectors. -/
theorem rd4 (c : Dev nD) (t : Fin cfg0.N) (z : Fin 1) (i : Fin 6) (r : Fin 128) (k : Fin 1024) (l : Fin 6144)
    (hl : (l : ℕ) = i * 1024 + k) : iblk m c 4 t (ix4 z i r k) = m ((c : Thread nD τ).loc main_arg4) (ix2 r l) := by
  blk_ext! [iblk, V, idx t]
/-- The weights of the norm before the hidden layer. -/
theorem rd5 (c : Dev nD) (t : Fin cfg0.N) (z z' : Fin 1) (k : Fin 1024) :
    iblk m c 5 t (ix2 z k) = m ((c : Thread nD τ).loc main_arg5) (ix2 z' k) := by
  blk_ext [iblk, V, idx t]
/-- The weights of the final norm. -/
theorem rd6 (c : Dev nD) (t : Fin cfg0.N) (z : Fin 1) (k : Fin 1024) :
    iblk m c 6 t (ix2 z k) = m ((c : Thread nD τ).loc main_arg9) (ix1 k) := by
  blk_ext! [iblk, V, idx t]
/-- The projection of the mixers. -/
theorem rd7 (c : Dev nD) (t : Fin cfg0.N) (z : Fin 1) (k j : Fin 1024) :
    iblk m c 7 t (ix2 k j) = m ((c : Thread nD τ).loc main_arg6) (ix3 z k j) := by
  blk_ext! [iblk, V, idx t]
/-- The block of weights into the hidden layer. -/
theorem rd8 (c : Dev nD) (t : Fin cfg0.N) (z : Fin 1) (k : Fin 1024) (j : Fin 2048) (l : Fin 4096) (hl : (l : ℕ) = t.val % 2 * 2048 + j) :
    iblk m c 8 t (ix2 k j) = m ((c : Thread nD τ).loc main_arg7) (ix3 z k l) := by
  blk_ext! [iblk, V, idx t]
/-- The block of weights out of the hidden layer. -/
theorem rd9 (c : Dev nD) (t : Fin cfg0.N) (z : Fin 1) (k : Fin 1024) (j : Fin 2048) (l : Fin 4096) (hl : (l : ℕ) = t.val % 2 * 2048 + j) :
    iblk m c 9 t (ix2 j k) = m ((c : Thread nD τ).loc main_arg8) (ix3 z l k) := by
  blk_ext! [iblk, V, idx t]

/-- The stored residual, from the loaded blocks. -/
theorem pay9_at (A : Vec Ideal S1x128x1024 .f32) (B : Vec Ideal S1x1x128x1024 .f32) (W : Vec Ideal S1024x1024 .bf16)
    (Ma Mb : Vec Ideal S1x128x1024 .f32) (N D : Vec Ideal S1x128x1024 .f32) (r : Fin 128) (j : Fin 1024) :
    k0_pay8 (F := Ideal) (k0_pay3 A) (k0_pay4 B) (k0_pay5 W) (k0_pay6 Ma Mb N D) (constant S128x1024 .f32 0#32) (ix2 r j)
      = mixed (fun k => A (ix3 0 r k)) (fun k => Ma (ix3 0 r k)) (fun k => Mb (ix3 0 r k)) (fun k => N (ix3 0 r k)) (fun k => D (ix3 0 r k))
          (fun k => B (ix4 0 0 r k)) (fun k j => W (ix2 k j)) j := by
  pointwise [k0_pay8, k0_pay7, k0_pay3, k0_pay4, k0_pay5, k0_pay6]
  unfold mixed sg
  simp only [zero_sub]

/-- The stored normed row, from the stored residual. -/
theorem pay10_at (a1 : FVec Ideal S128x1024 .f32) (a2 : FVec Ideal S128x1024 .f32) (a3 : FVec Ideal S1024x1024 .bf16) (a4 : FVec Ideal S128x1024 .bf16)
    (a5 : FVec Ideal S128x1024 .f32) (G : Vec Ideal S1x1024 .f32) (P Q : Vec Ideal S1x1x128x1024 .f32) (r : Fin 128) (j : Fin 1024) :
    k0_pay9 (F := Ideal) a1 a2 a3 a4 a5 G P Q (ix2 r j)
      = hid (fun k => k0_pay8 (F := Ideal) a1 a2 a3 a4 a5 (ix2 r k)) (fun k => G (ix2 0 k)) (fun k => P (ix4 0 0 r k)) (fun k => Q (ix4 0 0 r k)) j := by
  have e : ∀ i, k0_pay7 (F := Ideal) a1 a2 a3 a4 a5 i = k0_pay8 (F := Ideal) a1 a2 a3 a4 a5 i := fun i => by
    pointwise [k0_pay8]
  pointwise [k0_pay9]
  simp only [e]
  rfl

/-- The accumulator after a block of hidden units. -/
theorem pay2_at (h : Vec Ideal S128x1024 .bf16) (u : Vec Ideal S1024x2048 .bf16) (a : Vec Ideal S128x1024 .f32) (d : Vec Ideal S2048x1024 .bf16)
    (r : Fin 128) (j : Fin 1024) :
    k0_pay1 (F := Ideal) h u a d (ix2 r j)
      = a (ix2 r j) + ∑ l : Fin 2048, act (fun k => h (ix2 r k)) (fun k => u (ix2 k l)) * d (ix2 l j) := by
  pointwise [k0_pay1]
  rfl

/-- The output block, from the three stored blocks. -/
theorem pay3_at (x : Vec Ideal S128x1024 .f32) (g : Vec Ideal S1x1x128x1024 .f32) (a : Vec Ideal S128x1024 .f32) (gf : Vec Ideal S1x1024 .f32)
    (z : Fin 1) (r : Fin 128) (j : Fin 1024) :
    k0_pay2 (F := Ideal) x g a gf (ix3 z r j)
      = fin (fun k => x (ix2 r k)) (fun k => g (ix4 0 0 r k)) (fun k => a (ix2 r k)) (fun k => gf (ix2 0 k)) j := by
  pointwise [k0_pay2]
  rfl

/-- The row after the mixers, from the arguments. -/
abbrev X (c : Dev nD) (s : Fin 128) : Fin 1024 → EReal :=
  Cert.Reference6Ideal.Value.mrow (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg6)) s

/-- The normed row, from the arguments. -/
abbrev H (c : Dev nD) (s : Fin 128) : Fin 1024 → EReal :=
  Cert.Reference6Ideal.Value.hrow (X m c s) (m ((c : Thread nD τ).loc main_arg4)) (m ((c : Thread nD τ).loc main_arg5)) s

/-- One summand of the hidden layer's output, from the arguments. -/
abbrev T (c : Dev nD) (s : Fin 128) (j : Fin 1024) : Fin 4096 → EReal :=
  Cert.Reference6Ideal.Value.fterm (H m c s) (m ((c : Thread nD τ).loc main_arg7)) (m ((c : Thread nD τ).loc main_arg8)) j

/-- The first point of a block stores the row after the mixers. -/
theorem x_even (c : Dev nD) (t : Fin cfg0.N) (h : t.val % 2 = 0) (r : Fin 128) (j : Fin 1024) : (outsAt0 m c t.val t.isLt).2.1 (ix2 r j) = X m c r j := by
  rw [outsAt0_A m c t h (by omega)]
  frame_out
  rw [pay9_at]
  pointwise
  have e0 := fun k => rd0 m c t 0 0 r k
  have e1 := fun k => rd1 m c t 0 0 r k
  have e2 := fun k => rd2 m c t 0 r k
  have e3 := fun k => rd3 m c t 0 0 r k
  have e4 := fun k : Fin 1024 => rd4 m c t 0 2 r k ⟨2048 + (k : ℕ), by omega⟩ rfl
  have e7 := fun k j => rd7 m c t 0 k j
  simp only [e0, e1, e2, e3, e4, e7]
  rfl

/-- The first point of a block stores the normed row. -/
theorem h_even (c : Dev nD) (t : Fin cfg0.N) (h : t.val % 2 = 0) (r : Fin 128) (j : Fin 1024) : (outsAt0 m c t.val t.isLt).2.2.1 (ix2 r j) = H m c r j := by
  have e := fun k => x_even m c t h r k
  rw [outsAt0_A m c t h (by omega)] at e ⊢
  frame_out at e
  frame_out
  rw [pay10_at]
  simp only [e]
  pointwise
  have e3 := fun k : Fin 1024 => rd4 m c t 0 3 r k ⟨3072 + (k : ℕ), by omega⟩ rfl
  have e4 := fun k : Fin 1024 => rd4 m c t 0 4 r k ⟨4096 + (k : ℕ), by omega⟩ rfl
  have e5 := fun k => rd5 m c t 0 0 k
  simp only [e3, e4, e5]
  rfl

/-- One grid point's share of the hidden layer's output. -/
theorem half (c : Dev nD) (t : Fin cfg0.N) (r : Fin 128) (j : Fin 1024) (v : Vec Ideal S128x1024 .bf16)
    (a : Vec Ideal S128x1024 .f32) (hv : ∀ k, v (ix2 r k) = H m c r k) (q : ℕ) (hq : q = t.val % 2 * 2048) (hq' : q ≤ 2048) :
    k0_pay1 (F := Ideal) v (iblk m c 8 t) a (iblk m c 9 t) (ix2 r j)
      = a (ix2 r j) + ∑ l : Fin 2048, T m c r j ⟨q + (l : ℕ), by omega⟩ := by
  rw [pay2_at]
  have e8 := fun k (l : Fin 2048) => rd8 m c t 0 k l ⟨q + (l : ℕ), by omega⟩ (by simp only [hq])
  have e9 := fun k (l : Fin 2048) => rd9 m c t 0 k l ⟨q + (l : ℕ), by omega⟩ (by simp only [hq])
  simp only [hv, e8, e9]
  rfl

/-- The first point of a block accumulates the first half of the hidden units. -/
theorem a_even (c : Dev nD) (t : Fin cfg0.N) (h : t.val % 2 = 0) (r : Fin 128) (j : Fin 1024) :
    (outsAt0 m c t.val t.isLt).2.2.2 (ix2 r j) = ∑ l : Fin 2048, T m c r j ⟨(l : ℕ), by omega⟩ := by
  have e := fun k => h_even m c t h r k
  rw [outsAt0_A m c t h (by omega)] at e ⊢
  frame_out at e
  frame_out
  rw [half m c t r j _ _ e 0 (by omega) (by omega)]
  pointwise [k0_pay10]

/-- What the second point of a block writes: the output rows. -/
theorem point (c : Dev nD) (t : Fin cfg0.N) (h : t.val % 2 = 1) (z : Fin 1) (r : Fin 128) (j : Fin 1024) :
    (outsAt0 m c t.val t.isLt).1 (ix3 z r j)
      = Cert.Reference6Ideal.Value.orow (X m c r) (m ((c : Thread nD τ).loc main_arg4)) (fun d => ∑ l : Fin 4096, T m c r d l)
          (m ((c : Thread nD τ).loc main_arg9)) r j := by
  have hp : t.val - 1 < cfg0.N := by have := t.isLt; omega
  have ex := fun k => x_even m c ⟨t.val - 1, hp⟩ (by simp only []; omega) r k
  have eh := fun k => h_even m c ⟨t.val - 1, hp⟩ (by simp only []; omega) r k
  have ea := fun k => a_even m c ⟨t.val - 1, hp⟩ (by simp only []; omega) r k
  rw [outsAt0_B m c t (by omega) h]
  frame_out
  simp only [Idealize.ShloMosaic.read_unread_whole]
  rw [pay3_at]
  simp only [half m c t r _ _ _ eh 2048 (by omega) (by omega), ex, ea]
  pointwise
  have e5 := fun k : Fin 1024 => rd4 m c t 0 5 r k ⟨5120 + (k : ℕ), by omega⟩ rfl
  have e6 := fun k => rd6 m c t 0 k
  simp only [e5, e6]
  have es : ∀ d, ∑ l : Fin 4096, T m c r d l = _ := fun d => Fin.sum_univ_two_halves 2048 2048 rfl (T m c r d)
  simp only [es]
  rfl

/-- The kernel's output is the plain one, for a memory of the reference that holds the same arguments. -/
theorem final (c : Dev nD) (m' : (ℓ : Loc Cert.Reference6Ideal.nD Cert.Reference6Ideal.τ Cert.Reference6Ideal.sig) → Buf (Elt Ideal) ℓ)
    (e0 : m' ((c.tc : Thread nD τ).loc Cert.Reference6Ideal.main_arg0) = m ((c : Thread nD τ).loc main_arg0))
    (e1 : m' ((c.tc : Thread nD τ).loc Cert.Reference6Ideal.main_arg1) = m ((c : Thread nD τ).loc main_arg1))
    (e2 : m' ((c.tc : Thread nD τ).loc Cert.Reference6Ideal.main_arg2) = m ((c : Thread nD τ).loc main_arg2))
    (e3 : m' ((c.tc : Thread nD τ).loc Cert.Reference6Ideal.main_arg3) = m ((c : Thread nD τ).loc main_arg3))
    (e4 : m' ((c.tc : Thread nD τ).loc Cert.Reference6Ideal.main_arg4) = m ((c : Thread nD τ).loc main_arg4))
    (e5 : m' ((c.tc : Thread nD τ).loc Cert.Reference6Ideal.main_arg5) = m ((c : Thread nD τ).loc main_arg5))
    (e6 : m' ((c.tc : Thread nD τ).loc Cert.Reference6Ideal.main_arg6) = m ((c : Thread nD τ).loc main_arg6))
    (e7 : m' ((c.tc : Thread nD τ).loc Cert.Reference6Ideal.main_arg7) = m ((c : Thread nD τ).loc main_arg7))
    (e8 : m' ((c.tc : Thread nD τ).loc Cert.Reference6Ideal.main_arg8) = m ((c : Thread nD τ).loc main_arg8))
    (e9 : m' ((c.tc : Thread nD τ).loc Cert.Reference6Ideal.main_arg9) = m ((c : Thread nD τ).loc main_arg9)) :
    (dats m 0 c).arrAt 10 (cfgs 0).N = Cert.Reference6Ideal.Value.R0 m' c := by
  refine (dats m 0 c).arrAt_eq_of_covers 10 _ (by decide +kernel) fun t hf y => ?_
  have h := (flush0_10 t).mp hf
  blk_simp
  rw [after0_10]
  generalize hi : ((cfg0.win 10).blk t).view.emb y = i
  have h1 : (i 1 : ℕ) = y 1 := by rw [← hi]; blk_simp [idx t]
  have h2 : (i 2 : ℕ) = y 2 := by rw [← hi]; blk_simp [idx t]
  clear hi
  obtain ⟨b, s, j, rfl⟩ : ∃ (b : Fin 1) (s : Fin 128) (j : Fin 1024), i = ix3 b s j := ⟨i 0, i 1, i 2, eq_ix3 i⟩
  obtain ⟨z, r, j', rfl⟩ : ∃ (z : Fin 1) (r : Fin 128) (j' : Fin 1024), y = ix3 z r j' := ⟨y 0, y 1, y 2, eq_ix3 y⟩
  obtain rfl : j = j' := Fin.ext h2
  obtain rfl : s = r := Fin.ext h1
  rw [Cert.Reference6Ideal.Value.R0_at, e0, e1, e2, e3, e4, e5, e6, e7, e8, e9]
  exact point m c t h z s j

end Cert.Kernel6Ideal.Value
end
-- ==== Proof.PairMlpS.lean ====
module

public import proofs.«01_k».proof.Defs
public import proofs.«01_k».proof.Proof.MlpS
public import Idealize.ShloMosaic.Lib.Claim

/-! The second half of the layer for the samples: from the kernel's array to the claim about its program. -/

@[expose] public section

noncomputable section

namespace Cert.Proof

open Idealize.ShloMosaic Idealize.SL.Sem

/-- The kernel of the second half of the layer for the samples and the plain program end with the same output. -/
theorem pair_mlp_s : Cert.algebraic_Kernel6Ideal_Reference6Ideal := by
  pair_intro
  · run_from Cert.Kernel6Ideal.Gen.run_main m g
  · have e := hagree
    run_from Cert.Reference6Ideal.Value.run m' g'
    obtain ⟨e0, e1, e2, e3, e4, e5, e6, e7, e8, e9⟩ := e c
    exact (Cert.Kernel6Ideal.Value.final m c m' e0 e1 e2 e3 e4 e5 e6 e7 e8 e9).symm

end Cert.Proof

end
-- ==== Proof.ProjS.lean ====
module

public import proofs.«01_k».proof.Proof.Gen.Kernel7Ideal.Value
public import proofs.«01_k».proof.Proof.Gen.Reference7Ideal.Run
public import proofs.«01_k».proof.Proof.Normed
public import Idealize.ShloMosaic.Lib.Pipeline.ValueKit
public import Idealize.ShloMosaic.Lib.Pointwise

/-! The first projection of the sample rows: the queries of the attention, and its six key and value arrays, which the kernel writes
    channels first. Each stored block is read back to the arguments and compared with the plain projection. -/

@[expose] public section

set_option maxRecDepth 16384

noncomputable section

namespace Cert.Reference7Ideal.Value

open Cert.Reference7Ideal Cert.Reference7Ideal.Gen Idealize.ShloMosaic Idealize.ShloMosaic.TcCoe Idealize.SL.Sem
open scoped BigOperators

/-- The plain projection of the normed rows onto all of the weight's columns. -/
def P (a0 : FVec Ideal S128x1x1024 .f32) (a1 : FVec Ideal S128x6144 .f32) (a2 : FVec Ideal S1x1024 .f32)
    (a3 : FVec Ideal S1x1024x8768 .f32) : FVec Ideal S1x128x8768 .f32 :=
  Host.dotGeneral dot_S1x128x1024_S1024x8768_S1x128x8768_2_0_01_1_n_n none (addf (mulf (mulf (mulf (shapeCast
    _ a0 shapeCasts_S128x1x1024_S1x128x1024) (broadcastInDim S1x128x1024 ![0, 1, 2]
    bcast_S1x128x1_S1x128x1024_0_1_2 (Host.rsqrt (addf (Host.divf (broadcastInDim S1x128x1 ![0, 1]
    bcast_S1x128_S1x128x1_0_1 (Host.reduceAdd (mulf (shapeCast _ a0 shapeCasts_S128x1x1024_S1x128x1024)
    (shapeCast _ a0 shapeCasts_S128x1x1024_S1x128x1024)) (constant S_ .f32 0x00000000#32)
    reducesTo_S1x128x1024_S1x128_d2 h_S_)) (broadcastInDim S1x128x1 ![] bcast_S_S1x128x1 (constant S_ .f32
    0x44800000#32))) (broadcastInDim S1x128x1 ![] bcast_S_S1x128x1 (constant S_ .f32 0x358637BD#32))))))
    (broadcastInDim S1x128x1024 ![0, 1, 2] bcast_S1x1x1024_S1x128x1024_0_1_2 (broadcastInDim S1x1x1024 ![2]
    bcast_S1024_S1x1x1024_2 (shapeCast _ a2 shapeCasts_S1x1024_S1024)))) (addf (broadcastInDim S1x128x1024 ![]
    bcast_S_S1x128x1024 (constant S_ .f32 0x3F800000#32)) (extractStridedSlice S1x128x1024 ![0, 0, 1024]
    (broadcastInDim S1x128x6144 ![1, 2] bcast_S128x6144_S1x128x6144_1_2 a1)
    slices_S1x128x6144_S1x128x1024_0_0_1024))) (extractStridedSlice S1x128x1024 ![0, 0, 0] (broadcastInDim
    S1x128x6144 ![1, 2] bcast_S128x6144_S1x128x6144_1_2 a1) slices_S1x128x6144_S1x128x1024_0_0_0)) (shapeCast
    _ a3 shapeCasts_S1x1024x8768_S1024x8768)

/-- The queries of the plain mathematics. -/
def R0 (a0 : FVec Ideal S128x1x1024 .f32) (a1 : FVec Ideal S128x6144 .f32) (a2 : FVec Ideal S1x1024 .f32)
    (a3 : FVec Ideal S1x1024x8768 .f32) : FVec Ideal S1x128x1024 .bf16 :=
  truncf .bf16 (extractStridedSlice S1x128x1024 ![0, 0, 0] (P a0 a1 a2 a3) slices_S1x128x8768_S1x128x1024_0_0_0) bitsLt_bf16_f32

/-- The six key and value arrays of the plain mathematics, side by side. -/
def KV (a0 : FVec Ideal S128x1x1024 .f32) (a1 : FVec Ideal S128x6144 .f32) (a2 : FVec Ideal S1x1024 .f32)
    (a3 : FVec Ideal S1x1024x8768 .f32) : FVec Ideal S1x128x1536 .f32 :=
  extractStridedSlice S1x128x1536 ![0, 0, 1024] (P a0 a1 a2 a3) slices_S1x128x8768_S1x128x1536_0_0_1024

/-- The compressed keys of the plain mathematics, channels before rows. -/
def R1 (a0 : FVec Ideal S128x1x1024 .f32) (a1 : FVec Ideal S128x6144 .f32) (a2 : FVec Ideal S1x1024 .f32)
    (a3 : FVec Ideal S1x1024x8768 .f32) : FVec Ideal S1x256x128 .f32 :=
  transpose S1x256x128 [0, 2, 1] (extractStridedSlice S1x128x256 ![0, 0, 0] (KV a0 a1 a2 a3) slices_S1x128x1536_S1x128x256_0_0_0)
    transposes_S1x128x256_S1x256x128_0_2_1

/-- The compressed values of the plain mathematics, channels before rows. -/
def R2 (a0 : FVec Ideal S128x1x1024 .f32) (a1 : FVec Ideal S128x6144 .f32) (a2 : FVec Ideal S1x1024 .f32)
    (a3 : FVec Ideal S1x1024x8768 .f32) : FVec Ideal S1x256x128 .f32 :=
  transpose S1x256x128 [0, 2, 1] (extractStridedSlice S1x128x256 ![0, 0, 256] (KV a0 a1 a2 a3) slices_S1x128x1536_S1x128x256_0_0_256)
    transposes_S1x128x256_S1x256x128_0_2_1

/-- The selected keys of the plain mathematics, channels before rows. -/
def R3 (a0 : FVec Ideal S128x1x1024 .f32) (a1 : FVec Ideal S128x6144 .f32) (a2 : FVec Ideal S1x1024 .f32)
    (a3 : FVec Ideal S1x1024x8768 .f32) : FVec Ideal S1x256x128 .f32 :=
  transpose S1x256x128 [0, 2, 1] (extractStridedSlice S1x128x256 ![0, 0, 512] (KV a0 a1 a2 a3) slices_S1x128x1536_S1x128x256_0_0_512)
    transposes_S1x128x256_S1x256x128_0_2_1

/-- The selected values of the plain mathematics, channels before rows. -/
def R4 (a0 : FVec Ideal S128x1x1024 .f32) (a1 : FVec Ideal S128x6144 .f32) (a2 : FVec Ideal S1x1024 .f32)
    (a3 : FVec Ideal S1x1024x8768 .f32) : FVec Ideal S1x256x128 .f32 :=
  transpose S1x256x128 [0, 2, 1] (extractStridedSlice S1x128x256 ![0, 0, 768] (KV a0 a1 a2 a3) slices_S1x128x1536_S1x128x256_0_0_768)
    transposes_S1x128x256_S1x256x128_0_2_1

/-- The window keys of the plain mathematics, channels before rows. -/
def R5 (a0 : FVec Ideal S128x1x1024 .f32) (a1 : FVec Ideal S128x6144 .f32) (a2 : FVec Ideal S1x1024 .f32)
    (a3 : FVec Ideal S1x1024x8768 .f32) : FVec Ideal S1x256x128 .f32 :=
  transpose S1x256x128 [0, 2, 1] (extractStridedSlice S1x128x256 ![0, 0, 1024] (KV a0 a1 a2 a3) slices_S1x128x1536_S1x128x256_0_0_1024)
    transposes_S1x128x256_S1x256x128_0_2_1

/-- The window values of the plain mathematics, channels before rows. -/
def R6 (a0 : FVec Ideal S128x1x1024 .f32) (a1 : FVec Ideal S128x6144 .f32) (a2 : FVec Ideal S1x1024 .f32)
    (a3 : FVec Ideal S1x1024x8768 .f32) : FVec Ideal S1x256x128 .f32 :=
  transpose S1x256x128 [0, 2, 1] (extractStridedSlice S1x128x256 ![0, 0, 1280] (KV a0 a1 a2 a3) slices_S1x128x1536_S1x128x256_0_0_1280)
    transposes_S1x128x256_S1x256x128_0_2_1

/-- An entry of the plain projection. -/
theorem P_at (a0 : FVec Ideal S128x1x1024 .f32) (a1 : FVec Ideal S128x6144 .f32) (a2 : FVec Ideal S1x1024 .f32)
    (a3 : FVec Ideal S1x1024x8768 .f32) (b : Fin 1) (s : Fin 128) (l : Fin 8768) :
    P a0 a1 a2 a3 (ix3 b s l) = Cert.Proof.prjS a0 a1 a2 a3 b s l := by
  obtain rfl : b = 0 := Subsingleton.elim _ _
  pointwise [P]
  rfl

theorem R0_at (a0 : FVec Ideal S128x1x1024 .f32) (a1 : FVec Ideal S128x6144 .f32) (a2 : FVec Ideal S1x1024 .f32)
    (a3 : FVec Ideal S1x1024x8768 .f32) (b : Fin 1) (s : Fin 128) (j : Fin 1024) :
    R0 a0 a1 a2 a3 (ix3 b s j) = Cert.Proof.prjS a0 a1 a2 a3 b s ⟨j, by omega⟩ := by
  obtain rfl : b = 0 := Subsingleton.elim _ _
  exact (show _ = P a0 a1 a2 a3 (ix3 0 s ⟨j, by omega⟩) by pointwise [R0]).trans (P_at a0 a1 a2 a3 0 s _)

theorem KV_at (a0 : FVec Ideal S128x1x1024 .f32) (a1 : FVec Ideal S128x6144 .f32) (a2 : FVec Ideal S1x1024 .f32)
    (a3 : FVec Ideal S1x1024x8768 .f32) (b : Fin 1) (s : Fin 128) (l : Fin 1536) :
    KV a0 a1 a2 a3 (ix3 b s l) = Cert.Proof.prjS a0 a1 a2 a3 b s ⟨1024 + (l : ℕ), by omega⟩ := by
  obtain rfl : b = 0 := Subsingleton.elim _ _
  exact (show _ = P a0 a1 a2 a3 (ix3 0 s ⟨1024 + (l : ℕ), by omega⟩) by pointwise [KV]).trans (P_at a0 a1 a2 a3 0 s _)

theorem R1_at (a0 : FVec Ideal S128x1x1024 .f32) (a1 : FVec Ideal S128x6144 .f32) (a2 : FVec Ideal S1x1024 .f32)
    (a3 : FVec Ideal S1x1024x8768 .f32) (b : Fin 1) (s : Fin 128) (j : Fin 256) :
    R1 a0 a1 a2 a3 (ix3 b j s) = Cert.Proof.prjS a0 a1 a2 a3 b s ⟨1024 + (j : ℕ), by omega⟩ := by
  obtain rfl : b = 0 := Subsingleton.elim _ _
  refine (show _ = KV a0 a1 a2 a3 (ix3 0 s ⟨0 + (j : ℕ), by omega⟩) by pointwise [R1]).trans ((KV_at a0 a1 a2 a3 0 s _).trans ?_)
  exact congrArg (Cert.Proof.prjS a0 a1 a2 a3 0 s) (Fin.ext (by simp only []; omega))

theorem R2_at (a0 : FVec Ideal S128x1x1024 .f32) (a1 : FVec Ideal S128x6144 .f32) (a2 : FVec Ideal S1x1024 .f32)
    (a3 : FVec Ideal S1x1024x8768 .f32) (b : Fin 1) (s : Fin 128) (j : Fin 256) :
    R2 a0 a1 a2 a3 (ix3 b j s) = Cert.Proof.prjS a0 a1 a2 a3 b s ⟨1280 + (j : ℕ), by omega⟩ := by
  obtain rfl : b = 0 := Subsingleton.elim _ _
  refine (show _ = KV a0 a1 a2 a3 (ix3 0 s ⟨256 + (j : ℕ), by omega⟩) by pointwise [R2]).trans ((KV_at a0 a1 a2 a3 0 s _).trans ?_)
  exact congrArg (Cert.Proof.prjS a0 a1 a2 a3 0 s) (Fin.ext (by simp only []; omega))

theorem R3_at (a0 : FVec Ideal S128x1x1024 .f32) (a1 : FVec Ideal S128x6144 .f32) (a2 : FVec Ideal S1x1024 .f32)
    (a3 : FVec Ideal S1x1024x8768 .f32) (b : Fin 1) (s : Fin 128) (j : Fin 256) :
    R3 a0 a1 a2 a3 (ix3 b j s) = Cert.Proof.prjS a0 a1 a2 a3 b s ⟨1536 + (j : ℕ), by omega⟩ := by
  obtain rfl : b = 0 := Subsingleton.elim _ _
  refine (show _ = KV a0 a1 a2 a3 (ix3 0 s ⟨512 + (j : ℕ), by omega⟩) by pointwise [R3]).trans ((KV_at a0 a1 a2 a3 0 s _).trans ?_)
  exact congrArg (Cert.Proof.prjS a0 a1 a2 a3 0 s) (Fin.ext (by simp only []; omega))

theorem R4_at (a0 : FVec Ideal S128x1x1024 .f32) (a1 : FVec Ideal S128x6144 .f32) (a2 : FVec Ideal S1x1024 .f32)
    (a3 : FVec Ideal S1x1024x8768 .f32) (b : Fin 1) (s : Fin 128) (j : Fin 256) :
    R4 a0 a1 a2 a3 (ix3 b j s) = Cert.Proof.prjS a0 a1 a2 a3 b s ⟨1792 + (j : ℕ), by omega⟩ := by
  obtain rfl : b = 0 := Subsingleton.elim _ _
  refine (show _ = KV a0 a1 a2 a3 (ix3 0 s ⟨768 + (j : ℕ), by omega⟩) by pointwise [R4]).trans ((KV_at a0 a1 a2 a3 0 s _).trans ?_)
  exact congrArg (Cert.Proof.prjS a0 a1 a2 a3 0 s) (Fin.ext (by simp only []; omega))

theorem R5_at (a0 : FVec Ideal S128x1x1024 .f32) (a1 : FVec Ideal S128x6144 .f32) (a2 : FVec Ideal S1x1024 .f32)
    (a3 : FVec Ideal S1x1024x8768 .f32) (b : Fin 1) (s : Fin 128) (j : Fin 256) :
    R5 a0 a1 a2 a3 (ix3 b j s) = Cert.Proof.prjS a0 a1 a2 a3 b s ⟨2048 + (j : ℕ), by omega⟩ := by
  obtain rfl : b = 0 := Subsingleton.elim _ _
  refine (show _ = KV a0 a1 a2 a3 (ix3 0 s ⟨1024 + (j : ℕ), by omega⟩) by pointwise [R5]).trans ((KV_at a0 a1 a2 a3 0 s _).trans ?_)
  exact congrArg (Cert.Proof.prjS a0 a1 a2 a3 0 s) (Fin.ext (by simp only []; omega))

theorem R6_at (a0 : FVec Ideal S128x1x1024 .f32) (a1 : FVec Ideal S128x6144 .f32) (a2 : FVec Ideal S1x1024 .f32)
    (a3 : FVec Ideal S1x1024x8768 .f32) (b : Fin 1) (s : Fin 128) (j : Fin 256) :
    R6 a0 a1 a2 a3 (ix3 b j s) = Cert.Proof.prjS a0 a1 a2 a3 b s ⟨2304 + (j : ℕ), by omega⟩ := by
  obtain rfl : b = 0 := Subsingleton.elim _ _
  refine (show _ = KV a0 a1 a2 a3 (ix3 0 s ⟨1280 + (j : ℕ), by omega⟩) by pointwise [R6]).trans ((KV_at a0 a1 a2 a3 0 s _).trans ?_)
  exact congrArg (Cert.Proof.prjS a0 a1 a2 a3 0 s) (Fin.ext (by simp only []; omega))

end Cert.Reference7Ideal.Value

namespace Cert.Kernel7Ideal.Value

open Cert.Kernel7Ideal Cert.Kernel7Ideal.Gen Idealize.ShloMosaic Idealize.ShloMosaic.TcCoe Idealize.SL.Sem
open Idealize.ShloMosaic.Pipeline (Dat)
open scoped BigOperators
variable (m : (ℓ : Loc nD τ sig) → Buf (Elt Ideal) ℓ)

/-- Which block of each window grid point `t` works on. -/
theorem idx : ∀ t : Fin cfg0.N, win0_0.index t = ![0, 0, 0] ∧ win0_1.index t = ![0, 0, 0, 0] ∧ win0_2.index t = ![0, 0] ∧ win0_3.index t = ![0, 0] ∧
    win0_4.index t = ![0, 0] ∧ win0_5.index t = ![0, 0] ∧ win0_6.index t = ![0, 0] ∧ win0_7.index t = ![0, 0] ∧
    win0_8.index t = ![0, 0] ∧ win0_9.index t = ![0, 0] ∧ win0_10.index t = ![0, 0, 0] ∧ win0_11.index t = ![0, 0, 0] ∧
    win0_12.index t = ![0, 0, 0] ∧ win0_13.index t = ![0, 0, 0] ∧ win0_14.index t = ![0, 0, 0] ∧ win0_15.index t = ![0, 0, 0] ∧
    win0_16.index t = ![0, 0, 0] ∧ t.val < 1 :=
  (by decide +kernel : ∀ t : Fin grid0.N, _)

/-- The block of activations, read from the whole array. -/
theorem rd0 (c : Dev nD) (t : Fin cfg0.N) (z : Fin 1) (r : Fin 128) (k : Fin 1024) (b : Fin 1) (s : Fin 128) (hb : (b : ℕ) = 0)
    (hs : (s : ℕ) = r) : iblk m c 0 t (ix3 z r k) = m ((c : Thread nD τ).loc main_arg0) (ix3 s b k) := by
  blk_ext! [iblk, V, idx t]

/-- The block of modulation vectors. -/
theorem rd1 (c : Dev nD) (t : Fin cfg0.N) (z : Fin 1) (i : Fin 6) (r : Fin 128) (k : Fin 1024) (s : Fin 128) (l : Fin 6144) (hs : (s : ℕ) = r)
    (hl : (l : ℕ) = i * 1024 + k) : iblk m c 1 t (ix4 z i r k) = m ((c : Thread nD τ).loc main_arg1) (ix2 s l) := by
  blk_ext! [iblk, V, idx t]

/-- The norm's weights. -/
theorem rd2 (c : Dev nD) (t : Fin cfg0.N) (z z' : Fin 1) (k : Fin 1024) :
    iblk m c 2 t (ix2 z k) = m ((c : Thread nD τ).loc main_arg2) (ix2 z' k) := by
  blk_ext [iblk, V, idx t]

/-- The weight columns of the queries. -/
theorem rd3 (c : Dev nD) (t : Fin cfg0.N) (z : Fin 1) (k : Fin 1024) (j : Fin 1024) (l : Fin 8768) (hl : (l : ℕ) = j) :
    iblk m c 3 t (ix2 k j) = m ((c : Thread nD τ).loc main_arg3) (ix3 z k l) := by
  blk_ext! [iblk, V, idx t]

/-- The weight columns of the compressed keys, transposed on the host. -/
theorem rd4 (c : Dev nD) (t : Fin cfg0.N) (z : Fin 1) (k : Fin 1024) (j : Fin 256) (l : Fin 8768) (hl : (l : ℕ) = 1024 + j) :
    iblk m c 4 t (ix2 j k) = m ((c : Thread nD τ).loc main_arg3) (ix3 z k l) := by
  blk_ext! [iblk, V, idx t]

/-- The weight columns of the compressed values, transposed on the host. -/
theorem rd5 (c : Dev nD) (t : Fin cfg0.N) (z : Fin 1) (k : Fin 1024) (j : Fin 256) (l : Fin 8768) (hl : (l : ℕ) = 1280 + j) :
    iblk m c 5 t (ix2 j k) = m ((c : Thread nD τ).loc main_arg3) (ix3 z k l) := by
  blk_ext! [iblk, V, idx t]

/-- The weight columns of the selected keys, transposed on the host. -/
theorem rd6 (c : Dev nD) (t : Fin cfg0.N) (z : Fin 1) (k : Fin 1024) (j : Fin 256) (l : Fin 8768) (hl : (l : ℕ) = 1536 + j) :
    iblk m c 6 t (ix2 j k) = m ((c : Thread nD τ).loc main_arg3) (ix3 z k l) := by
  blk_ext! [iblk, V, idx t]

/-- The weight columns of the selected values, transposed on the host. -/
theorem rd7 (c : Dev nD) (t : Fin cfg0.N) (z : Fin 1) (k : Fin 1024) (j : Fin 256) (l : Fin 8768) (hl : (l : ℕ) = 1792 + j) :
    iblk m c 7 t (ix2 j k) = m ((c : Thread nD τ).loc main_arg3) (ix3 z k l) := by
  blk_ext! [iblk, V, idx t]

/-- The weight columns of the window keys, transposed on the host. -/
theorem rd8 (c : Dev nD) (t : Fin cfg0.N) (z : Fin 1) (k : Fin 1024) (j : Fin 256) (l : Fin 8768) (hl : (l : ℕ) = 2048 + j) :
    iblk m c 8 t (ix2 j k) = m ((c : Thread nD τ).loc main_arg3) (ix3 z k l) := by
  blk_ext! [iblk, V, idx t]

/-- The weight columns of the window values, transposed on the host. -/
theorem rd9 (c : Dev nD) (t : Fin cfg0.N) (z : Fin 1) (k : Fin 1024) (j : Fin 256) (l : Fin 8768) (hl : (l : ℕ) = 2304 + j) :
    iblk m c 9 t (ix2 j k) = m ((c : Thread nD τ).loc main_arg3) (ix3 z k l) := by
  blk_ext! [iblk, V, idx t]

/-- The normed row the kernel works from. -/
theorem row (c : Dev nD) (t : Fin cfg0.N) (r : Fin 128) (k : Fin 1024) (b : Fin 1) (s : Fin 128) (hb : (b : ℕ) = 0)
    (hs : (s : ℕ) = r) :
    k0_pay11 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r k)
      = Cert.Proof.nrmS (m ((c : Thread nD τ).loc main_arg0)) (m ((c : Thread nD τ).loc main_arg1))
          (m ((c : Thread nD τ).loc main_arg2)) b s k := by
  unfold k0_pay11
  pointwise [k0_pay4]
  unfold Cert.Proof.nrmS
  have e0 := fun k => rd0 m c t 0 r k b s hb hs
  simp only [e0]
  rw [rd1 m c t 0 1 r k s ⟨1024 + k, by omega⟩ hs rfl, rd1 m c t 0 0 r k s ⟨k, by omega⟩ hs (by simp), rd2 m c t 0 0 k]

/-- A tile of 512 query columns: the row times the tile's weight columns. -/
theorem mm (h : FVec Ideal S128x1024 .bf16) (w : Vec Ideal S1024x512 .bf16) (x : S1x128x512.Idx) :
    k0_pay6 (F := Ideal) h w x = ∑ k : Fin 1024, h (ix2 (x 1) k) * w (ix2 k (x 2)) := by
  pointwise [k0_pay6]

/-- A channels-first tile: the weight's channel times the row. -/
theorem mt (h : FVec Ideal S128x1024 .bf16) (w : Vec Ideal S256x1024 .bf16) (x : S1x256x128.Idx) :
    k0_pay7 (F := Ideal) h w x = ∑ k : Fin 1024, w (ix2 (x 1) k) * h (ix2 (x 2) k) := by
  pointwise [k0_pay7]

/-- A tile of queries is the plain projection's. -/
theorem q (c : Dev nD) (t : Fin cfg0.N) (x : S1x128x512.Idx) (w : Vec Ideal S1024x512 .bf16) (b : Fin 1) (s : Fin 128) (l : Fin 8768)
    (hb : (b : ℕ) = 0) (hs : (s : ℕ) = x 1)
    (hw : ∀ k : Fin 1024, w (ix2 k (x 2)) = m ((c : Thread nD τ).loc main_arg3) (ix3 0 k l)) :
    k0_pay6 (F := Ideal) (k0_pay11 (F := Ideal) (iblk m c 0 t) (iblk m c 1 t) (iblk m c 2 t) (iblk m c 3 t) (iblk m c 4 t) (iblk m c 5 t) (iblk m c 6 t) (iblk m c 7 t) (iblk m c 8 t) (iblk m c 9 t)) w x
      = Cert.Proof.prjS (m ((c : Thread nD τ).loc main_arg0)) (m ((c : Thread nD τ).loc main_arg1))
          (m ((c : Thread nD τ).loc main_arg2)) (m ((c : Thread nD τ).loc main_arg3)) b s l :=
  (mm _ w x).trans (Finset.sum_congr rfl fun k _ => congrArg₂ (· * ·) (row m c t (x 1) k b s hb hs) (hw k))

/-- A channels-first tile is the plain projection's. -/
theorem kv (c : Dev nD) (t : Fin cfg0.N) (x : S1x256x128.Idx) (w : Vec Ideal S256x1024 .bf16) (b : Fin 1) (s : Fin 128) (l : Fin 8768)
    (hb : (b : ℕ) = 0) (hs : (s : ℕ) = x 2)
    (hw : ∀ k : Fin 1024, w (ix2 (x 1) k) = m ((c : Thread nD τ).loc main_arg3) (ix3 0 k l)) :
    k0_pay7 (F := Ideal) (k0_pay11 (F := Ideal) (iblk m c 0 t) (iblk m c 1 t) (iblk m c 2 t) (iblk m c 3 t) (iblk m c 4 t) (iblk m c 5 t) (iblk m c 6 t) (iblk m c 7 t) (iblk m c 8 t) (iblk m c 9 t)) w x
      = Cert.Proof.prjS (m ((c : Thread nD τ).loc main_arg0)) (m ((c : Thread nD τ).loc main_arg1))
          (m ((c : Thread nD τ).loc main_arg2)) (m ((c : Thread nD τ).loc main_arg3)) b s l :=
  (mt _ w x).trans (Finset.sum_congr rfl fun k _ =>
    (congrArg₂ (· * ·) (hw k) (row m c t (x 2) k b s hb hs)).trans (mul_comm _ _))

/-- The kernel's queries are the plain ones. -/
theorem final10 (c : Dev nD) : (dats m 0 c).arrAt 10 (cfgs 0).N
    = Cert.Reference7Ideal.Value.R0 (m ((c : Thread nD τ).loc main_arg0)) (m ((c : Thread nD τ).loc main_arg1))
          (m ((c : Thread nD τ).loc main_arg2)) (m ((c : Thread nD τ).loc main_arg3)) := by
  refine (dats m 0 c).arrAt_eq_of_covers 10 _ (by decide +kernel) fun t _ y => ?_
  blk_simp
  rw [after0_10]
  generalize hi : ((cfg0.win 10).blk t).view.emb y = i
  have h0 : (i 0 : ℕ) = 0 := by rw [← hi]; blk_simp [idx t]
  have h1 : (i 1 : ℕ) = y 1 := by rw [← hi]; blk_simp [idx t]
  have h2 : (i 2 : ℕ) = y 2 := by rw [← hi]; blk_simp [idx t]
  clear hi
  obtain ⟨b, s, j, rfl⟩ : ∃ (b : Fin 1) (s : Fin 128) (j : Fin 1024), i = ix3 b s j := ⟨i 0, i 1, i 2, eq_ix3 i⟩
  rw [Cert.Reference7Ideal.Value.R0_at]
  have hl : (j : ℕ) = y 2 := h2
  unfold out0_10
  canon_tiles x hx
  all_goals
    refine q m c t x _ b s ⟨j, by omega⟩ h0 (h1.trans (by rw [hx1])) fun k => ?_
    pointwise
    exact rd3 m c t 0 k _ _ (by simp only [hl, hx2])

/-- The kernel's array of compressed keys is the plain one. -/
theorem final11 (c : Dev nD) : (dats m 0 c).arrAt 11 (cfgs 0).N
    = Cert.Reference7Ideal.Value.R1 (m ((c : Thread nD τ).loc main_arg0)) (m ((c : Thread nD τ).loc main_arg1))
          (m ((c : Thread nD τ).loc main_arg2)) (m ((c : Thread nD τ).loc main_arg3)) := by
  refine (dats m 0 c).arrAt_eq_of_covers 11 _ (by decide +kernel) fun t _ y => ?_
  blk_simp
  rw [after0_11]
  generalize hi : ((cfg0.win 11).blk t).view.emb y = i
  have h0 : (i 0 : ℕ) = 0 := by rw [← hi]; blk_simp [idx t]
  have h1 : (i 1 : ℕ) = y 1 := by rw [← hi]; blk_simp [idx t]
  have h2 : (i 2 : ℕ) = y 2 := by rw [← hi]; blk_simp [idx t]
  clear hi
  obtain ⟨b, j, s, rfl⟩ : ∃ (b : Fin 1) (j : Fin 256) (s : Fin 128), i = ix3 b j s := ⟨i 0, i 1, i 2, eq_ix3 i⟩
  rw [Cert.Reference7Ideal.Value.R1_at]
  have hl : (1024 + (j : ℕ)) = 1024 + y 1 := congrArg (1024 + ·) h1
  unfold out0_11
  canon_tiles x hx
  refine kv m c t x _ b s ⟨1024 + (j : ℕ), by omega⟩ h0 (h2.trans (by rw [hx2])) fun k => ?_
  pointwise
  exact rd4 m c t 0 k _ _ (by simp only [hl, hx1])

/-- The kernel's array of compressed values is the plain one. -/
theorem final12 (c : Dev nD) : (dats m 0 c).arrAt 12 (cfgs 0).N
    = Cert.Reference7Ideal.Value.R2 (m ((c : Thread nD τ).loc main_arg0)) (m ((c : Thread nD τ).loc main_arg1))
          (m ((c : Thread nD τ).loc main_arg2)) (m ((c : Thread nD τ).loc main_arg3)) := by
  refine (dats m 0 c).arrAt_eq_of_covers 12 _ (by decide +kernel) fun t _ y => ?_
  blk_simp
  rw [after0_12]
  generalize hi : ((cfg0.win 12).blk t).view.emb y = i
  have h0 : (i 0 : ℕ) = 0 := by rw [← hi]; blk_simp [idx t]
  have h1 : (i 1 : ℕ) = y 1 := by rw [← hi]; blk_simp [idx t]
  have h2 : (i 2 : ℕ) = y 2 := by rw [← hi]; blk_simp [idx t]
  clear hi
  obtain ⟨b, j, s, rfl⟩ : ∃ (b : Fin 1) (j : Fin 256) (s : Fin 128), i = ix3 b j s := ⟨i 0, i 1, i 2, eq_ix3 i⟩
  rw [Cert.Reference7Ideal.Value.R2_at]
  have hl : (1280 + (j : ℕ)) = 1280 + y 1 := congrArg (1280 + ·) h1
  unfold out0_12
  canon_tiles x hx
  refine kv m c t x _ b s ⟨1280 + (j : ℕ), by omega⟩ h0 (h2.trans (by rw [hx2])) fun k => ?_
  pointwise
  exact rd5 m c t 0 k _ _ (by simp only [hl, hx1])

/-- The kernel's array of selected keys is the plain one. -/
theorem final13 (c : Dev nD) : (dats m 0 c).arrAt 13 (cfgs 0).N
    = Cert.Reference7Ideal.Value.R3 (m ((c : Thread nD τ).loc main_arg0)) (m ((c : Thread nD τ).loc main_arg1))
          (m ((c : Thread nD τ).loc main_arg2)) (m ((c : Thread nD τ).loc main_arg3)) := by
  refine (dats m 0 c).arrAt_eq_of_covers 13 _ (by decide +kernel) fun t _ y => ?_
  blk_simp
  rw [after0_13]
  generalize hi : ((cfg0.win 13).blk t).view.emb y = i
  have h0 : (i 0 : ℕ) = 0 := by rw [← hi]; blk_simp [idx t]
  have h1 : (i 1 : ℕ) = y 1 := by rw [← hi]; blk_simp [idx t]
  have h2 : (i 2 : ℕ) = y 2 := by rw [← hi]; blk_simp [idx t]
  clear hi
  obtain ⟨b, j, s, rfl⟩ : ∃ (b : Fin 1) (j : Fin 256) (s : Fin 128), i = ix3 b j s := ⟨i 0, i 1, i 2, eq_ix3 i⟩
  rw [Cert.Reference7Ideal.Value.R3_at]
  have hl : (1536 + (j : ℕ)) = 1536 + y 1 := congrArg (1536 + ·) h1
  unfold out0_13
  canon_tiles x hx
  refine kv m c t x _ b s ⟨1536 + (j : ℕ), by omega⟩ h0 (h2.trans (by rw [hx2])) fun k => ?_
  pointwise
  exact rd6 m c t 0 k _ _ (by simp only [hl, hx1])

/-- The kernel's array of selected values is the plain one. -/
theorem final14 (c : Dev nD) : (dats m 0 c).arrAt 14 (cfgs 0).N
    = Cert.Reference7Ideal.Value.R4 (m ((c : Thread nD τ).loc main_arg0)) (m ((c : Thread nD τ).loc main_arg1))
          (m ((c : Thread nD τ).loc main_arg2)) (m ((c : Thread nD τ).loc main_arg3)) := by
  refine (dats m 0 c).arrAt_eq_of_covers 14 _ (by decide +kernel) fun t _ y => ?_
  blk_simp
  rw [after0_14]
  generalize hi : ((cfg0.win 14).blk t).view.emb y = i
  have h0 : (i 0 : ℕ) = 0 := by rw [← hi]; blk_simp [idx t]
  have h1 : (i 1 : ℕ) = y 1 := by rw [← hi]; blk_simp [idx t]
  have h2 : (i 2 : ℕ) = y 2 := by rw [← hi]; blk_simp [idx t]
  clear hi
  obtain ⟨b, j, s, rfl⟩ : ∃ (b : Fin 1) (j : Fin 256) (s : Fin 128), i = ix3 b j s := ⟨i 0, i 1, i 2, eq_ix3 i⟩
  rw [Cert.Reference7Ideal.Value.R4_at]
  have hl : (1792 + (j : ℕ)) = 1792 + y 1 := congrArg (1792 + ·) h1
  unfold out0_14
  canon_tiles x hx
  refine kv m c t x _ b s ⟨1792 + (j : ℕ), by omega⟩ h0 (h2.trans (by rw [hx2])) fun k => ?_
  pointwise
  exact rd7 m c t 0 k _ _ (by simp only [hl, hx1])

/-- The kernel's array of window keys is the plain one. -/
theorem final15 (c : Dev nD) : (dats m 0 c).arrAt 15 (cfgs 0).N
    = Cert.Reference7Ideal.Value.R5 (m ((c : Thread nD τ).loc main_arg0)) (m ((c : Thread nD τ).loc main_arg1))
          (m ((c : Thread nD τ).loc main_arg2)) (m ((c : Thread nD τ).loc main_arg3)) := by
  refine (dats m 0 c).arrAt_eq_of_covers 15 _ (by decide +kernel) fun t _ y => ?_
  blk_simp
  rw [after0_15]
  generalize hi : ((cfg0.win 15).blk t).view.emb y = i
  have h0 : (i 0 : ℕ) = 0 := by rw [← hi]; blk_simp [idx t]
  have h1 : (i 1 : ℕ) = y 1 := by rw [← hi]; blk_simp [idx t]
  have h2 : (i 2 : ℕ) = y 2 := by rw [← hi]; blk_simp [idx t]
  clear hi
  obtain ⟨b, j, s, rfl⟩ : ∃ (b : Fin 1) (j : Fin 256) (s : Fin 128), i = ix3 b j s := ⟨i 0, i 1, i 2, eq_ix3 i⟩
  rw [Cert.Reference7Ideal.Value.R5_at]
  have hl : (2048 + (j : ℕ)) = 2048 + y 1 := congrArg (2048 + ·) h1
  unfold out0_15
  canon_tiles x hx
  refine kv m c t x _ b s ⟨2048 + (j : ℕ), by omega⟩ h0 (h2.trans (by rw [hx2])) fun k => ?_
  pointwise
  exact rd8 m c t 0 k _ _ (by simp only [hl, hx1])

/-- The kernel's array of window values is the plain one. -/
theorem final16 (c : Dev nD) : (dats m 0 c).arrAt 16 (cfgs 0).N
    = Cert.Reference7Ideal.Value.R6 (m ((c : Thread nD τ).loc main_arg0)) (m ((c : Thread nD τ).loc main_arg1))
          (m ((c : Thread nD τ).loc main_arg2)) (m ((c : Thread nD τ).loc main_arg3)) := by
  refine (dats m 0 c).arrAt_eq_of_covers 16 _ (by decide +kernel) fun t _ y => ?_
  blk_simp
  rw [after0_16]
  generalize hi : ((cfg0.win 16).blk t).view.emb y = i
  have h0 : (i 0 : ℕ) = 0 := by rw [← hi]; blk_simp [idx t]
  have h1 : (i 1 : ℕ) = y 1 := by rw [← hi]; blk_simp [idx t]
  have h2 : (i 2 : ℕ) = y 2 := by rw [← hi]; blk_simp [idx t]
  clear hi
  obtain ⟨b, j, s, rfl⟩ : ∃ (b : Fin 1) (j : Fin 256) (s : Fin 128), i = ix3 b j s := ⟨i 0, i 1, i 2, eq_ix3 i⟩
  rw [Cert.Reference7Ideal.Value.R6_at]
  have hl : (2304 + (j : ℕ)) = 2304 + y 1 := congrArg (2304 + ·) h1
  unfold out0_16
  canon_tiles x hx
  refine kv m c t x _ b s ⟨2304 + (j : ℕ), by omega⟩ h0 (h2.trans (by rw [hx2])) fun k => ?_
  pointwise
  exact rd9 m c t 0 k _ _ (by simp only [hl, hx1])

end Cert.Kernel7Ideal.Value

end
-- ==== Proof.ProjSB.lean ====
module

public import proofs.«01_k».proof.Proof.Gen.Kernel10Ideal.Value
public import proofs.«01_k».proof.Proof.Gen.Reference10Ideal.Run
public import proofs.«01_k».proof.Proof.Normed
public import proofs.«01_k».proof.Proof.ProjS
public import Idealize.ShloMosaic.Lib.Pipeline.ValueKit
public import Idealize.ShloMosaic.Lib.Pointwise

/-! The second projection of the sample rows: the delta rule's q, k and v, read from the kernel's blocks and compared with the plain
    projection. -/

@[expose] public section

set_option maxRecDepth 16384

noncomputable section

namespace Cert.Reference10Ideal.Value

open Cert.Reference10Ideal Cert.Reference10Ideal.Gen Idealize.ShloMosaic Idealize.ShloMosaic.TcCoe Idealize.SL.Sem
open Cert.Reference7Ideal.Value (P P_at)
open scoped BigOperators

/-- The plain mathematics' q, k and v of the delta rule. -/
def R0 (a0 : FVec Ideal S128x1x1024 .f32) (a1 : FVec Ideal S128x6144 .f32) (a2 : FVec Ideal S1x1024 .f32)
    (a3 : FVec Ideal S1x1024x8768 .f32) : FVec Ideal S1x128x3072 .f32 :=
  extractStridedSlice S1x128x3072 ![0, 0, 2608] (P a0 a1 a2 a3) slices_S1x128x8768_S1x128x3072_0_0_2608

theorem R0_at (a0 : FVec Ideal S128x1x1024 .f32) (a1 : FVec Ideal S128x6144 .f32) (a2 : FVec Ideal S1x1024 .f32)
    (a3 : FVec Ideal S1x1024x8768 .f32) (b : Fin 1) (s : Fin 128) (j : Fin 3072) :
    R0 a0 a1 a2 a3 (ix3 b s j) = Cert.Proof.prjS a0 a1 a2 a3 b s ⟨2608 + (j : ℕ), by omega⟩ := by
  obtain rfl : b = 0 := Subsingleton.elim _ _
  exact (show _ = P a0 a1 a2 a3 (ix3 0 s ⟨2608 + (j : ℕ), by omega⟩) by pointwise [R0]).trans (P_at a0 a1 a2 a3 0 s _)

end Cert.Reference10Ideal.Value

namespace Cert.Kernel10Ideal.Value

open Cert.Kernel10Ideal Cert.Kernel10Ideal.Gen Idealize.ShloMosaic Idealize.ShloMosaic.TcCoe Idealize.SL.Sem
open Idealize.ShloMosaic.Pipeline (Dat)
open scoped BigOperators
variable (m : (ℓ : Loc nD τ sig) → Buf (Elt Ideal) ℓ)

/-- There is one grid point, which works on whole arrays. -/
theorem idx : ∀ t : Fin cfg0.N, win0_0.index t = ![0, 0, 0] ∧ win0_1.index t = ![0, 0, 0, 0] ∧ win0_2.index t = ![0, 0] ∧ win0_3.index t = ![0, 0]
    ∧ win0_4.index t = ![0, 0, 0] ∧ t.val < 1 :=
  (by decide +kernel : ∀ t : Fin grid0.N, _)

/-- The block of activations, read from the whole array. -/
theorem rd0 (c : Dev nD) (t : Fin cfg0.N) (z : Fin 1) (r : Fin 128) (k : Fin 1024) (b : Fin 1) (s : Fin 128) (hb : (b : ℕ) = 0)
    (hs : (s : ℕ) = r) : iblk m c 0 t (ix3 z r k) = m ((c : Thread nD τ).loc main_arg0) (ix3 s b k) := by
  blk_ext! [iblk, V, idx t]

/-- The block of modulation vectors. -/
theorem rd1 (c : Dev nD) (t : Fin cfg0.N) (z : Fin 1) (i : Fin 6) (r : Fin 128) (k : Fin 1024) (s : Fin 128) (l : Fin 6144) (hs : (s : ℕ) = r)
    (hl : (l : ℕ) = i * 1024 + k) : iblk m c 1 t (ix4 z i r k) = m ((c : Thread nD τ).loc main_arg1) (ix2 s l) := by
  blk_ext! [iblk, V, idx t]

/-- The norm's weights. -/
theorem rd2 (c : Dev nD) (t : Fin cfg0.N) (z z' : Fin 1) (k : Fin 1024) :
    iblk m c 2 t (ix2 z k) = m ((c : Thread nD τ).loc main_arg2) (ix2 z' k) := by
  blk_ext [iblk, V, idx t]

/-- The weight columns. -/
theorem rd3 (c : Dev nD) (t : Fin cfg0.N) (z : Fin 1) (k : Fin 1024) (j : Fin 3072) (l : Fin 8768) (hl : (l : ℕ) = 2608 + j) :
    iblk m c 3 t (ix2 k j) = m ((c : Thread nD τ).loc main_arg3) (ix3 z k l) := by
  blk_ext! [iblk, V, idx t]

/-- The normed row the kernel works from. -/
theorem row (c : Dev nD) (t : Fin cfg0.N) (r : Fin 128) (k : Fin 1024) (b : Fin 1) (s : Fin 128) (hb : (b : ℕ) = 0)
    (hs : (s : ℕ) = r) :
    k0_pay9 (F := Ideal) (iblk m c 0 t) (iblk m c 1 t) (iblk m c 2 t) (iblk m c 3 t) (ix2 r k)
      = Cert.Proof.nrmS (m ((c : Thread nD τ).loc main_arg0)) (m ((c : Thread nD τ).loc main_arg1))
          (m ((c : Thread nD τ).loc main_arg2)) b s k := by
  unfold k0_pay9
  pointwise [k0_pay1]
  unfold Cert.Proof.nrmS
  have e0 := fun k => rd0 m c t 0 r k b s hb hs
  simp only [e0]
  rw [rd1 m c t 0 1 r k s ⟨1024 + k, by omega⟩ hs rfl, rd1 m c t 0 0 r k s ⟨k, by omega⟩ hs (by simp), rd2 m c t 0 0 k]

/-- A tile of 512 output columns: the row times the tile's weight columns. -/
theorem mm (h : FVec Ideal S128x1024 .bf16) (w : Vec Ideal S1024x512 .bf16) (x : S1x128x512.Idx) :
    k0_pay5 (F := Ideal) h w x = ∑ k : Fin 1024, h (ix2 (x 1) k) * w (ix2 k (x 2)) := by
  pointwise [k0_pay5]

/-- The row's product with a column of the weight is an entry of the projection. -/
theorem col (c : Dev nD) (t : Fin cfg0.N) (r : Fin 128) (f : Fin 1024 → EReal) (b : Fin 1) (s : Fin 128) (l : Fin 8768)
    (hb : (b : ℕ) = 0) (hs : (s : ℕ) = r)
    (hw : ∀ k : Fin 1024, f k = m ((c : Thread nD τ).loc main_arg3) (ix3 0 k l)) :
    ∑ k : Fin 1024, k0_pay9 (F := Ideal) (iblk m c 0 t) (iblk m c 1 t) (iblk m c 2 t) (iblk m c 3 t) (ix2 r k) * f k
      = Cert.Proof.prjS (m ((c : Thread nD τ).loc main_arg0)) (m ((c : Thread nD τ).loc main_arg1))
          (m ((c : Thread nD τ).loc main_arg2)) (m ((c : Thread nD τ).loc main_arg3)) b s l :=
  Finset.sum_congr rfl fun k _ => congrArg₂ (· * ·) (row m c t r k b s hb hs) (hw k)

/-- The first tile works from the same normed row as the others. -/
theorem first (x0 : Vec Ideal S1x128x1024 .f32) (x1 : Vec Ideal S1x6x128x1024 .f32) (x2 : Vec Ideal S1x1024 .f32)
    (x3 : Vec Ideal S1024x3072 .bf16) (w : Vec Ideal S1024x512 .bf16) :
    k0_pay2 (F := Ideal) (View.ld x0 r0_0) (View.ld x2 r0_1) (View.ld x1 r0_2) (View.ld x1 r0_3) w = k0_pay5 (k0_pay9 x0 x1 x2 x3) w :=
  rfl

/-- The second tile is computed as the others are. -/
theorem second (h : FVec Ideal S128x1024 .bf16) (w : Vec Ideal S1024x512 .bf16) : k0_pay4 (F := Ideal) h (k0_pay3 w) = k0_pay5 h w :=
  rfl

/-- The kernel's array is the plain one. -/
theorem final4 (c : Dev nD) : (dats m 0 c).arrAt 4 (cfgs 0).N
    = Cert.Reference10Ideal.Value.R0 (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t _ y => ?_
  blk_simp
  rw [after0_4]
  generalize hi : ((cfg0.win 4).blk t).view.emb y = i
  have h0 : (i 0 : ℕ) = 0 := by rw [← hi]; blk_simp [idx t]
  have h1 : (i 1 : ℕ) = y 1 := by rw [← hi]; blk_simp [idx t]
  have h2 : (i 2 : ℕ) = y 2 := by rw [← hi]; blk_simp [idx t]
  clear hi
  obtain ⟨b, s, j, rfl⟩ : ∃ (b : Fin 1) (s : Fin 128) (j : Fin 3072), i = ix3 b s j := ⟨i 0, i 1, i 2, eq_ix3 i⟩
  rw [Cert.Reference10Ideal.Value.R0_at]
  have hl : (2608 + (j : ℕ)) = 2608 + y 2 := congrArg (2608 + ·) h2
  unfold out0_4
  rw [first _ _ _ (iblk m c 3 t), second]
  canon_tiles x hx
  all_goals
    refine (mm _ _ x).trans (col m c t (x 1) _ b s ⟨2608 + (j : ℕ), by omega⟩ h0 (h1.trans (by rw [hx1])) fun k => ?_)
    pointwise
    exact rd3 m c t 0 k _ _ (by simp only [hl, hx2])

end Cert.Kernel10Ideal.Value

end
-- ==== Proof.ProjSC.lean ====
module

public import proofs.«01_k».proof.Proof.Gen.Kernel11Ideal.Value
public import proofs.«01_k».proof.Proof.Gen.Reference11Ideal.Run
public import proofs.«01_k».proof.Proof.Normed
public import proofs.«01_k».proof.Proof.ProjS
public import proofs.«01_k».proof.Proof.ProjC
public import Idealize.ShloMosaic.Lib.Pipeline.ValueKit
public import Idealize.ShloMosaic.Lib.Pointwise
public import Idealize.ShloMosaic.Lib.Tactic.CleanTypes

/-! The third projection of the sample rows: the gate z, the two merge gates and the narrow columns, each read from the kernel's
    blocks and compared with the plain projection. -/

@[expose] public section

set_option maxRecDepth 16384

noncomputable section

namespace Cert.Reference11Ideal.Value

open Cert.Reference11Ideal Cert.Reference11Ideal.Gen Idealize.ShloMosaic Idealize.ShloMosaic.TcCoe Idealize.SL.Sem
open Cert.Reference7Ideal.Value (P P_at)
open Cert.Reference5Ideal.Value (ncol)
open scoped BigOperators

/-- The plain mathematics' gate z. -/
def R0 (a0 : FVec Ideal S128x1x1024 .f32) (a1 : FVec Ideal S128x6144 .f32) (a2 : FVec Ideal S1x1024 .f32)
    (a3 : FVec Ideal S1x1024x8768 .f32) : FVec Ideal S1x128x1024 .f32 :=
  extractStridedSlice S1x128x1024 ![0, 0, 5680] (P a0 a1 a2 a3) slices_S1x128x8768_S1x128x1024_0_0_5680

theorem R0_at (a0 : FVec Ideal S128x1x1024 .f32) (a1 : FVec Ideal S128x6144 .f32) (a2 : FVec Ideal S1x1024 .f32)
    (a3 : FVec Ideal S1x1024x8768 .f32) (b : Fin 1) (s : Fin 128) (j : Fin 1024) :
    R0 a0 a1 a2 a3 (ix3 b s j) = Cert.Proof.prjS a0 a1 a2 a3 b s ⟨5680 + (j : ℕ), by omega⟩ := by
  obtain rfl : b = 0 := Subsingleton.elim _ _
  exact (show _ = P a0 a1 a2 a3 (ix3 0 s ⟨5680 + (j : ℕ), by omega⟩) by pointwise [R0]).trans (P_at a0 a1 a2 a3 0 s _)

/-- The plain mathematics' merge gates. -/
def R1 (a0 : FVec Ideal S128x1x1024 .f32) (a1 : FVec Ideal S128x6144 .f32) (a2 : FVec Ideal S1x1024 .f32)
    (a3 : FVec Ideal S1x1024x8768 .f32) : FVec Ideal S1x128x2048 .f32 :=
  extractStridedSlice S1x128x2048 ![0, 0, 6720] (P a0 a1 a2 a3) slices_S1x128x8768_S1x128x2048_0_0_6720

theorem R1_at (a0 : FVec Ideal S128x1x1024 .f32) (a1 : FVec Ideal S128x6144 .f32) (a2 : FVec Ideal S1x1024 .f32)
    (a3 : FVec Ideal S1x1024x8768 .f32) (b : Fin 1) (s : Fin 128) (j : Fin 2048) :
    R1 a0 a1 a2 a3 (ix3 b s j) = Cert.Proof.prjS a0 a1 a2 a3 b s ⟨6720 + (j : ℕ), by omega⟩ := by
  obtain rfl : b = 0 := Subsingleton.elim _ _
  exact (show _ = P a0 a1 a2 a3 (ix3 0 s ⟨6720 + (j : ℕ), by omega⟩) by pointwise [R1]).trans (P_at a0 a1 a2 a3 0 s _)

/-- The narrow columns: the attention gates, the decay and the write strength of the delta rule, then zeros. -/
def R2 (m : (ℓ : Loc nD τ sig) → Buf (Elt Ideal) ℓ) (c : Dev nD) : FVec Ideal S1x128x128 .f32 := res_out2 m c

theorem R2_lo (m : (ℓ : Loc nD τ sig) → Buf (Elt Ideal) ℓ) (c : Dev nD) (b : Fin 1) (s : Fin 128) (j : Fin 128) (h : j.val < 64) :
    R2 m c (ix3 b s j) = Cert.Proof.prjS (m ((c.tc : Thread nD τ).loc main_arg0)) (m ((c.tc : Thread nD τ).loc main_arg1))
      (m ((c.tc : Thread nD τ).loc main_arg2)) (m ((c.tc : Thread nD τ).loc main_arg3)) b s (ncol j h) := by
  unfold R2 res_out2 res_main_v34
  clean_types
  obtain rfl : b = 0 := Subsingleton.elim _ _
  by_cases h1 : j.val < 48
  · pointwise [h1]
    unfold ncol
    simp only [h1, ↓reduceDIte]
    rfl
  have e : ncol j h = ⟨6656 + (j : ℕ), by omega⟩ := by
    unfold ncol
    simp only [h1, ↓reduceDIte]
  rw [e]
  by_cases h2 : j.val - 48 < 8
  · pointwise [h1, h2]
    have e2 : (⟨6656 + (j : ℕ), by omega⟩ : Fin 8768) = ⟨6704 + (j - 48), by omega⟩ := Fin.ext (by simp only []; omega)
    rw [e2]
    rfl
  have h3 : j.val - 48 - 8 < 8 := by omega
  pointwise [h1, h2, h3]
  have e2 : (⟨6656 + (j : ℕ), by omega⟩ : Fin 8768) = ⟨6712 + (j - 48 - 8), by omega⟩ := Fin.ext (by simp only []; omega)
  rw [e2]
  rfl

/-- The padding columns are zero. -/
theorem R2_hi (m : (ℓ : Loc nD τ sig) → Buf (Elt Ideal) ℓ) (c : Dev nD) (b : Fin 1) (s : Fin 128) (j : Fin 128) (h : 64 ≤ j.val) :
    R2 m c (ix3 b s j) = 0 := by
  unfold R2 res_out2 res_main_v34
  clean_types
  obtain rfl : b = 0 := Subsingleton.elim _ _
  have h1 : ¬ j.val < 48 := by omega
  have h2 : ¬ j.val - 48 < 8 := by omega
  have h3 : ¬ j.val - 48 - 8 < 8 := by omega
  pointwise [h1, h2, h3]

end Cert.Reference11Ideal.Value

namespace Cert.Kernel11Ideal.Value

open Cert.Kernel11Ideal Cert.Kernel11Ideal.Gen Idealize.ShloMosaic Idealize.ShloMosaic.TcCoe Idealize.SL.Sem
open Idealize.ShloMosaic.Pipeline (Dat)
open Cert.Reference5Ideal.Value (ncol)
open Cert.Kernel5Ideal.Value (nw nw_lo nw_hi)
open scoped BigOperators
variable (m : (ℓ : Loc nD τ sig) → Buf (Elt Ideal) ℓ)

/-- There is one grid point, which works on whole arrays. -/
theorem idx : ∀ t : Fin cfg0.N, win0_0.index t = ![0, 0, 0] ∧ win0_1.index t = ![0, 0, 0, 0] ∧ win0_2.index t = ![0, 0] ∧ win0_3.index t = ![0, 0] ∧ win0_4.index t = ![0, 0] ∧ win0_5.index t = ![0, 0]
    ∧ win0_6.index t = ![0, 0, 0] ∧ win0_7.index t = ![0, 0, 0] ∧ win0_8.index t = ![0, 0, 0] ∧ t.val < 1 :=
  (by decide +kernel : ∀ t : Fin grid0.N, _)

/-- The block of activations, read from the whole array. -/
theorem rd0 (c : Dev nD) (t : Fin cfg0.N) (z : Fin 1) (r : Fin 128) (k : Fin 1024) (b : Fin 1) (s : Fin 128) (hb : (b : ℕ) = 0)
    (hs : (s : ℕ) = r) : iblk m c 0 t (ix3 z r k) = m ((c : Thread nD τ).loc main_arg0) (ix3 s b k) := by
  blk_ext! [iblk, V, idx t]

/-- The block of modulation vectors. -/
theorem rd1 (c : Dev nD) (t : Fin cfg0.N) (z : Fin 1) (i : Fin 6) (r : Fin 128) (k : Fin 1024) (s : Fin 128) (l : Fin 6144) (hs : (s : ℕ) = r)
    (hl : (l : ℕ) = i * 1024 + k) : iblk m c 1 t (ix4 z i r k) = m ((c : Thread nD τ).loc main_arg1) (ix2 s l) := by
  blk_ext! [iblk, V, idx t]

/-- The norm's weights. -/
theorem rd2 (c : Dev nD) (t : Fin cfg0.N) (z z' : Fin 1) (k : Fin 1024) :
    iblk m c 2 t (ix2 z k) = m ((c : Thread nD τ).loc main_arg2) (ix2 z' k) := by
  blk_ext [iblk, V, idx t]

/-- The weight columns of the gate z. -/
theorem rd3 (c : Dev nD) (t : Fin cfg0.N) (z : Fin 1) (k : Fin 1024) (j : Fin 1024) (l : Fin 8768) (hl : (l : ℕ) = 5680 + j) :
    iblk m c 3 t (ix2 k j) = m ((c : Thread nD τ).loc main_arg3) (ix3 z k l) := by
  blk_ext! [iblk, V, idx t]

/-- The weight columns of the merge gates. -/
theorem rd4 (c : Dev nD) (t : Fin cfg0.N) (z : Fin 1) (k : Fin 1024) (j : Fin 2048) (l : Fin 8768) (hl : (l : ℕ) = 6720 + j) :
    iblk m c 4 t (ix2 k j) = m ((c : Thread nD τ).loc main_arg3) (ix3 z k l) := by
  blk_ext! [iblk, V, idx t]

/-- The block of narrow weight columns is the host's array of them. -/
theorem rd5 (c : Dev nD) (t : Fin cfg0.N) (k : Fin 1024) (j : Fin 128) :
    iblk m c 5 t (ix2 k j) = V m c main_v22 (ix2 k j) := by
  blk_ext [iblk, idx t]

theorem v22 (c : Dev nD) : V m c main_v22 = nw (m ((c : Thread nD τ).loc main_arg3)) := by
  unfold V hostOps0
  after_results_simp <;> (try dsimp only [Matrix.cons_val]) <;> (try after_results_simp) <;> rfl

/-- The normed row the kernel works from. -/
theorem row (c : Dev nD) (t : Fin cfg0.N) (r : Fin 128) (k : Fin 1024) (b : Fin 1) (s : Fin 128) (hb : (b : ℕ) = 0)
    (hs : (s : ℕ) = r) :
    k0_pay10 (F := Ideal) (iblk m c 0 t) (iblk m c 1 t) (iblk m c 2 t) (iblk m c 3 t) (iblk m c 4 t) (iblk m c 5 t) (ix2 r k)
      = Cert.Proof.nrmS (m ((c : Thread nD τ).loc main_arg0)) (m ((c : Thread nD τ).loc main_arg1))
          (m ((c : Thread nD τ).loc main_arg2)) b s k := by
  unfold k0_pay10
  pointwise [k0_pay2]
  unfold Cert.Proof.nrmS
  have e0 := fun k => rd0 m c t 0 r k b s hb hs
  simp only [e0]
  rw [rd1 m c t 0 1 r k s ⟨1024 + k, by omega⟩ hs rfl, rd1 m c t 0 0 r k s ⟨k, by omega⟩ hs (by simp), rd2 m c t 0 0 k]

/-- A tile of 512 output columns: the row times the tile's weight columns. -/
theorem mm (h : FVec Ideal S128x1024 .bf16) (w : Vec Ideal S1024x512 .bf16) (x : S1x128x512.Idx) :
    k0_pay6 (F := Ideal) h w x = ∑ k : Fin 1024, h (ix2 (x 1) k) * w (ix2 k (x 2)) := by
  pointwise [k0_pay6]

/-- The narrow tile: the row times its 128 columns. -/
theorem mn (h : FVec Ideal S128x1024 .bf16) (w : Vec Ideal S1024x128 .bf16) (x : S1x128x128.Idx) :
    k0_pay1 (F := Ideal) h w x = ∑ k : Fin 1024, h (ix2 (x 1) k) * w (ix2 k (x 2)) := by
  pointwise [k0_pay1]

/-- The row's product with a column of the weight is an entry of the projection. -/
theorem col (c : Dev nD) (t : Fin cfg0.N) (r : Fin 128) (f : Fin 1024 → EReal) (b : Fin 1) (s : Fin 128) (l : Fin 8768)
    (hb : (b : ℕ) = 0) (hs : (s : ℕ) = r)
    (hw : ∀ k : Fin 1024, f k = m ((c : Thread nD τ).loc main_arg3) (ix3 0 k l)) :
    ∑ k : Fin 1024, k0_pay10 (F := Ideal) (iblk m c 0 t) (iblk m c 1 t) (iblk m c 2 t) (iblk m c 3 t) (iblk m c 4 t) (iblk m c 5 t) (ix2 r k) * f k
      = Cert.Proof.prjS (m ((c : Thread nD τ).loc main_arg0)) (m ((c : Thread nD τ).loc main_arg1))
          (m ((c : Thread nD τ).loc main_arg2)) (m ((c : Thread nD τ).loc main_arg3)) b s l :=
  Finset.sum_congr rfl fun k _ => congrArg₂ (· * ·) (row m c t r k b s hb hs) (hw k)

/-- The first tile works from the same normed row as the others. -/
theorem first (x0 : Vec Ideal S1x128x1024 .f32) (x1 : Vec Ideal S1x6x128x1024 .f32) (x2 : Vec Ideal S1x1024 .f32)
    (x3 : Vec Ideal S1024x1024 .bf16) (x4 : Vec Ideal S1024x2048 .bf16) (x5 : Vec Ideal S1024x128 .bf16) (w : Vec Ideal S1024x512 .bf16) :
    k0_pay3 (F := Ideal) (View.ld x0 r0_0) (View.ld x2 r0_1) (View.ld x1 r0_2) (View.ld x1 r0_3) w = k0_pay6 (k0_pay10 x0 x1 x2 x3 x4 x5) w :=
  rfl

/-- The second tile is computed as the others are. -/
theorem second (h : FVec Ideal S128x1024 .bf16) (w : Vec Ideal S1024x512 .bf16) : k0_pay5 (F := Ideal) h (k0_pay4 w) = k0_pay6 h w :=
  rfl

/-- The stored block of narrow columns, below the padding. -/
theorem point8 (c : Dev nD) (t : Fin cfg0.N) (y : S1x128x128.Idx) (b : Fin 1) (s : Fin 128)
    (hb : (b : ℕ) = 0) (hs : (s : ℕ) = y 1) (h : (y 2 : ℕ) < 64) :
    out0_8 (F := Ideal) (iblk m c 0 t) (iblk m c 1 t) (iblk m c 2 t) (iblk m c 3 t) (iblk m c 4 t) (iblk m c 5 t) y
      = Cert.Proof.prjS (m ((c : Thread nD τ).loc main_arg0)) (m ((c : Thread nD τ).loc main_arg1))
          (m ((c : Thread nD τ).loc main_arg2)) (m ((c : Thread nD τ).loc main_arg3)) b s (ncol (y 2) h) := by
  unfold out0_8
  canon_tiles x hx
  refine (mn _ _ x).trans (col m c t (x 1) _ b s _ hb (by omega) fun k => ?_)
  pointwise
  have e : ncol (y 2) h = ncol (x 2) (hx2 ▸ h) := by simp only [hx2]
  rw [e]
  exact (rd5 m c t k (x 2)).trans ((congrFun (v22 m c) _).trans (nw_lo _ 0 k (x 2) _))

/-- The padding of the stored block of narrow columns. -/
theorem point8z (c : Dev nD) (t : Fin cfg0.N) (y : S1x128x128.Idx) (h : 64 ≤ (y 2 : ℕ)) :
    out0_8 (F := Ideal) (iblk m c 0 t) (iblk m c 1 t) (iblk m c 2 t) (iblk m c 3 t) (iblk m c 4 t) (iblk m c 5 t) y = 0 := by
  unfold out0_8
  canon_tiles x hx
  refine (mn _ _ x).trans (Finset.sum_eq_zero fun k _ => ?_)
  pointwise
  have e : iblk m c 5 t (ix2 k (x 2)) = (0 : EReal) :=
    (rd5 m c t k (x 2)).trans ((congrFun (v22 m c) _).trans (nw_hi _ k (x 2) (hx2 ▸ h)))
  exact (congrArg (_ * ·) e).trans (mul_zero _)

/-- The kernel's array of gates z is the plain one. -/
theorem final6 (c : Dev nD) : (dats m 0 c).arrAt 6 (cfgs 0).N
    = Cert.Reference11Ideal.Value.R0 (m ((c : Thread nD τ).loc main_arg0)) (m ((c : Thread nD τ).loc main_arg1))
          (m ((c : Thread nD τ).loc main_arg2)) (m ((c : Thread nD τ).loc main_arg3)) := by
  refine (dats m 0 c).arrAt_eq_of_covers 6 _ (by decide +kernel) fun t _ y => ?_
  blk_simp
  rw [after0_6]
  generalize hi : ((cfg0.win 6).blk t).view.emb y = i
  have h0 : (i 0 : ℕ) = 0 := by rw [← hi]; blk_simp [idx t]
  have h1 : (i 1 : ℕ) = y 1 := by rw [← hi]; blk_simp [idx t]
  have h2 : (i 2 : ℕ) = y 2 := by rw [← hi]; blk_simp [idx t]
  clear hi
  obtain ⟨b, s, j, rfl⟩ : ∃ (b : Fin 1) (s : Fin 128) (j : Fin 1024), i = ix3 b s j := ⟨i 0, i 1, i 2, eq_ix3 i⟩
  rw [Cert.Reference11Ideal.Value.R0_at]
  have hl : (5680 + (j : ℕ)) = 5680 + y 2 := congrArg (5680 + ·) h2
  unfold out0_6
  rw [first _ _ _ (iblk m c 3 t) (iblk m c 4 t) (iblk m c 5 t), second]
  canon_tiles x hx
  all_goals
    refine (mm _ _ x).trans (col m c t (x 1) _ b s ⟨5680 + (j : ℕ), by omega⟩ h0 (h1.trans (by rw [hx1])) fun k => ?_)
    pointwise
    exact rd3 m c t 0 k _ _ (by simp only [hl, hx2])

/-- The kernel's array of merge gates is the plain one. -/
theorem final7 (c : Dev nD) : (dats m 0 c).arrAt 7 (cfgs 0).N
    = Cert.Reference11Ideal.Value.R1 (m ((c : Thread nD τ).loc main_arg0)) (m ((c : Thread nD τ).loc main_arg1))
          (m ((c : Thread nD τ).loc main_arg2)) (m ((c : Thread nD τ).loc main_arg3)) := by
  refine (dats m 0 c).arrAt_eq_of_covers 7 _ (by decide +kernel) fun t _ y => ?_
  blk_simp
  rw [after0_7]
  generalize hi : ((cfg0.win 7).blk t).view.emb y = i
  have h0 : (i 0 : ℕ) = 0 := by rw [← hi]; blk_simp [idx t]
  have h1 : (i 1 : ℕ) = y 1 := by rw [← hi]; blk_simp [idx t]
  have h2 : (i 2 : ℕ) = y 2 := by rw [← hi]; blk_simp [idx t]
  clear hi
  obtain ⟨b, s, j, rfl⟩ : ∃ (b : Fin 1) (s : Fin 128) (j : Fin 2048), i = ix3 b s j := ⟨i 0, i 1, i 2, eq_ix3 i⟩
  rw [Cert.Reference11Ideal.Value.R1_at]
  have hl : (6720 + (j : ℕ)) = 6720 + y 2 := congrArg (6720 + ·) h2
  unfold out0_7
  canon_tiles x hx
  all_goals
    refine (mm _ _ x).trans (col m c t (x 1) _ b s ⟨6720 + (j : ℕ), by omega⟩ h0 (h1.trans (by rw [hx1])) fun k => ?_)
    pointwise
    exact rd4 m c t 0 k _ _ (by simp only [hl, hx2])

/-- The kernel's array of narrow columns is the plain one, for a memory of the reference that holds the same arguments. -/
theorem final8 (c : Dev nD) (m' : (ℓ : Loc Cert.Reference11Ideal.nD Cert.Reference11Ideal.τ Cert.Reference11Ideal.sig) → Buf (Elt Ideal) ℓ)
    (e0 : m' ((c.tc : Thread nD τ).loc Cert.Reference11Ideal.main_arg0) = m ((c : Thread nD τ).loc main_arg0))
    (e1 : m' ((c.tc : Thread nD τ).loc Cert.Reference11Ideal.main_arg1) = m ((c : Thread nD τ).loc main_arg1))
    (e2 : m' ((c.tc : Thread nD τ).loc Cert.Reference11Ideal.main_arg2) = m ((c : Thread nD τ).loc main_arg2))
    (e3 : m' ((c.tc : Thread nD τ).loc Cert.Reference11Ideal.main_arg3) = m ((c : Thread nD τ).loc main_arg3)) :
    (dats m 0 c).arrAt 8 (cfgs 0).N = Cert.Reference11Ideal.Value.R2 m' c := by
  refine (dats m 0 c).arrAt_eq_of_covers 8 _ (by decide +kernel) fun t _ y => ?_
  blk_simp
  rw [after0_8]
  generalize hi : ((cfg0.win 8).blk t).view.emb y = i
  have h0 : (i 0 : ℕ) = 0 := by rw [← hi]; blk_simp [idx t]
  have h1 : (i 1 : ℕ) = y 1 := by rw [← hi]; blk_simp [idx t]
  have h2 : (i 2 : ℕ) = y 2 := by rw [← hi]; blk_simp [idx t]
  clear hi
  obtain ⟨b, s, j, rfl⟩ : ∃ (b : Fin 1) (s : Fin 128) (j : Fin 128), i = ix3 b s j := ⟨i 0, i 1, i 2, eq_ix3 i⟩
  by_cases h : j.val < 64
  · rw [Cert.Reference11Ideal.Value.R2_lo m' c b s j h, e0, e1, e2, e3]
    have e : ncol j h = ncol (y 2) (h2 ▸ h) := by simp only [← h2]; rfl
    rw [e]
    exact point8 m c t y b s h0 h1 _
  · rw [Cert.Reference11Ideal.Value.R2_hi m' c b s j (Nat.le_of_not_lt h)]
    exact point8z m c t y (h2 ▸ Nat.le_of_not_lt h)

end Cert.Kernel11Ideal.Value

end
-- ==== Proof.PairProjS.lean ====
module

public import proofs.«01_k».proof.Defs
public import proofs.«01_k».proof.Proof.ProjS
public import proofs.«01_k».proof.Proof.ProjSB
public import proofs.«01_k».proof.Proof.ProjSC
public import Idealize.ShloMosaic.Lib.Claim

/-! The three projections for the samples: from the kernels' arrays to the claims about their programs. -/

@[expose] public section

noncomputable section

namespace Cert.Proof

open Idealize.ShloMosaic Idealize.SL.Sem

/-- The first projection's kernel for the samples and the plain program end with the same queries, keys and values. -/
theorem pair_a_s : Cert.algebraic_Kernel7Ideal_Reference7Ideal := by
  pair_intro
  · run_from Cert.Kernel7Ideal.Value.run_blocks m g
  · run_from Cert.Reference7Ideal.Value.run m' g'
    · exact (Cert.Kernel7Ideal.Value.final10 m c).symm
    · exact (Cert.Kernel7Ideal.Value.final11 m c).symm
    · exact (Cert.Kernel7Ideal.Value.final12 m c).symm
    · exact (Cert.Kernel7Ideal.Value.final13 m c).symm
    · exact (Cert.Kernel7Ideal.Value.final14 m c).symm
    · exact (Cert.Kernel7Ideal.Value.final15 m c).symm
    · exact (Cert.Kernel7Ideal.Value.final16 m c).symm

/-- The second projection's kernel for the samples and the plain program end with the same array. -/
theorem pair_b_s : Cert.algebraic_Kernel10Ideal_Reference10Ideal := by
  pair_intro
  · run_from Cert.Kernel10Ideal.Value.run_blocks m g
  · run_from Cert.Reference10Ideal.Value.run m' g'
    exact (Cert.Kernel10Ideal.Value.final4 m c).symm

/-- The third projection's kernel for the samples and the plain program end with the same gates. -/
theorem pair_c_s : Cert.algebraic_Kernel11Ideal_Reference11Ideal := by
  pair_intro
  · run_from Cert.Kernel11Ideal.Value.run_blocks m g
  · have e := hagree
    run_from Cert.Reference11Ideal.Value.run m' g'
    · exact (Cert.Kernel11Ideal.Value.final6 m c).symm
    · exact (Cert.Kernel11Ideal.Value.final7 m c).symm
    · obtain ⟨e0, e1, e2, e3⟩ := e c
      exact (Cert.Kernel11Ideal.Value.final8 m c m' e0 e1 e2 e3).symm

end Cert.Proof

end
-- ==== Proof.Ada.lean ====
module

public import proofs.«01_k».proof.Proof.Gen.Kernel8Ideal.Value
public import proofs.«01_k».proof.Proof.Gen.Reference8Ideal.Run
public import Idealize.ShloMosaic.Lib.Pipeline.ValueKit
public import Idealize.ShloMosaic.Lib.Pointwise

/-! The modulation vectors of all rows: a product with the weight and a bias, read from the kernel's blocks of columns. -/

@[expose] public section

set_option maxRecDepth 16384

noncomputable section

namespace Cert.Reference8Ideal.Value

open Cert.Reference8Ideal Cert.Reference8Ideal.Gen Idealize.ShloMosaic Idealize.ShloMosaic.TcCoe Idealize.SL.Sem
open scoped BigOperators

/-- The prompt rows, the sample rows and the padding, one below the other. -/
def cat (a0 : FVec Ideal S4x1024 .f32) (a1 : FVec Ideal S128x1024 .f32) : FVec Ideal S136x1024 .f32 :=
  concatenate S136x1024 0 [⟨S4x1024, a0⟩, ⟨S128x1024, a1⟩,
    ⟨S4x1024, broadcastInDim S4x1024 ![] bcast_S_S4x1024 (constant S_ .f32 0x00000000#32)⟩]
    concatenates_S4x1024_S128x1024_S4x1024_S136x1024_d0

/-- The plain modulation vectors, as their composed term. -/
def R0 (a0 : FVec Ideal S4x1024 .f32) (a1 : FVec Ideal S128x1024 .f32) (a2 : FVec Ideal S1x1024x6144 .f32)
    (a3 : FVec Ideal S1x6144 .f32) : FVec Ideal S136x6144 .f32 :=
  addf (Host.dotGeneral dot_S136x1024_S1024x6144_S136x6144_1_0_0_1_n_n none (cat a0 a1) (shapeCast _ a2 shapeCasts_S1x1024x6144_S1024x6144))
    (broadcastInDim S136x6144 ![0, 1] bcast_S1x6144_S136x6144_0_1 (broadcastInDim S1x6144 ![1] bcast_S6144_S1x6144_1
      (shapeCast _ a3 shapeCasts_S1x6144_S6144)))

/-- One of them: a row times a column, and the column's bias. -/
theorem R0_at (a0 : FVec Ideal S4x1024 .f32) (a1 : FVec Ideal S128x1024 .f32) (a2 : FVec Ideal S1x1024x6144 .f32)
    (a3 : FVec Ideal S1x6144 .f32) (r : Fin 136) (j : Fin 6144) :
    R0 a0 a1 a2 a3 (ix2 r j) = (∑ k : Fin 1024, cat a0 a1 (ix2 r k) * a2 (ix3 0 k j)) + a3 (ix2 0 j) := by
  pointwise [R0]

end Cert.Reference8Ideal.Value

namespace Cert.Kernel8Ideal.Value

open Cert.Kernel8Ideal Cert.Kernel8Ideal.Gen Idealize.ShloMosaic Idealize.ShloMosaic.TcCoe Idealize.SL.Sem
open Idealize.ShloMosaic.Pipeline (Dat)
open scoped BigOperators
variable (m : (ℓ : Loc nD τ sig) → Buf (Elt Ideal) ℓ)

/-- Which block of each window grid point `t` works on. -/
theorem idx : ∀ t : Fin cfg0.N, win0_0.index t = ![0, 0] ∧ win0_1.index t = ![0, t.val] ∧ win0_2.index t = ![0, t.val]
    ∧ win0_3.index t = ![0, t.val] ∧ t.val < 6 :=
  (by decide +kernel : ∀ t : Fin grid0.N, _)

/-- The host's rows, one below the other. -/
theorem v1 (c : Dev nD) : V m c main_v1 = Cert.Reference8Ideal.Value.cat (m ((c : Thread nD τ).loc main_arg0)) (m ((c : Thread nD τ).loc main_arg1)) := by
  unfold V hostOps0
  after_results_simp <;> (try dsimp only [Matrix.cons_val]) <;> (try after_results_simp) <;> rfl

/-- The block of rows is all of them. -/
theorem rd0 (c : Dev nD) (t : Fin cfg0.N) (r : Fin 136) (k : Fin 1024) : iblk m c 0 t (ix2 r k) = V m c main_v1 (ix2 r k) := by
  blk_ext [iblk, idx t]

/-- The block of weight columns. -/
theorem rd1 (c : Dev nD) (t : Fin cfg0.N) (k : Fin 1024) (j : Fin 1024) (l : Fin 6144) (hl : (l : ℕ) = t.val * 1024 + j) :
    iblk m c 1 t (ix2 k j) = m ((c : Thread nD τ).loc main_arg2) (ix3 0 k l) := by
  blk_ext! [iblk, V, idx t]

/-- The block of biases. -/
theorem rd2 (c : Dev nD) (t : Fin cfg0.N) (j : Fin 1024) (l : Fin 6144) (hl : (l : ℕ) = t.val * 1024 + j) :
    iblk m c 2 t (ix2 0 j) = m ((c : Thread nD τ).loc main_arg3) (ix2 0 l) := by
  blk_ext [iblk, V, idx t]

/-- The block's payload, entry by entry. -/
theorem pay (x0 : Vec Ideal S136x1024 .f32) (x1 : Vec Ideal S1024x1024 .f32) (x2 : Vec Ideal S1x1024 .f32) (x : S136x1024.Idx) :
    k0_pay1 (F := Ideal) x0 x1 x2 x = (∑ k : Fin 1024, x0 (ix2 (x 0) k) * x1 (ix2 k (x 1))) + x2 (ix2 0 (x 1)) := by
  pointwise [k0_pay1]

/-- The stored block, entry by entry. -/
theorem point (c : Dev nD) (t : Fin cfg0.N) (y : S136x1024.Idx) (r : Fin 136) (j : Fin 6144) (hr : (r : ℕ) = y 0)
    (hj : (j : ℕ) = t.val * 1024 + y 1) :
    out0_3 (F := Ideal) (iblk m c 0 t) (iblk m c 1 t) (iblk m c 2 t) y
      = Cert.Reference8Ideal.Value.R0 (m ((c : Thread nD τ).loc main_arg0)) (m ((c : Thread nD τ).loc main_arg1))
          (m ((c : Thread nD τ).loc main_arg2)) (m ((c : Thread nD τ).loc main_arg3)) (ix2 r j) := by
  rw [Cert.Reference8Ideal.Value.R0_at]
  unfold out0_3
  canon_tiles x hx
  rw [pay]
  pointwise
  have er : x 0 = r := Fin.ext (by omega)
  have hj' : (j : ℕ) = t.val * 1024 + x 1 := by omega
  refine congrArg₂ (· + ·) (Finset.sum_congr rfl fun k _ => congrArg₂ (· * ·) ?_ (rd1 m c t k (x 1) j hj')) (rd2 m c t (x 1) j hj')
  rw [er]
  exact (rd0 m c t r k).trans (congrFun (v1 m c) _)

/-- The kernel's array is the plain one. -/
theorem final (c : Dev nD) : (dats m 0 c).arrAt 3 (cfgs 0).N
    = Cert.Reference8Ideal.Value.R0 (m ((c : Thread nD τ).loc main_arg0)) (m ((c : Thread nD τ).loc main_arg1))
          (m ((c : Thread nD τ).loc main_arg2)) (m ((c : Thread nD τ).loc main_arg3)) := by
  refine (dats m 0 c).arrAt_eq_of_covers 3 _ (by decide +kernel) fun t _ y => ?_
  blk_simp
  rw [after0_3]
  generalize hi : ((cfg0.win 3).blk t).view.emb y = i
  have h0 : (i 0 : ℕ) = y 0 := by rw [← hi]; blk_simp [idx t]
  have h1 : (i 1 : ℕ) = t.val * 1024 + y 1 := by rw [← hi]; blk_simp [idx t]
  clear hi
  obtain ⟨r, j, rfl⟩ : ∃ (r : Fin 136) (j : Fin 6144), i = ix2 r j := ⟨i 0, i 1, eq_ix2 i⟩
  exact point m c t y r j h0 h1

end Cert.Kernel8Ideal.Value

end
-- ==== Proof.PairAda.lean ====
module

public import proofs.«01_k».proof.Defs
public import proofs.«01_k».proof.Proof.Ada
public import Idealize.ShloMosaic.Lib.Claim

/-! The modulation vectors: from the kernel's array to the claim about its program. -/

@[expose] public section

noncomputable section

namespace Cert.Proof

open Idealize.ShloMosaic Idealize.SL.Sem

/-- The kernel of the modulation vectors and the plain program end with the same array. -/
theorem pair_ada : Cert.algebraic_Kernel8Ideal_Reference8Ideal := by
  pair_intro
  · run_from Cert.Kernel8Ideal.Value.run_blocks m g
  · run_from Cert.Reference8Ideal.Value.run m' g'
    exact (Cert.Kernel8Ideal.Value.final m c).symm

end Cert.Proof

end
-- ==== Proof.DnpHead.lean ====
module

public import proofs.«01_k».proof.Proof.Gen.Kernel9Ideal.Value

/-! The chunked delta rule's kernel, one chunk: the convolved rows, the gates and, for one head, the triangular inverse, the outputs and the new
state, each as the function of tiles that the kernel evaluates for every head alike. -/

@[expose] public section

noncomputable section

namespace Cert.Kernel9Ideal.Value

open Cert.Kernel9Ideal Cert.Kernel9Ideal.Gen Idealize.ShloMosaic Idealize.ShloMosaic.TcCoe Idealize.SL.Sem

variable {F : FTy → Type} [FloatOps F] [Named F]

namespace Chunk

/-- The sum of the four shifted products. -/
def convw (w3 w2 w1 w0 : FVec F S1x3072 .f32) (r8 r7 r6 r5 : FVec F S128x3072 .f32) : FVec F S128x3072 .f32 :=
  addf (addf (addf (mulf (broadcastTo S128x3072 w3 broadcasts_S1x3072_S128x3072) r8) (mulf (broadcastTo S128x3072 w2 broadcasts_S1x3072_S128x3072) r7))
    (mulf (broadcastTo S128x3072 w1 broadcasts_S1x3072_S128x3072) r6)) (mulf (broadcastTo S128x3072 w0 broadcasts_S1x3072_S128x3072) r5)

/-- A row times its logistic. -/
def siluw (y : FVec F S128x3072 .f32) : FVec F S128x3072 .f32 :=
  mulf y (divf (broadcast S128x3072 (Scalar.ofBits .f32 0x3F800000#32)) (addf (broadcast S128x3072 (Scalar.ofBits .f32 0x3F800000#32)) (exp (subf (broadcast S128x3072 (Scalar.ofBits .f32 0x00000000#32)) y))))

/-- A tile of one number. -/
def fill (b : BitVec 32) : FVec F S128x128 .f32 := broadcast S128x128 (Scalar.ofBits .f32 b)

/-- The logarithms of the decays. -/
def gl (s : FVec F S128x128 .f32) (al dt : FVec F S1x128 .f32) : FVec F S128x128 .f32 :=
  mulf (broadcastTo S128x128 (subf (broadcast S1x128 (Scalar.ofBits .f32 0x00000000#32)) (exp al)) broadcasts_S1x128_S128x128)
    (addf (maximumf (addf s (broadcastTo S128x128 dt broadcasts_S1x128_S128x128)) (fill 0x00000000#32))
      (log (addf (fill 0x3F800000#32) (exp (subf (fill 0x00000000#32) (absf (addf s (broadcastTo S128x128 dt broadcasts_S1x128_S128x128))))))))

/-- The logistic of a tile. -/
def logi (s : FVec F S128x128 .f32) : FVec F S128x128 .f32 :=
  divf (fill 0x3F800000#32) (addf (fill 0x3F800000#32) (exp (subf (fill 0x00000000#32) s)))

/-- The row numbers. -/
def rows : IVec S128x128 32 := iota .tc S128x128 32 [0] iota_S128x128_d0_w32
/-- The column numbers. -/
def cols : IVec S128x128 32 := iota .tc S128x128 32 [1] iota_S128x128_d1_w32

/-- The tile of ones where a condition holds. -/
def ones (c : IVec S128x128 1) : FVec F S128x128 .f32 := sitofp .f32 (extui 32 c natLt_1_32)

/-- A tile in the matrix unit's type. -/
def lo (x : FVec F S128x128 .f32) : FVec F S128x128 .bf16 := truncf .bf16 x bitsLt_bf16_f32

/-- What the matrix unit's type loses. -/
def rest (x : FVec F S128x128 .f32) : FVec F S128x128 .f32 := subf x (extf .f32 (lo x) bitsLt_bf16_f32)

/-- A product of tiles of the matrix unit's type. -/
def mmb (a b : FVec F S128x128 .bf16) : FVec F S128x128 .f32 :=
  matmul dot_S128x128_S128x128_S128x128_1_0_0_1_n_n none a b (constant S128x128 .f32 0x00000000#32)

/-- A product of tiles. -/
def mm (a b : FVec F S128x128 .f32) : FVec F S128x128 .f32 := mmb (lo a) (lo b)

/-- A tile times a tile of ones, in three parts. -/
def split3 (f : FVec F S128x128 .bf16 → FVec F S128x128 .f32) (x : FVec F S128x128 .f32) : FVec F S128x128 .f32 :=
  addf (addf (f (lo x)) (f (lo (rest x)))) (f (lo (rest (rest x))))

/-- The running sums of the columns. -/
def gcol (g : FVec F S128x128 .f32) : FVec F S128x128 .f32 := split3 (fun y => mmb (lo (ones (cmpi .sge rows cols))) y) g

/-- The transposed tile. -/
def tr (x : FVec F S128x128 .f32) : FVec F S128x128 .f32 := transpose S128x128 [1, 0] x transposes_S128x128_p1_0_S128x128

/-- The running sums, transposed. -/
def grow (g : FVec F S128x128 .f32) : FVec F S128x128 .f32 := split3 (fun y => mmb y (lo (ones (cmpi .sle rows cols)))) (tr g)

/-- A column along the rows. -/
def bc (x : FVec F S128x1 .f32) : FVec F S128x128 .f32 := broadcastTo S128x128 x broadcasts_S128x1_S128x128

/-- The rows over the square root of the sum of their squares. -/
def unitw (x : FVec F S128x128 .f32) : FVec F S128x128 .f32 :=
  mulf x (bc (rsqrt (addf (shapeCast S128x1 (multiReduction .add [1] S128 (mulf x x) 0x00000000#32 reduces_S128x128_S128 (.inl rfl) rfl) shapeCasts_S128_S128x1)
    (broadcast S128x1 (Scalar.ofBits .f32 0x358637BD#32)))))

/-- The queries' rows. -/
def qw (x : FVec F S128x128 .f32) : FVec F S128x128 .f32 := mulf (unitw x) (fill 0x3DB504F3#32)

/-- The decays from one token to a later one. -/
def decay (c : FVec F S128x1 .f32) (r : FVec F S1x128 .f32) : FVec F S128x128 .f32 :=
  exp (select (cmpi .sge rows cols) (subf (bc c) (broadcastTo S128x128 r broadcasts_S1x128_S128x128)) (broadcast S128x128 (Named.named κ "mask" 0xF149F2CA#32)))

/-- Two tiles below one another, times a tile's rows. -/
def kq (kb q k : FVec F S128x128 .f32) : FVec F S256x128 .f32 :=
  matmul dot_S256x128_S128x128_S256x128_1_1_0_0_n_n none
    (truncf .bf16 (concatenate S256x128 0 [⟨S128x128, kb⟩, ⟨S128x128, q⟩] concatenates_S128x128_S128x128_S256x128_d0) bitsLt_bf16_f32) (lo k) (constant S256x128 .f32 0x00000000#32)

/-- The lower triangle. -/
def lm (kb q k : FVec F S128x128 .f32) (d : FVec F S128x128 .f32) : FVec F S128x128 .f32 :=
  select (cmpi .sgt rows cols) (mulf (extractStridedSlice S128x128 ![0, 0] (kq kb q k) slices_S256x128_o0_0_S128x128) d) (fill 0x00000000#32)

/-- The weights of the tokens in the outputs. -/
def am (kb q k : FVec F S128x128 .f32) (d : FVec F S128x128 .f32) : FVec F S128x128 .f32 :=
  mulf (extractStridedSlice S128x128 ![128, 0] (kq kb q k) slices_S256x128_o128_0_S128x128) d

/-- A number in every entry. -/
def ifill (b : BitVec 32) : IVec S128x128 32 := broadcast S128x128 b

/-- The quotient, rounded down. -/
def fdiv (x : IVec S128x128 32) (d : BitVec 32) : IVec S128x128 32 :=
  select (andi (cmpi .ne (subi (extui 32 (cmpi .sgt x (ifill 0#32)) natLt_1_32) (extui 32 (cmpi .slt x (ifill 0#32)) natLt_1_32)) (ifill 1#32))
    (cmpi .ne (remsi x (ifill d)) (ifill 0#32))) (subi (divsi x (ifill d)) (ifill 1#32)) (divsi x (ifill d))

/-- The blocks on the diagonal. -/
def same (d : BitVec 32) : IVec S128x128 1 := cmpi .eq (fdiv rows d) (fdiv cols d)

/-- The off-diagonal blocks inside the blocks of twice the size. -/
def offw (d2 d : BitVec 32) : IVec S128x128 1 := andi (same d2) (cmpi .ne (fdiv rows d) (fdiv cols d))

/-- A tile times two tiles side by side. -/
def mm2 (a x y : FVec F S128x128 .f32) : FVec F S128x256 .f32 :=
  matmul dot_S128x128_S128x256_S128x256_1_0_0_1_n_n none (lo a)
    (truncf .bf16 (concatenate S128x256 1 [⟨S128x128, x⟩, ⟨S128x128, y⟩] concatenates_S128x128_S128x128_S128x256_d1) bitsLt_bf16_f32) (constant S128x256 .f32 0x00000000#32)

/-- The left tile of two. -/
def fstw (x : FVec F S128x256 .f32) : FVec F S128x128 .f32 := extractStridedSlice S128x128 ![0, 0] x slices_S128x256_o0_0_S128x128
/-- The right tile of two. -/
def sndw (x : FVec F S128x256 .f32) : FVec F S128x128 .f32 := extractStridedSlice S128x128 ![0, 128] x slices_S128x256_o0_128_S128x128

/-- The power and the partial inverse after one doubling. -/
def dbl (p x : FVec F S128x128 .f32) : FVec F S128x128 .f32 × FVec F S128x128 .f32 := (fstw (mm2 p p x), addf x (sndw (mm2 p p x)))

/-- The inverse of the blocks of 16 on the diagonal. -/
def inv16w (n : FVec F S128x128 .f32) : FVec F S128x128 .f32 :=
  addf (dbl (dbl (mm n n) (addf (ones (cmpi .eq rows cols)) n)).1 (dbl (mm n n) (addf (ones (cmpi .eq rows cols)) n)).2).2
    (mm (dbl (dbl (mm n n) (addf (ones (cmpi .eq rows cols)) n)).1 (dbl (mm n n) (addf (ones (cmpi .eq rows cols)) n)).2).1
      (dbl (dbl (mm n n) (addf (ones (cmpi .eq rows cols)) n)).1 (dbl (mm n n) (addf (ones (cmpi .eq rows cols)) n)).2).2)

/-- From the inverse of the blocks on the diagonal to that of the blocks of twice the size. -/
def groww (d2 d : BitVec 32) (l x : FVec F S128x128 .f32) : FVec F S128x128 .f32 :=
  subf x (mm (mm x (select (offw d2 d) l (fill 0x00000000#32))) x)

/-- The inverse of the unit triangle. -/
def invw (l : FVec F S128x128 .f32) : FVec F S128x128 .f32 :=
  groww 128#32 64#32 l (groww 64#32 32#32 l (groww 32#32 16#32 l (inv16w (select (same 16#32) (subf (fill 0x00000000#32) l) (fill 0x00000000#32)))))

/-- The two right-hand sides times the inverse. -/
def uw (t v kb : FVec F S128x128 .f32) (b c : FVec F S128x1 .f32) : FVec F S128x256 .f32 := mm2 t (mulf v (bc b)) (mulf kb (bc (exp c)))

/-- Two tiles below one another, times the state. -/
def ws (w q s : FVec F S128x128 .f32) (c : FVec F S128x1 .f32) : FVec F S256x128 .f32 :=
  matmul dot_S256x128_S128x128_S256x128_1_0_0_1_n_n none
    (truncf .bf16 (concatenate S256x128 0 [⟨S128x128, w⟩, ⟨S128x128, mulf q (bc (exp c))⟩] concatenates_S128x128_S128x128_S256x128_d0) bitsLt_bf16_f32) (lo s) (constant S256x128 .f32 0x00000000#32)

/-- What the tokens write. -/
def vneww (u : FVec F S128x256 .f32) (w : FVec F S256x128 .f32) : FVec F S128x128 .f32 :=
  subf (fstw u) (extractStridedSlice S128x128 ![0, 0] w slices_S256x128_o0_0_S128x128)

/-- The outputs of a chunk. -/
def outw (a vn : FVec F S128x128 .f32) (w : FVec F S256x128 .f32) : FVec F S128x128 .f32 :=
  addf (extractStridedSlice S128x128 ![128, 0] w slices_S256x128_o128_0_S128x128) (mm a vn)

/-- The last running sum. -/
def lastw (r : FVec F S1x128 .f32) : FVec F S1x1 .f32 := extractStridedSlice S1x1 ![0, 127] r slices_S1x128_o0_127_S1x1

/-- The state after a chunk. -/
def statew (k s vn : FVec F S128x128 .f32) (c : FVec F S128x1 .f32) (r : FVec F S1x128 .f32) : FVec F S128x128 .f32 :=
  addf (mulf s (broadcastTo S128x128 (exp (lastw r)) broadcasts_S1x1_S128x128))
    (mm (tr (mulf k (bc (exp (subf (broadcastTo S128x1 (lastw r) broadcasts_S1x1_S128x1) c))))) vn)

/-- The normed and gated outputs. -/
def gatew (o z : FVec F S128x128 .f32) (ng : FVec F S1x128 .f32) : FVec F S128x128 .f32 :=
  mulf (mulf (mulf o (bc (rsqrt (addf (divf (shapeCast S128x1 (multiReduction .add [1] S128 (mulf o o) 0x00000000#32 reduces_S128x128_S128 (.inl rfl) rfl) shapeCasts_S128_S128x1)
    (broadcast S128x1 (Scalar.ofBits .f32 0x43000000#32))) (broadcast S128x1 (Scalar.ofBits .f32 0x358637BD#32))))))
    (broadcastTo S128x128 ng broadcasts_S1x128_S128x128)) (mulf z (logi z))

/-- What a head's tokens write, from its slices of the convolved rows, of the running sums and of the write strengths, and its state. -/
def news (y0 y1 v : FVec F S128x128 .f32) (c : FVec F S128x1 .f32) (r : FVec F S1x128 .f32) (b : FVec F S128x1 .f32) (s : FVec F S128x128 .f32) :
    FVec F S128x256 .f32 × FVec F S256x128 .f32 :=
  (uw (invw (lm (mulf (unitw y1) (bc b)) (qw y0) (unitw y1) (decay c r))) v (mulf (unitw y1) (bc b)) b c,
    ws (sndw (uw (invw (lm (mulf (unitw y1) (bc b)) (qw y0) (unitw y1) (decay c r))) v (mulf (unitw y1) (bc b)) b c)) (qw y0) s c)

/-- The gated outputs of a head. -/
def headOut (y0 y1 v : FVec F S128x128 .f32) (c : FVec F S128x1 .f32) (r : FVec F S1x128 .f32) (b : FVec F S128x1 .f32) (s z : FVec F S128x128 .f32)
    (ng : FVec F S1x128 .f32) : FVec F S128x128 .f32 :=
  gatew (outw (am (mulf (unitw y1) (bc b)) (qw y0) (unitw y1) (decay c r)) (vneww (news y0 y1 v c r b s).1 (news y0 y1 v c r b s).2) (news y0 y1 v c r b s).2) z ng

/-- The new state of a head. -/
def headState (y0 y1 v : FVec F S128x128 .f32) (c : FVec F S128x1 .f32) (r : FVec F S1x128 .f32) (b : FVec F S128x1 .f32) (s : FVec F S128x128 .f32) : FVec F S128x128 .f32 :=
  statew (unitw y1) s (vneww (news y0 y1 v c r b s).1 (news y0 y1 v c r b s).2) c r

end Chunk

end Cert.Kernel9Ideal.Value

end
-- ==== Proof.UnitInv.lean ====
module

public import Mathlib.Data.Matrix.Mul
public import Mathlib.LinearAlgebra.Matrix.NonsingularInverse
public import Mathlib.Data.Real.Basic
public import Mathlib.Tactic.NoncommRing

/-! The inverse of a unit lower triangle: the diagonal blocks by repeated squaring, then blocks of twice the size from two
    blocks and the square between them. -/

@[expose] public section

noncomputable section

namespace Cert.Proof

open scoped BigOperators

/-- A square of reals of the chunk's size. -/
abbrev Sq := Matrix (Fin 128) (Fin 128) ℝ

/-- The diagonal blocks of size `s`. -/
def keep (s : ℕ) (L : Sq) : Sq := fun i j => if (i : ℕ) / s = (j : ℕ) / s then L i j else 0

/-- The squares that join two diagonal blocks of size `s` to one of twice the size. -/
def off (s : ℕ) (L : Sq) : Sq := fun i j =>
  if (i : ℕ) / (2 * s) = (j : ℕ) / (2 * s) ∧ (i : ℕ) / s ≠ (j : ℕ) / s then L i j else 0

/-- Nothing on the diagonal or above it. -/
def Low (L : Sq) : Prop := ∀ i j : Fin 128, (i : ℕ) ≤ j → L i j = 0

/-- Nothing outside the diagonal blocks of size `s`. -/
def Blocky (s : ℕ) (X : Sq) : Prop := ∀ i j : Fin 128, (i : ℕ) / s ≠ (j : ℕ) / s → X i j = 0

theorem div_two_mul {s a b : ℕ} (h : a / s = b / s) : a / (2 * s) = b / (2 * s) := by
  rw [Nat.mul_comm, ← Nat.div_div_eq_div_mul, ← Nat.div_div_eq_div_mul, h]

theorem keep_double (s : ℕ) (L : Sq) : keep (2 * s) L = keep s L + off s L := by
  funext i j
  simp only [keep, off, Matrix.add_apply]
  by_cases h : (i : ℕ) / s = (j : ℕ) / s
  · simp [h, div_two_mul h]
  · simp [h]

theorem Blocky.mul {s : ℕ} {X Y : Sq} (hX : Blocky s X) (hY : Blocky s Y) : Blocky s (X * Y) := by
  intro i j hij
  rw [Matrix.mul_apply]
  refine Finset.sum_eq_zero fun l _ => ?_
  by_cases h : (i : ℕ) / s = (l : ℕ) / s
  · rw [hY l j (fun h' => hij (h.trans h')), mul_zero]
  · rw [hX i l h, zero_mul]

theorem Blocky.add {s : ℕ} {X Y : Sq} (hX : Blocky s X) (hY : Blocky s Y) : Blocky s (X + Y) := by
  intro i j hij
  rw [Matrix.add_apply, hX i j hij, hY i j hij, add_zero]

theorem Blocky.sub {s : ℕ} {X Y : Sq} (hX : Blocky s X) (hY : Blocky s Y) : Blocky s (X - Y) := by
  intro i j hij
  rw [Matrix.sub_apply, hX i j hij, hY i j hij, sub_zero]

theorem Blocky.one (s : ℕ) : Blocky s (1 : Sq) := by
  intro i j hij
  rw [Matrix.one_apply_ne]
  rintro rfl
  exact hij rfl

theorem Blocky.double {s : ℕ} {X : Sq} (hX : Blocky s X) : Blocky (2 * s) X := fun i j hij =>
  hX i j fun h => hij (div_two_mul h)

theorem off_blocky (s : ℕ) (L : Sq) : Blocky (2 * s) (off s L) := by
  intro i j hij
  simp [off, hij]

/-- The square between two blocks, a block, and again such a square: there is no way through. -/
theorem off_mul_off {s : ℕ} (hs : 0 < s) {L X : Sq} (hL : Low L) (hX : Blocky s X) : off s L * X * off s L = 0 := by
  funext i j
  rw [Matrix.mul_apply]
  refine Finset.sum_eq_zero fun b _ => ?_
  rw [Matrix.mul_apply]
  by_cases hb : off s L b j = 0
  · rw [hb, mul_zero]
  refine mul_eq_zero_of_left (Finset.sum_eq_zero fun a _ => ?_) _
  by_cases ha : off s L i a = 0
  · rw [ha, zero_mul]
  by_cases hab : (a : ℕ) / s = (b : ℕ) / s
  · exfalso
    simp only [off, ite_eq_right_iff, not_forall] at ha hb
    obtain ⟨⟨h1, h2⟩, h3⟩ := ha
    obtain ⟨⟨h4, h5⟩, h6⟩ := hb
    have h7 : ¬ (i : ℕ) ≤ a := fun h => h3 (hL _ _ h)
    have h8 : ¬ (b : ℕ) ≤ j := fun h => h6 (hL _ _ h)
    rw [Nat.mul_comm 2 s, ← Nat.div_div_eq_div_mul, ← Nat.div_div_eq_div_mul] at h1 h4
    have h9 : (a : ℕ) / s ≤ (i : ℕ) / s := Nat.div_le_div_right (by omega)
    have h10 : (j : ℕ) / s ≤ (b : ℕ) / s := Nat.div_le_div_right (by omega)
    omega
  · rw [hX a b hab, mul_zero]

/-- From the inverse of the diagonal blocks to that of blocks of twice the size. -/
theorem inv_double {s : ℕ} (hs : 0 < s) {L X : Sq} (hL : Low L) (hX : Blocky s X) (h : (1 + keep s L) * X = 1) :
    (1 + keep (2 * s) L) * (X - X * off s L * X) = 1 := by
  have h0 := off_mul_off hs hL hX
  have e : (1 + keep (2 * s) L) * (X - X * off s L * X)
      = (1 + keep s L) * X - ((1 + keep s L) * X) * off s L * X + off s L * X - (off s L * X * off s L) * X := by
    rw [keep_double]; noncomm_ring
  rw [e, h, h0]; noncomm_ring

theorem Blocky.step {s : ℕ} {L X : Sq} (hX : Blocky s X) : Blocky (2 * s) (X - X * off s L * X) :=
  hX.double.sub ((hX.double.mul (off_blocky s L)).mul hX.double)

/-- One squaring: `x` inverts up to `p`, so `x + p x` inverts up to `p p`. -/
theorem neumann {N x p : Sq} (h : (1 - N) * x = 1 - p) (hc : N * p = p * N) : (1 - N) * (x + p * x) = 1 - p * p := by
  have e : (1 - N) * (x + p * x) = (1 - N) * x + p * ((1 - N) * x) + (p * N - N * p) * x := by noncomm_ring
  rw [e, h, hc]; noncomm_ring

/-- Sixteen factors of a strict triangle within blocks of sixteen are nothing. -/
theorem pow_zero16 {N : Sq} (hL : Low N) (hB : Blocky 16 N) : N ^ 16 = 0 := by
  have key : ∀ k : ℕ, ∀ i j : Fin 128, (i : ℕ) < j + k → (N ^ k) i j = 0 := by
    intro k
    induction k with
    | zero =>
      intro i j h
      rw [pow_zero, Matrix.one_apply_ne]
      rintro rfl
      omega
    | succ k ih =>
      intro i j h
      rw [pow_succ, Matrix.mul_apply]
      refine Finset.sum_eq_zero fun l _ => ?_
      by_cases h1 : (l : ℕ) ≤ j
      · rw [hL l j h1, mul_zero]
      · rw [ih i l (by omega), zero_mul]
  have hb : ∀ k : ℕ, Blocky 16 (N ^ k) := by
    intro k
    induction k with
    | zero => rw [pow_zero]; exact Blocky.one 16
    | succ k ih => rw [pow_succ]; exact ih.mul hB
  funext i j
  by_cases h : (i : ℕ) / 16 = (j : ℕ) / 16
  · exact key 16 i j (by omega)
  · exact hb 16 i j h

/-- The diagonal blocks of sixteen inverted: four squarings. -/
def inv16 (N : Sq) : Sq :=
  let x0 := 1 + N
  let p1 := N * N
  let x1 := x0 + p1 * x0
  let p2 := p1 * p1
  let x2 := x1 + p2 * x1
  x2 + (p2 * p2) * x2

/-- From blocks of size `s` to blocks of twice the size. -/
def grow (s : ℕ) (L X : Sq) : Sq := X - X * off s L * X

/-- The inverse of one more than a strict lower triangle. -/
def inv128 (L : Sq) : Sq := grow 64 L (grow 32 L (grow 16 L (inv16 (-keep 16 L))))

theorem inv16_eq (N : Sq) : (1 - N) * inv16 N = 1 - N ^ 16 := by
  have h0 : (1 - N) * (1 + N) = 1 - N * N := by noncomm_ring
  have h1 := neumann h0 (by noncomm_ring)
  have h2 := neumann h1 (by noncomm_ring)
  have h3 := neumann h2 (by noncomm_ring)
  have e : N ^ 16 = N * N * (N * N) * (N * N * (N * N)) * (N * N * (N * N) * (N * N * (N * N))) := by noncomm_ring
  rw [e]
  exact h3

theorem inv16_blocky {N : Sq} (hB : Blocky 16 N) : Blocky 16 (inv16 N) := by
  have b0 := (Blocky.one 16).add hB
  have p1 := hB.mul hB
  have b1 := b0.add (p1.mul b0)
  have p2 := p1.mul p1
  have b2 := b1.add (p2.mul b1)
  exact b2.add ((p2.mul p2).mul b2)

theorem inv128_right {L : Sq} (hL : Low L) : (1 + L) * inv128 L = 1 := by
  have hB : Blocky 16 (-keep 16 L) := by
    intro i j h
    simp [keep, h]
  have hN : Low (-keep 16 L) := by
    intro i j h
    simp [keep, hL i j h]
  have e0 : (1 + keep 16 L) * inv16 (-keep 16 L) = 1 := by
    have := inv16_eq (-keep 16 L)
    rw [pow_zero16 hN hB, sub_zero, sub_neg_eq_add] at this
    exact this
  have b0 := inv16_blocky hB
  have e1 := inv_double (by norm_num) hL b0 e0
  have b1 := b0.step (L := L)
  have e2 := inv_double (by norm_num) hL b1 e1
  have b2 := b1.step (L := L)
  have e3 := inv_double (by norm_num) hL b2 e2
  have hk : keep (2 * (2 * (2 * 16))) L = L := by
    funext i j
    have h1 : (i : ℕ) / (2 * (2 * (2 * 16))) = (j : ℕ) / (2 * (2 * (2 * 16))) := by omega
    simp [keep, h1]
  rw [hk] at e3
  exact e3

/-- … and from the left. -/
theorem inv128_left {L : Sq} (hL : Low L) : inv128 L * (1 + L) = 1 :=
  mul_eq_one_comm.mp (inv128_right hL)

end Cert.Proof

end
-- ==== Proof.DeltaSeq.lean ====
module

public import proofs.«01_k».proof.Proof.UnitInv
public import Mathlib.Analysis.SpecialFunctions.Exp

/-! The gated delta rule over the reals: one token after the other, and a chunk of tokens at once. -/

@[expose] public section

noncomputable section

namespace Cert.Proof

open scoped BigOperators

/-- What a head reads: queries, keys, values, logarithms of decays, write strengths, a token each. -/
structure Toks where
  q : ℕ → Fin 128 → ℝ
  k : ℕ → Fin 128 → ℝ
  v : ℕ → Fin 128 → ℝ
  g : ℕ → ℝ
  b : ℕ → ℝ

namespace Toks

/-- What token `t` writes for its key, from the state before it. -/
def new (T : Toks) (t : ℕ) (S : Fin 128 → Fin 128 → ℝ) (e : Fin 128) : ℝ :=
  T.b t * (T.v t e - ∑ d, T.k t d * (S d e * Real.exp (T.g t)))

/-- The state after token `t`. -/
def next (T : Toks) (t : ℕ) (S : Fin 128 → Fin 128 → ℝ) (d e : Fin 128) : ℝ :=
  S d e * Real.exp (T.g t) + T.k t d * T.new t S e

/-- The state after `n` tokens. -/
def state (T : Toks) (S : Fin 128 → Fin 128 → ℝ) : ℕ → Fin 128 → Fin 128 → ℝ
  | 0 => S
  | n + 1 => T.next n (T.state S n)

/-- The output of token `t`. -/
def out (T : Toks) (S : Fin 128 → Fin 128 → ℝ) (t : ℕ) (e : Fin 128) : ℝ := ∑ d, T.q t d * T.state S (t + 1) d e

/-- The tokens from the `a`-th on. -/
def drop (T : Toks) (a : ℕ) : Toks where
  q t := T.q (a + t)
  k t := T.k (a + t)
  v t := T.v (a + t)
  g t := T.g (a + t)
  b t := T.b (a + t)

theorem state_drop (T : Toks) (S : Fin 128 → Fin 128 → ℝ) (a n : ℕ) :
    (T.drop a).state (T.state S a) n = T.state S (a + n) := by
  induction n with
  | zero => rfl
  | succ n ih =>
    show (T.drop a).next n _ = T.next (a + n) _
    rw [ih]
    rfl

theorem out_drop (T : Toks) (S : Fin 128 → Fin 128 → ℝ) (a n : ℕ) (e : Fin 128) :
    (T.drop a).out (T.state S a) n e = T.out S (a + n) e := by
  simp only [out, state_drop]
  rfl

variable (T : Toks) (S : Fin 128 → Fin 128 → ℝ)

/-- The logarithm of the decay over the first `n` tokens. -/
def cum (n : ℕ) : ℝ := ∑ j ∈ Finset.range n, T.g j

/-- What each token writes. -/
def wr (n : ℕ) (e : Fin 128) : ℝ := T.new n (T.state S n) e

theorem state_eq (n : ℕ) (d e : Fin 128) :
    T.state S n d e = Real.exp (T.cum n) * S d e
      + ∑ j ∈ Finset.range n, T.k j d * Real.exp (T.cum n - T.cum (j + 1)) * T.wr S j e := by
  induction n with
  | zero => simp [state, cum]
  | succ n ih =>
    show T.state S n d e * Real.exp (T.g n) + T.k n d * T.wr S n e = _
    have hc : T.cum (n + 1) = T.cum n + T.g n := Finset.sum_range_succ _ _
    rw [ih, Finset.sum_range_succ, add_mul, Finset.sum_mul, sub_self, Real.exp_zero, hc, Real.exp_add]
    have : ∀ j ∈ Finset.range n, T.k j d * Real.exp (T.cum n - T.cum (j + 1)) * T.wr S j e * Real.exp (T.g n)
        = T.k j d * Real.exp (T.cum n + T.g n - T.cum (j + 1)) * T.wr S j e := by
      intro j _
      rw [show T.cum n + T.g n - T.cum (j + 1) = (T.cum n - T.cum (j + 1)) + T.g n by ring, Real.exp_add]
      ring
    rw [Finset.sum_congr rfl this]
    ring

/-- The decayed state that token `n` reads. -/
theorem read_eq (n : ℕ) (d e : Fin 128) :
    T.state S n d e * Real.exp (T.g n) = Real.exp (T.cum (n + 1)) * S d e
      + ∑ j ∈ Finset.range n, T.k j d * Real.exp (T.cum (n + 1) - T.cum (j + 1)) * T.wr S j e := by
  have h := T.state_eq S (n + 1) d e
  rw [Finset.sum_range_succ, sub_self, Real.exp_zero] at h
  have h2 : T.state S (n + 1) d e = T.state S n d e * Real.exp (T.g n) + T.k n d * T.wr S n e := rfl
  linarith

/-- What the tokens write solves the triangular system of the chunk. -/
theorem wr_solves (n : ℕ) (e : Fin 128) :
    T.wr S n e + ∑ j ∈ Finset.range n,
        ((∑ d, T.k n d * T.b n * T.k j d) * Real.exp (T.cum (n + 1) - T.cum (j + 1))) * T.wr S j e
      = T.v n e * T.b n - ∑ d, T.k n d * T.b n * Real.exp (T.cum (n + 1)) * S d e := by
  have h : T.wr S n e = T.b n * (T.v n e - ∑ d, T.k n d * (T.state S n d e * Real.exp (T.g n))) := rfl
  rw [h]
  simp only [T.read_eq S n, mul_add, Finset.sum_add_distrib, mul_sub, Finset.mul_sum]
  rw [Finset.sum_comm (s := (Finset.univ : Finset (Fin 128)))]
  have : ∀ j ∈ Finset.range n, (∑ d, T.k n d * T.b n * T.k j d) * Real.exp (T.cum (n + 1) - T.cum (j + 1)) * T.wr S j e
      = ∑ d, T.b n * (T.k n d * (T.k j d * Real.exp (T.cum (n + 1) - T.cum (j + 1)) * T.wr S j e)) := by
    intro j _
    rw [Finset.sum_mul, Finset.sum_mul]
    refine Finset.sum_congr rfl fun d _ => by ring
  rw [Finset.sum_congr rfl this]
  have h2 : ∀ d : Fin 128, T.k n d * T.b n * Real.exp (T.cum (n + 1)) * S d e
      = T.b n * (T.k n d * (Real.exp (T.cum (n + 1)) * S d e)) := fun d => by ring
  simp only [h2]
  ring

/-- The output of a token, from the chunk's first state and what the tokens up to it write. -/
theorem out_eq (n : ℕ) (e : Fin 128) :
    T.out S n e = (∑ d, T.q n d * Real.exp (T.cum (n + 1)) * S d e)
      + ∑ j ∈ Finset.range (n + 1), ((∑ d, T.q n d * T.k j d) * Real.exp (T.cum (n + 1) - T.cum (j + 1))) * T.wr S j e := by
  unfold out
  simp only [T.state_eq S (n + 1), mul_add, Finset.sum_add_distrib, Finset.mul_sum]
  rw [Finset.sum_comm (s := (Finset.univ : Finset (Fin 128)))]
  congr 1
  · exact Finset.sum_congr rfl fun d _ => by ring
  · refine Finset.sum_congr rfl fun j _ => ?_
    rw [Finset.sum_mul, Finset.sum_mul]
    exact Finset.sum_congr rfl fun d _ => by ring

/-! The chunk of 128 tokens with squares. -/

/-- The logarithm of the decay up to and with token `i`. -/
def gc (i : Fin 128) : ℝ := T.cum (i + 1)

/-- What token `i` takes off for what token `j` wrote. -/
def lmat : Sq := fun i j =>
  if (j : ℕ) < i then (∑ d, T.k i d * T.b i * T.k j d) * Real.exp (T.gc i - T.gc j) else 0

/-- What the output of token `i` has of what token `j` wrote. -/
def amat : Sq := fun i j =>
  if (j : ℕ) ≤ i then (∑ d, T.q i d * T.k j d) * Real.exp (T.gc i - T.gc j) else 0

/-- The right side of the triangular system. -/
def rhs : Sq := fun i e => T.v i e * T.b i - ∑ d, T.k i d * T.b i * Real.exp (T.gc i) * S d e

/-- What the tokens of the chunk write. -/
def vnew : Sq := fun i e => T.wr S i e

theorem lmat_low : Low T.lmat := by
  intro i j h
  have : ¬ (j : ℕ) < i := by omega
  simp [lmat, this]

theorem sum_lt (f : ℕ → ℝ) (n : ℕ) (hn : n ≤ 128) :
    ∑ j ∈ Finset.range n, f j = ∑ j : Fin 128, if (j : ℕ) < n then f j else 0 := by
  rw [Fin.sum_univ_eq_sum_range (fun j => if j < n then f j else 0) 128, ← Finset.sum_filter]
  refine Finset.sum_congr ?_ fun _ _ => rfl
  ext j
  simp only [Finset.mem_range, Finset.mem_filter]
  omega

theorem vnew_solves : (1 + T.lmat) * T.vnew S = T.rhs S := by
  funext i e
  rw [add_mul, one_mul, Matrix.add_apply, Matrix.mul_apply]
  have h := T.wr_solves S i e
  rw [sum_lt _ _ (by omega)] at h
  refine Eq.trans ?_ h
  congr 1
  refine Finset.sum_congr rfl fun j _ => ?_
  by_cases hj : (j : ℕ) < i
  · simp only [lmat, hj, if_true]; rfl
  · simp only [lmat, hj, if_false, zero_mul]

/-- What the tokens write, from the inverse of the triangle. -/
theorem vnew_eq : T.vnew S = inv128 T.lmat * T.rhs S := by
  rw [← vnew_solves, ← mul_assoc, inv128_left T.lmat_low, one_mul]

theorem out_chunk (i : Fin 128) (e : Fin 128) :
    T.out S i e = (∑ d, T.q i d * Real.exp (T.gc i) * S d e) + (T.amat * T.vnew S) i e := by
  rw [T.out_eq S i e, Matrix.mul_apply, sum_lt _ _ (by omega)]
  congr 1
  refine Finset.sum_congr rfl fun j _ => ?_
  by_cases hj : (j : ℕ) ≤ i
  · have hj' : (j : ℕ) < i + 1 := by omega
    simp only [amat, hj, hj', if_true]; rfl
  · have hj' : ¬ (j : ℕ) < i + 1 := by omega
    simp only [amat, hj, hj', if_false, zero_mul]

theorem state_chunk (d e : Fin 128) :
    T.state S 128 d e = S d e * Real.exp (T.gc 127) + ∑ j : Fin 128, T.k j d * Real.exp (T.gc 127 - T.gc j) * T.vnew S j e := by
  rw [T.state_eq S 128 d e, mul_comm (Real.exp _), sum_lt _ _ le_rfl]
  congr 1

end Toks

end Cert.Proof

end
-- ==== Proof.DnpReal.lean ====
module

public import proofs.«01_k».proof.Proof.DnpHead
public import proofs.«01_k».proof.Proof.DeltaSeq
public import proofs.«01_k».proof.Proof.DeltaRow
public import Idealize.ShloMosaic.Lib.Pointwise

/-! The chunked delta rule's kernel, one chunk, on tiles of reals: each function of tiles that the kernel evaluates is the same function of
real matrices. -/

@[expose] public section

noncomputable section

namespace Cert.Kernel9Ideal.Value

open Cert.Kernel9Ideal Cert.Kernel9Ideal.Gen Idealize.ShloMosaic Idealize.ShloMosaic.TcCoe Idealize.SL.Sem
open Cert.Proof
open scoped BigOperators

namespace Chunk

/-- The tile of a real matrix. -/
def up (A : Sq) : FVec Ideal S128x128 .f32 := fun j => ((A (j 0) (j 1) : ℝ) : EReal)

/-- The column of real numbers. -/
def upc (f : Fin 128 → ℝ) : FVec Ideal S128x1 .f32 := fun j => ((f (j 0) : ℝ) : EReal)

/-- The row of real numbers. -/
def upr (f : Fin 128 → ℝ) : FVec Ideal S1x128 .f32 := fun j => ((f (j 1) : ℝ) : EReal)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem exp_coe (x : ℝ) : Ideal.exp (x : EReal) = (Real.exp x : EReal) := rfl

theorem lo_eq (x : FVec Ideal S128x128 .f32) : (lo x : FVec Ideal S128x128 .bf16) = x := rfl

theorem mm_up (A B : Sq) : mm (up A) (up B) = up (A * B) := by
  funext j
  obtain ⟨a, b, rfl⟩ : ∃ a b, j = ix2 a b := ⟨_, _, eq_ix2 j⟩
  pointwise [mm, mmb, lo, up]
  simp only [Matrix.mul_apply, coe_sum, EReal.coe_mul]

theorem fill0 : (fill 0x00000000#32 : FVec Ideal S128x128 .f32) = up 0 := by
  funext j
  obtain ⟨a, b, rfl⟩ : ∃ a b, j = ix2 a b := ⟨_, _, eq_ix2 j⟩
  pointwise [fill, up]
  show (0 : EReal) = _
  exact EReal.coe_zero.symm

theorem add_up (A B : Sq) : addf (up A) (up B) = up (A + B) := by
  funext j
  exact (EReal.coe_add _ _).symm

theorem sub_up (A B : Sq) : subf (up A) (up B) = up (A - B) := by
  funext j
  exact (EReal.coe_sub _ _).symm

theorem mul_up (A B : Sq) : mulf (up A) (up B) = up (Matrix.of fun i j => A i j * B i j) := by
  funext j
  exact (EReal.coe_mul _ _).symm

theorem tr_up (A : Sq) : tr (up A) = up A.transpose := by
  funext j
  obtain ⟨a, b, rfl⟩ : ∃ a b, j = ix2 a b := ⟨_, _, eq_ix2 j⟩
  pointwise [tr, up]
  rfl

theorem bc_up (f : Fin 128 → ℝ) : bc (upc f) = up (Matrix.of fun i _ => f i) := by
  funext j
  obtain ⟨a, b, rfl⟩ : ∃ a b, j = ix2 a b := ⟨_, _, eq_ix2 j⟩
  pointwise [bc, up, upc]
  rfl

theorem exp_upc (f : Fin 128 → ℝ) : exp (upc f) = upc (fun i => Real.exp (f i)) := by
  funext j
  rfl

theorem kq_top (A B K : Sq) : extractStridedSlice S128x128 ![0, 0] (kq (up A) (up B) (up K)) slices_S256x128_o0_0_S128x128 = up (A * K.transpose) := by
  funext j
  obtain ⟨a, b, rfl⟩ : ∃ a b, j = ix2 a b := ⟨_, _, eq_ix2 j⟩
  pointwise [kq, lo, up]
  simp only [Matrix.mul_apply, coe_sum, EReal.coe_mul, Matrix.transpose_apply]

theorem kq_bot (A B K : Sq) : extractStridedSlice S128x128 ![128, 0] (kq (up A) (up B) (up K)) slices_S256x128_o128_0_S128x128 = up (B * K.transpose) := by
  funext j
  obtain ⟨a, b, rfl⟩ : ∃ a b, j = ix2 a b := ⟨_, _, eq_ix2 j⟩
  pointwise [kq, lo, up]
  simp only [Matrix.mul_apply, coe_sum, EReal.coe_mul, Matrix.transpose_apply]

theorem fst_up (A X Y : Sq) : fstw (mm2 (up A) (up X) (up Y)) = up (A * X) := by
  funext j
  obtain ⟨a, b, rfl⟩ : ∃ a b, j = ix2 a b := ⟨_, _, eq_ix2 j⟩
  pointwise [fstw, mm2, lo, up]
  simp only [Matrix.mul_apply, coe_sum, EReal.coe_mul]

theorem snd_up (A X Y : Sq) : sndw (mm2 (up A) (up X) (up Y)) = up (A * Y) := by
  funext j
  obtain ⟨a, b, rfl⟩ : ∃ a b, j = ix2 a b := ⟨_, _, eq_ix2 j⟩
  pointwise [sndw, mm2, lo, up]
  simp only [Matrix.mul_apply, coe_sum, EReal.coe_mul]

theorem gt_at (a b : Fin 128) : cmpi .sgt rows cols (ix2 a b) = if (b : ℕ) < a then 1#1 else 0#1 := by
  pointwise [rows, cols]
  revert a b
  decide +kernel

theorem ge_at (a b : Fin 128) : cmpi .sge rows cols (ix2 a b) = if (b : ℕ) ≤ a then 1#1 else 0#1 := by
  pointwise [rows, cols]
  revert a b
  decide +kernel

theorem le_at (a b : Fin 128) : cmpi .sle rows cols (ix2 a b) = if (a : ℕ) ≤ b then 1#1 else 0#1 := by
  pointwise [rows, cols]
  revert a b
  decide +kernel

theorem eq_at (a b : Fin 128) : cmpi .eq rows cols (ix2 a b) = if (a : ℕ) = b then 1#1 else 0#1 := by
  pointwise [rows, cols]
  revert a b
  decide +kernel

theorem fdiv_word (s : Fin 4) (a : Fin 128) : (fun n => BitVec.ofNat 32 n) ((a : ℕ) / (16 * 2 ^ (s : ℕ)))
    = Scalar.select
      (IntOp.andi
        (IntOp.cmpi CmpIPredicate.ne
          (IntOp.subi (BitVec.setWidth 32 (IntOp.cmpi CmpIPredicate.sgt (BitVec.ofNat 32 ↑a) 0#32))
            (BitVec.setWidth 32 (IntOp.cmpi CmpIPredicate.slt (BitVec.ofNat 32 ↑a) 0#32)))
          1#32)
        (IntOp.cmpi CmpIPredicate.ne (IntOp.remsi ArithUnit.vector (BitVec.ofNat 32 ↑a) (BitVec.ofNat 32 (16 * 2 ^ (s : ℕ)))) 0#32))
      (IntOp.subi (IntOp.divsi ArithUnit.vector (BitVec.ofNat 32 ↑a) (BitVec.ofNat 32 (16 * 2 ^ (s : ℕ)))) 1#32)
      (IntOp.divsi ArithUnit.vector (BitVec.ofNat 32 ↑a) (BitVec.ofNat 32 (16 * 2 ^ (s : ℕ)))) := by
  revert s a
  decide +kernel

theorem fdiv_rows (s : Fin 4) (a b : Fin 128) : fdiv rows (BitVec.ofNat 32 (16 * 2 ^ (s : ℕ))) (ix2 a b) = BitVec.ofNat 32 ((a : ℕ) / (16 * 2 ^ (s : ℕ))) := by
  pointwise [rows, fdiv, ifill]
  exact (fdiv_word s a).symm

theorem fdiv_cols (s : Fin 4) (a b : Fin 128) : fdiv cols (BitVec.ofNat 32 (16 * 2 ^ (s : ℕ))) (ix2 a b) = BitVec.ofNat 32 ((b : ℕ) / (16 * 2 ^ (s : ℕ))) := by
  pointwise [cols, fdiv, ifill]
  exact (fdiv_word s b).symm

theorem word_eq (m n : Fin 128) : IntOp.cmpi .eq (BitVec.ofNat 32 m) (BitVec.ofNat 32 n) = if (m : ℕ) = n then 1#1 else 0#1 := by
  revert m n
  decide +kernel

theorem word_ne (m n : Fin 128) : IntOp.cmpi .ne (BitVec.ofNat 32 m) (BitVec.ofNat 32 n) = if (m : ℕ) = n then 0#1 else 1#1 := by
  revert m n
  decide +kernel

theorem div_small (a : Fin 128) (d : ℕ) : (a : ℕ) / d < 128 := lt_of_le_of_lt (Nat.div_le_self _ _) a.isLt

theorem same_at (s : Fin 4) (a b : Fin 128) : same (BitVec.ofNat 32 (16 * 2 ^ (s : ℕ))) (ix2 a b)
    = if (a : ℕ) / (16 * 2 ^ (s : ℕ)) = (b : ℕ) / (16 * 2 ^ (s : ℕ)) then 1#1 else 0#1 := by
  show IntOp.cmpi .eq (fdiv rows _ (ix2 a b)) (fdiv cols _ (ix2 a b)) = _
  rw [fdiv_rows, fdiv_cols]
  exact word_eq ⟨_, div_small a _⟩ ⟨_, div_small b _⟩

theorem offw_at (s t : Fin 4) (ht : 16 * 2 ^ (t : ℕ) = 2 * (16 * 2 ^ (s : ℕ))) (a b : Fin 128) :
    offw (BitVec.ofNat 32 (16 * 2 ^ (t : ℕ))) (BitVec.ofNat 32 (16 * 2 ^ (s : ℕ))) (ix2 a b)
    = if (a : ℕ) / (2 * (16 * 2 ^ (s : ℕ))) = (b : ℕ) / (2 * (16 * 2 ^ (s : ℕ))) ∧ (a : ℕ) / (16 * 2 ^ (s : ℕ)) ≠ (b : ℕ) / (16 * 2 ^ (s : ℕ)) then 1#1 else 0#1 := by
  show IntOp.andi (same _ (ix2 a b)) (IntOp.cmpi .ne (fdiv rows _ (ix2 a b)) (fdiv cols _ (ix2 a b))) = _
  rw [same_at, fdiv_rows, fdiv_cols, word_ne ⟨_, div_small a _⟩ ⟨_, div_small b _⟩, ht]
  by_cases h1 : (a : ℕ) / (2 * (16 * 2 ^ (s : ℕ))) = (b : ℕ) / (2 * (16 * 2 ^ (s : ℕ))) <;>
    by_cases h2 : (a : ℕ) / (16 * 2 ^ (s : ℕ)) = (b : ℕ) / (16 * 2 ^ (s : ℕ)) <;>
    simp only [h1, h2, if_true, if_false, ne_eq, not_true, not_false_iff, and_true, and_false] <;> rfl

theorem sel_up {c : IVec S128x128 1} (p : Fin 128 → Fin 128 → Prop) [∀ a b, Decidable (p a b)]
    (hc : ∀ a b, c (ix2 a b) = if p a b then 1#1 else 0#1) (A B : Sq) :
    select c (up A) (up B) = up (Matrix.of fun i j => if p i j then A i j else B i j) := by
  funext j
  obtain ⟨a, b, rfl⟩ : ∃ a b, j = ix2 a b := ⟨_, _, eq_ix2 j⟩
  show Scalar.select (c (ix2 a b)) ((A a b : ℝ) : EReal) ((B a b : ℝ) : EReal) = (((if p a b then A a b else B a b : ℝ)) : EReal)
  rw [hc]
  by_cases h : p a b
  · rw [if_pos h, if_pos h]; rfl
  · rw [if_neg h, if_neg h]; rfl

theorem ones_up {c : IVec S128x128 1} (p : Fin 128 → Fin 128 → Prop) [∀ a b, Decidable (p a b)]
    (hc : ∀ a b, c (ix2 a b) = if p a b then 1#1 else 0#1) :
    ones (F := Ideal) c = up (Matrix.of fun i j => if p i j then 1 else 0) := by
  funext j
  obtain ⟨a, b, rfl⟩ : ∃ a b, j = ix2 a b := ⟨_, _, eq_ix2 j⟩
  show ((((BitVec.setWidth 32 (c (ix2 a b))).toInt : ℝ)) : EReal) = (((if p a b then 1 else 0 : ℝ)) : EReal)
  rw [hc]
  by_cases h : p a b
  · rw [if_pos h, if_pos h]; simp
  · rw [if_neg h, if_neg h]; simp

theorem eye_up : ones (F := Ideal) (cmpi .eq rows cols) = up (1 : Sq) := by
  rw [ones_up (fun i j => (i : ℕ) = j) eq_at]
  congr 1
  funext i j
  rw [Matrix.one_apply]
  simp only [Fin.ext_iff, Matrix.of_apply]

theorem same16_at (a b : Fin 128) : same 16#32 (ix2 a b) = if (a : ℕ) / 16 = (b : ℕ) / 16 then 1#1 else 0#1 := same_at 0 a b

theorem keep_up (L : Sq) : select (same 16#32) (subf (fill 0x00000000#32) (up L)) (fill 0x00000000#32) = up (-keep 16 L) := by
  rw [fill0, sub_up, zero_sub, sel_up (fun i j : Fin 128 => (i : ℕ) / 16 = (j : ℕ) / 16) same16_at]
  congr 1
  funext i j
  show (if _ then -L i j else (0 : ℝ)) = -(if _ then L i j else 0)
  split <;> simp

theorem grow_up (s t : Fin 4) (ht : 16 * 2 ^ (t : ℕ) = 2 * (16 * 2 ^ (s : ℕ))) (L X : Sq) :
    groww (BitVec.ofNat 32 (16 * 2 ^ (t : ℕ))) (BitVec.ofNat 32 (16 * 2 ^ (s : ℕ))) (up L) (up X) = up (Cert.Proof.grow (16 * 2 ^ (s : ℕ)) L X) := by
  rw [groww, fill0, sel_up _ (offw_at s t ht), mm_up, mm_up, sub_up]
  rfl

theorem inv16_up (N : Sq) : inv16w (up N) = up (inv16 N) := by
  simp only [inv16w, dbl, eye_up, fst_up, snd_up, mm_up, add_up]
  rfl

theorem inv_up (L : Sq) : invw (up L) = up (inv128 L) := by
  rw [invw, keep_up, inv16_up, inv128]
  exact (congrArg _ ((congrArg _ (grow_up 0 1 rfl L _)).trans (grow_up 1 2 rfl L _))).trans (grow_up 2 3 rfl L _)

/-- The small number under the root. -/
def eps : ℝ := (Ideal.ofBits .f32 0x358637BD#32).toReal

/-- One over the root of the width. -/
def qs : ℝ := (Ideal.ofBits .f32 0x3DB504F3#32).toReal

theorem eps_form : ∃ r : ℝ, 0 < r ∧ Ideal.ofBits .f32 0x358637BD#32 = (r : EReal) := by
  refine ⟨((1 : ℝ) * ((2 ^ 23 + 407485 : ℕ) : ℝ) * (2 : ℝ) ^ ((107 : ℤ) - 127 - 23)), by positivity, ?_⟩
  simp [Ideal.ofBits, Ideal.ieee, -EReal.coe_mul]

theorem eps_coe : Ideal.ofBits .f32 0x358637BD#32 = (eps : EReal) := by
  obtain ⟨r, -, h⟩ := eps_form
  rw [eps, h, EReal.toReal_coe]

theorem eps_pos : 0 < eps := by
  obtain ⟨r, hr, h⟩ := eps_form
  rw [eps, h, EReal.toReal_coe]
  exact hr

theorem qs_coe : Ideal.ofBits .f32 0x3DB504F3#32 = (qs : EReal) := by
  have : ∃ r : ℝ, Ideal.ofBits .f32 0x3DB504F3#32 = (r : EReal) := by
    refine ⟨((1 : ℝ) * ((2 ^ 23 + 3474675 : ℕ) : ℝ) * (2 : ℝ) ^ ((123 : ℤ) - 127 - 23)), ?_⟩
    simp [Ideal.ofBits, Ideal.ieee, -EReal.coe_mul]
  obtain ⟨r, h⟩ := this
  rw [qs, h, EReal.toReal_coe]

/-- A row of reals over the square root of the sum of its squares. -/
def l2r (v : Fin 128 → ℝ) (d : Fin 128) : ℝ := v d * (Real.sqrt ((∑ e, v e * v e) + eps))⁻¹

theorem rsqrt_pos {r : ℝ} (h : 0 < r) : Ideal.rsqrt (r : EReal) = (((Real.sqrt r)⁻¹ : ℝ) : EReal) := by
  show (if r < 0 then (⊥ : EReal) else if r = 0 then ⊤ else ((Real.sqrt r)⁻¹ : ℝ)) = _
  rw [if_neg (not_lt.mpr h.le), if_neg h.ne']

theorem l2_coe (v : Fin 128 → ℝ) (d : Fin 128) : l2 (fun e => (v e : EReal)) d = (l2r v d : EReal) := by
  have hs : (0 : ℝ) ≤ ∑ e, v e * v e := Finset.sum_nonneg fun e _ => mul_self_nonneg _
  have : (∑ e : Fin 128, (v e : EReal) * (v e : EReal)) + Ideal.ofBits .f32 0x358637BD#32 = (((∑ e, v e * v e) + eps : ℝ) : EReal) := by
    rw [eps_coe, EReal.coe_add, coe_sum]
    simp only [EReal.coe_mul]
  rw [l2, this, rsqrt_pos (by have := eps_pos; linarith), ← EReal.coe_mul]
  rfl

theorem unitw_up (A : Sq) : unitw (up A) = up (Matrix.of fun i d => l2r (A i) d) := by
  funext j
  obtain ⟨a, b, rfl⟩ : ∃ a b, j = ix2 a b := ⟨_, _, eq_ix2 j⟩
  refine Eq.trans ?_ (l2_coe (A a) b)
  pointwise [unitw, bc, up]
  rfl

theorem qw_up (A : Sq) : qw (up A) = up (Matrix.of fun i d => l2r (A i) d * qs) := by
  rw [qw, unitw_up]
  funext j
  show _ * Ideal.ofBits .f32 0x3DB504F3#32 = _
  rw [qs_coe]
  exact (EReal.coe_mul _ _).symm

theorem decay_up (f : Fin 128 → ℝ) : decay (upc f) (upr f) = up (Matrix.of fun i j => if (j : ℕ) ≤ i then Real.exp (f i - f j) else 0) := by
  funext j
  obtain ⟨a, b, rfl⟩ : ∃ a b, j = ix2 a b := ⟨_, _, eq_ix2 j⟩
  have hl : decay (upc f) (upr f) (ix2 a b) = Ideal.exp (Scalar.select (cmpi .sge rows cols (ix2 a b)) ((f a : EReal) - (f b : EReal)) ⊥) := by
    pointwise [decay, bc, upc, upr]
    rfl
  rw [hl, ge_at]
  show _ = ((if (b : ℕ) ≤ a then Real.exp (f a - f b) else 0 : ℝ) : EReal)
  by_cases h : (b : ℕ) ≤ a
  · rw [if_pos h, if_pos h, ← EReal.coe_sub]
    rfl
  · rw [if_neg h, if_neg h]
    rfl

theorem lm_up (T : Toks) (Q : Sq) :
    lm (up <| Matrix.of fun i d => T.k i d * T.b i) (up Q) (up <| Matrix.of fun i d => T.k i d) (up <| Matrix.of fun i j => if (j : ℕ) ≤ i then Real.exp (T.gc i - T.gc j) else 0)
      = up T.lmat := by
  rw [lm, kq_top, mul_up, fill0, sel_up (fun i j => (j : ℕ) < i) gt_at]
  congr 1
  funext i j
  by_cases h : (j : ℕ) < i
  · simp only [Toks.lmat, h, h.le, if_true, Matrix.mul_apply, Matrix.transpose_apply, Matrix.of_apply]
  · simp only [Toks.lmat, h, if_false, Matrix.of_apply]
    rfl

theorem am_up (T : Toks) (B : Sq) :
    am (up B) (up <| Matrix.of fun i d => T.q i d) (up <| Matrix.of fun i d => T.k i d) (up <| Matrix.of fun i j => if (j : ℕ) ≤ i then Real.exp (T.gc i - T.gc j) else 0)
      = up T.amat := by
  rw [am, kq_bot, mul_up]
  congr 1
  funext i j
  by_cases h : (j : ℕ) ≤ i
  · simp only [Toks.amat, h, if_true, Matrix.mul_apply, Matrix.transpose_apply, Matrix.of_apply]
  · simp only [Toks.amat, h, if_false, mul_zero, Matrix.of_apply]

theorem uw_fst (X V B : Sq) (b c : Fin 128 → ℝ) :
    fstw (uw (up X) (up V) (up B) (upc b) (upc c)) = up (X * (Matrix.of fun i e => V i e * b i)) := by
  rw [uw, bc_up, mul_up, exp_upc, bc_up, mul_up, fst_up]
  rfl

theorem uw_snd (X V B : Sq) (b c : Fin 128 → ℝ) :
    sndw (uw (up X) (up V) (up B) (upc b) (upc c)) = up (X * (Matrix.of fun i e => B i e * Real.exp (c i))) := by
  rw [uw, bc_up, mul_up, exp_upc, bc_up, mul_up, snd_up]
  rfl

theorem ws_top (W Q S : Sq) (c : Fin 128 → ℝ) :
    extractStridedSlice S128x128 ![0, 0] (ws (up W) (up Q) (up S) (upc c)) slices_S256x128_o0_0_S128x128 = up (W * S) := by
  rw [ws, exp_upc, bc_up, mul_up]
  funext j
  obtain ⟨a, b, rfl⟩ : ∃ a b, j = ix2 a b := ⟨_, _, eq_ix2 j⟩
  pointwise [lo, up]
  simp only [Matrix.mul_apply, coe_sum, EReal.coe_mul]

theorem ws_bot (W Q S : Sq) (c : Fin 128 → ℝ) :
    extractStridedSlice S128x128 ![128, 0] (ws (up W) (up Q) (up S) (upc c)) slices_S256x128_o128_0_S128x128
      = up ((Matrix.of fun i d => Q i d * Real.exp (c i)) * S) := by
  rw [ws, exp_upc, bc_up, mul_up]
  funext j
  obtain ⟨a, b, rfl⟩ : ∃ a b, j = ix2 a b := ⟨_, _, eq_ix2 j⟩
  pointwise [lo, up]
  simp only [Matrix.mul_apply, coe_sum, EReal.coe_mul, Matrix.of_apply]

/-- What a chunk's tokens write, and the products with its first state. -/
structure HeadOk (T : Toks) (S : Sq) (y0 y1 v : FVec Ideal S128x128 .f32) (c : FVec Ideal S128x1 .f32) (r : FVec Ideal S1x128 .f32)
    (b : FVec Ideal S128x1 .f32) (s : FVec Ideal S128x128 .f32) : Prop where
  q : qw y0 = up (Matrix.of fun i d => T.q i d)
  k : unitw y1 = up (Matrix.of fun i d => T.k i d)
  v : v = up (Matrix.of fun i d => T.v i d)
  c : c = upc T.gc
  r : r = upr T.gc
  b : b = upc (fun i => T.b i)
  s : s = up S

variable {T : Toks} {S : Sq} {y0 y1 v : FVec Ideal S128x128 .f32} {c : FVec Ideal S128x1 .f32} {r : FVec Ideal S1x128 .f32}
  {b : FVec Ideal S128x1 .f32} {s : FVec Ideal S128x128 .f32}

theorem HeadOk.kb (h : HeadOk T S y0 y1 v c r b s) : mulf (unitw y1) (bc b) = up (Matrix.of fun i d => T.k i d * T.b i) := by
  rw [h.k, h.b, bc_up, mul_up]
  rfl

theorem HeadOk.dec (h : HeadOk T S y0 y1 v c r b s) :
    decay c r = up (Matrix.of fun i j => if (j : ℕ) ≤ i then Real.exp (T.gc i - T.gc j) else 0) := by
  rw [h.c, h.r, decay_up]

theorem HeadOk.inv (h : HeadOk T S y0 y1 v c r b s) :
    invw (lm (mulf (unitw y1) (bc b)) (qw y0) (unitw y1) (decay c r)) = up (inv128 T.lmat) := by
  rw [h.kb, h.dec, h.q, h.k, lm_up, inv_up]

theorem HeadOk.uwEq (h : HeadOk T S y0 y1 v c r b s) : (news y0 y1 v c r b s).1
    = uw (up (inv128 T.lmat)) (up <| Matrix.of fun i d => T.v i d) (up <| Matrix.of fun i d => T.k i d * T.b i) (upc fun i => T.b i) (upc T.gc) := by
  rw [news]
  simp only
  rw [h.inv, h.kb, h.b, h.c, h.v]

theorem HeadOk.wsEq (h : HeadOk T S y0 y1 v c r b s) : (news y0 y1 v c r b s).2
    = ws (up (inv128 T.lmat * (Matrix.of fun (i e : Fin 128) => T.k i e * T.b i * Real.exp (T.gc i)))) (up <| Matrix.of fun i d => T.q i d) (up S) (upc T.gc) := by
  have : (news y0 y1 v c r b s).2 = ws (sndw (news y0 y1 v c r b s).1) (qw y0) s c := rfl
  rw [this, h.uwEq, uw_snd, h.q, h.s, h.c]
  rfl

theorem HeadOk.vn (h : HeadOk T S y0 y1 v c r b s) : vneww (news y0 y1 v c r b s).1 (news y0 y1 v c r b s).2 = up (T.vnew S) := by
  rw [h.uwEq, h.wsEq, vneww, uw_fst, ws_top, sub_up, mul_assoc, ← mul_sub, T.vnew_eq S]
  congr 2

theorem HeadOk.out (h : HeadOk T S y0 y1 v c r b s) (z : FVec Ideal S128x128 .f32) (ng : FVec Ideal S1x128 .f32) :
    headOut y0 y1 v c r b s z ng = gatew (up <| Matrix.of fun i e => T.out S i e) z ng := by
  rw [headOut, h.vn, h.wsEq, h.kb, h.dec, h.q, h.k, am_up, outw, ws_bot, mm_up, add_up]
  congr 2
  funext i e
  refine Eq.trans ?_ (T.out_chunk S i e).symm
  rw [Matrix.add_apply, Matrix.mul_apply]
  rfl

theorem HeadOk.state (h : HeadOk T S y0 y1 v c r b s) : headState y0 y1 v c r b s = up (Matrix.of fun d e => T.state S 128 d e) := by
  rw [headState, h.vn, statew, h.k, h.s, h.c, h.r]
  have h1 : broadcastTo S128x128 (exp (lastw (upr T.gc))) broadcasts_S1x1_S128x128 = up (Matrix.of fun _ _ => Real.exp (T.gc 127)) := by
    funext j
    obtain ⟨a, b, rfl⟩ : ∃ a b, j = ix2 a b := ⟨_, _, eq_ix2 j⟩
    pointwise [lastw, upr, up]
    rfl
  have h2 : exp (subf (broadcastTo S128x1 (lastw (upr T.gc)) broadcasts_S1x1_S128x1) (upc T.gc)) = upc (fun i => Real.exp (T.gc 127 - T.gc i)) := by
    funext j
    obtain ⟨a, b, rfl⟩ : ∃ a b, j = ix2 a b := ⟨_, _, eq_ix2 j⟩
    pointwise [lastw, upr, upc]
    rfl
  rw [h1, h2, bc_up, mul_up, mul_up, tr_up, mm_up, add_up]
  congr 1
  funext d e
  refine Eq.trans ?_ (T.state_chunk S d e).symm
  rw [Matrix.add_apply, Matrix.mul_apply]
  rfl

theorem gate_at (O : Sq) (z : FVec Ideal S128x128 .f32) (ng : FVec Ideal S1x128 .f32) (i e : Fin 128) :
    gatew (up O) z ng (ix2 i e) = gated (fun l => (O i l : EReal)) (fun l => ng (ix2 0 l)) (fun l => z (ix2 i l)) e := by
  pointwise [gatew, bc, up, logi, fill]
  simp only [zero_sub]
  rfl

end Chunk

end Cert.Kernel9Ideal.Value

end
-- ==== Proof.DnpPiece.lean ====
module

public import proofs.«01_k».proof.Proof.DnpHead

/-! The chunked delta rule's kernel: the pieces that a grid point stores are those of the heads, one function of each head. -/

@[expose] public section

noncomputable section

namespace Cert.Kernel9Ideal.Value

open Cert.Kernel9Ideal Cert.Kernel9Ideal.Gen Idealize.ShloMosaic Idealize.ShloMosaic.TcCoe Idealize.SL.Sem

variable {F : FTy → Type} [FloatOps F] [Named F]

namespace Chunk

theorem slY (n : ℕ) (h : Fin 8) (hn : n ≤ 2048) : S128x3072.Slices ![0, n + 128 * (h : ℕ)] S128x128 :=
  ⟨rfl, fun a => by fin_cases a <;> simp <;> omega⟩

theorem slC (n : ℕ) (h : Fin 8) (hn : n ≤ 120) : S128x128.Slices ![0, n + (h : ℕ)] S128x1 :=
  ⟨rfl, fun a => by fin_cases a <;> simp <;> omega⟩

theorem slR (n : ℕ) (h : Fin 8) (hn : n ≤ 120) : S128x128.Slices ![n + (h : ℕ), 0] S1x128 :=
  ⟨rfl, fun a => by fin_cases a <;> simp <;> omega⟩

theorem inbO (h : Fin 8) (a : Fin 3) : (![0, 0, 128 * (h : ℕ)] : Fin 3 → ℕ) a + S1x128x128.size a ≤ S1x128x1024.size a := by
  fin_cases a <;> simp <;> omega

theorem inbS (h : Fin 8) (a : Fin 3) : (![(h : ℕ), 0, 0] : Fin 3 → ℕ) a + S1x128x128.size a ≤ S8x128x128.size a := by
  fin_cases a <;> simp <;> omega

/-- A head's slice of the convolved rows. -/
def ys (y : FVec F S128x3072 .f32) (n : ℕ) (hn : n ≤ 2048) (h : Fin 8) : FVec F S128x128 .f32 :=
  extractStridedSlice S128x128 ![0, n + 128 * (h : ℕ)] y (slY n h hn)

/-- A head's column of a tile. -/
def cs (x : FVec F S128x128 .f32) (n : ℕ) (hn : n ≤ 120) (h : Fin 8) : FVec F S128x1 .f32 :=
  extractStridedSlice S128x1 ![0, n + (h : ℕ)] x (slC n h hn)

/-- A head's row of a tile. -/
def rs (x : FVec F S128x128 .f32) (n : ℕ) (hn : n ≤ 120) (h : Fin 8) : FVec F S1x128 .f32 :=
  extractStridedSlice S1x128 ![n + (h : ℕ), 0] x (slR n h hn)

/-- The gated outputs of head `h`. -/
def outH (y : FVec F S128x3072 .f32) (g r b : FVec F S128x128 .f32) (s z : Fin 8 → FVec F S128x128 .f32) (ng : FVec F S1x128 .f32) (h : Fin 8) :
    FVec F S128x128 .f32 :=
  headOut (ys y 0 (by omega) h) (ys y 1024 (by omega) h) (ys y 2048 (by omega) h) (cs g 48 (by omega) h) (rs r 48 (by omega) h) (cs b 56 (by omega) h) (s h) (z h) ng

/-- The new state of head `h`. -/
def stateH (y : FVec F S128x3072 .f32) (g r b : FVec F S128x128 .f32) (s : Fin 8 → FVec F S128x128 .f32) (h : Fin 8) : FVec F S128x128 .f32 :=
  headState (ys y 0 (by omega) h) (ys y 1024 (by omega) h) (ys y 2048 (by omega) h) (cs g 48 (by omega) h) (rs r 48 (by omega) h) (cs b 56 (by omega) h) (s h)

/-- The stored outputs of head `h`. -/
def outP (y : FVec F S128x3072 .f32) (g r b : FVec F S128x128 .f32) (s z : Fin 8 → FVec F S128x128 .f32) (ng : FVec F S1x128 .f32) (h : Fin 8) :
    View.Piece (Elt F) S1x128x1024 .f32 :=
  ⟨Rect.unit ![0, 0, 128 * (h : ℕ)] S1x128x128.size (inbO h), shapeCast S1x128x128 (outH y g r b s z ng h) shapeCasts_S128x128_S1x128x128⟩

/-- The stored state of head `h`. -/
def stateP (y : FVec F S128x3072 .f32) (g r b : FVec F S128x128 .f32) (s : Fin 8 → FVec F S128x128 .f32) (h : Fin 8) :
    View.Piece (Elt F) S8x128x128 .f32 :=
  ⟨Rect.unit ![(h : ℕ), 0, 0] S1x128x128.size (inbS h), shapeCast S1x128x128 (stateH y g r b s h) shapeCasts_S128x128_S1x128x128⟩

/-- A head's tile of the output gates. -/
def zt {arg3 : Memref sig .tc .vmem S1x128x1024 .f32} (harg3 : arg3.IsWhole) (x1 : Vec F S1x128x1024 .f32) (h : Fin 8) : FVec F S128x128 .f32 :=
  shapeCast S128x128 (View.readAt (Elt F) arg3.view (Rect.unit (s := S1x128x1024) ![0, 0, 128 * (h : ℕ)] S1x128x128.size (inbO h)).toLoadRect (harg3.unread x1)) shapeCasts_S1x128x128_S128x128

/-- A head's state, read from what the point before left. -/
def stt {arg12 : Memref sig .tc .vmem S8x128x128 .f32} (harg12 : arg12.IsWhole) (xs1 : Vec F S8x128x128 .f32) (h : Fin 8) : FVec F S128x128 .f32 :=
  shapeCast S128x128 (View.readAt (Elt F) arg12.view (Rect.unit (s := S8x128x128) ![(h : ℕ), 0, 0] S1x128x128.size (inbS h)).toLoadRect (harg12.unread xs1)) shapeCasts_S1x128x128_S128x128

/-- A head's state at the first chunk, read from the zeros. -/
def st0 {arg12 : Memref sig .tc .vmem S8x128x128 .f32} (L : List (View.Piece (Elt F) S8x128x128 .f32)) (h : Fin 8) : FVec F S128x128 .f32 :=
  shapeCast S128x128 (arg12.view.readCov L (Rect.unit (s := S8x128x128) ![(h : ℕ), 0, 0] S1x128x128.size (inbS h)).toLoadRect) shapeCasts_S1x128x128_S128x128

end Chunk

open Chunk

variable (c : Dev nD) (i : grid0.Coords) (arg2 : Memref sig .tc .vmem S1x128x3072 .f32) (harg2 : arg2.IsWhole) (arg3 : Memref sig .tc .vmem S1x128x1024 .f32) (harg3 : arg3.IsWhole) (arg4 : Memref sig .tc .vmem S1x128x128 .f32) (harg4 : arg4.IsWhole) (arg5 : Memref sig .tc .vmem S4x3072 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128x1024 .f32) (harg9 : arg9.IsWhole) (arg10 : Memref sig .tc .vmem S1x8x128x128 .f32) (harg10 : arg10.IsWhole) (arg11 : Memref sig .tc .vmem S136x3072 .f32) (harg11 : arg11.IsWhole) (arg12 : Memref sig .tc .vmem S8x128x128 .f32) (harg12 : arg12.IsWhole)
    (x0 : Vec F S1x128x3072 .f32) (x1 : Vec F S1x128x1024 .f32) (x2 : Vec F S1x128x128 .f32) (x3 : Vec F S4x3072 .f32) (x4 : Vec F S1x128 .f32) (x5 : Vec F S1x128 .f32) (x6 : Vec F S1x128 .f32) (xs0 : Vec F S136x3072 .f32) (xs1 : Vec F S8x128x128 .f32)

theorem outs_B (hc0 : ¬cond0_0 i) (hc1 : ¬cond0_1 i) :
    (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1
      = List.ofFn fun k : Fin 8 => outP (kernelRun0_B.sl.v42 c arg2 harg2 arg5 harg5 arg11 harg11 x0 x3 xs0) (kernelRun0_B.sl.v91 c arg4 harg4 arg6 harg6 arg7 harg7 x2 x4 x5) (kernelRun0_B.sl.v108 c arg4 harg4 arg6 harg6 arg7 harg7 x2 x4 x5) (kernelRun0_B.sl.v72 c arg4 harg4 x2) (stt harg12 xs1) (zt harg3 x1)
        (View.readAt (Elt F) arg8.view (Rect.unit ![0, 0] S1x128.size inb_S1x128_S1x128_0_0).toLoadRect (harg8.unread x6)) k.rev := rfl

theorem states_B (hc0 : ¬cond0_0 i) (hc1 : ¬cond0_1 i) :
    (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1
      = (List.ofFn fun k : Fin 8 => stateP (kernelRun0_B.sl.v42 c arg2 harg2 arg5 harg5 arg11 harg11 x0 x3 xs0) (kernelRun0_B.sl.v91 c arg4 harg4 arg6 harg6 arg7 harg7 x2 x4 x5) (kernelRun0_B.sl.v108 c arg4 harg4 arg6 harg6 arg7 harg7 x2 x4 x5) (kernelRun0_B.sl.v72 c arg4 harg4 x2) (stt harg12 xs1) k.rev) := rfl

theorem outs_C (hc0 : ¬cond0_0 i) (hc1 : cond0_1 i) :
    (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1
      = List.ofFn fun k : Fin 8 => outP (kernelRun0_C.sl.v42 c arg2 harg2 arg5 harg5 arg11 harg11 x0 x3 xs0) (kernelRun0_C.sl.v91 c arg4 harg4 arg6 harg6 arg7 harg7 x2 x4 x5) (kernelRun0_C.sl.v108 c arg4 harg4 arg6 harg6 arg7 harg7 x2 x4 x5) (kernelRun0_C.sl.v72 c arg4 harg4 x2) (stt harg12 xs1) (zt harg3 x1)
        (View.readAt (Elt F) arg8.view (Rect.unit ![0, 0] S1x128.size inb_S1x128_S1x128_0_0).toLoadRect (harg8.unread x6)) k.rev := rfl

theorem states_C (hc0 : ¬cond0_0 i) (hc1 : cond0_1 i) :
    (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1
      = (List.ofFn fun k : Fin 8 => stateP (kernelRun0_C.sl.v42 c arg2 harg2 arg5 harg5 arg11 harg11 x0 x3 xs0) (kernelRun0_C.sl.v91 c arg4 harg4 arg6 harg6 arg7 harg7 x2 x4 x5) (kernelRun0_C.sl.v108 c arg4 harg4 arg6 harg6 arg7 harg7 x2 x4 x5) (kernelRun0_C.sl.v72 c arg4 harg4 x2) (stt harg12 xs1) k.rev) := rfl

theorem final_C (hc0 : ¬cond0_0 i) (hc1 : cond0_1 i) :
    (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1
      = [⟨Rect.unit ![0, 0, 0, 0] ![1, 8, 128, 128] inb_S1x8x128x128_S1x8x128x128_0_0_0_0, k0_pay2 (arg12.view.readCov (List.ofFn fun k : Fin 8 => stateP (kernelRun0_C.sl.v42 c arg2 harg2 arg5 harg5 arg11 harg11 x0 x3 xs0) (kernelRun0_C.sl.v91 c arg4 harg4 arg6 harg6 arg7 harg7 x2 x4 x5) (kernelRun0_C.sl.v108 c arg4 harg4 arg6 harg6 arg7 harg7 x2 x4 x5) (kernelRun0_C.sl.v72 c arg4 harg4 x2) (stt harg12 xs1) k.rev)
        (Rect.unit (s := S8x128x128) ![0, 0, 0] S8x128x128.size inb_S8x128x128_S8x128x128_0_0_0).toLoadRect : Vec F S8x128x128 .f32)⟩] := rfl

theorem outs_A (hc0 : cond0_0 i) (hc1 : ¬cond0_1 i) :
    (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).1
      = List.ofFn fun k : Fin 8 => outP (kernelRun0_A.sl.v42 c arg2 harg2 arg5 harg5 arg11 x0 x3) (kernelRun0_A.sl.v91 c arg4 harg4 arg6 harg6 arg7 harg7 x2 x4 x5) (kernelRun0_A.sl.v108 c arg4 harg4 arg6 harg6 arg7 harg7 x2 x4 x5) (kernelRun0_A.sl.v72 c arg4 harg4 x2) (st0 (arg12 := arg12) kernelRun0_A.sl.HS1_1) (zt harg3 x1)
        (View.readAt (Elt F) arg8.view (Rect.unit ![0, 0] S1x128.size inb_S1x128_S1x128_0_0).toLoadRect (harg8.unread x6)) k.rev := rfl

theorem states_A (hc0 : cond0_0 i) (hc1 : ¬cond0_1 i) :
    (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.2.1
      = (List.ofFn fun k : Fin 8 => stateP (kernelRun0_A.sl.v42 c arg2 harg2 arg5 harg5 arg11 x0 x3) (kernelRun0_A.sl.v91 c arg4 harg4 arg6 harg6 arg7 harg7 x2 x4 x5) (kernelRun0_A.sl.v108 c arg4 harg4 arg6 harg6 arg7 harg7 x2 x4 x5) (kernelRun0_A.sl.v72 c arg4 harg4 x2) (st0 (arg12 := arg12) kernelRun0_A.sl.HS1_1) k.rev) ++ kernelRun0_A.sl.HS1_1 := rfl

end Cert.Kernel9Ideal.Value

end
-- ==== Proof.DnpTile.lean ====
module

public import proofs.«01_k».proof.Proof.DnpReal
public import proofs.«01_k».proof.Proof.DnpPiece
public import Idealize.ShloMosaic.Lib.WritesUnit
public import Idealize.ShloMosaic.Lib.VecWindow
public import Idealize.ShloMosaic.Lib.Pipeline.ValueKit
public import Idealize.ShloMosaic.Lib.Pipeline.ReadBack

/-! One chunk of the chunked delta rule's kernel, from the rows it reads: the convolved rows, the running sums of the decays, the outputs
and the states of the heads. -/

@[expose] public section

noncomputable section

namespace Cert.Kernel9Ideal.Value

open Cert.Kernel9Ideal Cert.Kernel9Ideal.Gen Idealize.ShloMosaic Idealize.ShloMosaic.TcCoe Idealize.SL.Sem
open Cert.Proof
open scoped BigOperators

namespace Chunk

/-- The rows after the convolution, from the rows before it (eight more at the front) and the four weights. -/
def yseq (xp : ℕ → Fin 3072 → EReal) (W : Fin 4 → Fin 3072 → EReal) (n : ℕ) (l : Fin 3072) : EReal :=
  unit (W 3 l * xp (n + 8) l + W 2 l * xp (n + 7) l + W 1 l * xp (n + 6) l + W 0 l * xp (n + 5) l)

/-- A head's tokens, from the convolved rows, the logarithms of the decays and the write strengths. -/
def toks (Y : ℕ → Fin 3072 → ℝ) (γ β : ℕ → Fin 8 → ℝ) (h : Fin 8) : Toks where
  q n d := l2r (fun e : Fin 128 => Y n ⟨128 * (h : ℕ) + e, by omega⟩) d * qs
  k n d := l2r (fun e : Fin 128 => Y n ⟨1024 + 128 * (h : ℕ) + e, by omega⟩) d
  v n d := Y n ⟨2048 + 128 * (h : ℕ) + d, by omega⟩
  g n := γ n h
  b n := β n h

/-- What one batch element's program reads, and its numbers as reals. -/
structure Seqs where
  xp : ℕ → Fin 3072 → EReal
  W : Fin 4 → Fin 3072 → EReal
  a : ℕ → Fin 8 → EReal
  b : ℕ → Fin 8 → EReal
  al : Fin 8 → EReal
  dt : Fin 8 → EReal
  Y : ℕ → Fin 3072 → ℝ
  γ : ℕ → Fin 8 → ℝ
  β : ℕ → Fin 8 → ℝ
  xp0 : ∀ n l, n < 8 → xp n l = 0
  hY : ∀ n l, yseq xp W n l = (Y n l : EReal)
  hγ : ∀ n h, gate (al h) (a n h + dt h) = (γ n h : EReal)
  hβ : ∀ n h, sg (b n h) = (β n h : EReal)

/-- The tokens of a head. -/
def Seqs.T (q : Seqs) (h : Fin 8) : Toks := toks q.Y q.γ q.β h

/-- A head's state before token `n`. -/
def Seqs.st (q : Seqs) (h : Fin 8) (n : ℕ) : Sq := Matrix.of fun d e => (q.T h).state (fun _ _ => 0) n d e

theorem conv_at (xp : ℕ → Fin 3072 → EReal) (W : Fin 4 → Fin 3072 → EReal) (n0 : ℕ) (w3 w2 w1 w0 : FVec Ideal S1x3072 .f32) (r8 r7 r6 r5 : FVec Ideal S128x3072 .f32)
    (i : Fin 128) (l : Fin 3072) (h3 : w3 (ix2 0 l) = W 3 l) (h2 : w2 (ix2 0 l) = W 2 l) (h1 : w1 (ix2 0 l) = W 1 l) (h0 : w0 (ix2 0 l) = W 0 l)
    (e8 : r8 (ix2 i l) = xp (n0 + (8 + i)) l) (e7 : r7 (ix2 i l) = xp (n0 + (7 + i)) l) (e6 : r6 (ix2 i l) = xp (n0 + (6 + i)) l) (e5 : r5 (ix2 i l) = xp (n0 + (5 + i)) l) :
    siluw (convw w3 w2 w1 w0 r8 r7 r6 r5) (ix2 i l) = yseq xp W (n0 + i) l := by
  have hr : ∀ a b : ℕ, n0 + (a + b) = n0 + b + a := fun a b => by omega
  rw [yseq, ← h3, ← h2, ← h1, ← h0, ← hr, ← hr, ← hr, ← hr, ← e8, ← e7, ← e6, ← e5]
  pointwise [siluw, convw]
  simp only [zero_sub]
  rfl

theorem shift_read (v : View sig .tc .vmem S136x3072 .f32) (f : v.ty.Contents (Elt Ideal)) (w : FVec Ideal S128x3072 .f32)
    (L : List (View.Piece (Elt Ideal) S136x3072 .f32)) (o R : ℕ) (inb8 : ∀ a, (![8, 0] : Fin 2 → ℕ) a + S128x3072.size a ≤ S136x3072.size a)
    (inb : ∀ a, (![o, 0] : Fin 2 → ℕ) a + (⟨2, ![R, 3072]⟩ : Shape).size a ≤ S136x3072.size a) (i : Fin R) (l : Fin 3072) (xp : ℕ → Fin 3072 → EReal) (n0 : ℕ)
    (hw : ∀ j : Fin 128, w (ix2 j l) = xp (n0 + (8 + j)) l)
    (hf : ∀ j : Fin 136, o < 8 → (j : ℕ) < 8 → v.read (Elt Ideal) (v.writes (Elt Ideal) f L) (ix2 j l) = xp (n0 + j) l) :
    v.readAt (Elt Ideal) (Rect.unit (s := S136x3072) ![o, 0] (⟨2, ![R, 3072]⟩ : Shape).size inb).toLoadRect
        (v.writes (Elt Ideal) f ((⟨Rect.unit (s := S136x3072) ![8, 0] S128x3072.size inb8, w⟩ : View.Piece (Elt Ideal) S136x3072 .f32) :: L)) (ix2 i l)
      = xp (n0 + (o + i)) l := by
  have hb : o + R ≤ 136 := inb 0
  rw [View.readAt_apply]
  have hy : (Rect.unit (s := S136x3072) ![o, 0] (⟨2, ![R, 3072]⟩ : Shape).size inb).toLoadRect.idx (ix2 i l) = ix2 (⟨o + i, by omega⟩ : Fin 136) l := by
    funext a
    refine Fin.ext ?_
    fin_cases a
    · show o + 1 * (i : ℕ) = o + i; omega
    · show 0 + 1 * (l : ℕ) = l; omega
  rw [hy]
  by_cases h : 8 ≤ o + (i : ℕ)
  · refine (View.read_writes_cons_rows_of_mem v f inb8 w L _ (ix2 (⟨o + i - 8, by omega⟩ : Fin 128) l) rfl ?_ ?_).trans ?_
    · show o + (i : ℕ) = 8 + (o + i - 8); omega
    · rfl
    · refine (hw _).trans ?_
      congr 1
      show n0 + (8 + (o + (i : ℕ) - 8)) = _; omega
  · refine (View.read_writes_cons_rows_of_not_mem v f (o := 8) (W := 128) inb8 w L _ rfl rfl (Or.inl ?_)).trans ?_
    · show o + (i : ℕ) < 8; omega
    · exact hf _ (by omega) (by show o + (i : ℕ) < 8; omega)

theorem gcol_at (g : FVec Ideal S128x128 .f32) (f : ℕ → ℝ) (c : Fin 128) (hg : ∀ j : Fin 128, g (ix2 j c) = (f j : EReal)) (i : Fin 128) :
    gcol g (ix2 i c) = ((∑ j ∈ Finset.range (i + 1), f j : ℝ) : EReal) := by
  rw [gcol, ones_up _ ge_at]
  pointwise [split3, mmb, lo, rest, up]
  have h0 : ∀ j : Fin 128, g (ix2 j c) - g (ix2 j c) = 0 := fun j => by rw [hg, ← EReal.coe_sub, sub_self]; rfl
  simp only [h0, sub_zero, mul_zero, Finset.sum_const_zero, add_zero]
  rw [Toks.sum_lt f _ (by omega), coe_sum]
  refine Finset.sum_congr rfl fun j _ => ?_
  rw [hg, ← EReal.coe_mul]
  congr 1
  show (if (j : ℕ) ≤ i then (1 : ℝ) else 0) * f j = _
  by_cases h : (j : ℕ) ≤ i
  · rw [if_pos h, if_pos (by omega), one_mul]
  · rw [if_neg h, if_neg (by omega), zero_mul]

theorem grow_at (g : FVec Ideal S128x128 .f32) (f : ℕ → ℝ) (c : Fin 128) (hg : ∀ j : Fin 128, g (ix2 j c) = (f j : EReal)) (i : Fin 128) :
    grow g (ix2 c i) = ((∑ j ∈ Finset.range (i + 1), f j : ℝ) : EReal) := by
  rw [grow, ones_up _ le_at]
  pointwise [split3, mmb, lo, rest, up, tr]
  have h0 : ∀ j : Fin 128, g (ix2 j c) - g (ix2 j c) = 0 := fun j => by rw [hg, ← EReal.coe_sub, sub_self]; rfl
  simp only [h0, sub_zero, zero_mul, Finset.sum_const_zero, add_zero]
  rw [Toks.sum_lt f _ (by omega), coe_sum]
  refine Finset.sum_congr rfl fun j _ => ?_
  rw [hg, ← EReal.coe_mul]
  congr 1
  show f j * (if (j : ℕ) ≤ i then (1 : ℝ) else 0) = _
  by_cases h : (j : ℕ) ≤ i
  · rw [if_pos h, if_pos (by omega), mul_one]
  · rw [if_neg h, if_neg (by omega), mul_zero]

theorem gl_at (s : FVec Ideal S128x128 .f32) (al dt : FVec Ideal S1x128 .f32) (i c : Fin 128) :
    gl s al dt (ix2 i c) = gate (al (ix2 0 c)) (s (ix2 i c) + dt (ix2 0 c)) := by
  pointwise [gl, fill]
  simp only [zero_sub]
  rfl

theorem logi_at (s : FVec Ideal S128x128 .f32) (i c : Fin 128) : logi s (ix2 i c) = sg (s (ix2 i c)) := by
  pointwise [logi, fill]
  simp only [zero_sub]
  rfl

/-- What a chunk's tiles hold, at the token `n0` on. -/
structure TilesOk (q : Seqs) (n0 : ℕ) (y : FVec Ideal S128x3072 .f32) (g r b : FVec Ideal S128x128 .f32) (s : Fin 8 → FVec Ideal S128x128 .f32) : Prop where
  y : ∀ i l, y (ix2 i l) = (q.Y (n0 + i) l : EReal)
  g : ∀ (i : Fin 128) (h : Fin 8), g (ix2 i ⟨48 + h, by omega⟩) = ((∑ j ∈ Finset.range (i + 1), q.γ (n0 + j) h : ℝ) : EReal)
  r : ∀ (i : Fin 128) (h : Fin 8), r (ix2 ⟨48 + h, by omega⟩ i) = ((∑ j ∈ Finset.range (i + 1), q.γ (n0 + j) h : ℝ) : EReal)
  b : ∀ (i : Fin 128) (h : Fin 8), b (ix2 i ⟨56 + h, by omega⟩) = (q.β (n0 + i) h : EReal)
  s : ∀ h, s h = up (q.st h n0)

variable {q : Seqs} {n0 : ℕ} {y : FVec Ideal S128x3072 .f32} {g r b : FVec Ideal S128x128 .f32} {s : Fin 8 → FVec Ideal S128x128 .f32}

theorem ys_up {y : FVec Ideal S128x3072 .f32} {Y : ℕ → Fin 3072 → ℝ} {n0 : ℕ} (hy : ∀ i l, y (ix2 i l) = (Y (n0 + i) l : EReal)) (n : ℕ) (hn : n ≤ 2048) (h : Fin 8) :
    ys y n hn h = up (Matrix.of fun i d => Y (n0 + i) ⟨n + 128 * (h : ℕ) + d, by omega⟩) := by
  funext j
  obtain ⟨a, d, rfl⟩ : ∃ a d, j = ix2 a d := ⟨_, _, eq_ix2 j⟩
  refine Eq.trans ?_ (hy a ⟨n + 128 * (h : ℕ) + d, by omega⟩)
  pointwise [ys]

theorem TilesOk.head (t : TilesOk q n0 y g r b s) (h : Fin 8) :
    HeadOk ((q.T h).drop n0) (q.st h n0) (ys y 0 (by omega) h) (ys y 1024 (by omega) h) (ys y 2048 (by omega) h) (cs g 48 (by omega) h) (rs r 48 (by omega) h)
      (cs b 56 (by omega) h) (s h) where
  q := by
    rw [ys_up t.y, qw_up]
    simp only [Nat.zero_add]
    rfl
  k := by
    rw [ys_up t.y, unitw_up]
    rfl
  v := by
    rw [ys_up t.y]
    rfl
  c := by
    funext j
    obtain ⟨a, d, rfl⟩ : ∃ a d, j = ix2 a d := ⟨_, _, eq_ix2 j⟩
    refine Eq.trans ?_ (t.g a h)
    obtain rfl : d = 0 := Subsingleton.elim _ _
    pointwise [cs]
  r := by
    funext j
    obtain ⟨a, d, rfl⟩ : ∃ a d, j = ix2 a d := ⟨_, _, eq_ix2 j⟩
    refine Eq.trans ?_ (t.r d h)
    obtain rfl : a = 0 := Subsingleton.elim _ _
    pointwise [rs]
  b := by
    funext j
    obtain ⟨a, d, rfl⟩ : ∃ a d, j = ix2 a d := ⟨_, _, eq_ix2 j⟩
    refine Eq.trans ?_ (t.b a h)
    obtain rfl : d = 0 := Subsingleton.elim _ _
    pointwise [cs]
  s := t.s h

theorem TilesOk.out (t : TilesOk q n0 y g r b s) (z : Fin 8 → FVec Ideal S128x128 .f32) (ng : FVec Ideal S1x128 .f32) (h : Fin 8) (i e : Fin 128) :
    outH y g r b s z ng h (ix2 i e)
      = gated (fun l => ((q.T h).out (fun _ _ => 0) (n0 + i) l : EReal)) (fun l => ng (ix2 0 l)) (fun l => z h (ix2 i l)) e := by
  rw [outH, (t.head h).out, gate_at]
  congr 1
  funext l
  exact congrArg _ ((q.T h).out_drop (fun _ _ => 0) n0 i l)

theorem st_drop (q : Seqs) (h : Fin 8) (a n : ℕ) : (Matrix.of fun d e => ((q.T h).drop a).state (q.st h a) n d e : Sq) = q.st h (a + n) := by
  funext d e
  exact congrFun (congrFun ((q.T h).state_drop (fun _ _ => 0) a n) d) e

theorem TilesOk.state (t : TilesOk q n0 y g r b s) (h : Fin 8) : stateH y g r b s h = up (q.st h (n0 + 128)) := by
  rw [stateH, (t.head h).state, st_drop]

theorem sc_out (v : FVec Ideal S128x128 .f32) (h : S128x128.ShapeCasts S1x128x128) (x : S1x128x128.Idx) : shapeCast S1x128x128 v h x = v (ix2 (x 1) (x 2)) := by
  pointwise

theorem outP_tiles (t : TilesOk q n0 y g r b s) (z : Fin 8 → FVec Ideal S128x128 .f32) (ng : FVec Ideal S1x128 .f32) (h : Fin 8) (i e : Fin 128) :
    View.canon (List.ofFn fun k : Fin 8 => outP y g r b s z ng k.rev) (ix3 (0 : Fin 1) i (⟨128 * (h : ℕ) + e, by omega⟩ : Fin 1024))
      = gated (fun l => ((q.T h).out (fun _ _ => 0) (n0 + i) l : EReal)) (fun l => ng (ix2 0 l)) (fun l => z h (ix2 i l)) e := by
  refine View.canon_ofFn_unit_eq_of_forall (Val := Elt Ideal) (S := S1x128x1024) (e := .f32) (fun k : Fin 8 => ![0, 0, 128 * (k.rev : ℕ)]) S1x128x128.size (fun k => inbO k.rev)
    (fun k => (shapeCast S1x128x128 (outH y g r b s z ng k.rev) shapeCasts_S128x128_S1x128x128 : FVec Ideal S1x128x128 .f32)) _ _ ⟨h.rev, fun a => ?_⟩ fun k x hx => ?_
  · rw [Fin.rev_rev]
    fin_cases a
    · exact ⟨le_refl 0, Nat.one_pos⟩
    · exact ⟨Nat.zero_le _, by show (i : ℕ) < 0 + 128; omega⟩
    · exact ⟨by show 128 * (h : ℕ) ≤ 128 * h + e; omega, by show 128 * (h : ℕ) + e < 128 * h + 128; omega⟩
  · have h1 : (i : ℕ) = 0 + (x 1 : ℕ) := hx 1
    have h2 : 128 * (h : ℕ) + e = 128 * (k.rev : ℕ) + (x 2 : ℕ) := hx 2
    have hb : (x 2 : ℕ) < 128 := (x 2).isLt
    obtain rfl : h = k.rev := Fin.ext (by omega)
    obtain rfl : i = x 1 := Fin.ext (by omega)
    obtain rfl : e = x 2 := Fin.ext (by omega)
    exact (sc_out _ _ x).trans (t.out z ng k.rev (x 1) (x 2))

/-- The states of the heads before token `n`, one array. -/
def sts (q : Seqs) (n : ℕ) : FVec Ideal S8x128x128 .f32 := fun y => ((q.st (y 0) n (y 1) (y 2) : ℝ) : EReal)

theorem stateP_tiles (t : TilesOk q n0 y g r b s) (L' : List (View.Piece (Elt Ideal) S8x128x128 .f32)) :
    View.canon ((List.ofFn fun k : Fin 8 => stateP y g r b s k.rev) ++ L') = sts q (n0 + 128) := by
  funext j
  refine View.canon_append_of_pieces (sts q (n0 + 128)) L' _ (fun p hp => ?_) j ?_
  · obtain ⟨k, rfl⟩ := (List.mem_ofFn).mp hp
    intro x
    have h0 : ((stateP y g r b s k.rev).1.emb x 0 : ℕ) = (k.rev : ℕ) + 1 * (x 0 : ℕ) := rfl
    have h1 : ((stateP y g r b s k.rev).1.emb x 1 : ℕ) = 0 + 1 * (x 1 : ℕ) := rfl
    have h2 : ((stateP y g r b s k.rev).1.emb x 2 : ℕ) = 0 + 1 * (x 2 : ℕ) := rfl
    have hb : (x 0 : ℕ) < 1 := (x 0).isLt
    have e0 : (stateP y g r b s k.rev).1.emb x 0 = k.rev := Fin.ext (by omega)
    have e1 : (stateP y g r b s k.rev).1.emb x 1 = x 1 := Fin.ext (by omega)
    have e2 : (stateP y g r b s k.rev).1.emb x 2 = x 2 := Fin.ext (by omega)
    rw [sts, e0, e1, e2]
    refine Eq.trans ?_ (congrFun (t.state k.rev) (ix2 (x 1) (x 2)))
    exact sc_out (stateH y g r b s k.rev) shapeCasts_S128x128_S1x128x128 x
  · refine ⟨stateP y g r b s (j 0), (List.mem_ofFn).mpr ⟨Fin.rev (n := 8) (j 0), congrArg (stateP y g r b s) (Fin.rev_rev (n := 8) (j 0))⟩, (Rect.mem_set_unit (inb := inbS (j 0))).mpr fun a => ?_⟩
    have h1 : (j 1 : ℕ) < 128 := (j 1).isLt
    have h2 : (j 2 : ℕ) < 128 := (j 2).isLt
    fin_cases a
    · exact ⟨le_refl _, Nat.lt_succ_self _⟩
    · exact ⟨Nat.zero_le _, by show (j 1 : ℕ) < 0 + 128; omega⟩
    · exact ⟨Nat.zero_le _, by show (j 2 : ℕ) < 0 + 128; omega⟩

theorem TilesOk.of_rows {q : Seqs} {n0 : ℕ} {y : FVec Ideal S128x3072 .f32} {s44 : FVec Ideal S128x128 .f32} {al dt : FVec Ideal S1x128 .f32}
    {s : Fin 8 → FVec Ideal S128x128 .f32} (hy : ∀ i l, y (ix2 i l) = yseq q.xp q.W (n0 + i) l)
    (ha : ∀ (i : Fin 128) (h : Fin 8), s44 (ix2 i ⟨48 + h, by omega⟩) = q.a (n0 + i) h)
    (hb : ∀ (i : Fin 128) (h : Fin 8), s44 (ix2 i ⟨56 + h, by omega⟩) = q.b (n0 + i) h)
    (hal : ∀ h : Fin 8, al (ix2 0 ⟨48 + h, by omega⟩) = q.al h) (hdt : ∀ h : Fin 8, dt (ix2 0 ⟨48 + h, by omega⟩) = q.dt h)
    (hs : ∀ h, s h = up (q.st h n0)) : TilesOk q n0 y (gcol (gl s44 al dt)) (grow (gl s44 al dt)) (logi s44) s := by
  have hg : ∀ (h : Fin 8) (j : Fin 128), gl s44 al dt (ix2 j ⟨48 + h, by omega⟩) = (q.γ (n0 + j) h : EReal) := fun h j => by
    rw [gl_at, ha, hal, hdt, q.hγ]
  exact ⟨fun i l => (hy i l).trans (q.hY _ _), fun i h => gcol_at _ (fun j => q.γ (n0 + j) h) _ (hg h) i, fun i h => grow_at _ (fun j => q.γ (n0 + j) h) _ (hg h) i,
    fun i h => by rw [logi_at, hb, q.hβ], hs⟩

/-- What a grid point's input blocks hold, at the token `n0` on. -/
structure BlkOk (q : Seqs) (n0 : ℕ) (x0 : Vec Ideal S1x128x3072 .f32) (x2 : Vec Ideal S1x128x128 .f32) (x3 : Vec Ideal S4x3072 .f32) (x4 x5 : Vec Ideal S1x128 .f32) :
    Prop where
  x0 : ∀ (i : Fin 128) (l : Fin 3072), x0 (ix3 0 i l) = q.xp (n0 + (8 + i)) l
  a : ∀ (i : Fin 128) (h : Fin 8), x2 (ix3 0 i ⟨48 + h, by omega⟩) = q.a (n0 + i) h
  b : ∀ (i : Fin 128) (h : Fin 8), x2 (ix3 0 i ⟨56 + h, by omega⟩) = q.b (n0 + i) h
  x3 : ∀ (k : Fin 4) (l : Fin 3072), x3 (ix2 k l) = q.W k l
  x4 : ∀ h : Fin 8, x4 (ix2 0 ⟨48 + h, by omega⟩) = q.al h
  x5 : ∀ h : Fin 8, x5 (ix2 0 ⟨48 + h, by omega⟩) = q.dt h

theorem rd_un {S : Shape} (arg : Memref sig .tc .vmem S .f32) (h : arg.IsWhole) (x : Vec Ideal S .f32) (r : LoadRect S) (i : r.shape.Idx) :
    View.readAt (Elt Ideal) arg.view r (h.unread x) i = x (r.idx i) := congrFun (h.read_unread x) _

theorem sc_row (v : FVec Ideal S1x3072 .f32) (h : S1x3072.ShapeCasts S1x3072) (l : Fin 3072) : shapeCast S1x3072 v h (ix2 0 l) = v (ix2 0 l) := by
  pointwise

theorem sc_tile (v : FVec Ideal S1x128x3072 .f32) (h : S1x128x3072.ShapeCasts S128x3072) (h' : S128x3072.ShapeCasts S128x3072) (i : Fin 128) (l : Fin 3072) :
    shapeCast S128x3072 (shapeCast S128x3072 v h) h' (ix2 i l) = v (ix3 0 i l) := by
  pointwise

theorem sc_sq (v : FVec Ideal S1x128x128 .f32) (h : S1x128x128.ShapeCasts S128x128) (i c : Fin 128) : shapeCast S128x128 v h (ix2 i c) = v (ix3 0 i c) := by
  pointwise

theorem rd_row (arg5 : Memref sig .tc .vmem S4x3072 .f32) (harg5 : arg5.IsWhole) (x3 : Vec Ideal S4x3072 .f32) (k : Fin 4)
    (inb : ∀ a, (![(k : ℕ), 0] : Fin 2 → ℕ) a + S1x3072.size a ≤ S4x3072.size a) (h : S1x3072.ShapeCasts S1x3072) (l : Fin 3072) :
    shapeCast S1x3072 (View.readAt (Elt Ideal) arg5.view (Rect.unit (s := S4x3072) ![(k : ℕ), 0] S1x3072.size inb).toLoadRect (harg5.unread x3)) h (ix2 0 l)
      = x3 (ix2 k l) := by
  refine (sc_row _ h l).trans ((rd_un _ _ _ _ _).trans ?_)
  congr 1
  funext a
  refine Fin.ext ?_
  fin_cases a
  · rfl
  · show 0 + 1 * (l : ℕ) = l; omega

theorem rd_tile (arg2 : Memref sig .tc .vmem S1x128x3072 .f32) (harg2 : arg2.IsWhole) (x0 : Vec Ideal S1x128x3072 .f32)
    (inb : ∀ a, (![0, 0, 0] : Fin 3 → ℕ) a + S1x128x3072.size a ≤ S1x128x3072.size a) (h : S1x128x3072.ShapeCasts S128x3072) (h' : S128x3072.ShapeCasts S128x3072)
    (i : Fin 128) (l : Fin 3072) :
    shapeCast S128x3072 (shapeCast S128x3072 (View.readAt (Elt Ideal) arg2.view (Rect.unit (s := S1x128x3072) ![0, 0, 0] S1x128x3072.size inb).toLoadRect
      (harg2.unread x0)) h) h' (ix2 i l) = x0 (ix3 0 i l) := by
  refine (sc_tile _ h h' i l).trans ((rd_un _ _ _ _ _).trans ?_)
  congr 1
  funext a
  refine Fin.ext ?_
  fin_cases a
  · rfl
  · show 0 + 1 * (i : ℕ) = i; omega
  · show 0 + 1 * (l : ℕ) = l; omega

theorem rd_small (arg4 : Memref sig .tc .vmem S1x128x128 .f32) (harg4 : arg4.IsWhole) (x2 : Vec Ideal S1x128x128 .f32)
    (inb : ∀ a, (![0, 0, 0] : Fin 3 → ℕ) a + S1x128x128.size a ≤ S1x128x128.size a) (h : S1x128x128.ShapeCasts S128x128) (i c : Fin 128) :
    shapeCast S128x128 (View.readAt (Elt Ideal) arg4.view (Rect.unit (s := S1x128x128) ![0, 0, 0] S1x128x128.size inb).toLoadRect (harg4.unread x2)) h (ix2 i c)
      = x2 (ix3 0 i c) := by
  refine (sc_sq _ h i c).trans ((rd_un _ _ _ _ _).trans ?_)
  congr 1
  funext a
  refine Fin.ext ?_
  fin_cases a
  · rfl
  · show 0 + 1 * (i : ℕ) = i; omega
  · show 0 + 1 * (c : ℕ) = c; omega

theorem rd_line (arg6 : Memref sig .tc .vmem S1x128 .f32) (harg6 : arg6.IsWhole) (x4 : Vec Ideal S1x128 .f32)
    (inb : ∀ a, (![0, 0] : Fin 2 → ℕ) a + S1x128.size a ≤ S1x128.size a) (c : Fin 128) :
    View.readAt (Elt Ideal) arg6.view (Rect.unit (s := S1x128) ![0, 0] S1x128.size inb).toLoadRect (harg6.unread x4) (ix2 0 c) = x4 (ix2 0 c) := by
  rw [rd_un]
  congr 1
  funext a
  refine Fin.ext ?_
  fin_cases a
  · rfl
  · show 0 + 1 * (c : ℕ) = c; omega

theorem zt_at {arg3 : Memref sig .tc .vmem S1x128x1024 .f32} (harg3 : arg3.IsWhole) (x1 : Vec Ideal S1x128x1024 .f32) (h : Fin 8) (i l : Fin 128) :
    zt harg3 x1 h (ix2 i l) = x1 (ix3 0 i ⟨128 * (h : ℕ) + l, by omega⟩) := by
  refine (sc_sq _ shapeCasts_S1x128x128_S128x128 i l).trans ((rd_un _ _ _ _ _).trans ?_)
  congr 1
  funext a
  refine Fin.ext ?_
  fin_cases a
  · rfl
  · show 0 + 1 * (i : ℕ) = i; omega
  · show 128 * (h : ℕ) + 1 * (l : ℕ) = 128 * h + l; omega

theorem stt_up {arg12 : Memref sig .tc .vmem S8x128x128 .f32} (harg12 : arg12.IsWhole) (q : Seqs) (n : ℕ) (h : Fin 8) : stt harg12 (sts q n) h = up (q.st h n) := by
  funext j
  obtain ⟨d, e, rfl⟩ : ∃ a d, j = ix2 a d := ⟨_, _, eq_ix2 j⟩
  show _ = sts q n (ix3 h d e)
  refine (sc_sq _ shapeCasts_S1x128x128_S128x128 d e).trans ((rd_un _ _ _ _ _).trans ?_)
  refine congrArg (sts q n) ?_
  funext a
  refine Fin.ext ?_
  fin_cases a
  · rfl
  · show 0 + 1 * (d : ℕ) = d; omega
  · show 0 + 1 * (e : ℕ) = e; omega

end Chunk

end Cert.Kernel9Ideal.Value

end
-- ==== Proof.DnpStep.lean ====
module

public import proofs.«01_k».proof.Proof.DnpTile

/-! The chunked delta rule's kernel at its grid points: what a point stores, from what its blocks hold and what the point before left. -/

@[expose] public section

noncomputable section

namespace Cert.Kernel9Ideal.Value

open Cert.Kernel9Ideal Cert.Kernel9Ideal.Gen Idealize.ShloMosaic Idealize.ShloMosaic.TcCoe Idealize.SL.Sem
open Cert.Proof
open scoped BigOperators

namespace Chunk

/-- The convolved rows of a chunk, read from the buffer: its first eight rows from `f`, the others stored before. -/
theorem rows_at {q : Seqs} {n0 : ℕ} (v : View sig .tc .vmem S136x3072 .f32) (f : v.ty.Contents (Elt Ideal)) (w : FVec Ideal S128x3072 .f32)
    (L : List (View.Piece (Elt Ideal) S136x3072 .f32)) (arg5 : Memref sig .tc .vmem S4x3072 .f32) (harg5 : arg5.IsWhole) (x3 : Vec Ideal S4x3072 .f32)
    (r8 : FVec Ideal S128x3072 .f32)
    (h8 : ∀ i l, r8 (ix2 i l) = q.xp (n0 + (8 + i)) l) (hx3 : ∀ (k : Fin 4) (l : Fin 3072), x3 (ix2 k l) = q.W k l)
    (hw : ∀ (j : Fin 128) (l : Fin 3072), w (ix2 j l) = q.xp (n0 + (8 + j)) l)
    (hf : ∀ (j : Fin 136) (l : Fin 3072), (j : ℕ) < 8 → v.read (Elt Ideal) (v.writes (Elt Ideal) f L) (ix2 j l) = q.xp (n0 + j) l) (i : Fin 128) (l : Fin 3072) :
    siluw (convw
      (shapeCast S1x3072 (View.readAt (Elt Ideal) arg5.view (Rect.unit (s := S4x3072) ![3, 0] S1x3072.size inb_S4x3072_S1x3072_3_0).toLoadRect (harg5.unread x3)) shapeCasts_S1x3072_S1x3072)
      (shapeCast S1x3072 (View.readAt (Elt Ideal) arg5.view (Rect.unit (s := S4x3072) ![2, 0] S1x3072.size inb_S4x3072_S1x3072_2_0).toLoadRect (harg5.unread x3)) shapeCasts_S1x3072_S1x3072)
      (shapeCast S1x3072 (View.readAt (Elt Ideal) arg5.view (Rect.unit (s := S4x3072) ![1, 0] S1x3072.size inb_S4x3072_S1x3072_1_0).toLoadRect (harg5.unread x3)) shapeCasts_S1x3072_S1x3072)
      (shapeCast S1x3072 (View.readAt (Elt Ideal) arg5.view (Rect.unit (s := S4x3072) ![0, 0] S1x3072.size inb_S4x3072_S1x3072_0_0).toLoadRect (harg5.unread x3)) shapeCasts_S1x3072_S1x3072)
      r8
      (v.readAt (Elt Ideal) (Rect.unit (s := S136x3072) ![7, 0] S128x3072.size inb_S136x3072_S128x3072_7_0).toLoadRect
        (v.writes (Elt Ideal) f ((⟨Rect.unit (s := S136x3072) ![8, 0] S128x3072.size inb_S136x3072_S128x3072_8_0, w⟩ : View.Piece (Elt Ideal) S136x3072 .f32) :: L)))
      (v.readAt (Elt Ideal) (Rect.unit (s := S136x3072) ![6, 0] S128x3072.size inb_S136x3072_S128x3072_6_0).toLoadRect
        (v.writes (Elt Ideal) f ((⟨Rect.unit (s := S136x3072) ![8, 0] S128x3072.size inb_S136x3072_S128x3072_8_0, w⟩ : View.Piece (Elt Ideal) S136x3072 .f32) :: L)))
      (v.readAt (Elt Ideal) (Rect.unit (s := S136x3072) ![5, 0] S128x3072.size inb_S136x3072_S128x3072_5_0).toLoadRect
        (v.writes (Elt Ideal) f ((⟨Rect.unit (s := S136x3072) ![8, 0] S128x3072.size inb_S136x3072_S128x3072_8_0, w⟩ : View.Piece (Elt Ideal) S136x3072 .f32) :: L))))
      (ix2 i l) = yseq q.xp q.W (n0 + i) l :=
  conv_at q.xp q.W n0 _ _ _ _ _ _ _ _ i l ((rd_row arg5 harg5 x3 3 _ _ l).trans (hx3 3 l)) ((rd_row arg5 harg5 x3 2 _ _ l).trans (hx3 2 l))
    ((rd_row arg5 harg5 x3 1 _ _ l).trans (hx3 1 l)) ((rd_row arg5 harg5 x3 0 _ _ l).trans (hx3 0 l))
    (h8 i l)
    (shift_read v f w L 7 128 _ _ i l q.xp n0 (fun j => hw j l) fun j _ hj => hf j l hj)
    (shift_read v f w L 6 128 _ _ i l q.xp n0 (fun j => hw j l) fun j _ hj => hf j l hj)
    (shift_read v f w L 5 128 _ _ i l q.xp n0 (fun j => hw j l) fun j _ hj => hf j l hj)

theorem sc_eight (v : FVec Ideal S8x3072 .f32) (h : S8x3072.ShapeCasts S8x3072) (j : Fin 8) (l : Fin 3072) : shapeCast S8x3072 v h (ix2 j l) = v (ix2 j l) := by
  pointwise

theorem canon_eight (inb : ∀ a, (![0, 0] : Fin 2 → ℕ) a + S8x3072.size a ≤ S136x3072.size a) (w : FVec Ideal S8x3072 .f32)
    (L : List (View.Piece (Elt Ideal) S136x3072 .f32)) (j : Fin 136) (hj : (j : ℕ) < 8) (l : Fin 3072) :
    View.canon ((⟨Rect.unit (s := S136x3072) ![0, 0] S8x3072.size inb, w⟩ : View.Piece (Elt Ideal) S136x3072 .f32) :: L) (ix2 j l) = w (ix2 ⟨j, hj⟩ l) := by
  have e : (ix2 j l : S136x3072.Idx) = (Rect.unit (s := S136x3072) ![0, 0] S8x3072.size inb).emb (ix2 (⟨j, hj⟩ : Fin 8) l) := by
    funext a
    refine Fin.ext ?_
    fin_cases a
    · show (j : ℕ) = 0 + 1 * j; omega
    · show (l : ℕ) = 0 + 1 * l; omega
  rw [e, View.canon_cons_emb]

/-- What a point leaves: its outputs, the last eight rows and the states. -/
structure PointOk (q : Seqs) (n0 : ℕ) (x1 : Vec Ideal S1x128x1024 .f32) (x6 : Vec Ideal S1x128 .f32) (o : Vec Ideal S1x128x1024 .f32) (s0 : Vec Ideal S136x3072 .f32)
    (s1 : Vec Ideal S8x128x128 .f32) : Prop where
  out : ∀ (h : Fin 8) (i e : Fin 128), o (ix3 0 i (⟨128 * (h : ℕ) + e, by omega⟩ : Fin 1024))
    = gated (fun l => ((q.T h).out (fun _ _ => 0) (n0 + i) l : EReal)) (fun l => x6 (ix2 0 l)) (fun l => x1 (ix3 0 i ⟨128 * (h : ℕ) + l, by omega⟩)) e
  rows : ∀ (j : Fin 136) (l : Fin 3072), (j : ℕ) < 8 → s0 (ix2 j l) = q.xp (n0 + 128 + j) l
  st : s1 = sts q (n0 + 128)

theorem PointOk.of_tiles {q : Seqs} {n0 : ℕ} {y : FVec Ideal S128x3072 .f32} {g r b : FVec Ideal S128x128 .f32} {s : Fin 8 → FVec Ideal S128x128 .f32}
    (t : TilesOk q n0 y g r b s) {arg3 : Memref sig .tc .vmem S1x128x1024 .f32} (harg3 : arg3.IsWhole) {arg8 : Memref sig .tc .vmem S1x128 .f32} (harg8 : arg8.IsWhole)
    {x1 : Vec Ideal S1x128x1024 .f32} {x6 : Vec Ideal S1x128 .f32} {o : Vec Ideal S1x128x1024 .f32} {s0 : Vec Ideal S136x3072 .f32} {s1 : Vec Ideal S8x128x128 .f32}
    (arg11 : Memref sig .tc .vmem S136x3072 .f32) (w : FVec Ideal S128x3072 .f32) (L : List (View.Piece (Elt Ideal) S136x3072 .f32))
    (hw : ∀ (j : Fin 128) (l : Fin 3072), w (ix2 j l) = q.xp (n0 + (8 + j)) l) (L' : List (View.Piece (Elt Ideal) S8x128x128 .f32))
    (ho : o = View.canon (List.ofFn fun k : Fin 8 => outP y g r b s (zt harg3 x1)
      (View.readAt (Elt Ideal) arg8.view (Rect.unit (s := S1x128) ![0, 0] S1x128.size inb_S1x128_S1x128_0_0).toLoadRect (harg8.unread x6)) k.rev))
    (h0 : s0 = View.canon ((⟨Rect.unit (s := S136x3072) ![0, 0] S8x3072.size inb_S136x3072_S8x3072_0_0, shapeCast S8x3072 (arg11.view.readCov
      ((⟨Rect.unit (s := S136x3072) ![8, 0] S128x3072.size inb_S136x3072_S128x3072_8_0, w⟩ : View.Piece (Elt Ideal) S136x3072 .f32) :: L)
      (Rect.unit (s := S136x3072) ![128, 0] S8x3072.size inb_S136x3072_S8x3072_128_0).toLoadRect) shapeCasts_S8x3072_S8x3072⟩ : View.Piece (Elt Ideal) S136x3072 .f32) ::
      (⟨Rect.unit (s := S136x3072) ![8, 0] S128x3072.size inb_S136x3072_S128x3072_8_0, w⟩ : View.Piece (Elt Ideal) S136x3072 .f32) :: L))
    (h1 : s1 = View.canon ((List.ofFn fun k : Fin 8 => stateP y g r b s k.rev) ++ L')) : PointOk q n0 x1 x6 o s0 s1 where
  out h i e := by
    rw [ho, outP_tiles t]
    exact congrArg₂ (fun f g => gated _ f g e) (funext fun l => rd_line arg8 harg8 x6 _ l) (funext fun l => zt_at harg3 x1 h i l)
  rows j l hj := by
    rw [h0]
    refine (canon_eight _ _ _ j hj l).trans ?_
    refine (sc_eight _ _ _ l).trans ?_
    refine (shift_read arg11.view arg11.view.junk w L 128 8 _ _ (⟨j, hj⟩ : Fin 8) l q.xp n0 (fun j => hw j l) fun j h _ => absurd h (by decide)).trans ?_
    rw [Nat.add_assoc]
  st := h1.trans (stateP_tiles t L')

end Chunk

open Chunk

variable (c : Dev nD) (i : grid0.Coords) (arg2 : Memref sig .tc .vmem S1x128x3072 .f32) (harg2 : arg2.IsWhole) (arg3 : Memref sig .tc .vmem S1x128x1024 .f32) (harg3 : arg3.IsWhole) (arg4 : Memref sig .tc .vmem S1x128x128 .f32) (harg4 : arg4.IsWhole) (arg5 : Memref sig .tc .vmem S4x3072 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128x1024 .f32) (harg9 : arg9.IsWhole) (arg10 : Memref sig .tc .vmem S1x8x128x128 .f32) (harg10 : arg10.IsWhole) (arg11 : Memref sig .tc .vmem S136x3072 .f32) (harg11 : arg11.IsWhole) (arg12 : Memref sig .tc .vmem S8x128x128 .f32) (harg12 : arg12.IsWhole)
  {q : Seqs} {n0 : ℕ} {x0 : Vec Ideal S1x128x3072 .f32} {x1 : Vec Ideal S1x128x1024 .f32} {x2 : Vec Ideal S1x128x128 .f32} {x3 : Vec Ideal S4x3072 .f32} {x4 x5 x6 : Vec Ideal S1x128 .f32}
  {xs0 : Vec Ideal S136x3072 .f32}

theorem tile_B (hb : BlkOk q n0 x0 x2 x3 x4 x5) (hr : ∀ (j : Fin 136) (l : Fin 3072), (j : ℕ) < 8 → xs0 (ix2 j l) = q.xp (n0 + j) l) :
    TilesOk q n0 (kernelRun0_B.sl.v42 c arg2 harg2 arg5 harg5 arg11 harg11 x0 x3 xs0) (kernelRun0_B.sl.v91 c arg4 harg4 arg6 harg6 arg7 harg7 x2 x4 x5)
      (kernelRun0_B.sl.v108 c arg4 harg4 arg6 harg6 arg7 harg7 x2 x4 x5) (kernelRun0_B.sl.v72 c arg4 harg4 x2) (stt harg12 (sts q n0)) := by
  have hw : ∀ (j : Fin 128) (l : Fin 3072), kernelRun0_B.sl.v7 c arg2 harg2 x0 (ix2 j l) = q.xp (n0 + (8 + j)) l := fun j l =>
    (rd_tile arg2 harg2 x0 _ _ _ j l).trans (hb.x0 j l)
  refine TilesOk.of_rows (s44 := kernelRun0_B.sl.v44 c arg4 harg4 x2) (al := kernelRun0_B.sl.v46 c arg6 harg6 x4) (dt := kernelRun0_B.sl.v51 c arg7 harg7 x5) ?_ ?_ ?_ ?_ ?_ ?_
  · intro i l
    refine rows_at arg11.view (harg11.unread xs0) (kernelRun0_B.sl.v7 c arg2 harg2 x0) [] arg5 harg5 x3
      (arg11.view.readCov (kernelRun0_B.sl.HS0_1 c arg2 harg2 x0) (Rect.unit (s := S136x3072) ![8, 0] S128x3072.size inb_S136x3072_S128x3072_8_0).toLoadRect)
      (fun i l => shift_read arg11.view arg11.view.junk (kernelRun0_B.sl.v7 c arg2 harg2 x0) [] 8 128 _ _ i l q.xp n0 (fun j => hw j l) fun j h _ => absurd h (by decide))
      hb.x3 hw (fun j l hj => ?_) i l
    exact (congrFun (harg11.read_unread xs0) _).trans (hr j l hj)
  · exact fun i h => (rd_small arg4 harg4 x2 _ _ i _).trans (hb.a i h)
  · exact fun i h => (rd_small arg4 harg4 x2 _ _ i _).trans (hb.b i h)
  · exact fun h => (congrFun (shapeCast_self _ _) _).trans ((rd_line arg6 harg6 x4 _ _).trans (hb.x4 h))
  · exact fun h => (congrFun (shapeCast_self _ _) _).trans ((rd_line arg7 harg7 x5 _ _).trans (hb.x5 h))
  · exact fun h => stt_up harg12 q n0 h

theorem point_B (hc0 : ¬cond0_0 i) (hc1 : ¬cond0_1 i) (hb : BlkOk q n0 x0 x2 x3 x4 x5)
    (hr : ∀ (j : Fin 136) (l : Fin 3072), (j : ℕ) < 8 → xs0 (ix2 j l) = q.xp (n0 + j) l) :
    PointOk q n0 x1 x6
      (out0_B_7 c i arg2 harg2 arg3 harg3 arg4 harg4 arg5 harg5 arg6 harg6 arg7 harg7 arg8 harg8 arg9 harg9 arg10 harg10 arg11 harg11 arg12 harg12 hc0 hc1 x0 x1 x2 x3 x4 x5 x6 xs0 (sts q n0))
      (sout0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 (sts q n0))
      (sout0_B_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 (sts q n0)) := by
  refine PointOk.of_tiles (tile_B c arg2 harg2 arg4 harg4 arg5 harg5 arg6 harg6 arg7 harg7 arg11 harg11 arg12 harg12 hb hr) harg3 harg8 arg11
    (kernelRun0_B.sl.v7 c arg2 harg2 x0) [] (fun j l => (rd_tile arg2 harg2 x0 _ _ _ j l).trans (hb.x0 j l)) [] ?_ ?_ ?_
  · rw [out0_B_7, View.read_writes_junk_eq_canon, outs_B]
  · rw [sout0_B_0, View.read_writes_junk_eq_canon]
    rfl
  · rw [sout0_B_1, View.read_writes_junk_eq_canon, states_B, List.append_nil]

theorem tile_C (hb : BlkOk q n0 x0 x2 x3 x4 x5) (hr : ∀ (j : Fin 136) (l : Fin 3072), (j : ℕ) < 8 → xs0 (ix2 j l) = q.xp (n0 + j) l) :
    TilesOk q n0 (kernelRun0_C.sl.v42 c arg2 harg2 arg5 harg5 arg11 harg11 x0 x3 xs0) (kernelRun0_C.sl.v91 c arg4 harg4 arg6 harg6 arg7 harg7 x2 x4 x5)
      (kernelRun0_C.sl.v108 c arg4 harg4 arg6 harg6 arg7 harg7 x2 x4 x5) (kernelRun0_C.sl.v72 c arg4 harg4 x2) (stt harg12 (sts q n0)) := by
  have hw : ∀ (j : Fin 128) (l : Fin 3072), kernelRun0_C.sl.v7 c arg2 harg2 x0 (ix2 j l) = q.xp (n0 + (8 + j)) l := fun j l =>
    (rd_tile arg2 harg2 x0 _ _ _ j l).trans (hb.x0 j l)
  refine TilesOk.of_rows (s44 := kernelRun0_C.sl.v44 c arg4 harg4 x2) (al := kernelRun0_C.sl.v46 c arg6 harg6 x4) (dt := kernelRun0_C.sl.v51 c arg7 harg7 x5) ?_ ?_ ?_ ?_ ?_ ?_
  · intro i l
    refine rows_at arg11.view (harg11.unread xs0) (kernelRun0_C.sl.v7 c arg2 harg2 x0) [] arg5 harg5 x3
      (arg11.view.readCov (kernelRun0_C.sl.HS0_1 c arg2 harg2 x0) (Rect.unit (s := S136x3072) ![8, 0] S128x3072.size inb_S136x3072_S128x3072_8_0).toLoadRect)
      (fun i l => shift_read arg11.view arg11.view.junk (kernelRun0_C.sl.v7 c arg2 harg2 x0) [] 8 128 _ _ i l q.xp n0 (fun j => hw j l) fun j h _ => absurd h (by decide))
      hb.x3 hw (fun j l hj => ?_) i l
    exact (congrFun (harg11.read_unread xs0) _).trans (hr j l hj)
  · exact fun i h => (rd_small arg4 harg4 x2 _ _ i _).trans (hb.a i h)
  · exact fun i h => (rd_small arg4 harg4 x2 _ _ i _).trans (hb.b i h)
  · exact fun h => (congrFun (shapeCast_self _ _) _).trans ((rd_line arg6 harg6 x4 _ _).trans (hb.x4 h))
  · exact fun h => (congrFun (shapeCast_self _ _) _).trans ((rd_line arg7 harg7 x5 _ _).trans (hb.x5 h))
  · exact fun h => stt_up harg12 q n0 h

theorem point_C (hc0 : ¬cond0_0 i) (hc1 : cond0_1 i) (hb : BlkOk q n0 x0 x2 x3 x4 x5)
    (hr : ∀ (j : Fin 136) (l : Fin 3072), (j : ℕ) < 8 → xs0 (ix2 j l) = q.xp (n0 + j) l) :
    PointOk q n0 x1 x6
      (out0_C_7 c i arg2 harg2 arg3 harg3 arg4 harg4 arg5 harg5 arg6 harg6 arg7 harg7 arg8 harg8 arg9 harg9 arg10 harg10 arg11 harg11 arg12 harg12 hc0 hc1 x0 x1 x2 x3 x4 x5 x6 xs0 (sts q n0))
      (sout0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 (sts q n0))
      (sout0_C_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 (sts q n0)) := by
  refine PointOk.of_tiles (tile_C c arg2 harg2 arg4 harg4 arg5 harg5 arg6 harg6 arg7 harg7 arg11 harg11 arg12 harg12 hb hr) harg3 harg8 arg11
    (kernelRun0_C.sl.v7 c arg2 harg2 x0) [] (fun j l => (rd_tile arg2 harg2 x0 _ _ _ j l).trans (hb.x0 j l)) [] ?_ ?_ ?_
  · rw [out0_C_7, View.read_writes_junk_eq_canon, outs_C]
  · rw [sout0_C_0, View.read_writes_junk_eq_canon]
    rfl
  · rw [sout0_C_1, View.read_writes_junk_eq_canon, states_C, List.append_nil]

/-- The states the last point stores. -/
theorem final_at (hc0 : ¬cond0_0 i) (hc1 : cond0_1 i) (hb : BlkOk q n0 x0 x2 x3 x4 x5)
    (hr : ∀ (j : Fin 136) (l : Fin 3072), (j : ℕ) < 8 → xs0 (ix2 j l) = q.xp (n0 + j) l) (h : Fin 8) (d e : Fin 128) :
    out0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 xs0 (sts q n0)
      (ix4 0 h d e) = sts q (n0 + 128) (ix3 h d e) := by
  rw [out0_C_8, View.read_writes_junk_eq_canon, final_C, View.canon_cons_unit_lit _ _ _ (by decide)]
  refine (show k0_pay2 (F := Ideal) _ (ix4 0 h d e) = _ from by pointwise [k0_pay2]; rfl).trans (congrFun (?_ : _ = sts q (n0 + 128)) (ix3 h d e))
  rw [View.readCov_eq_canon', ← stateP_tiles (tile_C c arg2 harg2 arg4 harg4 arg5 harg5 arg6 harg6 arg7 harg7 arg11 harg11 arg12 harg12 hb hr) [], List.append_nil]
  funext j
  refine congrArg _ (funext fun a => Fin.ext ?_)
  fin_cases a <;> (show 0 + 1 * _ = _) <;> omega

theorem zero8 (y : S8x128x128.Idx) : kernelRun0_A.sl.v1788 (F := Ideal) y = 0 := by
  pointwise [kernelRun0_A.sl.v1788, kernelRun0_A.sl.v1785, kernelRun0_A.sl.cst_502]

theorem zero_rows (y : S8x3072.Idx) : kernelRun0_A.sl.v1784 (F := Ideal) y = 0 := by
  pointwise [kernelRun0_A.sl.v1784, kernelRun0_A.sl.v1781, kernelRun0_A.sl.cst_502]

theorem st0_up (q : Seqs) (h : Fin 8) : st0 (arg12 := arg12) (kernelRun0_A.sl.HS1_1 (F := Ideal)) h = up (q.st h 0) := by
  funext j
  obtain ⟨d, e, rfl⟩ : ∃ a d, j = ix2 a d := ⟨_, _, eq_ix2 j⟩
  refine (sc_sq _ shapeCasts_S1x128x128_S128x128 d e).trans ?_
  rw [View.readCov_eq_canon']
  refine (congrFun (show View.canon (kernelRun0_A.sl.HS1_1 (F := Ideal)) = kernelRun0_A.sl.v1788 (F := Ideal) from View.canon_cons_unit_lit _ _ _ (by decide)) _).trans ?_
  exact (zero8 _).trans EReal.coe_zero.symm

theorem tile_A (hb : BlkOk q 0 x0 x2 x3 x4 x5) :
    TilesOk q 0 (kernelRun0_A.sl.v42 c arg2 harg2 arg5 harg5 arg11 x0 x3) (kernelRun0_A.sl.v91 c arg4 harg4 arg6 harg6 arg7 harg7 x2 x4 x5)
      (kernelRun0_A.sl.v108 c arg4 harg4 arg6 harg6 arg7 harg7 x2 x4 x5) (kernelRun0_A.sl.v72 c arg4 harg4 x2) (st0 (arg12 := arg12) (kernelRun0_A.sl.HS1_1 (F := Ideal))) := by
  have hw : ∀ (j : Fin 128) (l : Fin 3072), kernelRun0_A.sl.v7 c arg2 harg2 x0 (ix2 j l) = q.xp (0 + (8 + j)) l := fun j l =>
    (rd_tile arg2 harg2 x0 _ _ _ j l).trans (hb.x0 j l)
  refine TilesOk.of_rows (s44 := kernelRun0_A.sl.v44 c arg4 harg4 x2) (al := kernelRun0_A.sl.v46 c arg6 harg6 x4) (dt := kernelRun0_A.sl.v51 c arg7 harg7 x5) ?_ ?_ ?_ ?_ ?_ ?_
  · intro i l
    refine rows_at arg11.view arg11.view.junk (kernelRun0_A.sl.v7 c arg2 harg2 x0)
      [(⟨Rect.unit (s := S136x3072) ![0, 0] S8x3072.size inb_S136x3072_S8x3072_0_0, kernelRun0_A.sl.v1784 (F := Ideal)⟩ : View.Piece (Elt Ideal) S136x3072 .f32)] arg5 harg5 x3
      (arg11.view.readCov (kernelRun0_A.sl.HS0_2 c arg2 harg2 x0) (Rect.unit (s := S136x3072) ![8, 0] S128x3072.size inb_S136x3072_S128x3072_8_0).toLoadRect)
      (fun i l => shift_read arg11.view arg11.view.junk (kernelRun0_A.sl.v7 c arg2 harg2 x0) _ 8 128 _ _ i l q.xp 0 (fun j => hw j l) fun j h _ => absurd h (by decide))
      hb.x3 hw (fun j l hj => ?_) i l
    rw [View.read_writes_junk_eq_canon, q.xp0 _ _ (by omega)]
    exact (canon_eight _ _ _ j hj l).trans (zero_rows _)
  · exact fun i h => (rd_small arg4 harg4 x2 _ _ i _).trans (hb.a i h)
  · exact fun i h => (rd_small arg4 harg4 x2 _ _ i _).trans (hb.b i h)
  · exact fun h => (congrFun (shapeCast_self _ _) _).trans ((rd_line arg6 harg6 x4 _ _).trans (hb.x4 h))
  · exact fun h => (congrFun (shapeCast_self _ _) _).trans ((rd_line arg7 harg7 x5 _ _).trans (hb.x5 h))
  · exact fun h => st0_up arg12 q h

theorem point_A (hc0 : cond0_0 i) (hc1 : ¬cond0_1 i) (hb : BlkOk q 0 x0 x2 x3 x4 x5) :
    PointOk q 0 x1 x6
      (out0_A_7 c i arg2 harg2 arg3 harg3 arg4 harg4 arg5 harg5 arg6 harg6 arg7 harg7 arg8 harg8 arg9 harg9 arg10 harg10 arg11 harg11 arg12 harg12 hc0 hc1 x0 x1 x2 x3 x4 x5 x6)
      (sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6)
      (sout0_A_1 c i arg2 harg2 arg3 harg3 arg4 harg4 arg5 harg5 arg6 harg6 arg7 harg7 arg8 harg8 arg9 harg9 arg10 harg10 arg11 harg11 arg12 harg12 hc0 hc1 x0 x1 x2 x3 x4 x5 x6) := by
  refine PointOk.of_tiles (tile_A c arg2 harg2 arg4 harg4 arg5 harg5 arg6 harg6 arg7 harg7 arg11 arg12 hb) harg3 harg8 arg11
    (kernelRun0_A.sl.v7 c arg2 harg2 x0)
    [(⟨Rect.unit (s := S136x3072) ![0, 0] S8x3072.size inb_S136x3072_S8x3072_0_0, kernelRun0_A.sl.v1784 (F := Ideal)⟩ : View.Piece (Elt Ideal) S136x3072 .f32)] (fun j l => (rd_tile arg2 harg2 x0 _ _ _ j l).trans (hb.x0 j l)) (kernelRun0_A.sl.HS1_1 (F := Ideal)) ?_ ?_ ?_
  · rw [out0_A_7, View.read_writes_junk_eq_canon, outs_A]
  · rw [sout0_A_0, View.read_writes_junk_eq_canon]
    rfl
  · rw [sout0_A_1, View.read_writes_junk_eq_canon, states_A]

end Cert.Kernel9Ideal.Value

end
-- ==== Proof.DnpSeq.lean ====
module

public import proofs.«01_k».proof.Proof.DnpTile
public import proofs.«01_k».proof.Pre_finite9

/-! The chunked delta rule: the rows a batch element's program reads, as sequences of tokens, and that they are real numbers when the
arrays are finite. -/

@[expose] public section

noncomputable section

namespace Cert.Kernel9Ideal.Value

open Cert.Kernel9Ideal Cert.Kernel9Ideal.Gen Idealize.ShloMosaic Idealize.ShloMosaic.TcCoe Idealize.SL.Sem
open Cert.Proof
open scoped BigOperators

namespace Chunk

/-- A real number. -/
def IsR (x : EReal) : Prop := ∃ r : ℝ, x = (r : EReal)

theorem IsR.mul {x y : EReal} : IsR x → IsR y → IsR (x * y)
  | ⟨a, ha⟩, ⟨b, hb⟩ => ⟨a * b, by rw [ha, hb, EReal.coe_mul]⟩
theorem IsR.add {x y : EReal} : IsR x → IsR y → IsR (x + y)
  | ⟨a, ha⟩, ⟨b, hb⟩ => ⟨a + b, by rw [ha, hb, EReal.coe_add]⟩
theorem IsR.neg {x : EReal} : IsR x → IsR (-x)
  | ⟨a, ha⟩ => ⟨-a, by rw [ha, EReal.coe_neg]⟩
theorem IsR.max {x y : EReal} (hx : IsR x) (hy : IsR y) : IsR (max x y) := by
  rcases max_choice x y with h | h <;> rw [h] <;> assumption
theorem IsR.zero : IsR 0 := ⟨0, EReal.coe_zero.symm⟩
theorem IsR.coe {x : EReal} (h : IsR x) : x = (x.toReal : EReal) := by
  obtain ⟨r, rfl⟩ := h
  rw [EReal.toReal_coe]

theorem one_add_exp (r : ℝ) : 1 + Ideal.exp (r : EReal) = ((1 + Real.exp r : ℝ) : EReal) := by rw [exp_coe, EReal.coe_add, EReal.coe_one]

theorem IsR.sg {x : EReal} : IsR x → IsR (Cert.Proof.sg x)
  | ⟨r, h⟩ => by
    have hp : 0 < 1 + Real.exp (-r) := by have := Real.exp_pos (-r); linarith
    refine ⟨1 * (1 + Real.exp (-r))⁻¹, ?_⟩
    rw [h, Cert.Proof.sg, ← EReal.coe_neg, one_add_exp, Ideal.div, if_neg (EReal.coe_ne_zero.mpr hp.ne'), EReal.coe_mul, EReal.coe_inv, EReal.coe_one]

theorem IsR.unit {x : EReal} (h : IsR x) : IsR (Cert.Proof.unit x) := h.mul h.sg

theorem IsR.gate {x y : EReal} (hx : IsR x) (hy : IsR y) : IsR (Cert.Proof.gate x y) := by
  refine IsR.mul (IsR.neg ?_) ((hy.max .zero).add ?_)
  · obtain ⟨r, rfl⟩ := hx
    exact ⟨_, exp_coe r⟩
  · obtain ⟨r, hr⟩ := (hy.max hy.neg).neg
    have hp : 0 < 1 + Real.exp r := by have := Real.exp_pos r; linarith
    refine ⟨Real.log (1 + Real.exp r), ?_⟩
    rw [hr, one_add_exp]
    show (if 1 + Real.exp r ≤ 0 then (⊥ : EReal) else (Real.log (1 + Real.exp r) : EReal)) = _
    rw [if_neg (not_le.mpr hp)]

/-- The six arrays are finite. -/
structure Fin9 (A0 : FVec Ideal S4x4096x3072 .f32) (A3 A4 : FVec Ideal S4x4096x8 .f32) (A5 : FVec Ideal S1x4x3072 .f32) (A6 A7 : FVec Ideal S1x8 .f32) : Prop where
  a0 : ∀ i, IsR (A0 i)
  a3 : ∀ i, IsR (A3 i)
  a4 : ∀ i, IsR (A4 i)
  a5 : ∀ i, IsR (A5 i)
  a6 : ∀ i, IsR (A6 i)
  a7 : ∀ i, IsR (A7 i)

variable {A0 : FVec Ideal S4x4096x3072 .f32} {A3 A4 : FVec Ideal S4x4096x8 .f32} {A5 : FVec Ideal S1x4x3072 .f32} {A6 A7 : FVec Ideal S1x8 .f32}

/-- A batch element's rows, eight rows of zeros before them. -/
def xpad (A0 : FVec Ideal S4x4096x3072 .f32) (b : Fin 4) (n : ℕ) (l : Fin 3072) : EReal :=
  if h : 8 ≤ n ∧ n < 4104 then A0 (ix3 b (⟨n - 8, by omega⟩ : Fin 4096) l) else 0

/-- A batch element's narrow rows. -/
def nrow (A : FVec Ideal S4x4096x8 .f32) (b : Fin 4) (n : ℕ) (h : Fin 8) : EReal := if hn : n < 4096 then A (ix3 b (⟨n, hn⟩ : Fin 4096) h) else 0

theorem xpad_at (A0 : FVec Ideal S4x4096x3072 .f32) (b : Fin 4) (s : Fin 4096) (n : ℕ) (l : Fin 3072) (h : n = s + 8) : xpad A0 b n l = A0 (ix3 b s l) := by
  subst h
  rw [xpad, dif_pos (by omega)]
  congr 1

theorem nrow_at (A : FVec Ideal S4x4096x8 .f32) (b : Fin 4) (s : Fin 4096) (n : ℕ) (l : Fin 8) (h : n = s) : nrow A b n l = A (ix3 b s l) := by
  subst h
  rw [nrow, dif_pos s.isLt]

theorem xpad_isR (H : ∀ i, IsR (A0 i)) (b : Fin 4) (n : ℕ) (l : Fin 3072) : IsR (xpad A0 b n l) := by
  unfold xpad
  split
  · exact H _
  · exact .zero

theorem nrow_isR {A : FVec Ideal S4x4096x8 .f32} (H : ∀ i, IsR (A i)) (b : Fin 4) (n : ℕ) (l : Fin 8) : IsR (nrow A b n l) := by
  unfold nrow
  split
  · exact H _
  · exact .zero

/-- A batch element's program, from the arrays. -/
def seqs (H : Fin9 A0 A3 A4 A5 A6 A7) (b : Fin 4) : Seqs where
  xp := xpad A0 b
  W k l := A5 (ix3 0 k l)
  a := nrow A3 b
  b := nrow A4 b
  al h := A6 (ix2 0 h)
  dt h := A7 (ix2 0 h)
  Y n l := (yseq (xpad A0 b) (fun k l => A5 (ix3 0 k l)) n l).toReal
  γ n h := (gate (A6 (ix2 0 h)) (nrow A3 b n h + A7 (ix2 0 h))).toReal
  β n h := (sg (nrow A4 b n h)).toReal
  xp0 n l hn := dif_neg (by omega)
  hY n l := by
    have hx := xpad_isR H.a0 b
    have hw := H.a5
    exact (IsR.unit (((((hw _).mul (hx _ _)).add ((hw _).mul (hx _ _))).add ((hw _).mul (hx _ _))).add ((hw _).mul (hx _ _)))).coe
  hγ n h := (IsR.gate (H.a6 _) ((nrow_isR H.a3 b n h).add (H.a7 _))).coe
  hβ n h := (IsR.sg (nrow_isR H.a4 b n h)).coe

instance : Cert.Pre_finite9.Facts where
  bcast_S_S4x4096x3072 := by decide
  bcast_S_S4x4096x8 := by decide
  bcast_S_S1x4x3072 := by decide
  bcast_S_S1x8 := by decide

theorem isR_of_abs {x : EReal} (h : max x (-x) < ⊤) : IsR x := by
  induction x using EReal.rec with
  | bot => exact absurd h (by simp)
  | coe r => exact ⟨r, rfl⟩
  | top => exact absurd h (by simp)

theorem isR_of_lt {S : Shape} (hb : (⟨0, ![]⟩ : Shape).BroadcastsInDim S (![] : Fin 0 → Fin S.rank)) (A : FVec Ideal S .f32)
    (h : cmpf .olt (Host.absf A) (broadcastInDim S ![] hb (constant ⟨0, ![]⟩ .f32 0x7F800000#32)) = fun _ => 1#1) (i : S.Idx) : IsR (A i) := by
  have h1 := congrFun h i
  have hi : Ideal.ofBits .f32 0x7F800000#32 = ⊤ := by decide +kernel
  have h2 : Ideal.cmp .olt (max (A i) (-A i)) (Ideal.ofBits .f32 0x7F800000#32) = 1#1 := h1
  rw [hi] at h2
  exact isR_of_abs (by_contra fun hn => absurd h2 (by
    show ¬ BitVec.ofBool (decide (max (A i) (-A i) < ⊤)) = 1#1
    rw [decide_eq_false hn]
    decide))

end Chunk

end Cert.Kernel9Ideal.Value

end
-- ==== Proof.DnpKer.lean ====
module

public import proofs.«01_k».proof.Proof.DnpStep
public import proofs.«01_k».proof.Proof.DnpSeq
public import proofs.«01_k».proof.Proof.DnSet
public import proofs.«01_k».proof.Proof.Gen.Kernel9Ideal.Value

/-! The chunked delta rule's kernel: its two arrays are the outputs and the last states of the recurrence, token by token. -/

@[expose] public section

set_option maxRecDepth 16384

noncomputable section

namespace Cert.Kernel9Ideal.Value

open Cert.Kernel9Ideal Cert.Kernel9Ideal.Gen Idealize.ShloMosaic Idealize.ShloMosaic.TcCoe Idealize.SL.Sem
open Cert.Proof Chunk
open scoped BigOperators

variable (m : (ℓ : Loc nD τ sig) → Buf (Elt Ideal) ℓ)

/-- Which block of each window grid point `t` works on. -/
theorem idx : ∀ t : Fin cfg0.N, win0_0.index t = ![t.val / 32, t.val % 32, 0] ∧ win0_1.index t = ![t.val / 32, t.val % 32, 0] ∧
    win0_2.index t = ![t.val / 32, t.val % 32, 0] ∧ win0_3.index t = ![0, 0] ∧ win0_4.index t = ![0, 0] ∧ win0_5.index t = ![0, 0] ∧
    win0_6.index t = ![0, 0] ∧ t.val < 128 :=
  (by decide +kernel : ∀ t : Fin grid0.N, _)

theorem rd0 (c : Dev nD) (t : Fin cfg0.N) (z : Fin 1) (r : Fin 128) (k : Fin 3072) (b : Fin 4) (s : Fin 4096) (hb : (b : ℕ) = t.val / 32)
    (hs : (s : ℕ) = t.val % 32 * 128 + r) : iblk m c 0 t (ix3 z r k) = m ((c : Thread nD τ).loc main_arg0) (ix3 b s k) := by
  blk_ext [iblk, V, idx t]

theorem rd1 (c : Dev nD) (t : Fin cfg0.N) (z : Fin 1) (r : Fin 128) (k : Fin 1024) (b : Fin 4) (s : Fin 4096) (hb : (b : ℕ) = t.val / 32)
    (hs : (s : ℕ) = t.val % 32 * 128 + r) : iblk m c 1 t (ix3 z r k) = m ((c : Thread nD τ).loc main_arg1) (ix3 b s k) := by
  blk_ext [iblk, V, idx t]

theorem rd2 (c : Dev nD) (t : Fin cfg0.N) (z : Fin 1) (r : Fin 128) (k : Fin 128) (b : Fin 4) (s : Fin 4096) (hb : (b : ℕ) = t.val / 32)
    (hs : (s : ℕ) = t.val % 32 * 128 + r) : iblk m c 2 t (ix3 z r k) = V m c main_v1 (ix3 b s k) := by
  blk_ext [iblk, idx t]

theorem rd3 (c : Dev nD) (t : Fin cfg0.N) (k : Fin 4) (l : Fin 3072) : iblk m c 3 t (ix2 k l) = V m c main_v14 (ix2 k l) := by
  blk_ext [iblk, idx t]

theorem rd4 (c : Dev nD) (t : Fin cfg0.N) (j : Fin 128) : iblk m c 4 t (ix2 0 j) = V m c main_v7 (ix2 0 j) := by
  blk_ext [iblk, idx t]

theorem rd5 (c : Dev nD) (t : Fin cfg0.N) (j : Fin 128) : iblk m c 5 t (ix2 0 j) = V m c main_v13 (ix2 0 j) := by
  blk_ext [iblk, idx t]

theorem rd6 (c : Dev nD) (t : Fin cfg0.N) (j : Fin 128) : iblk m c 6 t (ix2 0 j) = m ((c : Thread nD τ).loc main_arg8) (ix2 0 j) := by
  blk_ext [iblk, V, idx t]

/-- The host's array of narrow columns. -/
def small (a2 : FVec Ideal S4x4096x48 .f32) (a3 a4 : FVec Ideal S4x4096x8 .f32) : FVec Ideal S4x4096x128 .f32 :=
  concatenate S4x4096x128 2 [⟨S4x4096x48, a2⟩, ⟨S4x4096x8, a3⟩, ⟨S4x4096x8, a4⟩,
    ⟨S4x4096x64, broadcastInDim S4x4096x64 ![] bcast_S_S4x4096x64 (constant S_ .f32 0x00000000#32)⟩]
    concatenates_S4x4096x48_S4x4096x8_S4x4096x8_S4x4096x64_S4x4096x128_d2

theorem small_a (a2 : FVec Ideal S4x4096x48 .f32) (a3 a4 : FVec Ideal S4x4096x8 .f32) (b : Fin 4) (n : Fin 4096) (h : Fin 8) (c : Fin 128)
    (hc : (c : ℕ) = 48 + h) : small a2 a3 a4 (ix3 b n c) = a3 (ix3 b n h) := by
  have h1 : ¬ (c : ℕ) < 48 := by omega
  have h3 : (c : ℕ) - 48 < 8 := by omega
  have e : (⟨(c : ℕ) - 48, h3⟩ : Fin 8) = h := Fin.ext (by simp only []; omega)
  rw [← e]
  pointwise [small, h1, h3]

theorem small_b (a2 : FVec Ideal S4x4096x48 .f32) (a3 a4 : FVec Ideal S4x4096x8 .f32) (b : Fin 4) (n : Fin 4096) (h : Fin 8) (c : Fin 128)
    (hc : (c : ℕ) = 56 + h) : small a2 a3 a4 (ix3 b n c) = a4 (ix3 b n h) := by
  have h1 : ¬ (c : ℕ) < 48 := by omega
  have h2 : ¬ (c : ℕ) - 48 < 8 := by omega
  have h3 : (c : ℕ) - 48 - 8 < 8 := by omega
  have e : (⟨(c : ℕ) - 48 - 8, h3⟩ : Fin 8) = h := Fin.ext (by simp only []; omega)
  rw [← e]
  pointwise [small, h1, h2, h3]

theorem v1 (c : Dev nD) : V m c main_v1 = small (m ((c : Thread nD τ).loc main_arg2)) (m ((c : Thread nD τ).loc main_arg3))
    (m ((c : Thread nD τ).loc main_arg4)) := by
  unfold V hostOps0
  after_results_simp <;> (try dsimp only [Matrix.cons_val]) <;> (try after_results_simp) <;> rfl

theorem v7 (c : Dev nD) : V m c main_v7 = Cert.KernelIdeal.Value.set48 (m ((c : Thread nD τ).loc main_arg6)) := by
  unfold V hostOps0
  after_results_simp <;> (try dsimp only [Matrix.cons_val]) <;> (try after_results_simp) <;> rfl

theorem v13 (c : Dev nD) : V m c main_v13 = Cert.KernelIdeal.Value.set48 (m ((c : Thread nD τ).loc main_arg7)) := by
  unfold V hostOps0
  after_results_simp <;> (try dsimp only [Matrix.cons_val]) <;> (try after_results_simp) <;> rfl

theorem v14 (c : Dev nD) : V m c main_v14 = (shapeCast S4x3072 (m ((c : Thread nD τ).loc main_arg5)) shapeCasts_S1x4x3072_S4x3072 : FVec Ideal S4x3072 .f32) := by
  unfold V hostOps0
  after_results_simp <;> (try dsimp only [Matrix.cons_val]) <;> (try after_results_simp) <;> rfl

theorem v14_at (A : FVec Ideal S1x4x3072 .f32) (h : S1x4x3072.ShapeCasts S4x3072) (k : Fin 4) (l : Fin 3072) : shapeCast S4x3072 A h (ix2 k l) = A (ix3 0 k l) := by
  pointwise

/-- The six arrays of device `c` are finite. -/
abbrev FinM (c : Dev nD) : Prop := Fin9 (m ((c : Thread nD τ).loc main_arg0)) (m ((c : Thread nD τ).loc main_arg3)) (m ((c : Thread nD τ).loc main_arg4))
  (m ((c : Thread nD τ).loc main_arg5)) (m ((c : Thread nD τ).loc main_arg6)) (m ((c : Thread nD τ).loc main_arg7))

theorem blkOk (c : Dev nD) (H : FinM m c) (t : Fin cfg0.N) (b : Fin 4) (hb : (b : ℕ) = t.val / 32) :
    BlkOk (seqs H b) (t.val % 32 * 128) (iblk m c 0 t) (iblk m c 2 t) (iblk m c 3 t) (iblk m c 4 t) (iblk m c 5 t) := by
  have hlt : t.val % 32 < 32 := Nat.mod_lt _ (by decide)
  refine ⟨fun i l => ?_, fun i h => ?_, fun i h => ?_, fun k l => ?_, fun h => ?_, fun h => ?_⟩
  · refine (rd0 m c t 0 i l b ⟨t.val % 32 * 128 + i, by omega⟩ hb rfl).trans (xpad_at _ b _ _ l ?_).symm
    show t.val % 32 * 128 + (8 + (i : ℕ)) = t.val % 32 * 128 + i + 8; omega
  · refine (rd2 m c t 0 i _ b ⟨t.val % 32 * 128 + i, by omega⟩ hb rfl).trans ?_
    rw [v1, small_a _ _ _ b _ h _ rfl]
    exact (nrow_at _ b _ _ h rfl).symm
  · refine (rd2 m c t 0 i _ b ⟨t.val % 32 * 128 + i, by omega⟩ hb rfl).trans ?_
    rw [v1, small_b _ _ _ b _ h _ rfl]
    exact (nrow_at _ b _ _ h rfl).symm
  · exact (rd3 m c t k l).trans ((congrFun (v14 m c) _).trans (v14_at _ _ k l))
  · exact (rd4 m c t _).trans ((congrFun (v7 m c) _).trans (Cert.KernelIdeal.Value.set48_at _ h _ rfl))
  · exact (rd5 m c t _).trans ((congrFun (v13 m c) _).trans (Cert.KernelIdeal.Value.set48_at _ h _ rfl))

/-- What every grid point leaves. -/
theorem points (c : Dev nD) (H : FinM m c) : ∀ (n : ℕ) (hn : n < cfg0.N) (b : Fin 4) (hb : (b : ℕ) = n / 32),
    PointOk (seqs H b) (n % 32 * 128) (iblk m c 1 ⟨n, hn⟩) (iblk m c 6 ⟨n, hn⟩) (outsAt0 m c n hn).1 (outsAt0 m c n hn).2.2.1 (outsAt0 m c n hn).2.2.2 := by
  intro n
  induction n using Nat.strong_induction_on with
  | _ n ih =>
    intro hn b hb
    have B := blkOk m c H ⟨n, hn⟩ b hb
    have hN : n < 128 := lt_of_lt_of_eq hn (show cfg0.N = 128 from N_0)
    by_cases h0 : n % 32 = 0
    · have e := outsAt0_A m c ⟨n, hn⟩ h0 (by show ¬ n % 32 = 31; omega)
      have B' : BlkOk (seqs H b) 0 (iblk m c 0 ⟨n, hn⟩) (iblk m c 2 ⟨n, hn⟩) (iblk m c 3 ⟨n, hn⟩) (iblk m c 4 ⟨n, hn⟩) (iblk m c 5 ⟨n, hn⟩) := by
        simpa only [h0, Nat.zero_mul] using B
      rw [show n % 32 * 128 = 0 by rw [h0, Nat.zero_mul], show outsAt0 m c n hn = _ from e]
      dsimp only
      exact point_A (hb := B') ..
    · have P := ih (n - 1) (by omega) (by omega) b (by omega)
      have e128 : (n - 1) % 32 * 128 + 128 = n % 32 * 128 := by omega
      have hr := P.rows
      have hs := P.st
      rw [e128] at hr hs
      by_cases h1 : n % 32 = 31
      · rw [show outsAt0 m c n hn = _ from outsAt0_C m c ⟨n, hn⟩ h0 h1]
        dsimp only
        rw [show (outsAt0 m c (n - 1) _).2.2.2 = _ from hs]
        exact point_C (hb := B) (hr := hr) ..
      · rw [show outsAt0 m c n hn = _ from outsAt0_B m c ⟨n, hn⟩ h0 h1]
        dsimp only
        rw [show (outsAt0 m c (n - 1) _).2.2.2 = _ from hs]
        exact point_B (hb := B) (hr := hr) ..

/-- The states a batch element's last point stores. -/
theorem last (c : Dev nD) (H : FinM m c) (n : ℕ) (hn : n < cfg0.N) (b : Fin 4) (hb : (b : ℕ) = n / 32) (h1 : n % 32 = 31) (h : Fin 8) (d e : Fin 128) :
    (outsAt0 m c n hn).2.1 (ix4 0 h d e) = sts (seqs H b) 4096 (ix3 h d e) := by
  have B := blkOk m c H ⟨n, hn⟩ b hb
  have hN : n < 128 := lt_of_lt_of_eq hn (show cfg0.N = 128 from N_0)
  have P := points m c H (n - 1) (by omega) b (by omega)
  have e128 : (n - 1) % 32 * 128 + 128 = n % 32 * 128 := by omega
  have hr := P.rows
  have hs := P.st
  rw [e128] at hr hs
  rw [show outsAt0 m c n hn = _ from outsAt0_C m c ⟨n, hn⟩ (by show ¬ n % 32 = 0; omega) h1]
  dsimp only
  rw [show (outsAt0 m c (n - 1) _).2.2.2 = _ from hs]
  refine (final_at (hb := B) (hr := hr) (h := h) (d := d) (e := e) ..).trans ?_
  rw [show n % 32 * 128 + 128 = 4096 by omega]

/-- The outputs, from the arrays. -/
theorem G7_at (c : Dev nD) (H : FinM m c) (b : Fin 4) (s : Fin 4096) (h : Fin 8) (e : Fin 128) :
    G7 m c (ix3 b s (⟨128 * (h : ℕ) + e, by omega⟩ : Fin 1024))
      = gated (fun l => (((seqs H b).T h).out (fun _ _ => 0) s l : EReal)) (fun l => m ((c : Thread nD τ).loc main_arg8) (ix2 0 l))
        (fun l => m ((c : Thread nD τ).loc main_arg1) (ix3 b s (⟨128 * (h : ℕ) + l, by omega⟩ : Fin 1024))) e := by
  have hN : cfg0.N = 128 := N_0
  have hp : pt7Of (ix3 b s (⟨128 * (h : ℕ) + e, by omega⟩ : Fin 1024)) = 32 * (b : ℕ) + (s : ℕ) / 128 := by
    show 32 * ((b : ℕ) / 1 - 0) + 1 * ((s : ℕ) / 128 - 0) + 1 * ((128 * (h : ℕ) + (e : ℕ)) / 1024 - 0) = _
    omega
  unfold G7
  rw [dif_pos (by rw [hp, hN]; omega), fold0_congr m c _ _ (32 * (b : ℕ) + (s : ℕ) / 128) (by rw [hN]; omega) hp,
    ← outsAt0_sweep m c (32 * (b : ℕ) + (s : ℕ) / 128) (by rw [hN]; omega)]
  have P := points m c H (32 * (b : ℕ) + (s : ℕ) / 128) (by rw [hN]; omega) b (by omega)
  have hi : loc7Of (ix3 b s (⟨128 * (h : ℕ) + e, by omega⟩ : Fin 1024)) = ix3 0 (⟨(s : ℕ) % 128, by omega⟩ : Fin 128) (⟨128 * (h : ℕ) + e, by omega⟩ : Fin 1024) := by
    funext a
    refine Fin.ext ?_
    fin_cases a
    · show (b : ℕ) % 1 = 0; omega
    · rfl
    · show (128 * (h : ℕ) + (e : ℕ)) % 1024 = 128 * h + e; omega
  rw [hi, P.out]
  have hs : (32 * (b : ℕ) + (s : ℕ) / 128) % 32 * 128 + (s : ℕ) % 128 = s := by omega
  simp only [rd6, hs]
  congr 1
  funext l
  exact rd1 m c _ 0 _ _ b s (by show (b : ℕ) = (32 * (b : ℕ) + (s : ℕ) / 128) / 32; omega) hs.symm

/-- The states, from the arrays. -/
theorem G8_at (c : Dev nD) (H : FinM m c) (b : Fin 4) (h : Fin 8) (d e : Fin 128) :
    G8 m c (ix4 b h d e) = (((seqs H b).T h).state (fun _ _ => 0) 4096 d e : EReal) := by
  have hN : cfg0.N = 128 := N_0
  have hp : pt8Of (ix4 b h d e) = 32 * (b : ℕ) + 31 := by
    show 32 * (1 * ((b : ℕ) / 1 - 0) + 1 * ((h : ℕ) / 8 - 0) + 1 * ((d : ℕ) / 128 - 0) + 1 * ((e : ℕ) / 128 - 0)) + 31 = _
    omega
  unfold G8
  rw [dif_pos (by rw [hp, hN]; omega), fold0_congr m c _ _ (32 * (b : ℕ) + 31) (by rw [hN]; omega) hp,
    ← outsAt0_sweep m c (32 * (b : ℕ) + 31) (by rw [hN]; omega)]
  have hi : loc8Of (ix4 b h d e) = ix4 0 h d e := by
    funext a
    refine Fin.ext ?_
    fin_cases a
    · show (b : ℕ) % 1 = 0; omega
    · show (h : ℕ) % 8 = h; omega
    · show (d : ℕ) % 128 = d; omega
    · show (e : ℕ) % 128 = e; omega
  rw [hi, last m c H _ _ b (by omega) (by omega) h d e]
  rfl

end Cert.Kernel9Ideal.Value

end
-- ==== Proof.DnpRef.lean ====
module

public import proofs.«01_k».proof.Proof.DnpSeq
public import proofs.«01_k».proof.Proof.Gen.Reference9Ideal.Run

/-! The recurrence, token by token: what the plain program keeps before its loop, and what a trip of the loop makes of it. -/

@[expose] public section

set_option maxRecDepth 16384

noncomputable section

namespace Cert.Reference9Ideal.Value

open Cert.Reference9Ideal Cert.Reference9Ideal.Gen Idealize.ShloMosaic Idealize.ShloMosaic.TcCoe Idealize.ShloMosaic.StableHlo Idealize.SL.Sem
open Cert.Proof Cert.Kernel9Ideal.Value.Chunk
open scoped BigOperators

/-- The rows, three rows of zeros before them. -/
def rX (a0 : FVec Ideal S4x4096x3072 .f32) : FVec Ideal S4x4099x3072 .f32 :=
  concatenate S4x4099x3072 1 [⟨S4x3x3072, broadcastInDim S4x3x3072 ![] bcast_S_S4x3x3072 (constant S_ .f32 0x00000000#32)⟩, ⟨S4x4096x3072, a0⟩]
    concatenates_S4x3x3072_S4x4096x3072_S4x4099x3072_d1

/-- A tap's row, under every row. -/
def rW (w : FVec Ideal S1x3072 .f32) : FVec Ideal S4x4096x3072 .f32 :=
  broadcastInDim S4x4096x3072 ![0, 1, 2] bcast_S1x1x3072_S4x4096x3072_0_1_2 (broadcastInDim S1x1x3072 ![2] bcast_S3072_S1x1x3072_2
    (shapeCast S3072 w shapeCasts_S1x3072_S3072))

/-- The convolution. -/
def rC (x : FVec Ideal S4x4099x3072 .f32) (w : FVec Ideal S4x3072 .f32) : FVec Ideal S4x4096x3072 .f32 :=
  addf (addf (addf
    (mulf (rW (extractStridedSlice S1x3072 ![0, 0] w slices_S4x3072_S1x3072_0_0)) (extractStridedSlice S4x4096x3072 ![0, 0, 0] x slices_S4x4099x3072_S4x4096x3072_0_0_0))
    (mulf (rW (extractStridedSlice S1x3072 ![1, 0] w slices_S4x3072_S1x3072_1_0)) (extractStridedSlice S4x4096x3072 ![0, 1, 0] x slices_S4x4099x3072_S4x4096x3072_0_1_0)))
    (mulf (rW (extractStridedSlice S1x3072 ![2, 0] w slices_S4x3072_S1x3072_2_0)) (extractStridedSlice S4x4096x3072 ![0, 2, 0] x slices_S4x4099x3072_S4x4096x3072_0_2_0)))
    (mulf (rW (extractStridedSlice S1x3072 ![3, 0] w slices_S4x3072_S1x3072_3_0)) (extractStridedSlice S4x4096x3072 ![0, 3, 0] x slices_S4x4099x3072_S4x4096x3072_0_3_0))

/-- The unit after it. -/
def rU (y : FVec Ideal S4x4096x3072 .f32) : FVec Ideal S4x4096x3072 .f32 :=
  mulf y (Host.divf (broadcastInDim S4x4096x3072 ![] bcast_S_S4x4096x3072 (constant S_ .f32 0x3F800000#32))
    (addf (broadcastInDim S4x4096x3072 ![] bcast_S_S4x4096x3072 (constant S_ .f32 0x3F800000#32)) (Host.exp (Host.negf y))))

/-- Rows of heads, each divided by its length. -/
def rL (q : FVec Ideal S4x4096x8x128 .f32) : FVec Ideal S4x4096x8x128 .f32 :=
  mulf q (broadcastInDim S4x4096x8x128 ![0, 1, 2, 3] bcast_S4x4096x8x1_S4x4096x8x128_0_1_2_3 (Host.rsqrt (addf
    (broadcastInDim S4x4096x8x1 ![0, 1, 2] bcast_S4x4096x8_S4x4096x8x1_0_1_2
      (Host.reduceAdd (mulf q q) (constant S_ .f32 0x00000000#32) reducesTo_S4x4096x8x128_S4x4096x8_d3 h_S_))
    (broadcastInDim S4x4096x8x1 ![] bcast_S_S4x4096x8x1 (constant S_ .f32 0x358637BD#32)))))

/-- Tokens first. -/
def rT (q : FVec Ideal S4x4096x8x128 .f32) : FVec Ideal S4096x4x8x128 .f32 :=
  transpose S4096x4x8x128 [1, 0, 2, 3] q transposes_S4x4096x8x128_S4096x4x8x128_1_0_2_3

def rQ (y : FVec Ideal S4x4096x3072 .f32) : FVec Ideal S4096x4x8x128 .f32 :=
  rT (mulf (rL (shapeCast S4x4096x8x128 (extractStridedSlice S4x4096x1024 ![0, 0, 0] y slices_S4x4096x3072_S4x4096x1024_0_0_0) shapeCasts_S4x4096x1024_S4x4096x8x128))
    (broadcastInDim S4x4096x8x128 ![] bcast_S_S4x4096x8x128 (constant S_ .f32 0x3DB504F3#32)))

def rK (y : FVec Ideal S4x4096x3072 .f32) : FVec Ideal S4096x4x8x128 .f32 :=
  rT (rL (shapeCast S4x4096x8x128 (extractStridedSlice S4x4096x1024 ![0, 0, 1024] y slices_S4x4096x3072_S4x4096x1024_0_0_1024) shapeCasts_S4x4096x1024_S4x4096x8x128))

def rV (y : FVec Ideal S4x4096x3072 .f32) : FVec Ideal S4096x4x8x128 .f32 :=
  rT (shapeCast S4x4096x8x128 (extractStridedSlice S4x4096x1024 ![0, 0, 2048] y slices_S4x4096x3072_S4x4096x1024_0_0_2048) shapeCasts_S4x4096x1024_S4x4096x8x128)

/-- The steps before the decays. -/
def rD (a3 : FVec Ideal S4x4096x8 .f32) (a7 : FVec Ideal S1x8 .f32) : FVec Ideal S4x4096x8 .f32 :=
  addf a3 (broadcastInDim S4x4096x8 ![0, 1, 2] bcast_S1x1x8_S4x4096x8_0_1_2 (broadcastInDim S1x1x8 ![2] bcast_S8_S1x1x8_2 (shapeCast S8 a7 shapeCasts_S1x8_S8)))

/-- A number, for every token and head. -/
def rN (w : BitVec 32) : FVec Ideal S4x4096x8 .f32 := broadcastInDim S4x4096x8 ![] bcast_S_S4x4096x8 (constant S_ .f32 w)

/-- The logarithms of the decays. -/
def rG (d : FVec Ideal S4x4096x8 .f32) (a6 : FVec Ideal S1x8 .f32) : FVec Ideal S4096x4x8 .f32 :=
  transpose S4096x4x8 [1, 0, 2] (mulf
    (broadcastInDim S4x4096x8 ![0, 1, 2] bcast_S1x1x8_S4x4096x8_0_1_2 (broadcastInDim S1x1x8 ![2] bcast_S8_S1x1x8_2 (Host.negf (Host.exp (shapeCast S8 a6 shapeCasts_S1x8_S8)))))
    (select (cmpf .une (subf d (rN 0x00000000#32)) (subf d (rN 0x00000000#32))) (addf d (rN 0x00000000#32))
      (addf (maximumf d (rN 0x00000000#32)) (Host.log1p (Host.exp (Host.negf (Host.absf (subf d (rN 0x00000000#32)))))))))
    transposes_S4x4096x8_S4096x4x8_1_0_2

/-- The write strengths. -/
def rB (a4 : FVec Ideal S4x4096x8 .f32) : FVec Ideal S4096x4x8 .f32 :=
  transpose S4096x4x8 [1, 0, 2] (Host.divf (rN 0x3F800000#32) (addf (rN 0x3F800000#32) (Host.exp (Host.negf a4)))) transposes_S4x4096x8_S4096x4x8_1_0_2

theorem rX_old (a0 : FVec Ideal S4x4096x3072 .f32) (b : Fin 4) (n : Fin 4099) (l : Fin 3072) (h : (n : ℕ) < 3) : rX a0 (ix3 b n l) = 0 := by
  pointwise [rX, h]

theorem rX_new (a0 : FVec Ideal S4x4096x3072 .f32) (b : Fin 4) (n : Fin 4099) (l : Fin 3072) (h : ¬ (n : ℕ) < 3) :
    rX a0 (ix3 b n l) = a0 (ix3 b ⟨(n : ℕ) - 3, by omega⟩ l) := by
  pointwise [rX, h]

theorem rX_at (a0 : FVec Ideal S4x4096x3072 .f32) (b : Fin 4) (n : Fin 4099) (l : Fin 3072) (w : ℕ) (hw : w = n + 5) : rX a0 (ix3 b n l) = xpad a0 b w l := by
  by_cases h : (n : ℕ) < 3
  · rw [rX_old a0 b n l h, xpad, dif_neg (by omega)]
  · rw [rX_new a0 b n l h]
    exact (xpad_at a0 b _ w l (by simp only []; omega)).symm

theorem rW_at (w : FVec Ideal S1x3072 .f32) (b : Fin 4) (n : Fin 4096) (l : Fin 3072) : rW w (ix3 b n l) = w (ix2 0 l) := by
  pointwise [rW]

theorem rC_at (x : FVec Ideal S4x4099x3072 .f32) (w : FVec Ideal S4x3072 .f32) (b : Fin 4) (n : Fin 4096) (l : Fin 3072) :
    rC x w (ix3 b n l) = w (ix2 0 l) * x (ix3 b ⟨n, by omega⟩ l) + w (ix2 1 l) * x (ix3 b ⟨n + 1, by omega⟩ l)
      + w (ix2 2 l) * x (ix3 b ⟨n + 2, by omega⟩ l) + w (ix2 3 l) * x (ix3 b ⟨n + 3, by omega⟩ l) := by
  pointwise [rC, rW_at]
  simp only [Nat.add_comm]

theorem rU_at (y : FVec Ideal S4x4096x3072 .f32) (b : Fin 4) (n : Fin 4096) (l : Fin 3072) : rU y (ix3 b n l) = unit (y (ix3 b n l)) := by
  pointwise [rU]
  rfl

theorem w_at (A : FVec Ideal S1x4x3072 .f32) (h : S1x4x3072.ShapeCasts S4x3072) (k : Fin 4) (l : Fin 3072) : shapeCast S4x3072 A h (ix2 k l) = A (ix3 0 k l) := by
  pointwise

/-- The convolved rows, from the arrays. -/
def rY (a0 : FVec Ideal S4x4096x3072 .f32) (a5 : FVec Ideal S1x4x3072 .f32) : FVec Ideal S4x4096x3072 .f32 :=
  rU (rC (rX a0) (shapeCast S4x3072 a5 shapeCasts_S1x4x3072_S4x3072))

theorem rY_at (a0 : FVec Ideal S4x4096x3072 .f32) (a5 : FVec Ideal S1x4x3072 .f32) (b : Fin 4) (n : Fin 4096) (l : Fin 3072) :
    rY a0 a5 (ix3 b n l) = yseq (xpad a0 b) (fun k l => a5 (ix3 0 k l)) n l := by
  unfold rY
  rw [rU_at, rC_at, w_at, w_at, w_at, w_at, rX_at a0 b _ l (n + 5) rfl, rX_at a0 b _ l (n + 6) rfl,
    rX_at a0 b _ l (n + 7) rfl, rX_at a0 b _ l (n + 8) rfl]
  unfold yseq
  dsimp only
  refine congrArg unit ?_
  ac_rfl

/-- A row of 128 columns from a column on. -/
def row (y : FVec Ideal S4x4096x3072 .f32) (b : Fin 4) (n : Fin 4096) (o : ℕ) (ho : o + 128 ≤ 3072) (j : Fin 128) : EReal :=
  y (ix3 b n ⟨o + (j : ℕ), by omega⟩)

theorem rL_at (q : FVec Ideal S4x4096x8x128 .f32) (b : Fin 4) (n : Fin 4096) (h : Fin 8) (d : Fin 128) :
    rL q (ix4 b n h d) = l2 (fun d => q (ix4 b n h d)) d := by
  pointwise [rL]
  rfl

theorem rT_at (q : FVec Ideal S4x4096x8x128 .f32) (b : Fin 4) (n : Fin 4096) (h : Fin 8) (d : Fin 128) : rT q (ix4 n b h d) = q (ix4 b n h d) := by
  pointwise [rT]

theorem cut_at (y : FVec Ideal S4x4096x3072 .f32) (o : ℕ) (hs : S4x4096x3072.Slices ![0, 0, o] S4x4096x1024) (hc : S4x4096x1024.ShapeCasts S4x4096x8x128) (ho : o + 1024 ≤ 3072)
    (b : Fin 4) (n : Fin 4096) (h : Fin 8) (d : Fin 128) :
    shapeCast S4x4096x8x128 (extractStridedSlice S4x4096x1024 ![0, 0, o] y hs) hc (ix4 b n h d) = row y b n (o + 128 * (h : ℕ)) (by omega) d := by
  pointwise [row]
  have i : (⟨o + ((h : ℕ) * 128 + (d : ℕ)), by omega⟩ : Fin 3072) = ⟨o + 128 * (h : ℕ) + (d : ℕ), by omega⟩ := Fin.ext (by simp only []; omega)
  rw [i]

theorem rQ_at (y : FVec Ideal S4x4096x3072 .f32) (b : Fin 4) (n : Fin 4096) (h : Fin 8) (d : Fin 128) :
    rQ y (ix4 n b h d) = qrow (row y b n (0 + 128 * (h : ℕ)) (by omega)) d := by
  unfold rQ
  rw [rT_at]
  refine (show mulf _ _ (ix4 b n h d) = rL _ (ix4 b n h d) * Ideal.ofBits .f32 0x3DB504F3#32 from by pointwise; rfl).trans ?_
  rw [rL_at]
  simp only [cut_at y 0 _ _ (by decide)]
  rfl

theorem rK_at (y : FVec Ideal S4x4096x3072 .f32) (b : Fin 4) (n : Fin 4096) (h : Fin 8) (d : Fin 128) :
    rK y (ix4 n b h d) = l2 (row y b n (1024 + 128 * (h : ℕ)) (by omega)) d := by
  unfold rK
  rw [rT_at, rL_at]
  simp only [cut_at y 1024 _ _ (by decide)]

theorem rV_at (y : FVec Ideal S4x4096x3072 .f32) (b : Fin 4) (n : Fin 4096) (h : Fin 8) (d : Fin 128) :
    rV y (ix4 n b h d) = row y b n (2048 + 128 * (h : ℕ)) (by omega) d := by
  unfold rV
  rw [rT_at, cut_at y 2048 _ _ (by decide)]

theorem rD_at (a3 : FVec Ideal S4x4096x8 .f32) (a7 : FVec Ideal S1x8 .f32) (b : Fin 4) (n : Fin 4096) (h : Fin 8) :
    rD a3 a7 (ix3 b n h) = a3 (ix3 b n h) + a7 (ix2 0 h) := by
  pointwise [rD]

theorem rG_at (d : FVec Ideal S4x4096x8 .f32) (a6 : FVec Ideal S1x8 .f32) (b : Fin 4) (n : Fin 4096) (h : Fin 8) :
    rG d a6 (ix3 n b h) = gate (a6 (ix2 0 h)) (d (ix3 b n h)) := by
  pointwise [rG, rN]
  simp only [ne_eq, not_true_eq_false, if_false]
  rfl

theorem rB_at (a4 : FVec Ideal S4x4096x8 .f32) (b : Fin 4) (n : Fin 4096) (h : Fin 8) : rB a4 (ix3 n b h) = sg (a4 (ix3 b n h)) := by
  pointwise [rB, rN]
  rfl

section

variable (m : (ℓ : Loc nD τ sig) → Buf (Elt Ideal) ℓ) (c : Dev nD)

/-- The queries before the loop. -/
theorem entry0 : entryContents preI m c (Proc.devRef .tc main_v79_0)
    = rQ (rY (m ((c.tc : Thread nD τ).loc main_arg0)) (m ((c.tc : Thread nD τ).loc main_arg5))) := by
  simp only [entryContents, afterL_cons, afterL_nil]
  after_results_simp <;> rfl

/-- The keys before the loop. -/
theorem entry1 : entryContents preI m c (Proc.devRef .tc main_v79_1)
    = rK (rY (m ((c.tc : Thread nD τ).loc main_arg0)) (m ((c.tc : Thread nD τ).loc main_arg5))) := by
  simp only [entryContents, afterL_cons, afterL_nil]
  after_results_simp <;> rfl

/-- The values before the loop. -/
theorem entry2 : entryContents preI m c (Proc.devRef .tc main_v79_2)
    = rV (rY (m ((c.tc : Thread nD τ).loc main_arg0)) (m ((c.tc : Thread nD τ).loc main_arg5))) := by
  simp only [entryContents, afterL_cons, afterL_nil]
  after_results_simp <;> rfl

/-- The logarithms of the decays before the loop. -/
theorem entry3 : entryContents preI m c (Proc.devRef .tc main_v79_3)
    = rG (rD (m ((c.tc : Thread nD τ).loc main_arg3)) (m ((c.tc : Thread nD τ).loc main_arg7))) (m ((c.tc : Thread nD τ).loc main_arg6)) := by
  simp only [entryContents, afterL_cons, afterL_nil]
  after_results_simp <;> rfl

/-- The write strengths before the loop. -/
theorem entry4 : entryContents preI m c (Proc.devRef .tc main_v79_4) = rB (m ((c.tc : Thread nD τ).loc main_arg4)) := by
  simp only [entryContents, afterL_cons, afterL_nil]
  after_results_simp <;> rfl

/-- The states before the loop. -/
theorem entry6 : entryContents preI m c (Proc.devRef .tc main_v79_6)
    = (broadcastInDim S4x8x128x128 ![] bcast_S_S4x8x128x128 (constant S_ .f32 0x00000000#32) : FVec Ideal S4x8x128x128 .f32) := by
  simp only [entryContents, afterL_cons, afterL_nil]
  after_results_simp <;> rfl

end

end Cert.Reference9Ideal.Value

end
-- ==== Proof.DnpLoop.lean ====
module

public import proofs.«01_k».proof.Proof.DnpRef
public import Idealize.ShloMosaic.Lib.WordCmp

/-! The loop of the plain program: after `k` trips it keeps the recurrence's state after `k` tokens and the outputs of those tokens. -/

@[expose] public section

set_option maxRecDepth 16384

noncomputable section

namespace Cert.Reference9Ideal.Value

open Cert.Reference9Ideal Cert.Reference9Ideal.Gen Idealize.ShloMosaic Idealize.ShloMosaic.TcCoe Idealize.ShloMosaic.StableHlo Idealize.SL.Sem
open Cert.Proof Cert.Kernel9Ideal.Value.Chunk
open scoped BigOperators

/-- The counter at a trip. -/
def word (n : ℕ) : (⟨S_, .i32⟩ : BufTy).Contents (Elt Ideal) := fun _ => BitVec.ofNat 32 n

/-- Where a trip reads and writes, four axes. -/
def at4 (w : (⟨S_, .i32⟩ : BufTy).Contents (Elt Ideal)) : Fin 4 → Int := fun k =>
  (((![w, constantI S_ 32 0#32, constantI S_ 32 0#32, constantI S_ 32 0#32] : Fin 4 → (⟨S_, .i32⟩ : BufTy).Contents (Elt Ideal))) k (Shape.Idx.first h_S_)).toInt

/-- Where a trip reads, three axes. -/
def at3 (w : (⟨S_, .i32⟩ : BufTy).Contents (Elt Ideal)) : Fin 3 → Int := fun k =>
  (((![w, constantI S_ 32 0#32, constantI S_ 32 0#32] : Fin 3 → (⟨S_, .i32⟩ : BufTy).Contents (Elt Ideal))) k (Shape.Idx.first h_S_)).toInt

/-- A token's rows. -/
def tok4 (X : FVec Ideal S4096x4x8x128 .f32) (w : (⟨S_, .i32⟩ : BufTy).Contents (Elt Ideal)) : FVec Ideal S4x8x128 .f32 :=
  shapeCast S4x8x128 (Host.dynamicSlice S1x4x8x128 X (at4 w) sliceFits_S4096x4x8x128_S1x4x8x128) shapeCasts_S1x4x8x128_S4x8x128

/-- A token's numbers. -/
def tok3 (X : FVec Ideal S4096x4x8 .f32) (w : (⟨S_, .i32⟩ : BufTy).Contents (Elt Ideal)) : FVec Ideal S4x8 .f32 :=
  shapeCast S4x8 (Host.dynamicSlice S1x4x8 X (at3 w) sliceFits_S4096x4x8_S1x4x8) shapeCasts_S1x4x8_S4x8

/-- The decayed states. -/
def dec (S : FVec Ideal S4x8x128x128 .f32) (g : FVec Ideal S4x8 .f32) : FVec Ideal S4x8x128x128 .f32 :=
  mulf S (broadcastInDim S4x8x128x128 ![0, 1, 2, 3] bcast_S4x8x1x1_S4x8x128x128_0_1_2_3 (broadcastInDim S4x8x1x1 ![0, 1] bcast_S4x8_S4x8x1x1_0_1 (Host.exp g)))

/-- Rows against states. -/
def dots (k : FVec Ideal S4x8x128 .f32) (S : FVec Ideal S4x8x128x128 .f32) : FVec Ideal S4x8x128 .f32 :=
  Host.dotGeneral dot_S4x8x128_S4x8x128x128_S4x8x128_2_2_n_3_01_01 none k S

/-- The decayed states with what the token writes. -/
def wrt (S : FVec Ideal S4x8x128x128 .f32) (k v : FVec Ideal S4x8x128 .f32) (b : FVec Ideal S4x8 .f32) : FVec Ideal S4x8x128x128 .f32 :=
  addf S (mulf
    (broadcastInDim S4x8x128x128 ![0, 1, 2, 3] bcast_S4x8x128x1_S4x8x128x128_0_1_2_3 (broadcastInDim S4x8x128x1 ![0, 1, 2] bcast_S4x8x128_S4x8x128x1_0_1_2 k))
    (broadcastInDim S4x8x128x128 ![0, 1, 2, 3] bcast_S4x8x1x128_S4x8x128x128_0_1_2_3 (broadcastInDim S4x8x1x128 ![0, 1, 3] bcast_S4x8x128_S4x8x1x128_0_1_3
      (mulf (broadcastInDim S4x8x128 ![0, 1, 2] bcast_S4x8x1_S4x8x128_0_1_2 (broadcastInDim S4x8x1 ![0, 1] bcast_S4x8_S4x8x1_0_1 b)) (subf v (dots k S))))))

/-- A token's outputs, put among the others. -/
def put (O : FVec Ideal S4096x4x8x128 .f32) (o : FVec Ideal S4x8x128 .f32) (w : (⟨S_, .i32⟩ : BufTy).Contents (Elt Ideal)) : FVec Ideal S4096x4x8x128 .f32 :=
  Host.dynamicUpdateSlice O (broadcastInDim S1x4x8x128 ![1, 2, 3] bcast_S4x8x128_S1x4x8x128_1_2_3 o) (at4 w) updateFits_S4096x4x8x128_S1x4x8x128

theorem at4_eq (n : ℕ) (hn : n < 4096) (k : Fin 4) : at4 (word n) k = ((![n, 0, 0, 0] : Fin 4 → ℕ) k : Int) := by
  fin_cases k
  · exact WordCmp.toInt_ofNat_of_lt (by show n < 2 ^ 31; omega)
  all_goals rfl

theorem at3_eq (n : ℕ) (hn : n < 4096) (k : Fin 3) : at3 (word n) k = ((![n, 0, 0] : Fin 3 → ℕ) k : Int) := by
  fin_cases k
  · exact WordCmp.toInt_ofNat_of_lt (by show n < 2 ^ 31; omega)
  all_goals rfl

theorem fit4 (n : ℕ) (hn : n < 4096) : S4096x4x8x128.Slices ![n, 0, 0, 0] S1x4x8x128 :=
  ⟨rfl, fun a => by fin_cases a <;> (first | (show n + 1 ≤ 4096; omega) | exact Nat.le_refl _)⟩

theorem fit3 (n : ℕ) (hn : n < 4096) : S4096x4x8.Slices ![n, 0, 0] S1x4x8 :=
  ⟨rfl, fun a => by fin_cases a <;> (first | (show n + 1 ≤ 4096; omega) | exact Nat.le_refl _)⟩

theorem tok4_at (X : FVec Ideal S4096x4x8x128 .f32) (n : Fin 4096) (b : Fin 4) (h : Fin 8) (d : Fin 128) : tok4 X (word n) (ix3 b h d) = X (ix4 n b h d) := by
  unfold tok4
  rw [WordCmp.dynamicSlice_eq_extract _ X _ _ ![(n : ℕ), 0, 0, 0] (fit4 n n.isLt) (at4_eq n n.isLt)]
  pointwise

theorem tok3_at (X : FVec Ideal S4096x4x8 .f32) (n : Fin 4096) (b : Fin 4) (h : Fin 8) : tok3 X (word n) (ix2 b h) = X (ix3 n b h) := by
  unfold tok3
  rw [WordCmp.dynamicSlice_eq_extract _ X _ _ ![(n : ℕ), 0, 0] (fit3 n n.isLt) (at3_eq n n.isLt)]
  pointwise

theorem put_at (O : FVec Ideal S4096x4x8x128 .f32) (o : FVec Ideal S4x8x128 .f32) (n k : Fin 4096) (b : Fin 4) (h : Fin 8) (d : Fin 128) :
    put O o (word n) (ix4 k b h d) = if k = n then o (ix3 b h d) else O (ix4 k b h d) := by
  unfold put
  rw [WordCmp.dynamicUpdateSlice_eq_update O _ _ _ ![(n : ℕ), 0, 0, 0] (fit4 n n.isLt) (at4_eq n n.isLt)]
  by_cases e : k = n
  · subst e
    pointwise
    simp
  · rw [if_neg e]
    have e' := Fin.val_ne_of_ne e
    pointwise
    exact dif_neg (by omega)

theorem dec_at (S : FVec Ideal S4x8x128x128 .f32) (g : FVec Ideal S4x8 .f32) (b : Fin 4) (h : Fin 8) (d e : Fin 128) :
    dec S g (ix4 b h d e) = S (ix4 b h d e) * Ideal.exp (g (ix2 b h)) := by
  pointwise [dec]

theorem dots_at (k : FVec Ideal S4x8x128 .f32) (S : FVec Ideal S4x8x128x128 .f32) (b : Fin 4) (h : Fin 8) (e : Fin 128) :
    dots k S (ix3 b h e) = ∑ d : Fin 128, k (ix3 b h d) * S (ix4 b h d e) := by
  pointwise [dots]

theorem wrt_at (S : FVec Ideal S4x8x128x128 .f32) (k v : FVec Ideal S4x8x128 .f32) (be : FVec Ideal S4x8 .f32) (b : Fin 4) (h : Fin 8) (d e : Fin 128) :
    wrt S k v be (ix4 b h d e) = S (ix4 b h d e) + k (ix3 b h d) * (be (ix2 b h) * (v (ix3 b h e) - dots k S (ix3 b h e))) := by
  pointwise [wrt]

/-- The rows the loop reads are the tokens'. -/
structure Reads (V : Valuation τ sig (Elt Ideal)) (T : Fin 4 → Fin 8 → Toks) : Prop where
  q : ∀ (n : Fin 4096) b h d, (V (Proc.devRef .tc main_v79_0) : FVec Ideal S4096x4x8x128 .f32) (ix4 n b h d) = ((T b h).q n d : EReal)
  k : ∀ (n : Fin 4096) b h d, (V (Proc.devRef .tc main_v79_1) : FVec Ideal S4096x4x8x128 .f32) (ix4 n b h d) = ((T b h).k n d : EReal)
  v : ∀ (n : Fin 4096) b h d, (V (Proc.devRef .tc main_v79_2) : FVec Ideal S4096x4x8x128 .f32) (ix4 n b h d) = ((T b h).v n d : EReal)
  g : ∀ (n : Fin 4096) b h, (V (Proc.devRef .tc main_v79_3) : FVec Ideal S4096x4x8 .f32) (ix3 n b h) = ((T b h).g n : EReal)
  b : ∀ (n : Fin 4096) b h, (V (Proc.devRef .tc main_v79_4) : FVec Ideal S4096x4x8 .f32) (ix3 n b h) = ((T b h).b n : EReal)

/-- What the loop keeps after `k` trips. -/
structure Keeps (V : Valuation τ sig (Elt Ideal)) (T : Fin 4 → Fin 8 → Toks) (k : ℕ) : Prop where
  ctr : V (Proc.devRef .tc main_v79_5) = word k
  st : ∀ b h d e, (V (Proc.devRef .tc main_v79_6) : FVec Ideal S4x8x128x128 .f32) (ix4 b h d e) = ((T b h).state (fun _ _ => 0) k d e : EReal)
  out : ∀ (n : Fin 4096) b h e, (n : ℕ) < k →
    (V (Proc.devRef .tc main_v79_7) : FVec Ideal S4096x4x8x128 .f32) (ix4 n b h e) = ((T b h).out (fun _ _ => 0) n e : EReal)

theorem Reads.step {V : Valuation τ sig (Elt Ideal)} {T : Fin 4 → Fin 8 → Toks} (H : Reads V T) : Reads (STEP V) T where
  q := by rw [STEP_main_v79_0]; exact H.q
  k := by rw [STEP_main_v79_1]; exact H.k
  v := by rw [STEP_main_v79_2]; exact H.v
  g := by rw [STEP_main_v79_3]; exact H.g
  b := by rw [STEP_main_v79_4]; exact H.b

/-- The state a trip leaves. -/
def nxt (V : Valuation τ sig (Elt Ideal)) : FVec Ideal S4x8x128x128 .f32 :=
  wrt (dec (V (Proc.devRef .tc main_v79_6)) (tok3 (V (Proc.devRef .tc main_v79_3)) (V (Proc.devRef .tc main_v79_5))))
    (tok4 (V (Proc.devRef .tc main_v79_1)) (V (Proc.devRef .tc main_v79_5))) (tok4 (V (Proc.devRef .tc main_v79_2)) (V (Proc.devRef .tc main_v79_5)))
    (tok3 (V (Proc.devRef .tc main_v79_4)) (V (Proc.devRef .tc main_v79_5)))

theorem step6 (V : Valuation τ sig (Elt Ideal)) : STEP V (Proc.devRef .tc main_v79_6) = nxt V := (STEP_main_v79_6 V).trans rfl

theorem step7 (V : Valuation τ sig (Elt Ideal)) : STEP V (Proc.devRef .tc main_v79_7)
    = put (V (Proc.devRef .tc main_v79_7)) (dots (tok4 (V (Proc.devRef .tc main_v79_0)) (V (Proc.devRef .tc main_v79_5))) (nxt V)) (V (Proc.devRef .tc main_v79_5)) :=
  (STEP_main_v79_7 V).trans rfl

theorem nxt_at {V : Valuation τ sig (Elt Ideal)} {T : Fin 4 → Fin 8 → Toks} (H : Reads V T) (k : Fin 4096) (K : Keeps V T k) (b : Fin 4) (h : Fin 8) (d e : Fin 128) :
    nxt V (ix4 b h d e) = ((T b h).state (fun _ _ => 0) (k + 1) d e : EReal) := by
  unfold nxt
  rw [K.ctr, wrt_at, dots_at, tok4_at, tok3_at]
  simp only [dec_at, tok4_at, tok3_at, H.k, H.v, H.g, H.b, K.st, exp_coe]
  rw [show (T b h).state (fun _ _ => 0) (k + 1) d e = (T b h).next k ((T b h).state (fun _ _ => 0) k) d e from rfl]
  simp only [Toks.next, Toks.new, EReal.coe_add, EReal.coe_mul, EReal.coe_sub, coe_sum]

theorem Keeps.step {V : Valuation τ sig (Elt Ideal)} {T : Fin 4 → Fin 8 → Toks} (H : Reads V T) (k : Fin 4096) (K : Keeps V T k) : Keeps (STEP V) T (k + 1) where
  ctr := by
    rw [STEP_main_v79_5, step_main_v79_5, K.ctr]
    funext j
    show BitVec.ofNat 32 k + 1#32 = BitVec.ofNat 32 (k + 1)
    rw [BitVec.ofNat_add]
  st b h d e := by
    rw [step6]
    exact nxt_at H k K b h d e
  out n b h e hn := by
    rw [step7, K.ctr, put_at]
    split
    · next he =>
      subst he
      rw [dots_at]
      simp only [tok4_at, H.q, nxt_at H n K]
      simp only [Toks.out, EReal.coe_mul, coe_sum]
    · next he =>
      exact K.out n b h e (by have := Fin.val_ne_of_ne he; omega)

theorem loop {V : Valuation τ sig (Elt Ideal)} {T : Fin 4 → Fin 8 → Toks} (H : Reads V T) (K : Keeps V T 0) :
    ∀ k : ℕ, k ≤ 4096 → Reads (STEP^[k] V) T ∧ Keeps (STEP^[k] V) T k
  | 0, _ => ⟨H, K⟩
  | k + 1, hk => by
    obtain ⟨h, w⟩ := loop H K k (by omega)
    rw [Function.iterate_succ_apply']
    exact ⟨h.step, Keeps.step h ⟨k, by omega⟩ w⟩

section

variable {m : (ℓ : Loc nD τ sig) → Buf (Elt Ideal) ℓ} {c : Dev nD}
variable {A0 : FVec Ideal S4x4096x3072 .f32} {A3 A4 : FVec Ideal S4x4096x8 .f32} {A5 : FVec Ideal S1x4x3072 .f32} {A6 A7 : FVec Ideal S1x8 .f32}

theorem row_at (H : Fin9 A0 A3 A4 A5 A6 A7) (b : Fin 4) (n : Fin 4096) (o : ℕ) (ho : o + 128 ≤ 3072) :
    row (rY A0 A5) b n o ho = fun j : Fin 128 => ((seqs H b).Y n ⟨o + j, by omega⟩ : EReal) :=
  funext fun j => (rY_at A0 A5 b n _).trans ((seqs H b).hY n _)

/-- The loop begins with the tokens the arrays make. -/
theorem reads0 (H : Fin9 A0 A3 A4 A5 A6 A7) (e0 : m ((c.tc : Thread nD τ).loc main_arg0) = A0) (e3 : m ((c.tc : Thread nD τ).loc main_arg3) = A3)
    (e4 : m ((c.tc : Thread nD τ).loc main_arg4) = A4) (e5 : m ((c.tc : Thread nD τ).loc main_arg5) = A5) (e6 : m ((c.tc : Thread nD τ).loc main_arg6) = A6)
    (e7 : m ((c.tc : Thread nD τ).loc main_arg7) = A7) : Reads (entryContents preI m c) (fun b h => (seqs H b).T h) where
  q n b h d := by
    rw [entry0, e0, e5]
    refine (rQ_at _ b n h d).trans ?_
    rw [row_at H, qrow, l2_coe, qs_coe, ← EReal.coe_mul]
    have i : (fun j : Fin 128 => (seqs H b).Y n ⟨0 + 128 * (h : ℕ) + j, by omega⟩) = fun j : Fin 128 => (seqs H b).Y n ⟨128 * (h : ℕ) + j, by omega⟩ :=
      funext fun j => congrArg _ (Fin.ext (by simp only []; omega))
    rw [i]
    rfl
  k n b h d := by
    rw [entry1, e0, e5]
    refine (rK_at _ b n h d).trans ?_
    rw [row_at H, l2_coe]
    rfl
  v n b h d := by
    rw [entry2, e0, e5]
    refine (rV_at _ b n h d).trans ?_
    rw [row_at H]
    rfl
  g n b h := by
    rw [entry3, e3, e6, e7]
    refine (rG_at _ _ b n h).trans ?_
    rw [rD_at, ← nrow_at A3 b n n h rfl]
    exact (seqs H b).hγ n h
  b n b h := by
    rw [entry4, e4]
    refine (rB_at _ b n h).trans ?_
    rw [← nrow_at A4 b n n h rfl]
    exact (seqs H b).hβ n h

/-- The loop begins with states of zeros. -/
theorem keeps0 (T : Fin 4 → Fin 8 → Toks) : Keeps (entryContents preI m c) T 0 where
  ctr := ctr_entry m c
  st b h d e := by
    rw [entry6]
    refine (show _ = Ideal.ofBits .f32 0x00000000#32 from by pointwise).trans ?_
    exact (Ideal.ofBits_zero .f32).trans EReal.coe_zero.symm
  out n b h e hn := absurd hn (Nat.not_lt_zero _)

/-- The gated output rows. -/
def rOut (o : FVec Ideal S4096x4x8x128 .f32) (a1 : FVec Ideal S4x4096x1024 .f32) (a8 : FVec Ideal S1x128 .f32) : FVec Ideal S4x4096x1024 .f32 :=
  shapeCast S4x4096x1024 (mulf (mulf (mulf (transpose S4x4096x8x128 [1, 0, 2, 3] o transposes_S4096x4x8x128_S4x4096x8x128_1_0_2_3)
    (broadcastInDim S4x4096x8x128 ![0, 1, 2, 3] bcast_S4x4096x8x1_S4x4096x8x128_0_1_2_3 (Host.rsqrt (addf (Host.divf
    (broadcastInDim S4x4096x8x1 ![0, 1, 2] bcast_S4x4096x8_S4x4096x8x1_0_1_2 (Host.reduceAdd
    (mulf (transpose S4x4096x8x128 [1, 0, 2, 3] o transposes_S4096x4x8x128_S4x4096x8x128_1_0_2_3)
      (transpose S4x4096x8x128 [1, 0, 2, 3] o transposes_S4096x4x8x128_S4x4096x8x128_1_0_2_3))
    (constant S_ .f32 0x00000000#32) reducesTo_S4x4096x8x128_S4x4096x8_d3 h_S_))
    (broadcastInDim S4x4096x8x1 ![] bcast_S_S4x4096x8x1 (constant S_ .f32 0x43000000#32)))
    (broadcastInDim S4x4096x8x1 ![] bcast_S_S4x4096x8x1 (constant S_ .f32 0x358637BD#32))))))
    (broadcastInDim S4x4096x8x128 ![0, 1, 2, 3] bcast_S1x1x1x128_S4x4096x8x128_0_1_2_3
    (broadcastInDim S1x1x1x128 ![3] bcast_S128_S1x1x1x128_3 (shapeCast S128 a8 shapeCasts_S1x128_S128))))
    (mulf (shapeCast S4x4096x8x128 a1 shapeCasts_S4x4096x1024_S4x4096x8x128) (Host.divf
    (broadcastInDim S4x4096x8x128 ![] bcast_S_S4x4096x8x128 (constant S_ .f32 0x3F800000#32))
    (addf (broadcastInDim S4x4096x8x128 ![] bcast_S_S4x4096x8x128 (constant S_ .f32 0x3F800000#32))
    (Host.exp (Host.negf (shapeCast S4x4096x8x128 a1 shapeCasts_S4x4096x1024_S4x4096x8x128))))))) shapeCasts_S4x4096x8x128_S4x4096x1024

theorem rOut_at (o : FVec Ideal S4096x4x8x128 .f32) (a1 : FVec Ideal S4x4096x1024 .f32) (a8 : FVec Ideal S1x128 .f32)
    (b : Fin 4) (n : Fin 4096) (h : Fin 8) (e : Fin 128) :
    rOut o a1 a8 (ix3 b n ⟨128 * (h : ℕ) + e, by omega⟩) = gated (fun e => o (ix4 n b h e)) (fun e => a8 (ix2 0 e))
      (fun e => a1 (ix3 b n ⟨128 * (h : ℕ) + e, by omega⟩)) e := by
  pointwise [rOut]
  have i : (⟨(h : ℕ) * 128 + (e : ℕ), by omega⟩ : Fin 1024) = ⟨128 * (h : ℕ) + (e : ℕ), by omega⟩ := Fin.ext (by simp only []; omega)
  simp only [i]
  rfl

/-- The output rows the plain program ends with. -/
theorem out_at (H : Fin9 A0 A3 A4 A5 A6 A7) (e0 : m ((c.tc : Thread nD τ).loc main_arg0) = A0) (e3 : m ((c.tc : Thread nD τ).loc main_arg3) = A3)
    (e4 : m ((c.tc : Thread nD τ).loc main_arg4) = A4) (e5 : m ((c.tc : Thread nD τ).loc main_arg5) = A5) (e6 : m ((c.tc : Thread nD τ).loc main_arg6) = A6)
    (e7 : m ((c.tc : Thread nD τ).loc main_arg7) = A7) (b : Fin 4) (n : Fin 4096) (h : Fin 8) (e : Fin 128) :
    (out_main_v98 (STEP^[4096] (entryContents preI m c)) : FVec Ideal S4x4096x1024 .f32) (ix3 b n ⟨128 * (h : ℕ) + e, by omega⟩)
      = gated (fun l => (((seqs H b).T h).out (fun _ _ => 0) n l : EReal))
          (fun l => (m ((c.tc : Thread nD τ).loc main_arg8) : FVec Ideal S1x128 .f32) (ix2 0 l))
          (fun l => (m ((c.tc : Thread nD τ).loc main_arg1) : FVec Ideal S4x4096x1024 .f32) (ix3 b n ⟨128 * (h : ℕ) + l, by omega⟩)) e := by
  obtain ⟨-, K⟩ := loop (reads0 H e0 e3 e4 e5 e6 e7) (keeps0 _) 4096 le_rfl
  refine (rOut_at _ _ _ b n h e).trans ?_
  rw [iter_main_arg1, iter_main_arg8]
  exact congrArg (fun o => gated o _ _ e) (funext fun l => K.out n b h l n.isLt)

/-- The states the plain program ends with. -/
theorem state_at (H : Fin9 A0 A3 A4 A5 A6 A7) (e0 : m ((c.tc : Thread nD τ).loc main_arg0) = A0) (e3 : m ((c.tc : Thread nD τ).loc main_arg3) = A3)
    (e4 : m ((c.tc : Thread nD τ).loc main_arg4) = A4) (e5 : m ((c.tc : Thread nD τ).loc main_arg5) = A5) (e6 : m ((c.tc : Thread nD τ).loc main_arg6) = A6)
    (e7 : m ((c.tc : Thread nD τ).loc main_arg7) = A7) (b : Fin 4) (h : Fin 8) (d e : Fin 128) :
    ((STEP^[4096] (entryContents preI m c)) (Proc.devRef .tc main_v79_6) : FVec Ideal S4x8x128x128 .f32) (ix4 b h d e)
      = (((seqs H b).T h).state (fun _ _ => 0) 4096 d e : EReal) :=
  (loop (reads0 H e0 e3 e4 e5 e6 e7) (keeps0 _) 4096 le_rfl).2.st b h d e

end

end Cert.Reference9Ideal.Value

end
-- ==== Proof.PairDnp.lean ====
module

public import proofs.«01_k».proof.Defs
public import proofs.«01_k».proof.Proof.DnpKer
public import proofs.«01_k».proof.Proof.DnpLoop
public import Idealize.ShloMosaic.Lib.Claim

/-! The recurrence of the prompts: from the kernel's arrays to the claim about its program. -/

@[expose] public section

noncomputable section

namespace Cert.Proof

open Idealize.ShloMosaic Idealize.ShloMosaic.TcCoe Idealize.SL.Sem
open Cert.Kernel9Ideal.Value.Chunk

/-- The precondition is that six of the arrays are finite. -/
theorem fin9_of_pre (m : (ℓ : Loc Cert.Kernel9Ideal.nD Cert.Kernel9Ideal.τ Cert.Kernel9Ideal.sig) → Buf (Elt Ideal) ℓ)
    (h : Cert.Pre_Kernel9Ideal_finite9 m) (c : Dev Cert.Kernel9Ideal.nD) : Cert.Kernel9Ideal.Value.FinM m c := by
  obtain ⟨h0, h3, h4, h5, h6, h7⟩ := h c
  exact ⟨isR_of_lt _ _ h0, isR_of_lt _ _ h3, isR_of_lt _ _ h4, isR_of_lt _ _ h5, isR_of_lt _ _ h6, isR_of_lt _ _ h7⟩

/-- The recurrence's kernel and the plain program end with the same output rows and states. -/
theorem pair_dnp : Cert.algebraic_Kernel9Ideal_Reference9Ideal_pre_finite9 := by
  intro m g m' g' hpre hagree
  refine ⟨fun c => Cert.Kernel9Ideal.Value.G7 m c, fun c => Cert.Kernel9Ideal.Value.G8 m c, Cert.Kernel9Ideal.Value.run m g, ?_⟩
  refine (θ_run Cert.Reference9Ideal.defs _ _).mono (fun r h c => ?_) (Cert.Reference9Ideal.Value.run m' g')
  obtain ⟨e0, e1, e2, e3, e4, e5, e6, e7, e8⟩ := hagree c
  have H := fin9_of_pre m hpre c
  refine ⟨(h c).1.trans (funext fun i => ?_), (h c).2.1.trans (funext fun i => ?_), (h c).2.2⟩
  · obtain ⟨b, s, j, rfl⟩ : ∃ (b : Fin 4) (s : Fin 4096) (j : Fin 1024), i = ix3 b s j := ⟨i 0, i 1, i 2, eq_ix3 i⟩
    obtain ⟨x, e, rfl⟩ : ∃ (x : Fin 8) (e : Fin 128), j = ⟨128 * (x : ℕ) + e, by omega⟩ :=
      ⟨⟨(j : ℕ) / 128, by omega⟩, ⟨(j : ℕ) % 128, by omega⟩, Fin.ext (by simp only []; omega)⟩
    refine (Cert.Reference9Ideal.Value.out_at H e0 e3 e4 e5 e6 e7 b s x e).trans ?_
    rw [e1, e8]
    exact (Cert.Kernel9Ideal.Value.G7_at m c H b s x e).symm
  · obtain ⟨b, x, d, e, rfl⟩ : ∃ (b : Fin 4) (x : Fin 8) (d e : Fin 128), i = ix4 b x d e := ⟨i 0, i 1, i 2, i 3, eq_ix4 i⟩
    exact (Cert.Reference9Ideal.Value.state_at H e0 e3 e4 e5 e6 e7 b x d e).trans (Cert.Kernel9Ideal.Value.G8_at m c H b x d e).symm

end Cert.Proof

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Reference11Ideal
public import proofs.«01_k».proof.Proof.Gen.Reference11Ideal.Run
public import proofs.«01_k».proof.Proof.PairMlp
public import proofs.«01_k».proof.Proof.PairProj
public import proofs.«01_k».proof.Proof.PairDn
public import proofs.«01_k».proof.Proof.PairMlpS
public import proofs.«01_k».proof.Proof.PairProjS
public import proofs.«01_k».proof.Proof.PairAda
public import proofs.«01_k».proof.Proof.PairDnp
public import Idealize.ShloMosaic.Lib.Claim

/-! The certificate: every program runs and leaves its arguments unchanged, and each kernel ends with the results of the plain
    mathematics. -/

@[expose] public section

noncomputable section

namespace Cert.Proof

open Idealize.ShloMosaic Idealize.SL.Sem

/-- The plain program of part 1 runs and leaves its arguments unchanged. -/
theorem plain1 [Cert.ReferenceIdeal.Facts] : Cert.quiescent_ReferenceIdeal := by
  intro m g _
  exact (θ_run Cert.ReferenceIdeal.defs _ _).mono
    (fun r h => ⟨fun c => (h c).2.2.2, sem_eq_zero_of_no_sems (by decide) r.2⟩)
    (Cert.ReferenceIdeal.Value.run m g)

/-- The plain program of part 2 runs and leaves its arguments unchanged. -/
theorem plain2 [Cert.Reference2Ideal.Facts] : Cert.quiescent_Reference2Ideal := by
  intro m g _
  exact (θ_run Cert.Reference2Ideal.defs _ _).mono
    (fun r h => ⟨fun c => (h c).2, sem_eq_zero_of_no_sems (by decide) r.2⟩)
    (Cert.Reference2Ideal.Value.run m g)

/-- The plain program of part 3 runs and leaves its arguments unchanged. -/
theorem plain3 [Cert.Reference3Ideal.Facts] : Cert.quiescent_Reference3Ideal := by
  intro m g _
  exact (θ_run Cert.Reference3Ideal.defs _ _).mono
    (fun r h => ⟨fun c => (h c).2.2.2.2.2.2.2, sem_eq_zero_of_no_sems (by decide) r.2⟩)
    (Cert.Reference3Ideal.Value.run m g)

/-- The plain program of part 4 runs and leaves its arguments unchanged. -/
theorem plain4 [Cert.Reference4Ideal.Facts] : Cert.quiescent_Reference4Ideal := by
  intro m g _
  exact (θ_run Cert.Reference4Ideal.defs _ _).mono
    (fun r h => ⟨fun c => (h c).2, sem_eq_zero_of_no_sems (by decide) r.2⟩)
    (Cert.Reference4Ideal.Value.run m g)

/-- The plain program of part 5 runs and leaves its arguments unchanged. -/
theorem plain5 [Cert.Reference5Ideal.Facts] : Cert.quiescent_Reference5Ideal := by
  intro m g _
  exact (θ_run Cert.Reference5Ideal.defs _ _).mono
    (fun r h => ⟨fun c => (h c).2.2.2, sem_eq_zero_of_no_sems (by decide) r.2⟩)
    (Cert.Reference5Ideal.Value.run m g)

/-- The plain program of part 6 runs and leaves its arguments unchanged. -/
theorem plain6 [Cert.Reference6Ideal.Facts] : Cert.quiescent_Reference6Ideal := by
  intro m g _
  exact (θ_run Cert.Reference6Ideal.defs _ _).mono
    (fun r h => ⟨fun c => (h c).2, sem_eq_zero_of_no_sems (by decide) r.2⟩)
    (Cert.Reference6Ideal.Value.run m g)

/-- The plain program of part 7 runs and leaves its arguments unchanged. -/
theorem plain7 [Cert.Reference7Ideal.Facts] : Cert.quiescent_Reference7Ideal := by
  intro m g _
  exact (θ_run Cert.Reference7Ideal.defs _ _).mono
    (fun r h => ⟨fun c => (h c).2.2.2.2.2.2.2, sem_eq_zero_of_no_sems (by decide) r.2⟩)
    (Cert.Reference7Ideal.Value.run m g)

/-- The plain program of part 8 runs and leaves its arguments unchanged. -/
theorem plain8 [Cert.Reference8Ideal.Facts] : Cert.quiescent_Reference8Ideal := by
  intro m g _
  exact (θ_run Cert.Reference8Ideal.defs _ _).mono
    (fun r h => ⟨fun c => (h c).2, sem_eq_zero_of_no_sems (by decide) r.2⟩)
    (Cert.Reference8Ideal.Value.run m g)

/-- The plain program of part 9 runs and leaves its arguments unchanged. -/
theorem plain9 [Cert.Reference9Ideal.Facts] : Cert.quiescent_Reference9Ideal := by
  intro m g _
  exact (θ_run Cert.Reference9Ideal.defs _ _).mono
    (fun r h => ⟨fun c => (h c).2.2, sem_eq_zero_of_no_sems (by decide) r.2⟩)
    (Cert.Reference9Ideal.Value.run m g)

/-- The plain program of part 10 runs and leaves its arguments unchanged. -/
theorem plain10 [Cert.Reference10Ideal.Facts] : Cert.quiescent_Reference10Ideal := by
  intro m g _
  exact (θ_run Cert.Reference10Ideal.defs _ _).mono
    (fun r h => ⟨fun c => (h c).2, sem_eq_zero_of_no_sems (by decide) r.2⟩)
    (Cert.Reference10Ideal.Value.run m g)

/-- The plain program of part 11 runs and leaves its arguments unchanged. -/
theorem plain11 [Cert.Reference11Ideal.Facts] : Cert.quiescent_Reference11Ideal := by
  intro m g _
  exact (θ_run Cert.Reference11Ideal.defs _ _).mono
    (fun r h => ⟨fun c => (h c).2.2.2, sem_eq_zero_of_no_sems (by decide) r.2⟩)
    (Cert.Reference11Ideal.Value.run m g)

/-- Two programs of part 9 are claimed to run under the precondition too; a run from any memory is one under it. -/
theorem plain9_pre [Cert.Reference9Ideal.Facts] [Cert.Pre_finite9.Facts] : Cert.quiescent_Reference9Ideal_pre_finite9 := fun m g _ => plain9 m g trivial

/-- Everything that is claimed. -/
theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    inferInstance,
    fun m g _ => Cert.Kernel.Gen.frame m g,
    fun m g _ => Cert.KernelIdeal.Gen.frame m g,
    plain1,
    fun m g _ => Cert.Kernel2.Gen.frame m g,
    fun m g _ => Cert.Kernel2Ideal.Gen.frame m g,
    plain2,
    fun m g _ => Cert.Kernel3.Gen.frame m g,
    fun m g _ => Cert.Kernel3Ideal.Gen.frame m g,
    plain3,
    fun m g _ => Cert.Kernel4.Gen.frame m g,
    fun m g _ => Cert.Kernel4Ideal.Gen.frame m g,
    plain4,
    fun m g _ => Cert.Kernel5.Gen.frame m g,
    fun m g _ => Cert.Kernel5Ideal.Gen.frame m g,
    plain5,
    fun m g _ => Cert.Kernel6.Gen.frame m g,
    fun m g _ => Cert.Kernel6Ideal.Gen.frame m g,
    plain6,
    fun m g _ => Cert.Kernel7.Gen.frame m g,
    fun m g _ => Cert.Kernel7Ideal.Gen.frame m g,
    plain7,
    fun m g _ => Cert.Kernel8.Gen.frame m g,
    fun m g _ => Cert.Kernel8Ideal.Gen.frame m g,
    plain8,
    fun m g _ => Cert.Kernel9.Gen.frame m g,
    fun m g _ => Cert.Kernel9Ideal.Gen.frame m g,
    fun m g _ => Cert.Kernel9Ideal.Gen.frame m g,
    plain9,
    plain9_pre,
    fun m g _ => Cert.Kernel10.Gen.frame m g,
    fun m g _ => Cert.Kernel10Ideal.Gen.frame m g,
    plain10,
    fun m g _ => Cert.Kernel11.Gen.frame m g,
    fun m g _ => Cert.Kernel11Ideal.Gen.frame m g,
    plain11,
    trivial,
    pair_dn,
    trivial,
    pair_mlp,
    trivial,
    pair_a,
    trivial,
    pair_b,
    trivial,
    pair_c,
    trivial,
    pair_mlp_s,
    trivial,
    pair_a_s,
    trivial,
    pair_ada,
    IdealRules.named_const.statement Cert.Kernel9Ideal.κ "mask" .f32 0xF149F2CA#32 ⊥ rfl,
    pair_dnp,
    trivial,
    pair_b_s,
    trivial,
    pair_c_s⟩

end Cert.Proof

end
